-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_n" .f32 0x37CCCCCD#32 ((1 / 40960 : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S16x1024x768 : Shape := ⟨3, ![16, 1024, 768]⟩
abbrev S16x1024x512 : Shape := ⟨3, ![16, 1024, 512]⟩
abbrev S1280 : Shape := ⟨1, ![1280]⟩
abbrev S_ : Shape := ⟨0, ![]⟩

class Facts : Prop where
  bcast_S_S16x1024x768 : S_.BroadcastsInDim S16x1024x768 (![] : Fin 0 → Fin S16x1024x768.rank)
  bcast_S_S16x1024x512 : S_.BroadcastsInDim S16x1024x512 (![] : Fin 0 → Fin S16x1024x512.rank)
  bcast_S_S1280 : S_.BroadcastsInDim S1280 (![] : Fin 0 → Fin S1280.rank)

variable [Facts]

def fn {F : FTy → Type} [FloatOps F] (main_arg0 : FVec F S16x1024x768 .bf16) (main_arg1 : FVec F S16x1024x512 .bf16) (main_arg2 : FVec F S1280 .f32) (main_arg3 : FVec F S1280 .f32) : IVec S16x1024x768 1 × IVec S16x1024x512 1 × IVec S1280 1 × IVec S1280 1 :=
  let main_v0 : FVec F S16x1024x768 .bf16 := Host.absf main_arg0
  let main_cst : FVec F S_ .bf16 := constant S_ .bf16 0x7F80#16
  let main_v1 : FVec F S16x1024x768 .bf16 := broadcastInDim S16x1024x768 ![] bcast_S_S16x1024x768 main_cst
  let main_v2 : IVec S16x1024x768 1 := cmpf .olt main_v0 main_v1
  let main_v3 : FVec F S16x1024x512 .bf16 := Host.absf main_arg1
  let main_cst_0 : FVec F S_ .bf16 := constant S_ .bf16 0x7F80#16
  let main_v4 : FVec F S16x1024x512 .bf16 := broadcastInDim S16x1024x512 ![] bcast_S_S16x1024x512 main_cst_0
  let main_v5 : IVec S16x1024x512 1 := cmpf .olt main_v3 main_v4
  let main_v6 : FVec F S1280 .f32 := Host.absf main_arg2
  let main_cst_1 : FVec F S_ .f32 := constant S_ .f32 0x7F000000#32
  let main_v7 : FVec F S1280 .f32 := broadcastInDim S1280 ![] bcast_S_S1280 main_cst_1
  let main_v8 : IVec S1280 1 := cmpf .ole main_v6 main_v7
  let main_v9 : FVec F S1280 .f32 := Host.absf main_arg3
  let main_cst_2 : FVec F S_ .f32 := constant S_ .f32 0x7F000000#32
  let main_v10 : FVec F S1280 .f32 := broadcastInDim S1280 ![] bcast_S_S1280 main_cst_2
  let main_v11 : IVec S1280 1 := cmpf .ole main_v9 main_v10
  (main_v2, main_v5, main_v8, main_v11)
-- ==== Kernel.lean ====
abbrev S16x1024x768 : Shape := ⟨3, ![16, 1024, 768]⟩
abbrev S16x1024x512 : Shape := ⟨3, ![16, 1024, 512]⟩
abbrev S1280 : Shape := ⟨1, ![1280]⟩
abbrev S16x1024x1280 : Shape := ⟨3, ![16, 1024, 1280]⟩
abbrev S1x1 : Shape := ⟨2, ![1, 1]⟩
abbrev S3x1024x1280 : Shape := ⟨3, ![3, 1024, 1280]⟩
abbrev S16x1x1280 : Shape := ⟨3, ![16, 1, 1280]⟩
abbrev S8x256 : Shape := ⟨2, ![8, 256]⟩
abbrev S16 : Shape := ⟨1, ![16]⟩
abbrev S3 : Shape := ⟨1, ![3]⟩
abbrev S1 : Shape := ⟨1, ![1]⟩
abbrev S_ : Shape := ⟨0, ![]⟩
abbrev S1x1024x768 : Shape := ⟨3, ![1, 1024, 768]⟩
abbrev S1024x768 : Shape := ⟨2, ![1024, 768]⟩
abbrev S1x1024x512 : Shape := ⟨3, ![1, 1024, 512]⟩
abbrev S1024x512 : Shape := ⟨2, ![1024, 512]⟩
abbrev S1x8x256 : Shape := ⟨3, ![1, 8, 256]⟩
abbrev S256 : Shape := ⟨1, ![256]⟩
abbrev S1x256 : Shape := ⟨2, ![1, 256]⟩
abbrev S1x1x256 : Shape := ⟨3, ![1, 1, 256]⟩
abbrev S1280x128 : Shape := ⟨2, ![1280, 128]⟩
abbrev S128x1280 : Shape := ⟨2, ![128, 1280]⟩
abbrev S16x1280 : Shape := ⟨2, ![16, 1280]⟩
abbrev S48x1280 : Shape := ⟨2, ![48, 1280]⟩
abbrev S48x128 : Shape := ⟨2, ![48, 128]⟩
abbrev S16x128 : Shape := ⟨2, ![16, 128]⟩
abbrev S1x16x128 : Shape := ⟨3, ![1, 16, 128]⟩
abbrev S1x1x1 : Shape := ⟨3, ![1, 1, 1]⟩
abbrev S1x1280 : Shape := ⟨2, ![1, 1280]⟩
abbrev S1x16x1280 : Shape := ⟨3, ![1, 16, 1280]⟩
abbrev S1x128 : Shape := ⟨2, ![1, 128]⟩
abbrev S1x1x128 : Shape := ⟨3, ![1, 1, 128]⟩
abbrev S1x1024x1280 : Shape := ⟨3, ![1, 1024, 1280]⟩
abbrev S1024x1280 : Shape := ⟨2, ![1024, 1280]⟩
abbrev S1x128x256 : Shape := ⟨3, ![1, 128, 256]⟩
abbrev S128x256 : Shape := ⟨2, ![128, 256]⟩

abbrev nBuf : Space → Nat
  | .hbm => 6
  | .vmem => 12
  | .smem => 1
  | _ => 0

abbrev bufTy : (tb : Table) → Fin (tcTables nBuf tb) → BufTy
  | .hbm, ⟨0, _⟩ => ⟨S16x1024x768, .bf16⟩
  | .hbm, ⟨1, _⟩ => ⟨S16x1024x512, .bf16⟩
  | .hbm, ⟨2, _⟩ => ⟨S1280, .f32⟩
  | .hbm, ⟨3, _⟩ => ⟨S1280, .f32⟩
  | .hbm, ⟨4, _⟩ => ⟨S16x1024x1280, .fp8e4m3⟩
  | .hbm, ⟨5, _⟩ => ⟨S1x1, .f32⟩
  | .local _ .vmem, ⟨0, _⟩ => ⟨S1280, .f32⟩
  | .local _ .vmem, ⟨1, _⟩ => ⟨S1280, .f32⟩
  | .local _ .vmem, ⟨2, _⟩ => ⟨S16x1024x768, .bf16⟩
  | .local _ .vmem, ⟨3, _⟩ => ⟨S16x1024x512, .bf16⟩
  | .local _ .vmem, ⟨4, _⟩ => ⟨S3x1024x1280, .fp8e4m3⟩
  | .local _ .vmem, ⟨5, _⟩ => ⟨S16x1x1280, .f32⟩
  | .local _ .vmem, ⟨6, _⟩ => ⟨S16x1x1280, .f32⟩
  | .local _ .vmem, ⟨7, _⟩ => ⟨S16x1x1280, .f32⟩
  | .local _ .vmem, ⟨8, _⟩ => ⟨S16x1x1280, .f32⟩
  | .local _ .vmem, ⟨9, _⟩ => ⟨S16x1x1280, .f32⟩
  | .local _ .vmem, ⟨10, _⟩ => ⟨S16x1x1280, .f32⟩
  | .local _ .vmem, ⟨11, _⟩ => ⟨S8x256, .bf16⟩
  | .local _ .smem, ⟨0, _⟩ => ⟨S1x1, .f32⟩
  | _, _ => ⟨S16x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_209 : BitVec 32 := 0#32
  let c16_i32 : BitVec 32 := 16#32
  let v196 : BitVec 32 := Scalar.addi c0_i32_209 c16_i32
  let c1_i32_210 : BitVec 32 := 1#32
  ⟨c0_i32_209, v196, c1_i32_210⟩
def k0_off1 (k0_t1 : Fin k0_t1_loop.trips) : Fin 1 → Nat :=
  let c0_i32_209 : BitVec 32 := 0#32
  let c1_i32_210 : BitVec 32 := 1#32
  let arg18 : BitVec 32 := Scf.iv c0_i32_209 c1_i32_210 k0_t1
  ![arg18.toNat]
def k0_off2 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let c0_i32_320 : BitVec 32 := 0#32
  let c0_i32_321 : BitVec 32 := 0#32
  ![arg18.toNat, 0, 0]
def k0_off3 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let c0_i32_324 : BitVec 32 := 0#32
  let c0_i32_325 : BitVec 32 := 0#32
  ![arg18.toNat, 0, 0]
def k0_off4 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v476 : Index := Scalar.indexCast arg18
  let c0_330 : Index := 0#32
  let c0_331 : Index := 0#32
  ![v476.toNat, 0, 0]
def k0_off5 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v482 : Index := Scalar.indexCast arg18
  let c8 : Index := 8#32
  let c0_332 : Index := 0#32
  ![v482.toNat, 8, 0]
def k0_off6 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v492 : Index := Scalar.indexCast arg18
  let c16 : Index := 16#32
  let c0_333 : Index := 0#32
  ![v492.toNat, 16, 0]
def k0_off7 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v502 : Index := Scalar.indexCast arg18
  let c24 : Index := 24#32
  let c0_334 : Index := 0#32
  ![v502.toNat, 24, 0]
def k0_off8 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v512 : Index := Scalar.indexCast arg18
  let c32 : Index := 32#32
  let c0_335 : Index := 0#32
  ![v512.toNat, 32, 0]
def k0_off9 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v522 : Index := Scalar.indexCast arg18
  let c40 : Index := 40#32
  let c0_336 : Index := 0#32
  ![v522.toNat, 40, 0]
def k0_off10 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v532 : Index := Scalar.indexCast arg18
  let c48 : Index := 48#32
  let c0_337 : Index := 0#32
  ![v532.toNat, 48, 0]
def k0_off11 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v542 : Index := Scalar.indexCast arg18
  let c56 : Index := 56#32
  let c0_338 : Index := 0#32
  ![v542.toNat, 56, 0]
def k0_off12 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v552 : Index := Scalar.indexCast arg18
  let c64 : Index := 64#32
  let c0_339 : Index := 0#32
  ![v552.toNat, 64, 0]
def k0_off13 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v562 : Index := Scalar.indexCast arg18
  let c72 : Index := 72#32
  let c0_340 : Index := 0#32
  ![v562.toNat, 72, 0]
def k0_off14 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v572 : Index := Scalar.indexCast arg18
  let c80 : Index := 80#32
  let c0_341 : Index := 0#32
  ![v572.toNat, 80, 0]
def k0_off15 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v582 : Index := Scalar.indexCast arg18
  let c88 : Index := 88#32
  let c0_342 : Index := 0#32
  ![v582.toNat, 88, 0]
def k0_off16 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v592 : Index := Scalar.indexCast arg18
  let c96 : Index := 96#32
  let c0_343 : Index := 0#32
  ![v592.toNat, 96, 0]
def k0_off17 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v602 : Index := Scalar.indexCast arg18
  let c104 : Index := 104#32
  let c0_344 : Index := 0#32
  ![v602.toNat, 104, 0]
def k0_off18 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v612 : Index := Scalar.indexCast arg18
  let c112 : Index := 112#32
  let c0_345 : Index := 0#32
  ![v612.toNat, 112, 0]
def k0_off19 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v622 : Index := Scalar.indexCast arg18
  let c120 : Index := 120#32
  let c0_346 : Index := 0#32
  ![v622.toNat, 120, 0]
def k0_off20 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v632 : Index := Scalar.indexCast arg18
  let c128 : Index := 128#32
  let c0_347 : Index := 0#32
  ![v632.toNat, 128, 0]
def k0_off21 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v642 : Index := Scalar.indexCast arg18
  let c136 : Index := 136#32
  let c0_348 : Index := 0#32
  ![v642.toNat, 136, 0]
def k0_off22 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v652 : Index := Scalar.indexCast arg18
  let c144 : Index := 144#32
  let c0_349 : Index := 0#32
  ![v652.toNat, 144, 0]
def k0_off23 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v662 : Index := Scalar.indexCast arg18
  let c152 : Index := 152#32
  let c0_350 : Index := 0#32
  ![v662.toNat, 152, 0]
def k0_off24 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v672 : Index := Scalar.indexCast arg18
  let c160 : Index := 160#32
  let c0_351 : Index := 0#32
  ![v672.toNat, 160, 0]
def k0_off25 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v682 : Index := Scalar.indexCast arg18
  let c168 : Index := 168#32
  let c0_352 : Index := 0#32
  ![v682.toNat, 168, 0]
def k0_off26 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v692 : Index := Scalar.indexCast arg18
  let c176 : Index := 176#32
  let c0_353 : Index := 0#32
  ![v692.toNat, 176, 0]
def k0_off27 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v702 : Index := Scalar.indexCast arg18
  let c184 : Index := 184#32
  let c0_354 : Index := 0#32
  ![v702.toNat, 184, 0]
def k0_off28 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v712 : Index := Scalar.indexCast arg18
  let c192 : Index := 192#32
  let c0_355 : Index := 0#32
  ![v712.toNat, 192, 0]
def k0_off29 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v722 : Index := Scalar.indexCast arg18
  let c200 : Index := 200#32
  let c0_356 : Index := 0#32
  ![v722.toNat, 200, 0]
def k0_off30 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v732 : Index := Scalar.indexCast arg18
  let c208 : Index := 208#32
  let c0_357 : Index := 0#32
  ![v732.toNat, 208, 0]
def k0_off31 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v742 : Index := Scalar.indexCast arg18
  let c216 : Index := 216#32
  let c0_358 : Index := 0#32
  ![v742.toNat, 216, 0]
def k0_off32 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v752 : Index := Scalar.indexCast arg18
  let c224 : Index := 224#32
  let c0_359 : Index := 0#32
  ![v752.toNat, 224, 0]
def k0_off33 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v762 : Index := Scalar.indexCast arg18
  let c232 : Index := 232#32
  let c0_360 : Index := 0#32
  ![v762.toNat, 232, 0]
def k0_off34 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v772 : Index := Scalar.indexCast arg18
  let c240 : Index := 240#32
  let c0_361 : Index := 0#32
  ![v772.toNat, 240, 0]
def k0_off35 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v782 : Index := Scalar.indexCast arg18
  let c248 : Index := 248#32
  let c0_362 : Index := 0#32
  ![v782.toNat, 248, 0]
def k0_off36 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v792 : Index := Scalar.indexCast arg18
  let c256 : Index := 256#32
  let c0_363 : Index := 0#32
  ![v792.toNat, 256, 0]
def k0_off37 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v802 : Index := Scalar.indexCast arg18
  let c264 : Index := 264#32
  let c0_364 : Index := 0#32
  ![v802.toNat, 264, 0]
def k0_off38 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v812 : Index := Scalar.indexCast arg18
  let c272 : Index := 272#32
  let c0_365 : Index := 0#32
  ![v812.toNat, 272, 0]
def k0_off39 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v822 : Index := Scalar.indexCast arg18
  let c280 : Index := 280#32
  let c0_366 : Index := 0#32
  ![v822.toNat, 280, 0]
def k0_off40 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v832 : Index := Scalar.indexCast arg18
  let c288 : Index := 288#32
  let c0_367 : Index := 0#32
  ![v832.toNat, 288, 0]
def k0_off41 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v842 : Index := Scalar.indexCast arg18
  let c296 : Index := 296#32
  let c0_368 : Index := 0#32
  ![v842.toNat, 296, 0]
def k0_off42 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v852 : Index := Scalar.indexCast arg18
  let c304 : Index := 304#32
  let c0_369 : Index := 0#32
  ![v852.toNat, 304, 0]
def k0_off43 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v862 : Index := Scalar.indexCast arg18
  let c312 : Index := 312#32
  let c0_370 : Index := 0#32
  ![v862.toNat, 312, 0]
def k0_off44 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v872 : Index := Scalar.indexCast arg18
  let c320 : Index := 320#32
  let c0_371 : Index := 0#32
  ![v872.toNat, 320, 0]
def k0_off45 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v882 : Index := Scalar.indexCast arg18
  let c328 : Index := 328#32
  let c0_372 : Index := 0#32
  ![v882.toNat, 328, 0]
def k0_off46 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v892 : Index := Scalar.indexCast arg18
  let c336 : Index := 336#32
  let c0_373 : Index := 0#32
  ![v892.toNat, 336, 0]
def k0_off47 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v902 : Index := Scalar.indexCast arg18
  let c344 : Index := 344#32
  let c0_374 : Index := 0#32
  ![v902.toNat, 344, 0]
def k0_off48 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v912 : Index := Scalar.indexCast arg18
  let c352 : Index := 352#32
  let c0_375 : Index := 0#32
  ![v912.toNat, 352, 0]
def k0_off49 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v922 : Index := Scalar.indexCast arg18
  let c360 : Index := 360#32
  let c0_376 : Index := 0#32
  ![v922.toNat, 360, 0]
def k0_off50 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v932 : Index := Scalar.indexCast arg18
  let c368 : Index := 368#32
  let c0_377 : Index := 0#32
  ![v932.toNat, 368, 0]
def k0_off51 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v942 : Index := Scalar.indexCast arg18
  let c376 : Index := 376#32
  let c0_378 : Index := 0#32
  ![v942.toNat, 376, 0]
def k0_off52 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v952 : Index := Scalar.indexCast arg18
  let c384 : Index := 384#32
  let c0_379 : Index := 0#32
  ![v952.toNat, 384, 0]
def k0_off53 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v962 : Index := Scalar.indexCast arg18
  let c392 : Index := 392#32
  let c0_380 : Index := 0#32
  ![v962.toNat, 392, 0]
def k0_off54 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v972 : Index := Scalar.indexCast arg18
  let c400 : Index := 400#32
  let c0_381 : Index := 0#32
  ![v972.toNat, 400, 0]
def k0_off55 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v982 : Index := Scalar.indexCast arg18
  let c408 : Index := 408#32
  let c0_382 : Index := 0#32
  ![v982.toNat, 408, 0]
def k0_off56 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v992 : Index := Scalar.indexCast arg18
  let c416 : Index := 416#32
  let c0_383 : Index := 0#32
  ![v992.toNat, 416, 0]
def k0_off57 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1002 : Index := Scalar.indexCast arg18
  let c424 : Index := 424#32
  let c0_384 : Index := 0#32
  ![v1002.toNat, 424, 0]
def k0_off58 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1012 : Index := Scalar.indexCast arg18
  let c432 : Index := 432#32
  let c0_385 : Index := 0#32
  ![v1012.toNat, 432, 0]
def k0_off59 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1022 : Index := Scalar.indexCast arg18
  let c440 : Index := 440#32
  let c0_386 : Index := 0#32
  ![v1022.toNat, 440, 0]
def k0_off60 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1032 : Index := Scalar.indexCast arg18
  let c448 : Index := 448#32
  let c0_387 : Index := 0#32
  ![v1032.toNat, 448, 0]
def k0_off61 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1042 : Index := Scalar.indexCast arg18
  let c456 : Index := 456#32
  let c0_388 : Index := 0#32
  ![v1042.toNat, 456, 0]
def k0_off62 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1052 : Index := Scalar.indexCast arg18
  let c464 : Index := 464#32
  let c0_389 : Index := 0#32
  ![v1052.toNat, 464, 0]
def k0_off63 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1062 : Index := Scalar.indexCast arg18
  let c472 : Index := 472#32
  let c0_390 : Index := 0#32
  ![v1062.toNat, 472, 0]
def k0_off64 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1072 : Index := Scalar.indexCast arg18
  let c480 : Index := 480#32
  let c0_391 : Index := 0#32
  ![v1072.toNat, 480, 0]
def k0_off65 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1082 : Index := Scalar.indexCast arg18
  let c488 : Index := 488#32
  let c0_392 : Index := 0#32
  ![v1082.toNat, 488, 0]
def k0_off66 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1092 : Index := Scalar.indexCast arg18
  let c496 : Index := 496#32
  let c0_393 : Index := 0#32
  ![v1092.toNat, 496, 0]
def k0_off67 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1102 : Index := Scalar.indexCast arg18
  let c504 : Index := 504#32
  let c0_394 : Index := 0#32
  ![v1102.toNat, 504, 0]
def k0_off68 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1112 : Index := Scalar.indexCast arg18
  let c512 : Index := 512#32
  let c0_395 : Index := 0#32
  ![v1112.toNat, 512, 0]
def k0_off69 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1122 : Index := Scalar.indexCast arg18
  let c520 : Index := 520#32
  let c0_396 : Index := 0#32
  ![v1122.toNat, 520, 0]
def k0_off70 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1132 : Index := Scalar.indexCast arg18
  let c528 : Index := 528#32
  let c0_397 : Index := 0#32
  ![v1132.toNat, 528, 0]
def k0_off71 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1142 : Index := Scalar.indexCast arg18
  let c536 : Index := 536#32
  let c0_398 : Index := 0#32
  ![v1142.toNat, 536, 0]
def k0_off72 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1152 : Index := Scalar.indexCast arg18
  let c544 : Index := 544#32
  let c0_399 : Index := 0#32
  ![v1152.toNat, 544, 0]
def k0_off73 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1162 : Index := Scalar.indexCast arg18
  let c552 : Index := 552#32
  let c0_400 : Index := 0#32
  ![v1162.toNat, 552, 0]
def k0_off74 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1172 : Index := Scalar.indexCast arg18
  let c560 : Index := 560#32
  let c0_401 : Index := 0#32
  ![v1172.toNat, 560, 0]
def k0_off75 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1182 : Index := Scalar.indexCast arg18
  let c568 : Index := 568#32
  let c0_402 : Index := 0#32
  ![v1182.toNat, 568, 0]
def k0_off76 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1192 : Index := Scalar.indexCast arg18
  let c576 : Index := 576#32
  let c0_403 : Index := 0#32
  ![v1192.toNat, 576, 0]
def k0_off77 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1202 : Index := Scalar.indexCast arg18
  let c584 : Index := 584#32
  let c0_404 : Index := 0#32
  ![v1202.toNat, 584, 0]
def k0_off78 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1212 : Index := Scalar.indexCast arg18
  let c592 : Index := 592#32
  let c0_405 : Index := 0#32
  ![v1212.toNat, 592, 0]
def k0_off79 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1222 : Index := Scalar.indexCast arg18
  let c600 : Index := 600#32
  let c0_406 : Index := 0#32
  ![v1222.toNat, 600, 0]
def k0_off80 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1232 : Index := Scalar.indexCast arg18
  let c608 : Index := 608#32
  let c0_407 : Index := 0#32
  ![v1232.toNat, 608, 0]
def k0_off81 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1242 : Index := Scalar.indexCast arg18
  let c616 : Index := 616#32
  let c0_408 : Index := 0#32
  ![v1242.toNat, 616, 0]
def k0_off82 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1252 : Index := Scalar.indexCast arg18
  let c624 : Index := 624#32
  let c0_409 : Index := 0#32
  ![v1252.toNat, 624, 0]
def k0_off83 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1262 : Index := Scalar.indexCast arg18
  let c632 : Index := 632#32
  let c0_410 : Index := 0#32
  ![v1262.toNat, 632, 0]
def k0_off84 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1272 : Index := Scalar.indexCast arg18
  let c640 : Index := 640#32
  let c0_411 : Index := 0#32
  ![v1272.toNat, 640, 0]
def k0_off85 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1282 : Index := Scalar.indexCast arg18
  let c648 : Index := 648#32
  let c0_412 : Index := 0#32
  ![v1282.toNat, 648, 0]
def k0_off86 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1292 : Index := Scalar.indexCast arg18
  let c656 : Index := 656#32
  let c0_413 : Index := 0#32
  ![v1292.toNat, 656, 0]
def k0_off87 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1302 : Index := Scalar.indexCast arg18
  let c664 : Index := 664#32
  let c0_414 : Index := 0#32
  ![v1302.toNat, 664, 0]
def k0_off88 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1312 : Index := Scalar.indexCast arg18
  let c672 : Index := 672#32
  let c0_415 : Index := 0#32
  ![v1312.toNat, 672, 0]
def k0_off89 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1322 : Index := Scalar.indexCast arg18
  let c680 : Index := 680#32
  let c0_416 : Index := 0#32
  ![v1322.toNat, 680, 0]
def k0_off90 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1332 : Index := Scalar.indexCast arg18
  let c688 : Index := 688#32
  let c0_417 : Index := 0#32
  ![v1332.toNat, 688, 0]
def k0_off91 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1342 : Index := Scalar.indexCast arg18
  let c696 : Index := 696#32
  let c0_418 : Index := 0#32
  ![v1342.toNat, 696, 0]
def k0_off92 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1352 : Index := Scalar.indexCast arg18
  let c704 : Index := 704#32
  let c0_419 : Index := 0#32
  ![v1352.toNat, 704, 0]
def k0_off93 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1362 : Index := Scalar.indexCast arg18
  let c712 : Index := 712#32
  let c0_420 : Index := 0#32
  ![v1362.toNat, 712, 0]
def k0_off94 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1372 : Index := Scalar.indexCast arg18
  let c720 : Index := 720#32
  let c0_421 : Index := 0#32
  ![v1372.toNat, 720, 0]
def k0_off95 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1382 : Index := Scalar.indexCast arg18
  let c728 : Index := 728#32
  let c0_422 : Index := 0#32
  ![v1382.toNat, 728, 0]
def k0_off96 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1392 : Index := Scalar.indexCast arg18
  let c736 : Index := 736#32
  let c0_423 : Index := 0#32
  ![v1392.toNat, 736, 0]
def k0_off97 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1402 : Index := Scalar.indexCast arg18
  let c744 : Index := 744#32
  let c0_424 : Index := 0#32
  ![v1402.toNat, 744, 0]
def k0_off98 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1412 : Index := Scalar.indexCast arg18
  let c752 : Index := 752#32
  let c0_425 : Index := 0#32
  ![v1412.toNat, 752, 0]
def k0_off99 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1422 : Index := Scalar.indexCast arg18
  let c760 : Index := 760#32
  let c0_426 : Index := 0#32
  ![v1422.toNat, 760, 0]
def k0_off100 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1432 : Index := Scalar.indexCast arg18
  let c768 : Index := 768#32
  let c0_427 : Index := 0#32
  ![v1432.toNat, 768, 0]
def k0_off101 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1442 : Index := Scalar.indexCast arg18
  let c776 : Index := 776#32
  let c0_428 : Index := 0#32
  ![v1442.toNat, 776, 0]
def k0_off102 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1452 : Index := Scalar.indexCast arg18
  let c784 : Index := 784#32
  let c0_429 : Index := 0#32
  ![v1452.toNat, 784, 0]
def k0_off103 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1462 : Index := Scalar.indexCast arg18
  let c792 : Index := 792#32
  let c0_430 : Index := 0#32
  ![v1462.toNat, 792, 0]
def k0_off104 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1472 : Index := Scalar.indexCast arg18
  let c800 : Index := 800#32
  let c0_431 : Index := 0#32
  ![v1472.toNat, 800, 0]
def k0_off105 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1482 : Index := Scalar.indexCast arg18
  let c808 : Index := 808#32
  let c0_432 : Index := 0#32
  ![v1482.toNat, 808, 0]
def k0_off106 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1492 : Index := Scalar.indexCast arg18
  let c816 : Index := 816#32
  let c0_433 : Index := 0#32
  ![v1492.toNat, 816, 0]
def k0_off107 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1502 : Index := Scalar.indexCast arg18
  let c824 : Index := 824#32
  let c0_434 : Index := 0#32
  ![v1502.toNat, 824, 0]
def k0_off108 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1512 : Index := Scalar.indexCast arg18
  let c832 : Index := 832#32
  let c0_435 : Index := 0#32
  ![v1512.toNat, 832, 0]
def k0_off109 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1522 : Index := Scalar.indexCast arg18
  let c840 : Index := 840#32
  let c0_436 : Index := 0#32
  ![v1522.toNat, 840, 0]
def k0_off110 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1532 : Index := Scalar.indexCast arg18
  let c848 : Index := 848#32
  let c0_437 : Index := 0#32
  ![v1532.toNat, 848, 0]
def k0_off111 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1542 : Index := Scalar.indexCast arg18
  let c856 : Index := 856#32
  let c0_438 : Index := 0#32
  ![v1542.toNat, 856, 0]
def k0_off112 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1552 : Index := Scalar.indexCast arg18
  let c864 : Index := 864#32
  let c0_439 : Index := 0#32
  ![v1552.toNat, 864, 0]
def k0_off113 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1562 : Index := Scalar.indexCast arg18
  let c872 : Index := 872#32
  let c0_440 : Index := 0#32
  ![v1562.toNat, 872, 0]
def k0_off114 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1572 : Index := Scalar.indexCast arg18
  let c880 : Index := 880#32
  let c0_441 : Index := 0#32
  ![v1572.toNat, 880, 0]
def k0_off115 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1582 : Index := Scalar.indexCast arg18
  let c888 : Index := 888#32
  let c0_442 : Index := 0#32
  ![v1582.toNat, 888, 0]
def k0_off116 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1592 : Index := Scalar.indexCast arg18
  let c896 : Index := 896#32
  let c0_443 : Index := 0#32
  ![v1592.toNat, 896, 0]
def k0_off117 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1602 : Index := Scalar.indexCast arg18
  let c904 : Index := 904#32
  let c0_444 : Index := 0#32
  ![v1602.toNat, 904, 0]
def k0_off118 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1612 : Index := Scalar.indexCast arg18
  let c912 : Index := 912#32
  let c0_445 : Index := 0#32
  ![v1612.toNat, 912, 0]
def k0_off119 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1622 : Index := Scalar.indexCast arg18
  let c920 : Index := 920#32
  let c0_446 : Index := 0#32
  ![v1622.toNat, 920, 0]
def k0_off120 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1632 : Index := Scalar.indexCast arg18
  let c928 : Index := 928#32
  let c0_447 : Index := 0#32
  ![v1632.toNat, 928, 0]
def k0_off121 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1642 : Index := Scalar.indexCast arg18
  let c936 : Index := 936#32
  let c0_448 : Index := 0#32
  ![v1642.toNat, 936, 0]
def k0_off122 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1652 : Index := Scalar.indexCast arg18
  let c944 : Index := 944#32
  let c0_449 : Index := 0#32
  ![v1652.toNat, 944, 0]
def k0_off123 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1662 : Index := Scalar.indexCast arg18
  let c952 : Index := 952#32
  let c0_450 : Index := 0#32
  ![v1662.toNat, 952, 0]
def k0_off124 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1672 : Index := Scalar.indexCast arg18
  let c960 : Index := 960#32
  let c0_451 : Index := 0#32
  ![v1672.toNat, 960, 0]
def k0_off125 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1682 : Index := Scalar.indexCast arg18
  let c968 : Index := 968#32
  let c0_452 : Index := 0#32
  ![v1682.toNat, 968, 0]
def k0_off126 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1692 : Index := Scalar.indexCast arg18
  let c976 : Index := 976#32
  let c0_453 : Index := 0#32
  ![v1692.toNat, 976, 0]
def k0_off127 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1702 : Index := Scalar.indexCast arg18
  let c984 : Index := 984#32
  let c0_454 : Index := 0#32
  ![v1702.toNat, 984, 0]
def k0_off128 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1712 : Index := Scalar.indexCast arg18
  let c992 : Index := 992#32
  let c0_455 : Index := 0#32
  ![v1712.toNat, 992, 0]
def k0_off129 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1722 : Index := Scalar.indexCast arg18
  let c1000 : Index := 1000#32
  let c0_456 : Index := 0#32
  ![v1722.toNat, 1000, 0]
def k0_off130 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1732 : Index := Scalar.indexCast arg18
  let c1008 : Index := 1008#32
  let c0_457 : Index := 0#32
  ![v1732.toNat, 1008, 0]
def k0_off131 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1742 : Index := Scalar.indexCast arg18
  let c1016 : Index := 1016#32
  let c0_458 : Index := 0#32
  ![v1742.toNat, 1016, 0]
def k0_off132 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1754 : Index := Scalar.indexCast arg18
  let c0_460 : Index := 0#32
  let c0_461 : Index := 0#32
  ![v1754.toNat, 0, 0]
def k0_off133 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1778 : Index := Scalar.indexCast arg18
  let c0_471 : Index := 0#32
  let c256_472 : Index := 256#32
  ![v1778.toNat, 0, 256]
def k0_off134 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1784 : Index := Scalar.indexCast arg18
  let c8_473 : Index := 8#32
  let c256_474 : Index := 256#32
  ![v1784.toNat, 8, 256]
def k0_off135 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1794 : Index := Scalar.indexCast arg18
  let c16_475 : Index := 16#32
  let c256_476 : Index := 256#32
  ![v1794.toNat, 16, 256]
def k0_off136 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1804 : Index := Scalar.indexCast arg18
  let c24_477 : Index := 24#32
  let c256_478 : Index := 256#32
  ![v1804.toNat, 24, 256]
def k0_off137 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1814 : Index := Scalar.indexCast arg18
  let c32_479 : Index := 32#32
  let c256_480 : Index := 256#32
  ![v1814.toNat, 32, 256]
def k0_off138 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1824 : Index := Scalar.indexCast arg18
  let c40_481 : Index := 40#32
  let c256_482 : Index := 256#32
  ![v1824.toNat, 40, 256]
def k0_off139 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1834 : Index := Scalar.indexCast arg18
  let c48_483 : Index := 48#32
  let c256_484 : Index := 256#32
  ![v1834.toNat, 48, 256]
def k0_off140 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1844 : Index := Scalar.indexCast arg18
  let c56_485 : Index := 56#32
  let c256_486 : Index := 256#32
  ![v1844.toNat, 56, 256]
def k0_off141 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1854 : Index := Scalar.indexCast arg18
  let c64_487 : Index := 64#32
  let c256_488 : Index := 256#32
  ![v1854.toNat, 64, 256]
def k0_off142 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1864 : Index := Scalar.indexCast arg18
  let c72_489 : Index := 72#32
  let c256_490 : Index := 256#32
  ![v1864.toNat, 72, 256]
def k0_off143 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1874 : Index := Scalar.indexCast arg18
  let c80_491 : Index := 80#32
  let c256_492 : Index := 256#32
  ![v1874.toNat, 80, 256]
def k0_off144 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1884 : Index := Scalar.indexCast arg18
  let c88_493 : Index := 88#32
  let c256_494 : Index := 256#32
  ![v1884.toNat, 88, 256]
def k0_off145 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1894 : Index := Scalar.indexCast arg18
  let c96_495 : Index := 96#32
  let c256_496 : Index := 256#32
  ![v1894.toNat, 96, 256]
def k0_off146 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1904 : Index := Scalar.indexCast arg18
  let c104_497 : Index := 104#32
  let c256_498 : Index := 256#32
  ![v1904.toNat, 104, 256]
def k0_off147 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1914 : Index := Scalar.indexCast arg18
  let c112_499 : Index := 112#32
  let c256_500 : Index := 256#32
  ![v1914.toNat, 112, 256]
def k0_off148 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1924 : Index := Scalar.indexCast arg18
  let c120_501 : Index := 120#32
  let c256_502 : Index := 256#32
  ![v1924.toNat, 120, 256]
def k0_off149 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1934 : Index := Scalar.indexCast arg18
  let c128_503 : Index := 128#32
  let c256_504 : Index := 256#32
  ![v1934.toNat, 128, 256]
def k0_off150 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1944 : Index := Scalar.indexCast arg18
  let c136_505 : Index := 136#32
  let c256_506 : Index := 256#32
  ![v1944.toNat, 136, 256]
def k0_off151 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1954 : Index := Scalar.indexCast arg18
  let c144_507 : Index := 144#32
  let c256_508 : Index := 256#32
  ![v1954.toNat, 144, 256]
def k0_off152 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1964 : Index := Scalar.indexCast arg18
  let c152_509 : Index := 152#32
  let c256_510 : Index := 256#32
  ![v1964.toNat, 152, 256]
def k0_off153 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1974 : Index := Scalar.indexCast arg18
  let c160_511 : Index := 160#32
  let c256_512 : Index := 256#32
  ![v1974.toNat, 160, 256]
def k0_off154 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1984 : Index := Scalar.indexCast arg18
  let c168_513 : Index := 168#32
  let c256_514 : Index := 256#32
  ![v1984.toNat, 168, 256]
def k0_off155 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v1994 : Index := Scalar.indexCast arg18
  let c176_515 : Index := 176#32
  let c256_516 : Index := 256#32
  ![v1994.toNat, 176, 256]
def k0_off156 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2004 : Index := Scalar.indexCast arg18
  let c184_517 : Index := 184#32
  let c256_518 : Index := 256#32
  ![v2004.toNat, 184, 256]
def k0_off157 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2014 : Index := Scalar.indexCast arg18
  let c192_519 : Index := 192#32
  let c256_520 : Index := 256#32
  ![v2014.toNat, 192, 256]
def k0_off158 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2024 : Index := Scalar.indexCast arg18
  let c200_521 : Index := 200#32
  let c256_522 : Index := 256#32
  ![v2024.toNat, 200, 256]
def k0_off159 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2034 : Index := Scalar.indexCast arg18
  let c208_523 : Index := 208#32
  let c256_524 : Index := 256#32
  ![v2034.toNat, 208, 256]
def k0_off160 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2044 : Index := Scalar.indexCast arg18
  let c216_525 : Index := 216#32
  let c256_526 : Index := 256#32
  ![v2044.toNat, 216, 256]
def k0_off161 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2054 : Index := Scalar.indexCast arg18
  let c224_527 : Index := 224#32
  let c256_528 : Index := 256#32
  ![v2054.toNat, 224, 256]
def k0_off162 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2064 : Index := Scalar.indexCast arg18
  let c232_529 : Index := 232#32
  let c256_530 : Index := 256#32
  ![v2064.toNat, 232, 256]
def k0_off163 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2074 : Index := Scalar.indexCast arg18
  let c240_531 : Index := 240#32
  let c256_532 : Index := 256#32
  ![v2074.toNat, 240, 256]
def k0_off164 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2084 : Index := Scalar.indexCast arg18
  let c248_533 : Index := 248#32
  let c256_534 : Index := 256#32
  ![v2084.toNat, 248, 256]
def k0_off165 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2094 : Index := Scalar.indexCast arg18
  let c256_535 : Index := 256#32
  let c256_536 : Index := 256#32
  ![v2094.toNat, 256, 256]
def k0_off166 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2104 : Index := Scalar.indexCast arg18
  let c264_537 : Index := 264#32
  let c256_538 : Index := 256#32
  ![v2104.toNat, 264, 256]
def k0_off167 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2114 : Index := Scalar.indexCast arg18
  let c272_539 : Index := 272#32
  let c256_540 : Index := 256#32
  ![v2114.toNat, 272, 256]
def k0_off168 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2124 : Index := Scalar.indexCast arg18
  let c280_541 : Index := 280#32
  let c256_542 : Index := 256#32
  ![v2124.toNat, 280, 256]
def k0_off169 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2134 : Index := Scalar.indexCast arg18
  let c288_543 : Index := 288#32
  let c256_544 : Index := 256#32
  ![v2134.toNat, 288, 256]
def k0_off170 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2144 : Index := Scalar.indexCast arg18
  let c296_545 : Index := 296#32
  let c256_546 : Index := 256#32
  ![v2144.toNat, 296, 256]
def k0_off171 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2154 : Index := Scalar.indexCast arg18
  let c304_547 : Index := 304#32
  let c256_548 : Index := 256#32
  ![v2154.toNat, 304, 256]
def k0_off172 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2164 : Index := Scalar.indexCast arg18
  let c312_549 : Index := 312#32
  let c256_550 : Index := 256#32
  ![v2164.toNat, 312, 256]
def k0_off173 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2174 : Index := Scalar.indexCast arg18
  let c320_551 : Index := 320#32
  let c256_552 : Index := 256#32
  ![v2174.toNat, 320, 256]
def k0_off174 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2184 : Index := Scalar.indexCast arg18
  let c328_553 : Index := 328#32
  let c256_554 : Index := 256#32
  ![v2184.toNat, 328, 256]
def k0_off175 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2194 : Index := Scalar.indexCast arg18
  let c336_555 : Index := 336#32
  let c256_556 : Index := 256#32
  ![v2194.toNat, 336, 256]
def k0_off176 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2204 : Index := Scalar.indexCast arg18
  let c344_557 : Index := 344#32
  let c256_558 : Index := 256#32
  ![v2204.toNat, 344, 256]
def k0_off177 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2214 : Index := Scalar.indexCast arg18
  let c352_559 : Index := 352#32
  let c256_560 : Index := 256#32
  ![v2214.toNat, 352, 256]
def k0_off178 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2224 : Index := Scalar.indexCast arg18
  let c360_561 : Index := 360#32
  let c256_562 : Index := 256#32
  ![v2224.toNat, 360, 256]
def k0_off179 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2234 : Index := Scalar.indexCast arg18
  let c368_563 : Index := 368#32
  let c256_564 : Index := 256#32
  ![v2234.toNat, 368, 256]
def k0_off180 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2244 : Index := Scalar.indexCast arg18
  let c376_565 : Index := 376#32
  let c256_566 : Index := 256#32
  ![v2244.toNat, 376, 256]
def k0_off181 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2254 : Index := Scalar.indexCast arg18
  let c384_567 : Index := 384#32
  let c256_568 : Index := 256#32
  ![v2254.toNat, 384, 256]
def k0_off182 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2264 : Index := Scalar.indexCast arg18
  let c392_569 : Index := 392#32
  let c256_570 : Index := 256#32
  ![v2264.toNat, 392, 256]
def k0_off183 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2274 : Index := Scalar.indexCast arg18
  let c400_571 : Index := 400#32
  let c256_572 : Index := 256#32
  ![v2274.toNat, 400, 256]
def k0_off184 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2284 : Index := Scalar.indexCast arg18
  let c408_573 : Index := 408#32
  let c256_574 : Index := 256#32
  ![v2284.toNat, 408, 256]
def k0_off185 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2294 : Index := Scalar.indexCast arg18
  let c416_575 : Index := 416#32
  let c256_576 : Index := 256#32
  ![v2294.toNat, 416, 256]
def k0_off186 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2304 : Index := Scalar.indexCast arg18
  let c424_577 : Index := 424#32
  let c256_578 : Index := 256#32
  ![v2304.toNat, 424, 256]
def k0_off187 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2314 : Index := Scalar.indexCast arg18
  let c432_579 : Index := 432#32
  let c256_580 : Index := 256#32
  ![v2314.toNat, 432, 256]
def k0_off188 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2324 : Index := Scalar.indexCast arg18
  let c440_581 : Index := 440#32
  let c256_582 : Index := 256#32
  ![v2324.toNat, 440, 256]
def k0_off189 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2334 : Index := Scalar.indexCast arg18
  let c448_583 : Index := 448#32
  let c256_584 : Index := 256#32
  ![v2334.toNat, 448, 256]
def k0_off190 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2344 : Index := Scalar.indexCast arg18
  let c456_585 : Index := 456#32
  let c256_586 : Index := 256#32
  ![v2344.toNat, 456, 256]
def k0_off191 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2354 : Index := Scalar.indexCast arg18
  let c464_587 : Index := 464#32
  let c256_588 : Index := 256#32
  ![v2354.toNat, 464, 256]
def k0_off192 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2364 : Index := Scalar.indexCast arg18
  let c472_589 : Index := 472#32
  let c256_590 : Index := 256#32
  ![v2364.toNat, 472, 256]
def k0_off193 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2374 : Index := Scalar.indexCast arg18
  let c480_591 : Index := 480#32
  let c256_592 : Index := 256#32
  ![v2374.toNat, 480, 256]
def k0_off194 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2384 : Index := Scalar.indexCast arg18
  let c488_593 : Index := 488#32
  let c256_594 : Index := 256#32
  ![v2384.toNat, 488, 256]
def k0_off195 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2394 : Index := Scalar.indexCast arg18
  let c496_595 : Index := 496#32
  let c256_596 : Index := 256#32
  ![v2394.toNat, 496, 256]
def k0_off196 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2404 : Index := Scalar.indexCast arg18
  let c504_597 : Index := 504#32
  let c256_598 : Index := 256#32
  ![v2404.toNat, 504, 256]
def k0_off197 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2414 : Index := Scalar.indexCast arg18
  let c512_599 : Index := 512#32
  let c256_600 : Index := 256#32
  ![v2414.toNat, 512, 256]
def k0_off198 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2424 : Index := Scalar.indexCast arg18
  let c520_601 : Index := 520#32
  let c256_602 : Index := 256#32
  ![v2424.toNat, 520, 256]
def k0_off199 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2434 : Index := Scalar.indexCast arg18
  let c528_603 : Index := 528#32
  let c256_604 : Index := 256#32
  ![v2434.toNat, 528, 256]
def k0_off200 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2444 : Index := Scalar.indexCast arg18
  let c536_605 : Index := 536#32
  let c256_606 : Index := 256#32
  ![v2444.toNat, 536, 256]
def k0_off201 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2454 : Index := Scalar.indexCast arg18
  let c544_607 : Index := 544#32
  let c256_608 : Index := 256#32
  ![v2454.toNat, 544, 256]
def k0_off202 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2464 : Index := Scalar.indexCast arg18
  let c552_609 : Index := 552#32
  let c256_610 : Index := 256#32
  ![v2464.toNat, 552, 256]
def k0_off203 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2474 : Index := Scalar.indexCast arg18
  let c560_611 : Index := 560#32
  let c256_612 : Index := 256#32
  ![v2474.toNat, 560, 256]
def k0_off204 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2484 : Index := Scalar.indexCast arg18
  let c568_613 : Index := 568#32
  let c256_614 : Index := 256#32
  ![v2484.toNat, 568, 256]
def k0_off205 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2494 : Index := Scalar.indexCast arg18
  let c576_615 : Index := 576#32
  let c256_616 : Index := 256#32
  ![v2494.toNat, 576, 256]
def k0_off206 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2504 : Index := Scalar.indexCast arg18
  let c584_617 : Index := 584#32
  let c256_618 : Index := 256#32
  ![v2504.toNat, 584, 256]
def k0_off207 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2514 : Index := Scalar.indexCast arg18
  let c592_619 : Index := 592#32
  let c256_620 : Index := 256#32
  ![v2514.toNat, 592, 256]
def k0_off208 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2524 : Index := Scalar.indexCast arg18
  let c600_621 : Index := 600#32
  let c256_622 : Index := 256#32
  ![v2524.toNat, 600, 256]
def k0_off209 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2534 : Index := Scalar.indexCast arg18
  let c608_623 : Index := 608#32
  let c256_624 : Index := 256#32
  ![v2534.toNat, 608, 256]
def k0_off210 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2544 : Index := Scalar.indexCast arg18
  let c616_625 : Index := 616#32
  let c256_626 : Index := 256#32
  ![v2544.toNat, 616, 256]
def k0_off211 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2554 : Index := Scalar.indexCast arg18
  let c624_627 : Index := 624#32
  let c256_628 : Index := 256#32
  ![v2554.toNat, 624, 256]
def k0_off212 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2564 : Index := Scalar.indexCast arg18
  let c632_629 : Index := 632#32
  let c256_630 : Index := 256#32
  ![v2564.toNat, 632, 256]
def k0_off213 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2574 : Index := Scalar.indexCast arg18
  let c640_631 : Index := 640#32
  let c256_632 : Index := 256#32
  ![v2574.toNat, 640, 256]
def k0_off214 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2584 : Index := Scalar.indexCast arg18
  let c648_633 : Index := 648#32
  let c256_634 : Index := 256#32
  ![v2584.toNat, 648, 256]
def k0_off215 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2594 : Index := Scalar.indexCast arg18
  let c656_635 : Index := 656#32
  let c256_636 : Index := 256#32
  ![v2594.toNat, 656, 256]
def k0_off216 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2604 : Index := Scalar.indexCast arg18
  let c664_637 : Index := 664#32
  let c256_638 : Index := 256#32
  ![v2604.toNat, 664, 256]
def k0_off217 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2614 : Index := Scalar.indexCast arg18
  let c672_639 : Index := 672#32
  let c256_640 : Index := 256#32
  ![v2614.toNat, 672, 256]
def k0_off218 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2624 : Index := Scalar.indexCast arg18
  let c680_641 : Index := 680#32
  let c256_642 : Index := 256#32
  ![v2624.toNat, 680, 256]
def k0_off219 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2634 : Index := Scalar.indexCast arg18
  let c688_643 : Index := 688#32
  let c256_644 : Index := 256#32
  ![v2634.toNat, 688, 256]
def k0_off220 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2644 : Index := Scalar.indexCast arg18
  let c696_645 : Index := 696#32
  let c256_646 : Index := 256#32
  ![v2644.toNat, 696, 256]
def k0_off221 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2654 : Index := Scalar.indexCast arg18
  let c704_647 : Index := 704#32
  let c256_648 : Index := 256#32
  ![v2654.toNat, 704, 256]
def k0_off222 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2664 : Index := Scalar.indexCast arg18
  let c712_649 : Index := 712#32
  let c256_650 : Index := 256#32
  ![v2664.toNat, 712, 256]
def k0_off223 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2674 : Index := Scalar.indexCast arg18
  let c720_651 : Index := 720#32
  let c256_652 : Index := 256#32
  ![v2674.toNat, 720, 256]
def k0_off224 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2684 : Index := Scalar.indexCast arg18
  let c728_653 : Index := 728#32
  let c256_654 : Index := 256#32
  ![v2684.toNat, 728, 256]
def k0_off225 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2694 : Index := Scalar.indexCast arg18
  let c736_655 : Index := 736#32
  let c256_656 : Index := 256#32
  ![v2694.toNat, 736, 256]
def k0_off226 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2704 : Index := Scalar.indexCast arg18
  let c744_657 : Index := 744#32
  let c256_658 : Index := 256#32
  ![v2704.toNat, 744, 256]
def k0_off227 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2714 : Index := Scalar.indexCast arg18
  let c752_659 : Index := 752#32
  let c256_660 : Index := 256#32
  ![v2714.toNat, 752, 256]
def k0_off228 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2724 : Index := Scalar.indexCast arg18
  let c760_661 : Index := 760#32
  let c256_662 : Index := 256#32
  ![v2724.toNat, 760, 256]
def k0_off229 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2734 : Index := Scalar.indexCast arg18
  let c768_663 : Index := 768#32
  let c256_664 : Index := 256#32
  ![v2734.toNat, 768, 256]
def k0_off230 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2744 : Index := Scalar.indexCast arg18
  let c776_665 : Index := 776#32
  let c256_666 : Index := 256#32
  ![v2744.toNat, 776, 256]
def k0_off231 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2754 : Index := Scalar.indexCast arg18
  let c784_667 : Index := 784#32
  let c256_668 : Index := 256#32
  ![v2754.toNat, 784, 256]
def k0_off232 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2764 : Index := Scalar.indexCast arg18
  let c792_669 : Index := 792#32
  let c256_670 : Index := 256#32
  ![v2764.toNat, 792, 256]
def k0_off233 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2774 : Index := Scalar.indexCast arg18
  let c800_671 : Index := 800#32
  let c256_672 : Index := 256#32
  ![v2774.toNat, 800, 256]
def k0_off234 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2784 : Index := Scalar.indexCast arg18
  let c808_673 : Index := 808#32
  let c256_674 : Index := 256#32
  ![v2784.toNat, 808, 256]
def k0_off235 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2794 : Index := Scalar.indexCast arg18
  let c816_675 : Index := 816#32
  let c256_676 : Index := 256#32
  ![v2794.toNat, 816, 256]
def k0_off236 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2804 : Index := Scalar.indexCast arg18
  let c824_677 : Index := 824#32
  let c256_678 : Index := 256#32
  ![v2804.toNat, 824, 256]
def k0_off237 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2814 : Index := Scalar.indexCast arg18
  let c832_679 : Index := 832#32
  let c256_680 : Index := 256#32
  ![v2814.toNat, 832, 256]
def k0_off238 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2824 : Index := Scalar.indexCast arg18
  let c840_681 : Index := 840#32
  let c256_682 : Index := 256#32
  ![v2824.toNat, 840, 256]
def k0_off239 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2834 : Index := Scalar.indexCast arg18
  let c848_683 : Index := 848#32
  let c256_684 : Index := 256#32
  ![v2834.toNat, 848, 256]
def k0_off240 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2844 : Index := Scalar.indexCast arg18
  let c856_685 : Index := 856#32
  let c256_686 : Index := 256#32
  ![v2844.toNat, 856, 256]
def k0_off241 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2854 : Index := Scalar.indexCast arg18
  let c864_687 : Index := 864#32
  let c256_688 : Index := 256#32
  ![v2854.toNat, 864, 256]
def k0_off242 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2864 : Index := Scalar.indexCast arg18
  let c872_689 : Index := 872#32
  let c256_690 : Index := 256#32
  ![v2864.toNat, 872, 256]
def k0_off243 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2874 : Index := Scalar.indexCast arg18
  let c880_691 : Index := 880#32
  let c256_692 : Index := 256#32
  ![v2874.toNat, 880, 256]
def k0_off244 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2884 : Index := Scalar.indexCast arg18
  let c888_693 : Index := 888#32
  let c256_694 : Index := 256#32
  ![v2884.toNat, 888, 256]
def k0_off245 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2894 : Index := Scalar.indexCast arg18
  let c896_695 : Index := 896#32
  let c256_696 : Index := 256#32
  ![v2894.toNat, 896, 256]
def k0_off246 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2904 : Index := Scalar.indexCast arg18
  let c904_697 : Index := 904#32
  let c256_698 : Index := 256#32
  ![v2904.toNat, 904, 256]
def k0_off247 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2914 : Index := Scalar.indexCast arg18
  let c912_699 : Index := 912#32
  let c256_700 : Index := 256#32
  ![v2914.toNat, 912, 256]
def k0_off248 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2924 : Index := Scalar.indexCast arg18
  let c920_701 : Index := 920#32
  let c256_702 : Index := 256#32
  ![v2924.toNat, 920, 256]
def k0_off249 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2934 : Index := Scalar.indexCast arg18
  let c928_703 : Index := 928#32
  let c256_704 : Index := 256#32
  ![v2934.toNat, 928, 256]
def k0_off250 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2944 : Index := Scalar.indexCast arg18
  let c936_705 : Index := 936#32
  let c256_706 : Index := 256#32
  ![v2944.toNat, 936, 256]
def k0_off251 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2954 : Index := Scalar.indexCast arg18
  let c944_707 : Index := 944#32
  let c256_708 : Index := 256#32
  ![v2954.toNat, 944, 256]
def k0_off252 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2964 : Index := Scalar.indexCast arg18
  let c952_709 : Index := 952#32
  let c256_710 : Index := 256#32
  ![v2964.toNat, 952, 256]
def k0_off253 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2974 : Index := Scalar.indexCast arg18
  let c960_711 : Index := 960#32
  let c256_712 : Index := 256#32
  ![v2974.toNat, 960, 256]
def k0_off254 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2984 : Index := Scalar.indexCast arg18
  let c968_713 : Index := 968#32
  let c256_714 : Index := 256#32
  ![v2984.toNat, 968, 256]
def k0_off255 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v2994 : Index := Scalar.indexCast arg18
  let c976_715 : Index := 976#32
  let c256_716 : Index := 256#32
  ![v2994.toNat, 976, 256]
def k0_off256 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3004 : Index := Scalar.indexCast arg18
  let c984_717 : Index := 984#32
  let c256_718 : Index := 256#32
  ![v3004.toNat, 984, 256]
def k0_off257 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3014 : Index := Scalar.indexCast arg18
  let c992_719 : Index := 992#32
  let c256_720 : Index := 256#32
  ![v3014.toNat, 992, 256]
def k0_off258 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3024 : Index := Scalar.indexCast arg18
  let c1000_721 : Index := 1000#32
  let c256_722 : Index := 256#32
  ![v3024.toNat, 1000, 256]
def k0_off259 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3034 : Index := Scalar.indexCast arg18
  let c1008_723 : Index := 1008#32
  let c256_724 : Index := 256#32
  ![v3034.toNat, 1008, 256]
def k0_off260 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3044 : Index := Scalar.indexCast arg18
  let c1016_725 : Index := 1016#32
  let c256_726 : Index := 256#32
  ![v3044.toNat, 1016, 256]
def k0_off261 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3056 : Index := Scalar.indexCast arg18
  let c0_728 : Index := 0#32
  let c256_729 : Index := 256#32
  ![v3056.toNat, 0, 256]
def k0_off262 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3080 : Index := Scalar.indexCast arg18
  let c0_739 : Index := 0#32
  let c512_740 : Index := 512#32
  ![v3080.toNat, 0, 512]
def k0_off263 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3086 : Index := Scalar.indexCast arg18
  let c8_741 : Index := 8#32
  let c512_742 : Index := 512#32
  ![v3086.toNat, 8, 512]
def k0_off264 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3096 : Index := Scalar.indexCast arg18
  let c16_743 : Index := 16#32
  let c512_744 : Index := 512#32
  ![v3096.toNat, 16, 512]
def k0_off265 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3106 : Index := Scalar.indexCast arg18
  let c24_745 : Index := 24#32
  let c512_746 : Index := 512#32
  ![v3106.toNat, 24, 512]
def k0_off266 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3116 : Index := Scalar.indexCast arg18
  let c32_747 : Index := 32#32
  let c512_748 : Index := 512#32
  ![v3116.toNat, 32, 512]
def k0_off267 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3126 : Index := Scalar.indexCast arg18
  let c40_749 : Index := 40#32
  let c512_750 : Index := 512#32
  ![v3126.toNat, 40, 512]
def k0_off268 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3136 : Index := Scalar.indexCast arg18
  let c48_751 : Index := 48#32
  let c512_752 : Index := 512#32
  ![v3136.toNat, 48, 512]
def k0_off269 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3146 : Index := Scalar.indexCast arg18
  let c56_753 : Index := 56#32
  let c512_754 : Index := 512#32
  ![v3146.toNat, 56, 512]
def k0_off270 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3156 : Index := Scalar.indexCast arg18
  let c64_755 : Index := 64#32
  let c512_756 : Index := 512#32
  ![v3156.toNat, 64, 512]
def k0_off271 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3166 : Index := Scalar.indexCast arg18
  let c72_757 : Index := 72#32
  let c512_758 : Index := 512#32
  ![v3166.toNat, 72, 512]
def k0_off272 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3176 : Index := Scalar.indexCast arg18
  let c80_759 : Index := 80#32
  let c512_760 : Index := 512#32
  ![v3176.toNat, 80, 512]
def k0_off273 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3186 : Index := Scalar.indexCast arg18
  let c88_761 : Index := 88#32
  let c512_762 : Index := 512#32
  ![v3186.toNat, 88, 512]
def k0_off274 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3196 : Index := Scalar.indexCast arg18
  let c96_763 : Index := 96#32
  let c512_764 : Index := 512#32
  ![v3196.toNat, 96, 512]
def k0_off275 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3206 : Index := Scalar.indexCast arg18
  let c104_765 : Index := 104#32
  let c512_766 : Index := 512#32
  ![v3206.toNat, 104, 512]
def k0_off276 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3216 : Index := Scalar.indexCast arg18
  let c112_767 : Index := 112#32
  let c512_768 : Index := 512#32
  ![v3216.toNat, 112, 512]
def k0_off277 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3226 : Index := Scalar.indexCast arg18
  let c120_769 : Index := 120#32
  let c512_770 : Index := 512#32
  ![v3226.toNat, 120, 512]
def k0_off278 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3236 : Index := Scalar.indexCast arg18
  let c128_771 : Index := 128#32
  let c512_772 : Index := 512#32
  ![v3236.toNat, 128, 512]
def k0_off279 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3246 : Index := Scalar.indexCast arg18
  let c136_773 : Index := 136#32
  let c512_774 : Index := 512#32
  ![v3246.toNat, 136, 512]
def k0_off280 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3256 : Index := Scalar.indexCast arg18
  let c144_775 : Index := 144#32
  let c512_776 : Index := 512#32
  ![v3256.toNat, 144, 512]
def k0_off281 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3266 : Index := Scalar.indexCast arg18
  let c152_777 : Index := 152#32
  let c512_778 : Index := 512#32
  ![v3266.toNat, 152, 512]
def k0_off282 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3276 : Index := Scalar.indexCast arg18
  let c160_779 : Index := 160#32
  let c512_780 : Index := 512#32
  ![v3276.toNat, 160, 512]
def k0_off283 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3286 : Index := Scalar.indexCast arg18
  let c168_781 : Index := 168#32
  let c512_782 : Index := 512#32
  ![v3286.toNat, 168, 512]
def k0_off284 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3296 : Index := Scalar.indexCast arg18
  let c176_783 : Index := 176#32
  let c512_784 : Index := 512#32
  ![v3296.toNat, 176, 512]
def k0_off285 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3306 : Index := Scalar.indexCast arg18
  let c184_785 : Index := 184#32
  let c512_786 : Index := 512#32
  ![v3306.toNat, 184, 512]
def k0_off286 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3316 : Index := Scalar.indexCast arg18
  let c192_787 : Index := 192#32
  let c512_788 : Index := 512#32
  ![v3316.toNat, 192, 512]
def k0_off287 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3326 : Index := Scalar.indexCast arg18
  let c200_789 : Index := 200#32
  let c512_790 : Index := 512#32
  ![v3326.toNat, 200, 512]
def k0_off288 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3336 : Index := Scalar.indexCast arg18
  let c208_791 : Index := 208#32
  let c512_792 : Index := 512#32
  ![v3336.toNat, 208, 512]
def k0_off289 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3346 : Index := Scalar.indexCast arg18
  let c216_793 : Index := 216#32
  let c512_794 : Index := 512#32
  ![v3346.toNat, 216, 512]
def k0_off290 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3356 : Index := Scalar.indexCast arg18
  let c224_795 : Index := 224#32
  let c512_796 : Index := 512#32
  ![v3356.toNat, 224, 512]
def k0_off291 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3366 : Index := Scalar.indexCast arg18
  let c232_797 : Index := 232#32
  let c512_798 : Index := 512#32
  ![v3366.toNat, 232, 512]
def k0_off292 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3376 : Index := Scalar.indexCast arg18
  let c240_799 : Index := 240#32
  let c512_800 : Index := 512#32
  ![v3376.toNat, 240, 512]
def k0_off293 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3386 : Index := Scalar.indexCast arg18
  let c248_801 : Index := 248#32
  let c512_802 : Index := 512#32
  ![v3386.toNat, 248, 512]
def k0_off294 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3396 : Index := Scalar.indexCast arg18
  let c256_803 : Index := 256#32
  let c512_804 : Index := 512#32
  ![v3396.toNat, 256, 512]
def k0_off295 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3406 : Index := Scalar.indexCast arg18
  let c264_805 : Index := 264#32
  let c512_806 : Index := 512#32
  ![v3406.toNat, 264, 512]
def k0_off296 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3416 : Index := Scalar.indexCast arg18
  let c272_807 : Index := 272#32
  let c512_808 : Index := 512#32
  ![v3416.toNat, 272, 512]
def k0_off297 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3426 : Index := Scalar.indexCast arg18
  let c280_809 : Index := 280#32
  let c512_810 : Index := 512#32
  ![v3426.toNat, 280, 512]
def k0_off298 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3436 : Index := Scalar.indexCast arg18
  let c288_811 : Index := 288#32
  let c512_812 : Index := 512#32
  ![v3436.toNat, 288, 512]
def k0_off299 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3446 : Index := Scalar.indexCast arg18
  let c296_813 : Index := 296#32
  let c512_814 : Index := 512#32
  ![v3446.toNat, 296, 512]
def k0_off300 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3456 : Index := Scalar.indexCast arg18
  let c304_815 : Index := 304#32
  let c512_816 : Index := 512#32
  ![v3456.toNat, 304, 512]
def k0_off301 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3466 : Index := Scalar.indexCast arg18
  let c312_817 : Index := 312#32
  let c512_818 : Index := 512#32
  ![v3466.toNat, 312, 512]
def k0_off302 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3476 : Index := Scalar.indexCast arg18
  let c320_819 : Index := 320#32
  let c512_820 : Index := 512#32
  ![v3476.toNat, 320, 512]
def k0_off303 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3486 : Index := Scalar.indexCast arg18
  let c328_821 : Index := 328#32
  let c512_822 : Index := 512#32
  ![v3486.toNat, 328, 512]
def k0_off304 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3496 : Index := Scalar.indexCast arg18
  let c336_823 : Index := 336#32
  let c512_824 : Index := 512#32
  ![v3496.toNat, 336, 512]
def k0_off305 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3506 : Index := Scalar.indexCast arg18
  let c344_825 : Index := 344#32
  let c512_826 : Index := 512#32
  ![v3506.toNat, 344, 512]
def k0_off306 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3516 : Index := Scalar.indexCast arg18
  let c352_827 : Index := 352#32
  let c512_828 : Index := 512#32
  ![v3516.toNat, 352, 512]
def k0_off307 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3526 : Index := Scalar.indexCast arg18
  let c360_829 : Index := 360#32
  let c512_830 : Index := 512#32
  ![v3526.toNat, 360, 512]
def k0_off308 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3536 : Index := Scalar.indexCast arg18
  let c368_831 : Index := 368#32
  let c512_832 : Index := 512#32
  ![v3536.toNat, 368, 512]
def k0_off309 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3546 : Index := Scalar.indexCast arg18
  let c376_833 : Index := 376#32
  let c512_834 : Index := 512#32
  ![v3546.toNat, 376, 512]
def k0_off310 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3556 : Index := Scalar.indexCast arg18
  let c384_835 : Index := 384#32
  let c512_836 : Index := 512#32
  ![v3556.toNat, 384, 512]
def k0_off311 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3566 : Index := Scalar.indexCast arg18
  let c392_837 : Index := 392#32
  let c512_838 : Index := 512#32
  ![v3566.toNat, 392, 512]
def k0_off312 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3576 : Index := Scalar.indexCast arg18
  let c400_839 : Index := 400#32
  let c512_840 : Index := 512#32
  ![v3576.toNat, 400, 512]
def k0_off313 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3586 : Index := Scalar.indexCast arg18
  let c408_841 : Index := 408#32
  let c512_842 : Index := 512#32
  ![v3586.toNat, 408, 512]
def k0_off314 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3596 : Index := Scalar.indexCast arg18
  let c416_843 : Index := 416#32
  let c512_844 : Index := 512#32
  ![v3596.toNat, 416, 512]
def k0_off315 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3606 : Index := Scalar.indexCast arg18
  let c424_845 : Index := 424#32
  let c512_846 : Index := 512#32
  ![v3606.toNat, 424, 512]
def k0_off316 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3616 : Index := Scalar.indexCast arg18
  let c432_847 : Index := 432#32
  let c512_848 : Index := 512#32
  ![v3616.toNat, 432, 512]
def k0_off317 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3626 : Index := Scalar.indexCast arg18
  let c440_849 : Index := 440#32
  let c512_850 : Index := 512#32
  ![v3626.toNat, 440, 512]
def k0_off318 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3636 : Index := Scalar.indexCast arg18
  let c448_851 : Index := 448#32
  let c512_852 : Index := 512#32
  ![v3636.toNat, 448, 512]
def k0_off319 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3646 : Index := Scalar.indexCast arg18
  let c456_853 : Index := 456#32
  let c512_854 : Index := 512#32
  ![v3646.toNat, 456, 512]
def k0_off320 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3656 : Index := Scalar.indexCast arg18
  let c464_855 : Index := 464#32
  let c512_856 : Index := 512#32
  ![v3656.toNat, 464, 512]
def k0_off321 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3666 : Index := Scalar.indexCast arg18
  let c472_857 : Index := 472#32
  let c512_858 : Index := 512#32
  ![v3666.toNat, 472, 512]
def k0_off322 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3676 : Index := Scalar.indexCast arg18
  let c480_859 : Index := 480#32
  let c512_860 : Index := 512#32
  ![v3676.toNat, 480, 512]
def k0_off323 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3686 : Index := Scalar.indexCast arg18
  let c488_861 : Index := 488#32
  let c512_862 : Index := 512#32
  ![v3686.toNat, 488, 512]
def k0_off324 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3696 : Index := Scalar.indexCast arg18
  let c496_863 : Index := 496#32
  let c512_864 : Index := 512#32
  ![v3696.toNat, 496, 512]
def k0_off325 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3706 : Index := Scalar.indexCast arg18
  let c504_865 : Index := 504#32
  let c512_866 : Index := 512#32
  ![v3706.toNat, 504, 512]
def k0_off326 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3716 : Index := Scalar.indexCast arg18
  let c512_867 : Index := 512#32
  let c512_868 : Index := 512#32
  ![v3716.toNat, 512, 512]
def k0_off327 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3726 : Index := Scalar.indexCast arg18
  let c520_869 : Index := 520#32
  let c512_870 : Index := 512#32
  ![v3726.toNat, 520, 512]
def k0_off328 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3736 : Index := Scalar.indexCast arg18
  let c528_871 : Index := 528#32
  let c512_872 : Index := 512#32
  ![v3736.toNat, 528, 512]
def k0_off329 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3746 : Index := Scalar.indexCast arg18
  let c536_873 : Index := 536#32
  let c512_874 : Index := 512#32
  ![v3746.toNat, 536, 512]
def k0_off330 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3756 : Index := Scalar.indexCast arg18
  let c544_875 : Index := 544#32
  let c512_876 : Index := 512#32
  ![v3756.toNat, 544, 512]
def k0_off331 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3766 : Index := Scalar.indexCast arg18
  let c552_877 : Index := 552#32
  let c512_878 : Index := 512#32
  ![v3766.toNat, 552, 512]
def k0_off332 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3776 : Index := Scalar.indexCast arg18
  let c560_879 : Index := 560#32
  let c512_880 : Index := 512#32
  ![v3776.toNat, 560, 512]
def k0_off333 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3786 : Index := Scalar.indexCast arg18
  let c568_881 : Index := 568#32
  let c512_882 : Index := 512#32
  ![v3786.toNat, 568, 512]
def k0_off334 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3796 : Index := Scalar.indexCast arg18
  let c576_883 : Index := 576#32
  let c512_884 : Index := 512#32
  ![v3796.toNat, 576, 512]
def k0_off335 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3806 : Index := Scalar.indexCast arg18
  let c584_885 : Index := 584#32
  let c512_886 : Index := 512#32
  ![v3806.toNat, 584, 512]
def k0_off336 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3816 : Index := Scalar.indexCast arg18
  let c592_887 : Index := 592#32
  let c512_888 : Index := 512#32
  ![v3816.toNat, 592, 512]
def k0_off337 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3826 : Index := Scalar.indexCast arg18
  let c600_889 : Index := 600#32
  let c512_890 : Index := 512#32
  ![v3826.toNat, 600, 512]
def k0_off338 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3836 : Index := Scalar.indexCast arg18
  let c608_891 : Index := 608#32
  let c512_892 : Index := 512#32
  ![v3836.toNat, 608, 512]
def k0_off339 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3846 : Index := Scalar.indexCast arg18
  let c616_893 : Index := 616#32
  let c512_894 : Index := 512#32
  ![v3846.toNat, 616, 512]
def k0_off340 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3856 : Index := Scalar.indexCast arg18
  let c624_895 : Index := 624#32
  let c512_896 : Index := 512#32
  ![v3856.toNat, 624, 512]
def k0_off341 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3866 : Index := Scalar.indexCast arg18
  let c632_897 : Index := 632#32
  let c512_898 : Index := 512#32
  ![v3866.toNat, 632, 512]
def k0_off342 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3876 : Index := Scalar.indexCast arg18
  let c640_899 : Index := 640#32
  let c512_900 : Index := 512#32
  ![v3876.toNat, 640, 512]
def k0_off343 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3886 : Index := Scalar.indexCast arg18
  let c648_901 : Index := 648#32
  let c512_902 : Index := 512#32
  ![v3886.toNat, 648, 512]
def k0_off344 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3896 : Index := Scalar.indexCast arg18
  let c656_903 : Index := 656#32
  let c512_904 : Index := 512#32
  ![v3896.toNat, 656, 512]
def k0_off345 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3906 : Index := Scalar.indexCast arg18
  let c664_905 : Index := 664#32
  let c512_906 : Index := 512#32
  ![v3906.toNat, 664, 512]
def k0_off346 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3916 : Index := Scalar.indexCast arg18
  let c672_907 : Index := 672#32
  let c512_908 : Index := 512#32
  ![v3916.toNat, 672, 512]
def k0_off347 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3926 : Index := Scalar.indexCast arg18
  let c680_909 : Index := 680#32
  let c512_910 : Index := 512#32
  ![v3926.toNat, 680, 512]
def k0_off348 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3936 : Index := Scalar.indexCast arg18
  let c688_911 : Index := 688#32
  let c512_912 : Index := 512#32
  ![v3936.toNat, 688, 512]
def k0_off349 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3946 : Index := Scalar.indexCast arg18
  let c696_913 : Index := 696#32
  let c512_914 : Index := 512#32
  ![v3946.toNat, 696, 512]
def k0_off350 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3956 : Index := Scalar.indexCast arg18
  let c704_915 : Index := 704#32
  let c512_916 : Index := 512#32
  ![v3956.toNat, 704, 512]
def k0_off351 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3966 : Index := Scalar.indexCast arg18
  let c712_917 : Index := 712#32
  let c512_918 : Index := 512#32
  ![v3966.toNat, 712, 512]
def k0_off352 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3976 : Index := Scalar.indexCast arg18
  let c720_919 : Index := 720#32
  let c512_920 : Index := 512#32
  ![v3976.toNat, 720, 512]
def k0_off353 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3986 : Index := Scalar.indexCast arg18
  let c728_921 : Index := 728#32
  let c512_922 : Index := 512#32
  ![v3986.toNat, 728, 512]
def k0_off354 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v3996 : Index := Scalar.indexCast arg18
  let c736_923 : Index := 736#32
  let c512_924 : Index := 512#32
  ![v3996.toNat, 736, 512]
def k0_off355 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4006 : Index := Scalar.indexCast arg18
  let c744_925 : Index := 744#32
  let c512_926 : Index := 512#32
  ![v4006.toNat, 744, 512]
def k0_off356 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4016 : Index := Scalar.indexCast arg18
  let c752_927 : Index := 752#32
  let c512_928 : Index := 512#32
  ![v4016.toNat, 752, 512]
def k0_off357 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4026 : Index := Scalar.indexCast arg18
  let c760_929 : Index := 760#32
  let c512_930 : Index := 512#32
  ![v4026.toNat, 760, 512]
def k0_off358 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4036 : Index := Scalar.indexCast arg18
  let c768_931 : Index := 768#32
  let c512_932 : Index := 512#32
  ![v4036.toNat, 768, 512]
def k0_off359 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4046 : Index := Scalar.indexCast arg18
  let c776_933 : Index := 776#32
  let c512_934 : Index := 512#32
  ![v4046.toNat, 776, 512]
def k0_off360 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4056 : Index := Scalar.indexCast arg18
  let c784_935 : Index := 784#32
  let c512_936 : Index := 512#32
  ![v4056.toNat, 784, 512]
def k0_off361 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4066 : Index := Scalar.indexCast arg18
  let c792_937 : Index := 792#32
  let c512_938 : Index := 512#32
  ![v4066.toNat, 792, 512]
def k0_off362 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4076 : Index := Scalar.indexCast arg18
  let c800_939 : Index := 800#32
  let c512_940 : Index := 512#32
  ![v4076.toNat, 800, 512]
def k0_off363 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4086 : Index := Scalar.indexCast arg18
  let c808_941 : Index := 808#32
  let c512_942 : Index := 512#32
  ![v4086.toNat, 808, 512]
def k0_off364 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4096 : Index := Scalar.indexCast arg18
  let c816_943 : Index := 816#32
  let c512_944 : Index := 512#32
  ![v4096.toNat, 816, 512]
def k0_off365 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4106 : Index := Scalar.indexCast arg18
  let c824_945 : Index := 824#32
  let c512_946 : Index := 512#32
  ![v4106.toNat, 824, 512]
def k0_off366 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4116 : Index := Scalar.indexCast arg18
  let c832_947 : Index := 832#32
  let c512_948 : Index := 512#32
  ![v4116.toNat, 832, 512]
def k0_off367 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4126 : Index := Scalar.indexCast arg18
  let c840_949 : Index := 840#32
  let c512_950 : Index := 512#32
  ![v4126.toNat, 840, 512]
def k0_off368 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4136 : Index := Scalar.indexCast arg18
  let c848_951 : Index := 848#32
  let c512_952 : Index := 512#32
  ![v4136.toNat, 848, 512]
def k0_off369 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4146 : Index := Scalar.indexCast arg18
  let c856_953 : Index := 856#32
  let c512_954 : Index := 512#32
  ![v4146.toNat, 856, 512]
def k0_off370 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4156 : Index := Scalar.indexCast arg18
  let c864_955 : Index := 864#32
  let c512_956 : Index := 512#32
  ![v4156.toNat, 864, 512]
def k0_off371 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4166 : Index := Scalar.indexCast arg18
  let c872_957 : Index := 872#32
  let c512_958 : Index := 512#32
  ![v4166.toNat, 872, 512]
def k0_off372 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4176 : Index := Scalar.indexCast arg18
  let c880_959 : Index := 880#32
  let c512_960 : Index := 512#32
  ![v4176.toNat, 880, 512]
def k0_off373 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4186 : Index := Scalar.indexCast arg18
  let c888_961 : Index := 888#32
  let c512_962 : Index := 512#32
  ![v4186.toNat, 888, 512]
def k0_off374 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4196 : Index := Scalar.indexCast arg18
  let c896_963 : Index := 896#32
  let c512_964 : Index := 512#32
  ![v4196.toNat, 896, 512]
def k0_off375 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4206 : Index := Scalar.indexCast arg18
  let c904_965 : Index := 904#32
  let c512_966 : Index := 512#32
  ![v4206.toNat, 904, 512]
def k0_off376 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4216 : Index := Scalar.indexCast arg18
  let c912_967 : Index := 912#32
  let c512_968 : Index := 512#32
  ![v4216.toNat, 912, 512]
def k0_off377 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4226 : Index := Scalar.indexCast arg18
  let c920_969 : Index := 920#32
  let c512_970 : Index := 512#32
  ![v4226.toNat, 920, 512]
def k0_off378 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4236 : Index := Scalar.indexCast arg18
  let c928_971 : Index := 928#32
  let c512_972 : Index := 512#32
  ![v4236.toNat, 928, 512]
def k0_off379 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4246 : Index := Scalar.indexCast arg18
  let c936_973 : Index := 936#32
  let c512_974 : Index := 512#32
  ![v4246.toNat, 936, 512]
def k0_off380 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4256 : Index := Scalar.indexCast arg18
  let c944_975 : Index := 944#32
  let c512_976 : Index := 512#32
  ![v4256.toNat, 944, 512]
def k0_off381 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4266 : Index := Scalar.indexCast arg18
  let c952_977 : Index := 952#32
  let c512_978 : Index := 512#32
  ![v4266.toNat, 952, 512]
def k0_off382 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4276 : Index := Scalar.indexCast arg18
  let c960_979 : Index := 960#32
  let c512_980 : Index := 512#32
  ![v4276.toNat, 960, 512]
def k0_off383 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4286 : Index := Scalar.indexCast arg18
  let c968_981 : Index := 968#32
  let c512_982 : Index := 512#32
  ![v4286.toNat, 968, 512]
def k0_off384 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4296 : Index := Scalar.indexCast arg18
  let c976_983 : Index := 976#32
  let c512_984 : Index := 512#32
  ![v4296.toNat, 976, 512]
def k0_off385 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4306 : Index := Scalar.indexCast arg18
  let c984_985 : Index := 984#32
  let c512_986 : Index := 512#32
  ![v4306.toNat, 984, 512]
def k0_off386 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4316 : Index := Scalar.indexCast arg18
  let c992_987 : Index := 992#32
  let c512_988 : Index := 512#32
  ![v4316.toNat, 992, 512]
def k0_off387 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4326 : Index := Scalar.indexCast arg18
  let c1000_989 : Index := 1000#32
  let c512_990 : Index := 512#32
  ![v4326.toNat, 1000, 512]
def k0_off388 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4336 : Index := Scalar.indexCast arg18
  let c1008_991 : Index := 1008#32
  let c512_992 : Index := 512#32
  ![v4336.toNat, 1008, 512]
def k0_off389 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4346 : Index := Scalar.indexCast arg18
  let c1016_993 : Index := 1016#32
  let c512_994 : Index := 512#32
  ![v4346.toNat, 1016, 512]
def k0_off390 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4358 : Index := Scalar.indexCast arg18
  let c0_996 : Index := 0#32
  let c512_997 : Index := 512#32
  ![v4358.toNat, 0, 512]
def k0_off391 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4382 : Index := Scalar.indexCast arg18
  let c0_1007 : Index := 0#32
  let c0_1008 : Index := 0#32
  ![v4382.toNat, 0, 0]
def k0_off392 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4388 : Index := Scalar.indexCast arg18
  let c8_1009 : Index := 8#32
  let c0_1010 : Index := 0#32
  ![v4388.toNat, 8, 0]
def k0_off393 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4398 : Index := Scalar.indexCast arg18
  let c16_1011 : Index := 16#32
  let c0_1012 : Index := 0#32
  ![v4398.toNat, 16, 0]
def k0_off394 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4408 : Index := Scalar.indexCast arg18
  let c24_1013 : Index := 24#32
  let c0_1014 : Index := 0#32
  ![v4408.toNat, 24, 0]
def k0_off395 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4418 : Index := Scalar.indexCast arg18
  let c32_1015 : Index := 32#32
  let c0_1016 : Index := 0#32
  ![v4418.toNat, 32, 0]
def k0_off396 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4428 : Index := Scalar.indexCast arg18
  let c40_1017 : Index := 40#32
  let c0_1018 : Index := 0#32
  ![v4428.toNat, 40, 0]
def k0_off397 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4438 : Index := Scalar.indexCast arg18
  let c48_1019 : Index := 48#32
  let c0_1020 : Index := 0#32
  ![v4438.toNat, 48, 0]
def k0_off398 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4448 : Index := Scalar.indexCast arg18
  let c56_1021 : Index := 56#32
  let c0_1022 : Index := 0#32
  ![v4448.toNat, 56, 0]
def k0_off399 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4458 : Index := Scalar.indexCast arg18
  let c64_1023 : Index := 64#32
  let c0_1024 : Index := 0#32
  ![v4458.toNat, 64, 0]
def k0_off400 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4468 : Index := Scalar.indexCast arg18
  let c72_1025 : Index := 72#32
  let c0_1026 : Index := 0#32
  ![v4468.toNat, 72, 0]
def k0_off401 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4478 : Index := Scalar.indexCast arg18
  let c80_1027 : Index := 80#32
  let c0_1028 : Index := 0#32
  ![v4478.toNat, 80, 0]
def k0_off402 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4488 : Index := Scalar.indexCast arg18
  let c88_1029 : Index := 88#32
  let c0_1030 : Index := 0#32
  ![v4488.toNat, 88, 0]
def k0_off403 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4498 : Index := Scalar.indexCast arg18
  let c96_1031 : Index := 96#32
  let c0_1032 : Index := 0#32
  ![v4498.toNat, 96, 0]
def k0_off404 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4508 : Index := Scalar.indexCast arg18
  let c104_1033 : Index := 104#32
  let c0_1034 : Index := 0#32
  ![v4508.toNat, 104, 0]
def k0_off405 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4518 : Index := Scalar.indexCast arg18
  let c112_1035 : Index := 112#32
  let c0_1036 : Index := 0#32
  ![v4518.toNat, 112, 0]
def k0_off406 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4528 : Index := Scalar.indexCast arg18
  let c120_1037 : Index := 120#32
  let c0_1038 : Index := 0#32
  ![v4528.toNat, 120, 0]
def k0_off407 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4538 : Index := Scalar.indexCast arg18
  let c128_1039 : Index := 128#32
  let c0_1040 : Index := 0#32
  ![v4538.toNat, 128, 0]
def k0_off408 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4548 : Index := Scalar.indexCast arg18
  let c136_1041 : Index := 136#32
  let c0_1042 : Index := 0#32
  ![v4548.toNat, 136, 0]
def k0_off409 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4558 : Index := Scalar.indexCast arg18
  let c144_1043 : Index := 144#32
  let c0_1044 : Index := 0#32
  ![v4558.toNat, 144, 0]
def k0_off410 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4568 : Index := Scalar.indexCast arg18
  let c152_1045 : Index := 152#32
  let c0_1046 : Index := 0#32
  ![v4568.toNat, 152, 0]
def k0_off411 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4578 : Index := Scalar.indexCast arg18
  let c160_1047 : Index := 160#32
  let c0_1048 : Index := 0#32
  ![v4578.toNat, 160, 0]
def k0_off412 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4588 : Index := Scalar.indexCast arg18
  let c168_1049 : Index := 168#32
  let c0_1050 : Index := 0#32
  ![v4588.toNat, 168, 0]
def k0_off413 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4598 : Index := Scalar.indexCast arg18
  let c176_1051 : Index := 176#32
  let c0_1052 : Index := 0#32
  ![v4598.toNat, 176, 0]
def k0_off414 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4608 : Index := Scalar.indexCast arg18
  let c184_1053 : Index := 184#32
  let c0_1054 : Index := 0#32
  ![v4608.toNat, 184, 0]
def k0_off415 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4618 : Index := Scalar.indexCast arg18
  let c192_1055 : Index := 192#32
  let c0_1056 : Index := 0#32
  ![v4618.toNat, 192, 0]
def k0_off416 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4628 : Index := Scalar.indexCast arg18
  let c200_1057 : Index := 200#32
  let c0_1058 : Index := 0#32
  ![v4628.toNat, 200, 0]
def k0_off417 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4638 : Index := Scalar.indexCast arg18
  let c208_1059 : Index := 208#32
  let c0_1060 : Index := 0#32
  ![v4638.toNat, 208, 0]
def k0_off418 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4648 : Index := Scalar.indexCast arg18
  let c216_1061 : Index := 216#32
  let c0_1062 : Index := 0#32
  ![v4648.toNat, 216, 0]
def k0_off419 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4658 : Index := Scalar.indexCast arg18
  let c224_1063 : Index := 224#32
  let c0_1064 : Index := 0#32
  ![v4658.toNat, 224, 0]
def k0_off420 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4668 : Index := Scalar.indexCast arg18
  let c232_1065 : Index := 232#32
  let c0_1066 : Index := 0#32
  ![v4668.toNat, 232, 0]
def k0_off421 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4678 : Index := Scalar.indexCast arg18
  let c240_1067 : Index := 240#32
  let c0_1068 : Index := 0#32
  ![v4678.toNat, 240, 0]
def k0_off422 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4688 : Index := Scalar.indexCast arg18
  let c248_1069 : Index := 248#32
  let c0_1070 : Index := 0#32
  ![v4688.toNat, 248, 0]
def k0_off423 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4698 : Index := Scalar.indexCast arg18
  let c256_1071 : Index := 256#32
  let c0_1072 : Index := 0#32
  ![v4698.toNat, 256, 0]
def k0_off424 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4708 : Index := Scalar.indexCast arg18
  let c264_1073 : Index := 264#32
  let c0_1074 : Index := 0#32
  ![v4708.toNat, 264, 0]
def k0_off425 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4718 : Index := Scalar.indexCast arg18
  let c272_1075 : Index := 272#32
  let c0_1076 : Index := 0#32
  ![v4718.toNat, 272, 0]
def k0_off426 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4728 : Index := Scalar.indexCast arg18
  let c280_1077 : Index := 280#32
  let c0_1078 : Index := 0#32
  ![v4728.toNat, 280, 0]
def k0_off427 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4738 : Index := Scalar.indexCast arg18
  let c288_1079 : Index := 288#32
  let c0_1080 : Index := 0#32
  ![v4738.toNat, 288, 0]
def k0_off428 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4748 : Index := Scalar.indexCast arg18
  let c296_1081 : Index := 296#32
  let c0_1082 : Index := 0#32
  ![v4748.toNat, 296, 0]
def k0_off429 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4758 : Index := Scalar.indexCast arg18
  let c304_1083 : Index := 304#32
  let c0_1084 : Index := 0#32
  ![v4758.toNat, 304, 0]
def k0_off430 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4768 : Index := Scalar.indexCast arg18
  let c312_1085 : Index := 312#32
  let c0_1086 : Index := 0#32
  ![v4768.toNat, 312, 0]
def k0_off431 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4778 : Index := Scalar.indexCast arg18
  let c320_1087 : Index := 320#32
  let c0_1088 : Index := 0#32
  ![v4778.toNat, 320, 0]
def k0_off432 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4788 : Index := Scalar.indexCast arg18
  let c328_1089 : Index := 328#32
  let c0_1090 : Index := 0#32
  ![v4788.toNat, 328, 0]
def k0_off433 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4798 : Index := Scalar.indexCast arg18
  let c336_1091 : Index := 336#32
  let c0_1092 : Index := 0#32
  ![v4798.toNat, 336, 0]
def k0_off434 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4808 : Index := Scalar.indexCast arg18
  let c344_1093 : Index := 344#32
  let c0_1094 : Index := 0#32
  ![v4808.toNat, 344, 0]
def k0_off435 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4818 : Index := Scalar.indexCast arg18
  let c352_1095 : Index := 352#32
  let c0_1096 : Index := 0#32
  ![v4818.toNat, 352, 0]
def k0_off436 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4828 : Index := Scalar.indexCast arg18
  let c360_1097 : Index := 360#32
  let c0_1098 : Index := 0#32
  ![v4828.toNat, 360, 0]
def k0_off437 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4838 : Index := Scalar.indexCast arg18
  let c368_1099 : Index := 368#32
  let c0_1100 : Index := 0#32
  ![v4838.toNat, 368, 0]
def k0_off438 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4848 : Index := Scalar.indexCast arg18
  let c376_1101 : Index := 376#32
  let c0_1102 : Index := 0#32
  ![v4848.toNat, 376, 0]
def k0_off439 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4858 : Index := Scalar.indexCast arg18
  let c384_1103 : Index := 384#32
  let c0_1104 : Index := 0#32
  ![v4858.toNat, 384, 0]
def k0_off440 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4868 : Index := Scalar.indexCast arg18
  let c392_1105 : Index := 392#32
  let c0_1106 : Index := 0#32
  ![v4868.toNat, 392, 0]
def k0_off441 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4878 : Index := Scalar.indexCast arg18
  let c400_1107 : Index := 400#32
  let c0_1108 : Index := 0#32
  ![v4878.toNat, 400, 0]
def k0_off442 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4888 : Index := Scalar.indexCast arg18
  let c408_1109 : Index := 408#32
  let c0_1110 : Index := 0#32
  ![v4888.toNat, 408, 0]
def k0_off443 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4898 : Index := Scalar.indexCast arg18
  let c416_1111 : Index := 416#32
  let c0_1112 : Index := 0#32
  ![v4898.toNat, 416, 0]
def k0_off444 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4908 : Index := Scalar.indexCast arg18
  let c424_1113 : Index := 424#32
  let c0_1114 : Index := 0#32
  ![v4908.toNat, 424, 0]
def k0_off445 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4918 : Index := Scalar.indexCast arg18
  let c432_1115 : Index := 432#32
  let c0_1116 : Index := 0#32
  ![v4918.toNat, 432, 0]
def k0_off446 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4928 : Index := Scalar.indexCast arg18
  let c440_1117 : Index := 440#32
  let c0_1118 : Index := 0#32
  ![v4928.toNat, 440, 0]
def k0_off447 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4938 : Index := Scalar.indexCast arg18
  let c448_1119 : Index := 448#32
  let c0_1120 : Index := 0#32
  ![v4938.toNat, 448, 0]
def k0_off448 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4948 : Index := Scalar.indexCast arg18
  let c456_1121 : Index := 456#32
  let c0_1122 : Index := 0#32
  ![v4948.toNat, 456, 0]
def k0_off449 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4958 : Index := Scalar.indexCast arg18
  let c464_1123 : Index := 464#32
  let c0_1124 : Index := 0#32
  ![v4958.toNat, 464, 0]
def k0_off450 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4968 : Index := Scalar.indexCast arg18
  let c472_1125 : Index := 472#32
  let c0_1126 : Index := 0#32
  ![v4968.toNat, 472, 0]
def k0_off451 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4978 : Index := Scalar.indexCast arg18
  let c480_1127 : Index := 480#32
  let c0_1128 : Index := 0#32
  ![v4978.toNat, 480, 0]
def k0_off452 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4988 : Index := Scalar.indexCast arg18
  let c488_1129 : Index := 488#32
  let c0_1130 : Index := 0#32
  ![v4988.toNat, 488, 0]
def k0_off453 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v4998 : Index := Scalar.indexCast arg18
  let c496_1131 : Index := 496#32
  let c0_1132 : Index := 0#32
  ![v4998.toNat, 496, 0]
def k0_off454 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5008 : Index := Scalar.indexCast arg18
  let c504_1133 : Index := 504#32
  let c0_1134 : Index := 0#32
  ![v5008.toNat, 504, 0]
def k0_off455 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5018 : Index := Scalar.indexCast arg18
  let c512_1135 : Index := 512#32
  let c0_1136 : Index := 0#32
  ![v5018.toNat, 512, 0]
def k0_off456 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5028 : Index := Scalar.indexCast arg18
  let c520_1137 : Index := 520#32
  let c0_1138 : Index := 0#32
  ![v5028.toNat, 520, 0]
def k0_off457 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5038 : Index := Scalar.indexCast arg18
  let c528_1139 : Index := 528#32
  let c0_1140 : Index := 0#32
  ![v5038.toNat, 528, 0]
def k0_off458 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5048 : Index := Scalar.indexCast arg18
  let c536_1141 : Index := 536#32
  let c0_1142 : Index := 0#32
  ![v5048.toNat, 536, 0]
def k0_off459 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5058 : Index := Scalar.indexCast arg18
  let c544_1143 : Index := 544#32
  let c0_1144 : Index := 0#32
  ![v5058.toNat, 544, 0]
def k0_off460 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5068 : Index := Scalar.indexCast arg18
  let c552_1145 : Index := 552#32
  let c0_1146 : Index := 0#32
  ![v5068.toNat, 552, 0]
def k0_off461 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5078 : Index := Scalar.indexCast arg18
  let c560_1147 : Index := 560#32
  let c0_1148 : Index := 0#32
  ![v5078.toNat, 560, 0]
def k0_off462 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5088 : Index := Scalar.indexCast arg18
  let c568_1149 : Index := 568#32
  let c0_1150 : Index := 0#32
  ![v5088.toNat, 568, 0]
def k0_off463 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5098 : Index := Scalar.indexCast arg18
  let c576_1151 : Index := 576#32
  let c0_1152 : Index := 0#32
  ![v5098.toNat, 576, 0]
def k0_off464 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5108 : Index := Scalar.indexCast arg18
  let c584_1153 : Index := 584#32
  let c0_1154 : Index := 0#32
  ![v5108.toNat, 584, 0]
def k0_off465 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5118 : Index := Scalar.indexCast arg18
  let c592_1155 : Index := 592#32
  let c0_1156 : Index := 0#32
  ![v5118.toNat, 592, 0]
def k0_off466 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5128 : Index := Scalar.indexCast arg18
  let c600_1157 : Index := 600#32
  let c0_1158 : Index := 0#32
  ![v5128.toNat, 600, 0]
def k0_off467 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5138 : Index := Scalar.indexCast arg18
  let c608_1159 : Index := 608#32
  let c0_1160 : Index := 0#32
  ![v5138.toNat, 608, 0]
def k0_off468 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5148 : Index := Scalar.indexCast arg18
  let c616_1161 : Index := 616#32
  let c0_1162 : Index := 0#32
  ![v5148.toNat, 616, 0]
def k0_off469 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5158 : Index := Scalar.indexCast arg18
  let c624_1163 : Index := 624#32
  let c0_1164 : Index := 0#32
  ![v5158.toNat, 624, 0]
def k0_off470 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5168 : Index := Scalar.indexCast arg18
  let c632_1165 : Index := 632#32
  let c0_1166 : Index := 0#32
  ![v5168.toNat, 632, 0]
def k0_off471 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5178 : Index := Scalar.indexCast arg18
  let c640_1167 : Index := 640#32
  let c0_1168 : Index := 0#32
  ![v5178.toNat, 640, 0]
def k0_off472 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5188 : Index := Scalar.indexCast arg18
  let c648_1169 : Index := 648#32
  let c0_1170 : Index := 0#32
  ![v5188.toNat, 648, 0]
def k0_off473 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5198 : Index := Scalar.indexCast arg18
  let c656_1171 : Index := 656#32
  let c0_1172 : Index := 0#32
  ![v5198.toNat, 656, 0]
def k0_off474 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5208 : Index := Scalar.indexCast arg18
  let c664_1173 : Index := 664#32
  let c0_1174 : Index := 0#32
  ![v5208.toNat, 664, 0]
def k0_off475 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5218 : Index := Scalar.indexCast arg18
  let c672_1175 : Index := 672#32
  let c0_1176 : Index := 0#32
  ![v5218.toNat, 672, 0]
def k0_off476 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5228 : Index := Scalar.indexCast arg18
  let c680_1177 : Index := 680#32
  let c0_1178 : Index := 0#32
  ![v5228.toNat, 680, 0]
def k0_off477 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5238 : Index := Scalar.indexCast arg18
  let c688_1179 : Index := 688#32
  let c0_1180 : Index := 0#32
  ![v5238.toNat, 688, 0]
def k0_off478 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5248 : Index := Scalar.indexCast arg18
  let c696_1181 : Index := 696#32
  let c0_1182 : Index := 0#32
  ![v5248.toNat, 696, 0]
def k0_off479 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5258 : Index := Scalar.indexCast arg18
  let c704_1183 : Index := 704#32
  let c0_1184 : Index := 0#32
  ![v5258.toNat, 704, 0]
def k0_off480 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5268 : Index := Scalar.indexCast arg18
  let c712_1185 : Index := 712#32
  let c0_1186 : Index := 0#32
  ![v5268.toNat, 712, 0]
def k0_off481 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5278 : Index := Scalar.indexCast arg18
  let c720_1187 : Index := 720#32
  let c0_1188 : Index := 0#32
  ![v5278.toNat, 720, 0]
def k0_off482 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5288 : Index := Scalar.indexCast arg18
  let c728_1189 : Index := 728#32
  let c0_1190 : Index := 0#32
  ![v5288.toNat, 728, 0]
def k0_off483 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5298 : Index := Scalar.indexCast arg18
  let c736_1191 : Index := 736#32
  let c0_1192 : Index := 0#32
  ![v5298.toNat, 736, 0]
def k0_off484 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5308 : Index := Scalar.indexCast arg18
  let c744_1193 : Index := 744#32
  let c0_1194 : Index := 0#32
  ![v5308.toNat, 744, 0]
def k0_off485 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5318 : Index := Scalar.indexCast arg18
  let c752_1195 : Index := 752#32
  let c0_1196 : Index := 0#32
  ![v5318.toNat, 752, 0]
def k0_off486 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5328 : Index := Scalar.indexCast arg18
  let c760_1197 : Index := 760#32
  let c0_1198 : Index := 0#32
  ![v5328.toNat, 760, 0]
def k0_off487 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5338 : Index := Scalar.indexCast arg18
  let c768_1199 : Index := 768#32
  let c0_1200 : Index := 0#32
  ![v5338.toNat, 768, 0]
def k0_off488 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5348 : Index := Scalar.indexCast arg18
  let c776_1201 : Index := 776#32
  let c0_1202 : Index := 0#32
  ![v5348.toNat, 776, 0]
def k0_off489 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5358 : Index := Scalar.indexCast arg18
  let c784_1203 : Index := 784#32
  let c0_1204 : Index := 0#32
  ![v5358.toNat, 784, 0]
def k0_off490 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5368 : Index := Scalar.indexCast arg18
  let c792_1205 : Index := 792#32
  let c0_1206 : Index := 0#32
  ![v5368.toNat, 792, 0]
def k0_off491 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5378 : Index := Scalar.indexCast arg18
  let c800_1207 : Index := 800#32
  let c0_1208 : Index := 0#32
  ![v5378.toNat, 800, 0]
def k0_off492 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5388 : Index := Scalar.indexCast arg18
  let c808_1209 : Index := 808#32
  let c0_1210 : Index := 0#32
  ![v5388.toNat, 808, 0]
def k0_off493 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5398 : Index := Scalar.indexCast arg18
  let c816_1211 : Index := 816#32
  let c0_1212 : Index := 0#32
  ![v5398.toNat, 816, 0]
def k0_off494 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5408 : Index := Scalar.indexCast arg18
  let c824_1213 : Index := 824#32
  let c0_1214 : Index := 0#32
  ![v5408.toNat, 824, 0]
def k0_off495 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5418 : Index := Scalar.indexCast arg18
  let c832_1215 : Index := 832#32
  let c0_1216 : Index := 0#32
  ![v5418.toNat, 832, 0]
def k0_off496 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5428 : Index := Scalar.indexCast arg18
  let c840_1217 : Index := 840#32
  let c0_1218 : Index := 0#32
  ![v5428.toNat, 840, 0]
def k0_off497 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5438 : Index := Scalar.indexCast arg18
  let c848_1219 : Index := 848#32
  let c0_1220 : Index := 0#32
  ![v5438.toNat, 848, 0]
def k0_off498 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5448 : Index := Scalar.indexCast arg18
  let c856_1221 : Index := 856#32
  let c0_1222 : Index := 0#32
  ![v5448.toNat, 856, 0]
def k0_off499 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5458 : Index := Scalar.indexCast arg18
  let c864_1223 : Index := 864#32
  let c0_1224 : Index := 0#32
  ![v5458.toNat, 864, 0]
def k0_off500 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5468 : Index := Scalar.indexCast arg18
  let c872_1225 : Index := 872#32
  let c0_1226 : Index := 0#32
  ![v5468.toNat, 872, 0]
def k0_off501 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5478 : Index := Scalar.indexCast arg18
  let c880_1227 : Index := 880#32
  let c0_1228 : Index := 0#32
  ![v5478.toNat, 880, 0]
def k0_off502 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5488 : Index := Scalar.indexCast arg18
  let c888_1229 : Index := 888#32
  let c0_1230 : Index := 0#32
  ![v5488.toNat, 888, 0]
def k0_off503 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5498 : Index := Scalar.indexCast arg18
  let c896_1231 : Index := 896#32
  let c0_1232 : Index := 0#32
  ![v5498.toNat, 896, 0]
def k0_off504 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5508 : Index := Scalar.indexCast arg18
  let c904_1233 : Index := 904#32
  let c0_1234 : Index := 0#32
  ![v5508.toNat, 904, 0]
def k0_off505 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5518 : Index := Scalar.indexCast arg18
  let c912_1235 : Index := 912#32
  let c0_1236 : Index := 0#32
  ![v5518.toNat, 912, 0]
def k0_off506 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5528 : Index := Scalar.indexCast arg18
  let c920_1237 : Index := 920#32
  let c0_1238 : Index := 0#32
  ![v5528.toNat, 920, 0]
def k0_off507 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5538 : Index := Scalar.indexCast arg18
  let c928_1239 : Index := 928#32
  let c0_1240 : Index := 0#32
  ![v5538.toNat, 928, 0]
def k0_off508 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5548 : Index := Scalar.indexCast arg18
  let c936_1241 : Index := 936#32
  let c0_1242 : Index := 0#32
  ![v5548.toNat, 936, 0]
def k0_off509 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5558 : Index := Scalar.indexCast arg18
  let c944_1243 : Index := 944#32
  let c0_1244 : Index := 0#32
  ![v5558.toNat, 944, 0]
def k0_off510 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5568 : Index := Scalar.indexCast arg18
  let c952_1245 : Index := 952#32
  let c0_1246 : Index := 0#32
  ![v5568.toNat, 952, 0]
def k0_off511 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5578 : Index := Scalar.indexCast arg18
  let c960_1247 : Index := 960#32
  let c0_1248 : Index := 0#32
  ![v5578.toNat, 960, 0]
def k0_off512 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5588 : Index := Scalar.indexCast arg18
  let c968_1249 : Index := 968#32
  let c0_1250 : Index := 0#32
  ![v5588.toNat, 968, 0]
def k0_off513 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5598 : Index := Scalar.indexCast arg18
  let c976_1251 : Index := 976#32
  let c0_1252 : Index := 0#32
  ![v5598.toNat, 976, 0]
def k0_off514 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5608 : Index := Scalar.indexCast arg18
  let c984_1253 : Index := 984#32
  let c0_1254 : Index := 0#32
  ![v5608.toNat, 984, 0]
def k0_off515 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5618 : Index := Scalar.indexCast arg18
  let c992_1255 : Index := 992#32
  let c0_1256 : Index := 0#32
  ![v5618.toNat, 992, 0]
def k0_off516 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5628 : Index := Scalar.indexCast arg18
  let c1000_1257 : Index := 1000#32
  let c0_1258 : Index := 0#32
  ![v5628.toNat, 1000, 0]
def k0_off517 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5638 : Index := Scalar.indexCast arg18
  let c1008_1259 : Index := 1008#32
  let c0_1260 : Index := 0#32
  ![v5638.toNat, 1008, 0]
def k0_off518 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5648 : Index := Scalar.indexCast arg18
  let c1016_1261 : Index := 1016#32
  let c0_1262 : Index := 0#32
  ![v5648.toNat, 1016, 0]
def k0_off519 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5660 : Index := Scalar.indexCast arg18
  let c0_1264 : Index := 0#32
  let c768_1265 : Index := 768#32
  ![v5660.toNat, 0, 768]
def k0_off520 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5684 : Index := Scalar.indexCast arg18
  let c0_1275 : Index := 0#32
  let c256_1276 : Index := 256#32
  ![v5684.toNat, 0, 256]
def k0_off521 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5690 : Index := Scalar.indexCast arg18
  let c8_1277 : Index := 8#32
  let c256_1278 : Index := 256#32
  ![v5690.toNat, 8, 256]
def k0_off522 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5700 : Index := Scalar.indexCast arg18
  let c16_1279 : Index := 16#32
  let c256_1280 : Index := 256#32
  ![v5700.toNat, 16, 256]
def k0_off523 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5710 : Index := Scalar.indexCast arg18
  let c24_1281 : Index := 24#32
  let c256_1282 : Index := 256#32
  ![v5710.toNat, 24, 256]
def k0_off524 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5720 : Index := Scalar.indexCast arg18
  let c32_1283 : Index := 32#32
  let c256_1284 : Index := 256#32
  ![v5720.toNat, 32, 256]
def k0_off525 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5730 : Index := Scalar.indexCast arg18
  let c40_1285 : Index := 40#32
  let c256_1286 : Index := 256#32
  ![v5730.toNat, 40, 256]
def k0_off526 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5740 : Index := Scalar.indexCast arg18
  let c48_1287 : Index := 48#32
  let c256_1288 : Index := 256#32
  ![v5740.toNat, 48, 256]
def k0_off527 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5750 : Index := Scalar.indexCast arg18
  let c56_1289 : Index := 56#32
  let c256_1290 : Index := 256#32
  ![v5750.toNat, 56, 256]
def k0_off528 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5760 : Index := Scalar.indexCast arg18
  let c64_1291 : Index := 64#32
  let c256_1292 : Index := 256#32
  ![v5760.toNat, 64, 256]
def k0_off529 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5770 : Index := Scalar.indexCast arg18
  let c72_1293 : Index := 72#32
  let c256_1294 : Index := 256#32
  ![v5770.toNat, 72, 256]
def k0_off530 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5780 : Index := Scalar.indexCast arg18
  let c80_1295 : Index := 80#32
  let c256_1296 : Index := 256#32
  ![v5780.toNat, 80, 256]
def k0_off531 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5790 : Index := Scalar.indexCast arg18
  let c88_1297 : Index := 88#32
  let c256_1298 : Index := 256#32
  ![v5790.toNat, 88, 256]
def k0_off532 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5800 : Index := Scalar.indexCast arg18
  let c96_1299 : Index := 96#32
  let c256_1300 : Index := 256#32
  ![v5800.toNat, 96, 256]
def k0_off533 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5810 : Index := Scalar.indexCast arg18
  let c104_1301 : Index := 104#32
  let c256_1302 : Index := 256#32
  ![v5810.toNat, 104, 256]
def k0_off534 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5820 : Index := Scalar.indexCast arg18
  let c112_1303 : Index := 112#32
  let c256_1304 : Index := 256#32
  ![v5820.toNat, 112, 256]
def k0_off535 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5830 : Index := Scalar.indexCast arg18
  let c120_1305 : Index := 120#32
  let c256_1306 : Index := 256#32
  ![v5830.toNat, 120, 256]
def k0_off536 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5840 : Index := Scalar.indexCast arg18
  let c128_1307 : Index := 128#32
  let c256_1308 : Index := 256#32
  ![v5840.toNat, 128, 256]
def k0_off537 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5850 : Index := Scalar.indexCast arg18
  let c136_1309 : Index := 136#32
  let c256_1310 : Index := 256#32
  ![v5850.toNat, 136, 256]
def k0_off538 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5860 : Index := Scalar.indexCast arg18
  let c144_1311 : Index := 144#32
  let c256_1312 : Index := 256#32
  ![v5860.toNat, 144, 256]
def k0_off539 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5870 : Index := Scalar.indexCast arg18
  let c152_1313 : Index := 152#32
  let c256_1314 : Index := 256#32
  ![v5870.toNat, 152, 256]
def k0_off540 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5880 : Index := Scalar.indexCast arg18
  let c160_1315 : Index := 160#32
  let c256_1316 : Index := 256#32
  ![v5880.toNat, 160, 256]
def k0_off541 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5890 : Index := Scalar.indexCast arg18
  let c168_1317 : Index := 168#32
  let c256_1318 : Index := 256#32
  ![v5890.toNat, 168, 256]
def k0_off542 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5900 : Index := Scalar.indexCast arg18
  let c176_1319 : Index := 176#32
  let c256_1320 : Index := 256#32
  ![v5900.toNat, 176, 256]
def k0_off543 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5910 : Index := Scalar.indexCast arg18
  let c184_1321 : Index := 184#32
  let c256_1322 : Index := 256#32
  ![v5910.toNat, 184, 256]
def k0_off544 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5920 : Index := Scalar.indexCast arg18
  let c192_1323 : Index := 192#32
  let c256_1324 : Index := 256#32
  ![v5920.toNat, 192, 256]
def k0_off545 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5930 : Index := Scalar.indexCast arg18
  let c200_1325 : Index := 200#32
  let c256_1326 : Index := 256#32
  ![v5930.toNat, 200, 256]
def k0_off546 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5940 : Index := Scalar.indexCast arg18
  let c208_1327 : Index := 208#32
  let c256_1328 : Index := 256#32
  ![v5940.toNat, 208, 256]
def k0_off547 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5950 : Index := Scalar.indexCast arg18
  let c216_1329 : Index := 216#32
  let c256_1330 : Index := 256#32
  ![v5950.toNat, 216, 256]
def k0_off548 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5960 : Index := Scalar.indexCast arg18
  let c224_1331 : Index := 224#32
  let c256_1332 : Index := 256#32
  ![v5960.toNat, 224, 256]
def k0_off549 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5970 : Index := Scalar.indexCast arg18
  let c232_1333 : Index := 232#32
  let c256_1334 : Index := 256#32
  ![v5970.toNat, 232, 256]
def k0_off550 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5980 : Index := Scalar.indexCast arg18
  let c240_1335 : Index := 240#32
  let c256_1336 : Index := 256#32
  ![v5980.toNat, 240, 256]
def k0_off551 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v5990 : Index := Scalar.indexCast arg18
  let c248_1337 : Index := 248#32
  let c256_1338 : Index := 256#32
  ![v5990.toNat, 248, 256]
def k0_off552 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6000 : Index := Scalar.indexCast arg18
  let c256_1339 : Index := 256#32
  let c256_1340 : Index := 256#32
  ![v6000.toNat, 256, 256]
def k0_off553 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6010 : Index := Scalar.indexCast arg18
  let c264_1341 : Index := 264#32
  let c256_1342 : Index := 256#32
  ![v6010.toNat, 264, 256]
def k0_off554 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6020 : Index := Scalar.indexCast arg18
  let c272_1343 : Index := 272#32
  let c256_1344 : Index := 256#32
  ![v6020.toNat, 272, 256]
def k0_off555 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6030 : Index := Scalar.indexCast arg18
  let c280_1345 : Index := 280#32
  let c256_1346 : Index := 256#32
  ![v6030.toNat, 280, 256]
def k0_off556 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6040 : Index := Scalar.indexCast arg18
  let c288_1347 : Index := 288#32
  let c256_1348 : Index := 256#32
  ![v6040.toNat, 288, 256]
def k0_off557 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6050 : Index := Scalar.indexCast arg18
  let c296_1349 : Index := 296#32
  let c256_1350 : Index := 256#32
  ![v6050.toNat, 296, 256]
def k0_off558 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6060 : Index := Scalar.indexCast arg18
  let c304_1351 : Index := 304#32
  let c256_1352 : Index := 256#32
  ![v6060.toNat, 304, 256]
def k0_off559 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6070 : Index := Scalar.indexCast arg18
  let c312_1353 : Index := 312#32
  let c256_1354 : Index := 256#32
  ![v6070.toNat, 312, 256]
def k0_off560 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6080 : Index := Scalar.indexCast arg18
  let c320_1355 : Index := 320#32
  let c256_1356 : Index := 256#32
  ![v6080.toNat, 320, 256]
def k0_off561 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6090 : Index := Scalar.indexCast arg18
  let c328_1357 : Index := 328#32
  let c256_1358 : Index := 256#32
  ![v6090.toNat, 328, 256]
def k0_off562 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6100 : Index := Scalar.indexCast arg18
  let c336_1359 : Index := 336#32
  let c256_1360 : Index := 256#32
  ![v6100.toNat, 336, 256]
def k0_off563 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6110 : Index := Scalar.indexCast arg18
  let c344_1361 : Index := 344#32
  let c256_1362 : Index := 256#32
  ![v6110.toNat, 344, 256]
def k0_off564 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6120 : Index := Scalar.indexCast arg18
  let c352_1363 : Index := 352#32
  let c256_1364 : Index := 256#32
  ![v6120.toNat, 352, 256]
def k0_off565 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6130 : Index := Scalar.indexCast arg18
  let c360_1365 : Index := 360#32
  let c256_1366 : Index := 256#32
  ![v6130.toNat, 360, 256]
def k0_off566 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6140 : Index := Scalar.indexCast arg18
  let c368_1367 : Index := 368#32
  let c256_1368 : Index := 256#32
  ![v6140.toNat, 368, 256]
def k0_off567 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6150 : Index := Scalar.indexCast arg18
  let c376_1369 : Index := 376#32
  let c256_1370 : Index := 256#32
  ![v6150.toNat, 376, 256]
def k0_off568 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6160 : Index := Scalar.indexCast arg18
  let c384_1371 : Index := 384#32
  let c256_1372 : Index := 256#32
  ![v6160.toNat, 384, 256]
def k0_off569 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6170 : Index := Scalar.indexCast arg18
  let c392_1373 : Index := 392#32
  let c256_1374 : Index := 256#32
  ![v6170.toNat, 392, 256]
def k0_off570 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6180 : Index := Scalar.indexCast arg18
  let c400_1375 : Index := 400#32
  let c256_1376 : Index := 256#32
  ![v6180.toNat, 400, 256]
def k0_off571 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6190 : Index := Scalar.indexCast arg18
  let c408_1377 : Index := 408#32
  let c256_1378 : Index := 256#32
  ![v6190.toNat, 408, 256]
def k0_off572 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6200 : Index := Scalar.indexCast arg18
  let c416_1379 : Index := 416#32
  let c256_1380 : Index := 256#32
  ![v6200.toNat, 416, 256]
def k0_off573 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6210 : Index := Scalar.indexCast arg18
  let c424_1381 : Index := 424#32
  let c256_1382 : Index := 256#32
  ![v6210.toNat, 424, 256]
def k0_off574 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6220 : Index := Scalar.indexCast arg18
  let c432_1383 : Index := 432#32
  let c256_1384 : Index := 256#32
  ![v6220.toNat, 432, 256]
def k0_off575 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6230 : Index := Scalar.indexCast arg18
  let c440_1385 : Index := 440#32
  let c256_1386 : Index := 256#32
  ![v6230.toNat, 440, 256]
def k0_off576 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6240 : Index := Scalar.indexCast arg18
  let c448_1387 : Index := 448#32
  let c256_1388 : Index := 256#32
  ![v6240.toNat, 448, 256]
def k0_off577 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6250 : Index := Scalar.indexCast arg18
  let c456_1389 : Index := 456#32
  let c256_1390 : Index := 256#32
  ![v6250.toNat, 456, 256]
def k0_off578 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6260 : Index := Scalar.indexCast arg18
  let c464_1391 : Index := 464#32
  let c256_1392 : Index := 256#32
  ![v6260.toNat, 464, 256]
def k0_off579 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6270 : Index := Scalar.indexCast arg18
  let c472_1393 : Index := 472#32
  let c256_1394 : Index := 256#32
  ![v6270.toNat, 472, 256]
def k0_off580 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6280 : Index := Scalar.indexCast arg18
  let c480_1395 : Index := 480#32
  let c256_1396 : Index := 256#32
  ![v6280.toNat, 480, 256]
def k0_off581 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6290 : Index := Scalar.indexCast arg18
  let c488_1397 : Index := 488#32
  let c256_1398 : Index := 256#32
  ![v6290.toNat, 488, 256]
def k0_off582 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6300 : Index := Scalar.indexCast arg18
  let c496_1399 : Index := 496#32
  let c256_1400 : Index := 256#32
  ![v6300.toNat, 496, 256]
def k0_off583 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6310 : Index := Scalar.indexCast arg18
  let c504_1401 : Index := 504#32
  let c256_1402 : Index := 256#32
  ![v6310.toNat, 504, 256]
def k0_off584 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6320 : Index := Scalar.indexCast arg18
  let c512_1403 : Index := 512#32
  let c256_1404 : Index := 256#32
  ![v6320.toNat, 512, 256]
def k0_off585 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6330 : Index := Scalar.indexCast arg18
  let c520_1405 : Index := 520#32
  let c256_1406 : Index := 256#32
  ![v6330.toNat, 520, 256]
def k0_off586 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6340 : Index := Scalar.indexCast arg18
  let c528_1407 : Index := 528#32
  let c256_1408 : Index := 256#32
  ![v6340.toNat, 528, 256]
def k0_off587 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6350 : Index := Scalar.indexCast arg18
  let c536_1409 : Index := 536#32
  let c256_1410 : Index := 256#32
  ![v6350.toNat, 536, 256]
def k0_off588 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6360 : Index := Scalar.indexCast arg18
  let c544_1411 : Index := 544#32
  let c256_1412 : Index := 256#32
  ![v6360.toNat, 544, 256]
def k0_off589 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6370 : Index := Scalar.indexCast arg18
  let c552_1413 : Index := 552#32
  let c256_1414 : Index := 256#32
  ![v6370.toNat, 552, 256]
def k0_off590 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6380 : Index := Scalar.indexCast arg18
  let c560_1415 : Index := 560#32
  let c256_1416 : Index := 256#32
  ![v6380.toNat, 560, 256]
def k0_off591 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6390 : Index := Scalar.indexCast arg18
  let c568_1417 : Index := 568#32
  let c256_1418 : Index := 256#32
  ![v6390.toNat, 568, 256]
def k0_off592 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6400 : Index := Scalar.indexCast arg18
  let c576_1419 : Index := 576#32
  let c256_1420 : Index := 256#32
  ![v6400.toNat, 576, 256]
def k0_off593 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6410 : Index := Scalar.indexCast arg18
  let c584_1421 : Index := 584#32
  let c256_1422 : Index := 256#32
  ![v6410.toNat, 584, 256]
def k0_off594 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6420 : Index := Scalar.indexCast arg18
  let c592_1423 : Index := 592#32
  let c256_1424 : Index := 256#32
  ![v6420.toNat, 592, 256]
def k0_off595 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6430 : Index := Scalar.indexCast arg18
  let c600_1425 : Index := 600#32
  let c256_1426 : Index := 256#32
  ![v6430.toNat, 600, 256]
def k0_off596 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6440 : Index := Scalar.indexCast arg18
  let c608_1427 : Index := 608#32
  let c256_1428 : Index := 256#32
  ![v6440.toNat, 608, 256]
def k0_off597 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6450 : Index := Scalar.indexCast arg18
  let c616_1429 : Index := 616#32
  let c256_1430 : Index := 256#32
  ![v6450.toNat, 616, 256]
def k0_off598 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6460 : Index := Scalar.indexCast arg18
  let c624_1431 : Index := 624#32
  let c256_1432 : Index := 256#32
  ![v6460.toNat, 624, 256]
def k0_off599 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6470 : Index := Scalar.indexCast arg18
  let c632_1433 : Index := 632#32
  let c256_1434 : Index := 256#32
  ![v6470.toNat, 632, 256]
def k0_off600 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6480 : Index := Scalar.indexCast arg18
  let c640_1435 : Index := 640#32
  let c256_1436 : Index := 256#32
  ![v6480.toNat, 640, 256]
def k0_off601 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6490 : Index := Scalar.indexCast arg18
  let c648_1437 : Index := 648#32
  let c256_1438 : Index := 256#32
  ![v6490.toNat, 648, 256]
def k0_off602 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6500 : Index := Scalar.indexCast arg18
  let c656_1439 : Index := 656#32
  let c256_1440 : Index := 256#32
  ![v6500.toNat, 656, 256]
def k0_off603 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6510 : Index := Scalar.indexCast arg18
  let c664_1441 : Index := 664#32
  let c256_1442 : Index := 256#32
  ![v6510.toNat, 664, 256]
def k0_off604 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6520 : Index := Scalar.indexCast arg18
  let c672_1443 : Index := 672#32
  let c256_1444 : Index := 256#32
  ![v6520.toNat, 672, 256]
def k0_off605 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6530 : Index := Scalar.indexCast arg18
  let c680_1445 : Index := 680#32
  let c256_1446 : Index := 256#32
  ![v6530.toNat, 680, 256]
def k0_off606 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6540 : Index := Scalar.indexCast arg18
  let c688_1447 : Index := 688#32
  let c256_1448 : Index := 256#32
  ![v6540.toNat, 688, 256]
def k0_off607 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6550 : Index := Scalar.indexCast arg18
  let c696_1449 : Index := 696#32
  let c256_1450 : Index := 256#32
  ![v6550.toNat, 696, 256]
def k0_off608 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6560 : Index := Scalar.indexCast arg18
  let c704_1451 : Index := 704#32
  let c256_1452 : Index := 256#32
  ![v6560.toNat, 704, 256]
def k0_off609 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6570 : Index := Scalar.indexCast arg18
  let c712_1453 : Index := 712#32
  let c256_1454 : Index := 256#32
  ![v6570.toNat, 712, 256]
def k0_off610 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6580 : Index := Scalar.indexCast arg18
  let c720_1455 : Index := 720#32
  let c256_1456 : Index := 256#32
  ![v6580.toNat, 720, 256]
def k0_off611 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6590 : Index := Scalar.indexCast arg18
  let c728_1457 : Index := 728#32
  let c256_1458 : Index := 256#32
  ![v6590.toNat, 728, 256]
def k0_off612 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6600 : Index := Scalar.indexCast arg18
  let c736_1459 : Index := 736#32
  let c256_1460 : Index := 256#32
  ![v6600.toNat, 736, 256]
def k0_off613 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6610 : Index := Scalar.indexCast arg18
  let c744_1461 : Index := 744#32
  let c256_1462 : Index := 256#32
  ![v6610.toNat, 744, 256]
def k0_off614 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6620 : Index := Scalar.indexCast arg18
  let c752_1463 : Index := 752#32
  let c256_1464 : Index := 256#32
  ![v6620.toNat, 752, 256]
def k0_off615 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6630 : Index := Scalar.indexCast arg18
  let c760_1465 : Index := 760#32
  let c256_1466 : Index := 256#32
  ![v6630.toNat, 760, 256]
def k0_off616 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6640 : Index := Scalar.indexCast arg18
  let c768_1467 : Index := 768#32
  let c256_1468 : Index := 256#32
  ![v6640.toNat, 768, 256]
def k0_off617 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6650 : Index := Scalar.indexCast arg18
  let c776_1469 : Index := 776#32
  let c256_1470 : Index := 256#32
  ![v6650.toNat, 776, 256]
def k0_off618 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6660 : Index := Scalar.indexCast arg18
  let c784_1471 : Index := 784#32
  let c256_1472 : Index := 256#32
  ![v6660.toNat, 784, 256]
def k0_off619 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6670 : Index := Scalar.indexCast arg18
  let c792_1473 : Index := 792#32
  let c256_1474 : Index := 256#32
  ![v6670.toNat, 792, 256]
def k0_off620 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6680 : Index := Scalar.indexCast arg18
  let c800_1475 : Index := 800#32
  let c256_1476 : Index := 256#32
  ![v6680.toNat, 800, 256]
def k0_off621 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6690 : Index := Scalar.indexCast arg18
  let c808_1477 : Index := 808#32
  let c256_1478 : Index := 256#32
  ![v6690.toNat, 808, 256]
def k0_off622 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6700 : Index := Scalar.indexCast arg18
  let c816_1479 : Index := 816#32
  let c256_1480 : Index := 256#32
  ![v6700.toNat, 816, 256]
def k0_off623 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6710 : Index := Scalar.indexCast arg18
  let c824_1481 : Index := 824#32
  let c256_1482 : Index := 256#32
  ![v6710.toNat, 824, 256]
def k0_off624 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6720 : Index := Scalar.indexCast arg18
  let c832_1483 : Index := 832#32
  let c256_1484 : Index := 256#32
  ![v6720.toNat, 832, 256]
def k0_off625 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6730 : Index := Scalar.indexCast arg18
  let c840_1485 : Index := 840#32
  let c256_1486 : Index := 256#32
  ![v6730.toNat, 840, 256]
def k0_off626 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6740 : Index := Scalar.indexCast arg18
  let c848_1487 : Index := 848#32
  let c256_1488 : Index := 256#32
  ![v6740.toNat, 848, 256]
def k0_off627 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6750 : Index := Scalar.indexCast arg18
  let c856_1489 : Index := 856#32
  let c256_1490 : Index := 256#32
  ![v6750.toNat, 856, 256]
def k0_off628 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6760 : Index := Scalar.indexCast arg18
  let c864_1491 : Index := 864#32
  let c256_1492 : Index := 256#32
  ![v6760.toNat, 864, 256]
def k0_off629 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6770 : Index := Scalar.indexCast arg18
  let c872_1493 : Index := 872#32
  let c256_1494 : Index := 256#32
  ![v6770.toNat, 872, 256]
def k0_off630 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6780 : Index := Scalar.indexCast arg18
  let c880_1495 : Index := 880#32
  let c256_1496 : Index := 256#32
  ![v6780.toNat, 880, 256]
def k0_off631 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6790 : Index := Scalar.indexCast arg18
  let c888_1497 : Index := 888#32
  let c256_1498 : Index := 256#32
  ![v6790.toNat, 888, 256]
def k0_off632 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6800 : Index := Scalar.indexCast arg18
  let c896_1499 : Index := 896#32
  let c256_1500 : Index := 256#32
  ![v6800.toNat, 896, 256]
def k0_off633 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6810 : Index := Scalar.indexCast arg18
  let c904_1501 : Index := 904#32
  let c256_1502 : Index := 256#32
  ![v6810.toNat, 904, 256]
def k0_off634 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6820 : Index := Scalar.indexCast arg18
  let c912_1503 : Index := 912#32
  let c256_1504 : Index := 256#32
  ![v6820.toNat, 912, 256]
def k0_off635 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6830 : Index := Scalar.indexCast arg18
  let c920_1505 : Index := 920#32
  let c256_1506 : Index := 256#32
  ![v6830.toNat, 920, 256]
def k0_off636 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6840 : Index := Scalar.indexCast arg18
  let c928_1507 : Index := 928#32
  let c256_1508 : Index := 256#32
  ![v6840.toNat, 928, 256]
def k0_off637 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6850 : Index := Scalar.indexCast arg18
  let c936_1509 : Index := 936#32
  let c256_1510 : Index := 256#32
  ![v6850.toNat, 936, 256]
def k0_off638 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6860 : Index := Scalar.indexCast arg18
  let c944_1511 : Index := 944#32
  let c256_1512 : Index := 256#32
  ![v6860.toNat, 944, 256]
def k0_off639 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6870 : Index := Scalar.indexCast arg18
  let c952_1513 : Index := 952#32
  let c256_1514 : Index := 256#32
  ![v6870.toNat, 952, 256]
def k0_off640 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6880 : Index := Scalar.indexCast arg18
  let c960_1515 : Index := 960#32
  let c256_1516 : Index := 256#32
  ![v6880.toNat, 960, 256]
def k0_off641 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6890 : Index := Scalar.indexCast arg18
  let c968_1517 : Index := 968#32
  let c256_1518 : Index := 256#32
  ![v6890.toNat, 968, 256]
def k0_off642 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6900 : Index := Scalar.indexCast arg18
  let c976_1519 : Index := 976#32
  let c256_1520 : Index := 256#32
  ![v6900.toNat, 976, 256]
def k0_off643 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6910 : Index := Scalar.indexCast arg18
  let c984_1521 : Index := 984#32
  let c256_1522 : Index := 256#32
  ![v6910.toNat, 984, 256]
def k0_off644 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6920 : Index := Scalar.indexCast arg18
  let c992_1523 : Index := 992#32
  let c256_1524 : Index := 256#32
  ![v6920.toNat, 992, 256]
def k0_off645 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6930 : Index := Scalar.indexCast arg18
  let c1000_1525 : Index := 1000#32
  let c256_1526 : Index := 256#32
  ![v6930.toNat, 1000, 256]
def k0_off646 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6940 : Index := Scalar.indexCast arg18
  let c1008_1527 : Index := 1008#32
  let c256_1528 : Index := 256#32
  ![v6940.toNat, 1008, 256]
def k0_off647 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6950 : Index := Scalar.indexCast arg18
  let c1016_1529 : Index := 1016#32
  let c256_1530 : Index := 256#32
  ![v6950.toNat, 1016, 256]
def k0_off648 (k0_t1 : Fin k0_t1_loop.trips) : Fin 3 → Nat :=
  let c0_i32_209 : BitVec 32 := 0#32
  let c1_i32_210 : BitVec 32 := 1#32
  let arg18 : BitVec 32 := Scf.iv c0_i32_209 c1_i32_210 k0_t1
  let v6962 : Index := Scalar.indexCast arg18
  let c0_1532 : Index := 0#32
  let c1024 : Index := 1024#32
  ![v6962.toNat, 0, 1024]
@[reducible] def k0_t2_loop : Scf.Loop 32 :=
  let c0_i32_320 : BitVec 32 := 0#32
  let c16_i32_321 : BitVec 32 := 16#32
  let v462 : BitVec 32 := Scalar.addi c0_i32_320 c16_i32_321
  let c1_i32_322 : BitVec 32 := 1#32
  ⟨c0_i32_320, v462, c1_i32_322⟩
def k0_off649 (k0_t2 : Fin k0_t2_loop.trips) : Fin 3 → Nat :=
  let c0_i32_320 : BitVec 32 := 0#32
  let c1_i32_322 : BitVec 32 := 1#32
  let arg18 : BitVec 32 := Scf.iv c0_i32_320 c1_i32_322 k0_t2
  let v501 : Index := Scalar.indexCast arg18
  let c0_334 : Index := 0#32
  let c0_335 : Index := 0#32
  ![v501.toNat, 0, 0]
@[reducible] def k0_t3_loop : Scf.Loop 32 :=
  let c0_i32_337 : BitVec 32 := 0#32
  let c128_i32_338 : BitVec 32 := 128#32
  let v505 : BitVec 32 := Scalar.addi c0_i32_337 c128_i32_338
  let c1_i32_339 : BitVec 32 := 1#32
  ⟨c0_i32_337, v505, c1_i32_339⟩
def k0_off650 (k0_t2 : Fin k0_t2_loop.trips) (k0_t3 : Fin k0_t3_loop.trips) : Fin 3 → Nat :=
  let c0_i32_320 : BitVec 32 := 0#32
  let c1_i32_322 : BitVec 32 := 1#32
  let arg18 : BitVec 32 := Scf.iv c0_i32_320 c1_i32_322 k0_t2
  let v562 : Index := Scalar.indexCast arg18
  let c0_i32_337 : BitVec 32 := 0#32
  let c1_i32_339 : BitVec 32 := 1#32
  let arg19 : BitVec 32 := Scf.iv c0_i32_337 c1_i32_339 k0_t3
  let c8_i32_380 : BitVec 32 := 8#32
  let v561 : BitVec 32 := Scalar.muli arg19 c8_i32_380
  let v563 : Index := Scalar.indexCast v561
  let c0_381 : Index := 0#32
  ![v562.toNat, v563.toNat, 0]
def k0_off651 (k0_t2 : Fin k0_t2_loop.trips) : Fin 3 → Nat :=
  let c0_i32_320 : BitVec 32 := 0#32
  let c1_i32_322 : BitVec 32 := 1#32
  let arg18 : BitVec 32 := Scf.iv c0_i32_320 c1_i32_322 k0_t2
  let v513 : Index := Scalar.indexCast arg18
  let c0_344 : Index := 0#32
  let c256 : Index := 256#32
  ![v513.toNat, 0, 256]
@[reducible] def k0_t4_loop : Scf.Loop 32 :=
  let c0_i32_346 : BitVec 32 := 0#32
  let c128_i32_347 : BitVec 32 := 128#32
  let v517 : BitVec 32 := Scalar.addi c0_i32_346 c128_i32_347
  let c1_i32_348 : BitVec 32 := 1#32
  ⟨c0_i32_346, v517, c1_i32_348⟩
def k0_off652 (k0_t2 : Fin k0_t2_loop.trips) (k0_t4 : Fin k0_t4_loop.trips) : Fin 3 → Nat :=
  let c0_i32_320 : BitVec 32 := 0#32
  let c1_i32_322 : BitVec 32 := 1#32
  let arg18 : BitVec 32 := Scf.iv c0_i32_320 c1_i32_322 k0_t2
  let v562 : Index := Scalar.indexCast arg18
  let c0_i32_346 : BitVec 32 := 0#32
  let c1_i32_348 : BitVec 32 := 1#32
  let arg19 : BitVec 32 := Scf.iv c0_i32_346 c1_i32_348 k0_t4
  let c8_i32_380 : BitVec 32 := 8#32
  let v561 : BitVec 32 := Scalar.muli arg19 c8_i32_380
  let v563 : Index := Scalar.indexCast v561
  let c256_381 : Index := 256#32
  ![v562.toNat, v563.toNat, 256]
def k0_off653 (k0_t2 : Fin k0_t2_loop.trips) : Fin 3 → Nat :=
  let c0_i32_320 : BitVec 32 := 0#32
  let c1_i32_322 : BitVec 32 := 1#32
  let arg18 : BitVec 32 := Scf.iv c0_i32_320 c1_i32_322 k0_t2
  let v525 : Index := Scalar.indexCast arg18
  let c0_353 : Index := 0#32
  let c512 : Index := 512#32
  ![v525.toNat, 0, 512]
@[reducible] def k0_t5_loop : Scf.Loop 32 :=
  let c0_i32_355 : BitVec 32 := 0#32
  let c128_i32_356 : BitVec 32 := 128#32
  let v529 : BitVec 32 := Scalar.addi c0_i32_355 c128_i32_356
  let c1_i32_357 : BitVec 32 := 1#32
  ⟨c0_i32_355, v529, c1_i32_357⟩
def k0_off654 (k0_t2 : Fin k0_t2_loop.trips) (k0_t5 : Fin k0_t5_loop.trips) : Fin 3 → Nat :=
  let c0_i32_320 : BitVec 32 := 0#32
  let c1_i32_322 : BitVec 32 := 1#32
  let arg18 : BitVec 32 := Scf.iv c0_i32_320 c1_i32_322 k0_t2
  let v562 : Index := Scalar.indexCast arg18
  let c0_i32_355 : BitVec 32 := 0#32
  let c1_i32_357 : BitVec 32 := 1#32
  let arg19 : BitVec 32 := Scf.iv c0_i32_355 c1_i32_357 k0_t5
  let c8_i32_380 : BitVec 32 := 8#32
  let v561 : BitVec 32 := Scalar.muli arg19 c8_i32_380
  let v563 : Index := Scalar.indexCast v561
  let c512_381 : Index := 512#32
  ![v562.toNat, v563.toNat, 512]
def k0_off655 (k0_t2 : Fin k0_t2_loop.trips) : Fin 3 → Nat :=
  let c0_i32_320 : BitVec 32 := 0#32
  let c1_i32_322 : BitVec 32 := 1#32
  let arg18 : BitVec 32 := Scf.iv c0_i32_320 c1_i32_322 k0_t2
  let v537 : Index := Scalar.indexCast arg18
  let c0_362 : Index := 0#32
  let c768 : Index := 768#32
  ![v537.toNat, 0, 768]
@[reducible] def k0_t6_loop : Scf.Loop 32 :=
  let c0_i32_364 : BitVec 32 := 0#32
  let c128_i32_365 : BitVec 32 := 128#32
  let v541 : BitVec 32 := Scalar.addi c0_i32_364 c128_i32_365
  let c1_i32_366 : BitVec 32 := 1#32
  ⟨c0_i32_364, v541, c1_i32_366⟩
def k0_off656 (k0_t2 : Fin k0_t2_loop.trips) (k0_t6 : Fin k0_t6_loop.trips) : Fin 3 → Nat :=
  let c0_i32_320 : BitVec 32 := 0#32
  let c1_i32_322 : BitVec 32 := 1#32
  let arg18 : BitVec 32 := Scf.iv c0_i32_320 c1_i32_322 k0_t2
  let v562 : Index := Scalar.indexCast arg18
  let c0_i32_364 : BitVec 32 := 0#32
  let c1_i32_366 : BitVec 32 := 1#32
  let arg19 : BitVec 32 := Scf.iv c0_i32_364 c1_i32_366 k0_t6
  let c8_i32_380 : BitVec 32 := 8#32
  let v561 : BitVec 32 := Scalar.muli arg19 c8_i32_380
  let v563 : Index := Scalar.indexCast v561
  let c0_381 : Index := 0#32
  ![v562.toNat, v563.toNat, 0]
def k0_off657 (k0_t2 : Fin k0_t2_loop.trips) : Fin 3 → Nat :=
  let c0_i32_320 : BitVec 32 := 0#32
  let c1_i32_322 : BitVec 32 := 1#32
  let arg18 : BitVec 32 := Scf.iv c0_i32_320 c1_i32_322 k0_t2
  let v549 : Index := Scalar.indexCast arg18
  let c0_371 : Index := 0#32
  let c1024 : Index := 1024#32
  ![v549.toNat, 0, 1024]
@[reducible] def k0_t7_loop : Scf.Loop 32 :=
  let c0_i32_373 : BitVec 32 := 0#32
  let c128_i32_374 : BitVec 32 := 128#32
  let v553 : BitVec 32 := Scalar.addi c0_i32_373 c128_i32_374
  let c1_i32_375 : BitVec 32 := 1#32
  ⟨c0_i32_373, v553, c1_i32_375⟩
def k0_off658 (k0_t2 : Fin k0_t2_loop.trips) (k0_t7 : Fin k0_t7_loop.trips) : Fin 3 → Nat :=
  let c0_i32_320 : BitVec 32 := 0#32
  let c1_i32_322 : BitVec 32 := 1#32
  let arg18 : BitVec 32 := Scf.iv c0_i32_320 c1_i32_322 k0_t2
  let v562 : Index := Scalar.indexCast arg18
  let c0_i32_373 : BitVec 32 := 0#32
  let c1_i32_375 : BitVec 32 := 1#32
  let arg19 : BitVec 32 := Scf.iv c0_i32_373 c1_i32_375 k0_t7
  let c8_i32_380 : BitVec 32 := 8#32
  let v561 : BitVec 32 := Scalar.muli arg19 c8_i32_380
  let v563 : Index := Scalar.indexCast v561
  let c256_381 : Index := 256#32
  ![v562.toNat, v563.toNat, 256]
@[reducible] def k0_t8_loop : Scf.Loop 32 :=
  let c0_i32_321 : BitVec 32 := 0#32
  let c16_i32_322 : BitVec 32 := 16#32
  let v463 : BitVec 32 := Scalar.addi c0_i32_321 c16_i32_322
  let c1_i32_323 : BitVec 32 := 1#32
  ⟨c0_i32_321, v463, c1_i32_323⟩
def k0_off659 (k0_t8 : Fin k0_t8_loop.trips) : Fin 3 → Nat :=
  let c0_i32_321 : BitVec 32 := 0#32
  let c1_i32_323 : BitVec 32 := 1#32
  let arg18 : BitVec 32 := Scf.iv c0_i32_321 c1_i32_323 k0_t8
  let v470 : Index := Scalar.indexCast arg18
  let c0_328 : Index := 0#32
  let c0_329 : Index := 0#32
  ![v470.toNat, 0, 0]
@[reducible] def k0_t9_loop : Scf.Loop 32 :=
  let c0_i32_332 : BitVec 32 := 0#32
  let c128_i32_333 : BitVec 32 := 128#32
  let v476 : BitVec 32 := Scalar.addi c0_i32_332 c128_i32_333
  let c1_i32_334 : BitVec 32 := 1#32
  ⟨c0_i32_332, v476, c1_i32_334⟩
def k0_off660 (k0_t8 : Fin k0_t8_loop.trips) (k0_t9 : Fin k0_t9_loop.trips) : Fin 3 → Nat :=
  let c0_i32_321 : BitVec 32 := 0#32
  let c1_i32_323 : BitVec 32 := 1#32
  let arg18 : BitVec 32 := Scf.iv c0_i32_321 c1_i32_323 k0_t8
  let v511 : Index := Scalar.indexCast arg18
  let c0_i32_332 : BitVec 32 := 0#32
  let c1_i32_334 : BitVec 32 := 1#32
  let arg20 : BitVec 32 := Scf.iv c0_i32_332 c1_i32_334 k0_t9
  let c8_i32_364 : BitVec 32 := 8#32
  let v510 : BitVec 32 := Scalar.muli arg20 c8_i32_364
  let v512 : Index := Scalar.indexCast v510
  let c0_365 : Index := 0#32
  ![v511.toNat, v512.toNat, 0]
def k0_off661 (k0_t8 : Fin k0_t8_loop.trips) : Fin 3 → Nat :=
  let c0_i32_321 : BitVec 32 := 0#32
  let c1_i32_323 : BitVec 32 := 1#32
  let arg18 : BitVec 32 := Scf.iv c0_i32_321 c1_i32_323 k0_t8
  let v478 : Index := Scalar.indexCast arg18
  let c0_336 : Index := 0#32
  let c256 : Index := 256#32
  ![v478.toNat, 0, 256]
@[reducible] def k0_t10_loop : Scf.Loop 32 :=
  let c0_i32_339 : BitVec 32 := 0#32
  let c128_i32_340 : BitVec 32 := 128#32
  let v484 : BitVec 32 := Scalar.addi c0_i32_339 c128_i32_340
  let c1_i32_341 : BitVec 32 := 1#32
  ⟨c0_i32_339, v484, c1_i32_341⟩
def k0_off662 (k0_t8 : Fin k0_t8_loop.trips) (k0_t10 : Fin k0_t10_loop.trips) : Fin 3 → Nat :=
  let c0_i32_321 : BitVec 32 := 0#32
  let c1_i32_323 : BitVec 32 := 1#32
  let arg18 : BitVec 32 := Scf.iv c0_i32_321 c1_i32_323 k0_t8
  let v511 : Index := Scalar.indexCast arg18
  let c0_i32_339 : BitVec 32 := 0#32
  let c1_i32_341 : BitVec 32 := 1#32
  let arg20 : BitVec 32 := Scf.iv c0_i32_339 c1_i32_341 k0_t10
  let c8_i32_364 : BitVec 32 := 8#32
  let v510 : BitVec 32 := Scalar.muli arg20 c8_i32_364
  let v512 : Index := Scalar.indexCast v510
  let c256_365 : Index := 256#32
  ![v511.toNat, v512.toNat, 256]
def k0_off663 (k0_t8 : Fin k0_t8_loop.trips) : Fin 3 → Nat :=
  let c0_i32_321 : BitVec 32 := 0#32
  let c1_i32_323 : BitVec 32 := 1#32
  let arg18 : BitVec 32 := Scf.iv c0_i32_321 c1_i32_323 k0_t8
  let v486 : Index := Scalar.indexCast arg18
  let c0_343 : Index := 0#32
  let c512 : Index := 512#32
  ![v486.toNat, 0, 512]
@[reducible] def k0_t11_loop : Scf.Loop 32 :=
  let c0_i32_346 : BitVec 32 := 0#32
  let c128_i32_347 : BitVec 32 := 128#32
  let v492 : BitVec 32 := Scalar.addi c0_i32_346 c128_i32_347
  let c1_i32_348 : BitVec 32 := 1#32
  ⟨c0_i32_346, v492, c1_i32_348⟩
def k0_off664 (k0_t8 : Fin k0_t8_loop.trips) (k0_t11 : Fin k0_t11_loop.trips) : Fin 3 → Nat :=
  let c0_i32_321 : BitVec 32 := 0#32
  let c1_i32_323 : BitVec 32 := 1#32
  let arg18 : BitVec 32 := Scf.iv c0_i32_321 c1_i32_323 k0_t8
  let v511 : Index := Scalar.indexCast arg18
  let c0_i32_346 : BitVec 32 := 0#32
  let c1_i32_348 : BitVec 32 := 1#32
  let arg20 : BitVec 32 := Scf.iv c0_i32_346 c1_i32_348 k0_t11
  let c8_i32_364 : BitVec 32 := 8#32
  let v510 : BitVec 32 := Scalar.muli arg20 c8_i32_364
  let v512 : Index := Scalar.indexCast v510
  let c512_365 : Index := 512#32
  ![v511.toNat, v512.toNat, 512]
def k0_off665 (k0_t8 : Fin k0_t8_loop.trips) : Fin 3 → Nat :=
  let c0_i32_321 : BitVec 32 := 0#32
  let c1_i32_323 : BitVec 32 := 1#32
  let arg18 : BitVec 32 := Scf.iv c0_i32_321 c1_i32_323 k0_t8
  let v494 : Index := Scalar.indexCast arg18
  let c0_350 : Index := 0#32
  let c768 : Index := 768#32
  ![v494.toNat, 0, 768]
@[reducible] def k0_t12_loop : Scf.Loop 32 :=
  let c0_i32_353 : BitVec 32 := 0#32
  let c128_i32_354 : BitVec 32 := 128#32
  let v500 : BitVec 32 := Scalar.addi c0_i32_353 c128_i32_354
  let c1_i32_355 : BitVec 32 := 1#32
  ⟨c0_i32_353, v500, c1_i32_355⟩
def k0_off666 (k0_t8 : Fin k0_t8_loop.trips) (k0_t12 : Fin k0_t12_loop.trips) : Fin 3 → Nat :=
  let c0_i32_321 : BitVec 32 := 0#32
  let c1_i32_323 : BitVec 32 := 1#32
  let arg18 : BitVec 32 := Scf.iv c0_i32_321 c1_i32_323 k0_t8
  let v511 : Index := Scalar.indexCast arg18
  let c0_i32_353 : BitVec 32 := 0#32
  let c1_i32_355 : BitVec 32 := 1#32
  let arg20 : BitVec 32 := Scf.iv c0_i32_353 c1_i32_355 k0_t12
  let c8_i32_364 : BitVec 32 := 8#32
  let v510 : BitVec 32 := Scalar.muli arg20 c8_i32_364
  let v512 : Index := Scalar.indexCast v510
  let c0_365 : Index := 0#32
  ![v511.toNat, v512.toNat, 0]
def k0_off667 (k0_t8 : Fin k0_t8_loop.trips) : Fin 3 → Nat :=
  let c0_i32_321 : BitVec 32 := 0#32
  let c1_i32_323 : BitVec 32 := 1#32
  let arg18 : BitVec 32 := Scf.iv c0_i32_321 c1_i32_323 k0_t8
  let v502 : Index := Scalar.indexCast arg18
  let c0_357 : Index := 0#32
  let c1024 : Index := 1024#32
  ![v502.toNat, 0, 1024]
@[reducible] def k0_t13_loop : Scf.Loop 32 :=
  let c0_i32_360 : BitVec 32 := 0#32
  let c128_i32_361 : BitVec 32 := 128#32
  let v508 : BitVec 32 := Scalar.addi c0_i32_360 c128_i32_361
  let c1_i32_362 : BitVec 32 := 1#32
  ⟨c0_i32_360, v508, c1_i32_362⟩
def k0_off668 (k0_t8 : Fin k0_t8_loop.trips) (k0_t13 : Fin k0_t13_loop.trips) : Fin 3 → Nat :=
  let c0_i32_321 : BitVec 32 := 0#32
  let c1_i32_323 : BitVec 32 := 1#32
  let arg18 : BitVec 32 := Scf.iv c0_i32_321 c1_i32_323 k0_t8
  let v511 : Index := Scalar.indexCast arg18
  let c0_i32_360 : BitVec 32 := 0#32
  let c1_i32_362 : BitVec 32 := 1#32
  let arg20 : BitVec 32 := Scf.iv c0_i32_360 c1_i32_362 k0_t13
  let c8_i32_364 : BitVec 32 := 8#32
  let v510 : BitVec 32 := Scalar.muli arg20 c8_i32_364
  let v512 : Index := Scalar.indexCast v510
  let c256_365 : Index := 256#32
  ![v511.toNat, v512.toNat, 256]
@[reducible] def k0_t14_loop : Scf.Loop 32 :=
  let c0_i32_295 : BitVec 32 := 0#32
  let c16_i32_296 : BitVec 32 := 16#32
  let v443 : BitVec 32 := Scalar.addi c0_i32_295 c16_i32_296
  let c1_i32_297 : BitVec 32 := 1#32
  ⟨c0_i32_295, v443, c1_i32_297⟩
def k0_cond3 (k0_t14 : Fin k0_t14_loop.trips) : BitVec 1 :=
  let c0_i32_295 : BitVec 32 := 0#32
  let c1_i32_297 : BitVec 32 := 1#32
  let arg18 : BitVec 32 := Scf.iv c0_i32_295 c1_i32_297 k0_t14
  let c3_i32_321 : BitVec 32 := 3#32
  let v463 : BitVec 1 := Scalar.cmpi .sge arg18 c3_i32_321
  let v464 : BitVec 32 := Scalar.extui v463
  let c0_i32_322 : BitVec 32 := 0#32
  let v465 : BitVec 1 := Scalar.cmpi .ne v464 c0_i32_322
  v465

def k0_off669 (k0_t14 : Fin k0_t14_loop.trips) : Fin 1 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  ![v462.toNat]
def k0_off670 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_579 : BitVec 32 := 3#32
  let v1342 : BitVec 32 := Scalar.subi arg18 c3_i32_579
  let c0_i32_580 : BitVec 32 := 0#32
  let c0_i32_581 : BitVec 32 := 0#32
  ![v1342.toNat, 0, 0]
def k0_off671 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let c0_i32_582 : BitVec 32 := 0#32
  let c0_i32_583 : BitVec 32 := 0#32
  ![v462.toNat, 0, 0]
def k0_off672 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v466 : Index := Scalar.indexCast arg18
  let c0_323 : Index := 0#32
  let c0_324 : Index := 0#32
  ![v466.toNat, 0, 0]
def k0_off673 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v472 : Index := Scalar.indexCast arg18
  let c0_327 : Index := 0#32
  let c0_328 : Index := 0#32
  ![v472.toNat, 0, 0]
def k0_off674 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v489 : Index := Scalar.indexCast v462
  let c0_331 : Index := 0#32
  let c0_332 : Index := 0#32
  ![v489.toNat, 0, 0]
def k0_off675 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v493 : Index := Scalar.indexCast arg18
  let c128 : Index := 128#32
  let c0_333 : Index := 0#32
  ![v493.toNat, 128, 0]
def k0_off676 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v510 : Index := Scalar.indexCast v462
  let c128_336 : Index := 128#32
  let c0_337 : Index := 0#32
  ![v510.toNat, 128, 0]
def k0_off677 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v514 : Index := Scalar.indexCast arg18
  let c256 : Index := 256#32
  let c0_338 : Index := 0#32
  ![v514.toNat, 256, 0]
def k0_off678 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v531 : Index := Scalar.indexCast v462
  let c256_341 : Index := 256#32
  let c0_342 : Index := 0#32
  ![v531.toNat, 256, 0]
def k0_off679 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v535 : Index := Scalar.indexCast arg18
  let c384 : Index := 384#32
  let c0_343 : Index := 0#32
  ![v535.toNat, 384, 0]
def k0_off680 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v552 : Index := Scalar.indexCast v462
  let c384_346 : Index := 384#32
  let c0_347 : Index := 0#32
  ![v552.toNat, 384, 0]
def k0_off681 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v556 : Index := Scalar.indexCast arg18
  let c512 : Index := 512#32
  let c0_348 : Index := 0#32
  ![v556.toNat, 512, 0]
def k0_off682 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v573 : Index := Scalar.indexCast v462
  let c512_351 : Index := 512#32
  let c0_352 : Index := 0#32
  ![v573.toNat, 512, 0]
def k0_off683 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v577 : Index := Scalar.indexCast arg18
  let c640 : Index := 640#32
  let c0_353 : Index := 0#32
  ![v577.toNat, 640, 0]
def k0_off684 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v594 : Index := Scalar.indexCast v462
  let c640_356 : Index := 640#32
  let c0_357 : Index := 0#32
  ![v594.toNat, 640, 0]
def k0_off685 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v598 : Index := Scalar.indexCast arg18
  let c768 : Index := 768#32
  let c0_358 : Index := 0#32
  ![v598.toNat, 768, 0]
def k0_off686 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v615 : Index := Scalar.indexCast v462
  let c768_361 : Index := 768#32
  let c0_362 : Index := 0#32
  ![v615.toNat, 768, 0]
def k0_off687 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v619 : Index := Scalar.indexCast arg18
  let c896 : Index := 896#32
  let c0_363 : Index := 0#32
  ![v619.toNat, 896, 0]
def k0_off688 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v636 : Index := Scalar.indexCast v462
  let c896_366 : Index := 896#32
  let c0_367 : Index := 0#32
  ![v636.toNat, 896, 0]
def k0_off689 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v640 : Index := Scalar.indexCast arg18
  let c0_368 : Index := 0#32
  let c256_369 : Index := 256#32
  ![v640.toNat, 0, 256]
def k0_off690 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v646 : Index := Scalar.indexCast arg18
  let c0_372 : Index := 0#32
  let c256_373 : Index := 256#32
  ![v646.toNat, 0, 256]
def k0_off691 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v663 : Index := Scalar.indexCast v462
  let c0_376 : Index := 0#32
  let c256_377 : Index := 256#32
  ![v663.toNat, 0, 256]
def k0_off692 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v667 : Index := Scalar.indexCast arg18
  let c128_378 : Index := 128#32
  let c256_379 : Index := 256#32
  ![v667.toNat, 128, 256]
def k0_off693 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v684 : Index := Scalar.indexCast v462
  let c128_382 : Index := 128#32
  let c256_383 : Index := 256#32
  ![v684.toNat, 128, 256]
def k0_off694 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v688 : Index := Scalar.indexCast arg18
  let c256_384 : Index := 256#32
  let c256_385 : Index := 256#32
  ![v688.toNat, 256, 256]
def k0_off695 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v705 : Index := Scalar.indexCast v462
  let c256_388 : Index := 256#32
  let c256_389 : Index := 256#32
  ![v705.toNat, 256, 256]
def k0_off696 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v709 : Index := Scalar.indexCast arg18
  let c384_390 : Index := 384#32
  let c256_391 : Index := 256#32
  ![v709.toNat, 384, 256]
def k0_off697 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v726 : Index := Scalar.indexCast v462
  let c384_394 : Index := 384#32
  let c256_395 : Index := 256#32
  ![v726.toNat, 384, 256]
def k0_off698 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v730 : Index := Scalar.indexCast arg18
  let c512_396 : Index := 512#32
  let c256_397 : Index := 256#32
  ![v730.toNat, 512, 256]
def k0_off699 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v747 : Index := Scalar.indexCast v462
  let c512_400 : Index := 512#32
  let c256_401 : Index := 256#32
  ![v747.toNat, 512, 256]
def k0_off700 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v751 : Index := Scalar.indexCast arg18
  let c640_402 : Index := 640#32
  let c256_403 : Index := 256#32
  ![v751.toNat, 640, 256]
def k0_off701 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v768 : Index := Scalar.indexCast v462
  let c640_406 : Index := 640#32
  let c256_407 : Index := 256#32
  ![v768.toNat, 640, 256]
def k0_off702 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v772 : Index := Scalar.indexCast arg18
  let c768_408 : Index := 768#32
  let c256_409 : Index := 256#32
  ![v772.toNat, 768, 256]
def k0_off703 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v789 : Index := Scalar.indexCast v462
  let c768_412 : Index := 768#32
  let c256_413 : Index := 256#32
  ![v789.toNat, 768, 256]
def k0_off704 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v793 : Index := Scalar.indexCast arg18
  let c896_414 : Index := 896#32
  let c256_415 : Index := 256#32
  ![v793.toNat, 896, 256]
def k0_off705 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v810 : Index := Scalar.indexCast v462
  let c896_418 : Index := 896#32
  let c256_419 : Index := 256#32
  ![v810.toNat, 896, 256]
def k0_off706 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v814 : Index := Scalar.indexCast arg18
  let c0_420 : Index := 0#32
  let c512_421 : Index := 512#32
  ![v814.toNat, 0, 512]
def k0_off707 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v820 : Index := Scalar.indexCast arg18
  let c0_424 : Index := 0#32
  let c512_425 : Index := 512#32
  ![v820.toNat, 0, 512]
def k0_off708 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v837 : Index := Scalar.indexCast v462
  let c0_428 : Index := 0#32
  let c512_429 : Index := 512#32
  ![v837.toNat, 0, 512]
def k0_off709 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v841 : Index := Scalar.indexCast arg18
  let c128_430 : Index := 128#32
  let c512_431 : Index := 512#32
  ![v841.toNat, 128, 512]
def k0_off710 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v858 : Index := Scalar.indexCast v462
  let c128_434 : Index := 128#32
  let c512_435 : Index := 512#32
  ![v858.toNat, 128, 512]
def k0_off711 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v862 : Index := Scalar.indexCast arg18
  let c256_436 : Index := 256#32
  let c512_437 : Index := 512#32
  ![v862.toNat, 256, 512]
def k0_off712 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v879 : Index := Scalar.indexCast v462
  let c256_440 : Index := 256#32
  let c512_441 : Index := 512#32
  ![v879.toNat, 256, 512]
def k0_off713 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v883 : Index := Scalar.indexCast arg18
  let c384_442 : Index := 384#32
  let c512_443 : Index := 512#32
  ![v883.toNat, 384, 512]
def k0_off714 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v900 : Index := Scalar.indexCast v462
  let c384_446 : Index := 384#32
  let c512_447 : Index := 512#32
  ![v900.toNat, 384, 512]
def k0_off715 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v904 : Index := Scalar.indexCast arg18
  let c512_448 : Index := 512#32
  let c512_449 : Index := 512#32
  ![v904.toNat, 512, 512]
def k0_off716 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v921 : Index := Scalar.indexCast v462
  let c512_452 : Index := 512#32
  let c512_453 : Index := 512#32
  ![v921.toNat, 512, 512]
def k0_off717 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v925 : Index := Scalar.indexCast arg18
  let c640_454 : Index := 640#32
  let c512_455 : Index := 512#32
  ![v925.toNat, 640, 512]
def k0_off718 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v942 : Index := Scalar.indexCast v462
  let c640_458 : Index := 640#32
  let c512_459 : Index := 512#32
  ![v942.toNat, 640, 512]
def k0_off719 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v946 : Index := Scalar.indexCast arg18
  let c768_460 : Index := 768#32
  let c512_461 : Index := 512#32
  ![v946.toNat, 768, 512]
def k0_off720 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v963 : Index := Scalar.indexCast v462
  let c768_464 : Index := 768#32
  let c512_465 : Index := 512#32
  ![v963.toNat, 768, 512]
def k0_off721 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v967 : Index := Scalar.indexCast arg18
  let c896_466 : Index := 896#32
  let c512_467 : Index := 512#32
  ![v967.toNat, 896, 512]
def k0_off722 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v984 : Index := Scalar.indexCast v462
  let c896_470 : Index := 896#32
  let c512_471 : Index := 512#32
  ![v984.toNat, 896, 512]
def k0_off723 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v988 : Index := Scalar.indexCast arg18
  let c0_472 : Index := 0#32
  let c768_473 : Index := 768#32
  ![v988.toNat, 0, 768]
def k0_off724 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v994 : Index := Scalar.indexCast arg18
  let c0_476 : Index := 0#32
  let c0_477 : Index := 0#32
  ![v994.toNat, 0, 0]
def k0_off725 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v1011 : Index := Scalar.indexCast v462
  let c0_480 : Index := 0#32
  let c768_481 : Index := 768#32
  ![v1011.toNat, 0, 768]
def k0_off726 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v1015 : Index := Scalar.indexCast arg18
  let c128_482 : Index := 128#32
  let c0_483 : Index := 0#32
  ![v1015.toNat, 128, 0]
def k0_off727 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v1032 : Index := Scalar.indexCast v462
  let c128_486 : Index := 128#32
  let c768_487 : Index := 768#32
  ![v1032.toNat, 128, 768]
def k0_off728 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v1036 : Index := Scalar.indexCast arg18
  let c256_488 : Index := 256#32
  let c0_489 : Index := 0#32
  ![v1036.toNat, 256, 0]
def k0_off729 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v1053 : Index := Scalar.indexCast v462
  let c256_492 : Index := 256#32
  let c768_493 : Index := 768#32
  ![v1053.toNat, 256, 768]
def k0_off730 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v1057 : Index := Scalar.indexCast arg18
  let c384_494 : Index := 384#32
  let c0_495 : Index := 0#32
  ![v1057.toNat, 384, 0]
def k0_off731 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v1074 : Index := Scalar.indexCast v462
  let c384_498 : Index := 384#32
  let c768_499 : Index := 768#32
  ![v1074.toNat, 384, 768]
def k0_off732 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v1078 : Index := Scalar.indexCast arg18
  let c512_500 : Index := 512#32
  let c0_501 : Index := 0#32
  ![v1078.toNat, 512, 0]
def k0_off733 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v1095 : Index := Scalar.indexCast v462
  let c512_504 : Index := 512#32
  let c768_505 : Index := 768#32
  ![v1095.toNat, 512, 768]
def k0_off734 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v1099 : Index := Scalar.indexCast arg18
  let c640_506 : Index := 640#32
  let c0_507 : Index := 0#32
  ![v1099.toNat, 640, 0]
def k0_off735 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v1116 : Index := Scalar.indexCast v462
  let c640_510 : Index := 640#32
  let c768_511 : Index := 768#32
  ![v1116.toNat, 640, 768]
def k0_off736 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v1120 : Index := Scalar.indexCast arg18
  let c768_512 : Index := 768#32
  let c0_513 : Index := 0#32
  ![v1120.toNat, 768, 0]
def k0_off737 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v1137 : Index := Scalar.indexCast v462
  let c768_516 : Index := 768#32
  let c768_517 : Index := 768#32
  ![v1137.toNat, 768, 768]
def k0_off738 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v1141 : Index := Scalar.indexCast arg18
  let c896_518 : Index := 896#32
  let c0_519 : Index := 0#32
  ![v1141.toNat, 896, 0]
def k0_off739 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v1158 : Index := Scalar.indexCast v462
  let c896_522 : Index := 896#32
  let c768_523 : Index := 768#32
  ![v1158.toNat, 896, 768]
def k0_off740 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v1162 : Index := Scalar.indexCast arg18
  let c0_524 : Index := 0#32
  let c1024 : Index := 1024#32
  ![v1162.toNat, 0, 1024]
def k0_off741 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v1168 : Index := Scalar.indexCast arg18
  let c0_527 : Index := 0#32
  let c256_528 : Index := 256#32
  ![v1168.toNat, 0, 256]
def k0_off742 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v1185 : Index := Scalar.indexCast v462
  let c0_531 : Index := 0#32
  let c1024_532 : Index := 1024#32
  ![v1185.toNat, 0, 1024]
def k0_off743 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v1189 : Index := Scalar.indexCast arg18
  let c128_533 : Index := 128#32
  let c256_534 : Index := 256#32
  ![v1189.toNat, 128, 256]
def k0_off744 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v1206 : Index := Scalar.indexCast v462
  let c128_537 : Index := 128#32
  let c1024_538 : Index := 1024#32
  ![v1206.toNat, 128, 1024]
def k0_off745 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v1210 : Index := Scalar.indexCast arg18
  let c256_539 : Index := 256#32
  let c256_540 : Index := 256#32
  ![v1210.toNat, 256, 256]
def k0_off746 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v1227 : Index := Scalar.indexCast v462
  let c256_543 : Index := 256#32
  let c1024_544 : Index := 1024#32
  ![v1227.toNat, 256, 1024]
def k0_off747 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v1231 : Index := Scalar.indexCast arg18
  let c384_545 : Index := 384#32
  let c256_546 : Index := 256#32
  ![v1231.toNat, 384, 256]
def k0_off748 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v1248 : Index := Scalar.indexCast v462
  let c384_549 : Index := 384#32
  let c1024_550 : Index := 1024#32
  ![v1248.toNat, 384, 1024]
def k0_off749 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v1252 : Index := Scalar.indexCast arg18
  let c512_551 : Index := 512#32
  let c256_552 : Index := 256#32
  ![v1252.toNat, 512, 256]
def k0_off750 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v1269 : Index := Scalar.indexCast v462
  let c512_555 : Index := 512#32
  let c1024_556 : Index := 1024#32
  ![v1269.toNat, 512, 1024]
def k0_off751 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v1273 : Index := Scalar.indexCast arg18
  let c640_557 : Index := 640#32
  let c256_558 : Index := 256#32
  ![v1273.toNat, 640, 256]
def k0_off752 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v1290 : Index := Scalar.indexCast v462
  let c640_561 : Index := 640#32
  let c1024_562 : Index := 1024#32
  ![v1290.toNat, 640, 1024]
def k0_off753 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v1294 : Index := Scalar.indexCast arg18
  let c768_563 : Index := 768#32
  let c256_564 : Index := 256#32
  ![v1294.toNat, 768, 256]
def k0_off754 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v1311 : Index := Scalar.indexCast v462
  let c768_567 : Index := 768#32
  let c1024_568 : Index := 1024#32
  ![v1311.toNat, 768, 1024]
def k0_off755 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let v1315 : Index := Scalar.indexCast arg18
  let c896_569 : Index := 896#32
  let c256_570 : Index := 256#32
  ![v1315.toNat, 896, 256]
def k0_off756 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let v1332 : Index := Scalar.indexCast v462
  let c896_573 : Index := 896#32
  let c1024_574 : Index := 1024#32
  ![v1332.toNat, 896, 1024]
def k0_off757 (k0_t14 : Fin k0_t14_loop.trips) : Fin 1 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  ![v462.toNat]
def k0_off758 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c0_i32_575 : BitVec 32 := 0#32
  let c0_i32_576 : BitVec 32 := 0#32
  ![arg18.toNat, 0, 0]
def k0_off759 (k0_t14 : Fin k0_t14_loop.trips) : Fin 3 → Nat :=
  let c0_i32_295 : BitVec 32 := 0#32
  let c1_i32_297 : BitVec 32 := 1#32
  let arg18 : BitVec 32 := Scf.iv c0_i32_295 c1_i32_297 k0_t14
  let c3_i32_320 : BitVec 32 := 3#32
  let v462 : BitVec 32 := Scalar.remsi arg18 c3_i32_320
  let c0_i32_577 : BitVec 32 := 0#32
  let c0_i32_578 : BitVec 32 := 0#32
  ![v462.toNat, 0, 0]
abbrev stage0_0 : Fin 1 → Memref sig .tc .vmem S1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "inv_n" => some ((1 / 40960 : ℝ) : EReal)
  | _ => none
-- ==== ReferenceIdeal.lean ====
abbrev S16x1024x768 : Shape := ⟨3, ![16, 1024, 768]⟩
abbrev S16x1024x512 : Shape := ⟨3, ![16, 1024, 512]⟩
abbrev S1280 : Shape := ⟨1, ![1280]⟩
abbrev S254 : Shape := ⟨1, ![254]⟩
abbrev S16x1024x1280 : Shape := ⟨3, ![16, 1024, 1280]⟩
abbrev S16x1024x32x40 : Shape := ⟨4, ![16, 1024, 32, 40]⟩
abbrev S_ : Shape := ⟨0, ![]⟩
abbrev S16x32 : Shape := ⟨2, ![16, 32]⟩
abbrev S16x1x32x1 : Shape := ⟨4, ![16, 1, 32, 1]⟩
abbrev S1x1x1280 : Shape := ⟨3, ![1, 1, 1280]⟩
abbrev S1x1 : Shape := ⟨2, ![1, 1]⟩

abbrev nBuf : Space → Nat
  | .hbm => 69
  | .vmem => 2
  | .smem => 0
  | _ => 0

abbrev bufTy : (tb : Table) → Fin (tcTables nBuf tb) → BufTy
  | .hbm, ⟨0, _⟩ => ⟨S16x1024x768, .bf16⟩
  | .hbm, ⟨1, _⟩ => ⟨S16x1024x512, .bf16⟩
  | .hbm, ⟨2, _⟩ => ⟨S1280, .f32⟩
  | .hbm, ⟨3, _⟩ => ⟨S1280, .f32⟩
  | .hbm, ⟨4, _⟩ => ⟨S254, .f32⟩
  | .hbm, ⟨5, _⟩ => ⟨S16x1024x1280, .bf16⟩
  | .hbm, ⟨6, _⟩ => ⟨S16x1024x1280, .f32⟩
  | .hbm, ⟨7, _⟩ => ⟨S16x1024x32x40, .f32⟩
  | .hbm, ⟨8, _⟩ => ⟨S_, .f32⟩
  | .hbm, ⟨9, _⟩ => ⟨S16x32, .f32⟩
  | .hbm, ⟨10, _⟩ => ⟨S16x1x32x1, .f32⟩
  | .hbm, ⟨11, _⟩ => ⟨S_, .f32⟩
  | .hbm, ⟨12, _⟩ => ⟨S16x1x32x1, .f32⟩
  | .hbm, ⟨13, _⟩ => ⟨S16x1x32x1, .f32⟩
  | .hbm, ⟨14, _⟩ => ⟨S16x1024x32x40, .f32⟩
  | .hbm, ⟨15, _⟩ => ⟨S16x1024x32x40, .f32⟩
  | .hbm, ⟨16, _⟩ => ⟨S16x1024x32x40, .f32⟩
  | .hbm, ⟨17, _⟩ => ⟨S_, .f32⟩
  | .hbm, ⟨18, _⟩ => ⟨S16x32, .f32⟩
  | .hbm, ⟨19, _⟩ => ⟨S16x1x32x1, .f32⟩
  | .hbm, ⟨20, _⟩ => ⟨S_, .f32⟩
  | .hbm, ⟨21, _⟩ => ⟨S16x1x32x1, .f32⟩
  | .hbm, ⟨22, _⟩ => ⟨S16x1x32x1, .f32⟩
  | .hbm, ⟨23, _⟩ => ⟨S_, .f32⟩
  | .hbm, ⟨24, _⟩ => ⟨S16x1x32x1, .f32⟩
  | .hbm, ⟨25, _⟩ => ⟨S16x1x32x1, .f32⟩
  | .hbm, ⟨26, _⟩ => ⟨S16x1x32x1, .f32⟩
  | .hbm, ⟨27, _⟩ => ⟨S16x1024x32x40, .f32⟩
  | .hbm, ⟨28, _⟩ => ⟨S16x1024x32x40, .f32⟩
  | .hbm, ⟨29, _⟩ => ⟨S16x1024x1280, .f32⟩
  | .hbm, ⟨30, _⟩ => ⟨S1x1x1280, .f32⟩
  | .hbm, ⟨31, _⟩ => ⟨S16x1024x1280, .f32⟩
  | .hbm, ⟨32, _⟩ => ⟨S16x1024x1280, .f32⟩
  | .hbm, ⟨33, _⟩ => ⟨S1x1x1280, .f32⟩
  | .hbm, ⟨34, _⟩ => ⟨S16x1024x1280, .f32⟩
  | .hbm, ⟨35, _⟩ => ⟨S16x1024x1280, .f32⟩
  | .hbm, ⟨36, _⟩ => ⟨S16x1024x1280, .f32⟩
  | .hbm, ⟨37, _⟩ => ⟨S16x1024x1280, .f32⟩
  | .hbm, ⟨38, _⟩ => ⟨S_, .f32⟩
  | .hbm, ⟨39, _⟩ => ⟨S16x1024x1280, .f32⟩
  | .hbm, ⟨40, _⟩ => ⟨S16x1024x1280, .f32⟩
  | .hbm, ⟨41, _⟩ => ⟨S_, .f32⟩
  | .hbm, ⟨42, _⟩ => ⟨S16x1024x1280, .f32⟩
  | .hbm, ⟨43, _⟩ => ⟨S16x1024x1280, .f32⟩
  | .hbm, ⟨44, _⟩ => ⟨S16x1024x1280, .f32⟩
  | .hbm, ⟨45, _⟩ => ⟨S16x1024x1280, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S254, .f32⟩
  | .hbm, ⟨51, _⟩ => ⟨S254, .i1⟩
  | .hbm, ⟨52, _⟩ => ⟨S_, .f32⟩
  | .hbm, ⟨53, _⟩ => ⟨S_, .f32⟩
  | .hbm, ⟨54, _⟩ => ⟨S254, .f32⟩
  | .hbm, ⟨55, _⟩ => ⟨S254, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .i1⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S1x1, .f32⟩
  | .hbm, ⟨64, _⟩ => ⟨S_, .f32⟩
  | .hbm, ⟨65, _⟩ => ⟨S_, .f32⟩
  | .hbm, ⟨66, _⟩ => ⟨S16x1024x1280, .f32⟩
  | .hbm, ⟨67, _⟩ => ⟨S16x1024x1280, .f32⟩
  | .hbm, ⟨68, _⟩ => ⟨S16x1024x1280, .fp8e4m3⟩
  | .local _ .vmem, ⟨0, _⟩ => ⟨S16x1024x1280, .f32⟩
  | .local _ .vmem, ⟨1, _⟩ => ⟨S16x1024x1280, .fp8e4m3⟩
  | _, _ => ⟨S16x1024x768, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_call0_v0 : Ref sig .tc := ⟨.hbm, 53, rfl⟩
abbrev main_call0_v1 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_cst_12 : Ref sig .tc := ⟨.hbm, 60, rfl⟩
abbrev main_call1_v0 : Ref sig .tc := ⟨.hbm, 61, rfl⟩
abbrev main_v41 : Ref sig .tc := ⟨.hbm, 62, rfl⟩
abbrev main_v42 : Ref sig .tc := ⟨.hbm, 63, rfl⟩
abbrev main_cst_13 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S16x1024x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024x1280 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.K.Base.lean ====
/-
  The kernel body's operands and the windows of its row transfers: each transfer moves one row of a rank-three array, whose elements
  are those with a given first coordinate.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameValue
public import Idealize.ShloMosaic.Lib.MixedBatch
public import Idealize.ShloMosaic.Lib.Ring
public import Idealize.ShloMosaic.Lib.Tactic
public import Idealize.ShloMosaic.Lib.WordCmp

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Operands -/

abbrev mXuH : Memref sig .tc .hbm S16x1024x768 .bf16 := Memref.whole main_arg0
abbrev mXsH : Memref sig .tc .hbm S16x1024x512 .bf16 := Memref.whole main_arg1
abbrev mCo : Memref sig .tc .hbm S16x1024x1280 .fp8e4m3 := Memref.whole main_v0_0
abbrev mXu : Memref sig .tc .vmem S16x1024x768 .bf16 := Memref.whole cc0_scratch0
abbrev mXs : Memref sig .tc .vmem S16x1024x512 .bf16 := Memref.whole cc0_scratch1
abbrev mOb : Memref sig .tc .vmem S3x1024x1280 .fp8e4m3 := Memref.whole cc0_scratch2
abbrev mS1 : Memref sig .tc .vmem S16x1x1280 .f32 := Memref.whole cc0_scratch3
abbrev mS2 : Memref sig .tc .vmem S16x1x1280 .f32 := Memref.whole cc0_scratch4
abbrev mMx : Memref sig .tc .vmem S16x1x1280 .f32 := Memref.whole cc0_scratch5
abbrev mMn : Memref sig .tc .vmem S16x1x1280 .f32 := Memref.whole cc0_scratch6
abbrev mA : Memref sig .tc .vmem S16x1x1280 .f32 := Memref.whole cc0_scratch7
abbrev mB : Memref sig .tc .vmem S16x1x1280 .f32 := Memref.whole cc0_scratch8
abbrev mOn : Memref sig .tc .vmem S8x256 .bf16 := Memref.whole cc0_scratch9

/-! ## Rows -/

/-- The elements whose first coordinate satisfies `p`. -/
def rowsIn (d : Fin 3 → ℕ) (p : ℕ → Prop) [DecidablePred p] : Finset ((a : Fin 3) → Fin (d a)) := Finset.univ.filter fun i => p (i 0).val

theorem mem_rowsIn {d : Fin 3 → ℕ} {p : ℕ → Prop} [DecidablePred p] {i : (a : Fin 3) → Fin (d a)} : i ∈ rowsIn d p ↔ p (i 0).val := by
  simp [rowsIn]

abbrev dXu : Fin 3 → ℕ := S16x1024x768.size
abbrev dXs : Fin 3 → ℕ := S16x1024x512.size
abbrev dCo : Fin 3 → ℕ := S16x1024x1280.size
abbrev dOb : Fin 3 → ℕ := S3x1024x1280.size

abbrev wXu {sp : Space} (M : Memref sig .tc sp S16x1024x768 .bf16) (o : Fin 3 → ℕ) (h : ∀ a, o a + S1x1024x768.size a ≤ S16x1024x768.size a) :
    Memref sig .tc sp S1024x768 .bf16 :=
  (M.slice (Rect.unit (s := S16x1024x768) o S1x1024x768.size h) (fun _ => rfl)).squeeze S1024x768 squeezes_S1x1024x768_S1024x768
abbrev wXs {sp : Space} (M : Memref sig .tc sp S16x1024x512 .bf16) (o : Fin 3 → ℕ) (h : ∀ a, o a + S1x1024x512.size a ≤ S16x1024x512.size a) :
    Memref sig .tc sp S1024x512 .bf16 :=
  (M.slice (Rect.unit (s := S16x1024x512) o S1x1024x512.size h) (fun _ => rfl)).squeeze S1024x512 squeezes_S1x1024x512_S1024x512
abbrev wCo (o : Fin 3 → ℕ) (h : ∀ a, o a + S1x1024x1280.size a ≤ S16x1024x1280.size a) : Memref sig .tc .hbm S1024x1280 .fp8e4m3 :=
  (mCo.slice (Rect.unit (s := S16x1024x1280) o S1x1024x1280.size h) (fun _ => rfl)).squeeze S1024x1280 squeezes_S1x1024x1280_S1024x1280
abbrev wOb (o : Fin 3 → ℕ) (h : ∀ a, o a + S1x1024x1280.size a ≤ S3x1024x1280.size a) : Memref sig .tc .vmem S1024x1280 .fp8e4m3 :=
  (mOb.slice (Rect.unit (s := S3x1024x1280) o S1x1024x1280.size h) (fun _ => rfl)).squeeze S1024x1280 squeezes_S1x1024x1280_S1024x1280

theorem row_mem_iff (d : Fin 3 → ℕ) (i : (a : Fin 3) → Fin (d a)) (b : ℕ) :
    (∀ a, (![b, 0, 0] : Fin 3 → ℕ) a ≤ (i a).val ∧ (i a).val < (![b, 0, 0] : Fin 3 → ℕ) a + (![1, d 1, d 2] : Fin 3 → ℕ) a) ↔ (i 0).val = b := by
  have h1 := (i 1).isLt; have h2 := (i 2).isLt
  constructor
  · intro h
    have h0 := h 0
    simp at h0
    omega
  · intro h a
    match a with
    | 0 => simp; omega
    | 1 => simp
    | 2 => simp

theorem wXu_setH (b : ℕ) (h : ∀ a, (![b, 0, 0] : Fin 3 → ℕ) a + S1x1024x768.size a ≤ S16x1024x768.size a) :
    (wXu mXuH ![b, 0, 0] h).view.set = (rowsIn dXu (· = b) : Finset _) := by
  ext i
  rw [View.set_reshape]
  erw [View.set_slice_whole, Rect.mem_set_unit, mem_rowsIn]
  exact row_mem_iff dXu i b

theorem wXu_set (b : ℕ) (h : ∀ a, (![b, 0, 0] : Fin 3 → ℕ) a + S1x1024x768.size a ≤ S16x1024x768.size a) :
    (wXu mXu ![b, 0, 0] h).view.set = (rowsIn dXu (· = b) : Finset _) := by
  ext i
  rw [View.set_reshape]
  erw [View.set_slice_whole, Rect.mem_set_unit, mem_rowsIn]
  exact row_mem_iff dXu i b

theorem wXs_setH (b : ℕ) (h : ∀ a, (![b, 0, 0] : Fin 3 → ℕ) a + S1x1024x512.size a ≤ S16x1024x512.size a) :
    (wXs mXsH ![b, 0, 0] h).view.set = (rowsIn dXs (· = b) : Finset _) := by
  ext i
  rw [View.set_reshape]
  erw [View.set_slice_whole, Rect.mem_set_unit, mem_rowsIn]
  exact row_mem_iff dXs i b

theorem wXs_set (b : ℕ) (h : ∀ a, (![b, 0, 0] : Fin 3 → ℕ) a + S1x1024x512.size a ≤ S16x1024x512.size a) :
    (wXs mXs ![b, 0, 0] h).view.set = (rowsIn dXs (· = b) : Finset _) := by
  ext i
  rw [View.set_reshape]
  erw [View.set_slice_whole, Rect.mem_set_unit, mem_rowsIn]
  exact row_mem_iff dXs i b

theorem wCo_set (b : ℕ) (h : ∀ a, (![b, 0, 0] : Fin 3 → ℕ) a + S1x1024x1280.size a ≤ S16x1024x1280.size a) :
    (wCo ![b, 0, 0] h).view.set = (rowsIn dCo (· = b) : Finset _) := by
  ext i
  rw [View.set_reshape]
  erw [View.set_slice_whole, Rect.mem_set_unit, mem_rowsIn]
  exact row_mem_iff dCo i b

theorem wOb_set (b : ℕ) (h : ∀ a, (![b, 0, 0] : Fin 3 → ℕ) a + S1x1024x1280.size a ≤ S3x1024x1280.size a) :
    (wOb ![b, 0, 0] h).view.set = (rowsIn dOb (· = b) : Finset _) := by
  ext i
  rw [View.set_reshape]
  erw [View.set_slice_whole, Rect.mem_set_unit, mem_rowsIn]
  exact row_mem_iff dOb i b

theorem inb_in (b : Fin 16) : ∀ a, (![b.val] : Fin 1 → ℕ) a + S1.size a ≤ S16.size a := by
  intro a; fin_cases a; have := b.isLt; simp [S1, S16] <;> omega
theorem inb_out (b : Fin 3) : ∀ a, (![b.val] : Fin 1 → ℕ) a + S1.size a ≤ S3.size a := by
  intro a; fin_cases a; have := b.isLt; simp [S1, S3] <;> omega
theorem inb_xu (b : Fin 16) : ∀ a, (![b.val, 0, 0] : Fin 3 → ℕ) a + S1x1024x768.size a ≤ S16x1024x768.size a := by
  intro a; have := b.isLt; fin_cases a <;> simp [S1x1024x768, S16x1024x768] <;> omega
theorem inb_xs (b : Fin 16) : ∀ a, (![b.val, 0, 0] : Fin 3 → ℕ) a + S1x1024x512.size a ≤ S16x1024x512.size a := by
  intro a; have := b.isLt; fin_cases a <;> simp [S1x1024x512, S16x1024x512] <;> omega
theorem inb_co (b : Fin 16) : ∀ a, (![b.val, 0, 0] : Fin 3 → ℕ) a + S1x1024x1280.size a ≤ S16x1024x1280.size a := by
  intro a; have := b.isLt; fin_cases a <;> simp [S1x1024x1280, S16x1024x1280] <;> omega
theorem inb_ob (b : Fin 3) : ∀ a, (![b.val, 0, 0] : Fin 3 → ℕ) a + S1x1024x1280.size a ≤ S3x1024x1280.size a := by
  intro a; have := b.isLt; fin_cases a <;> simp [S1x1024x1280, S3x1024x1280] <;> omega

/-- The semaphore cells of the rows coming in, and of the rows going out. -/
abbrev inSem (b : Fin 16) : DmaSem sig :=
  ((cc0_scratch10.slice (Rect.unit (s := S16) ![b.val] S1.size (inb_in b))).squeeze S_ squeezes_S1_S_).sem
abbrev outSem (b : Fin 3) : DmaSem sig :=
  ((cc0_scratch11.slice (Rect.unit (s := S3) ![b.val] S1.size (inb_out b))).squeeze S_ squeezes_S1_S_).sem

/-! ## Splitting -/

theorem pt_split {c : Thread nD τ} {ℓ : Loc nD τ sig} {S A B : Finset (Idx ℓ)} (h : ∀ i, i ∈ S ↔ i ∈ A ∨ i ∈ B) (hd : ∀ i, i ∈ A → i ∉ B)
    (q : PosShare TreeShare) (f : Buf (Elt F) ℓ) : (ℓ ↦[S]{q} f : sProp 𝕄) ⊣⊢ iprop((ℓ ↦[A]{q} f) ∗ (ℓ ↦[B]{q} f)) := by
  have e : S = A ∪ B := by ext i; rw [Finset.mem_union]; exact h i
  rw [e]
  exact pointsTo_union (Finset.disjoint_left.mpr hd)

def geS (n k : ℕ) : Finset (Fin n) := Finset.univ.filter fun i => k ≤ i.val
def ltS (n k : ℕ) : Finset (Fin n) := Finset.univ.filter fun i => i.val < k

theorem bigSep_ge {n : ℕ} (Φ : Fin n → sProp 𝕄) (k : Fin n) : bigSep (geS n k.val) Φ = iprop(Φ k ∗ bigSep (geS n (k.val + 1)) Φ) := by
  have e : geS n k.val = insert k (geS n (k.val + 1)) := by
    ext i; simp only [geS, Finset.mem_filter, Finset.mem_univ, true_and, Finset.mem_insert, Fin.ext_iff]; omega
  rw [e, bigSep_insert (by simp [geS])]; rfl
theorem bigSep_lt {n : ℕ} (Φ : Fin n → sProp 𝕄) (k : Fin n) : bigSep (ltS n (k.val + 1)) Φ = iprop(Φ k ∗ bigSep (ltS n k.val) Φ) := by
  have e : ltS n (k.val + 1) = insert k (ltS n k.val) := by
    ext i; simp only [ltS, Finset.mem_filter, Finset.mem_univ, true_and, Finset.mem_insert, Fin.ext_iff]; omega
  rw [e, bigSep_insert (by simp [ltS])]; rfl
theorem geS_zero (n : ℕ) : geS n 0 = Finset.univ := by ext i; simp [geS]
theorem ltS_full (n : ℕ) : ltS n n = Finset.univ := by ext i; simp [ltS]
theorem geS_full (n : ℕ) : geS n n = ∅ := by ext i; simp [geS]
theorem ltS_zero (n : ℕ) : ltS n 0 = ∅ := by ext i; simp [ltS]

/-! ## The rows coming in -/

section In
variable (c : Dev nD) (x0 : S16x1024x768.Idx → Elt F .bf16) (x1 : S16x1024x512.Idx → Elt F .bf16)

/-- One row's two amounts, in issue order. -/
def amtIn : Fin 2 → ℕ := ![(wXu mXu ![(0 : Fin 16).val, 0, 0] (inb_xu 0)).view.dmaCredit, (wXs mXs ![(0 : Fin 16).val, 0, 0] (inb_xs 0)).view.dmaCredit]

abbrev ptXuH (p : ℕ → Prop) [DecidablePred p] : sProp 𝕄 := mXuH.view.loc (c : Thread nD τ) ↦[(rowsIn dXu p : Finset _)]{fullShare} x0
abbrev ptXu (p : ℕ → Prop) [DecidablePred p] : sProp 𝕄 := mXu.view.loc (c : Thread nD τ) ↦[(rowsIn dXu p : Finset _)]{fullShare} x0
abbrev ptXsH (p : ℕ → Prop) [DecidablePred p] : sProp 𝕄 := mXsH.view.loc (c : Thread nD τ) ↦[(rowsIn dXs p : Finset _)]{fullShare} x1
abbrev ptXs (p : ℕ → Prop) [DecidablePred p] : sProp 𝕄 := mXs.view.loc (c : Thread nD τ) ↦[(rowsIn dXs p : Finset _)]{fullShare} x1

/-- What row `b`'s two transfers deliver: the row landed, and its source row back. -/
def dlvIn (b : Fin 16) : Fin 2 → sProp 𝕄
  | 0 => iprop(ptXu c x0 (· = b.val) ∗ ptXuH c x0 (· = b.val))
  | 1 => iprop(ptXs c x1 (· = b.val) ∗ ptXsH c x1 (· = b.val))

instance (b : Fin 16) (t : Fin 2) : Storable (upEmb : UEmb _ 𝕄) (dlvIn c x0 x1 b t) := by
  fin_cases t <;> simp only [dlvIn] <;> infer_instance

abbrev EC := (countersEmb (U := Pipeline.UD sig nD τ) : UEmb Counters 𝕄)

def mbIn (b : Fin 16) : sProp 𝕄 := Transfers.MixedBatch (countersEmb (U := Pipeline.UD sig nD τ)) (c : Thread nD τ) (.dma (inSem b)) () amtIn (dlvIn c x0 x1 b) 2 0

end In

end Cert.Kernel.Hand
-- ==== Proof.K.In.lean ====
/-
  The rows coming in: issuing a row's two transfers, and waiting for them.
-/
module

public import proofs.«01_k».proof.Proof.K.Base

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

section
variable (c : Dev nD) (x0 : S16x1024x768.Idx → Elt F .bf16) (x1 : S16x1024x512.Idx → Elt F .bf16)

/-- A row's copy of an array's row: where it lands it agrees with the array. -/
theorem land_xu (b : Fin 16) (f : S16x1024x768.Idx → Elt F .bf16) :
    ∀ i ∈ (rowsIn dXu (· = b.val) : Finset _),
      (wXu mXu ![b.val, 0, 0] (inb_xu b)).view.write (Elt F) f (ReadAs.same.apply ((wXu mXuH ![b.val, 0, 0] (inb_xu b)).view.read (Elt F) x0)) Finset.univ i = x0 i := by
  intro i hi
  rw [← wXu_set b.val (inb_xu b)] at hi
  obtain ⟨j, -, rfl⟩ := Finset.mem_map.mp hi
  rw [View.write_emb_of_mem _ _ (Finset.mem_univ j)]
  rfl
theorem land_xs (b : Fin 16) (f : S16x1024x512.Idx → Elt F .bf16) :
    ∀ i ∈ (rowsIn dXs (· = b.val) : Finset _),
      (wXs mXs ![b.val, 0, 0] (inb_xs b)).view.write (Elt F) f (ReadAs.same.apply ((wXs mXsH ![b.val, 0, 0] (inb_xs b)).view.read (Elt F) x1)) Finset.univ i = x1 i := by
  intro i hi
  rw [← wXs_set b.val (inb_xs b)] at hi
  obtain ⟨j, -, rfl⟩ := Finset.mem_map.mp hi
  rw [View.write_emb_of_mem _ _ (Finset.mem_univ j)]
  rfl

/-- Before row `n` is issued: the rows from `n` on lie where they were, the rows below are in flight. -/
def InSt (f6 : S16x1024x768.Idx → Elt F .bf16) (f7 : S16x1024x512.Idx → Elt F .bf16) (n : ℕ) : sProp 𝕄 :=
  iprop(ptXu c f6 (n ≤ ·) ∗ ptXuH c x0 (n ≤ ·) ∗ ptXs c f7 (n ≤ ·) ∗ ptXsH c x1 (n ≤ ·)
    ∗ bigSep (geS 16 n) (fun b => semVal ((c : Thread nD τ), SemLoc.dma (inSem b)) 0) ∗ bigSep (ltS 16 n) (mbIn c x0 x1))

theorem ge_iff (n i : ℕ) : n ≤ i ↔ i = n ∨ n + 1 ≤ i := by omega
theorem lt_iff (n i : ℕ) : i < n + 1 ↔ i = n ∨ i < n := by omega

theorem rows_ge {d : Fin 3 → ℕ} (n : ℕ) (i : (a : Fin 3) → Fin (d a)) : i ∈ rowsIn d (n ≤ ·) ↔ i ∈ rowsIn d (· = n) ∨ i ∈ rowsIn d (n + 1 ≤ ·) := by
  simp only [mem_rowsIn]; omega
theorem rows_ge' {d : Fin 3 → ℕ} (n : ℕ) (i : (a : Fin 3) → Fin (d a)) : i ∈ rowsIn d (· = n) → i ∉ rowsIn d (n + 1 ≤ ·) := by
  simp only [mem_rowsIn]; omega
theorem rows_lt {d : Fin 3 → ℕ} (n : ℕ) (i : (a : Fin 3) → Fin (d a)) : i ∈ rowsIn d (· < n + 1) ↔ i ∈ rowsIn d (· = n) ∨ i ∈ rowsIn d (· < n) := by
  simp only [mem_rowsIn]; omega
theorem rows_lt' {d : Fin 3 → ℕ} (n : ℕ) (i : (a : Fin 3) → Fin (d a)) : i ∈ rowsIn d (· = n) → i ∉ rowsIn d (· < n) := by
  simp only [mem_rowsIn]; omega

theorem splitXuH (f : S16x1024x768.Idx → Elt F .bf16) (n : ℕ) : ptXuH c f (n ≤ ·) ⊣⊢ iprop(ptXuH c f (· = n) ∗ ptXuH c f (n + 1 ≤ ·)) := by
  refine pt_split (c := (c : Thread nD τ)) (ℓ := mXuH.view.loc (c : Thread nD τ)) (S := (rowsIn dXu (n ≤ ·) : Finset _)) (A := (rowsIn dXu (· = n) : Finset _))
    (B := (rowsIn dXu (n + 1 ≤ ·) : Finset _)) ?_ ?_ fullShare f
  · exact rows_ge (d := dXu) n
  · exact rows_ge' (d := dXu) n
theorem joinXuH (f : S16x1024x768.Idx → Elt F .bf16) (n : ℕ) : ptXuH c f (· < n + 1) ⊣⊢ iprop(ptXuH c f (· = n) ∗ ptXuH c f (· < n)) := by
  refine pt_split (c := (c : Thread nD τ)) (ℓ := mXuH.view.loc (c : Thread nD τ)) (S := (rowsIn dXu (· < n + 1) : Finset _)) (A := (rowsIn dXu (· = n) : Finset _))
    (B := (rowsIn dXu (· < n) : Finset _)) ?_ ?_ fullShare f
  · exact rows_lt (d := dXu) n
  · exact rows_lt' (d := dXu) n
theorem splitXu (f : S16x1024x768.Idx → Elt F .bf16) (n : ℕ) : ptXu c f (n ≤ ·) ⊣⊢ iprop(ptXu c f (· = n) ∗ ptXu c f (n + 1 ≤ ·)) := by
  refine pt_split (c := (c : Thread nD τ)) (ℓ := mXu.view.loc (c : Thread nD τ)) (S := (rowsIn dXu (n ≤ ·) : Finset _)) (A := (rowsIn dXu (· = n) : Finset _))
    (B := (rowsIn dXu (n + 1 ≤ ·) : Finset _)) ?_ ?_ fullShare f
  · exact rows_ge (d := dXu) n
  · exact rows_ge' (d := dXu) n
theorem joinXu (f : S16x1024x768.Idx → Elt F .bf16) (n : ℕ) : ptXu c f (· < n + 1) ⊣⊢ iprop(ptXu c f (· = n) ∗ ptXu c f (· < n)) := by
  refine pt_split (c := (c : Thread nD τ)) (ℓ := mXu.view.loc (c : Thread nD τ)) (S := (rowsIn dXu (· < n + 1) : Finset _)) (A := (rowsIn dXu (· = n) : Finset _))
    (B := (rowsIn dXu (· < n) : Finset _)) ?_ ?_ fullShare f
  · exact rows_lt (d := dXu) n
  · exact rows_lt' (d := dXu) n
theorem splitXsH (f : S16x1024x512.Idx → Elt F .bf16) (n : ℕ) : ptXsH c f (n ≤ ·) ⊣⊢ iprop(ptXsH c f (· = n) ∗ ptXsH c f (n + 1 ≤ ·)) := by
  refine pt_split (c := (c : Thread nD τ)) (ℓ := mXsH.view.loc (c : Thread nD τ)) (S := (rowsIn dXs (n ≤ ·) : Finset _)) (A := (rowsIn dXs (· = n) : Finset _))
    (B := (rowsIn dXs (n + 1 ≤ ·) : Finset _)) ?_ ?_ fullShare f
  · exact rows_ge (d := dXs) n
  · exact rows_ge' (d := dXs) n
theorem joinXsH (f : S16x1024x512.Idx → Elt F .bf16) (n : ℕ) : ptXsH c f (· < n + 1) ⊣⊢ iprop(ptXsH c f (· = n) ∗ ptXsH c f (· < n)) := by
  refine pt_split (c := (c : Thread nD τ)) (ℓ := mXsH.view.loc (c : Thread nD τ)) (S := (rowsIn dXs (· < n + 1) : Finset _)) (A := (rowsIn dXs (· = n) : Finset _))
    (B := (rowsIn dXs (· < n) : Finset _)) ?_ ?_ fullShare f
  · exact rows_lt (d := dXs) n
  · exact rows_lt' (d := dXs) n
theorem splitXs (f : S16x1024x512.Idx → Elt F .bf16) (n : ℕ) : ptXs c f (n ≤ ·) ⊣⊢ iprop(ptXs c f (· = n) ∗ ptXs c f (n + 1 ≤ ·)) := by
  refine pt_split (c := (c : Thread nD τ)) (ℓ := mXs.view.loc (c : Thread nD τ)) (S := (rowsIn dXs (n ≤ ·) : Finset _)) (A := (rowsIn dXs (· = n) : Finset _))
    (B := (rowsIn dXs (n + 1 ≤ ·) : Finset _)) ?_ ?_ fullShare f
  · exact rows_ge (d := dXs) n
  · exact rows_ge' (d := dXs) n
theorem joinXs (f : S16x1024x512.Idx → Elt F .bf16) (n : ℕ) : ptXs c f (· < n + 1) ⊣⊢ iprop(ptXs c f (· = n) ∗ ptXs c f (· < n)) := by
  refine pt_split (c := (c : Thread nD τ)) (ℓ := mXs.view.loc (c : Thread nD τ)) (S := (rowsIn dXs (· < n + 1) : Finset _)) (A := (rowsIn dXs (· = n) : Finset _))
    (B := (rowsIn dXs (· < n) : Finset _)) ?_ ?_ fullShare f
  · exact rows_lt (d := dXs) n
  · exact rows_lt' (d := dXs) n

theorem dlv0 (b : Fin 16) (f6 : S16x1024x768.Idx → Elt F .bf16) :
    iprop(((wXu mXu ![b.val, 0, 0] (inb_xu b)).view.loc (c : Thread nD τ) ↦[(rowsIn dXu (· = b.val) : Finset _)]{fullShare}
        ((wXu mXu ![b.val, 0, 0] (inb_xu b)).view.write (Elt F) f6 (ReadAs.same.apply ((wXu mXuH ![b.val, 0, 0] (inb_xu b)).view.read (Elt F) x0)) Finset.univ))
      ∗ ((wXu mXuH ![b.val, 0, 0] (inb_xu b)).view.loc (c : Thread nD τ) ↦[(wXu mXuH ![b.val, 0, 0] (inb_xu b)).view.set]{fullShare} x0))
    ⊢ dlvIn c x0 x1 b 0 := by
  rw [wXu_setH]
  unfold dlvIn
  exact sep_mono (Entails.of_eq (pointsTo_congr (land_xu x0 b f6))) .rfl
theorem dlv1 (b : Fin 16) (f7 : S16x1024x512.Idx → Elt F .bf16) :
    iprop(((wXs mXs ![b.val, 0, 0] (inb_xs b)).view.loc (c : Thread nD τ) ↦[(rowsIn dXs (· = b.val) : Finset _)]{fullShare}
        ((wXs mXs ![b.val, 0, 0] (inb_xs b)).view.write (Elt F) f7 (ReadAs.same.apply ((wXs mXsH ![b.val, 0, 0] (inb_xs b)).view.read (Elt F) x1)) Finset.univ))
      ∗ ((wXs mXsH ![b.val, 0, 0] (inb_xs b)).view.loc (c : Thread nD τ) ↦[(wXs mXsH ![b.val, 0, 0] (inb_xs b)).view.set]{fullShare} x1))
    ⊢ dlvIn c x0 x1 b 1 := by
  rw [wXs_setH]
  unfold dlvIn
  exact sep_mono (Entails.of_eq (pointsTo_congr (land_xs x1 b f7))) .rfl

theorem hA0 : ∀ t, 0 < amtIn t := by decide
theorem hu0 : 0 + amtIn 0 ≤ Transfers.sumTo amtIn 2 := by decide
theorem hu1 : 0 + amtIn 0 + amtIn 1 = Transfers.sumTo amtIn 2 := by decide
theorem bigSep_univ2 (Φ : Fin 2 → sProp 𝕄) : bigSep Finset.univ Φ = iprop(Φ 0 ∗ Φ 1) :=
  by
  rw [BI.bigSep_eq_bigSepL_of_eq [0, 1] (by decide) (by decide)]; rfl

theorem issue_row {α : Type} {R : sProp 𝕄} (b : Fin 16) {f6 : S16x1024x768.Idx → Elt F .bf16} {f7 : S16x1024x512.Idx → Elt F .bf16}
    {h1 : (wXu mXuH ![b.val, 0, 0] (inb_xu b)).view.WordExact} {h2 : (wXu mXu ![b.val, 0, 0] (inb_xu b)).view.WordExact}
    {h3 : DmaTarget.Typed (nD := nD) .hbm (SemLoc.dma (inSem b)) (.here (p := (.tc : Proc τ)) (wXu mXu ![b.val, 0, 0] (inb_xu b)))}
    {g1 : (wXs mXsH ![b.val, 0, 0] (inb_xs b)).view.WordExact} {g2 : (wXs mXs ![b.val, 0, 0] (inb_xs b)).view.WordExact}
    {g3 : DmaTarget.Typed (nD := nD) .hbm (SemLoc.dma (inSem b)) (.here (p := (.tc : Proc τ)) (wXs mXs ![b.val, 0, 0] (inb_xs b)))}
    {k : PUnit → Prog (TpuEff nD τ sig (Elt F) Λ₀ .tc) α} {Q : α → sProp 𝕄}
    (h : iprop(R ∗ InSt c x0 x1 f6 f7 (b.val + 1)) ⊢ WP c (k ⟨⟩) Q) :
    iprop(R ∗ InSt c x0 x1 f6 f7 b.val) ⊢ WP c (.op (.enqueueDma (wXu mXuH ![b.val, 0, 0] (inb_xu b)) (.here (wXu mXu ![b.val, 0, 0] (inb_xu b))) (.dma (inSem b)) h1 h2 h3)
        fun _ => .op (.enqueueDma (wXs mXsH ![b.val, 0, 0] (inb_xs b)) (.here (wXs mXs ![b.val, 0, 0] (inb_xs b))) (.dma (inSem b)) g1 g2 g3) k) Q := by
  unfold InSt at h ⊢
  iintro ⟨HR, H6, H0, H7, H1, Hs, Hm⟩
  icases (splitXu c f6 b.val).1 $$ H6 with ⟨H6b, H6⟩
  icases (splitXuH c x0 b.val).1 $$ H0 with ⟨H0b, H0⟩
  icases (splitXs c f7 b.val).1 $$ H7 with ⟨H7b, H7⟩
  icases (splitXsH c x1 b.val).1 $$ H1 with ⟨H1b, H1⟩
  icases (Entails.of_eq (bigSep_ge (fun b => (semVal ((c : Thread nD τ), SemLoc.dma (inSem b)) 0 : sProp 𝕄)) b)) $$ Hs with ⟨Hsb, Hs⟩
  imod (Transfers.mixedBatch_alloc' (Lvl := ℕ) (countersEmb (U := Pipeline.UD sig nD τ)) (c : Thread nD τ) () amtIn
      (dlvIn c x0 x1 b) (sm := SemLoc.dma (inSem b)) (E := Set.univ)) $$ Hsb with HB
  iapply (Transfers.wp_dmaMixedBatch (countersEmb (U := Pipeline.UD sig nD τ)) Variants.none (c : Thread nD τ) none
    (src := wXu mXuH ![b.val, 0, 0] (inb_xu b)) (dst := wXu mXu ![b.val, 0, 0] (inb_xu b)) (fs := x0) (fd := f6) (D := dlvIn c x0 x1 b)
    (Sd := (rowsIn dXu (· = b.val) : Finset _)) (j := 0) (u := 0) () amtIn (by rw [wXu_set]) (by decide) rfl (by decide) (dlv0 c x0 x1 b f6)) $$ [H0b H6b HB]
  · isplitl [H0b]; · rw [wXu_setH]; iexact H0b
    isplitl [H6b]; · iexact H6b
    iexact HB
  iintro HB
  iapply (Transfers.wp_dmaMixedBatch (countersEmb (U := Pipeline.UD sig nD τ)) Variants.none (c : Thread nD τ) none
    (src := wXs mXsH ![b.val, 0, 0] (inb_xs b)) (dst := wXs mXs ![b.val, 0, 0] (inb_xs b)) (fs := x1) (fd := f7) (D := dlvIn c x0 x1 b)
    (Sd := (rowsIn dXs (· = b.val) : Finset _)) (j := 1) (u := 0) () amtIn (by rw [wXs_set]) (by decide) rfl (Nat.zero_le _) (dlv1 c x0 x1 b f7)) $$ [H1b H7b HB]
  · isplitl [H1b]; · rw [wXs_setH]; iexact H1b
    isplitl [H7b]; · iexact H7b
    iexact HB
  iintro HB
  iapply h
  isplitl [HR]; · iexact HR
  isplitl [H6]; · iexact H6
  isplitl [H0]; · iexact H0
  isplitl [H7]; · iexact H7
  isplitl [H1]; · iexact H1
  isplitl [Hs]; · iexact Hs
  rw [bigSep_lt]
  isplitl [HB]; · unfold mbIn; iexact HB
  iexact Hm

/-! ## Waiting for a row -/

/-- Before trip `n`: the rows below are landed and their cells at zero, the rows from `n` on in flight. -/
def WaSt (n : ℕ) : sProp 𝕄 :=
  iprop(ptXu c x0 (· < n) ∗ ptXuH c x0 (· < n) ∗ ptXs c x1 (· < n) ∗ ptXsH c x1 (· < n)
    ∗ bigSep (ltS 16 n) (fun b => semVal ((c : Thread nD τ), SemLoc.dma (inSem b)) 0) ∗ bigSep (geS 16 n) (mbIn c x0 x1)
    ∗ ∃ W, owes (c : Thread nD τ) 0 W)

theorem wait_row {α : Type} {R : sProp 𝕄} (b : Fin 16)
    {h1 : (wXu mXuH ![b.val, 0, 0] (inb_xu b)).view.WordExact} {h2 : (wXu mXu ![b.val, 0, 0] (inb_xu b)).view.WordExact}
    {g1 : (wXs mXsH ![b.val, 0, 0] (inb_xs b)).view.WordExact} {g2 : (wXs mXs ![b.val, 0, 0] (inb_xs b)).view.WordExact}
    {k : PUnit → Prog (TpuEff nD τ sig (Elt F) Λ₀ .tc) α} {Q : α → sProp 𝕄}
    (h : iprop(R ∗ WaSt c x0 x1 (b.val + 1)) ⊢ WP c (k ⟨⟩) Q) :
    iprop(R ∗ WaSt c x0 x1 b.val) ⊢ WP c (.op (.waitDma2 (inSem b) (wXu mXuH ![b.val, 0, 0] (inb_xu b)) (wXu mXu ![b.val, 0, 0] (inb_xu b)) h1 h2)
        fun _ => .op (.waitDma2 (inSem b) (wXs mXsH ![b.val, 0, 0] (inb_xs b)) (wXs mXs ![b.val, 0, 0] (inb_xs b)) g1 g2) k) Q := by
  unfold WaSt at h ⊢
  iintro ⟨HR, H6, H0, H7, H1, Hs, Hm, ⟨%W, HW⟩⟩
  icases (Entails.of_eq (bigSep_ge (mbIn c x0 x1) b)) $$ Hm with ⟨HB, Hm⟩
  unfold mbIn
  iapply (Transfers.wp_waitMixedBatch (countersEmb (U := Pipeline.UD sig nD τ)) Variants.none (c : Thread nD τ) none
    (srcw := wXu mXuH ![b.val, 0, 0] (inb_xu b)) (dstw := wXu mXu ![b.val, 0, 0] (inb_xu b)) (A := amtIn) (D := dlvIn c x0 x1 b) (j := 2) (u := 0)
    () (J := amtIn 0) rfl hu0) $$ [HB HW]
  · isplitl [HB]; · iexact HB
    iexact HW
  iintro ⟨HB, HW⟩
  iapply (Transfers.wp_waitMixedBatchAll (countersEmb (U := Pipeline.UD sig nD τ)) Variants.none (c : Thread nD τ) none
    (srcw := wXs mXsH ![b.val, 0, 0] (inb_xs b)) (dstw := wXs mXs ![b.val, 0, 0] (inb_xs b)) (A := amtIn) (D := dlvIn c x0 x1 b) (u := 0 + amtIn 0)
    () (J := amtIn 1) rfl hA0 hu1) $$ [HB HW]
  · isplitl [HB]; · iexact HB
    iexact HW
  iintro ⟨HD, Hsb, HW⟩
  icases (Entails.of_eq (bigSep_univ2 (dlvIn c x0 x1 b))) $$ HD with ⟨HD0, HD1⟩
  unfold dlvIn
  icases HD0 with ⟨H6b, H0b⟩
  icases HD1 with ⟨H7b, H1b⟩
  iapply h
  isplitl [HR]; · iexact HR
  isplitl [H6b H6]
  · iapply (joinXu c x0 b.val).2; isplitl [H6b] <;> iassumption
  isplitl [H0b H0]
  · iapply (joinXuH c x0 b.val).2; isplitl [H0b] <;> iassumption
  isplitl [H7b H7]
  · iapply (joinXs c x1 b.val).2; isplitl [H7b] <;> iassumption
  isplitl [H1b H1]
  · iapply (joinXsH c x1 b.val).2; isplitl [H1b] <;> iassumption
  isplitl [Hsb Hs]
  · rw [bigSep_lt]; isplitl [Hsb] <;> iassumption
  isplitl [Hm]; · iexact Hm
  iexists _; iexact HW

end

theorem wp_done {c : Dev nD} {α : Type} {P : sProp 𝕄} {Q : α → sProp 𝕄} {a : α} (h : P ⊢ Q a) : P ⊢ WP c (Prog.ret a) Q :=
  h.trans (le_wp_ret _ _ _ a Q)

end Cert.Kernel.Hand
-- ==== Proof.K.Ld.lean ====
/-
  Loads within a row, over a state that stays as it is.
-/
module

public import proofs.«01_k».proof.Proof.K.In

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (c : Dev nD) (x0 : S16x1024x768.Idx → Elt F .bf16) (x1 : S16x1024x512.Idx → Elt F .bf16)

theorem wait_row' {α : Type} {R : sProp 𝕄} (b : Fin 16) {o1 : Fin 1 → ℕ} {o2 o3 : Fin 3 → ℕ} (e1 : o1 = ![b.val]) (e2 : o2 = ![b.val, 0, 0]) (e3 : o3 = ![b.val, 0, 0])
    {i1 i1' : ∀ a, o1 a + S1.size a ≤ S16.size a} {i2 : ∀ a, o2 a + S1x1024x768.size a ≤ S16x1024x768.size a} {i3 : ∀ a, o3 a + S1x1024x512.size a ≤ S16x1024x512.size a}
    {h1 : (wXu mXuH o2 i2).view.WordExact} {h2 : (wXu mXu o2 i2).view.WordExact}
    {g1 : (wXs mXsH o3 i3).view.WordExact} {g2 : (wXs mXs o3 i3).view.WordExact}
    {k : PUnit → Prog (TpuEff nD τ sig (Elt F) Λ₀ .tc) α} {Q : α → sProp 𝕄}
    (h : iprop(R ∗ WaSt c x0 x1 (b.val + 1)) ⊢ WP c (k ⟨⟩) Q) :
    iprop(R ∗ WaSt c x0 x1 b.val) ⊢ WP c (.op (.waitDma2 ((cc0_scratch10.slice (Rect.unit (s := S16) o1 S1.size i1)).squeeze S_ squeezes_S1_S_).sem (wXu mXuH o2 i2) (wXu mXu o2 i2) h1 h2)
        fun _ => .op (.waitDma2 ((cc0_scratch10.slice (Rect.unit (s := S16) o1 S1.size i1')).squeeze S_ squeezes_S1_S_).sem (wXs mXsH o3 i3) (wXs mXs o3 i3) g1 g2) k) Q := by
  subst e1; subst e2; subst e3
  exact wait_row c x0 x1 b h

/-- The element of a rank-three array at natural-number coordinates. -/
def at3 {α : Type} (d0 d1 d2 : ℕ) [NeZero d0] [NeZero d1] [NeZero d2] (x : (⟨3, ![d0, d1, d2]⟩ : Shape).Idx → α) (b r q : ℕ) : α :=
  x (fun | 0 => Fin.ofNat d0 b | 1 => Fin.ofNat d1 r | 2 => Fin.ofNat d2 q)
/-- The eight by 256 block at rows `r…`, lanes `q…` of row `b`. -/
def blkU (x0 : S16x1024x768.Idx → Elt F .bf16) (b r q : ℕ) : Vec F S1x8x256 .bf16 := fun i => at3 16 1024 768 x0 b (r + (i 1).val) (q + (i 2).val)
def blkS (x1 : S16x1024x512.Idx → Elt F .bf16) (b r q : ℕ) : Vec F S1x8x256 .bf16 := fun i => at3 16 1024 512 x1 b (r + (i 1).val) (q + (i 2).val)

theorem read_blkU (b r q : ℕ) (inb : ∀ a, (![b, r, q] : Fin 3 → ℕ) a + S1x8x256.size a ≤ S16x1024x768.size a) :
    mXu.view.readAt (Elt F) (Rect.unit (s := S16x1024x768) ![b, r, q] S1x8x256.size inb).toLoadRect x0 = blkU x0 b r q := by
  funext i
  have e0 : b + 1 ≤ 16 := inb 0
  have e1 : r + 8 ≤ 1024 := inb 1
  have e2 : q + 256 ≤ 768 := inb 2
  have i0 : (i 0).val < 1 := (i 0).isLt
  have i1 : (i 1).val < 8 := (i 1).isLt
  have i2 : (i 2).val < 256 := (i 2).isLt
  show x0 _ = x0 _
  congr 1
  funext a
  match a with
  | 0 => exact Fin.ext (show b + 1 * (i 0).val = b % 16 by omega)
  | 1 => exact Fin.ext (show r + 1 * (i 1).val = (r + (i 1).val) % 1024 by omega)
  | 2 => exact Fin.ext (show q + 1 * (i 2).val = (q + (i 2).val) % 768 by omega)
theorem sub_blkU {n : ℕ} (b r q : ℕ) (hb : b < n) (inb : ∀ a, (![b, r, q] : Fin 3 → ℕ) a + S1x8x256.size a ≤ S16x1024x768.size a) :
    mXu.view.setOn (Rect.unit (s := S16x1024x768) ![b, r, q] S1x8x256.size inb).toLoadRect.set ⊆ (rowsIn dXu (· < n) : Finset _) := by
  intro i hi
  obtain ⟨j, hj, rfl⟩ := Finset.mem_map.mp hi
  obtain ⟨t, ht, e⟩ := (LoadRect.mem_set _).mp hj 0
  rw [mem_rowsIn]
  have ht' : t < 1 := ht
  have e' : (j 0).val = b + 1 * t := e
  show (j 0).val < n
  omega
theorem read_blkS (b r q : ℕ) (inb : ∀ a, (![b, r, q] : Fin 3 → ℕ) a + S1x8x256.size a ≤ S16x1024x512.size a) :
    mXs.view.readAt (Elt F) (Rect.unit (s := S16x1024x512) ![b, r, q] S1x8x256.size inb).toLoadRect x1 = blkS x1 b r q := by
  funext i
  have e0 : b + 1 ≤ 16 := inb 0
  have e1 : r + 8 ≤ 1024 := inb 1
  have e2 : q + 256 ≤ 512 := inb 2
  have i0 : (i 0).val < 1 := (i 0).isLt
  have i1 : (i 1).val < 8 := (i 1).isLt
  have i2 : (i 2).val < 256 := (i 2).isLt
  show x1 _ = x1 _
  congr 1
  funext a
  match a with
  | 0 => exact Fin.ext (show b + 1 * (i 0).val = b % 16 by omega)
  | 1 => exact Fin.ext (show r + 1 * (i 1).val = (r + (i 1).val) % 1024 by omega)
  | 2 => exact Fin.ext (show q + 1 * (i 2).val = (q + (i 2).val) % 512 by omega)
theorem sub_blkS {n : ℕ} (b r q : ℕ) (hb : b < n) (inb : ∀ a, (![b, r, q] : Fin 3 → ℕ) a + S1x8x256.size a ≤ S16x1024x512.size a) :
    mXs.view.setOn (Rect.unit (s := S16x1024x512) ![b, r, q] S1x8x256.size inb).toLoadRect.set ⊆ (rowsIn dXs (· < n) : Finset _) := by
  intro i hi
  obtain ⟨j, hj, rfl⟩ := Finset.mem_map.mp hi
  obtain ⟨t, ht, e⟩ := (LoadRect.mem_set _).mp hj 0
  rw [mem_rowsIn]
  have ht' : t < 1 := ht
  have e' : (j 0).val = b + 1 * t := e
  show (j 0).val < n
  omega

abbrev ptOn (f : S8x256.Idx → Elt F .bf16) : sProp 𝕄 := mOn.view.loc (c : Thread nD τ) ↦[Finset.univ]{fullShare} f
abbrev ptS1 (f : S16x1x1280.Idx → Elt F .f32) : sProp 𝕄 := mS1.view.loc (c : Thread nD τ) ↦[Finset.univ]{fullShare} f
abbrev ptS2 (f : S16x1x1280.Idx → Elt F .f32) : sProp 𝕄 := mS2.view.loc (c : Thread nD τ) ↦[Finset.univ]{fullShare} f
abbrev ptMx (f : S16x1x1280.Idx → Elt F .f32) : sProp 𝕄 := mMx.view.loc (c : Thread nD τ) ↦[Finset.univ]{fullShare} f
abbrev ptMn (f : S16x1x1280.Idx → Elt F .f32) : sProp 𝕄 := mMn.view.loc (c : Thread nD τ) ↦[Finset.univ]{fullShare} f
abbrev ptA (f : S16x1x1280.Idx → Elt F .f32) : sProp 𝕄 := mA.view.loc (c : Thread nD τ) ↦[Finset.univ]{fullShare} f
abbrev ptB (f : S16x1x1280.Idx → Elt F .f32) : sProp 𝕄 := mB.view.loc (c : Thread nD τ) ↦[Finset.univ]{fullShare} f

/-- The state a row's statistics run in. -/
def St (R : sProp 𝕄) (on : S8x256.Idx → Elt F .bf16) (n : ℕ) (s1 s2 mx mn : S16x1x1280.Idx → Elt F .f32) : sProp 𝕄 :=
  iprop(iprop(R ∗ ptOn c on ∗ ptS1 c s1 ∗ ptS2 c s2 ∗ ptMx c mx ∗ ptMn c mn) ∗ WaSt c x0 x1 n)

/-- A statistics buffer with one 256-lane block written. -/
abbrev wr4 (M : Memref sig .tc .vmem S16x1x1280 .f32) (f : M.view.ty.Contents (Elt F)) (o : Fin 3 → ℕ) (inb : ∀ a, o a + S1x1x256.size a ≤ S16x1x1280.size a) (w : S1x1x256.Idx → Elt F .f32) :
    M.view.ty.Contents (Elt F) := (M.access (Rect.unit (s := S16x1x1280) o S1x1x256.size inb)).write (Elt F) f w Finset.univ

variable {c x0 x1}
variable {α : Type} {on : S8x256.Idx → Elt F .bf16} {n : ℕ} {s1 s2 mx mn : S16x1x1280.Idx → Elt F .f32}

theorem ldU {R : sProp 𝕄} {Q : α → sProp 𝕄} (b r q : ℕ) (hb : b < n) {o : Fin 3 → ℕ} (ho : o = ![b, r, q]) {inb : ∀ a, o a + S1x8x256.size a ≤ S16x1024x768.size a}
    {hl : mXu.view.LoadsAt (Rect.unit (s := S16x1024x768) o S1x8x256.size inb).toLoadRect} {k : Vec F S1x8x256 .bf16 → Prog (TpuEff nD τ sig (Elt F) Λ₀ .tc) α}
    (h : St c x0 x1 R on n s1 s2 mx mn ⊢ WP c (k (blkU x0 b r q)) Q) :
    St c x0 x1 R on n s1 s2 mx mn ⊢ WP c (.op (.load mXu (Rect.unit (s := S16x1024x768) o S1x8x256.size inb).toLoadRect hl) k) Q := by
  subst ho
  refine exec_load Variants.none (c : Thread nD τ) none Set.univ (q := fullShare) (R := iprop(iprop(R ∗ ptOn c on ∗ ptS1 c s1 ∗ ptS2 c s2 ∗ ptMx c mx ∗ ptMn c mn) ∗ iprop(ptXuH c x0 (· < n) ∗ ptXs c x1 (· < n) ∗ ptXsH c x1 (· < n)
    ∗ bigSep (ltS 16 n) (fun b => semVal ((c : Thread nD τ), SemLoc.dma (inSem b)) 0) ∗ bigSep (geS 16 n) (mbIn c x0 x1)
    ∗ ∃ W, owes (c : Thread nD τ) 0 W))) ?_ (sub_blkU b r q hb inb) _ (read_blkU x0 b r q inb) h
  unfold St WaSt
  constructor
  · iintro ⟨HA, H6, HB⟩
    isplitl [HA HB]
    · isplitl [HA] <;> iassumption
    · iexact H6
  · iintro ⟨⟨HA, HB⟩, H6⟩
    isplitl [HA]; · iexact HA
    isplitl [H6] <;> iassumption

theorem ldS {R : sProp 𝕄} {Q : α → sProp 𝕄} (b r q : ℕ) (hb : b < n) {o : Fin 3 → ℕ} (ho : o = ![b, r, q]) {inb : ∀ a, o a + S1x8x256.size a ≤ S16x1024x512.size a}
    {hl : mXs.view.LoadsAt (Rect.unit (s := S16x1024x512) o S1x8x256.size inb).toLoadRect} {k : Vec F S1x8x256 .bf16 → Prog (TpuEff nD τ sig (Elt F) Λ₀ .tc) α}
    (h : St c x0 x1 R on n s1 s2 mx mn ⊢ WP c (k (blkS x1 b r q)) Q) :
    St c x0 x1 R on n s1 s2 mx mn ⊢ WP c (.op (.load mXs (Rect.unit (s := S16x1024x512) o S1x8x256.size inb).toLoadRect hl) k) Q := by
  subst ho
  refine exec_load Variants.none (c : Thread nD τ) none Set.univ (q := fullShare) (R := iprop(iprop(R ∗ ptOn c on ∗ ptS1 c s1 ∗ ptS2 c s2 ∗ ptMx c mx ∗ ptMn c mn) ∗ iprop(ptXu c x0 (· < n) ∗ ptXuH c x0 (· < n) ∗ ptXsH c x1 (· < n)
    ∗ bigSep (ltS 16 n) (fun b => semVal ((c : Thread nD τ), SemLoc.dma (inSem b)) 0) ∗ bigSep (geS 16 n) (mbIn c x0 x1)
    ∗ ∃ W, owes (c : Thread nD τ) 0 W))) ?_ (sub_blkS b r q hb inb) _ (read_blkS x1 b r q inb) h
  unfold St WaSt
  constructor
  · iintro ⟨HA, H6, H0, H7, HB⟩
    isplitl [HA H6 H0 HB]
    · isplitl [HA]; · iexact HA
      isplitl [H6]; · iexact H6
      isplitl [H0] <;> iassumption
    · iexact H7
  · iintro ⟨⟨HA, H6, H0, HB⟩, H7⟩
    isplitl [HA]; · iexact HA
    isplitl [H6]; · iexact H6
    isplitl [H0]; · iexact H0
    isplitl [H7] <;> iassumption

theorem ldOn {R : sProp 𝕄} {Q : α → sProp 𝕄} {inb : ∀ a, (![0, 0] : Fin 2 → ℕ) a + S8x256.size a ≤ S8x256.size a}
    {hl : mOn.view.LoadsAt (Rect.unit (s := S8x256) ![0, 0] S8x256.size inb).toLoadRect} {k : Vec F S8x256 .bf16 → Prog (TpuEff nD τ sig (Elt F) Λ₀ .tc) α}
    (h : St c x0 x1 R on n s1 s2 mx mn ⊢ WP c (k on) Q) :
    St c x0 x1 R on n s1 s2 mx mn ⊢ WP c (.op (.load mOn (Rect.unit (s := S8x256) ![0, 0] S8x256.size inb).toLoadRect hl) k) Q := by
  refine exec_load Variants.none (c : Thread nD τ) none Set.univ (q := fullShare) (R := iprop(iprop(R ∗ ptS1 c s1 ∗ ptS2 c s2 ∗ ptMx c mx ∗ ptMn c mn) ∗ WaSt c x0 x1 n)) (f := on) ?_ (Finset.subset_univ _) _ ?_ h
  · unfold St
    constructor
    · iintro ⟨⟨HR, HO, HA⟩, HB⟩
      isplitl [HR HA HB]
      · isplitl [HR HA]
        · isplitl [HR] <;> iassumption
        · iexact HB
      · iexact HO
    · iintro ⟨⟨⟨HR, HA⟩, HB⟩, HO⟩
      isplitl [HR HO HA]
      · isplitl [HR]; · iexact HR
        isplitl [HO] <;> iassumption
      · iexact HB
  · funext i
    show on _ = on _
    congr 1
    funext a
    match a with
    | 0 => exact Fin.ext (show 0 + 1 * (i 0).val = (i 0).val by omega)
    | 1 => exact Fin.ext (show 0 + 1 * (i 1).val = (i 1).val by omega)

theorem ddS1 {R : sProp 𝕄} {Q : α → sProp 𝕄} {o : Fin 3 → ℕ} {inb' : ∀ a, o a + S1x1x256.size a ≤ S16x1x1280.size a}
    {hl : mS1.view.LoadsAt (Rect.unit (s := S16x1x1280) o S1x1x256.size inb').toLoadRect}
    {k : (S1x1x256.Idx → Elt F .f32) → Prog (TpuEff nD τ sig (Elt F) Λ₀ .tc) α}
    (h : St c x0 x1 R on n s1 s2 mx mn ⊢ WP c (k (mS1.view.readAt (Elt F) (Rect.unit (s := S16x1x1280) o S1x1x256.size inb').toLoadRect s1)) Q) :
    St c x0 x1 R on n s1 s2 mx mn ⊢ WP c (.op (.load mS1 (Rect.unit (s := S16x1x1280) o S1x1x256.size inb').toLoadRect hl) k) Q := by
  unfold St at h ⊢
  iintro ⟨⟨HR, HO, HS1, HS2, HMx, HMn⟩, HB⟩
  iapply (wp_load Variants.none (c : Thread nD τ) none Set.univ (f := s1) (S := Finset.univ) (Finset.subset_univ _)) $$ [HS1]
  · iexact HS1
  iintro HS1
  iapply h
  isplitl [HR HO HS1 HS2 HMx HMn]
  · isplitl [HR]; · iexact HR
    isplitl [HO]; · iexact HO
    isplitl [HS1]; · iexact HS1
    isplitl [HS2]; · iexact HS2
    isplitl [HMx] <;> iassumption
  · iexact HB

theorem stS1 {R : sProp 𝕄} {Q : α → sProp 𝕄} {o : Fin 3 → ℕ} {inb : ∀ a, o a + S1x1x256.size a ≤ S16x1x1280.size a} {w : S1x1x256.Idx → Elt F .f32}
    {hx : (mS1.access (Rect.unit (s := S16x1x1280) o S1x1x256.size inb)).Stores Finset.univ} {hm}
    {k : PUnit → Prog (TpuEff nD τ sig (Elt F) Λ₀ .tc) α}
    (h : St c x0 x1 R on n (wr4 mS1 s1 o inb w) s2 mx mn ⊢ WP c (k ⟨⟩) Q) :
    St c x0 x1 R on n s1 s2 mx mn ⊢ WP c (.op (.store mS1 (Rect.unit (s := S16x1x1280) o S1x1x256.size inb) w Finset.univ hx hm) k) Q := by
  unfold St at h ⊢
  iintro ⟨⟨HR, HO, HS1, HS2, HMx, HMn⟩, HB⟩
  iapply (wp_store Variants.none (c : Thread nD τ) none Set.univ (f := s1) (S := Finset.univ) (Finset.subset_univ _)) $$ [HS1]
  · iexact HS1
  iintro HS1
  iapply h
  isplitl [HR HO HS1 HS2 HMx HMn]
  · isplitl [HR]; · iexact HR
    isplitl [HO]; · iexact HO
    isplitl [HS1]; · iexact HS1
    isplitl [HS2]; · iexact HS2
    isplitl [HMx] <;> iassumption
  · iexact HB

theorem ddS2 {R : sProp 𝕄} {Q : α → sProp 𝕄} {o : Fin 3 → ℕ} {inb' : ∀ a, o a + S1x1x256.size a ≤ S16x1x1280.size a}
    {hl : mS2.view.LoadsAt (Rect.unit (s := S16x1x1280) o S1x1x256.size inb').toLoadRect}
    {k : (S1x1x256.Idx → Elt F .f32) → Prog (TpuEff nD τ sig (Elt F) Λ₀ .tc) α}
    (h : St c x0 x1 R on n s1 s2 mx mn ⊢ WP c (k (mS2.view.readAt (Elt F) (Rect.unit (s := S16x1x1280) o S1x1x256.size inb').toLoadRect s2)) Q) :
    St c x0 x1 R on n s1 s2 mx mn ⊢ WP c (.op (.load mS2 (Rect.unit (s := S16x1x1280) o S1x1x256.size inb').toLoadRect hl) k) Q := by
  unfold St at h ⊢
  iintro ⟨⟨HR, HO, HS1, HS2, HMx, HMn⟩, HB⟩
  iapply (wp_load Variants.none (c : Thread nD τ) none Set.univ (f := s2) (S := Finset.univ) (Finset.subset_univ _)) $$ [HS2]
  · iexact HS2
  iintro HS2
  iapply h
  isplitl [HR HO HS1 HS2 HMx HMn]
  · isplitl [HR]; · iexact HR
    isplitl [HO]; · iexact HO
    isplitl [HS1]; · iexact HS1
    isplitl [HS2]; · iexact HS2
    isplitl [HMx] <;> iassumption
  · iexact HB

theorem stS2 {R : sProp 𝕄} {Q : α → sProp 𝕄} {o : Fin 3 → ℕ} {inb : ∀ a, o a + S1x1x256.size a ≤ S16x1x1280.size a} {w : S1x1x256.Idx → Elt F .f32}
    {hx : (mS2.access (Rect.unit (s := S16x1x1280) o S1x1x256.size inb)).Stores Finset.univ} {hm}
    {k : PUnit → Prog (TpuEff nD τ sig (Elt F) Λ₀ .tc) α}
    (h : St c x0 x1 R on n s1 (wr4 mS2 s2 o inb w) mx mn ⊢ WP c (k ⟨⟩) Q) :
    St c x0 x1 R on n s1 s2 mx mn ⊢ WP c (.op (.store mS2 (Rect.unit (s := S16x1x1280) o S1x1x256.size inb) w Finset.univ hx hm) k) Q := by
  unfold St at h ⊢
  iintro ⟨⟨HR, HO, HS1, HS2, HMx, HMn⟩, HB⟩
  iapply (wp_store Variants.none (c : Thread nD τ) none Set.univ (f := s2) (S := Finset.univ) (Finset.subset_univ _)) $$ [HS2]
  · iexact HS2
  iintro HS2
  iapply h
  isplitl [HR HO HS1 HS2 HMx HMn]
  · isplitl [HR]; · iexact HR
    isplitl [HO]; · iexact HO
    isplitl [HS1]; · iexact HS1
    isplitl [HS2]; · iexact HS2
    isplitl [HMx] <;> iassumption
  · iexact HB

theorem ddMx {R : sProp 𝕄} {Q : α → sProp 𝕄} {o : Fin 3 → ℕ} {inb' : ∀ a, o a + S1x1x256.size a ≤ S16x1x1280.size a}
    {hl : mMx.view.LoadsAt (Rect.unit (s := S16x1x1280) o S1x1x256.size inb').toLoadRect}
    {k : (S1x1x256.Idx → Elt F .f32) → Prog (TpuEff nD τ sig (Elt F) Λ₀ .tc) α}
    (h : St c x0 x1 R on n s1 s2 mx mn ⊢ WP c (k (mMx.view.readAt (Elt F) (Rect.unit (s := S16x1x1280) o S1x1x256.size inb').toLoadRect mx)) Q) :
    St c x0 x1 R on n s1 s2 mx mn ⊢ WP c (.op (.load mMx (Rect.unit (s := S16x1x1280) o S1x1x256.size inb').toLoadRect hl) k) Q := by
  unfold St at h ⊢
  iintro ⟨⟨HR, HO, HS1, HS2, HMx, HMn⟩, HB⟩
  iapply (wp_load Variants.none (c : Thread nD τ) none Set.univ (f := mx) (S := Finset.univ) (Finset.subset_univ _)) $$ [HMx]
  · iexact HMx
  iintro HMx
  iapply h
  isplitl [HR HO HS1 HS2 HMx HMn]
  · isplitl [HR]; · iexact HR
    isplitl [HO]; · iexact HO
    isplitl [HS1]; · iexact HS1
    isplitl [HS2]; · iexact HS2
    isplitl [HMx] <;> iassumption
  · iexact HB

theorem stMx {R : sProp 𝕄} {Q : α → sProp 𝕄} {o : Fin 3 → ℕ} {inb : ∀ a, o a + S1x1x256.size a ≤ S16x1x1280.size a} {w : S1x1x256.Idx → Elt F .f32}
    {hx : (mMx.access (Rect.unit (s := S16x1x1280) o S1x1x256.size inb)).Stores Finset.univ} {hm}
    {k : PUnit → Prog (TpuEff nD τ sig (Elt F) Λ₀ .tc) α}
    (h : St c x0 x1 R on n s1 s2 (wr4 mMx mx o inb w) mn ⊢ WP c (k ⟨⟩) Q) :
    St c x0 x1 R on n s1 s2 mx mn ⊢ WP c (.op (.store mMx (Rect.unit (s := S16x1x1280) o S1x1x256.size inb) w Finset.univ hx hm) k) Q := by
  unfold St at h ⊢
  iintro ⟨⟨HR, HO, HS1, HS2, HMx, HMn⟩, HB⟩
  iapply (wp_store Variants.none (c : Thread nD τ) none Set.univ (f := mx) (S := Finset.univ) (Finset.subset_univ _)) $$ [HMx]
  · iexact HMx
  iintro HMx
  iapply h
  isplitl [HR HO HS1 HS2 HMx HMn]
  · isplitl [HR]; · iexact HR
    isplitl [HO]; · iexact HO
    isplitl [HS1]; · iexact HS1
    isplitl [HS2]; · iexact HS2
    isplitl [HMx] <;> iassumption
  · iexact HB

theorem ddMn {R : sProp 𝕄} {Q : α → sProp 𝕄} {o : Fin 3 → ℕ} {inb' : ∀ a, o a + S1x1x256.size a ≤ S16x1x1280.size a}
    {hl : mMn.view.LoadsAt (Rect.unit (s := S16x1x1280) o S1x1x256.size inb').toLoadRect}
    {k : (S1x1x256.Idx → Elt F .f32) → Prog (TpuEff nD τ sig (Elt F) Λ₀ .tc) α}
    (h : St c x0 x1 R on n s1 s2 mx mn ⊢ WP c (k (mMn.view.readAt (Elt F) (Rect.unit (s := S16x1x1280) o S1x1x256.size inb').toLoadRect mn)) Q) :
    St c x0 x1 R on n s1 s2 mx mn ⊢ WP c (.op (.load mMn (Rect.unit (s := S16x1x1280) o S1x1x256.size inb').toLoadRect hl) k) Q := by
  unfold St at h ⊢
  iintro ⟨⟨HR, HO, HS1, HS2, HMx, HMn⟩, HB⟩
  iapply (wp_load Variants.none (c : Thread nD τ) none Set.univ (f := mn) (S := Finset.univ) (Finset.subset_univ _)) $$ [HMn]
  · iexact HMn
  iintro HMn
  iapply h
  isplitl [HR HO HS1 HS2 HMx HMn]
  · isplitl [HR]; · iexact HR
    isplitl [HO]; · iexact HO
    isplitl [HS1]; · iexact HS1
    isplitl [HS2]; · iexact HS2
    isplitl [HMx] <;> iassumption
  · iexact HB

theorem stMn {R : sProp 𝕄} {Q : α → sProp 𝕄} {o : Fin 3 → ℕ} {inb : ∀ a, o a + S1x1x256.size a ≤ S16x1x1280.size a} {w : S1x1x256.Idx → Elt F .f32}
    {hx : (mMn.access (Rect.unit (s := S16x1x1280) o S1x1x256.size inb)).Stores Finset.univ} {hm}
    {k : PUnit → Prog (TpuEff nD τ sig (Elt F) Λ₀ .tc) α}
    (h : St c x0 x1 R on n s1 s2 mx (wr4 mMn mn o inb w) ⊢ WP c (k ⟨⟩) Q) :
    St c x0 x1 R on n s1 s2 mx mn ⊢ WP c (.op (.store mMn (Rect.unit (s := S16x1x1280) o S1x1x256.size inb) w Finset.univ hx hm) k) Q := by
  unfold St at h ⊢
  iintro ⟨⟨HR, HO, HS1, HS2, HMx, HMn⟩, HB⟩
  iapply (wp_store Variants.none (c : Thread nD τ) none Set.univ (f := mn) (S := Finset.univ) (Finset.subset_univ _)) $$ [HMn]
  · iexact HMn
  iintro HMn
  iapply h
  isplitl [HR HO HS1 HS2 HMx HMn]
  · isplitl [HR]; · iexact HR
    isplitl [HO]; · iexact HO
    isplitl [HS1]; · iexact HS1
    isplitl [HS2]; · iexact HS2
    isplitl [HMx] <;> iassumption
  · iexact HB

end

end Cert.Kernel.Hand
-- ==== Proof.K.Ex.lean ====
/-
  The state after the statistics, and one step of the body in it.
-/
module

public import proofs.«01_k».proof.Proof.K.Ld

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (c : Dev nD) (a2 : Memref sig .tc .vmem S1280 .f32) (a3 : Memref sig .tc .vmem S1280 .f32) (a5 : Memref sig .tc .smem S1x1 .f32)
  (g2 : Buf (Elt F) (a2.view.loc (c : Thread nD τ))) (g3 : Buf (Elt F) (a3.view.loc (c : Thread nD τ)))

/-- The state after the statistics: the rows landed and every buffer of the body at some contents, gamma and beta as staged. -/
def Ex (R : sProp 𝕄) : sProp 𝕄 :=
  iprop(R ∗ (∃ f, mXu.view.loc (c : Thread nD τ) ↦[Finset.univ]{fullShare} f) ∗ (∃ f, mXs.view.loc (c : Thread nD τ) ↦[Finset.univ]{fullShare} f) ∗ (∃ f, mS1.view.loc (c : Thread nD τ) ↦[Finset.univ]{fullShare} f) ∗ (∃ f, mS2.view.loc (c : Thread nD τ) ↦[Finset.univ]{fullShare} f) ∗ (∃ f, mMx.view.loc (c : Thread nD τ) ↦[Finset.univ]{fullShare} f) ∗ (∃ f, mMn.view.loc (c : Thread nD τ) ↦[Finset.univ]{fullShare} f) ∗ (∃ f, mA.view.loc (c : Thread nD τ) ↦[Finset.univ]{fullShare} f) ∗ (∃ f, mB.view.loc (c : Thread nD τ) ↦[Finset.univ]{fullShare} f) ∗ (a2.view.loc (c : Thread nD τ) ↦[a2.view.set]{fullShare} g2) ∗ (a3.view.loc (c : Thread nD τ) ↦[a3.view.set]{fullShare} g3) ∗ (∃ f, a5.view.loc (c : Thread nD τ) ↦[a5.view.set]{fullShare} f))
/-- Slot `s` of the outgoing buffer, at some contents. -/
def obS (s : ℕ) : sProp 𝕄 := iprop(∃ f, mOb.view.loc (c : Thread nD τ) ↦[(rowsIn dOb (· = s) : Finset _)]{fullShare} f)

variable {c a2 a3 a5 g2 g3}
variable {α : Type}

/-- A load from a buffer of the state: the run goes on at whatever was read. -/
theorem ex_load {E R' : sProp 𝕄} {Q : α → sProp 𝕄} {cs : CoreSpace} {s : Shape} {e : EltTy} {m : Memref sig .tc cs s e} {r : LoadRect s} {hl : m.view.LoadsAt r}
    {k : (r.shape.Idx → Elt F e) → Prog (TpuEff nD τ sig (Elt F) Λ₀ .tc) α} {S : Finset (Idx (m.view.loc (c : Thread nD τ)))} {f : Buf (Elt F) (m.view.loc (c : Thread nD τ))}
    (h2 : iprop((m.view.loc (c : Thread nD τ) ↦[S]{fullShare} f) ∗ R') ⊢ E) (hS : m.view.setOn r.set ⊆ S)
    (hk : ∀ v, E ⊢ WP c (k v) Q) : iprop((m.view.loc (c : Thread nD τ) ↦[S]{fullShare} f) ∗ R') ⊢ WP c (.op (.load m r hl) k) Q := by
  iintro ⟨Hf, HR⟩
  iapply (wp_load Variants.none (c : Thread nD τ) none Set.univ (f := f) (S := S) hS) $$ [Hf]
  · iexact Hf
  iintro Hf
  iapply (hk _)
  iapply h2
  isplitl [Hf] <;> iassumption

/-- A store to a buffer of the state. -/
theorem ex_store {E R' : sProp 𝕄} {Q : α → sProp 𝕄} {cs : CoreSpace} {s : Shape} {e : EltTy} {m : Memref sig .tc cs s e} {r : Rect s} {w : r.shape.Idx → Elt F e}
    {hx : (m.access r).Stores Finset.univ} {hm} {k : PUnit → Prog (TpuEff nD τ sig (Elt F) Λ₀ .tc) α}
    {S : Finset (Idx (m.view.loc (c : Thread nD τ)))} {f : Buf (Elt F) (m.view.loc (c : Thread nD τ))}
    (h2 : ∀ f, iprop((m.view.loc (c : Thread nD τ) ↦[S]{fullShare} f) ∗ R') ⊢ E) (hS : (m.access r).setOn Finset.univ ⊆ S)
    (hk : E ⊢ WP c (k ⟨⟩) Q) : iprop((m.view.loc (c : Thread nD τ) ↦[S]{fullShare} f) ∗ R') ⊢ WP c (.op (.store m r w Finset.univ hx hm) k) Q := by
  iintro ⟨Hf, HR⟩
  iapply (wp_store Variants.none (c : Thread nD τ) none Set.univ (f := f) (S := S) hS) $$ [Hf]
  · iexact Hf
  iintro Hf
  iapply hk
  iapply (h2 _)
  isplitl [Hf] <;> iassumption

/-- A counted loop whose body keeps the state. -/
theorem ex_for {E : sProp 𝕄} {σ : Type} {Q : α → sProp 𝕄} {l : Scf.Loop 32} {hok : l.OK} {init : σ} {body : Fin l.trips → σ → Prog (TpuEff nD τ sig (Elt F) Λ₀ .tc) σ}
    {kk : σ → Prog (TpuEff nD τ sig (Elt F) Λ₀ .tc) α} (hb : ∀ k acc, E ⊢ WP c (body k acc) (fun _ => E)) (hk : ∀ acc, E ⊢ WP c (kk acc) Q) :
    E ⊢ WP c (Scf.Loop.for l hok init body >>= kk) Q := by
  have h := Scf.wp_for_bind frame (wpE (defs₀ (F := F)) Variants.none (c : Thread nD τ) none) Set.univ l.lb l.ub l.st hok init body (fun _ _ => E) hb (kk := kk) (Q := Q)
  iintro HE
  iapply h $$ [HE]
  · iexact HE
  iintro %acc HE
  iapply (hk acc)
  iexact HE

/-- A piece of the program that keeps the state. -/
theorem ex_part {E : sProp 𝕄} {σ : Type} {Q : α → sProp 𝕄} {p : Prog (TpuEff nD τ sig (Elt F) Λ₀ .tc) σ}
    {kk : σ → Prog (TpuEff nD τ sig (Elt F) Λ₀ .tc) α} (hb : E ⊢ WP c p (fun _ => E)) (hk : ∀ v, E ⊢ WP c (kk v) Q) :
    E ⊢ WP c (p >>= kk) Q := by
  unfold WP at *
  rw [wp_bind]
  exact hb.trans (wp_mono _ _ _ hk)

/-- A branch, each side with what follows it. -/
theorem ex_ite {E : sProp 𝕄} {p : Prop} {ip : Decidable p} {Q : α → sProp 𝕄} {A B : Prog (TpuEff nD τ sig (Elt F) Λ₀ .tc) α}
    (hA : E ⊢ WP c A Q) (hB : E ⊢ WP c B Q) : E ⊢ WP c (if p then A else B) Q := by
  split
  · exact hA
  · exact hB

theorem putXu {R : sProp 𝕄} (f) : iprop((mXu.view.loc (c : Thread nD τ) ↦[Finset.univ]{fullShare} f) ∗ R ∗ (∃ f, mXs.view.loc (c : Thread nD τ) ↦[Finset.univ]{fullShare} f) ∗ (∃ f, mS1.view.loc (c : Thread nD τ) ↦[Finset.univ]{fullShare} f) ∗ (∃ f, mS2.view.loc (c : Thread nD τ) ↦[Finset.univ]{fullShare} f) ∗ (∃ f, mMx.view.loc (c : Thread nD τ) ↦[Finset.univ]{fullShare} f) ∗ (∃ f, mMn.view.loc (c : Thread nD τ) ↦[Finset.univ]{fullShare} f) ∗ (∃ f, mA.view.loc (c : Thread nD τ) ↦[Finset.univ]{fullShare} f) ∗ (∃ f, mB.view.loc (c : Thread nD τ) ↦[Finset.univ]{fullShare} f) ∗ (a2.view.loc (c : Thread nD τ) ↦[a2.view.set]{fullShare} g2) ∗ (a3.view.loc (c : Thread nD τ) ↦[a3.view.set]{fullShare} g3) ∗ (∃ f, a5.view.loc (c : Thread nD τ) ↦[a5.view.set]{fullShare} f)) ⊢ Ex c a2 a3 a5 g2 g3 R := by
  unfold Ex
  iintro ⟨HXu, HR, HXs, HS1, HS2, HMx, HMn, HA, HB, Ha2, Ha3, Ha5⟩
  isplitl [HR]; · iexact HR
  isplitl [HXu]; · iexists f; iexact HXu
  isplitl [HXs]; · iexact HXs
  isplitl [HS1]; · iexact HS1
  isplitl [HS2]; · iexact HS2
  isplitl [HMx]; · iexact HMx
  isplitl [HMn]; · iexact HMn
  isplitl [HA]; · iexact HA
  isplitl [HB]; · iexact HB
  isplitl [Ha2]; · iexact Ha2
  isplitl [Ha3]; · iexact Ha3
  iexact Ha5
theorem takeXu {R : sProp 𝕄} {P : sProp 𝕄} (h : ∀ f, iprop((mXu.view.loc (c : Thread nD τ) ↦[Finset.univ]{fullShare} f) ∗ R ∗ (∃ f, mXs.view.loc (c : Thread nD τ) ↦[Finset.univ]{fullShare} f) ∗ (∃ f, mS1.view.loc (c : Thread nD τ) ↦[Finset.univ]{fullShare} f) ∗ (∃ f, mS2.view.loc (c : Thread nD τ) ↦[Finset.univ]{fullShare} f) ∗ (∃ f, mMx.view.loc (c : Thread nD τ) ↦[Finset.univ]{fullShare} f) ∗ (∃ f, mMn.view.loc (c : Thread nD τ) ↦[Finset.univ]{fullShare} f) ∗ (∃ f, mA.view.loc (c : Thread nD τ) ↦[Finset.univ]{fullShare} f) ∗ (∃ f, mB.view.loc (c : Thread nD τ) ↦[Finset.univ]{fullShare} f) ∗ (a2.view.loc (c : Thread nD τ) ↦[a2.view.set]{fullShare} g2) ∗ (a3.view.loc (c : Thread nD τ) ↦[a3.view.set]{fullShare} g3) ∗ (∃ f, a5.view.loc (c : Thread nD τ) ↦[a5.view.set]{fullShare} f)) ⊢ P) : Ex c a2 a3 a5 g2 g3 R ⊢ P := by
  unfold Ex
  iintro ⟨HR, ⟨%f, HXu⟩, HXs, HS1, HS2, HMx, HMn, HA, HB, Ha2, Ha3, Ha5⟩
  iapply (h f)
  isplitl [HXu]; · iexact HXu
  isplitl [HR]; · iexact HR
  isplitl [HXs]; · iexact HXs
  isplitl [HS1]; · iexact HS1
  isplitl [HS2]; · iexact HS2
  isplitl [HMx]; · iexact HMx
  isplitl [HMn]; · iexact HMn
  isplitl [HA]; · iexact HA
  isplitl [HB]; · iexact HB
  isplitl [Ha2]; · iexact Ha2
  isplitl [Ha3]; · iexact Ha3
  iexact Ha5
theorem exlXu {R : sProp 𝕄} {Q : α → sProp 𝕄} {r : LoadRect S16x1024x768} {hl : mXu.view.LoadsAt r} {k : (r.shape.Idx → Elt F .bf16) → Prog (TpuEff nD τ sig (Elt F) Λ₀ .tc) α}
    (hk : ∀ v, Ex c a2 a3 a5 g2 g3 R ⊢ WP c (k v) Q) : Ex c a2 a3 a5 g2 g3 R ⊢ WP c (.op (.load mXu r hl) k) Q :=
  takeXu (fun f => ex_load (putXu f) (Finset.subset_univ _) hk)
theorem exsXu {R : sProp 𝕄} {Q : α → sProp 𝕄} {r : Rect S16x1024x768} {w : r.shape.Idx → Elt F .bf16} {hx : (mXu.access r).Stores Finset.univ} {hm} {k : PUnit → Prog (TpuEff nD τ sig (Elt F) Λ₀ .tc) α}
    (hk : Ex c a2 a3 a5 g2 g3 R ⊢ WP c (k ⟨⟩) Q) : Ex c a2 a3 a5 g2 g3 R ⊢ WP c (.op (.store mXu r w Finset.univ hx hm) k) Q :=
  takeXu (fun f => ex_store (putXu) (Finset.subset_univ _) hk)
theorem putXs {R : sProp 𝕄} (f) : iprop((mXs.view.loc (c : Thread nD τ) ↦[Finset.univ]{fullShare} f) ∗ R ∗ (∃ f, mXu.view.loc (c : Thread nD τ) ↦[Finset.univ]{fullShare} f) ∗ (∃ f, mS1.view.loc (c : Thread nD τ) ↦[Finset.univ]{fullShare} f) ∗ (∃ f, mS2.view.loc (c : Thread nD τ) ↦[Finset.univ]{fullShare} f) ∗ (∃ f, mMx.view.loc (c : Thread nD τ) ↦[Finset.univ]{fullShare} f) ∗ (∃ f, mMn.view.loc (c : Thread nD τ) ↦[Finset.univ]{fullShare} f) ∗ (∃ f, mA.view.loc (c : Thread nD τ) ↦[Finset.univ]{fullShare} f) ∗ (∃ f, mB.view.loc (c : Thread nD τ) ↦[Finset.univ]{fullShare} f) ∗ (a2.view.loc (c : Thread nD τ) ↦[a2.view.set]{fullShare} g2) ∗ (a3.view.loc (c : Thread nD τ) ↦[a3.view.set]{fullShare} g3) ∗ (∃ f, a5.view.loc (c : Thread nD τ) ↦[a5.view.set]{fullShare} f)) ⊢ Ex c a2 a3 a5 g2 g3 R := by
  unfold Ex
  iintro ⟨HXs, HR, HXu, HS1, HS2, HMx, HMn, HA, HB, Ha2, Ha3, Ha5⟩
  isplitl [HR]; · iexact HR
  isplitl [HXu]; · iexact HXu
  isplitl [HXs]; · iexists f; iexact HXs
  isplitl [HS1]; · iexact HS1
  isplitl [HS2]; · iexact HS2
  isplitl [HMx]; · iexact HMx
  isplitl [HMn]; · iexact HMn
  isplitl [HA]; · iexact HA
  isplitl [HB]; · iexact HB
  isplitl [Ha2]; · iexact Ha2
  isplitl [Ha3]; · iexact Ha3
  iexact Ha5
theorem takeXs {R : sProp 𝕄} {P : sProp 𝕄} (h : ∀ f, iprop((mXs.view.loc (c : Thread nD τ) ↦[Finset.univ]{fullShare} f) ∗ R ∗ (∃ f, mXu.view.loc (c : Thread nD τ) ↦[Finset.univ]{fullShare} f) ∗ (∃ f, mS1.view.loc (c : Thread nD τ) ↦[Finset.univ]{fullShare} f) ∗ (∃ f, mS2.view.loc (c : Thread nD τ) ↦[Finset.univ]{fullShare} f) ∗ (∃ f, mMx.view.loc (c : Thread nD τ) ↦[Finset.univ]{fullShare} f) ∗ (∃ f, mMn.view.loc (c : Thread nD τ) ↦[Finset.univ]{fullShare} f) ∗ (∃ f, mA.view.loc (c : Thread nD τ) ↦[Finset.univ]{fullShare} f) ∗ (∃ f, mB.view.loc (c : Thread nD τ) ↦[Finset.univ]{fullShare} f) ∗ (a2.view.loc (c : Thread nD τ) ↦[a2.view.set]{fullShare} g2) ∗ (a3.view.loc (c : Thread nD τ) ↦[a3.view.set]{fullShare} g3) ∗ (∃ f, a5.view.loc (c : Thread nD τ) ↦[a5.view.set]{fullShare} f)) ⊢ P) : Ex c a2 a3 a5 g2 g3 R ⊢ P := by
  unfold Ex
  iintro ⟨HR, HXu, ⟨%f, HXs⟩, HS1, HS2, HMx, HMn, HA, HB, Ha2, Ha3, Ha5⟩
  iapply (h f)
  isplitl [HXs]; · iexact HXs
  isplitl [HR]; · iexact HR
  isplitl [HXu]; · iexact HXu
  isplitl [HS1]; · iexact HS1
  isplitl [HS2]; · iexact HS2
  isplitl [HMx]; · iexact HMx
  isplitl [HMn]; · iexact HMn
  isplitl [HA]; · iexact HA
  isplitl [HB]; · iexact HB
  isplitl [Ha2]; · iexact Ha2
  isplitl [Ha3]; · iexact Ha3
  iexact Ha5
theorem exlXs {R : sProp 𝕄} {Q : α → sProp 𝕄} {r : LoadRect S16x1024x512} {hl : mXs.view.LoadsAt r} {k : (r.shape.Idx → Elt F .bf16) → Prog (TpuEff nD τ sig (Elt F) Λ₀ .tc) α}
    (hk : ∀ v, Ex c a2 a3 a5 g2 g3 R ⊢ WP c (k v) Q) : Ex c a2 a3 a5 g2 g3 R ⊢ WP c (.op (.load mXs r hl) k) Q :=
  takeXs (fun f => ex_load (putXs f) (Finset.subset_univ _) hk)
theorem exsXs {R : sProp 𝕄} {Q : α → sProp 𝕄} {r : Rect S16x1024x512} {w : r.shape.Idx → Elt F .bf16} {hx : (mXs.access r).Stores Finset.univ} {hm} {k : PUnit → Prog (TpuEff nD τ sig (Elt F) Λ₀ .tc) α}
    (hk : Ex c a2 a3 a5 g2 g3 R ⊢ WP c (k ⟨⟩) Q) : Ex c a2 a3 a5 g2 g3 R ⊢ WP c (.op (.store mXs r w Finset.univ hx hm) k) Q :=
  takeXs (fun f => ex_store (putXs) (Finset.subset_univ _) hk)
theorem putS1 {R : sProp 𝕄} (f) : iprop((mS1.view.loc (c : Thread nD τ) ↦[Finset.univ]{fullShare} f) ∗ R ∗ (∃ f, mXu.view.loc (c : Thread nD τ) ↦[Finset.univ]{fullShare} f) ∗ (∃ f, mXs.view.loc (c : Thread nD τ) ↦[Finset.univ]{fullShare} f) ∗ (∃ f, mS2.view.loc (c : Thread nD τ) ↦[Finset.univ]{fullShare} f) ∗ (∃ f, mMx.view.loc (c : Thread nD τ) ↦[Finset.univ]{fullShare} f) ∗ (∃ f, mMn.view.loc (c : Thread nD τ) ↦[Finset.univ]{fullShare} f) ∗ (∃ f, mA.view.loc (c : Thread nD τ) ↦[Finset.univ]{fullShare} f) ∗ (∃ f, mB.view.loc (c : Thread nD τ) ↦[Finset.univ]{fullShare} f) ∗ (a2.view.loc (c : Thread nD τ) ↦[a2.view.set]{fullShare} g2) ∗ (a3.view.loc (c : Thread nD τ) ↦[a3.view.set]{fullShare} g3) ∗ (∃ f, a5.view.loc (c : Thread nD τ) ↦[a5.view.set]{fullShare} f)) ⊢ Ex c a2 a3 a5 g2 g3 R := by
  unfold Ex
  iintro ⟨HS1, HR, HXu, HXs, HS2, HMx, HMn, HA, HB, Ha2, Ha3, Ha5⟩
  isplitl [HR]; · iexact HR
  isplitl [HXu]; · iexact HXu
  isplitl [HXs]; · iexact HXs
  isplitl [HS1]; · iexists f; iexact HS1
  isplitl [HS2]; · iexact HS2
  isplitl [HMx]; · iexact HMx
  isplitl [HMn]; · iexact HMn
  isplitl [HA]; · iexact HA
  isplitl [HB]; · iexact HB
  isplitl [Ha2]; · iexact Ha2
  isplitl [Ha3]; · iexact Ha3
  iexact Ha5
theorem takeS1 {R : sProp 𝕄} {P : sProp 𝕄} (h : ∀ f, iprop((mS1.view.loc (c : Thread nD τ) ↦[Finset.univ]{fullShare} f) ∗ R ∗ (∃ f, mXu.view.loc (c : Thread nD τ) ↦[Finset.univ]{fullShare} f) ∗ (∃ f, mXs.view.loc (c : Thread nD τ) ↦[Finset.univ]{fullShare} f) ∗ (∃ f, mS2.view.loc (c : Thread nD τ) ↦[Finset.univ]{fullShare} f) ∗ (∃ f, mMx.view.loc (c : Thread nD τ) ↦[Finset.univ]{fullShare} f) ∗ (∃ f, mMn.view.loc (c : Thread nD τ) ↦[Finset.univ]{fullShare} f) ∗ (∃ f, mA.view.loc (c : Thread nD τ) ↦[Finset.univ]{fullShare} f) ∗ (∃ f, mB.view.loc (c : Thread nD τ) ↦[Finset.univ]{fullShare} f) ∗ (a2.view.loc (c : Thread nD τ) ↦[a2.view.set]{fullShare} g2) ∗ (a3.view.loc (c : Thread nD τ) ↦[a3.view.set]{fullShare} g3) ∗ (∃ f, a5.view.loc (c : Thread nD τ) ↦[a5.view.set]{fullShare} f)) ⊢ P) : Ex c a2 a3 a5 g2 g3 R ⊢ P := by
  unfold Ex
  iintro ⟨HR, HXu, HXs, ⟨%f, HS1⟩, HS2, HMx, HMn, HA, HB, Ha2, Ha3, Ha5⟩
  iapply (h f)
  isplitl [HS1]; · iexact HS1
  isplitl [HR]; · iexact HR
  isplitl [HXu]; · iexact HXu
  isplitl [HXs]; · iexact HXs
  isplitl [HS2]; · iexact HS2
  isplitl [HMx]; · iexact HMx
  isplitl [HMn]; · iexact HMn
  isplitl [HA]; · iexact HA
  isplitl [HB]; · iexact HB
  isplitl [Ha2]; · iexact Ha2
  isplitl [Ha3]; · iexact Ha3
  iexact Ha5
theorem exlS1 {R : sProp 𝕄} {Q : α → sProp 𝕄} {r : LoadRect S16x1x1280} {hl : mS1.view.LoadsAt r} {k : (r.shape.Idx → Elt F .f32) → Prog (TpuEff nD τ sig (Elt F) Λ₀ .tc) α}
    (hk : ∀ v, Ex c a2 a3 a5 g2 g3 R ⊢ WP c (k v) Q) : Ex c a2 a3 a5 g2 g3 R ⊢ WP c (.op (.load mS1 r hl) k) Q :=
  takeS1 (fun f => ex_load (putS1 f) (Finset.subset_univ _) hk)
theorem exsS1 {R : sProp 𝕄} {Q : α → sProp 𝕄} {r : Rect S16x1x1280} {w : r.shape.Idx → Elt F .f32} {hx : (mS1.access r).Stores Finset.univ} {hm} {k : PUnit → Prog (TpuEff nD τ sig (Elt F) Λ₀ .tc) α}
    (hk : Ex c a2 a3 a5 g2 g3 R ⊢ WP c (k ⟨⟩) Q) : Ex c a2 a3 a5 g2 g3 R ⊢ WP c (.op (.store mS1 r w Finset.univ hx hm) k) Q :=
  takeS1 (fun f => ex_store (putS1) (Finset.subset_univ _) hk)
theorem putS2 {R : sProp 𝕄} (f) : iprop((mS2.view.loc (c : Thread nD τ) ↦[Finset.univ]{fullShare} f) ∗ R ∗ (∃ f, mXu.view.loc (c : Thread nD τ) ↦[Finset.univ]{fullShare} f) ∗ (∃ f, mXs.view.loc (c : Thread nD τ) ↦[Finset.univ]{fullShare} f) ∗ (∃ f, mS1.view.loc (c : Thread nD τ) ↦[Finset.univ]{fullShare} f) ∗ (∃ f, mMx.view.loc (c : Thread nD τ) ↦[Finset.univ]{fullShare} f) ∗ (∃ f, mMn.view.loc (c : Thread nD τ) ↦[Finset.univ]{fullShare} f) ∗ (∃ f, mA.view.loc (c : Thread nD τ) ↦[Finset.univ]{fullShare} f) ∗ (∃ f, mB.view.loc (c : Thread nD τ) ↦[Finset.univ]{fullShare} f) ∗ (a2.view.loc (c : Thread nD τ) ↦[a2.view.set]{fullShare} g2) ∗ (a3.view.loc (c : Thread nD τ) ↦[a3.view.set]{fullShare} g3) ∗ (∃ f, a5.view.loc (c : Thread nD τ) ↦[a5.view.set]{fullShare} f)) ⊢ Ex c a2 a3 a5 g2 g3 R := by
  unfold Ex
  iintro ⟨HS2, HR, HXu, HXs, HS1, HMx, HMn, HA, HB, Ha2, Ha3, Ha5⟩
  isplitl [HR]; · iexact HR
  isplitl [HXu]; · iexact HXu
  isplitl [HXs]; · iexact HXs
  isplitl [HS1]; · iexact HS1
  isplitl [HS2]; · iexists f; iexact HS2
  isplitl [HMx]; · iexact HMx
  isplitl [HMn]; · iexact HMn
  isplitl [HA]; · iexact HA
  isplitl [HB]; · iexact HB
  isplitl [Ha2]; · iexact Ha2
  isplitl [Ha3]; · iexact Ha3
  iexact Ha5
theorem takeS2 {R : sProp 𝕄} {P : sProp 𝕄} (h : ∀ f, iprop((mS2.view.loc (c : Thread nD τ) ↦[Finset.univ]{fullShare} f) ∗ R ∗ (∃ f, mXu.view.loc (c : Thread nD τ) ↦[Finset.univ]{fullShare} f) ∗ (∃ f, mXs.view.loc (c : Thread nD τ) ↦[Finset.univ]{fullShare} f) ∗ (∃ f, mS1.view.loc (c : Thread nD τ) ↦[Finset.univ]{fullShare} f) ∗ (∃ f, mMx.view.loc (c : Thread nD τ) ↦[Finset.univ]{fullShare} f) ∗ (∃ f, mMn.view.loc (c : Thread nD τ) ↦[Finset.univ]{fullShare} f) ∗ (∃ f, mA.view.loc (c : Thread nD τ) ↦[Finset.univ]{fullShare} f) ∗ (∃ f, mB.view.loc (c : Thread nD τ) ↦[Finset.univ]{fullShare} f) ∗ (a2.view.loc (c : Thread nD τ) ↦[a2.view.set]{fullShare} g2) ∗ (a3.view.loc (c : Thread nD τ) ↦[a3.view.set]{fullShare} g3) ∗ (∃ f, a5.view.loc (c : Thread nD τ) ↦[a5.view.set]{fullShare} f)) ⊢ P) : Ex c a2 a3 a5 g2 g3 R ⊢ P := by
  unfold Ex
  iintro ⟨HR, HXu, HXs, HS1, ⟨%f, HS2⟩, HMx, HMn, HA, HB, Ha2, Ha3, Ha5⟩
  iapply (h f)
  isplitl [HS2]; · iexact HS2
  isplitl [HR]; · iexact HR
  isplitl [HXu]; · iexact HXu
  isplitl [HXs]; · iexact HXs
  isplitl [HS1]; · iexact HS1
  isplitl [HMx]; · iexact HMx
  isplitl [HMn]; · iexact HMn
  isplitl [HA]; · iexact HA
  isplitl [HB]; · iexact HB
  isplitl [Ha2]; · iexact Ha2
  isplitl [Ha3]; · iexact Ha3
  iexact Ha5
theorem exlS2 {R : sProp 𝕄} {Q : α → sProp 𝕄} {r : LoadRect S16x1x1280} {hl : mS2.view.LoadsAt r} {k : (r.shape.Idx → Elt F .f32) → Prog (TpuEff nD τ sig (Elt F) Λ₀ .tc) α}
    (hk : ∀ v, Ex c a2 a3 a5 g2 g3 R ⊢ WP c (k v) Q) : Ex c a2 a3 a5 g2 g3 R ⊢ WP c (.op (.load mS2 r hl) k) Q :=
  takeS2 (fun f => ex_load (putS2 f) (Finset.subset_univ _) hk)
theorem exsS2 {R : sProp 𝕄} {Q : α → sProp 𝕄} {r : Rect S16x1x1280} {w : r.shape.Idx → Elt F .f32} {hx : (mS2.access r).Stores Finset.univ} {hm} {k : PUnit → Prog (TpuEff nD τ sig (Elt F) Λ₀ .tc) α}
    (hk : Ex c a2 a3 a5 g2 g3 R ⊢ WP c (k ⟨⟩) Q) : Ex c a2 a3 a5 g2 g3 R ⊢ WP c (.op (.store mS2 r w Finset.univ hx hm) k) Q :=
  takeS2 (fun f => ex_store (putS2) (Finset.subset_univ _) hk)
theorem putMx {R : sProp 𝕄} (f) : iprop((mMx.view.loc (c : Thread nD τ) ↦[Finset.univ]{fullShare} f) ∗ R ∗ (∃ f, mXu.view.loc (c : Thread nD τ) ↦[Finset.univ]{fullShare} f) ∗ (∃ f, mXs.view.loc (c : Thread nD τ) ↦[Finset.univ]{fullShare} f) ∗ (∃ f, mS1.view.loc (c : Thread nD τ) ↦[Finset.univ]{fullShare} f) ∗ (∃ f, mS2.view.loc (c : Thread nD τ) ↦[Finset.univ]{fullShare} f) ∗ (∃ f, mMn.view.loc (c : Thread nD τ) ↦[Finset.univ]{fullShare} f) ∗ (∃ f, mA.view.loc (c : Thread nD τ) ↦[Finset.univ]{fullShare} f) ∗ (∃ f, mB.view.loc (c : Thread nD τ) ↦[Finset.univ]{fullShare} f) ∗ (a2.view.loc (c : Thread nD τ) ↦[a2.view.set]{fullShare} g2) ∗ (a3.view.loc (c : Thread nD τ) ↦[a3.view.set]{fullShare} g3) ∗ (∃ f, a5.view.loc (c : Thread nD τ) ↦[a5.view.set]{fullShare} f)) ⊢ Ex c a2 a3 a5 g2 g3 R := by
  unfold Ex
  iintro ⟨HMx, HR, HXu, HXs, HS1, HS2, HMn, HA, HB, Ha2, Ha3, Ha5⟩
  isplitl [HR]; · iexact HR
  isplitl [HXu]; · iexact HXu
  isplitl [HXs]; · iexact HXs
  isplitl [HS1]; · iexact HS1
  isplitl [HS2]; · iexact HS2
  isplitl [HMx]; · iexists f; iexact HMx
  isplitl [HMn]; · iexact HMn
  isplitl [HA]; · iexact HA
  isplitl [HB]; · iexact HB
  isplitl [Ha2]; · iexact Ha2
  isplitl [Ha3]; · iexact Ha3
  iexact Ha5
theorem takeMx {R : sProp 𝕄} {P : sProp 𝕄} (h : ∀ f, iprop((mMx.view.loc (c : Thread nD τ) ↦[Finset.univ]{fullShare} f) ∗ R ∗ (∃ f, mXu.view.loc (c : Thread nD τ) ↦[Finset.univ]{fullShare} f) ∗ (∃ f, mXs.view.loc (c : Thread nD τ) ↦[Finset.univ]{fullShare} f) ∗ (∃ f, mS1.view.loc (c : Thread nD τ) ↦[Finset.univ]{fullShare} f) ∗ (∃ f, mS2.view.loc (c : Thread nD τ) ↦[Finset.univ]{fullShare} f) ∗ (∃ f, mMn.view.loc (c : Thread nD τ) ↦[Finset.univ]{fullShare} f) ∗ (∃ f, mA.view.loc (c : Thread nD τ) ↦[Finset.univ]{fullShare} f) ∗ (∃ f, mB.view.loc (c : Thread nD τ) ↦[Finset.univ]{fullShare} f) ∗ (a2.view.loc (c : Thread nD τ) ↦[a2.view.set]{fullShare} g2) ∗ (a3.view.loc (c : Thread nD τ) ↦[a3.view.set]{fullShare} g3) ∗ (∃ f, a5.view.loc (c : Thread nD τ) ↦[a5.view.set]{fullShare} f)) ⊢ P) : Ex c a2 a3 a5 g2 g3 R ⊢ P := by
  unfold Ex
  iintro ⟨HR, HXu, HXs, HS1, HS2, ⟨%f, HMx⟩, HMn, HA, HB, Ha2, Ha3, Ha5⟩
  iapply (h f)
  isplitl [HMx]; · iexact HMx
  isplitl [HR]; · iexact HR
  isplitl [HXu]; · iexact HXu
  isplitl [HXs]; · iexact HXs
  isplitl [HS1]; · iexact HS1
  isplitl [HS2]; · iexact HS2
  isplitl [HMn]; · iexact HMn
  isplitl [HA]; · iexact HA
  isplitl [HB]; · iexact HB
  isplitl [Ha2]; · iexact Ha2
  isplitl [Ha3]; · iexact Ha3
  iexact Ha5
theorem exlMx {R : sProp 𝕄} {Q : α → sProp 𝕄} {r : LoadRect S16x1x1280} {hl : mMx.view.LoadsAt r} {k : (r.shape.Idx → Elt F .f32) → Prog (TpuEff nD τ sig (Elt F) Λ₀ .tc) α}
    (hk : ∀ v, Ex c a2 a3 a5 g2 g3 R ⊢ WP c (k v) Q) : Ex c a2 a3 a5 g2 g3 R ⊢ WP c (.op (.load mMx r hl) k) Q :=
  takeMx (fun f => ex_load (putMx f) (Finset.subset_univ _) hk)
theorem exsMx {R : sProp 𝕄} {Q : α → sProp 𝕄} {r : Rect S16x1x1280} {w : r.shape.Idx → Elt F .f32} {hx : (mMx.access r).Stores Finset.univ} {hm} {k : PUnit → Prog (TpuEff nD τ sig (Elt F) Λ₀ .tc) α}
    (hk : Ex c a2 a3 a5 g2 g3 R ⊢ WP c (k ⟨⟩) Q) : Ex c a2 a3 a5 g2 g3 R ⊢ WP c (.op (.store mMx r w Finset.univ hx hm) k) Q :=
  takeMx (fun f => ex_store (putMx) (Finset.subset_univ _) hk)
theorem putMn {R : sProp 𝕄} (f) : iprop((mMn.view.loc (c : Thread nD τ) ↦[Finset.univ]{fullShare} f) ∗ R ∗ (∃ f, mXu.view.loc (c : Thread nD τ) ↦[Finset.univ]{fullShare} f) ∗ (∃ f, mXs.view.loc (c : Thread nD τ) ↦[Finset.univ]{fullShare} f) ∗ (∃ f, mS1.view.loc (c : Thread nD τ) ↦[Finset.univ]{fullShare} f) ∗ (∃ f, mS2.view.loc (c : Thread nD τ) ↦[Finset.univ]{fullShare} f) ∗ (∃ f, mMx.view.loc (c : Thread nD τ) ↦[Finset.univ]{fullShare} f) ∗ (∃ f, mA.view.loc (c : Thread nD τ) ↦[Finset.univ]{fullShare} f) ∗ (∃ f, mB.view.loc (c : Thread nD τ) ↦[Finset.univ]{fullShare} f) ∗ (a2.view.loc (c : Thread nD τ) ↦[a2.view.set]{fullShare} g2) ∗ (a3.view.loc (c : Thread nD τ) ↦[a3.view.set]{fullShare} g3) ∗ (∃ f, a5.view.loc (c : Thread nD τ) ↦[a5.view.set]{fullShare} f)) ⊢ Ex c a2 a3 a5 g2 g3 R := by
  unfold Ex
  iintro ⟨HMn, HR, HXu, HXs, HS1, HS2, HMx, HA, HB, Ha2, Ha3, Ha5⟩
  isplitl [HR]; · iexact HR
  isplitl [HXu]; · iexact HXu
  isplitl [HXs]; · iexact HXs
  isplitl [HS1]; · iexact HS1
  isplitl [HS2]; · iexact HS2
  isplitl [HMx]; · iexact HMx
  isplitl [HMn]; · iexists f; iexact HMn
  isplitl [HA]; · iexact HA
  isplitl [HB]; · iexact HB
  isplitl [Ha2]; · iexact Ha2
  isplitl [Ha3]; · iexact Ha3
  iexact Ha5
theorem takeMn {R : sProp 𝕄} {P : sProp 𝕄} (h : ∀ f, iprop((mMn.view.loc (c : Thread nD τ) ↦[Finset.univ]{fullShare} f) ∗ R ∗ (∃ f, mXu.view.loc (c : Thread nD τ) ↦[Finset.univ]{fullShare} f) ∗ (∃ f, mXs.view.loc (c : Thread nD τ) ↦[Finset.univ]{fullShare} f) ∗ (∃ f, mS1.view.loc (c : Thread nD τ) ↦[Finset.univ]{fullShare} f) ∗ (∃ f, mS2.view.loc (c : Thread nD τ) ↦[Finset.univ]{fullShare} f) ∗ (∃ f, mMx.view.loc (c : Thread nD τ) ↦[Finset.univ]{fullShare} f) ∗ (∃ f, mA.view.loc (c : Thread nD τ) ↦[Finset.univ]{fullShare} f) ∗ (∃ f, mB.view.loc (c : Thread nD τ) ↦[Finset.univ]{fullShare} f) ∗ (a2.view.loc (c : Thread nD τ) ↦[a2.view.set]{fullShare} g2) ∗ (a3.view.loc (c : Thread nD τ) ↦[a3.view.set]{fullShare} g3) ∗ (∃ f, a5.view.loc (c : Thread nD τ) ↦[a5.view.set]{fullShare} f)) ⊢ P) : Ex c a2 a3 a5 g2 g3 R ⊢ P := by
  unfold Ex
  iintro ⟨HR, HXu, HXs, HS1, HS2, HMx, ⟨%f, HMn⟩, HA, HB, Ha2, Ha3, Ha5⟩
  iapply (h f)
  isplitl [HMn]; · iexact HMn
  isplitl [HR]; · iexact HR
  isplitl [HXu]; · iexact HXu
  isplitl [HXs]; · iexact HXs
  isplitl [HS1]; · iexact HS1
  isplitl [HS2]; · iexact HS2
  isplitl [HMx]; · iexact HMx
  isplitl [HA]; · iexact HA
  isplitl [HB]; · iexact HB
  isplitl [Ha2]; · iexact Ha2
  isplitl [Ha3]; · iexact Ha3
  iexact Ha5
theorem exlMn {R : sProp 𝕄} {Q : α → sProp 𝕄} {r : LoadRect S16x1x1280} {hl : mMn.view.LoadsAt r} {k : (r.shape.Idx → Elt F .f32) → Prog (TpuEff nD τ sig (Elt F) Λ₀ .tc) α}
    (hk : ∀ v, Ex c a2 a3 a5 g2 g3 R ⊢ WP c (k v) Q) : Ex c a2 a3 a5 g2 g3 R ⊢ WP c (.op (.load mMn r hl) k) Q :=
  takeMn (fun f => ex_load (putMn f) (Finset.subset_univ _) hk)
theorem exsMn {R : sProp 𝕄} {Q : α → sProp 𝕄} {r : Rect S16x1x1280} {w : r.shape.Idx → Elt F .f32} {hx : (mMn.access r).Stores Finset.univ} {hm} {k : PUnit → Prog (TpuEff nD τ sig (Elt F) Λ₀ .tc) α}
    (hk : Ex c a2 a3 a5 g2 g3 R ⊢ WP c (k ⟨⟩) Q) : Ex c a2 a3 a5 g2 g3 R ⊢ WP c (.op (.store mMn r w Finset.univ hx hm) k) Q :=
  takeMn (fun f => ex_store (putMn) (Finset.subset_univ _) hk)
theorem putA {R : sProp 𝕄} (f) : iprop((mA.view.loc (c : Thread nD τ) ↦[Finset.univ]{fullShare} f) ∗ R ∗ (∃ f, mXu.view.loc (c : Thread nD τ) ↦[Finset.univ]{fullShare} f) ∗ (∃ f, mXs.view.loc (c : Thread nD τ) ↦[Finset.univ]{fullShare} f) ∗ (∃ f, mS1.view.loc (c : Thread nD τ) ↦[Finset.univ]{fullShare} f) ∗ (∃ f, mS2.view.loc (c : Thread nD τ) ↦[Finset.univ]{fullShare} f) ∗ (∃ f, mMx.view.loc (c : Thread nD τ) ↦[Finset.univ]{fullShare} f) ∗ (∃ f, mMn.view.loc (c : Thread nD τ) ↦[Finset.univ]{fullShare} f) ∗ (∃ f, mB.view.loc (c : Thread nD τ) ↦[Finset.univ]{fullShare} f) ∗ (a2.view.loc (c : Thread nD τ) ↦[a2.view.set]{fullShare} g2) ∗ (a3.view.loc (c : Thread nD τ) ↦[a3.view.set]{fullShare} g3) ∗ (∃ f, a5.view.loc (c : Thread nD τ) ↦[a5.view.set]{fullShare} f)) ⊢ Ex c a2 a3 a5 g2 g3 R := by
  unfold Ex
  iintro ⟨HA, HR, HXu, HXs, HS1, HS2, HMx, HMn, HB, Ha2, Ha3, Ha5⟩
  isplitl [HR]; · iexact HR
  isplitl [HXu]; · iexact HXu
  isplitl [HXs]; · iexact HXs
  isplitl [HS1]; · iexact HS1
  isplitl [HS2]; · iexact HS2
  isplitl [HMx]; · iexact HMx
  isplitl [HMn]; · iexact HMn
  isplitl [HA]; · iexists f; iexact HA
  isplitl [HB]; · iexact HB
  isplitl [Ha2]; · iexact Ha2
  isplitl [Ha3]; · iexact Ha3
  iexact Ha5
theorem takeA {R : sProp 𝕄} {P : sProp 𝕄} (h : ∀ f, iprop((mA.view.loc (c : Thread nD τ) ↦[Finset.univ]{fullShare} f) ∗ R ∗ (∃ f, mXu.view.loc (c : Thread nD τ) ↦[Finset.univ]{fullShare} f) ∗ (∃ f, mXs.view.loc (c : Thread nD τ) ↦[Finset.univ]{fullShare} f) ∗ (∃ f, mS1.view.loc (c : Thread nD τ) ↦[Finset.univ]{fullShare} f) ∗ (∃ f, mS2.view.loc (c : Thread nD τ) ↦[Finset.univ]{fullShare} f) ∗ (∃ f, mMx.view.loc (c : Thread nD τ) ↦[Finset.univ]{fullShare} f) ∗ (∃ f, mMn.view.loc (c : Thread nD τ) ↦[Finset.univ]{fullShare} f) ∗ (∃ f, mB.view.loc (c : Thread nD τ) ↦[Finset.univ]{fullShare} f) ∗ (a2.view.loc (c : Thread nD τ) ↦[a2.view.set]{fullShare} g2) ∗ (a3.view.loc (c : Thread nD τ) ↦[a3.view.set]{fullShare} g3) ∗ (∃ f, a5.view.loc (c : Thread nD τ) ↦[a5.view.set]{fullShare} f)) ⊢ P) : Ex c a2 a3 a5 g2 g3 R ⊢ P := by
  unfold Ex
  iintro ⟨HR, HXu, HXs, HS1, HS2, HMx, HMn, ⟨%f, HA⟩, HB, Ha2, Ha3, Ha5⟩
  iapply (h f)
  isplitl [HA]; · iexact HA
  isplitl [HR]; · iexact HR
  isplitl [HXu]; · iexact HXu
  isplitl [HXs]; · iexact HXs
  isplitl [HS1]; · iexact HS1
  isplitl [HS2]; · iexact HS2
  isplitl [HMx]; · iexact HMx
  isplitl [HMn]; · iexact HMn
  isplitl [HB]; · iexact HB
  isplitl [Ha2]; · iexact Ha2
  isplitl [Ha3]; · iexact Ha3
  iexact Ha5
theorem exlA {R : sProp 𝕄} {Q : α → sProp 𝕄} {r : LoadRect S16x1x1280} {hl : mA.view.LoadsAt r} {k : (r.shape.Idx → Elt F .f32) → Prog (TpuEff nD τ sig (Elt F) Λ₀ .tc) α}
    (hk : ∀ v, Ex c a2 a3 a5 g2 g3 R ⊢ WP c (k v) Q) : Ex c a2 a3 a5 g2 g3 R ⊢ WP c (.op (.load mA r hl) k) Q :=
  takeA (fun f => ex_load (putA f) (Finset.subset_univ _) hk)
theorem exsA {R : sProp 𝕄} {Q : α → sProp 𝕄} {r : Rect S16x1x1280} {w : r.shape.Idx → Elt F .f32} {hx : (mA.access r).Stores Finset.univ} {hm} {k : PUnit → Prog (TpuEff nD τ sig (Elt F) Λ₀ .tc) α}
    (hk : Ex c a2 a3 a5 g2 g3 R ⊢ WP c (k ⟨⟩) Q) : Ex c a2 a3 a5 g2 g3 R ⊢ WP c (.op (.store mA r w Finset.univ hx hm) k) Q :=
  takeA (fun f => ex_store (putA) (Finset.subset_univ _) hk)
theorem putB {R : sProp 𝕄} (f) : iprop((mB.view.loc (c : Thread nD τ) ↦[Finset.univ]{fullShare} f) ∗ R ∗ (∃ f, mXu.view.loc (c : Thread nD τ) ↦[Finset.univ]{fullShare} f) ∗ (∃ f, mXs.view.loc (c : Thread nD τ) ↦[Finset.univ]{fullShare} f) ∗ (∃ f, mS1.view.loc (c : Thread nD τ) ↦[Finset.univ]{fullShare} f) ∗ (∃ f, mS2.view.loc (c : Thread nD τ) ↦[Finset.univ]{fullShare} f) ∗ (∃ f, mMx.view.loc (c : Thread nD τ) ↦[Finset.univ]{fullShare} f) ∗ (∃ f, mMn.view.loc (c : Thread nD τ) ↦[Finset.univ]{fullShare} f) ∗ (∃ f, mA.view.loc (c : Thread nD τ) ↦[Finset.univ]{fullShare} f) ∗ (a2.view.loc (c : Thread nD τ) ↦[a2.view.set]{fullShare} g2) ∗ (a3.view.loc (c : Thread nD τ) ↦[a3.view.set]{fullShare} g3) ∗ (∃ f, a5.view.loc (c : Thread nD τ) ↦[a5.view.set]{fullShare} f)) ⊢ Ex c a2 a3 a5 g2 g3 R := by
  unfold Ex
  iintro ⟨HB, HR, HXu, HXs, HS1, HS2, HMx, HMn, HA, Ha2, Ha3, Ha5⟩
  isplitl [HR]; · iexact HR
  isplitl [HXu]; · iexact HXu
  isplitl [HXs]; · iexact HXs
  isplitl [HS1]; · iexact HS1
  isplitl [HS2]; · iexact HS2
  isplitl [HMx]; · iexact HMx
  isplitl [HMn]; · iexact HMn
  isplitl [HA]; · iexact HA
  isplitl [HB]; · iexists f; iexact HB
  isplitl [Ha2]; · iexact Ha2
  isplitl [Ha3]; · iexact Ha3
  iexact Ha5
theorem takeB {R : sProp 𝕄} {P : sProp 𝕄} (h : ∀ f, iprop((mB.view.loc (c : Thread nD τ) ↦[Finset.univ]{fullShare} f) ∗ R ∗ (∃ f, mXu.view.loc (c : Thread nD τ) ↦[Finset.univ]{fullShare} f) ∗ (∃ f, mXs.view.loc (c : Thread nD τ) ↦[Finset.univ]{fullShare} f) ∗ (∃ f, mS1.view.loc (c : Thread nD τ) ↦[Finset.univ]{fullShare} f) ∗ (∃ f, mS2.view.loc (c : Thread nD τ) ↦[Finset.univ]{fullShare} f) ∗ (∃ f, mMx.view.loc (c : Thread nD τ) ↦[Finset.univ]{fullShare} f) ∗ (∃ f, mMn.view.loc (c : Thread nD τ) ↦[Finset.univ]{fullShare} f) ∗ (∃ f, mA.view.loc (c : Thread nD τ) ↦[Finset.univ]{fullShare} f) ∗ (a2.view.loc (c : Thread nD τ) ↦[a2.view.set]{fullShare} g2) ∗ (a3.view.loc (c : Thread nD τ) ↦[a3.view.set]{fullShare} g3) ∗ (∃ f, a5.view.loc (c : Thread nD τ) ↦[a5.view.set]{fullShare} f)) ⊢ P) : Ex c a2 a3 a5 g2 g3 R ⊢ P := by
  unfold Ex
  iintro ⟨HR, HXu, HXs, HS1, HS2, HMx, HMn, HA, ⟨%f, HB⟩, Ha2, Ha3, Ha5⟩
  iapply (h f)
  isplitl [HB]; · iexact HB
  isplitl [HR]; · iexact HR
  isplitl [HXu]; · iexact HXu
  isplitl [HXs]; · iexact HXs
  isplitl [HS1]; · iexact HS1
  isplitl [HS2]; · iexact HS2
  isplitl [HMx]; · iexact HMx
  isplitl [HMn]; · iexact HMn
  isplitl [HA]; · iexact HA
  isplitl [Ha2]; · iexact Ha2
  isplitl [Ha3]; · iexact Ha3
  iexact Ha5
theorem exlB {R : sProp 𝕄} {Q : α → sProp 𝕄} {r : LoadRect S16x1x1280} {hl : mB.view.LoadsAt r} {k : (r.shape.Idx → Elt F .f32) → Prog (TpuEff nD τ sig (Elt F) Λ₀ .tc) α}
    (hk : ∀ v, Ex c a2 a3 a5 g2 g3 R ⊢ WP c (k v) Q) : Ex c a2 a3 a5 g2 g3 R ⊢ WP c (.op (.load mB r hl) k) Q :=
  takeB (fun f => ex_load (putB f) (Finset.subset_univ _) hk)
theorem exsB {R : sProp 𝕄} {Q : α → sProp 𝕄} {r : Rect S16x1x1280} {w : r.shape.Idx → Elt F .f32} {hx : (mB.access r).Stores Finset.univ} {hm} {k : PUnit → Prog (TpuEff nD τ sig (Elt F) Λ₀ .tc) α}
    (hk : Ex c a2 a3 a5 g2 g3 R ⊢ WP c (k ⟨⟩) Q) : Ex c a2 a3 a5 g2 g3 R ⊢ WP c (.op (.store mB r w Finset.univ hx hm) k) Q :=
  takeB (fun f => ex_store (putB) (Finset.subset_univ _) hk)
theorem puta2 {R : sProp 𝕄} : iprop((a2.view.loc (c : Thread nD τ) ↦[a2.view.set]{fullShare} g2) ∗ R ∗ (∃ f, mXu.view.loc (c : Thread nD τ) ↦[Finset.univ]{fullShare} f) ∗ (∃ f, mXs.view.loc (c : Thread nD τ) ↦[Finset.univ]{fullShare} f) ∗ (∃ f, mS1.view.loc (c : Thread nD τ) ↦[Finset.univ]{fullShare} f) ∗ (∃ f, mS2.view.loc (c : Thread nD τ) ↦[Finset.univ]{fullShare} f) ∗ (∃ f, mMx.view.loc (c : Thread nD τ) ↦[Finset.univ]{fullShare} f) ∗ (∃ f, mMn.view.loc (c : Thread nD τ) ↦[Finset.univ]{fullShare} f) ∗ (∃ f, mA.view.loc (c : Thread nD τ) ↦[Finset.univ]{fullShare} f) ∗ (∃ f, mB.view.loc (c : Thread nD τ) ↦[Finset.univ]{fullShare} f) ∗ (a3.view.loc (c : Thread nD τ) ↦[a3.view.set]{fullShare} g3) ∗ (∃ f, a5.view.loc (c : Thread nD τ) ↦[a5.view.set]{fullShare} f)) ⊢ Ex c a2 a3 a5 g2 g3 R := by
  unfold Ex
  iintro ⟨Ha2, HR, HXu, HXs, HS1, HS2, HMx, HMn, HA, HB, Ha3, Ha5⟩
  isplitl [HR]; · iexact HR
  isplitl [HXu]; · iexact HXu
  isplitl [HXs]; · iexact HXs
  isplitl [HS1]; · iexact HS1
  isplitl [HS2]; · iexact HS2
  isplitl [HMx]; · iexact HMx
  isplitl [HMn]; · iexact HMn
  isplitl [HA]; · iexact HA
  isplitl [HB]; · iexact HB
  isplitl [Ha2]; · iexact Ha2
  isplitl [Ha3]; · iexact Ha3
  iexact Ha5
theorem takea2 {R : sProp 𝕄} {P : sProp 𝕄} (h : iprop((a2.view.loc (c : Thread nD τ) ↦[a2.view.set]{fullShare} g2) ∗ R ∗ (∃ f, mXu.view.loc (c : Thread nD τ) ↦[Finset.univ]{fullShare} f) ∗ (∃ f, mXs.view.loc (c : Thread nD τ) ↦[Finset.univ]{fullShare} f) ∗ (∃ f, mS1.view.loc (c : Thread nD τ) ↦[Finset.univ]{fullShare} f) ∗ (∃ f, mS2.view.loc (c : Thread nD τ) ↦[Finset.univ]{fullShare} f) ∗ (∃ f, mMx.view.loc (c : Thread nD τ) ↦[Finset.univ]{fullShare} f) ∗ (∃ f, mMn.view.loc (c : Thread nD τ) ↦[Finset.univ]{fullShare} f) ∗ (∃ f, mA.view.loc (c : Thread nD τ) ↦[Finset.univ]{fullShare} f) ∗ (∃ f, mB.view.loc (c : Thread nD τ) ↦[Finset.univ]{fullShare} f) ∗ (a3.view.loc (c : Thread nD τ) ↦[a3.view.set]{fullShare} g3) ∗ (∃ f, a5.view.loc (c : Thread nD τ) ↦[a5.view.set]{fullShare} f)) ⊢ P) : Ex c a2 a3 a5 g2 g3 R ⊢ P := by
  unfold Ex
  iintro ⟨HR, HXu, HXs, HS1, HS2, HMx, HMn, HA, HB, Ha2, Ha3, Ha5⟩
  iapply h
  isplitl [Ha2]; · iexact Ha2
  isplitl [HR]; · iexact HR
  isplitl [HXu]; · iexact HXu
  isplitl [HXs]; · iexact HXs
  isplitl [HS1]; · iexact HS1
  isplitl [HS2]; · iexact HS2
  isplitl [HMx]; · iexact HMx
  isplitl [HMn]; · iexact HMn
  isplitl [HA]; · iexact HA
  isplitl [HB]; · iexact HB
  isplitl [Ha3]; · iexact Ha3
  iexact Ha5
theorem exla2 {R : sProp 𝕄} {Q : α → sProp 𝕄} {r : LoadRect S1280} {hl : a2.view.LoadsAt r} {k : (r.shape.Idx → Elt F .f32) → Prog (TpuEff nD τ sig (Elt F) Λ₀ .tc) α}
    (hk : ∀ v, Ex c a2 a3 a5 g2 g3 R ⊢ WP c (k v) Q) : Ex c a2 a3 a5 g2 g3 R ⊢ WP c (.op (.load a2 r hl) k) Q :=
  takea2 (ex_load (puta2) (View.setOn_subset_set _ _) hk)
theorem puta3 {R : sProp 𝕄} : iprop((a3.view.loc (c : Thread nD τ) ↦[a3.view.set]{fullShare} g3) ∗ R ∗ (∃ f, mXu.view.loc (c : Thread nD τ) ↦[Finset.univ]{fullShare} f) ∗ (∃ f, mXs.view.loc (c : Thread nD τ) ↦[Finset.univ]{fullShare} f) ∗ (∃ f, mS1.view.loc (c : Thread nD τ) ↦[Finset.univ]{fullShare} f) ∗ (∃ f, mS2.view.loc (c : Thread nD τ) ↦[Finset.univ]{fullShare} f) ∗ (∃ f, mMx.view.loc (c : Thread nD τ) ↦[Finset.univ]{fullShare} f) ∗ (∃ f, mMn.view.loc (c : Thread nD τ) ↦[Finset.univ]{fullShare} f) ∗ (∃ f, mA.view.loc (c : Thread nD τ) ↦[Finset.univ]{fullShare} f) ∗ (∃ f, mB.view.loc (c : Thread nD τ) ↦[Finset.univ]{fullShare} f) ∗ (a2.view.loc (c : Thread nD τ) ↦[a2.view.set]{fullShare} g2) ∗ (∃ f, a5.view.loc (c : Thread nD τ) ↦[a5.view.set]{fullShare} f)) ⊢ Ex c a2 a3 a5 g2 g3 R := by
  unfold Ex
  iintro ⟨Ha3, HR, HXu, HXs, HS1, HS2, HMx, HMn, HA, HB, Ha2, Ha5⟩
  isplitl [HR]; · iexact HR
  isplitl [HXu]; · iexact HXu
  isplitl [HXs]; · iexact HXs
  isplitl [HS1]; · iexact HS1
  isplitl [HS2]; · iexact HS2
  isplitl [HMx]; · iexact HMx
  isplitl [HMn]; · iexact HMn
  isplitl [HA]; · iexact HA
  isplitl [HB]; · iexact HB
  isplitl [Ha2]; · iexact Ha2
  isplitl [Ha3]; · iexact Ha3
  iexact Ha5
theorem takea3 {R : sProp 𝕄} {P : sProp 𝕄} (h : iprop((a3.view.loc (c : Thread nD τ) ↦[a3.view.set]{fullShare} g3) ∗ R ∗ (∃ f, mXu.view.loc (c : Thread nD τ) ↦[Finset.univ]{fullShare} f) ∗ (∃ f, mXs.view.loc (c : Thread nD τ) ↦[Finset.univ]{fullShare} f) ∗ (∃ f, mS1.view.loc (c : Thread nD τ) ↦[Finset.univ]{fullShare} f) ∗ (∃ f, mS2.view.loc (c : Thread nD τ) ↦[Finset.univ]{fullShare} f) ∗ (∃ f, mMx.view.loc (c : Thread nD τ) ↦[Finset.univ]{fullShare} f) ∗ (∃ f, mMn.view.loc (c : Thread nD τ) ↦[Finset.univ]{fullShare} f) ∗ (∃ f, mA.view.loc (c : Thread nD τ) ↦[Finset.univ]{fullShare} f) ∗ (∃ f, mB.view.loc (c : Thread nD τ) ↦[Finset.univ]{fullShare} f) ∗ (a2.view.loc (c : Thread nD τ) ↦[a2.view.set]{fullShare} g2) ∗ (∃ f, a5.view.loc (c : Thread nD τ) ↦[a5.view.set]{fullShare} f)) ⊢ P) : Ex c a2 a3 a5 g2 g3 R ⊢ P := by
  unfold Ex
  iintro ⟨HR, HXu, HXs, HS1, HS2, HMx, HMn, HA, HB, Ha2, Ha3, Ha5⟩
  iapply h
  isplitl [Ha3]; · iexact Ha3
  isplitl [HR]; · iexact HR
  isplitl [HXu]; · iexact HXu
  isplitl [HXs]; · iexact HXs
  isplitl [HS1]; · iexact HS1
  isplitl [HS2]; · iexact HS2
  isplitl [HMx]; · iexact HMx
  isplitl [HMn]; · iexact HMn
  isplitl [HA]; · iexact HA
  isplitl [HB]; · iexact HB
  isplitl [Ha2]; · iexact Ha2
  iexact Ha5
theorem exla3 {R : sProp 𝕄} {Q : α → sProp 𝕄} {r : LoadRect S1280} {hl : a3.view.LoadsAt r} {k : (r.shape.Idx → Elt F .f32) → Prog (TpuEff nD τ sig (Elt F) Λ₀ .tc) α}
    (hk : ∀ v, Ex c a2 a3 a5 g2 g3 R ⊢ WP c (k v) Q) : Ex c a2 a3 a5 g2 g3 R ⊢ WP c (.op (.load a3 r hl) k) Q :=
  takea3 (ex_load (puta3) (View.setOn_subset_set _ _) hk)
theorem puta5 {R : sProp 𝕄} (f) : iprop((a5.view.loc (c : Thread nD τ) ↦[a5.view.set]{fullShare} f) ∗ R ∗ (∃ f, mXu.view.loc (c : Thread nD τ) ↦[Finset.univ]{fullShare} f) ∗ (∃ f, mXs.view.loc (c : Thread nD τ) ↦[Finset.univ]{fullShare} f) ∗ (∃ f, mS1.view.loc (c : Thread nD τ) ↦[Finset.univ]{fullShare} f) ∗ (∃ f, mS2.view.loc (c : Thread nD τ) ↦[Finset.univ]{fullShare} f) ∗ (∃ f, mMx.view.loc (c : Thread nD τ) ↦[Finset.univ]{fullShare} f) ∗ (∃ f, mMn.view.loc (c : Thread nD τ) ↦[Finset.univ]{fullShare} f) ∗ (∃ f, mA.view.loc (c : Thread nD τ) ↦[Finset.univ]{fullShare} f) ∗ (∃ f, mB.view.loc (c : Thread nD τ) ↦[Finset.univ]{fullShare} f) ∗ (a2.view.loc (c : Thread nD τ) ↦[a2.view.set]{fullShare} g2) ∗ (a3.view.loc (c : Thread nD τ) ↦[a3.view.set]{fullShare} g3)) ⊢ Ex c a2 a3 a5 g2 g3 R := by
  unfold Ex
  iintro ⟨Ha5, HR, HXu, HXs, HS1, HS2, HMx, HMn, HA, HB, Ha2, Ha3⟩
  isplitl [HR]; · iexact HR
  isplitl [HXu]; · iexact HXu
  isplitl [HXs]; · iexact HXs
  isplitl [HS1]; · iexact HS1
  isplitl [HS2]; · iexact HS2
  isplitl [HMx]; · iexact HMx
  isplitl [HMn]; · iexact HMn
  isplitl [HA]; · iexact HA
  isplitl [HB]; · iexact HB
  isplitl [Ha2]; · iexact Ha2
  isplitl [Ha3]; · iexact Ha3
  iexists f; iexact Ha5
theorem takea5 {R : sProp 𝕄} {P : sProp 𝕄} (h : ∀ f, iprop((a5.view.loc (c : Thread nD τ) ↦[a5.view.set]{fullShare} f) ∗ R ∗ (∃ f, mXu.view.loc (c : Thread nD τ) ↦[Finset.univ]{fullShare} f) ∗ (∃ f, mXs.view.loc (c : Thread nD τ) ↦[Finset.univ]{fullShare} f) ∗ (∃ f, mS1.view.loc (c : Thread nD τ) ↦[Finset.univ]{fullShare} f) ∗ (∃ f, mS2.view.loc (c : Thread nD τ) ↦[Finset.univ]{fullShare} f) ∗ (∃ f, mMx.view.loc (c : Thread nD τ) ↦[Finset.univ]{fullShare} f) ∗ (∃ f, mMn.view.loc (c : Thread nD τ) ↦[Finset.univ]{fullShare} f) ∗ (∃ f, mA.view.loc (c : Thread nD τ) ↦[Finset.univ]{fullShare} f) ∗ (∃ f, mB.view.loc (c : Thread nD τ) ↦[Finset.univ]{fullShare} f) ∗ (a2.view.loc (c : Thread nD τ) ↦[a2.view.set]{fullShare} g2) ∗ (a3.view.loc (c : Thread nD τ) ↦[a3.view.set]{fullShare} g3)) ⊢ P) : Ex c a2 a3 a5 g2 g3 R ⊢ P := by
  unfold Ex
  iintro ⟨HR, HXu, HXs, HS1, HS2, HMx, HMn, HA, HB, Ha2, Ha3, ⟨%f, Ha5⟩⟩
  iapply (h f)
  isplitl [Ha5]; · iexact Ha5
  isplitl [HR]; · iexact HR
  isplitl [HXu]; · iexact HXu
  isplitl [HXs]; · iexact HXs
  isplitl [HS1]; · iexact HS1
  isplitl [HS2]; · iexact HS2
  isplitl [HMx]; · iexact HMx
  isplitl [HMn]; · iexact HMn
  isplitl [HA]; · iexact HA
  isplitl [HB]; · iexact HB
  isplitl [Ha2]; · iexact Ha2
  iexact Ha3
theorem exla5 {R : sProp 𝕄} {Q : α → sProp 𝕄} {r : LoadRect S1x1} {hl : a5.view.LoadsAt r} {k : (r.shape.Idx → Elt F .f32) → Prog (TpuEff nD τ sig (Elt F) Λ₀ .tc) α}
    (hk : ∀ v, Ex c a2 a3 a5 g2 g3 R ⊢ WP c (k v) Q) : Ex c a2 a3 a5 g2 g3 R ⊢ WP c (.op (.load a5 r hl) k) Q :=
  takea5 (fun f => ex_load (puta5 f) (View.setOn_subset_set _ _) hk)
theorem exsa5 {R : sProp 𝕄} {Q : α → sProp 𝕄} {r : Rect S1x1} {w : r.shape.Idx → Elt F .f32} {hx : (a5.access r).Stores Finset.univ} {hm} {k : PUnit → Prog (TpuEff nD τ sig (Elt F) Λ₀ .tc) α}
    (hk : Ex c a2 a3 a5 g2 g3 R ⊢ WP c (k ⟨⟩) Q) : Ex c a2 a3 a5 g2 g3 R ⊢ WP c (.op (.store a5 r w Finset.univ hx hm) k) Q :=
  takea5 (fun f => ex_store (puta5) (by rw [View.setOn_univ]; exact View.set_slice_subset _ _) hk)

theorem sub_ob {s : ℕ} {o : Fin 3 → ℕ} (ho : o 0 = s) (inb : ∀ a, o a + S1x128x256.size a ≤ S3x1024x1280.size a) :
    mOb.view.setOn (Rect.unit (s := S3x1024x1280) o S1x128x256.size inb).set ⊆ (rowsIn dOb (· = s) : Finset _) := by
  intro i hi
  obtain ⟨j, hj, rfl⟩ := Finset.mem_map.mp hi
  have h := Rect.mem_set_unit.mp hj 0
  rw [mem_rowsIn]
  have h1 : (j 0).val < o 0 + 1 := h.2
  have h2 : o 0 ≤ (j 0).val := h.1
  show (j 0).val = s
  omega

theorem exlOb {R : sProp 𝕄} {Q : α → sProp 𝕄} {s : ℕ} {o : Fin 3 → ℕ} (ho : o 0 = s) {inb : ∀ a, o a + S1x128x256.size a ≤ S3x1024x1280.size a}
    {hl : mOb.view.LoadsAt (Rect.unit (s := S3x1024x1280) o S1x128x256.size inb).toLoadRect} {k : (S1x128x256.Idx → Elt F .fp8e4m3) → Prog (TpuEff nD τ sig (Elt F) Λ₀ .tc) α}
    (hk : ∀ v, iprop(Ex c a2 a3 a5 g2 g3 R ∗ obS c s) ⊢ WP c (k v) Q) :
    iprop(Ex c a2 a3 a5 g2 g3 R ∗ obS c s) ⊢ WP c (.op (.load mOb (Rect.unit (s := S3x1024x1280) o S1x128x256.size inb).toLoadRect hl) k) Q := by
  unfold obS at hk ⊢
  iintro ⟨HE, ⟨%f, Hf⟩⟩
  iapply (wp_load Variants.none (c : Thread nD τ) none Set.univ (f := f) (S := (rowsIn dOb (· = s) : Finset _)) (by
    rw [show (Rect.unit (s := S3x1024x1280) o S1x128x256.size inb).toLoadRect.set = (Rect.unit (s := S3x1024x1280) o S1x128x256.size inb).set from rfl]; exact sub_ob ho inb)) $$ [Hf]
  · iexact Hf
  iintro Hf
  iapply (hk _)
  isplitl [HE]; · iexact HE
  iexists f; iexact Hf
theorem exsOb {R : sProp 𝕄} {Q : α → sProp 𝕄} {s : ℕ} {o : Fin 3 → ℕ} (ho : o 0 = s) {inb : ∀ a, o a + S1x128x256.size a ≤ S3x1024x1280.size a} {w : S1x128x256.Idx → Elt F .fp8e4m3}
    {hx : (mOb.access (Rect.unit (s := S3x1024x1280) o S1x128x256.size inb)).Stores Finset.univ} {hm} {k : PUnit → Prog (TpuEff nD τ sig (Elt F) Λ₀ .tc) α}
    (hk : iprop(Ex c a2 a3 a5 g2 g3 R ∗ obS c s) ⊢ WP c (k ⟨⟩) Q) :
    iprop(Ex c a2 a3 a5 g2 g3 R ∗ obS c s) ⊢ WP c (.op (.store mOb (Rect.unit (s := S3x1024x1280) o S1x128x256.size inb) w Finset.univ hx hm) k) Q := by
  unfold obS at hk ⊢
  iintro ⟨HE, ⟨%f, Hf⟩⟩
  iapply (wp_store Variants.none (c : Thread nD τ) none Set.univ (f := f) (S := (rowsIn dOb (· = s) : Finset _)) (by
    rw [View.setOn_univ, View.set_slice]; exact sub_ob ho inb)) $$ [Hf]
  · iexact Hf
  iintro Hf
  iapply hk
  isplitl [HE]; · iexact HE
  iexists _; iexact Hf
/-- The slot held beside the state, or among its rest. -/
theorem exAssoc (R : sProp 𝕄) (s : ℕ) : iprop(Ex c a2 a3 a5 g2 g3 R ∗ obS c s) ⊣⊢ Ex c a2 a3 a5 g2 g3 iprop(R ∗ obS c s) := by
  unfold Ex
  constructor
  · iintro ⟨⟨HR, HE⟩, HO⟩
    isplitl [HR HO]
    · isplitl [HR] <;> iassumption
    · iexact HE
  · iintro ⟨⟨HR, HO⟩, HE⟩
    isplitl [HR HE]
    · isplitl [HR] <;> iassumption
    · iexact HO
theorem exoXu {R : sProp 𝕄} {Q : α → sProp 𝕄} {s : ℕ} {r : LoadRect S16x1024x768} {hl : mXu.view.LoadsAt r} {k : (r.shape.Idx → Elt F .bf16) → Prog (TpuEff nD τ sig (Elt F) Λ₀ .tc) α}
    (hk : ∀ v, iprop(Ex c a2 a3 a5 g2 g3 R ∗ obS c s) ⊢ WP c (k v) Q) : iprop(Ex c a2 a3 a5 g2 g3 R ∗ obS c s) ⊢ WP c (.op (.load mXu r hl) k) Q :=
  (exAssoc R s).1.trans (exlXu fun v => (exAssoc R s).2.trans (hk v))
theorem exoXs {R : sProp 𝕄} {Q : α → sProp 𝕄} {s : ℕ} {r : LoadRect S16x1024x512} {hl : mXs.view.LoadsAt r} {k : (r.shape.Idx → Elt F .bf16) → Prog (TpuEff nD τ sig (Elt F) Λ₀ .tc) α}
    (hk : ∀ v, iprop(Ex c a2 a3 a5 g2 g3 R ∗ obS c s) ⊢ WP c (k v) Q) : iprop(Ex c a2 a3 a5 g2 g3 R ∗ obS c s) ⊢ WP c (.op (.load mXs r hl) k) Q :=
  (exAssoc R s).1.trans (exlXs fun v => (exAssoc R s).2.trans (hk v))
theorem exoA {R : sProp 𝕄} {Q : α → sProp 𝕄} {s : ℕ} {r : LoadRect S16x1x1280} {hl : mA.view.LoadsAt r} {k : (r.shape.Idx → Elt F .f32) → Prog (TpuEff nD τ sig (Elt F) Λ₀ .tc) α}
    (hk : ∀ v, iprop(Ex c a2 a3 a5 g2 g3 R ∗ obS c s) ⊢ WP c (k v) Q) : iprop(Ex c a2 a3 a5 g2 g3 R ∗ obS c s) ⊢ WP c (.op (.load mA r hl) k) Q :=
  (exAssoc R s).1.trans (exlA fun v => (exAssoc R s).2.trans (hk v))
theorem exoB {R : sProp 𝕄} {Q : α → sProp 𝕄} {s : ℕ} {r : LoadRect S16x1x1280} {hl : mB.view.LoadsAt r} {k : (r.shape.Idx → Elt F .f32) → Prog (TpuEff nD τ sig (Elt F) Λ₀ .tc) α}
    (hk : ∀ v, iprop(Ex c a2 a3 a5 g2 g3 R ∗ obS c s) ⊢ WP c (k v) Q) : iprop(Ex c a2 a3 a5 g2 g3 R ∗ obS c s) ⊢ WP c (.op (.load mB r hl) k) Q :=
  (exAssoc R s).1.trans (exlB fun v => (exAssoc R s).2.trans (hk v))
end

end Cert.Kernel.Hand
-- ==== Proof.K.Spec.lean ====
/-
  A row's statistics, tile by tile.
-/
module

public import proofs.«01_k».proof.Proof.K.Ld

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem k16 (k : Fin k0_t1_loop.trips) : k.val < 16 := lt_of_lt_of_eq k.isLt (by decide)

section Spec
/-- The block, its upcast, and the four running statistics of a 256-lane tile given by its blocks. -/
def cB (bl : ℕ → Vec F S1x8x256 .bf16) (j : ℕ) : FVec F S8x256 .bf16 := shapeCast S8x256 (bl j) shapeCasts_S1x8x256_S8x256
def eB (bl : ℕ → Vec F S1x8x256 .bf16) (j : ℕ) : FVec F S8x256 .f32 := extf .f32 (cB bl j) bitsLt_bf16_f32
def s1c (bl : ℕ → Vec F S1x8x256 .bf16) (oe : FVec F S8x256 .f32) : ℕ → FVec F S8x256 .f32
  | 0 => mulf (eB bl 0) oe
  | n + 1 => addf (s1c bl oe n) (mulf (eB bl (n + 1)) oe)
def s2c (bl : ℕ → Vec F S1x8x256 .bf16) : ℕ → FVec F S8x256 .f32
  | 0 => mulf (eB bl 0) (eB bl 0)
  | n + 1 => addf (s2c bl n) (mulf (eB bl (n + 1)) (eB bl (n + 1)))
def mxc (bl : ℕ → Vec F S1x8x256 .bf16) : ℕ → FVec F S8x256 .bf16
  | 0 => cB bl 0
  | n + 1 => maximumf (mxc bl n) (cB bl (n + 1))
def mnc (bl : ℕ → Vec F S1x8x256 .bf16) : ℕ → FVec F S8x256 .bf16
  | 0 => cB bl 0
  | n + 1 => minimumf (mnc bl n) (cB bl (n + 1))
def red1 (v : FVec F S8x256 .f32) : FVec F S1x256 .f32 :=
  shapeCast S1x256 (multiReduction .add [0] S256 v 0x00000000#32 reduces_S8x256_S256 (.inl rfl) rfl) shapeCasts_S256_S1x256
def finMn (v : FVec F S8x256 .bf16) : FVec F S1x1x256 .f32 :=
  shapeCast S1x1x256 (shapeCast S1x256 (multiReduction .minimumf [0] S256 (extf .f32 v bitsLt_bf16_f32) 0x7F800000#32 reduces_S8x256_S256 (.inl rfl) rfl)
    shapeCasts_S256_S1x256) shapeCasts_S1x256_S1x1x256

/-- Tile `t` of row `b`: the first three in the first input, the last two in the second. -/
def tl (x0 : S16x1024x768.Idx → Elt F .bf16) (x1 : S16x1024x512.Idx → Elt F .bf16) (b : ℕ) : ℕ → ℕ → Vec F S1x8x256 .bf16
  | 0, j => blkU x0 b (8 * j) 0
  | 1, j => blkU x0 b (8 * j) 256
  | 2, j => blkU x0 b (8 * j) 512
  | 3, j => blkS x1 b (8 * j) 0
  | _, j => blkS x1 b (8 * j) 256
end Spec

/-- A part at the body's operands. -/
abbrev ap {β : Type 1} (f : (arg0 : Memref sig .tc .hbm S16x1024x768 .bf16) → (harg0 : arg0.IsWhole) → (arg1 : Memref sig .tc .hbm S16x1024x512 .bf16) → (harg1 : arg1.IsWhole) → (arg2 : Memref sig .tc .vmem S1280 .f32) → (harg2 : arg2.IsWhole) → (arg3 : Memref sig .tc .vmem S1280 .f32) → (harg3 : arg3.IsWhole) → (arg4 : Memref sig .tc .hbm S16x1024x1280 .fp8e4m3) → (harg4 : arg4.IsWhole) → (arg5 : Memref sig .tc .smem S1x1 .f32) → (harg5 : arg5.IsWhole) → (arg6 : Memref sig .tc .vmem S16x1024x768 .bf16) → (harg6 : arg6.IsWhole) → (arg7 : Memref sig .tc .vmem S16x1024x512 .bf16) → (harg7 : arg7.IsWhole) → (arg8 : Memref sig .tc .vmem S3x1024x1280 .fp8e4m3) → (harg8 : arg8.IsWhole) → (arg9 : Memref sig .tc .vmem S16x1x1280 .f32) → (harg9 : arg9.IsWhole) → (arg10 : Memref sig .tc .vmem S16x1x1280 .f32) → (harg10 : arg10.IsWhole) → (arg11 : Memref sig .tc .vmem S16x1x1280 .f32) → (harg11 : arg11.IsWhole) → (arg12 : Memref sig .tc .vmem S16x1x1280 .f32) → (harg12 : arg12.IsWhole) → (arg13 : Memref sig .tc .vmem S16x1x1280 .f32) → (harg13 : arg13.IsWhole) → (arg14 : Memref sig .tc .vmem S16x1x1280 .f32) → (harg14 : arg14.IsWhole) → (arg15 : Memref sig .tc .vmem S8x256 .bf16) → (harg15 : arg15.IsWhole) → (arg16 : DmaSems sig S16) → (arg17 : DmaSems sig S3) → β) (a2 : Memref sig .tc .vmem S1280 .f32) (ha2 : a2.IsWhole) (a3 : Memref sig .tc .vmem S1280 .f32) (ha3 : a3.IsWhole) (a5 : Memref sig .tc .smem S1x1 .f32) (ha5 : a5.IsWhole) : β :=
  f mXuH (Memref.isWhole_whole _) mXsH (Memref.isWhole_whole _) a2 ha2 a3 ha3 mCo (Memref.isWhole_whole _) a5 ha5 mXu (Memref.isWhole_whole _) mXs (Memref.isWhole_whole _) mOb (Memref.isWhole_whole _) mS1 (Memref.isWhole_whole _) mS2 (Memref.isWhole_whole _) mMx (Memref.isWhole_whole _) mMn (Memref.isWhole_whole _) mA (Memref.isWhole_whole _) mB (Memref.isWhole_whole _) mOn (Memref.isWhole_whole _) cc0_scratch10 cc0_scratch11

end Cert.Kernel.Hand
-- ==== Proof.K.Cod.lean ====
/-
  One row's codes keep the state and the row's slot.
-/
module

public import proofs.«01_k».proof.Proof.K.Ex
public import proofs.«01_k».proof.Proof.K.Spec

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable {c : Dev nD} {a2 : Memref sig .tc .vmem S1280 .f32} {ha2 : a2.IsWhole} {a3 : Memref sig .tc .vmem S1280 .f32} {ha3 : a3.IsWhole} {a5 : Memref sig .tc .smem S1x1 .f32} {ha5 : a5.IsWhole}
  {g2 : Buf (Elt F) (a2.view.loc (c : Thread nD τ))} {g3 : Buf (Elt F) (a3.view.loc (c : Thread nD τ))}

theorem obk0_off676 (k : Fin k0_t14_loop.trips) : k0_off676 k 0 = k.val % 3 := by rw [k0_off676_eq]; rfl
theorem obk0_off678 (k : Fin k0_t14_loop.trips) : k0_off678 k 0 = k.val % 3 := by rw [k0_off678_eq]; rfl
theorem obk0_off680 (k : Fin k0_t14_loop.trips) : k0_off680 k 0 = k.val % 3 := by rw [k0_off680_eq]; rfl
theorem obk0_off682 (k : Fin k0_t14_loop.trips) : k0_off682 k 0 = k.val % 3 := by rw [k0_off682_eq]; rfl
theorem obk0_off684 (k : Fin k0_t14_loop.trips) : k0_off684 k 0 = k.val % 3 := by rw [k0_off684_eq]; rfl
theorem obk0_off686 (k : Fin k0_t14_loop.trips) : k0_off686 k 0 = k.val % 3 := by rw [k0_off686_eq]; rfl
theorem obk0_off688 (k : Fin k0_t14_loop.trips) : k0_off688 k 0 = k.val % 3 := by rw [k0_off688_eq]; rfl
theorem obk0_off691 (k : Fin k0_t14_loop.trips) : k0_off691 k 0 = k.val % 3 := by rw [k0_off691_eq]; rfl
theorem obk0_off693 (k : Fin k0_t14_loop.trips) : k0_off693 k 0 = k.val % 3 := by rw [k0_off693_eq]; rfl
theorem obk0_off695 (k : Fin k0_t14_loop.trips) : k0_off695 k 0 = k.val % 3 := by rw [k0_off695_eq]; rfl
theorem obk0_off697 (k : Fin k0_t14_loop.trips) : k0_off697 k 0 = k.val % 3 := by rw [k0_off697_eq]; rfl
theorem obk0_off699 (k : Fin k0_t14_loop.trips) : k0_off699 k 0 = k.val % 3 := by rw [k0_off699_eq]; rfl
theorem obk0_off701 (k : Fin k0_t14_loop.trips) : k0_off701 k 0 = k.val % 3 := by rw [k0_off701_eq]; rfl
theorem obk0_off703 (k : Fin k0_t14_loop.trips) : k0_off703 k 0 = k.val % 3 := by rw [k0_off703_eq]; rfl
theorem obk0_off705 (k : Fin k0_t14_loop.trips) : k0_off705 k 0 = k.val % 3 := by rw [k0_off705_eq]; rfl
theorem obk0_off708 (k : Fin k0_t14_loop.trips) : k0_off708 k 0 = k.val % 3 := by rw [k0_off708_eq]; rfl
theorem obk0_off710 (k : Fin k0_t14_loop.trips) : k0_off710 k 0 = k.val % 3 := by rw [k0_off710_eq]; rfl
theorem obk0_off712 (k : Fin k0_t14_loop.trips) : k0_off712 k 0 = k.val % 3 := by rw [k0_off712_eq]; rfl
theorem obk0_off714 (k : Fin k0_t14_loop.trips) : k0_off714 k 0 = k.val % 3 := by rw [k0_off714_eq]; rfl
theorem obk0_off716 (k : Fin k0_t14_loop.trips) : k0_off716 k 0 = k.val % 3 := by rw [k0_off716_eq]; rfl
theorem obk0_off718 (k : Fin k0_t14_loop.trips) : k0_off718 k 0 = k.val % 3 := by rw [k0_off718_eq]; rfl
theorem obk0_off720 (k : Fin k0_t14_loop.trips) : k0_off720 k 0 = k.val % 3 := by rw [k0_off720_eq]; rfl
theorem obk0_off722 (k : Fin k0_t14_loop.trips) : k0_off722 k 0 = k.val % 3 := by rw [k0_off722_eq]; rfl
theorem obk0_off725 (k : Fin k0_t14_loop.trips) : k0_off725 k 0 = k.val % 3 := by rw [k0_off725_eq]; rfl
theorem obk0_off727 (k : Fin k0_t14_loop.trips) : k0_off727 k 0 = k.val % 3 := by rw [k0_off727_eq]; rfl
theorem obk0_off729 (k : Fin k0_t14_loop.trips) : k0_off729 k 0 = k.val % 3 := by rw [k0_off729_eq]; rfl
theorem obk0_off731 (k : Fin k0_t14_loop.trips) : k0_off731 k 0 = k.val % 3 := by rw [k0_off731_eq]; rfl
theorem obk0_off733 (k : Fin k0_t14_loop.trips) : k0_off733 k 0 = k.val % 3 := by rw [k0_off733_eq]; rfl
theorem obk0_off735 (k : Fin k0_t14_loop.trips) : k0_off735 k 0 = k.val % 3 := by rw [k0_off735_eq]; rfl
theorem obk0_off737 (k : Fin k0_t14_loop.trips) : k0_off737 k 0 = k.val % 3 := by rw [k0_off737_eq]; rfl
theorem obk0_off739 (k : Fin k0_t14_loop.trips) : k0_off739 k 0 = k.val % 3 := by rw [k0_off739_eq]; rfl
theorem obk0_off742 (k : Fin k0_t14_loop.trips) : k0_off742 k 0 = k.val % 3 := by rw [k0_off742_eq]; rfl
theorem obk0_off744 (k : Fin k0_t14_loop.trips) : k0_off744 k 0 = k.val % 3 := by rw [k0_off744_eq]; rfl
theorem obk0_off746 (k : Fin k0_t14_loop.trips) : k0_off746 k 0 = k.val % 3 := by rw [k0_off746_eq]; rfl
theorem obk0_off748 (k : Fin k0_t14_loop.trips) : k0_off748 k 0 = k.val % 3 := by rw [k0_off748_eq]; rfl
theorem obk0_off750 (k : Fin k0_t14_loop.trips) : k0_off750 k 0 = k.val % 3 := by rw [k0_off750_eq]; rfl
theorem obk0_off752 (k : Fin k0_t14_loop.trips) : k0_off752 k 0 = k.val % 3 := by rw [k0_off752_eq]; rfl
theorem obk0_off674 (k : Fin k0_t14_loop.trips) : k0_off674 k 0 = k.val % 3 := by rw [k0_off674_eq]; rfl
theorem obk0_off754 (k : Fin k0_t14_loop.trips) : k0_off754 k 0 = k.val % 3 := by rw [k0_off754_eq]; rfl
theorem obk0_off756 (k : Fin k0_t14_loop.trips) : k0_off756 k 0 = k.val % 3 := by rw [k0_off756_eq]; rfl

theorem p_137 {R : sProp 𝕄} {v432 : F .f32} {k0_t14 : Fin k0_t14_loop.trips} {arg18 : BitVec 32} {v462 : BitVec 32} {v468 : FVec F S1x256 .f32} {v471 : FVec F S1x256 .f32} {v502 : FVec F S128x256 .f32} {v503 : FVec F S128x256 .f32} : iprop(Ex c a2 a3 a5 g2 g3 R ∗ obS c (k0_t14.val % 3)) ⊢ WP c (ap k0_part137 a2 ha2 a3 ha3 a5 ha5 v432 k0_t14 arg18 v462 v468 v471 v502 v503) (fun _ => iprop(Ex c a2 a3 a5 g2 g3 R ∗ obS c (k0_t14.val % 3))) := by
  rw [k0_part137_eq_skeleton]
  refine exlOb (obk0_off676 _) fun _ => ?_
  refine exsOb (obk0_off676 _) ?_
  refine exoXu fun _ => ?_
  refine exlOb (obk0_off678 _) fun _ => ?_
  refine exsOb (obk0_off678 _) ?_
  refine exoXu fun _ => ?_
  exact wp_done .rfl

theorem p_138 {R : sProp 𝕄} {v432 : F .f32} {k0_t14 : Fin k0_t14_loop.trips} {arg18 : BitVec 32} {v462 : BitVec 32} {v468 : FVec F S1x256 .f32} {v471 : FVec F S1x256 .f32} {v546 : FVec F S128x256 .f32} {cst_345 : F .f32} {v547 : FVec F S128x256 .f32} : iprop(Ex c a2 a3 a5 g2 g3 R ∗ obS c (k0_t14.val % 3)) ⊢ WP c (ap k0_part138 a2 ha2 a3 ha3 a5 ha5 v432 k0_t14 arg18 v462 v468 v471 v546 cst_345 v547) (fun _ => iprop(Ex c a2 a3 a5 g2 g3 R ∗ obS c (k0_t14.val % 3))) := by
  rw [k0_part138_eq_skeleton]
  refine exlOb (obk0_off680 _) fun _ => ?_
  refine exsOb (obk0_off680 _) ?_
  refine exoXu fun _ => ?_
  refine exlOb (obk0_off682 _) fun _ => ?_
  refine exsOb (obk0_off682 _) ?_
  refine exoXu fun _ => ?_
  exact wp_done .rfl

theorem p_139 {R : sProp 𝕄} {v432 : F .f32} {k0_t14 : Fin k0_t14_loop.trips} {arg18 : BitVec 32} {v462 : BitVec 32} {v468 : FVec F S1x256 .f32} {v471 : FVec F S1x256 .f32} {v593 : FVec F S128x256 .fp8e4m3} : iprop(Ex c a2 a3 a5 g2 g3 R ∗ obS c (k0_t14.val % 3)) ⊢ WP c (ap k0_part139 a2 ha2 a3 ha3 a5 ha5 v432 k0_t14 arg18 v462 v468 v471 v593) (fun _ => iprop(Ex c a2 a3 a5 g2 g3 R ∗ obS c (k0_t14.val % 3))) := by
  rw [k0_part139_eq_skeleton]
  refine exlOb (obk0_off684 _) fun _ => ?_
  refine exsOb (obk0_off684 _) ?_
  refine exoXu fun _ => ?_
  refine exlOb (obk0_off686 _) fun _ => ?_
  refine exsOb (obk0_off686 _) ?_
  refine exoXu fun _ => ?_
  refine exlOb (obk0_off688 _) fun _ => ?_
  exact wp_done .rfl

theorem p_140 {R : sProp 𝕄} {v432 : F .f32} {k0_t14 : Fin k0_t14_loop.trips} {arg18 : BitVec 32} {v462 : BitVec 32} {v635 : FVec F S128x256 .fp8e4m3} {v637 : Vec F S1x128x256 .fp8e4m3} : iprop(Ex c a2 a3 a5 g2 g3 R ∗ obS c (k0_t14.val % 3)) ⊢ WP c (ap k0_part140 a2 ha2 a3 ha3 a5 ha5 v432 k0_t14 arg18 v462 v635 v637) (fun _ => iprop(Ex c a2 a3 a5 g2 g3 R ∗ obS c (k0_t14.val % 3))) := by
  rw [k0_part140_eq_skeleton]
  refine exsOb (obk0_off688 _) ?_
  refine exoA fun _ => ?_
  refine exoB fun _ => ?_
  refine exoXu fun _ => ?_
  refine exlOb (obk0_off691 _) fun _ => ?_
  refine exsOb (obk0_off691 _) ?_
  refine exoXu fun _ => ?_
  exact wp_done .rfl

theorem p_141 {R : sProp 𝕄} {v432 : F .f32} {k0_t14 : Fin k0_t14_loop.trips} {arg18 : BitVec 32} {v462 : BitVec 32} {v642 : FVec F S1x256 .f32} {v645 : FVec F S1x256 .f32} {v680 : FVec F S128x256 .f32} {v681 : FVec F S128x256 .f32} : iprop(Ex c a2 a3 a5 g2 g3 R ∗ obS c (k0_t14.val % 3)) ⊢ WP c (ap k0_part141 a2 ha2 a3 ha3 a5 ha5 v432 k0_t14 arg18 v462 v642 v645 v680 v681) (fun _ => iprop(Ex c a2 a3 a5 g2 g3 R ∗ obS c (k0_t14.val % 3))) := by
  rw [k0_part141_eq_skeleton]
  refine exlOb (obk0_off693 _) fun _ => ?_
  refine exsOb (obk0_off693 _) ?_
  refine exoXu fun _ => ?_
  refine exlOb (obk0_off695 _) fun _ => ?_
  refine exsOb (obk0_off695 _) ?_
  refine exoXu fun _ => ?_
  exact wp_done .rfl

theorem p_142 {R : sProp 𝕄} {v432 : F .f32} {k0_t14 : Fin k0_t14_loop.trips} {arg18 : BitVec 32} {v462 : BitVec 32} {v642 : FVec F S1x256 .f32} {v645 : FVec F S1x256 .f32} {v725 : FVec F S128x256 .fp8e4m3} : iprop(Ex c a2 a3 a5 g2 g3 R ∗ obS c (k0_t14.val % 3)) ⊢ WP c (ap k0_part142 a2 ha2 a3 ha3 a5 ha5 v432 k0_t14 arg18 v462 v642 v645 v725) (fun _ => iprop(Ex c a2 a3 a5 g2 g3 R ∗ obS c (k0_t14.val % 3))) := by
  rw [k0_part142_eq_skeleton]
  refine exlOb (obk0_off697 _) fun _ => ?_
  refine exsOb (obk0_off697 _) ?_
  refine exoXu fun _ => ?_
  refine exlOb (obk0_off699 _) fun _ => ?_
  refine exsOb (obk0_off699 _) ?_
  refine exoXu fun _ => ?_
  refine exlOb (obk0_off701 _) fun _ => ?_
  exact wp_done .rfl

theorem p_143 {R : sProp 𝕄} {v432 : F .f32} {k0_t14 : Fin k0_t14_loop.trips} {arg18 : BitVec 32} {v462 : BitVec 32} {v642 : FVec F S1x256 .f32} {v645 : FVec F S1x256 .f32} {v771 : FVec F S1x128x256 .fp8e4m3} : iprop(Ex c a2 a3 a5 g2 g3 R ∗ obS c (k0_t14.val % 3)) ⊢ WP c (ap k0_part143 a2 ha2 a3 ha3 a5 ha5 v432 k0_t14 arg18 v462 v642 v645 v771) (fun _ => iprop(Ex c a2 a3 a5 g2 g3 R ∗ obS c (k0_t14.val % 3))) := by
  rw [k0_part143_eq_skeleton]
  refine exsOb (obk0_off701 _) ?_
  refine exoXu fun _ => ?_
  refine exlOb (obk0_off703 _) fun _ => ?_
  refine exsOb (obk0_off703 _) ?_
  refine exoXu fun _ => ?_
  refine exlOb (obk0_off705 _) fun _ => ?_
  refine exsOb (obk0_off705 _) ?_
  exact wp_done .rfl

theorem p_144 {R : sProp 𝕄} {v432 : F .f32} {k0_t14 : Fin k0_t14_loop.trips} {arg18 : BitVec 32} {v462 : BitVec 32} : iprop(Ex c a2 a3 a5 g2 g3 R ∗ obS c (k0_t14.val % 3)) ⊢ WP c (ap k0_part144 a2 ha2 a3 ha3 a5 ha5 v432 k0_t14 arg18 v462) (fun _ => iprop(Ex c a2 a3 a5 g2 g3 R ∗ obS c (k0_t14.val % 3))) := by
  rw [k0_part144_eq_skeleton]
  refine exoA fun _ => ?_
  refine exoB fun _ => ?_
  refine exoXu fun _ => ?_
  refine exlOb (obk0_off708 _) fun _ => ?_
  refine exsOb (obk0_off708 _) ?_
  refine exoXu fun _ => ?_
  refine exlOb (obk0_off710 _) fun _ => ?_
  exact wp_done .rfl

theorem p_145 {R : sProp 𝕄} {v432 : F .f32} {k0_t14 : Fin k0_t14_loop.trips} {arg18 : BitVec 32} {v462 : BitVec 32} {v816 : FVec F S1x256 .f32} {v819 : FVec F S1x256 .f32} {v857 : FVec F S128x256 .fp8e4m3} {v859 : Vec F S1x128x256 .fp8e4m3} : iprop(Ex c a2 a3 a5 g2 g3 R ∗ obS c (k0_t14.val % 3)) ⊢ WP c (ap k0_part145 a2 ha2 a3 ha3 a5 ha5 v432 k0_t14 arg18 v462 v816 v819 v857 v859) (fun _ => iprop(Ex c a2 a3 a5 g2 g3 R ∗ obS c (k0_t14.val % 3))) := by
  rw [k0_part145_eq_skeleton]
  refine exsOb (obk0_off710 _) ?_
  refine exoXu fun _ => ?_
  refine exlOb (obk0_off712 _) fun _ => ?_
  refine exsOb (obk0_off712 _) ?_
  refine exoXu fun _ => ?_
  refine exlOb (obk0_off714 _) fun _ => ?_
  refine exsOb (obk0_off714 _) ?_
  exact wp_done .rfl

theorem p_146 {R : sProp 𝕄} {v432 : F .f32} {k0_t14 : Fin k0_t14_loop.trips} {arg18 : BitVec 32} {v462 : BitVec 32} {v816 : FVec F S1x256 .f32} {v819 : FVec F S1x256 .f32} : iprop(Ex c a2 a3 a5 g2 g3 R ∗ obS c (k0_t14.val % 3)) ⊢ WP c (ap k0_part146 a2 ha2 a3 ha3 a5 ha5 v432 k0_t14 arg18 v462 v816 v819) (fun _ => iprop(Ex c a2 a3 a5 g2 g3 R ∗ obS c (k0_t14.val % 3))) := by
  rw [k0_part146_eq_skeleton]
  refine exoXu fun _ => ?_
  refine exlOb (obk0_off716 _) fun _ => ?_
  refine exsOb (obk0_off716 _) ?_
  refine exoXu fun _ => ?_
  refine exlOb (obk0_off718 _) fun _ => ?_
  refine exsOb (obk0_off718 _) ?_
  refine exoXu fun _ => ?_
  exact wp_done .rfl

theorem p_147 {R : sProp 𝕄} {v432 : F .f32} {k0_t14 : Fin k0_t14_loop.trips} {arg18 : BitVec 32} {v462 : BitVec 32} {v816 : FVec F S1x256 .f32} {v819 : FVec F S1x256 .f32} {v948 : FVec F S128x256 .bf16} : iprop(Ex c a2 a3 a5 g2 g3 R ∗ obS c (k0_t14.val % 3)) ⊢ WP c (ap k0_part147 a2 ha2 a3 ha3 a5 ha5 v432 k0_t14 arg18 v462 v816 v819 v948) (fun _ => iprop(Ex c a2 a3 a5 g2 g3 R ∗ obS c (k0_t14.val % 3))) := by
  rw [k0_part147_eq_skeleton]
  refine exlOb (obk0_off720 _) fun _ => ?_
  refine exsOb (obk0_off720 _) ?_
  refine exoXu fun _ => ?_
  refine exlOb (obk0_off722 _) fun _ => ?_
  refine exsOb (obk0_off722 _) ?_
  refine exoA fun _ => ?_
  refine exoB fun _ => ?_
  exact wp_done .rfl

theorem p_148 {R : sProp 𝕄} {v432 : F .f32} {k0_t14 : Fin k0_t14_loop.trips} {arg18 : BitVec 32} {v462 : BitVec 32} {v990 : FVec F S1x256 .f32} {v992 : Vec F S1x1x256 .f32} : iprop(Ex c a2 a3 a5 g2 g3 R ∗ obS c (k0_t14.val % 3)) ⊢ WP c (ap k0_part148 a2 ha2 a3 ha3 a5 ha5 v432 k0_t14 arg18 v462 v990 v992) (fun _ => iprop(Ex c a2 a3 a5 g2 g3 R ∗ obS c (k0_t14.val % 3))) := by
  rw [k0_part148_eq_skeleton]
  refine exoXs fun _ => ?_
  refine exlOb (obk0_off725 _) fun _ => ?_
  refine exsOb (obk0_off725 _) ?_
  refine exoXs fun _ => ?_
  refine exlOb (obk0_off727 _) fun _ => ?_
  refine exsOb (obk0_off727 _) ?_
  exact wp_done .rfl

theorem p_149 {R : sProp 𝕄} {v432 : F .f32} {k0_t14 : Fin k0_t14_loop.trips} {arg18 : BitVec 32} {v462 : BitVec 32} {v990 : FVec F S1x256 .f32} {v993 : FVec F S1x256 .f32} : iprop(Ex c a2 a3 a5 g2 g3 R ∗ obS c (k0_t14.val % 3)) ⊢ WP c (ap k0_part149 a2 ha2 a3 ha3 a5 ha5 v432 k0_t14 arg18 v462 v990 v993) (fun _ => iprop(Ex c a2 a3 a5 g2 g3 R ∗ obS c (k0_t14.val % 3))) := by
  rw [k0_part149_eq_skeleton]
  refine exoXs fun _ => ?_
  refine exlOb (obk0_off729 _) fun _ => ?_
  refine exsOb (obk0_off729 _) ?_
  refine exoXs fun _ => ?_
  refine exlOb (obk0_off731 _) fun _ => ?_
  refine exsOb (obk0_off731 _) ?_
  refine exoXs fun _ => ?_
  exact wp_done .rfl

theorem p_150 {R : sProp 𝕄} {v432 : F .f32} {k0_t14 : Fin k0_t14_loop.trips} {arg18 : BitVec 32} {v462 : BitVec 32} {v990 : FVec F S1x256 .f32} {v993 : FVec F S1x256 .f32} {v1081 : FVec F S128x256 .f32} {v1082 : FVec F S128x256 .f32} : iprop(Ex c a2 a3 a5 g2 g3 R ∗ obS c (k0_t14.val % 3)) ⊢ WP c (ap k0_part150 a2 ha2 a3 ha3 a5 ha5 v432 k0_t14 arg18 v462 v990 v993 v1081 v1082) (fun _ => iprop(Ex c a2 a3 a5 g2 g3 R ∗ obS c (k0_t14.val % 3))) := by
  rw [k0_part150_eq_skeleton]
  refine exlOb (obk0_off733 _) fun _ => ?_
  refine exsOb (obk0_off733 _) ?_
  refine exoXs fun _ => ?_
  refine exlOb (obk0_off735 _) fun _ => ?_
  refine exsOb (obk0_off735 _) ?_
  refine exoXs fun _ => ?_
  exact wp_done .rfl

theorem p_151 {R : sProp 𝕄} {v432 : F .f32} {k0_t14 : Fin k0_t14_loop.trips} {arg18 : BitVec 32} {v462 : BitVec 32} {v990 : FVec F S1x256 .f32} {v993 : FVec F S1x256 .f32} {v1127 : FVec F S128x256 .f32} {v1128 : FVec F S128x256 .f32} : iprop(Ex c a2 a3 a5 g2 g3 R ∗ obS c (k0_t14.val % 3)) ⊢ WP c (ap k0_part151 a2 ha2 a3 ha3 a5 ha5 v432 k0_t14 arg18 v462 v990 v993 v1127 v1128) (fun _ => iprop(Ex c a2 a3 a5 g2 g3 R ∗ obS c (k0_t14.val % 3))) := by
  rw [k0_part151_eq_skeleton]
  refine exlOb (obk0_off737 _) fun _ => ?_
  refine exsOb (obk0_off737 _) ?_
  refine exoXs fun _ => ?_
  refine exlOb (obk0_off739 _) fun _ => ?_
  refine exsOb (obk0_off739 _) ?_
  refine exoA fun _ => ?_
  refine exoB fun _ => ?_
  refine exoXs fun _ => ?_
  exact wp_done .rfl

theorem p_152 {R : sProp 𝕄} {v432 : F .f32} {k0_t14 : Fin k0_t14_loop.trips} {arg18 : BitVec 32} {v462 : BitVec 32} {v1164 : FVec F S1x256 .f32} {v1167 : FVec F S1x256 .f32} {v1170 : FVec F S128x256 .bf16} : iprop(Ex c a2 a3 a5 g2 g3 R ∗ obS c (k0_t14.val % 3)) ⊢ WP c (ap k0_part152 a2 ha2 a3 ha3 a5 ha5 v432 k0_t14 arg18 v462 v1164 v1167 v1170) (fun _ => iprop(Ex c a2 a3 a5 g2 g3 R ∗ obS c (k0_t14.val % 3))) := by
  rw [k0_part152_eq_skeleton]
  refine exlOb (obk0_off742 _) fun _ => ?_
  refine exsOb (obk0_off742 _) ?_
  refine exoXs fun _ => ?_
  refine exlOb (obk0_off744 _) fun _ => ?_
  refine exsOb (obk0_off744 _) ?_
  refine exoXs fun _ => ?_
  exact wp_done .rfl

theorem p_153 {R : sProp 𝕄} {v432 : F .f32} {k0_t14 : Fin k0_t14_loop.trips} {arg18 : BitVec 32} {v462 : BitVec 32} {v1164 : FVec F S1x256 .f32} {v1167 : FVec F S1x256 .f32} {v1215 : FVec F S128x256 .f32} {v1216 : FVec F S128x256 .f32} : iprop(Ex c a2 a3 a5 g2 g3 R ∗ obS c (k0_t14.val % 3)) ⊢ WP c (ap k0_part153 a2 ha2 a3 ha3 a5 ha5 v432 k0_t14 arg18 v462 v1164 v1167 v1215 v1216) (fun _ => iprop(Ex c a2 a3 a5 g2 g3 R ∗ obS c (k0_t14.val % 3))) := by
  rw [k0_part153_eq_skeleton]
  refine exlOb (obk0_off746 _) fun _ => ?_
  refine exsOb (obk0_off746 _) ?_
  refine exoXs fun _ => ?_
  refine exlOb (obk0_off748 _) fun _ => ?_
  refine exsOb (obk0_off748 _) ?_
  refine exoXs fun _ => ?_
  exact wp_done .rfl

theorem p_154 {R : sProp 𝕄} {v432 : F .f32} {k0_t14 : Fin k0_t14_loop.trips} {arg18 : BitVec 32} {v462 : BitVec 32} {v1164 : FVec F S1x256 .f32} {v1167 : FVec F S1x256 .f32} {v1261 : FVec F S128x256 .f32} {v1262 : FVec F S128x256 .f32} : iprop(Ex c a2 a3 a5 g2 g3 R ∗ obS c (k0_t14.val % 3)) ⊢ WP c (ap k0_part154 a2 ha2 a3 ha3 a5 ha5 v432 k0_t14 arg18 v462 v1164 v1167 v1261 v1262) (fun _ => iprop(Ex c a2 a3 a5 g2 g3 R ∗ obS c (k0_t14.val % 3))) := by
  rw [k0_part154_eq_skeleton]
  refine exlOb (obk0_off750 _) fun _ => ?_
  refine exsOb (obk0_off750 _) ?_
  refine exoXs fun _ => ?_
  refine exlOb (obk0_off752 _) fun _ => ?_
  refine exsOb (obk0_off752 _) ?_
  refine exoXs fun _ => ?_
  exact wp_done .rfl

end

end Cert.Kernel.Hand
-- ==== Proof.K.Out.lean ====
/-
  The codes going out, three rows in flight at a time.
-/
module

public import proofs.«01_k».proof.Proof.K.Cod
public import proofs.«01_k».proof.Proof.K.In

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Rows going out -/

section
variable (c : Dev nD)

/-- Rows of the codes, at some contents. -/
def coE (p : ℕ → Prop) [DecidablePred p] : sProp 𝕄 := iprop(∃ f, mCo.view.loc (c : Thread nD τ) ↦[(rowsIn dCo p : Finset _)]{fullShare} f)
/-- What the core has waited for, whatever it is. -/
def owE : sProp 𝕄 := iprop(∃ W, owes (c : Thread nD τ) 0 W)

/-- The slot of a row. -/
def sl (k : ℕ) : Fin 3 := ⟨k % 3, Nat.mod_lt _ (by decide)⟩

def amtOut : Fin 1 → ℕ := ![(wCo ![(0 : Fin 16).val, 0, 0] (inb_co 0)).view.dmaCredit]
/-- What a row's transfer delivers: the row at some contents, and its slot back. -/
def dlvOut (b : ℕ) (s : Fin 3) : Fin 1 → sProp 𝕄 := fun _ => iprop(coE c (· = b) ∗ obS c s.val)
instance (b : ℕ) (s : Fin 3) (t : Fin 1) : Storable (upEmb : UEmb _ 𝕄) (dlvOut c b s t) := by
  unfold dlvOut coE obS; infer_instance
/-- Row `b` in flight from slot `s`. -/
def fl (b : ℕ) (s : Fin 3) : sProp 𝕄 :=
  Transfers.MixedBatch (countersEmb (U := Pipeline.UD sig nD τ)) (c : Thread nD τ) (.dma (outSem s)) () amtOut (dlvOut c b s) 1 0
/-- Slot `s` at rest. -/
def fr (s : Fin 3) : sProp 𝕄 := iprop(semVal ((c : Thread nD τ), SemLoc.dma (outSem s)) 0 ∗ obS c s.val)

theorem coE_join (p q r : ℕ → Prop) [DecidablePred p] [DecidablePred q] [DecidablePred r] (h : ∀ n, r n ↔ p n ∨ q n) (hd : ∀ n, p n → ¬ q n) :
    iprop(coE (F := F) c p ∗ coE c q) ⊢ coE c r := by
  unfold coE
  iintro ⟨⟨%f, Hf⟩, ⟨%g, Hg⟩⟩
  iexists (fun i => if p (i 0).val then f i else g i)
  iapply (pt_split (c := (c : Thread nD τ)) (ℓ := mCo.view.loc (c : Thread nD τ)) (S := (rowsIn dCo r : Finset _)) (A := (rowsIn dCo p : Finset _))
    (B := (rowsIn dCo q : Finset _)) (fun i => by erw [mem_rowsIn, mem_rowsIn, mem_rowsIn]; exact h _)
    (fun i => by erw [mem_rowsIn, mem_rowsIn]; exact hd _) fullShare _).2
  isplitl [Hf]
  · iapply (Entails.of_eq (pointsTo_congr (fun i hi => (if_pos ((mem_rowsIn (d := dCo) (p := p)).mp hi)).symm))); iexact Hf
  · iapply (Entails.of_eq (pointsTo_congr (fun i hi => (if_neg (fun hp => hd _ hp ((mem_rowsIn (d := dCo) (p := q)).mp hi))).symm))); iexact Hg
theorem coE_split (p q r : ℕ → Prop) [DecidablePred p] [DecidablePred q] [DecidablePred r] (h : ∀ n, r n ↔ p n ∨ q n) (hd : ∀ n, p n → ¬ q n) :
    coE (F := F) c r ⊢ iprop(coE c p ∗ coE c q) := by
  unfold coE
  iintro ⟨%f, Hf⟩
  icases (pt_split (c := (c : Thread nD τ)) (ℓ := mCo.view.loc (c : Thread nD τ)) (S := (rowsIn dCo r : Finset _)) (A := (rowsIn dCo p : Finset _))
    (B := (rowsIn dCo q : Finset _)) (fun i => by erw [mem_rowsIn, mem_rowsIn, mem_rowsIn]; exact h _)
    (fun i => by erw [mem_rowsIn, mem_rowsIn]; exact hd _) fullShare f).1 $$ Hf with ⟨Hf, Hg⟩
  isplitl [Hf]
  · iexists f; iexact Hf
  · iexists f; iexact Hg

/-- The cell of an outgoing slot, at an offset. -/
abbrev cellO (o : Fin 1 → ℕ) (h : ∀ a, o a + S1.size a ≤ S3.size a) : DmaSem sig :=
  ((cc0_scratch11.slice (Rect.unit (s := S3) o S1.size h)).squeeze S_ squeezes_S1_S_).sem

theorem issue_out {α : Type} {P : sProp 𝕄} (b : Fin 16) (s : Fin 3) {oS : Fin 1 → ℕ} {oB oC : Fin 3 → ℕ} {iS : ∀ a, oS a + S1.size a ≤ S3.size a}
    {iB : ∀ a, oB a + S1x1024x1280.size a ≤ S3x1024x1280.size a} {iC : ∀ a, oC a + S1x1024x1280.size a ≤ S16x1024x1280.size a}
    (eS : oS = ![s.val]) (eB : oB = ![s.val, 0, 0]) (eC : oC = ![b.val, 0, 0])
    {h1 : (wOb oB iB).view.WordExact} {h2 : (wCo oC iC).view.WordExact}
    {h3 : DmaTarget.Typed (nD := nD) .vmem (SemLoc.dma (cellO oS iS)) (.here (p := (.tc : Proc τ)) (wCo oC iC))}
    {k : PUnit → Prog (TpuEff nD τ sig (Elt F) Λ₀ .tc) α} {Q : α → sProp 𝕄}
    (h : iprop(P ∗ fl c b.val s) ⊢ WP c (k ⟨⟩) Q) :
    iprop(P ∗ coE c (· = b.val) ∗ fr c s) ⊢ WP c (.op (.enqueueDma (wOb oB iB) (.here (wCo oC iC)) (.dma (cellO oS iS)) h1 h2 h3) k) Q := by
  subst eS; subst eB; subst eC
  unfold fr coE obS
  iintro ⟨HP, ⟨%g, Hg⟩, Hs, ⟨%f, Hf⟩⟩
  imod (Transfers.mixedBatch_alloc' (Lvl := ℕ) (countersEmb (U := Pipeline.UD sig nD τ)) (c : Thread nD τ) () amtOut
      (dlvOut c b.val s) (sm := SemLoc.dma (outSem s)) (E := Set.univ)) $$ Hs with HB
  iapply (Transfers.wp_dmaMixedBatch (countersEmb (U := Pipeline.UD sig nD τ)) Variants.none (c : Thread nD τ) none
    (src := wOb ![s.val, 0, 0] iB) (dst := wCo ![b.val, 0, 0] iC) (fs := f) (fd := g) (D := dlvOut c b.val s)
    (Sd := (rowsIn dCo (· = b.val) : Finset _)) (j := 0) (u := 0) () amtOut (by rw [wCo_set]) (by decide) rfl (Nat.zero_le _) (by
      rw [wOb_set]; unfold dlvOut coE obS
      iintro ⟨H1, H2⟩
      isplitl [H1]
      · iexists _; iexact H1
      · iexists _; iexact H2)) $$ [Hf Hg HB]
  · isplitl [Hf]; · rw [wOb_set]; iexact Hf
    isplitl [Hg]; · iexact Hg
    iexact HB
  iintro HB
  iapply h
  isplitl [HP]; · iexact HP
  unfold fl
  iexact HB

theorem hA1 : ∀ t, 0 < amtOut t := by decide
theorem hu2 : 0 + amtOut 0 = Transfers.sumTo amtOut 1 := by decide

theorem wait_out {α : Type} {P : sProp 𝕄} (b : Fin 16) (s : Fin 3) {oS : Fin 1 → ℕ} {oB oC : Fin 3 → ℕ} {iS : ∀ a, oS a + S1.size a ≤ S3.size a}
    {iB : ∀ a, oB a + S1x1024x1280.size a ≤ S3x1024x1280.size a} {iC : ∀ a, oC a + S1x1024x1280.size a ≤ S16x1024x1280.size a}
    (eS : oS = ![s.val]) (eB : oB = ![s.val, 0, 0]) (eC : oC = ![b.val, 0, 0])
    {h1 : (wOb oB iB).view.WordExact} {h2 : (wCo oC iC).view.WordExact}
    {k : PUnit → Prog (TpuEff nD τ sig (Elt F) Λ₀ .tc) α} {Q : α → sProp 𝕄}
    (h : iprop(P ∗ coE c (· = b.val) ∗ fr c s ∗ owE c) ⊢ WP c (k ⟨⟩) Q) :
    iprop(P ∗ fl c b.val s ∗ owE c) ⊢ WP c (.op (.waitDma2 (cellO oS iS) (wOb oB iB) (wCo oC iC) h1 h2) k) Q := by
  subst eS; subst eB; subst eC
  unfold owE at h ⊢
  iintro ⟨HP, HB, ⟨%W, HW⟩⟩
  unfold fl
  iapply (Transfers.wp_waitMixedBatchAll (countersEmb (U := Pipeline.UD sig nD τ)) Variants.none (c : Thread nD τ) none
    (srcw := wOb ![s.val, 0, 0] iB) (dstw := wCo ![b.val, 0, 0] iC) (A := amtOut) (D := dlvOut c b.val s) (u := 0)
    () (J := amtOut 0) rfl hA1 hu2) $$ [HB HW]
  · isplitl [HB]; · iexact HB
    iexact HW
  iintro ⟨HD, Hs, HW⟩
  icases (Entails.of_eq (show bigSep Finset.univ (dlvOut (F := F) c b.val s) = dlvOut c b.val s 0 by
    rw [BI.bigSep_eq_bigSepL_of_eq [0] (by decide) (by decide)]; rfl)) $$ HD with HD
  unfold dlvOut fr at *
  icases HD with ⟨Hc, Ho⟩
  iapply h
  isplitl [HP]; · iexact HP
  isplitl [Hc]; · iexact Hc
  isplitl [Hs Ho]
  · isplitl [Hs] <;> iassumption
  iexists _; iexact HW

/-- What position `j` of the ring holds before it is taken: the flight of three rows before, if there was one. -/
def Sl (j : ℕ) : sProp 𝕄 := if j < 3 then fr c (sl j) else fl c (j - 3) (sl j)
/-- The transfers out before row `n`. -/
def OutSt (n : ℕ) : sProp 𝕄 := iprop(coE c (n ≤ ·) ∗ coE c (· < n - 3) ∗ Sl c n ∗ Sl c (n + 1) ∗ Sl c (n + 2) ∗ owE c)
/-- The transfers out while row `n` is computed: its slot's cell is at rest. -/
def OutMid (n : ℕ) : sProp 𝕄 := iprop(semVal ((c : Thread nD τ), SemLoc.dma (outSem (sl n))) 0 ∗ coE c (n ≤ ·) ∗ coE c (· < n + 1 - 3) ∗ Sl c (n + 1) ∗ Sl c (n + 2) ∗ owE c)

theorem Sl_next (n : ℕ) : Sl (F := F) c (n + 3) = fl c n (sl n) := by
  unfold Sl
  rw [if_neg (by omega), show n + 3 - 3 = n by omega, show sl (n + 3) = sl n from Fin.ext (by simp [sl])]
end

section
variable {c : Dev nD} {a2 : Memref sig .tc .vmem S1280 .f32} {ha2 : a2.IsWhole} {a3 : Memref sig .tc .vmem S1280 .f32} {ha3 : a3.IsWhole} {a5 : Memref sig .tc .smem S1x1 .f32} {ha5 : a5.IsWhole}
  {g2 : Buf (Elt F) (a2.view.loc (c : Thread nD τ))} {g3 : Buf (Elt F) (a3.view.loc (c : Thread nD τ))}
variable {α : Type}

theorem ex_dite {E : sProp 𝕄} {p : Prop} {ip : Decidable p} {Q : α → sProp 𝕄} {A : p → Prog (TpuEff nD τ sig (Elt F) Λ₀ .tc) α} {B : ¬ p → Prog (TpuEff nD τ sig (Elt F) Λ₀ .tc) α}
    (hA : ∀ h, E ⊢ WP c (A h) Q) (hB : ∀ h, E ⊢ WP c (B h) Q) : E ⊢ WP c (dite p A B) Q := by
  split
  · exact hA _
  · exact hB _

theorem ex_step {E E' : sProp 𝕄} {σ : Type} {Q : α → sProp 𝕄} {p : Prog (TpuEff nD τ sig (Elt F) Λ₀ .tc) σ}
    {kk : σ → Prog (TpuEff nD τ sig (Elt F) Λ₀ .tc) α} (hb : E ⊢ WP c p (fun _ => E')) (hk : ∀ v, E' ⊢ WP c (kk v) Q) :
    E ⊢ WP c (p >>= kk) Q := by
  unfold WP at *
  rw [wp_bind]
  exact hb.trans (wp_mono _ _ _ hk)

/-- The rest of the state, beside what is carried along. -/
def ExT (c : Dev nD) (a2 a3 : Memref sig .tc .vmem S1280 .f32) (a5 : Memref sig .tc .smem S1x1 .f32)
    (g2 : Buf (Elt F) (a2.view.loc (c : Thread nD τ))) (g3 : Buf (Elt F) (a3.view.loc (c : Thread nD τ))) : sProp 𝕄 :=
  iprop((∃ f, mXu.view.loc (c : Thread nD τ) ↦[Finset.univ]{fullShare} f) ∗ (∃ f, mXs.view.loc (c : Thread nD τ) ↦[Finset.univ]{fullShare} f) ∗ (∃ f, mS1.view.loc (c : Thread nD τ) ↦[Finset.univ]{fullShare} f) ∗ (∃ f, mS2.view.loc (c : Thread nD τ) ↦[Finset.univ]{fullShare} f) ∗ (∃ f, mMx.view.loc (c : Thread nD τ) ↦[Finset.univ]{fullShare} f) ∗ (∃ f, mMn.view.loc (c : Thread nD τ) ↦[Finset.univ]{fullShare} f) ∗ (∃ f, mA.view.loc (c : Thread nD τ) ↦[Finset.univ]{fullShare} f) ∗ (∃ f, mB.view.loc (c : Thread nD τ) ↦[Finset.univ]{fullShare} f) ∗ (a2.view.loc (c : Thread nD τ) ↦[a2.view.set]{fullShare} g2) ∗ (a3.view.loc (c : Thread nD τ) ↦[a3.view.set]{fullShare} g3) ∗ (∃ f, a5.view.loc (c : Thread nD τ) ↦[a5.view.set]{fullShare} f))
theorem Ex_eq (R : sProp 𝕄) : Ex c a2 a3 a5 g2 g3 R = iprop(R ∗ ExT c a2 a3 a5 g2 g3) := rfl

theorem row3 : ∀ k : Fin k0_t14_loop.trips, k0_cond3 k = 1#1 → 3 ≤ k.val ∧ k0_off670 k = ![k.val - 3, 0, 0] := by decide +kernel
theorem row3' : ∀ k : Fin k0_t14_loop.trips, ¬ k0_cond3 k = 1#1 → k.val < 3 := by decide +kernel
theorem lt16 : ∀ k : Fin k0_t14_loop.trips, k.val < 16 := by decide +kernel

/-- Waiting for the row that used the slot before. -/
theorem wait_prev {R : sProp 𝕄} {k0_t14 : Fin k0_t14_loop.trips} (hk : k0_cond3 k0_t14 = 1#1)
    {oS : Fin 1 → ℕ} {oB oC : Fin 3 → ℕ} {iS : ∀ a, oS a + S1.size a ≤ S3.size a}
    {iB : ∀ a, oB a + S1x1024x1280.size a ≤ S3x1024x1280.size a} {iC : ∀ a, oC a + S1x1024x1280.size a ≤ S16x1024x1280.size a}
    (eS : oS = ![k0_t14.val % 3]) (eB : oB = ![k0_t14.val % 3, 0, 0]) (eC : oC = ![k0_t14.val - 3, 0, 0])
    {h1 : (wOb oB iB).view.WordExact} {h2 : (wCo oC iC).view.WordExact}
    {k : PUnit → Prog (TpuEff nD τ sig (Elt F) Λ₀ .tc) α} {Q : α → sProp 𝕄}
    (h : iprop(Ex c a2 a3 a5 g2 g3 iprop(R ∗ OutMid c k0_t14.val) ∗ obS c (k0_t14.val % 3)) ⊢ WP c (k ⟨⟩) Q) :
    Ex c a2 a3 a5 g2 g3 iprop(R ∗ OutSt c k0_t14.val) ⊢ WP c (.op (.waitDma2 (cellO oS iS) (wOb oB iB) (wCo oC iC) h1 h2) k) Q := by
  have h3 := (row3 _ hk).1
  have h16 := lt16 k0_t14
  rw [Ex_eq] at h ⊢
  refine BIBase.Entails.trans ?_ (wait_out c (P := iprop((R ∗ coE c (k0_t14.val ≤ ·) ∗ coE c (· < k0_t14.val - 3) ∗ Sl c (k0_t14.val + 1) ∗ Sl c (k0_t14.val + 2)) ∗ ExT c a2 a3 a5 g2 g3))
    ⟨k0_t14.val - 3, by omega⟩ (sl k0_t14.val) eS eB eC (BIBase.Entails.trans ?_ h))
  · unfold OutSt
    iintro ⟨⟨HR, Hc, Hd, H0, H1, H2, HW⟩, HE⟩
    icases (Entails.of_eq (show Sl (F := F) c k0_t14.val = fl c (k0_t14.val - 3) (sl k0_t14.val) from if_neg (by omega))) $$ H0 with H0
    isplitl [HR Hc Hd H1 H2 HE]
    · isplitl [HR Hc Hd H1 H2]
      · isplitl [HR]; · iexact HR
        isplitl [Hc]; · iexact Hc
        isplitl [Hd]; · iexact Hd
        isplitl [H1] <;> iassumption
      · iexact HE
    isplitl [H0] <;> iassumption
  · unfold OutMid fr
    iintro ⟨⟨⟨HR, Hc, Hd, H1, H2⟩, HE⟩, Hn, ⟨Hs, Ho⟩, HW⟩
    isplitr [Ho]
    · isplitr [HE]
      · isplitl [HR]; · iexact HR
        isplitl [Hs]; · iexact Hs
        isplitl [Hc]; · iexact Hc
        isplitl [Hd Hn]
        · iapply (coE_join c (· = k0_t14.val - 3) (· < k0_t14.val - 3) (· < k0_t14.val + 1 - 3) (fun n => by omega) (fun n => by omega))
          isplitl [Hn] <;> iassumption
        isplitl [H1]; · iexact H1
        isplitl [H2] <;> iassumption
      · iexact HE
    · iexact Ho

/-- A slot nothing has used yet. -/
theorem take_free {R : sProp 𝕄} {k0_t14 : Fin k0_t14_loop.trips} (hk : ¬ k0_cond3 k0_t14 = 1#1) :
    Ex c a2 a3 a5 g2 g3 iprop(R ∗ OutSt c k0_t14.val) ⊢ iprop(Ex c a2 a3 a5 g2 g3 iprop(R ∗ OutMid c k0_t14.val) ∗ obS c (k0_t14.val % 3)) := by
  have h3 := row3' _ hk
  rw [Ex_eq, Ex_eq]
  unfold OutSt OutMid
  iintro ⟨⟨HR, Hc, Hd, H0, H1, H2, HW⟩, HE⟩
  icases (Entails.of_eq (show Sl (F := F) c k0_t14.val = fr c (sl k0_t14.val) from if_pos h3)) $$ H0 with H0
  unfold fr
  icases H0 with ⟨Hs, Ho⟩
  rw [show k0_t14.val - 3 = k0_t14.val + 1 - 3 by omega]
  isplitr [Ho]
  · isplitr [HE]
    · isplitl [HR]; · iexact HR
      isplitl [Hs]; · iexact Hs
      isplitl [Hc]; · iexact Hc
      isplitl [Hd]; · iexact Hd
      isplitl [H1]; · iexact H1
      isplitl [H2] <;> iassumption
    · iexact HE
  · iexact Ho

theorem p_136 {R : sProp 𝕄} {v432 : F .f32} {c0_i32_295 : BitVec 32} {c1_i32_297 : BitVec 32} {k0_t14 : Fin k0_t14_loop.trips} :
    Ex c a2 a3 a5 g2 g3 iprop(R ∗ OutSt c k0_t14.val) ⊢ WP c (ap k0_part136 a2 ha2 a3 ha3 a5 ha5 v432 c0_i32_295 c1_i32_297 k0_t14)
      (fun _ => iprop(Ex c a2 a3 a5 g2 g3 iprop(R ∗ OutMid c k0_t14.val) ∗ obS c (k0_t14.val % 3))) := by
  rw [k0_part136_eq_skeleton]
  refine ex_dite (F := F) (fun hk => ?_) (fun hk => ?_)
  · refine wait_prev hk (k0_off669_eq _) (k0_off671_eq _) (row3 _ hk).2 ?_
    refine exoA fun _ => ?_
    refine exoB fun _ => ?_
    refine exoXu fun _ => ?_
    refine exlOb (obk0_off674 _) fun _ => ?_
    refine exsOb (obk0_off674 _) ?_
    refine exoXu fun _ => ?_
    exact wp_done .rfl
  · refine (take_free hk).trans ?_
    refine exoA fun _ => ?_
    refine exoB fun _ => ?_
    refine exoXu fun _ => ?_
    refine exlOb (obk0_off674 _) fun _ => ?_
    refine exsOb (obk0_off674 _) ?_
    refine exoXu fun _ => ?_
    exact wp_done .rfl

theorem p_155 {R : sProp 𝕄} {v432 : F .f32} {c0_i32_295 : BitVec 32} {c1_i32_297 : BitVec 32} {k0_t14 : Fin k0_t14_loop.trips} :
    Ex c a2 a3 a5 g2 g3 iprop(R ∗ OutSt c k0_t14.val) ⊢ WP c (ap k0_part155 a2 ha2 a3 ha3 a5 ha5 v432 c0_i32_295 c1_i32_297 k0_t14)
      (fun _ => iprop(Ex c a2 a3 a5 g2 g3 iprop(R ∗ OutMid c k0_t14.val) ∗ obS c (k0_t14.val % 3))) := by
  rw [k0_part155_eq_skeleton]
  refine ex_step p_136 fun _ => ?_
  refine ex_part p_137 fun _ => ?_
  refine ex_part p_138 fun _ => ?_
  refine ex_part p_139 fun _ => ?_
  refine ex_part p_140 fun _ => ?_
  refine ex_part p_141 fun _ => ?_
  refine ex_part p_142 fun _ => ?_
  refine ex_part p_143 fun _ => ?_
  refine ex_part p_144 fun _ => ?_
  refine ex_part p_145 fun _ => ?_
  refine ex_part p_146 fun _ => ?_
  refine ex_part p_147 fun _ => ?_
  refine ex_part p_148 fun _ => ?_
  refine ex_part p_149 fun _ => ?_
  refine ex_part p_150 fun _ => ?_
  refine ex_part p_151 fun _ => ?_
  refine ex_part p_152 fun _ => ?_
  refine ex_part p_153 fun _ => ?_
  refine ex_part p_154 fun _ => ?_
  refine exlOb (obk0_off754 _) fun _ => ?_
  refine exsOb (obk0_off754 _) ?_
  refine exoXs fun _ => ?_
  refine exlOb (obk0_off756 _) fun _ => ?_
  refine exsOb (obk0_off756 _) ?_
  exact wp_done .rfl

/-- One row: its codes computed into its slot, and sent out. -/
theorem t14_trip {R : sProp 𝕄} {v423 : IVec S1x128 32} {c127_i32 : BitVec 32} {k0_t14 : Fin k0_t14_loop.trips} {acc : Unit} :
    Ex c a2 a3 a5 g2 g3 iprop(R ∗ OutSt c k0_t14.val) ⊢ WP c (ap k0_t14_body a2 ha2 a3 ha3 a5 ha5 v423 c127_i32 k0_t14 acc)
      (fun _ => Ex c a2 a3 a5 g2 g3 iprop(R ∗ OutSt c (k0_t14.val + 1))) := by
  have h16 := lt16 k0_t14
  unfold k0_t14_body
  refine ex_step p_155 fun _ => ?_
  rw [Ex_eq, Ex_eq]
  refine BIBase.Entails.trans ?_ (issue_out c (P := iprop((R ∗ coE c (k0_t14.val + 1 ≤ ·) ∗ coE c (· < k0_t14.val + 1 - 3) ∗ Sl c (k0_t14.val + 1) ∗ Sl c (k0_t14.val + 2) ∗ owE c) ∗ ExT c a2 a3 a5 g2 g3))
    ⟨k0_t14.val, h16⟩ (sl k0_t14.val) (k0_off757_eq _) (k0_off759_eq _) (k0_off758_eq _) (wp_done ?_))
  · unfold OutMid fr
    iintro ⟨⟨⟨HR, Hs, Hc, Hd, H1, H2, HW⟩, HE⟩, Ho⟩
    icases (coE_split c (· = k0_t14.val) (k0_t14.val + 1 ≤ ·) (k0_t14.val ≤ ·) (fun n => by omega) (fun n => by omega)) $$ Hc with ⟨Hn, Hc⟩
    isplitr [Hn Hs Ho]
    · isplitr [HE]
      · isplitl [HR]; · iexact HR
        isplitl [Hc]; · iexact Hc
        isplitl [Hd]; · iexact Hd
        isplitl [H1]; · iexact H1
        isplitl [H2] <;> iassumption
      · iexact HE
    · isplitl [Hn]; · iexact Hn
      isplitl [Hs]; · iexact Hs
      iexact Ho
  · unfold OutSt
    iintro ⟨⟨⟨HR, Hc, Hd, H1, H2, HW⟩, HE⟩, Hf⟩
    isplitr [HE]
    · isplitl [HR]; · iexact HR
      isplitl [Hc]; · iexact Hc
      isplitl [Hd]; · iexact Hd
      isplitl [H1]; · iexact H1
      isplitl [H2]; · iexact H2
      isplitl [Hf]
      · rw [Sl_next]; iexact Hf
      · iexact HW
    · iexact HE

/-- The codes' loop. -/
theorem t14_loop {R : sProp 𝕄} {v423 : IVec S1x128 32} {c127_i32 : BitVec 32} {Q : α → sProp 𝕄} {kk : Unit → Prog (TpuEff nD τ sig (Elt F) Λ₀ .tc) α}
    (hk : ∀ acc, Ex c a2 a3 a5 g2 g3 iprop(R ∗ OutSt c 16) ⊢ WP c (kk acc) Q) :
    Ex c a2 a3 a5 g2 g3 iprop(R ∗ OutSt c 0) ⊢ WP c (Scf.Loop.for k0_t14_loop k0_t14_ok ⟨⟩ (ap k0_t14_body a2 ha2 a3 ha3 a5 ha5 v423 c127_i32) >>= kk) Q := by
  have h := Scf.wp_for_bind frame (wpE (defs₀ (F := F)) Variants.none (c : Thread nD τ) none) Set.univ k0_t14_loop.lb k0_t14_loop.ub k0_t14_loop.st k0_t14_ok ⟨⟩
    (ap k0_t14_body a2 ha2 a3 ha3 a5 ha5 v423 c127_i32) (fun n _ => Ex c a2 a3 a5 g2 g3 iprop(R ∗ OutSt c n)) (fun k acc => t14_trip (k0_t14 := k)) (kk := kk) (Q := Q)
  iintro HE
  iapply h $$ [HE]
  · iexact HE
  iintro %acc HE
  iapply (hk acc)
  iapply (Entails.of_eq (congrArg (fun n => Ex c a2 a3 a5 g2 g3 iprop(R ∗ OutSt (F := F) c n)) (show k0_t14_loop.trips = 16 by decide +kernel)))
  iexact HE
end

end Cert.Kernel.Hand
-- ==== Proof.K.Mid.lean ====
/-
  The middle of the body keeps its state.
-/
module

public import proofs.«01_k».proof.Proof.K.Ex
public import proofs.«01_k».proof.Proof.K.Spec

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable {c : Dev nD} {a2 : Memref sig .tc .vmem S1280 .f32} {ha2 : a2.IsWhole} {a3 : Memref sig .tc .vmem S1280 .f32} {ha3 : a3.IsWhole} {a5 : Memref sig .tc .smem S1x1 .f32} {ha5 : a5.IsWhole}
  {g2 : Buf (Elt F) (a2.view.loc (c : Thread nD τ))} {g3 : Buf (Elt F) (a3.view.loc (c : Thread nD τ))}

theorem b_t3 {R : sProp 𝕄} {c0_i32_320 : BitVec 32} {c1_i32_322 : BitVec 32} {k0_t2 : Fin k0_t2_loop.trips} {v502 : Vec F S1x1x256 .f32} (i : Fin k0_t3_loop.trips) (acc : FVec F S8x256 .f32) : Ex c a2 a3 a5 g2 g3 R ⊢ WP c (ap k0_t3_body a2 ha2 a3 ha3 a5 ha5 c0_i32_320 c1_i32_322 k0_t2 v502 i acc) (fun _ => Ex c a2 a3 a5 g2 g3 R) := by
  refine exlXu fun _ => ?_
  exact wp_done .rfl

theorem b_t4 {R : sProp 𝕄} {c0_i32_320 : BitVec 32} {c1_i32_322 : BitVec 32} {k0_t2 : Fin k0_t2_loop.trips} {v514 : Vec F S1x1x256 .f32} (i : Fin k0_t4_loop.trips) (acc : FVec F S8x256 .f32) : Ex c a2 a3 a5 g2 g3 R ⊢ WP c (ap k0_t4_body a2 ha2 a3 ha3 a5 ha5 c0_i32_320 c1_i32_322 k0_t2 v514 i acc) (fun _ => Ex c a2 a3 a5 g2 g3 R) := by
  refine exlXu fun _ => ?_
  exact wp_done .rfl

theorem b_t5 {R : sProp 𝕄} {c0_i32_320 : BitVec 32} {c1_i32_322 : BitVec 32} {k0_t2 : Fin k0_t2_loop.trips} {v526 : Vec F S1x1x256 .f32} (i : Fin k0_t5_loop.trips) (acc : FVec F S8x256 .f32) : Ex c a2 a3 a5 g2 g3 R ⊢ WP c (ap k0_t5_body a2 ha2 a3 ha3 a5 ha5 c0_i32_320 c1_i32_322 k0_t2 v526 i acc) (fun _ => Ex c a2 a3 a5 g2 g3 R) := by
  refine exlXu fun _ => ?_
  exact wp_done .rfl

theorem p_134 {R : sProp 𝕄} {c0_i32_320 : BitVec 32} {c1_i32_322 : BitVec 32} {k0_t2 : Fin k0_t2_loop.trips} : Ex c a2 a3 a5 g2 g3 R ⊢ WP c (ap k0_part134 a2 ha2 a3 ha3 a5 ha5 c0_i32_320 c1_i32_322 k0_t2) (fun _ => Ex c a2 a3 a5 g2 g3 R) := by
  rw [k0_part134_eq_skeleton]
  refine exlB fun _ => ?_
  refine ex_for (fun _ _ => ?_) fun _ => ?_
  · exact b_t3 _ _
  refine exlS2 fun _ => ?_
  refine exsS2 ?_
  refine exlB fun _ => ?_
  refine ex_for (fun _ _ => ?_) fun _ => ?_
  · exact b_t4 _ _
  refine exlS2 fun _ => ?_
  refine exsS2 ?_
  refine exlB fun _ => ?_
  refine ex_for (fun _ _ => ?_) fun _ => ?_
  · exact b_t5 _ _
  exact wp_done .rfl

theorem b_t6 {R : sProp 𝕄} {v209 : FVec F S1280x128 .bf16} {v222 : FVec F S128x1280 .bf16} {v272 : F .f32} {v286 : FVec F S16x1280 .f32} {v306 : FVec F S16x1x1280 .f32} {k0_t2 : Fin k0_t2_loop.trips} {v538 : Vec F S1x1x256 .f32} (i : Fin k0_t6_loop.trips) (acc : FVec F S8x256 .f32) : Ex c a2 a3 a5 g2 g3 R ⊢ WP c (ap k0_t6_body a2 ha2 a3 ha3 a5 ha5 v209 v222 v272 v286 v306 k0_t2 v538 i acc) (fun _ => Ex c a2 a3 a5 g2 g3 R) := by
  refine exlXs fun _ => ?_
  exact wp_done .rfl

theorem b_t7 {R : sProp 𝕄} {v209 : FVec F S1280x128 .bf16} {v222 : FVec F S128x1280 .bf16} {v272 : F .f32} {v286 : FVec F S16x1280 .f32} {v306 : FVec F S16x1x1280 .f32} {k0_t2 : Fin k0_t2_loop.trips} {v550 : Vec F S1x1x256 .f32} (i : Fin k0_t7_loop.trips) (acc : FVec F S8x256 .f32) : Ex c a2 a3 a5 g2 g3 R ⊢ WP c (ap k0_t7_body a2 ha2 a3 ha3 a5 ha5 v209 v222 v272 v286 v306 k0_t2 v550 i acc) (fun _ => Ex c a2 a3 a5 g2 g3 R) := by
  refine exlXs fun _ => ?_
  exact wp_done .rfl

theorem b_t2 {R : sProp 𝕄} {v209 : FVec F S1280x128 .bf16} {v222 : FVec F S128x1280 .bf16} {v272 : F .f32} {v286 : FVec F S16x1280 .f32} {v306 : FVec F S16x1x1280 .f32} (i : Fin k0_t2_loop.trips) (acc : Unit) : Ex c a2 a3 a5 g2 g3 R ⊢ WP c (ap k0_t2_body a2 ha2 a3 ha3 a5 ha5 v209 v222 v272 v286 v306 i acc) (fun _ => Ex c a2 a3 a5 g2 g3 R) := by
  refine ex_part p_134 fun _ => ?_
  refine exlS2 fun _ => ?_
  refine exsS2 ?_
  refine exlB fun _ => ?_
  refine ex_for (fun _ _ => ?_) fun _ => ?_
  · exact b_t6 _ _
  refine exlS2 fun _ => ?_
  refine exsS2 ?_
  refine exlB fun _ => ?_
  refine ex_for (fun _ _ => ?_) fun _ => ?_
  · exact b_t7 _ _
  refine exlS2 fun _ => ?_
  refine exsS2 ?_
  exact wp_done .rfl

theorem b_t9 {R : sProp 𝕄} {c0_i32_321 : BitVec 32} {c1_i32_323 : BitVec 32} {k0_t8 : Fin k0_t8_loop.trips} {arg19 : FVec F S8x256 .f32} {v471 : Vec F S1x1x256 .f32} {v474 : Vec F S1x1x256 .f32} (i : Fin k0_t9_loop.trips) (acc : FVec F S8x256 .f32) : Ex c a2 a3 a5 g2 g3 R ⊢ WP c (ap k0_t9_body a2 ha2 a3 ha3 a5 ha5 c0_i32_321 c1_i32_323 k0_t8 arg19 v471 v474 i acc) (fun _ => Ex c a2 a3 a5 g2 g3 R) := by
  refine exlXu fun _ => ?_
  exact wp_done .rfl

theorem b_t10 {R : sProp 𝕄} {c0_i32_321 : BitVec 32} {c1_i32_323 : BitVec 32} {k0_t8 : Fin k0_t8_loop.trips} {arg19 : FVec F S8x256 .f32} {v479 : Vec F S1x1x256 .f32} {v482 : Vec F S1x1x256 .f32} (i : Fin k0_t10_loop.trips) (acc : FVec F S8x256 .f32) : Ex c a2 a3 a5 g2 g3 R ⊢ WP c (ap k0_t10_body a2 ha2 a3 ha3 a5 ha5 c0_i32_321 c1_i32_323 k0_t8 arg19 v479 v482 i acc) (fun _ => Ex c a2 a3 a5 g2 g3 R) := by
  refine exlXu fun _ => ?_
  exact wp_done .rfl

theorem b_t11 {R : sProp 𝕄} {c0_i32_321 : BitVec 32} {c1_i32_323 : BitVec 32} {k0_t8 : Fin k0_t8_loop.trips} {arg19 : FVec F S8x256 .f32} {v487 : Vec F S1x1x256 .f32} {v490 : Vec F S1x1x256 .f32} (i : Fin k0_t11_loop.trips) (acc : FVec F S8x256 .f32) : Ex c a2 a3 a5 g2 g3 R ⊢ WP c (ap k0_t11_body a2 ha2 a3 ha3 a5 ha5 c0_i32_321 c1_i32_323 k0_t8 arg19 v487 v490 i acc) (fun _ => Ex c a2 a3 a5 g2 g3 R) := by
  refine exlXu fun _ => ?_
  exact wp_done .rfl

theorem p_135 {R : sProp 𝕄} {c0_i32_321 : BitVec 32} {c1_i32_323 : BitVec 32} {k0_t8 : Fin k0_t8_loop.trips} {arg19 : FVec F S8x256 .f32} : Ex c a2 a3 a5 g2 g3 R ⊢ WP c (ap k0_part135 a2 ha2 a3 ha3 a5 ha5 c0_i32_321 c1_i32_323 k0_t8 arg19) (fun _ => Ex c a2 a3 a5 g2 g3 R) := by
  rw [k0_part135_eq_skeleton]
  refine exlA fun _ => ?_
  refine exlB fun _ => ?_
  refine ex_for (fun _ _ => ?_) fun _ => ?_
  · exact b_t9 _ _
  refine exlA fun _ => ?_
  refine exlB fun _ => ?_
  refine ex_for (fun _ _ => ?_) fun _ => ?_
  · exact b_t10 _ _
  refine exlA fun _ => ?_
  refine exlB fun _ => ?_
  refine ex_for (fun _ _ => ?_) fun _ => ?_
  · exact b_t11 _ _
  refine exlA fun _ => ?_
  refine exlB fun _ => ?_
  exact wp_done .rfl

theorem b_t12 {R : sProp 𝕄} {v318 : FVec F S16x1280 .f32} {v325 : FVec F S16x1280 .f32} {v335 : FVec F S16x1280 .f32} {v336 : Vec F S16x1x1280 .f32} {k0_t8 : Fin k0_t8_loop.trips} {v496 : FVec F S1x256 .f32} {v499 : FVec F S1x256 .f32} (i : Fin k0_t12_loop.trips) (acc : FVec F S8x256 .f32) : Ex c a2 a3 a5 g2 g3 R ⊢ WP c (ap k0_t12_body a2 ha2 a3 ha3 a5 ha5 v318 v325 v335 v336 k0_t8 v496 v499 i acc) (fun _ => Ex c a2 a3 a5 g2 g3 R) := by
  refine exlXs fun _ => ?_
  exact wp_done .rfl

theorem b_t13 {R : sProp 𝕄} {v318 : FVec F S16x1280 .f32} {v325 : FVec F S16x1280 .f32} {v335 : FVec F S16x1280 .f32} {v336 : Vec F S16x1x1280 .f32} {k0_t8 : Fin k0_t8_loop.trips} {v503 : Vec F S1x1x256 .f32} {v506 : Vec F S1x1x256 .f32} (i : Fin k0_t13_loop.trips) (acc : FVec F S8x256 .f32) : Ex c a2 a3 a5 g2 g3 R ⊢ WP c (ap k0_t13_body a2 ha2 a3 ha3 a5 ha5 v318 v325 v335 v336 k0_t8 v503 v506 i acc) (fun _ => Ex c a2 a3 a5 g2 g3 R) := by
  refine exlXs fun _ => ?_
  exact wp_done .rfl

theorem b_t8 {R : sProp 𝕄} {v318 : FVec F S16x1280 .f32} {v325 : FVec F S16x1280 .f32} {v335 : FVec F S16x1280 .f32} {v336 : Vec F S16x1x1280 .f32} (i : Fin k0_t8_loop.trips) (acc : FVec F S8x256 .f32) : Ex c a2 a3 a5 g2 g3 R ⊢ WP c (ap k0_t8_body a2 ha2 a3 ha3 a5 ha5 v318 v325 v335 v336 i acc) (fun _ => Ex c a2 a3 a5 g2 g3 R) := by
  refine ex_part p_135 fun _ => ?_
  refine ex_for (fun _ _ => ?_) fun _ => ?_
  · exact b_t12 _ _
  refine exlA fun _ => ?_
  refine exlB fun _ => ?_
  refine ex_for (fun _ _ => ?_) fun _ => ?_
  · exact b_t13 _ _
  exact wp_done .rfl

theorem p_164 {R : sProp 𝕄} {v209 : FVec F S1280x128 .bf16} {v210 : IVec S128x1280 32} : Ex c a2 a3 a5 g2 g3 R ⊢ WP c (ap k0_part164 a2 ha2 a3 ha3 a5 ha5 v209 v210) (fun _ => Ex c a2 a3 a5 g2 g3 R) := by
  rw [k0_part164_eq_skeleton]
  refine exlS1 fun _ => ?_
  refine exlS2 fun _ => ?_
  exact wp_done .rfl

theorem p_165 {R : sProp 𝕄} {v222 : FVec F S128x1280 .bf16} {v240 : FVec F S16x128 .f32} {v256 : FVec F S16x128 .f32} {cst_228 : F .f32} : Ex c a2 a3 a5 g2 g3 R ⊢ WP c (ap k0_part165 a2 ha2 a3 ha3 a5 ha5 v222 v240 v256 cst_228) (fun _ => Ex c a2 a3 a5 g2 g3 R) := by
  rw [k0_part165_eq_skeleton]
  refine exlA fun _ => ?_
  exact wp_done .rfl

theorem p_166 {R : sProp 𝕄} {v209 : FVec F S1280x128 .bf16} {v222 : FVec F S128x1280 .bf16} {v272 : F .f32} {v286 : FVec F S16x1280 .f32} {v306 : FVec F S16x1x1280 .f32} : Ex c a2 a3 a5 g2 g3 R ⊢ WP c (ap k0_part166 a2 ha2 a3 ha3 a5 ha5 v209 v222 v272 v286 v306) (fun _ => Ex c a2 a3 a5 g2 g3 R) := by
  rw [k0_part166_eq_skeleton]
  refine exsA ?_
  refine exlB fun _ => ?_
  refine exsB ?_
  refine ex_ite (F := F) ?_ ?_
  · refine ex_for (fun _ _ => ?_) fun _ => ?_
    · exact b_t2 _ _
    refine exlS2 fun _ => ?_
    refine exlA fun _ => ?_
    refine exsA ?_
    refine exlA fun _ => ?_
    refine exla2 fun _ => ?_
    refine exla3 fun _ => ?_
    refine exlB fun _ => ?_
    refine exlA fun _ => ?_
    refine exsA ?_
    refine exlB fun _ => ?_
    refine exsB ?_
    refine exlMx fun _ => ?_
    refine exlMn fun _ => ?_
    exact wp_done .rfl
  · refine exlA fun _ => ?_
    refine exla2 fun _ => ?_
    refine exla3 fun _ => ?_
    refine exlB fun _ => ?_
    refine exlA fun _ => ?_
    refine exsA ?_
    refine exlB fun _ => ?_
    refine exsB ?_
    refine exlMx fun _ => ?_
    refine exlMn fun _ => ?_
    exact wp_done .rfl

theorem p_167 {R : sProp 𝕄} {v318 : FVec F S16x1280 .f32} {v325 : FVec F S16x1280 .f32} {v335 : FVec F S16x1280 .f32} {v336 : Vec F S16x1x1280 .f32} : Ex c a2 a3 a5 g2 g3 R ⊢ WP c (ap k0_part167 a2 ha2 a3 ha3 a5 ha5 v318 v325 v335 v336) (fun _ => Ex c a2 a3 a5 g2 g3 R) := by
  rw [k0_part167_eq_skeleton]
  refine exla5 fun _ => ?_
  refine exsa5 ?_
  refine ex_ite (F := F) ?_ ?_
  · refine ex_for (fun _ _ => ?_) fun _ => ?_
    · exact b_t8 _ _
    refine exla5 fun _ => ?_
    refine exsa5 ?_
    refine exla5 fun _ => ?_
    exact wp_done .rfl
  · refine exla5 fun _ => ?_
    exact wp_done .rfl

theorem p_168 {R : sProp 𝕄} {v360 : FVec F S1x128 .f32} {v375 : IVec S1x128 32} {v377 : IVec S1x128 32} {c23_i32_275 : BitVec 32} : Ex c a2 a3 a5 g2 g3 R ⊢ WP c (ap k0_part168 a2 ha2 a3 ha3 a5 ha5 v360 v375 v377 c23_i32_275) (fun _ => Ex c a2 a3 a5 g2 g3 R) := by
  rw [k0_part168_eq_skeleton]
  exact wp_done .rfl

end

end Cert.Kernel.Hand
-- ==== Proof.K.T1.lean ====
/-
  One row's statistics, part by part.
-/
module

public import proofs.«01_k».proof.Proof.K.Spec

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable {c : Dev nD} {x0 : S16x1024x768.Idx → Elt F .bf16} {x1 : S16x1024x512.Idx → Elt F .bf16}
variable {α : Type} {on : S8x256.Idx → Elt F .bf16} {s1 s2 mx mn : S16x1x1280.Idx → Elt F .f32}
variable {a2 : Memref sig .tc .vmem S1280 .f32} {ha2 : a2.IsWhole} {a3 : Memref sig .tc .vmem S1280 .f32} {ha3 : a3.IsWhole} {a5 : Memref sig .tc .smem S1x1 .f32} {ha5 : a5.IsWhole}
theorem t1_1 {R : sProp 𝕄} {Q : α → sProp 𝕄} (k : Fin k0_t1_loop.trips) {f : (Σ' (arg18 : BitVec 32) (v475 : FVec F S8x256 .f32) (v497 : FVec F S8x256 .f32) (v499 : FVec F S8x256 .f32) (v500 : FVec F S8x256 .bf16), FVec F S8x256 .bf16) → Prog (TpuEff nD τ sig (Elt F) Λ₀ .tc) α}
    (h : St c x0 x1 R on (k.val + 1) s1 s2 mx mn ⊢ WP c (f ⟨(Scf.iv 0#32 1#32 k), (k0_pay1 on), (s1c (tl x0 x1 k.val 0) (k0_pay1 on) 2), (s2c (tl x0 x1 k.val 0) 2), (mxc (tl x0 x1 k.val 0) 2), (mnc (tl x0 x1 k.val 0) 2)⟩) Q) :
    iprop(iprop(R ∗ ptOn c on ∗ ptS1 c s1 ∗ ptS2 c s2 ∗ ptMx c mx ∗ ptMn c mn) ∗ WaSt c x0 x1 k.val) ⊢ WP c (ap k0_part1 a2 ha2 a3 ha3 a5 ha5 (0#32 : BitVec 32) (1#32 : BitVec 32) k  >>= f) Q := by
  rw [k0_part1_eq_skeleton]
  refine wait_row' c x0 x1 ⟨k.val, k16 k⟩ (k0_off1_eq k) (k0_off2_eq k) (k0_off3_eq k) ?_
  refine ldOn ?_
  refine ldU k.val 0 0 (Nat.lt_succ_self _) (k0_off4_eq k) ?_
  refine ldU k.val 8 0 (Nat.lt_succ_self _) (k0_off5_eq k) ?_
  refine ldU k.val 16 0 (Nat.lt_succ_self _) (k0_off6_eq k) ?_
  exact h

theorem t1_2 {R : sProp 𝕄} {Q : α → sProp 𝕄} (k : Fin k0_t1_loop.trips) {arg18 : BitVec 32} {f : (Σ' (v547 : FVec F S8x256 .f32) (v549 : FVec F S8x256 .f32) (v550 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 7), (s2c (tl x0 x1 k.val 0) 7), (mxc (tl x0 x1 k.val 0) 7), (mnc (tl x0 x1 k.val 0) 7)⟩) Q) :
    St c x0 x1 R on (k.val + 1) s1 s2 mx mn ⊢ WP c (ap k0_part2 a2 ha2 a3 ha3 a5 ha5 k arg18 (k0_pay1 on) (s1c (tl x0 x1 k.val 0) (k0_pay1 on) 2) (s2c (tl x0 x1 k.val 0) 2) (mxc (tl x0 x1 k.val 0) 2) (mnc (tl x0 x1 k.val 0) 2) >>= f) Q := by
  rw [k0_part2_eq_skeleton]
  refine ldU k.val 24 0 (Nat.lt_succ_self _) (k0_off7_eq k) ?_
  refine ldU k.val 32 0 (Nat.lt_succ_self _) (k0_off8_eq k) ?_
  refine ldU k.val 40 0 (Nat.lt_succ_self _) (k0_off9_eq k) ?_
  refine ldU k.val 48 0 (Nat.lt_succ_self _) (k0_off10_eq k) ?_
  refine ldU k.val 56 0 (Nat.lt_succ_self _) (k0_off11_eq k) ?_
  exact h

theorem t1_3 {R : sProp 𝕄} {Q : α → sProp 𝕄} (k : Fin k0_t1_loop.trips) {arg18 : BitVec 32} {f : (Σ' (v597 : FVec F S8x256 .f32) (v599 : FVec F S8x256 .f32) (v600 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 12), (s2c (tl x0 x1 k.val 0) 12), (mxc (tl x0 x1 k.val 0) 12), (mnc (tl x0 x1 k.val 0) 12)⟩) Q) :
    St c x0 x1 R on (k.val + 1) s1 s2 mx mn ⊢ WP c (ap k0_part3 a2 ha2 a3 ha3 a5 ha5 k arg18 (k0_pay1 on) (s1c (tl x0 x1 k.val 0) (k0_pay1 on) 7) (s2c (tl x0 x1 k.val 0) 7) (mxc (tl x0 x1 k.val 0) 7) (mnc (tl x0 x1 k.val 0) 7) >>= f) Q := by
  rw [k0_part3_eq_skeleton]
  refine ldU k.val 64 0 (Nat.lt_succ_self _) (k0_off12_eq k) ?_
  refine ldU k.val 72 0 (Nat.lt_succ_self _) (k0_off13_eq k) ?_
  refine ldU k.val 80 0 (Nat.lt_succ_self _) (k0_off14_eq k) ?_
  refine ldU k.val 88 0 (Nat.lt_succ_self _) (k0_off15_eq k) ?_
  refine ldU k.val 96 0 (Nat.lt_succ_self _) (k0_off16_eq k) ?_
  exact h

theorem t1_4 {R : sProp 𝕄} {Q : α → sProp 𝕄} (k : Fin k0_t1_loop.trips) {arg18 : BitVec 32} {f : (Σ' (v647 : FVec F S8x256 .f32) (v649 : FVec F S8x256 .f32) (v650 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 17), (s2c (tl x0 x1 k.val 0) 17), (mxc (tl x0 x1 k.val 0) 17), (mnc (tl x0 x1 k.val 0) 17)⟩) Q) :
    St c x0 x1 R on (k.val + 1) s1 s2 mx mn ⊢ WP c (ap k0_part4 a2 ha2 a3 ha3 a5 ha5 k arg18 (k0_pay1 on) (s1c (tl x0 x1 k.val 0) (k0_pay1 on) 12) (s2c (tl x0 x1 k.val 0) 12) (mxc (tl x0 x1 k.val 0) 12) (mnc (tl x0 x1 k.val 0) 12) >>= f) Q := by
  rw [k0_part4_eq_skeleton]
  refine ldU k.val 104 0 (Nat.lt_succ_self _) (k0_off17_eq k) ?_
  refine ldU k.val 112 0 (Nat.lt_succ_self _) (k0_off18_eq k) ?_
  refine ldU k.val 120 0 (Nat.lt_succ_self _) (k0_off19_eq k) ?_
  refine ldU k.val 128 0 (Nat.lt_succ_self _) (k0_off20_eq k) ?_
  refine ldU k.val 136 0 (Nat.lt_succ_self _) (k0_off21_eq k) ?_
  exact h

theorem t1_5 {R : sProp 𝕄} {Q : α → sProp 𝕄} (k : Fin k0_t1_loop.trips) {arg18 : BitVec 32} {f : (Σ' (v697 : FVec F S8x256 .f32) (v699 : FVec F S8x256 .f32) (v700 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 22), (s2c (tl x0 x1 k.val 0) 22), (mxc (tl x0 x1 k.val 0) 22), (mnc (tl x0 x1 k.val 0) 22)⟩) Q) :
    St c x0 x1 R on (k.val + 1) s1 s2 mx mn ⊢ WP c (ap k0_part5 a2 ha2 a3 ha3 a5 ha5 k arg18 (k0_pay1 on) (s1c (tl x0 x1 k.val 0) (k0_pay1 on) 17) (s2c (tl x0 x1 k.val 0) 17) (mxc (tl x0 x1 k.val 0) 17) (mnc (tl x0 x1 k.val 0) 17) >>= f) Q := by
  rw [k0_part5_eq_skeleton]
  refine ldU k.val 144 0 (Nat.lt_succ_self _) (k0_off22_eq k) ?_
  refine ldU k.val 152 0 (Nat.lt_succ_self _) (k0_off23_eq k) ?_
  refine ldU k.val 160 0 (Nat.lt_succ_self _) (k0_off24_eq k) ?_
  refine ldU k.val 168 0 (Nat.lt_succ_self _) (k0_off25_eq k) ?_
  refine ldU k.val 176 0 (Nat.lt_succ_self _) (k0_off26_eq k) ?_
  exact h

theorem t1_6 {R : sProp 𝕄} {Q : α → sProp 𝕄} (k : Fin k0_t1_loop.trips) {arg18 : BitVec 32} {f : (Σ' (v747 : FVec F S8x256 .f32) (v749 : FVec F S8x256 .f32) (v750 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 27), (s2c (tl x0 x1 k.val 0) 27), (mxc (tl x0 x1 k.val 0) 27), (mnc (tl x0 x1 k.val 0) 27)⟩) Q) :
    St c x0 x1 R on (k.val + 1) s1 s2 mx mn ⊢ WP c (ap k0_part6 a2 ha2 a3 ha3 a5 ha5 k arg18 (k0_pay1 on) (s1c (tl x0 x1 k.val 0) (k0_pay1 on) 22) (s2c (tl x0 x1 k.val 0) 22) (mxc (tl x0 x1 k.val 0) 22) (mnc (tl x0 x1 k.val 0) 22) >>= f) Q := by
  rw [k0_part6_eq_skeleton]
  refine ldU k.val 184 0 (Nat.lt_succ_self _) (k0_off27_eq k) ?_
  refine ldU k.val 192 0 (Nat.lt_succ_self _) (k0_off28_eq k) ?_
  refine ldU k.val 200 0 (Nat.lt_succ_self _) (k0_off29_eq k) ?_
  refine ldU k.val 208 0 (Nat.lt_succ_self _) (k0_off30_eq k) ?_
  refine ldU k.val 216 0 (Nat.lt_succ_self _) (k0_off31_eq k) ?_
  exact h

theorem t1_7 {R : sProp 𝕄} {Q : α → sProp 𝕄} (k : Fin k0_t1_loop.trips) {arg18 : BitVec 32} {f : (Σ' (v797 : FVec F S8x256 .f32) (v799 : FVec F S8x256 .f32) (v800 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 32), (s2c (tl x0 x1 k.val 0) 32), (mxc (tl x0 x1 k.val 0) 32), (mnc (tl x0 x1 k.val 0) 32)⟩) Q) :
    St c x0 x1 R on (k.val + 1) s1 s2 mx mn ⊢ WP c (ap k0_part7 a2 ha2 a3 ha3 a5 ha5 k arg18 (k0_pay1 on) (s1c (tl x0 x1 k.val 0) (k0_pay1 on) 27) (s2c (tl x0 x1 k.val 0) 27) (mxc (tl x0 x1 k.val 0) 27) (mnc (tl x0 x1 k.val 0) 27) >>= f) Q := by
  rw [k0_part7_eq_skeleton]
  refine ldU k.val 224 0 (Nat.lt_succ_self _) (k0_off32_eq k) ?_
  refine ldU k.val 232 0 (Nat.lt_succ_self _) (k0_off33_eq k) ?_
  refine ldU k.val 240 0 (Nat.lt_succ_self _) (k0_off34_eq k) ?_
  refine ldU k.val 248 0 (Nat.lt_succ_self _) (k0_off35_eq k) ?_
  refine ldU k.val 256 0 (Nat.lt_succ_self _) (k0_off36_eq k) ?_
  exact h

theorem t1_8 {R : sProp 𝕄} {Q : α → sProp 𝕄} (k : Fin k0_t1_loop.trips) {arg18 : BitVec 32} {f : (Σ' (v847 : FVec F S8x256 .f32) (v849 : FVec F S8x256 .f32) (v850 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 37), (s2c (tl x0 x1 k.val 0) 37), (mxc (tl x0 x1 k.val 0) 37), (mnc (tl x0 x1 k.val 0) 37)⟩) Q) :
    St c x0 x1 R on (k.val + 1) s1 s2 mx mn ⊢ WP c (ap k0_part8 a2 ha2 a3 ha3 a5 ha5 k arg18 (k0_pay1 on) (s1c (tl x0 x1 k.val 0) (k0_pay1 on) 32) (s2c (tl x0 x1 k.val 0) 32) (mxc (tl x0 x1 k.val 0) 32) (mnc (tl x0 x1 k.val 0) 32) >>= f) Q := by
  rw [k0_part8_eq_skeleton]
  refine ldU k.val 264 0 (Nat.lt_succ_self _) (k0_off37_eq k) ?_
  refine ldU k.val 272 0 (Nat.lt_succ_self _) (k0_off38_eq k) ?_
  refine ldU k.val 280 0 (Nat.lt_succ_self _) (k0_off39_eq k) ?_
  refine ldU k.val 288 0 (Nat.lt_succ_self _) (k0_off40_eq k) ?_
  refine ldU k.val 296 0 (Nat.lt_succ_self _) (k0_off41_eq k) ?_
  exact h

theorem t1_9 {R : sProp 𝕄} {Q : α → sProp 𝕄} (k : Fin k0_t1_loop.trips) {arg18 : BitVec 32} {f : (Σ' (v897 : FVec F S8x256 .f32) (v899 : FVec F S8x256 .f32) (v900 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 42), (s2c (tl x0 x1 k.val 0) 42), (mxc (tl x0 x1 k.val 0) 42), (mnc (tl x0 x1 k.val 0) 42)⟩) Q) :
    St c x0 x1 R on (k.val + 1) s1 s2 mx mn ⊢ WP c (ap k0_part9 a2 ha2 a3 ha3 a5 ha5 k arg18 (k0_pay1 on) (s1c (tl x0 x1 k.val 0) (k0_pay1 on) 37) (s2c (tl x0 x1 k.val 0) 37) (mxc (tl x0 x1 k.val 0) 37) (mnc (tl x0 x1 k.val 0) 37) >>= f) Q := by
  rw [k0_part9_eq_skeleton]
  refine ldU k.val 304 0 (Nat.lt_succ_self _) (k0_off42_eq k) ?_
  refine ldU k.val 312 0 (Nat.lt_succ_self _) (k0_off43_eq k) ?_
  refine ldU k.val 320 0 (Nat.lt_succ_self _) (k0_off44_eq k) ?_
  refine ldU k.val 328 0 (Nat.lt_succ_self _) (k0_off45_eq k) ?_
  refine ldU k.val 336 0 (Nat.lt_succ_self _) (k0_off46_eq k) ?_
  exact h

theorem t1_10 {R : sProp 𝕄} {Q : α → sProp 𝕄} (k : Fin k0_t1_loop.trips) {arg18 : BitVec 32} {f : (Σ' (v947 : FVec F S8x256 .f32) (v949 : FVec F S8x256 .f32) (v950 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 47), (s2c (tl x0 x1 k.val 0) 47), (mxc (tl x0 x1 k.val 0) 47), (mnc (tl x0 x1 k.val 0) 47)⟩) Q) :
    St c x0 x1 R on (k.val + 1) s1 s2 mx mn ⊢ WP c (ap k0_part10 a2 ha2 a3 ha3 a5 ha5 k arg18 (k0_pay1 on) (s1c (tl x0 x1 k.val 0) (k0_pay1 on) 42) (s2c (tl x0 x1 k.val 0) 42) (mxc (tl x0 x1 k.val 0) 42) (mnc (tl x0 x1 k.val 0) 42) >>= f) Q := by
  rw [k0_part10_eq_skeleton]
  refine ldU k.val 344 0 (Nat.lt_succ_self _) (k0_off47_eq k) ?_
  refine ldU k.val 352 0 (Nat.lt_succ_self _) (k0_off48_eq k) ?_
  refine ldU k.val 360 0 (Nat.lt_succ_self _) (k0_off49_eq k) ?_
  refine ldU k.val 368 0 (Nat.lt_succ_self _) (k0_off50_eq k) ?_
  refine ldU k.val 376 0 (Nat.lt_succ_self _) (k0_off51_eq k) ?_
  exact h

theorem t1_11 {R : sProp 𝕄} {Q : α → sProp 𝕄} (k : Fin k0_t1_loop.trips) {arg18 : BitVec 32} {f : (Σ' (v997 : FVec F S8x256 .f32) (v999 : FVec F S8x256 .f32) (v1000 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 52), (s2c (tl x0 x1 k.val 0) 52), (mxc (tl x0 x1 k.val 0) 52), (mnc (tl x0 x1 k.val 0) 52)⟩) Q) :
    St c x0 x1 R on (k.val + 1) s1 s2 mx mn ⊢ WP c (ap k0_part11 a2 ha2 a3 ha3 a5 ha5 k arg18 (k0_pay1 on) (s1c (tl x0 x1 k.val 0) (k0_pay1 on) 47) (s2c (tl x0 x1 k.val 0) 47) (mxc (tl x0 x1 k.val 0) 47) (mnc (tl x0 x1 k.val 0) 47) >>= f) Q := by
  rw [k0_part11_eq_skeleton]
  refine ldU k.val 384 0 (Nat.lt_succ_self _) (k0_off52_eq k) ?_
  refine ldU k.val 392 0 (Nat.lt_succ_self _) (k0_off53_eq k) ?_
  refine ldU k.val 400 0 (Nat.lt_succ_self _) (k0_off54_eq k) ?_
  refine ldU k.val 408 0 (Nat.lt_succ_self _) (k0_off55_eq k) ?_
  refine ldU k.val 416 0 (Nat.lt_succ_self _) (k0_off56_eq k) ?_
  exact h

theorem t1_12 {R : sProp 𝕄} {Q : α → sProp 𝕄} (k : Fin k0_t1_loop.trips) {arg18 : BitVec 32} {f : (Σ' (v1047 : FVec F S8x256 .f32) (v1049 : FVec F S8x256 .f32) (v1050 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 57), (s2c (tl x0 x1 k.val 0) 57), (mxc (tl x0 x1 k.val 0) 57), (mnc (tl x0 x1 k.val 0) 57)⟩) Q) :
    St c x0 x1 R on (k.val + 1) s1 s2 mx mn ⊢ WP c (ap k0_part12 a2 ha2 a3 ha3 a5 ha5 k arg18 (k0_pay1 on) (s1c (tl x0 x1 k.val 0) (k0_pay1 on) 52) (s2c (tl x0 x1 k.val 0) 52) (mxc (tl x0 x1 k.val 0) 52) (mnc (tl x0 x1 k.val 0) 52) >>= f) Q := by
  rw [k0_part12_eq_skeleton]
  refine ldU k.val 424 0 (Nat.lt_succ_self _) (k0_off57_eq k) ?_
  refine ldU k.val 432 0 (Nat.lt_succ_self _) (k0_off58_eq k) ?_
  refine ldU k.val 440 0 (Nat.lt_succ_self _) (k0_off59_eq k) ?_
  refine ldU k.val 448 0 (Nat.lt_succ_self _) (k0_off60_eq k) ?_
  refine ldU k.val 456 0 (Nat.lt_succ_self _) (k0_off61_eq k) ?_
  exact h

theorem t1_13 {R : sProp 𝕄} {Q : α → sProp 𝕄} (k : Fin k0_t1_loop.trips) {arg18 : BitVec 32} {f : (Σ' (v1097 : FVec F S8x256 .f32) (v1099 : FVec F S8x256 .f32) (v1100 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 62), (s2c (tl x0 x1 k.val 0) 62), (mxc (tl x0 x1 k.val 0) 62), (mnc (tl x0 x1 k.val 0) 62)⟩) Q) :
    St c x0 x1 R on (k.val + 1) s1 s2 mx mn ⊢ WP c (ap k0_part13 a2 ha2 a3 ha3 a5 ha5 k arg18 (k0_pay1 on) (s1c (tl x0 x1 k.val 0) (k0_pay1 on) 57) (s2c (tl x0 x1 k.val 0) 57) (mxc (tl x0 x1 k.val 0) 57) (mnc (tl x0 x1 k.val 0) 57) >>= f) Q := by
  rw [k0_part13_eq_skeleton]
  refine ldU k.val 464 0 (Nat.lt_succ_self _) (k0_off62_eq k) ?_
  refine ldU k.val 472 0 (Nat.lt_succ_self _) (k0_off63_eq k) ?_
  refine ldU k.val 480 0 (Nat.lt_succ_self _) (k0_off64_eq k) ?_
  refine ldU k.val 488 0 (Nat.lt_succ_self _) (k0_off65_eq k) ?_
  refine ldU k.val 496 0 (Nat.lt_succ_self _) (k0_off66_eq k) ?_
  exact h

theorem t1_14 {R : sProp 𝕄} {Q : α → sProp 𝕄} (k : Fin k0_t1_loop.trips) {arg18 : BitVec 32} {f : (Σ' (v1147 : FVec F S8x256 .f32) (v1149 : FVec F S8x256 .f32) (v1150 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 67), (s2c (tl x0 x1 k.val 0) 67), (mxc (tl x0 x1 k.val 0) 67), (mnc (tl x0 x1 k.val 0) 67)⟩) Q) :
    St c x0 x1 R on (k.val + 1) s1 s2 mx mn ⊢ WP c (ap k0_part14 a2 ha2 a3 ha3 a5 ha5 k arg18 (k0_pay1 on) (s1c (tl x0 x1 k.val 0) (k0_pay1 on) 62) (s2c (tl x0 x1 k.val 0) 62) (mxc (tl x0 x1 k.val 0) 62) (mnc (tl x0 x1 k.val 0) 62) >>= f) Q := by
  rw [k0_part14_eq_skeleton]
  refine ldU k.val 504 0 (Nat.lt_succ_self _) (k0_off67_eq k) ?_
  refine ldU k.val 512 0 (Nat.lt_succ_self _) (k0_off68_eq k) ?_
  refine ldU k.val 520 0 (Nat.lt_succ_self _) (k0_off69_eq k) ?_
  refine ldU k.val 528 0 (Nat.lt_succ_self _) (k0_off70_eq k) ?_
  refine ldU k.val 536 0 (Nat.lt_succ_self _) (k0_off71_eq k) ?_
  exact h

theorem t1_15 {R : sProp 𝕄} {Q : α → sProp 𝕄} (k : Fin k0_t1_loop.trips) {arg18 : BitVec 32} {f : (Σ' (v1197 : FVec F S8x256 .f32) (v1199 : FVec F S8x256 .f32) (v1200 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 72), (s2c (tl x0 x1 k.val 0) 72), (mxc (tl x0 x1 k.val 0) 72), (mnc (tl x0 x1 k.val 0) 72)⟩) Q) :
    St c x0 x1 R on (k.val + 1) s1 s2 mx mn ⊢ WP c (ap k0_part15 a2 ha2 a3 ha3 a5 ha5 k arg18 (k0_pay1 on) (s1c (tl x0 x1 k.val 0) (k0_pay1 on) 67) (s2c (tl x0 x1 k.val 0) 67) (mxc (tl x0 x1 k.val 0) 67) (mnc (tl x0 x1 k.val 0) 67) >>= f) Q := by
  rw [k0_part15_eq_skeleton]
  refine ldU k.val 544 0 (Nat.lt_succ_self _) (k0_off72_eq k) ?_
  refine ldU k.val 552 0 (Nat.lt_succ_self _) (k0_off73_eq k) ?_
  refine ldU k.val 560 0 (Nat.lt_succ_self _) (k0_off74_eq k) ?_
  refine ldU k.val 568 0 (Nat.lt_succ_self _) (k0_off75_eq k) ?_
  refine ldU k.val 576 0 (Nat.lt_succ_self _) (k0_off76_eq k) ?_
  exact h

theorem t1_16 {R : sProp 𝕄} {Q : α → sProp 𝕄} (k : Fin k0_t1_loop.trips) {arg18 : BitVec 32} {f : (Σ' (v1247 : FVec F S8x256 .f32) (v1249 : FVec F S8x256 .f32) (v1250 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 77), (s2c (tl x0 x1 k.val 0) 77), (mxc (tl x0 x1 k.val 0) 77), (mnc (tl x0 x1 k.val 0) 77)⟩) Q) :
    St c x0 x1 R on (k.val + 1) s1 s2 mx mn ⊢ WP c (ap k0_part16 a2 ha2 a3 ha3 a5 ha5 k arg18 (k0_pay1 on) (s1c (tl x0 x1 k.val 0) (k0_pay1 on) 72) (s2c (tl x0 x1 k.val 0) 72) (mxc (tl x0 x1 k.val 0) 72) (mnc (tl x0 x1 k.val 0) 72) >>= f) Q := by
  rw [k0_part16_eq_skeleton]
  refine ldU k.val 584 0 (Nat.lt_succ_self _) (k0_off77_eq k) ?_
  refine ldU k.val 592 0 (Nat.lt_succ_self _) (k0_off78_eq k) ?_
  refine ldU k.val 600 0 (Nat.lt_succ_self _) (k0_off79_eq k) ?_
  refine ldU k.val 608 0 (Nat.lt_succ_self _) (k0_off80_eq k) ?_
  refine ldU k.val 616 0 (Nat.lt_succ_self _) (k0_off81_eq k) ?_
  exact h

theorem t1_17 {R : sProp 𝕄} {Q : α → sProp 𝕄} (k : Fin k0_t1_loop.trips) {arg18 : BitVec 32} {f : (Σ' (v1297 : FVec F S8x256 .f32) (v1299 : FVec F S8x256 .f32) (v1300 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 82), (s2c (tl x0 x1 k.val 0) 82), (mxc (tl x0 x1 k.val 0) 82), (mnc (tl x0 x1 k.val 0) 82)⟩) Q) :
    St c x0 x1 R on (k.val + 1) s1 s2 mx mn ⊢ WP c (ap k0_part17 a2 ha2 a3 ha3 a5 ha5 k arg18 (k0_pay1 on) (s1c (tl x0 x1 k.val 0) (k0_pay1 on) 77) (s2c (tl x0 x1 k.val 0) 77) (mxc (tl x0 x1 k.val 0) 77) (mnc (tl x0 x1 k.val 0) 77) >>= f) Q := by
  rw [k0_part17_eq_skeleton]
  refine ldU k.val 624 0 (Nat.lt_succ_self _) (k0_off82_eq k) ?_
  refine ldU k.val 632 0 (Nat.lt_succ_self _) (k0_off83_eq k) ?_
  refine ldU k.val 640 0 (Nat.lt_succ_self _) (k0_off84_eq k) ?_
  refine ldU k.val 648 0 (Nat.lt_succ_self _) (k0_off85_eq k) ?_
  refine ldU k.val 656 0 (Nat.lt_succ_self _) (k0_off86_eq k) ?_
  exact h

theorem t1_18 {R : sProp 𝕄} {Q : α → sProp 𝕄} (k : Fin k0_t1_loop.trips) {arg18 : BitVec 32} {f : (Σ' (v1347 : FVec F S8x256 .f32) (v1349 : FVec F S8x256 .f32) (v1350 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 87), (s2c (tl x0 x1 k.val 0) 87), (mxc (tl x0 x1 k.val 0) 87), (mnc (tl x0 x1 k.val 0) 87)⟩) Q) :
    St c x0 x1 R on (k.val + 1) s1 s2 mx mn ⊢ WP c (ap k0_part18 a2 ha2 a3 ha3 a5 ha5 k arg18 (k0_pay1 on) (s1c (tl x0 x1 k.val 0) (k0_pay1 on) 82) (s2c (tl x0 x1 k.val 0) 82) (mxc (tl x0 x1 k.val 0) 82) (mnc (tl x0 x1 k.val 0) 82) >>= f) Q := by
  rw [k0_part18_eq_skeleton]
  refine ldU k.val 664 0 (Nat.lt_succ_self _) (k0_off87_eq k) ?_
  refine ldU k.val 672 0 (Nat.lt_succ_self _) (k0_off88_eq k) ?_
  refine ldU k.val 680 0 (Nat.lt_succ_self _) (k0_off89_eq k) ?_
  refine ldU k.val 688 0 (Nat.lt_succ_self _) (k0_off90_eq k) ?_
  refine ldU k.val 696 0 (Nat.lt_succ_self _) (k0_off91_eq k) ?_
  exact h

theorem t1_19 {R : sProp 𝕄} {Q : α → sProp 𝕄} (k : Fin k0_t1_loop.trips) {arg18 : BitVec 32} {f : (Σ' (v1397 : FVec F S8x256 .f32) (v1399 : FVec F S8x256 .f32) (v1400 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 92), (s2c (tl x0 x1 k.val 0) 92), (mxc (tl x0 x1 k.val 0) 92), (mnc (tl x0 x1 k.val 0) 92)⟩) Q) :
    St c x0 x1 R on (k.val + 1) s1 s2 mx mn ⊢ WP c (ap k0_part19 a2 ha2 a3 ha3 a5 ha5 k arg18 (k0_pay1 on) (s1c (tl x0 x1 k.val 0) (k0_pay1 on) 87) (s2c (tl x0 x1 k.val 0) 87) (mxc (tl x0 x1 k.val 0) 87) (mnc (tl x0 x1 k.val 0) 87) >>= f) Q := by
  rw [k0_part19_eq_skeleton]
  refine ldU k.val 704 0 (Nat.lt_succ_self _) (k0_off92_eq k) ?_
  refine ldU k.val 712 0 (Nat.lt_succ_self _) (k0_off93_eq k) ?_
  refine ldU k.val 720 0 (Nat.lt_succ_self _) (k0_off94_eq k) ?_
  refine ldU k.val 728 0 (Nat.lt_succ_self _) (k0_off95_eq k) ?_
  refine ldU k.val 736 0 (Nat.lt_succ_self _) (k0_off96_eq k) ?_
  exact h

theorem t1_20 {R : sProp 𝕄} {Q : α → sProp 𝕄} (k : Fin k0_t1_loop.trips) {arg18 : BitVec 32} {f : (Σ' (v1447 : FVec F S8x256 .f32) (v1449 : FVec F S8x256 .f32) (v1450 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 97), (s2c (tl x0 x1 k.val 0) 97), (mxc (tl x0 x1 k.val 0) 97), (mnc (tl x0 x1 k.val 0) 97)⟩) Q) :
    St c x0 x1 R on (k.val + 1) s1 s2 mx mn ⊢ WP c (ap k0_part20 a2 ha2 a3 ha3 a5 ha5 k arg18 (k0_pay1 on) (s1c (tl x0 x1 k.val 0) (k0_pay1 on) 92) (s2c (tl x0 x1 k.val 0) 92) (mxc (tl x0 x1 k.val 0) 92) (mnc (tl x0 x1 k.val 0) 92) >>= f) Q := by
  rw [k0_part20_eq_skeleton]
  refine ldU k.val 744 0 (Nat.lt_succ_self _) (k0_off97_eq k) ?_
  refine ldU k.val 752 0 (Nat.lt_succ_self _) (k0_off98_eq k) ?_
  refine ldU k.val 760 0 (Nat.lt_succ_self _) (k0_off99_eq k) ?_
  refine ldU k.val 768 0 (Nat.lt_succ_self _) (k0_off100_eq k) ?_
  refine ldU k.val 776 0 (Nat.lt_succ_self _) (k0_off101_eq k) ?_
  exact h

theorem t1_21 {R : sProp 𝕄} {Q : α → sProp 𝕄} (k : Fin k0_t1_loop.trips) {arg18 : BitVec 32} {f : (Σ' (v1497 : FVec F S8x256 .f32) (v1499 : FVec F S8x256 .f32) (v1500 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 102), (s2c (tl x0 x1 k.val 0) 102), (mxc (tl x0 x1 k.val 0) 102), (mnc (tl x0 x1 k.val 0) 102)⟩) Q) :
    St c x0 x1 R on (k.val + 1) s1 s2 mx mn ⊢ WP c (ap k0_part21 a2 ha2 a3 ha3 a5 ha5 k arg18 (k0_pay1 on) (s1c (tl x0 x1 k.val 0) (k0_pay1 on) 97) (s2c (tl x0 x1 k.val 0) 97) (mxc (tl x0 x1 k.val 0) 97) (mnc (tl x0 x1 k.val 0) 97) >>= f) Q := by
  rw [k0_part21_eq_skeleton]
  refine ldU k.val 784 0 (Nat.lt_succ_self _) (k0_off102_eq k) ?_
  refine ldU k.val 792 0 (Nat.lt_succ_self _) (k0_off103_eq k) ?_
  refine ldU k.val 800 0 (Nat.lt_succ_self _) (k0_off104_eq k) ?_
  refine ldU k.val 808 0 (Nat.lt_succ_self _) (k0_off105_eq k) ?_
  refine ldU k.val 816 0 (Nat.lt_succ_self _) (k0_off106_eq k) ?_
  exact h

theorem t1_22 {R : sProp 𝕄} {Q : α → sProp 𝕄} (k : Fin k0_t1_loop.trips) {arg18 : BitVec 32} {f : (Σ' (v1547 : FVec F S8x256 .f32) (v1549 : FVec F S8x256 .f32) (v1550 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 107), (s2c (tl x0 x1 k.val 0) 107), (mxc (tl x0 x1 k.val 0) 107), (mnc (tl x0 x1 k.val 0) 107)⟩) Q) :
    St c x0 x1 R on (k.val + 1) s1 s2 mx mn ⊢ WP c (ap k0_part22 a2 ha2 a3 ha3 a5 ha5 k arg18 (k0_pay1 on) (s1c (tl x0 x1 k.val 0) (k0_pay1 on) 102) (s2c (tl x0 x1 k.val 0) 102) (mxc (tl x0 x1 k.val 0) 102) (mnc (tl x0 x1 k.val 0) 102) >>= f) Q := by
  rw [k0_part22_eq_skeleton]
  refine ldU k.val 824 0 (Nat.lt_succ_self _) (k0_off107_eq k) ?_
  refine ldU k.val 832 0 (Nat.lt_succ_self _) (k0_off108_eq k) ?_
  refine ldU k.val 840 0 (Nat.lt_succ_self _) (k0_off109_eq k) ?_
  refine ldU k.val 848 0 (Nat.lt_succ_self _) (k0_off110_eq k) ?_
  refine ldU k.val 856 0 (Nat.lt_succ_self _) (k0_off111_eq k) ?_
  exact h

theorem t1_23 {R : sProp 𝕄} {Q : α → sProp 𝕄} (k : Fin k0_t1_loop.trips) {arg18 : BitVec 32} {f : (Σ' (v1597 : FVec F S8x256 .f32) (v1599 : FVec F S8x256 .f32) (v1600 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 112), (s2c (tl x0 x1 k.val 0) 112), (mxc (tl x0 x1 k.val 0) 112), (mnc (tl x0 x1 k.val 0) 112)⟩) Q) :
    St c x0 x1 R on (k.val + 1) s1 s2 mx mn ⊢ WP c (ap k0_part23 a2 ha2 a3 ha3 a5 ha5 k arg18 (k0_pay1 on) (s1c (tl x0 x1 k.val 0) (k0_pay1 on) 107) (s2c (tl x0 x1 k.val 0) 107) (mxc (tl x0 x1 k.val 0) 107) (mnc (tl x0 x1 k.val 0) 107) >>= f) Q := by
  rw [k0_part23_eq_skeleton]
  refine ldU k.val 864 0 (Nat.lt_succ_self _) (k0_off112_eq k) ?_
  refine ldU k.val 872 0 (Nat.lt_succ_self _) (k0_off113_eq k) ?_
  refine ldU k.val 880 0 (Nat.lt_succ_self _) (k0_off114_eq k) ?_
  refine ldU k.val 888 0 (Nat.lt_succ_self _) (k0_off115_eq k) ?_
  refine ldU k.val 896 0 (Nat.lt_succ_self _) (k0_off116_eq k) ?_
  exact h

theorem t1_24 {R : sProp 𝕄} {Q : α → sProp 𝕄} (k : Fin k0_t1_loop.trips) {arg18 : BitVec 32} {f : (Σ' (v1647 : FVec F S8x256 .f32) (v1649 : FVec F S8x256 .f32) (v1650 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 117), (s2c (tl x0 x1 k.val 0) 117), (mxc (tl x0 x1 k.val 0) 117), (mnc (tl x0 x1 k.val 0) 117)⟩) Q) :
    St c x0 x1 R on (k.val + 1) s1 s2 mx mn ⊢ WP c (ap k0_part24 a2 ha2 a3 ha3 a5 ha5 k arg18 (k0_pay1 on) (s1c (tl x0 x1 k.val 0) (k0_pay1 on) 112) (s2c (tl x0 x1 k.val 0) 112) (mxc (tl x0 x1 k.val 0) 112) (mnc (tl x0 x1 k.val 0) 112) >>= f) Q := by
  rw [k0_part24_eq_skeleton]
  refine ldU k.val 904 0 (Nat.lt_succ_self _) (k0_off117_eq k) ?_
  refine ldU k.val 912 0 (Nat.lt_succ_self _) (k0_off118_eq k) ?_
  refine ldU k.val 920 0 (Nat.lt_succ_self _) (k0_off119_eq k) ?_
  refine ldU k.val 928 0 (Nat.lt_succ_self _) (k0_off120_eq k) ?_
  refine ldU k.val 936 0 (Nat.lt_succ_self _) (k0_off121_eq k) ?_
  exact h

theorem t1_25 {R : sProp 𝕄} {Q : α → sProp 𝕄} (k : Fin k0_t1_loop.trips) {arg18 : BitVec 32} {f : (Σ' (v1697 : FVec F S8x256 .f32) (v1699 : FVec F S8x256 .f32) (v1700 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 122), (s2c (tl x0 x1 k.val 0) 122), (mxc (tl x0 x1 k.val 0) 122), (mnc (tl x0 x1 k.val 0) 122)⟩) Q) :
    St c x0 x1 R on (k.val + 1) s1 s2 mx mn ⊢ WP c (ap k0_part25 a2 ha2 a3 ha3 a5 ha5 k arg18 (k0_pay1 on) (s1c (tl x0 x1 k.val 0) (k0_pay1 on) 117) (s2c (tl x0 x1 k.val 0) 117) (mxc (tl x0 x1 k.val 0) 117) (mnc (tl x0 x1 k.val 0) 117) >>= f) Q := by
  rw [k0_part25_eq_skeleton]
  refine ldU k.val 944 0 (Nat.lt_succ_self _) (k0_off122_eq k) ?_
  refine ldU k.val 952 0 (Nat.lt_succ_self _) (k0_off123_eq k) ?_
  refine ldU k.val 960 0 (Nat.lt_succ_self _) (k0_off124_eq k) ?_
  refine ldU k.val 968 0 (Nat.lt_succ_self _) (k0_off125_eq k) ?_
  refine ldU k.val 976 0 (Nat.lt_succ_self _) (k0_off126_eq k) ?_
  exact h

theorem t1_26 {R : sProp 𝕄} {Q : α → sProp 𝕄} (k : Fin k0_t1_loop.trips) {arg18 : BitVec 32} {f : (Σ' (v1747 : FVec F S8x256 .f32) (v1749 : FVec F S8x256 .f32) (v1750 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 127), (s2c (tl x0 x1 k.val 0) 127), (mxc (tl x0 x1 k.val 0) 127), (mnc (tl x0 x1 k.val 0) 127)⟩) Q) :
    St c x0 x1 R on (k.val + 1) s1 s2 mx mn ⊢ WP c (ap k0_part26 a2 ha2 a3 ha3 a5 ha5 k arg18 (k0_pay1 on) (s1c (tl x0 x1 k.val 0) (k0_pay1 on) 122) (s2c (tl x0 x1 k.val 0) 122) (mxc (tl x0 x1 k.val 0) 122) (mnc (tl x0 x1 k.val 0) 122) >>= f) Q := by
  rw [k0_part26_eq_skeleton]
  refine ldU k.val 984 0 (Nat.lt_succ_self _) (k0_off127_eq k) ?_
  refine ldU k.val 992 0 (Nat.lt_succ_self _) (k0_off128_eq k) ?_
  refine ldU k.val 1000 0 (Nat.lt_succ_self _) (k0_off129_eq k) ?_
  refine ldU k.val 1008 0 (Nat.lt_succ_self _) (k0_off130_eq k) ?_
  refine ldU k.val 1016 0 (Nat.lt_succ_self _) (k0_off131_eq k) ?_
  exact h

theorem t1_27 {R : sProp 𝕄} {Q : α → sProp 𝕄} (k : Fin k0_t1_loop.trips) {arg18 : BitVec 32} {f : (Σ' (v1780 : FVec F S8x256 .bf16) (v1786 : FVec F S8x256 .bf16) (v1789 : FVec F S8x256 .f32) (v1791 : FVec F S8x256 .f32), FVec F S8x256 .bf16) → Prog (TpuEff nD τ sig (Elt F) Λ₀ .tc) α}
    (h : St c x0 x1 R on (k.val + 1) (wr4 mS1 s1 (k0_off132 k) (k0_off132_inb k) (k0_pay362 (s1c (tl x0 x1 k.val 0) (k0_pay1 on) 127))) (wr4 mS2 s2 (k0_off132 k) (k0_off132_inb k) (k0_pay362 (s2c (tl x0 x1 k.val 0) 127))) (wr4 mMx mx (k0_off132 k) (k0_off132_inb k) (k0_pay364 (mxc (tl x0 x1 k.val 0) 127))) (wr4 mMn mn (k0_off132 k) (k0_off132_inb k) (finMn (mnc (tl x0 x1 k.val 0) 127))) ⊢ WP c (f ⟨(cB (tl x0 x1 k.val 1) 0), (cB (tl x0 x1 k.val 1) 1), (s1c (tl x0 x1 k.val 1) (k0_pay1 on) 1), (s2c (tl x0 x1 k.val 1) 1), (mxc (tl x0 x1 k.val 1) 1)⟩) Q) :
    St c x0 x1 R on (k.val + 1) s1 s2 mx mn ⊢ WP c (ap k0_part27 a2 ha2 a3 ha3 a5 ha5 k arg18 (k0_pay1 on) (s1c (tl x0 x1 k.val 0) (k0_pay1 on) 127) (s2c (tl x0 x1 k.val 0) 127) (mxc (tl x0 x1 k.val 0) 127) (mnc (tl x0 x1 k.val 0) 127) >>= f) Q := by
  rw [k0_part27_eq_skeleton]
  refine ddS1 ?_
  refine stS1 ?_
  refine ddS2 ?_
  refine stS2 ?_
  refine ddMx ?_
  refine stMx ?_
  refine ddMn ?_
  refine stMn ?_
  refine ldU k.val 0 256 (Nat.lt_succ_self _) (k0_off133_eq k) ?_
  refine ldU k.val 8 256 (Nat.lt_succ_self _) (k0_off134_eq k) ?_
  exact h

theorem t1_28 {R : sProp 𝕄} {Q : α → sProp 𝕄} (k : Fin k0_t1_loop.trips) {arg18 : BitVec 32} {f : (Σ' (v1833 : FVec F S8x256 .bf16) (v1836 : FVec F S8x256 .bf16) (v1839 : FVec F S8x256 .f32) (v1841 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 5), (cB (tl x0 x1 k.val 1) 6), (s1c (tl x0 x1 k.val 1) (k0_pay1 on) 6), (s2c (tl x0 x1 k.val 1) 6), (mxc (tl x0 x1 k.val 1) 6)⟩) Q) :
    St c x0 x1 R on (k.val + 1) s1 s2 mx mn ⊢ WP c (ap k0_part28 a2 ha2 a3 ha3 a5 ha5 k arg18 (k0_pay1 on) (cB (tl x0 x1 k.val 1) 0) (cB (tl x0 x1 k.val 1) 1) (s1c (tl x0 x1 k.val 1) (k0_pay1 on) 1) (s2c (tl x0 x1 k.val 1) 1) (mxc (tl x0 x1 k.val 1) 1) >>= f) Q := by
  rw [k0_part28_eq_skeleton]
  refine ldU k.val 16 256 (Nat.lt_succ_self _) (k0_off135_eq k) ?_
  refine ldU k.val 24 256 (Nat.lt_succ_self _) (k0_off136_eq k) ?_
  refine ldU k.val 32 256 (Nat.lt_succ_self _) (k0_off137_eq k) ?_
  refine ldU k.val 40 256 (Nat.lt_succ_self _) (k0_off138_eq k) ?_
  refine ldU k.val 48 256 (Nat.lt_succ_self _) (k0_off139_eq k) ?_
  exact h

theorem t1_29 {R : sProp 𝕄} {Q : α → sProp 𝕄} (k : Fin k0_t1_loop.trips) {arg18 : BitVec 32} {f : (Σ' (v1883 : FVec F S8x256 .bf16) (v1886 : FVec F S8x256 .bf16) (v1889 : FVec F S8x256 .f32) (v1891 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 10), (cB (tl x0 x1 k.val 1) 11), (s1c (tl x0 x1 k.val 1) (k0_pay1 on) 11), (s2c (tl x0 x1 k.val 1) 11), (mxc (tl x0 x1 k.val 1) 11)⟩) Q) :
    St c x0 x1 R on (k.val + 1) s1 s2 mx mn ⊢ WP c (ap k0_part29 a2 ha2 a3 ha3 a5 ha5 k arg18 (k0_pay1 on) (mnc (tl x0 x1 k.val 1) 5) (cB (tl x0 x1 k.val 1) 6) (s1c (tl x0 x1 k.val 1) (k0_pay1 on) 6) (s2c (tl x0 x1 k.val 1) 6) (mxc (tl x0 x1 k.val 1) 6) >>= f) Q := by
  rw [k0_part29_eq_skeleton]
  refine ldU k.val 56 256 (Nat.lt_succ_self _) (k0_off140_eq k) ?_
  refine ldU k.val 64 256 (Nat.lt_succ_self _) (k0_off141_eq k) ?_
  refine ldU k.val 72 256 (Nat.lt_succ_self _) (k0_off142_eq k) ?_
  refine ldU k.val 80 256 (Nat.lt_succ_self _) (k0_off143_eq k) ?_
  refine ldU k.val 88 256 (Nat.lt_succ_self _) (k0_off144_eq k) ?_
  exact h

theorem t1_30 {R : sProp 𝕄} {Q : α → sProp 𝕄} (k : Fin k0_t1_loop.trips) {arg18 : BitVec 32} {f : (Σ' (v1933 : FVec F S8x256 .bf16) (v1936 : FVec F S8x256 .bf16) (v1939 : FVec F S8x256 .f32) (v1941 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 15), (cB (tl x0 x1 k.val 1) 16), (s1c (tl x0 x1 k.val 1) (k0_pay1 on) 16), (s2c (tl x0 x1 k.val 1) 16), (mxc (tl x0 x1 k.val 1) 16)⟩) Q) :
    St c x0 x1 R on (k.val + 1) s1 s2 mx mn ⊢ WP c (ap k0_part30 a2 ha2 a3 ha3 a5 ha5 k arg18 (k0_pay1 on) (mnc (tl x0 x1 k.val 1) 10) (cB (tl x0 x1 k.val 1) 11) (s1c (tl x0 x1 k.val 1) (k0_pay1 on) 11) (s2c (tl x0 x1 k.val 1) 11) (mxc (tl x0 x1 k.val 1) 11) >>= f) Q := by
  rw [k0_part30_eq_skeleton]
  refine ldU k.val 96 256 (Nat.lt_succ_self _) (k0_off145_eq k) ?_
  refine ldU k.val 104 256 (Nat.lt_succ_self _) (k0_off146_eq k) ?_
  refine ldU k.val 112 256 (Nat.lt_succ_self _) (k0_off147_eq k) ?_
  refine ldU k.val 120 256 (Nat.lt_succ_self _) (k0_off148_eq k) ?_
  refine ldU k.val 128 256 (Nat.lt_succ_self _) (k0_off149_eq k) ?_
  exact h

theorem t1_31 {R : sProp 𝕄} {Q : α → sProp 𝕄} (k : Fin k0_t1_loop.trips) {arg18 : BitVec 32} {f : (Σ' (v1983 : FVec F S8x256 .bf16) (v1986 : FVec F S8x256 .bf16) (v1989 : FVec F S8x256 .f32) (v1991 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 20), (cB (tl x0 x1 k.val 1) 21), (s1c (tl x0 x1 k.val 1) (k0_pay1 on) 21), (s2c (tl x0 x1 k.val 1) 21), (mxc (tl x0 x1 k.val 1) 21)⟩) Q) :
    St c x0 x1 R on (k.val + 1) s1 s2 mx mn ⊢ WP c (ap k0_part31 a2 ha2 a3 ha3 a5 ha5 k arg18 (k0_pay1 on) (mnc (tl x0 x1 k.val 1) 15) (cB (tl x0 x1 k.val 1) 16) (s1c (tl x0 x1 k.val 1) (k0_pay1 on) 16) (s2c (tl x0 x1 k.val 1) 16) (mxc (tl x0 x1 k.val 1) 16) >>= f) Q := by
  rw [k0_part31_eq_skeleton]
  refine ldU k.val 136 256 (Nat.lt_succ_self _) (k0_off150_eq k) ?_
  refine ldU k.val 144 256 (Nat.lt_succ_self _) (k0_off151_eq k) ?_
  refine ldU k.val 152 256 (Nat.lt_succ_self _) (k0_off152_eq k) ?_
  refine ldU k.val 160 256 (Nat.lt_succ_self _) (k0_off153_eq k) ?_
  refine ldU k.val 168 256 (Nat.lt_succ_self _) (k0_off154_eq k) ?_
  exact h

theorem t1_32 {R : sProp 𝕄} {Q : α → sProp 𝕄} (k : Fin k0_t1_loop.trips) {arg18 : BitVec 32} {f : (Σ' (v2033 : FVec F S8x256 .bf16) (v2036 : FVec F S8x256 .bf16) (v2039 : FVec F S8x256 .f32) (v2041 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 25), (cB (tl x0 x1 k.val 1) 26), (s1c (tl x0 x1 k.val 1) (k0_pay1 on) 26), (s2c (tl x0 x1 k.val 1) 26), (mxc (tl x0 x1 k.val 1) 26)⟩) Q) :
    St c x0 x1 R on (k.val + 1) s1 s2 mx mn ⊢ WP c (ap k0_part32 a2 ha2 a3 ha3 a5 ha5 k arg18 (k0_pay1 on) (mnc (tl x0 x1 k.val 1) 20) (cB (tl x0 x1 k.val 1) 21) (s1c (tl x0 x1 k.val 1) (k0_pay1 on) 21) (s2c (tl x0 x1 k.val 1) 21) (mxc (tl x0 x1 k.val 1) 21) >>= f) Q := by
  rw [k0_part32_eq_skeleton]
  refine ldU k.val 176 256 (Nat.lt_succ_self _) (k0_off155_eq k) ?_
  refine ldU k.val 184 256 (Nat.lt_succ_self _) (k0_off156_eq k) ?_
  refine ldU k.val 192 256 (Nat.lt_succ_self _) (k0_off157_eq k) ?_
  refine ldU k.val 200 256 (Nat.lt_succ_self _) (k0_off158_eq k) ?_
  refine ldU k.val 208 256 (Nat.lt_succ_self _) (k0_off159_eq k) ?_
  exact h

theorem t1_33 {R : sProp 𝕄} {Q : α → sProp 𝕄} (k : Fin k0_t1_loop.trips) {arg18 : BitVec 32} {f : (Σ' (v2083 : FVec F S8x256 .bf16) (v2086 : FVec F S8x256 .bf16) (v2089 : FVec F S8x256 .f32) (v2091 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 30), (cB (tl x0 x1 k.val 1) 31), (s1c (tl x0 x1 k.val 1) (k0_pay1 on) 31), (s2c (tl x0 x1 k.val 1) 31), (mxc (tl x0 x1 k.val 1) 31)⟩) Q) :
    St c x0 x1 R on (k.val + 1) s1 s2 mx mn ⊢ WP c (ap k0_part33 a2 ha2 a3 ha3 a5 ha5 k arg18 (k0_pay1 on) (mnc (tl x0 x1 k.val 1) 25) (cB (tl x0 x1 k.val 1) 26) (s1c (tl x0 x1 k.val 1) (k0_pay1 on) 26) (s2c (tl x0 x1 k.val 1) 26) (mxc (tl x0 x1 k.val 1) 26) >>= f) Q := by
  rw [k0_part33_eq_skeleton]
  refine ldU k.val 216 256 (Nat.lt_succ_self _) (k0_off160_eq k) ?_
  refine ldU k.val 224 256 (Nat.lt_succ_self _) (k0_off161_eq k) ?_
  refine ldU k.val 232 256 (Nat.lt_succ_self _) (k0_off162_eq k) ?_
  refine ldU k.val 240 256 (Nat.lt_succ_self _) (k0_off163_eq k) ?_
  refine ldU k.val 248 256 (Nat.lt_succ_self _) (k0_off164_eq k) ?_
  exact h

theorem t1_34 {R : sProp 𝕄} {Q : α → sProp 𝕄} (k : Fin k0_t1_loop.trips) {arg18 : BitVec 32} {f : (Σ' (v2133 : FVec F S8x256 .bf16) (v2136 : FVec F S8x256 .bf16) (v2139 : FVec F S8x256 .f32) (v2141 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 35), (cB (tl x0 x1 k.val 1) 36), (s1c (tl x0 x1 k.val 1) (k0_pay1 on) 36), (s2c (tl x0 x1 k.val 1) 36), (mxc (tl x0 x1 k.val 1) 36)⟩) Q) :
    St c x0 x1 R on (k.val + 1) s1 s2 mx mn ⊢ WP c (ap k0_part34 a2 ha2 a3 ha3 a5 ha5 k arg18 (k0_pay1 on) (mnc (tl x0 x1 k.val 1) 30) (cB (tl x0 x1 k.val 1) 31) (s1c (tl x0 x1 k.val 1) (k0_pay1 on) 31) (s2c (tl x0 x1 k.val 1) 31) (mxc (tl x0 x1 k.val 1) 31) >>= f) Q := by
  rw [k0_part34_eq_skeleton]
  refine ldU k.val 256 256 (Nat.lt_succ_self _) (k0_off165_eq k) ?_
  refine ldU k.val 264 256 (Nat.lt_succ_self _) (k0_off166_eq k) ?_
  refine ldU k.val 272 256 (Nat.lt_succ_self _) (k0_off167_eq k) ?_
  refine ldU k.val 280 256 (Nat.lt_succ_self _) (k0_off168_eq k) ?_
  refine ldU k.val 288 256 (Nat.lt_succ_self _) (k0_off169_eq k) ?_
  exact h

theorem t1_35 {R : sProp 𝕄} {Q : α → sProp 𝕄} (k : Fin k0_t1_loop.trips) {arg18 : BitVec 32} {f : (Σ' (v2183 : FVec F S8x256 .bf16) (v2186 : FVec F S8x256 .bf16) (v2189 : FVec F S8x256 .f32) (v2191 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 40), (cB (tl x0 x1 k.val 1) 41), (s1c (tl x0 x1 k.val 1) (k0_pay1 on) 41), (s2c (tl x0 x1 k.val 1) 41), (mxc (tl x0 x1 k.val 1) 41)⟩) Q) :
    St c x0 x1 R on (k.val + 1) s1 s2 mx mn ⊢ WP c (ap k0_part35 a2 ha2 a3 ha3 a5 ha5 k arg18 (k0_pay1 on) (mnc (tl x0 x1 k.val 1) 35) (cB (tl x0 x1 k.val 1) 36) (s1c (tl x0 x1 k.val 1) (k0_pay1 on) 36) (s2c (tl x0 x1 k.val 1) 36) (mxc (tl x0 x1 k.val 1) 36) >>= f) Q := by
  rw [k0_part35_eq_skeleton]
  refine ldU k.val 296 256 (Nat.lt_succ_self _) (k0_off170_eq k) ?_
  refine ldU k.val 304 256 (Nat.lt_succ_self _) (k0_off171_eq k) ?_
  refine ldU k.val 312 256 (Nat.lt_succ_self _) (k0_off172_eq k) ?_
  refine ldU k.val 320 256 (Nat.lt_succ_self _) (k0_off173_eq k) ?_
  refine ldU k.val 328 256 (Nat.lt_succ_self _) (k0_off174_eq k) ?_
  exact h

theorem t1_36 {R : sProp 𝕄} {Q : α → sProp 𝕄} (k : Fin k0_t1_loop.trips) {arg18 : BitVec 32} {f : (Σ' (v2233 : FVec F S8x256 .bf16) (v2236 : FVec F S8x256 .bf16) (v2239 : FVec F S8x256 .f32) (v2241 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 45), (cB (tl x0 x1 k.val 1) 46), (s1c (tl x0 x1 k.val 1) (k0_pay1 on) 46), (s2c (tl x0 x1 k.val 1) 46), (mxc (tl x0 x1 k.val 1) 46)⟩) Q) :
    St c x0 x1 R on (k.val + 1) s1 s2 mx mn ⊢ WP c (ap k0_part36 a2 ha2 a3 ha3 a5 ha5 k arg18 (k0_pay1 on) (mnc (tl x0 x1 k.val 1) 40) (cB (tl x0 x1 k.val 1) 41) (s1c (tl x0 x1 k.val 1) (k0_pay1 on) 41) (s2c (tl x0 x1 k.val 1) 41) (mxc (tl x0 x1 k.val 1) 41) >>= f) Q := by
  rw [k0_part36_eq_skeleton]
  refine ldU k.val 336 256 (Nat.lt_succ_self _) (k0_off175_eq k) ?_
  refine ldU k.val 344 256 (Nat.lt_succ_self _) (k0_off176_eq k) ?_
  refine ldU k.val 352 256 (Nat.lt_succ_self _) (k0_off177_eq k) ?_
  refine ldU k.val 360 256 (Nat.lt_succ_self _) (k0_off178_eq k) ?_
  refine ldU k.val 368 256 (Nat.lt_succ_self _) (k0_off179_eq k) ?_
  exact h

theorem t1_37 {R : sProp 𝕄} {Q : α → sProp 𝕄} (k : Fin k0_t1_loop.trips) {arg18 : BitVec 32} {f : (Σ' (v2283 : FVec F S8x256 .bf16) (v2286 : FVec F S8x256 .bf16) (v2289 : FVec F S8x256 .f32) (v2291 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 50), (cB (tl x0 x1 k.val 1) 51), (s1c (tl x0 x1 k.val 1) (k0_pay1 on) 51), (s2c (tl x0 x1 k.val 1) 51), (mxc (tl x0 x1 k.val 1) 51)⟩) Q) :
    St c x0 x1 R on (k.val + 1) s1 s2 mx mn ⊢ WP c (ap k0_part37 a2 ha2 a3 ha3 a5 ha5 k arg18 (k0_pay1 on) (mnc (tl x0 x1 k.val 1) 45) (cB (tl x0 x1 k.val 1) 46) (s1c (tl x0 x1 k.val 1) (k0_pay1 on) 46) (s2c (tl x0 x1 k.val 1) 46) (mxc (tl x0 x1 k.val 1) 46) >>= f) Q := by
  rw [k0_part37_eq_skeleton]
  refine ldU k.val 376 256 (Nat.lt_succ_self _) (k0_off180_eq k) ?_
  refine ldU k.val 384 256 (Nat.lt_succ_self _) (k0_off181_eq k) ?_
  refine ldU k.val 392 256 (Nat.lt_succ_self _) (k0_off182_eq k) ?_
  refine ldU k.val 400 256 (Nat.lt_succ_self _) (k0_off183_eq k) ?_
  refine ldU k.val 408 256 (Nat.lt_succ_self _) (k0_off184_eq k) ?_
  exact h

theorem t1_38 {R : sProp 𝕄} {Q : α → sProp 𝕄} (k : Fin k0_t1_loop.trips) {arg18 : BitVec 32} {f : (Σ' (v2333 : FVec F S8x256 .bf16) (v2336 : FVec F S8x256 .bf16) (v2339 : FVec F S8x256 .f32) (v2341 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 55), (cB (tl x0 x1 k.val 1) 56), (s1c (tl x0 x1 k.val 1) (k0_pay1 on) 56), (s2c (tl x0 x1 k.val 1) 56), (mxc (tl x0 x1 k.val 1) 56)⟩) Q) :
    St c x0 x1 R on (k.val + 1) s1 s2 mx mn ⊢ WP c (ap k0_part38 a2 ha2 a3 ha3 a5 ha5 k arg18 (k0_pay1 on) (mnc (tl x0 x1 k.val 1) 50) (cB (tl x0 x1 k.val 1) 51) (s1c (tl x0 x1 k.val 1) (k0_pay1 on) 51) (s2c (tl x0 x1 k.val 1) 51) (mxc (tl x0 x1 k.val 1) 51) >>= f) Q := by
  rw [k0_part38_eq_skeleton]
  refine ldU k.val 416 256 (Nat.lt_succ_self _) (k0_off185_eq k) ?_
  refine ldU k.val 424 256 (Nat.lt_succ_self _) (k0_off186_eq k) ?_
  refine ldU k.val 432 256 (Nat.lt_succ_self _) (k0_off187_eq k) ?_
  refine ldU k.val 440 256 (Nat.lt_succ_self _) (k0_off188_eq k) ?_
  refine ldU k.val 448 256 (Nat.lt_succ_self _) (k0_off189_eq k) ?_
  exact h

theorem t1_39 {R : sProp 𝕄} {Q : α → sProp 𝕄} (k : Fin k0_t1_loop.trips) {arg18 : BitVec 32} {f : (Σ' (v2383 : FVec F S8x256 .bf16) (v2386 : FVec F S8x256 .bf16) (v2389 : FVec F S8x256 .f32) (v2391 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 60), (cB (tl x0 x1 k.val 1) 61), (s1c (tl x0 x1 k.val 1) (k0_pay1 on) 61), (s2c (tl x0 x1 k.val 1) 61), (mxc (tl x0 x1 k.val 1) 61)⟩) Q) :
    St c x0 x1 R on (k.val + 1) s1 s2 mx mn ⊢ WP c (ap k0_part39 a2 ha2 a3 ha3 a5 ha5 k arg18 (k0_pay1 on) (mnc (tl x0 x1 k.val 1) 55) (cB (tl x0 x1 k.val 1) 56) (s1c (tl x0 x1 k.val 1) (k0_pay1 on) 56) (s2c (tl x0 x1 k.val 1) 56) (mxc (tl x0 x1 k.val 1) 56) >>= f) Q := by
  rw [k0_part39_eq_skeleton]
  refine ldU k.val 456 256 (Nat.lt_succ_self _) (k0_off190_eq k) ?_
  refine ldU k.val 464 256 (Nat.lt_succ_self _) (k0_off191_eq k) ?_
  refine ldU k.val 472 256 (Nat.lt_succ_self _) (k0_off192_eq k) ?_
  refine ldU k.val 480 256 (Nat.lt_succ_self _) (k0_off193_eq k) ?_
  refine ldU k.val 488 256 (Nat.lt_succ_self _) (k0_off194_eq k) ?_
  exact h

theorem t1_40 {R : sProp 𝕄} {Q : α → sProp 𝕄} (k : Fin k0_t1_loop.trips) {arg18 : BitVec 32} {f : (Σ' (v2433 : FVec F S8x256 .bf16) (v2436 : FVec F S8x256 .bf16) (v2439 : FVec F S8x256 .f32) (v2441 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 65), (cB (tl x0 x1 k.val 1) 66), (s1c (tl x0 x1 k.val 1) (k0_pay1 on) 66), (s2c (tl x0 x1 k.val 1) 66), (mxc (tl x0 x1 k.val 1) 66)⟩) Q) :
    St c x0 x1 R on (k.val + 1) s1 s2 mx mn ⊢ WP c (ap k0_part40 a2 ha2 a3 ha3 a5 ha5 k arg18 (k0_pay1 on) (mnc (tl x0 x1 k.val 1) 60) (cB (tl x0 x1 k.val 1) 61) (s1c (tl x0 x1 k.val 1) (k0_pay1 on) 61) (s2c (tl x0 x1 k.val 1) 61) (mxc (tl x0 x1 k.val 1) 61) >>= f) Q := by
  rw [k0_part40_eq_skeleton]
  refine ldU k.val 496 256 (Nat.lt_succ_self _) (k0_off195_eq k) ?_
  refine ldU k.val 504 256 (Nat.lt_succ_self _) (k0_off196_eq k) ?_
  refine ldU k.val 512 256 (Nat.lt_succ_self _) (k0_off197_eq k) ?_
  refine ldU k.val 520 256 (Nat.lt_succ_self _) (k0_off198_eq k) ?_
  refine ldU k.val 528 256 (Nat.lt_succ_self _) (k0_off199_eq k) ?_
  exact h

theorem t1_41 {R : sProp 𝕄} {Q : α → sProp 𝕄} (k : Fin k0_t1_loop.trips) {arg18 : BitVec 32} {f : (Σ' (v2483 : FVec F S8x256 .bf16) (v2486 : FVec F S8x256 .bf16) (v2489 : FVec F S8x256 .f32) (v2491 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 70), (cB (tl x0 x1 k.val 1) 71), (s1c (tl x0 x1 k.val 1) (k0_pay1 on) 71), (s2c (tl x0 x1 k.val 1) 71), (mxc (tl x0 x1 k.val 1) 71)⟩) Q) :
    St c x0 x1 R on (k.val + 1) s1 s2 mx mn ⊢ WP c (ap k0_part41 a2 ha2 a3 ha3 a5 ha5 k arg18 (k0_pay1 on) (mnc (tl x0 x1 k.val 1) 65) (cB (tl x0 x1 k.val 1) 66) (s1c (tl x0 x1 k.val 1) (k0_pay1 on) 66) (s2c (tl x0 x1 k.val 1) 66) (mxc (tl x0 x1 k.val 1) 66) >>= f) Q := by
  rw [k0_part41_eq_skeleton]
  refine ldU k.val 536 256 (Nat.lt_succ_self _) (k0_off200_eq k) ?_
  refine ldU k.val 544 256 (Nat.lt_succ_self _) (k0_off201_eq k) ?_
  refine ldU k.val 552 256 (Nat.lt_succ_self _) (k0_off202_eq k) ?_
  refine ldU k.val 560 256 (Nat.lt_succ_self _) (k0_off203_eq k) ?_
  refine ldU k.val 568 256 (Nat.lt_succ_self _) (k0_off204_eq k) ?_
  exact h

theorem t1_42 {R : sProp 𝕄} {Q : α → sProp 𝕄} (k : Fin k0_t1_loop.trips) {arg18 : BitVec 32} {f : (Σ' (v2533 : FVec F S8x256 .bf16) (v2536 : FVec F S8x256 .bf16) (v2539 : FVec F S8x256 .f32) (v2541 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 75), (cB (tl x0 x1 k.val 1) 76), (s1c (tl x0 x1 k.val 1) (k0_pay1 on) 76), (s2c (tl x0 x1 k.val 1) 76), (mxc (tl x0 x1 k.val 1) 76)⟩) Q) :
    St c x0 x1 R on (k.val + 1) s1 s2 mx mn ⊢ WP c (ap k0_part42 a2 ha2 a3 ha3 a5 ha5 k arg18 (k0_pay1 on) (mnc (tl x0 x1 k.val 1) 70) (cB (tl x0 x1 k.val 1) 71) (s1c (tl x0 x1 k.val 1) (k0_pay1 on) 71) (s2c (tl x0 x1 k.val 1) 71) (mxc (tl x0 x1 k.val 1) 71) >>= f) Q := by
  rw [k0_part42_eq_skeleton]
  refine ldU k.val 576 256 (Nat.lt_succ_self _) (k0_off205_eq k) ?_
  refine ldU k.val 584 256 (Nat.lt_succ_self _) (k0_off206_eq k) ?_
  refine ldU k.val 592 256 (Nat.lt_succ_self _) (k0_off207_eq k) ?_
  refine ldU k.val 600 256 (Nat.lt_succ_self _) (k0_off208_eq k) ?_
  refine ldU k.val 608 256 (Nat.lt_succ_self _) (k0_off209_eq k) ?_
  exact h

theorem t1_43 {R : sProp 𝕄} {Q : α → sProp 𝕄} (k : Fin k0_t1_loop.trips) {arg18 : BitVec 32} {f : (Σ' (v2583 : FVec F S8x256 .bf16) (v2586 : FVec F S8x256 .bf16) (v2589 : FVec F S8x256 .f32) (v2591 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 80), (cB (tl x0 x1 k.val 1) 81), (s1c (tl x0 x1 k.val 1) (k0_pay1 on) 81), (s2c (tl x0 x1 k.val 1) 81), (mxc (tl x0 x1 k.val 1) 81)⟩) Q) :
    St c x0 x1 R on (k.val + 1) s1 s2 mx mn ⊢ WP c (ap k0_part43 a2 ha2 a3 ha3 a5 ha5 k arg18 (k0_pay1 on) (mnc (tl x0 x1 k.val 1) 75) (cB (tl x0 x1 k.val 1) 76) (s1c (tl x0 x1 k.val 1) (k0_pay1 on) 76) (s2c (tl x0 x1 k.val 1) 76) (mxc (tl x0 x1 k.val 1) 76) >>= f) Q := by
  rw [k0_part43_eq_skeleton]
  refine ldU k.val 616 256 (Nat.lt_succ_self _) (k0_off210_eq k) ?_
  refine ldU k.val 624 256 (Nat.lt_succ_self _) (k0_off211_eq k) ?_
  refine ldU k.val 632 256 (Nat.lt_succ_self _) (k0_off212_eq k) ?_
  refine ldU k.val 640 256 (Nat.lt_succ_self _) (k0_off213_eq k) ?_
  refine ldU k.val 648 256 (Nat.lt_succ_self _) (k0_off214_eq k) ?_
  exact h

theorem t1_44 {R : sProp 𝕄} {Q : α → sProp 𝕄} (k : Fin k0_t1_loop.trips) {arg18 : BitVec 32} {f : (Σ' (v2633 : FVec F S8x256 .bf16) (v2636 : FVec F S8x256 .bf16) (v2639 : FVec F S8x256 .f32) (v2641 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 85), (cB (tl x0 x1 k.val 1) 86), (s1c (tl x0 x1 k.val 1) (k0_pay1 on) 86), (s2c (tl x0 x1 k.val 1) 86), (mxc (tl x0 x1 k.val 1) 86)⟩) Q) :
    St c x0 x1 R on (k.val + 1) s1 s2 mx mn ⊢ WP c (ap k0_part44 a2 ha2 a3 ha3 a5 ha5 k arg18 (k0_pay1 on) (mnc (tl x0 x1 k.val 1) 80) (cB (tl x0 x1 k.val 1) 81) (s1c (tl x0 x1 k.val 1) (k0_pay1 on) 81) (s2c (tl x0 x1 k.val 1) 81) (mxc (tl x0 x1 k.val 1) 81) >>= f) Q := by
  rw [k0_part44_eq_skeleton]
  refine ldU k.val 656 256 (Nat.lt_succ_self _) (k0_off215_eq k) ?_
  refine ldU k.val 664 256 (Nat.lt_succ_self _) (k0_off216_eq k) ?_
  refine ldU k.val 672 256 (Nat.lt_succ_self _) (k0_off217_eq k) ?_
  refine ldU k.val 680 256 (Nat.lt_succ_self _) (k0_off218_eq k) ?_
  refine ldU k.val 688 256 (Nat.lt_succ_self _) (k0_off219_eq k) ?_
  exact h

theorem t1_45 {R : sProp 𝕄} {Q : α → sProp 𝕄} (k : Fin k0_t1_loop.trips) {arg18 : BitVec 32} {f : (Σ' (v2683 : FVec F S8x256 .bf16) (v2686 : FVec F S8x256 .bf16) (v2689 : FVec F S8x256 .f32) (v2691 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 90), (cB (tl x0 x1 k.val 1) 91), (s1c (tl x0 x1 k.val 1) (k0_pay1 on) 91), (s2c (tl x0 x1 k.val 1) 91), (mxc (tl x0 x1 k.val 1) 91)⟩) Q) :
    St c x0 x1 R on (k.val + 1) s1 s2 mx mn ⊢ WP c (ap k0_part45 a2 ha2 a3 ha3 a5 ha5 k arg18 (k0_pay1 on) (mnc (tl x0 x1 k.val 1) 85) (cB (tl x0 x1 k.val 1) 86) (s1c (tl x0 x1 k.val 1) (k0_pay1 on) 86) (s2c (tl x0 x1 k.val 1) 86) (mxc (tl x0 x1 k.val 1) 86) >>= f) Q := by
  rw [k0_part45_eq_skeleton]
  refine ldU k.val 696 256 (Nat.lt_succ_self _) (k0_off220_eq k) ?_
  refine ldU k.val 704 256 (Nat.lt_succ_self _) (k0_off221_eq k) ?_
  refine ldU k.val 712 256 (Nat.lt_succ_self _) (k0_off222_eq k) ?_
  refine ldU k.val 720 256 (Nat.lt_succ_self _) (k0_off223_eq k) ?_
  refine ldU k.val 728 256 (Nat.lt_succ_self _) (k0_off224_eq k) ?_
  exact h

theorem t1_46 {R : sProp 𝕄} {Q : α → sProp 𝕄} (k : Fin k0_t1_loop.trips) {arg18 : BitVec 32} {f : (Σ' (v2733 : FVec F S8x256 .bf16) (v2736 : FVec F S8x256 .bf16) (v2739 : FVec F S8x256 .f32) (v2741 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 95), (cB (tl x0 x1 k.val 1) 96), (s1c (tl x0 x1 k.val 1) (k0_pay1 on) 96), (s2c (tl x0 x1 k.val 1) 96), (mxc (tl x0 x1 k.val 1) 96)⟩) Q) :
    St c x0 x1 R on (k.val + 1) s1 s2 mx mn ⊢ WP c (ap k0_part46 a2 ha2 a3 ha3 a5 ha5 k arg18 (k0_pay1 on) (mnc (tl x0 x1 k.val 1) 90) (cB (tl x0 x1 k.val 1) 91) (s1c (tl x0 x1 k.val 1) (k0_pay1 on) 91) (s2c (tl x0 x1 k.val 1) 91) (mxc (tl x0 x1 k.val 1) 91) >>= f) Q := by
  rw [k0_part46_eq_skeleton]
  refine ldU k.val 736 256 (Nat.lt_succ_self _) (k0_off225_eq k) ?_
  refine ldU k.val 744 256 (Nat.lt_succ_self _) (k0_off226_eq k) ?_
  refine ldU k.val 752 256 (Nat.lt_succ_self _) (k0_off227_eq k) ?_
  refine ldU k.val 760 256 (Nat.lt_succ_self _) (k0_off228_eq k) ?_
  refine ldU k.val 768 256 (Nat.lt_succ_self _) (k0_off229_eq k) ?_
  exact h

theorem t1_47 {R : sProp 𝕄} {Q : α → sProp 𝕄} (k : Fin k0_t1_loop.trips) {arg18 : BitVec 32} {f : (Σ' (v2783 : FVec F S8x256 .bf16) (v2786 : FVec F S8x256 .bf16) (v2789 : FVec F S8x256 .f32) (v2791 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 100), (cB (tl x0 x1 k.val 1) 101), (s1c (tl x0 x1 k.val 1) (k0_pay1 on) 101), (s2c (tl x0 x1 k.val 1) 101), (mxc (tl x0 x1 k.val 1) 101)⟩) Q) :
    St c x0 x1 R on (k.val + 1) s1 s2 mx mn ⊢ WP c (ap k0_part47 a2 ha2 a3 ha3 a5 ha5 k arg18 (k0_pay1 on) (mnc (tl x0 x1 k.val 1) 95) (cB (tl x0 x1 k.val 1) 96) (s1c (tl x0 x1 k.val 1) (k0_pay1 on) 96) (s2c (tl x0 x1 k.val 1) 96) (mxc (tl x0 x1 k.val 1) 96) >>= f) Q := by
  rw [k0_part47_eq_skeleton]
  refine ldU k.val 776 256 (Nat.lt_succ_self _) (k0_off230_eq k) ?_
  refine ldU k.val 784 256 (Nat.lt_succ_self _) (k0_off231_eq k) ?_
  refine ldU k.val 792 256 (Nat.lt_succ_self _) (k0_off232_eq k) ?_
  refine ldU k.val 800 256 (Nat.lt_succ_self _) (k0_off233_eq k) ?_
  refine ldU k.val 808 256 (Nat.lt_succ_self _) (k0_off234_eq k) ?_
  exact h

theorem t1_48 {R : sProp 𝕄} {Q : α → sProp 𝕄} (k : Fin k0_t1_loop.trips) {arg18 : BitVec 32} {f : (Σ' (v2833 : FVec F S8x256 .bf16) (v2836 : FVec F S8x256 .bf16) (v2839 : FVec F S8x256 .f32) (v2841 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 105), (cB (tl x0 x1 k.val 1) 106), (s1c (tl x0 x1 k.val 1) (k0_pay1 on) 106), (s2c (tl x0 x1 k.val 1) 106), (mxc (tl x0 x1 k.val 1) 106)⟩) Q) :
    St c x0 x1 R on (k.val + 1) s1 s2 mx mn ⊢ WP c (ap k0_part48 a2 ha2 a3 ha3 a5 ha5 k arg18 (k0_pay1 on) (mnc (tl x0 x1 k.val 1) 100) (cB (tl x0 x1 k.val 1) 101) (s1c (tl x0 x1 k.val 1) (k0_pay1 on) 101) (s2c (tl x0 x1 k.val 1) 101) (mxc (tl x0 x1 k.val 1) 101) >>= f) Q := by
  rw [k0_part48_eq_skeleton]
  refine ldU k.val 816 256 (Nat.lt_succ_self _) (k0_off235_eq k) ?_
  refine ldU k.val 824 256 (Nat.lt_succ_self _) (k0_off236_eq k) ?_
  refine ldU k.val 832 256 (Nat.lt_succ_self _) (k0_off237_eq k) ?_
  refine ldU k.val 840 256 (Nat.lt_succ_self _) (k0_off238_eq k) ?_
  refine ldU k.val 848 256 (Nat.lt_succ_self _) (k0_off239_eq k) ?_
  exact h

theorem t1_49 {R : sProp 𝕄} {Q : α → sProp 𝕄} (k : Fin k0_t1_loop.trips) {arg18 : BitVec 32} {f : (Σ' (v2883 : FVec F S8x256 .bf16) (v2886 : FVec F S8x256 .bf16) (v2889 : FVec F S8x256 .f32) (v2891 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 110), (cB (tl x0 x1 k.val 1) 111), (s1c (tl x0 x1 k.val 1) (k0_pay1 on) 111), (s2c (tl x0 x1 k.val 1) 111), (mxc (tl x0 x1 k.val 1) 111)⟩) Q) :
    St c x0 x1 R on (k.val + 1) s1 s2 mx mn ⊢ WP c (ap k0_part49 a2 ha2 a3 ha3 a5 ha5 k arg18 (k0_pay1 on) (mnc (tl x0 x1 k.val 1) 105) (cB (tl x0 x1 k.val 1) 106) (s1c (tl x0 x1 k.val 1) (k0_pay1 on) 106) (s2c (tl x0 x1 k.val 1) 106) (mxc (tl x0 x1 k.val 1) 106) >>= f) Q := by
  rw [k0_part49_eq_skeleton]
  refine ldU k.val 856 256 (Nat.lt_succ_self _) (k0_off240_eq k) ?_
  refine ldU k.val 864 256 (Nat.lt_succ_self _) (k0_off241_eq k) ?_
  refine ldU k.val 872 256 (Nat.lt_succ_self _) (k0_off242_eq k) ?_
  refine ldU k.val 880 256 (Nat.lt_succ_self _) (k0_off243_eq k) ?_
  refine ldU k.val 888 256 (Nat.lt_succ_self _) (k0_off244_eq k) ?_
  exact h

theorem t1_50 {R : sProp 𝕄} {Q : α → sProp 𝕄} (k : Fin k0_t1_loop.trips) {arg18 : BitVec 32} {f : (Σ' (v2933 : FVec F S8x256 .bf16) (v2936 : FVec F S8x256 .bf16) (v2939 : FVec F S8x256 .f32) (v2941 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 115), (cB (tl x0 x1 k.val 1) 116), (s1c (tl x0 x1 k.val 1) (k0_pay1 on) 116), (s2c (tl x0 x1 k.val 1) 116), (mxc (tl x0 x1 k.val 1) 116)⟩) Q) :
    St c x0 x1 R on (k.val + 1) s1 s2 mx mn ⊢ WP c (ap k0_part50 a2 ha2 a3 ha3 a5 ha5 k arg18 (k0_pay1 on) (mnc (tl x0 x1 k.val 1) 110) (cB (tl x0 x1 k.val 1) 111) (s1c (tl x0 x1 k.val 1) (k0_pay1 on) 111) (s2c (tl x0 x1 k.val 1) 111) (mxc (tl x0 x1 k.val 1) 111) >>= f) Q := by
  rw [k0_part50_eq_skeleton]
  refine ldU k.val 896 256 (Nat.lt_succ_self _) (k0_off245_eq k) ?_
  refine ldU k.val 904 256 (Nat.lt_succ_self _) (k0_off246_eq k) ?_
  refine ldU k.val 912 256 (Nat.lt_succ_self _) (k0_off247_eq k) ?_
  refine ldU k.val 920 256 (Nat.lt_succ_self _) (k0_off248_eq k) ?_
  refine ldU k.val 928 256 (Nat.lt_succ_self _) (k0_off249_eq k) ?_
  exact h

theorem t1_51 {R : sProp 𝕄} {Q : α → sProp 𝕄} (k : Fin k0_t1_loop.trips) {arg18 : BitVec 32} {f : (Σ' (v2983 : FVec F S8x256 .bf16) (v2986 : FVec F S8x256 .bf16) (v2989 : FVec F S8x256 .f32) (v2991 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 120), (cB (tl x0 x1 k.val 1) 121), (s1c (tl x0 x1 k.val 1) (k0_pay1 on) 121), (s2c (tl x0 x1 k.val 1) 121), (mxc (tl x0 x1 k.val 1) 121)⟩) Q) :
    St c x0 x1 R on (k.val + 1) s1 s2 mx mn ⊢ WP c (ap k0_part51 a2 ha2 a3 ha3 a5 ha5 k arg18 (k0_pay1 on) (mnc (tl x0 x1 k.val 1) 115) (cB (tl x0 x1 k.val 1) 116) (s1c (tl x0 x1 k.val 1) (k0_pay1 on) 116) (s2c (tl x0 x1 k.val 1) 116) (mxc (tl x0 x1 k.val 1) 116) >>= f) Q := by
  rw [k0_part51_eq_skeleton]
  refine ldU k.val 936 256 (Nat.lt_succ_self _) (k0_off250_eq k) ?_
  refine ldU k.val 944 256 (Nat.lt_succ_self _) (k0_off251_eq k) ?_
  refine ldU k.val 952 256 (Nat.lt_succ_self _) (k0_off252_eq k) ?_
  refine ldU k.val 960 256 (Nat.lt_succ_self _) (k0_off253_eq k) ?_
  refine ldU k.val 968 256 (Nat.lt_succ_self _) (k0_off254_eq k) ?_
  exact h

theorem t1_52 {R : sProp 𝕄} {Q : α → sProp 𝕄} (k : Fin k0_t1_loop.trips) {arg18 : BitVec 32} {f : (Σ' (v3033 : FVec F S8x256 .bf16) (v3036 : FVec F S8x256 .bf16) (v3039 : FVec F S8x256 .f32) (v3041 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 125), (cB (tl x0 x1 k.val 1) 126), (s1c (tl x0 x1 k.val 1) (k0_pay1 on) 126), (s2c (tl x0 x1 k.val 1) 126), (mxc (tl x0 x1 k.val 1) 126)⟩) Q) :
    St c x0 x1 R on (k.val + 1) s1 s2 mx mn ⊢ WP c (ap k0_part52 a2 ha2 a3 ha3 a5 ha5 k arg18 (k0_pay1 on) (mnc (tl x0 x1 k.val 1) 120) (cB (tl x0 x1 k.val 1) 121) (s1c (tl x0 x1 k.val 1) (k0_pay1 on) 121) (s2c (tl x0 x1 k.val 1) 121) (mxc (tl x0 x1 k.val 1) 121) >>= f) Q := by
  rw [k0_part52_eq_skeleton]
  refine ldU k.val 976 256 (Nat.lt_succ_self _) (k0_off255_eq k) ?_
  refine ldU k.val 984 256 (Nat.lt_succ_self _) (k0_off256_eq k) ?_
  refine ldU k.val 992 256 (Nat.lt_succ_self _) (k0_off257_eq k) ?_
  refine ldU k.val 1000 256 (Nat.lt_succ_self _) (k0_off258_eq k) ?_
  refine ldU k.val 1008 256 (Nat.lt_succ_self _) (k0_off259_eq k) ?_
  exact h

theorem t1_53 {R : sProp 𝕄} {Q : α → sProp 𝕄} (k : Fin k0_t1_loop.trips) {arg18 : BitVec 32} {f : (FVec F S8x256 .bf16) → Prog (TpuEff nD τ sig (Elt F) Λ₀ .tc) α}
    (h : St c x0 x1 R on (k.val + 1) (wr4 mS1 s1 (k0_off261 k) (k0_off261_inb k) (k0_pay362 (s1c (tl x0 x1 k.val 1) (k0_pay1 on) 127))) (wr4 mS2 s2 (k0_off261 k) (k0_off261_inb k) (k0_pay362 (s2c (tl x0 x1 k.val 1) 127))) (wr4 mMx mx (k0_off261 k) (k0_off261_inb k) (k0_pay364 (mxc (tl x0 x1 k.val 1) 127))) (wr4 mMn mn (k0_off261 k) (k0_off261_inb k) (finMn (mnc (tl x0 x1 k.val 1) 127))) ⊢ WP c (f (cB (tl x0 x1 k.val 2) 0)) Q) :
    St c x0 x1 R on (k.val + 1) s1 s2 mx mn ⊢ WP c (ap k0_part53 a2 ha2 a3 ha3 a5 ha5 k arg18 (k0_pay1 on) (mnc (tl x0 x1 k.val 1) 125) (cB (tl x0 x1 k.val 1) 126) (s1c (tl x0 x1 k.val 1) (k0_pay1 on) 126) (s2c (tl x0 x1 k.val 1) 126) (mxc (tl x0 x1 k.val 1) 126) >>= f) Q := by
  rw [k0_part53_eq_skeleton]
  refine ldU k.val 1016 256 (Nat.lt_succ_self _) (k0_off260_eq k) ?_
  refine ddS1 ?_
  refine stS1 ?_
  refine ddS2 ?_
  refine stS2 ?_
  refine ddMx ?_
  refine stMx ?_
  refine ddMn ?_
  refine stMn ?_
  refine ldU k.val 0 512 (Nat.lt_succ_self _) (k0_off262_eq k) ?_
  exact h

theorem t1_54 {R : sProp 𝕄} {Q : α → sProp 𝕄} (k : Fin k0_t1_loop.trips) {arg18 : BitVec 32} {f : (Σ' (v3123 : FVec F S8x256 .f32) (v3124 : FVec F S8x256 .bf16) (v3125 : FVec F S8x256 .bf16) (v3128 : FVec F S8x256 .bf16) (v3131 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 4), (mxc (tl x0 x1 k.val 2) 4), (mnc (tl x0 x1 k.val 2) 4), (cB (tl x0 x1 k.val 2) 5), (s1c (tl x0 x1 k.val 2) (k0_pay1 on) 5), (mulf (eB (tl x0 x1 k.val 2) 5) (eB (tl x0 x1 k.val 2) 5))⟩) Q) :
    St c x0 x1 R on (k.val + 1) s1 s2 mx mn ⊢ WP c (ap k0_part54 a2 ha2 a3 ha3 a5 ha5 k arg18 (k0_pay1 on) (cB (tl x0 x1 k.val 2) 0) >>= f) Q := by
  rw [k0_part54_eq_skeleton]
  refine ldU k.val 8 512 (Nat.lt_succ_self _) (k0_off263_eq k) ?_
  refine ldU k.val 16 512 (Nat.lt_succ_self _) (k0_off264_eq k) ?_
  refine ldU k.val 24 512 (Nat.lt_succ_self _) (k0_off265_eq k) ?_
  refine ldU k.val 32 512 (Nat.lt_succ_self _) (k0_off266_eq k) ?_
  refine ldU k.val 40 512 (Nat.lt_succ_self _) (k0_off267_eq k) ?_
  exact h

theorem t1_55 {R : sProp 𝕄} {Q : α → sProp 𝕄} (k : Fin k0_t1_loop.trips) {arg18 : BitVec 32} {f : (Σ' (v3173 : FVec F S8x256 .f32) (v3174 : FVec F S8x256 .bf16) (v3175 : FVec F S8x256 .bf16) (v3178 : FVec F S8x256 .bf16) (v3181 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 9), (mxc (tl x0 x1 k.val 2) 9), (mnc (tl x0 x1 k.val 2) 9), (cB (tl x0 x1 k.val 2) 10), (s1c (tl x0 x1 k.val 2) (k0_pay1 on) 10), (mulf (eB (tl x0 x1 k.val 2) 10) (eB (tl x0 x1 k.val 2) 10))⟩) Q) :
    St c x0 x1 R on (k.val + 1) s1 s2 mx mn ⊢ WP c (ap k0_part55 a2 ha2 a3 ha3 a5 ha5 k arg18 (k0_pay1 on) (s2c (tl x0 x1 k.val 2) 4) (mxc (tl x0 x1 k.val 2) 4) (mnc (tl x0 x1 k.val 2) 4) (cB (tl x0 x1 k.val 2) 5) (s1c (tl x0 x1 k.val 2) (k0_pay1 on) 5) (mulf (eB (tl x0 x1 k.val 2) 5) (eB (tl x0 x1 k.val 2) 5)) >>= f) Q := by
  rw [k0_part55_eq_skeleton]
  refine ldU k.val 48 512 (Nat.lt_succ_self _) (k0_off268_eq k) ?_
  refine ldU k.val 56 512 (Nat.lt_succ_self _) (k0_off269_eq k) ?_
  refine ldU k.val 64 512 (Nat.lt_succ_self _) (k0_off270_eq k) ?_
  refine ldU k.val 72 512 (Nat.lt_succ_self _) (k0_off271_eq k) ?_
  refine ldU k.val 80 512 (Nat.lt_succ_self _) (k0_off272_eq k) ?_
  exact h

theorem t1_56 {R : sProp 𝕄} {Q : α → sProp 𝕄} (k : Fin k0_t1_loop.trips) {arg18 : BitVec 32} {f : (Σ' (v3223 : FVec F S8x256 .f32) (v3224 : FVec F S8x256 .bf16) (v3225 : FVec F S8x256 .bf16) (v3228 : FVec F S8x256 .bf16) (v3231 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 14), (mxc (tl x0 x1 k.val 2) 14), (mnc (tl x0 x1 k.val 2) 14), (cB (tl x0 x1 k.val 2) 15), (s1c (tl x0 x1 k.val 2) (k0_pay1 on) 15), (mulf (eB (tl x0 x1 k.val 2) 15) (eB (tl x0 x1 k.val 2) 15))⟩) Q) :
    St c x0 x1 R on (k.val + 1) s1 s2 mx mn ⊢ WP c (ap k0_part56 a2 ha2 a3 ha3 a5 ha5 k arg18 (k0_pay1 on) (s2c (tl x0 x1 k.val 2) 9) (mxc (tl x0 x1 k.val 2) 9) (mnc (tl x0 x1 k.val 2) 9) (cB (tl x0 x1 k.val 2) 10) (s1c (tl x0 x1 k.val 2) (k0_pay1 on) 10) (mulf (eB (tl x0 x1 k.val 2) 10) (eB (tl x0 x1 k.val 2) 10)) >>= f) Q := by
  rw [k0_part56_eq_skeleton]
  refine ldU k.val 88 512 (Nat.lt_succ_self _) (k0_off273_eq k) ?_
  refine ldU k.val 96 512 (Nat.lt_succ_self _) (k0_off274_eq k) ?_
  refine ldU k.val 104 512 (Nat.lt_succ_self _) (k0_off275_eq k) ?_
  refine ldU k.val 112 512 (Nat.lt_succ_self _) (k0_off276_eq k) ?_
  refine ldU k.val 120 512 (Nat.lt_succ_self _) (k0_off277_eq k) ?_
  exact h

theorem t1_57 {R : sProp 𝕄} {Q : α → sProp 𝕄} (k : Fin k0_t1_loop.trips) {arg18 : BitVec 32} {f : (Σ' (v3273 : FVec F S8x256 .f32) (v3274 : FVec F S8x256 .bf16) (v3275 : FVec F S8x256 .bf16) (v3278 : FVec F S8x256 .bf16) (v3281 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 19), (mxc (tl x0 x1 k.val 2) 19), (mnc (tl x0 x1 k.val 2) 19), (cB (tl x0 x1 k.val 2) 20), (s1c (tl x0 x1 k.val 2) (k0_pay1 on) 20), (mulf (eB (tl x0 x1 k.val 2) 20) (eB (tl x0 x1 k.val 2) 20))⟩) Q) :
    St c x0 x1 R on (k.val + 1) s1 s2 mx mn ⊢ WP c (ap k0_part57 a2 ha2 a3 ha3 a5 ha5 k arg18 (k0_pay1 on) (s2c (tl x0 x1 k.val 2) 14) (mxc (tl x0 x1 k.val 2) 14) (mnc (tl x0 x1 k.val 2) 14) (cB (tl x0 x1 k.val 2) 15) (s1c (tl x0 x1 k.val 2) (k0_pay1 on) 15) (mulf (eB (tl x0 x1 k.val 2) 15) (eB (tl x0 x1 k.val 2) 15)) >>= f) Q := by
  rw [k0_part57_eq_skeleton]
  refine ldU k.val 128 512 (Nat.lt_succ_self _) (k0_off278_eq k) ?_
  refine ldU k.val 136 512 (Nat.lt_succ_self _) (k0_off279_eq k) ?_
  refine ldU k.val 144 512 (Nat.lt_succ_self _) (k0_off280_eq k) ?_
  refine ldU k.val 152 512 (Nat.lt_succ_self _) (k0_off281_eq k) ?_
  refine ldU k.val 160 512 (Nat.lt_succ_self _) (k0_off282_eq k) ?_
  exact h

theorem t1_58 {R : sProp 𝕄} {Q : α → sProp 𝕄} (k : Fin k0_t1_loop.trips) {arg18 : BitVec 32} {f : (Σ' (v3323 : FVec F S8x256 .f32) (v3324 : FVec F S8x256 .bf16) (v3325 : FVec F S8x256 .bf16) (v3328 : FVec F S8x256 .bf16) (v3331 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 24), (mxc (tl x0 x1 k.val 2) 24), (mnc (tl x0 x1 k.val 2) 24), (cB (tl x0 x1 k.val 2) 25), (s1c (tl x0 x1 k.val 2) (k0_pay1 on) 25), (mulf (eB (tl x0 x1 k.val 2) 25) (eB (tl x0 x1 k.val 2) 25))⟩) Q) :
    St c x0 x1 R on (k.val + 1) s1 s2 mx mn ⊢ WP c (ap k0_part58 a2 ha2 a3 ha3 a5 ha5 k arg18 (k0_pay1 on) (s2c (tl x0 x1 k.val 2) 19) (mxc (tl x0 x1 k.val 2) 19) (mnc (tl x0 x1 k.val 2) 19) (cB (tl x0 x1 k.val 2) 20) (s1c (tl x0 x1 k.val 2) (k0_pay1 on) 20) (mulf (eB (tl x0 x1 k.val 2) 20) (eB (tl x0 x1 k.val 2) 20)) >>= f) Q := by
  rw [k0_part58_eq_skeleton]
  refine ldU k.val 168 512 (Nat.lt_succ_self _) (k0_off283_eq k) ?_
  refine ldU k.val 176 512 (Nat.lt_succ_self _) (k0_off284_eq k) ?_
  refine ldU k.val 184 512 (Nat.lt_succ_self _) (k0_off285_eq k) ?_
  refine ldU k.val 192 512 (Nat.lt_succ_self _) (k0_off286_eq k) ?_
  refine ldU k.val 200 512 (Nat.lt_succ_self _) (k0_off287_eq k) ?_
  exact h

theorem t1_59 {R : sProp 𝕄} {Q : α → sProp 𝕄} (k : Fin k0_t1_loop.trips) {arg18 : BitVec 32} {f : (Σ' (v3373 : FVec F S8x256 .f32) (v3374 : FVec F S8x256 .bf16) (v3375 : FVec F S8x256 .bf16) (v3378 : FVec F S8x256 .bf16) (v3381 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 29), (mxc (tl x0 x1 k.val 2) 29), (mnc (tl x0 x1 k.val 2) 29), (cB (tl x0 x1 k.val 2) 30), (s1c (tl x0 x1 k.val 2) (k0_pay1 on) 30), (mulf (eB (tl x0 x1 k.val 2) 30) (eB (tl x0 x1 k.val 2) 30))⟩) Q) :
    St c x0 x1 R on (k.val + 1) s1 s2 mx mn ⊢ WP c (ap k0_part59 a2 ha2 a3 ha3 a5 ha5 k arg18 (k0_pay1 on) (s2c (tl x0 x1 k.val 2) 24) (mxc (tl x0 x1 k.val 2) 24) (mnc (tl x0 x1 k.val 2) 24) (cB (tl x0 x1 k.val 2) 25) (s1c (tl x0 x1 k.val 2) (k0_pay1 on) 25) (mulf (eB (tl x0 x1 k.val 2) 25) (eB (tl x0 x1 k.val 2) 25)) >>= f) Q := by
  rw [k0_part59_eq_skeleton]
  refine ldU k.val 208 512 (Nat.lt_succ_self _) (k0_off288_eq k) ?_
  refine ldU k.val 216 512 (Nat.lt_succ_self _) (k0_off289_eq k) ?_
  refine ldU k.val 224 512 (Nat.lt_succ_self _) (k0_off290_eq k) ?_
  refine ldU k.val 232 512 (Nat.lt_succ_self _) (k0_off291_eq k) ?_
  refine ldU k.val 240 512 (Nat.lt_succ_self _) (k0_off292_eq k) ?_
  exact h

theorem t1_60 {R : sProp 𝕄} {Q : α → sProp 𝕄} (k : Fin k0_t1_loop.trips) {arg18 : BitVec 32} {f : (Σ' (v3423 : FVec F S8x256 .f32) (v3424 : FVec F S8x256 .bf16) (v3425 : FVec F S8x256 .bf16) (v3428 : FVec F S8x256 .bf16) (v3431 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 34), (mxc (tl x0 x1 k.val 2) 34), (mnc (tl x0 x1 k.val 2) 34), (cB (tl x0 x1 k.val 2) 35), (s1c (tl x0 x1 k.val 2) (k0_pay1 on) 35), (mulf (eB (tl x0 x1 k.val 2) 35) (eB (tl x0 x1 k.val 2) 35))⟩) Q) :
    St c x0 x1 R on (k.val + 1) s1 s2 mx mn ⊢ WP c (ap k0_part60 a2 ha2 a3 ha3 a5 ha5 k arg18 (k0_pay1 on) (s2c (tl x0 x1 k.val 2) 29) (mxc (tl x0 x1 k.val 2) 29) (mnc (tl x0 x1 k.val 2) 29) (cB (tl x0 x1 k.val 2) 30) (s1c (tl x0 x1 k.val 2) (k0_pay1 on) 30) (mulf (eB (tl x0 x1 k.val 2) 30) (eB (tl x0 x1 k.val 2) 30)) >>= f) Q := by
  rw [k0_part60_eq_skeleton]
  refine ldU k.val 248 512 (Nat.lt_succ_self _) (k0_off293_eq k) ?_
  refine ldU k.val 256 512 (Nat.lt_succ_self _) (k0_off294_eq k) ?_
  refine ldU k.val 264 512 (Nat.lt_succ_self _) (k0_off295_eq k) ?_
  refine ldU k.val 272 512 (Nat.lt_succ_self _) (k0_off296_eq k) ?_
  refine ldU k.val 280 512 (Nat.lt_succ_self _) (k0_off297_eq k) ?_
  exact h

theorem t1_61 {R : sProp 𝕄} {Q : α → sProp 𝕄} (k : Fin k0_t1_loop.trips) {arg18 : BitVec 32} {f : (Σ' (v3473 : FVec F S8x256 .f32) (v3474 : FVec F S8x256 .bf16) (v3475 : FVec F S8x256 .bf16) (v3478 : FVec F S8x256 .bf16) (v3481 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 39), (mxc (tl x0 x1 k.val 2) 39), (mnc (tl x0 x1 k.val 2) 39), (cB (tl x0 x1 k.val 2) 40), (s1c (tl x0 x1 k.val 2) (k0_pay1 on) 40), (mulf (eB (tl x0 x1 k.val 2) 40) (eB (tl x0 x1 k.val 2) 40))⟩) Q) :
    St c x0 x1 R on (k.val + 1) s1 s2 mx mn ⊢ WP c (ap k0_part61 a2 ha2 a3 ha3 a5 ha5 k arg18 (k0_pay1 on) (s2c (tl x0 x1 k.val 2) 34) (mxc (tl x0 x1 k.val 2) 34) (mnc (tl x0 x1 k.val 2) 34) (cB (tl x0 x1 k.val 2) 35) (s1c (tl x0 x1 k.val 2) (k0_pay1 on) 35) (mulf (eB (tl x0 x1 k.val 2) 35) (eB (tl x0 x1 k.val 2) 35)) >>= f) Q := by
  rw [k0_part61_eq_skeleton]
  refine ldU k.val 288 512 (Nat.lt_succ_self _) (k0_off298_eq k) ?_
  refine ldU k.val 296 512 (Nat.lt_succ_self _) (k0_off299_eq k) ?_
  refine ldU k.val 304 512 (Nat.lt_succ_self _) (k0_off300_eq k) ?_
  refine ldU k.val 312 512 (Nat.lt_succ_self _) (k0_off301_eq k) ?_
  refine ldU k.val 320 512 (Nat.lt_succ_self _) (k0_off302_eq k) ?_
  exact h

theorem t1_62 {R : sProp 𝕄} {Q : α → sProp 𝕄} (k : Fin k0_t1_loop.trips) {arg18 : BitVec 32} {f : (Σ' (v3523 : FVec F S8x256 .f32) (v3524 : FVec F S8x256 .bf16) (v3525 : FVec F S8x256 .bf16) (v3528 : FVec F S8x256 .bf16) (v3531 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 44), (mxc (tl x0 x1 k.val 2) 44), (mnc (tl x0 x1 k.val 2) 44), (cB (tl x0 x1 k.val 2) 45), (s1c (tl x0 x1 k.val 2) (k0_pay1 on) 45), (mulf (eB (tl x0 x1 k.val 2) 45) (eB (tl x0 x1 k.val 2) 45))⟩) Q) :
    St c x0 x1 R on (k.val + 1) s1 s2 mx mn ⊢ WP c (ap k0_part62 a2 ha2 a3 ha3 a5 ha5 k arg18 (k0_pay1 on) (s2c (tl x0 x1 k.val 2) 39) (mxc (tl x0 x1 k.val 2) 39) (mnc (tl x0 x1 k.val 2) 39) (cB (tl x0 x1 k.val 2) 40) (s1c (tl x0 x1 k.val 2) (k0_pay1 on) 40) (mulf (eB (tl x0 x1 k.val 2) 40) (eB (tl x0 x1 k.val 2) 40)) >>= f) Q := by
  rw [k0_part62_eq_skeleton]
  refine ldU k.val 328 512 (Nat.lt_succ_self _) (k0_off303_eq k) ?_
  refine ldU k.val 336 512 (Nat.lt_succ_self _) (k0_off304_eq k) ?_
  refine ldU k.val 344 512 (Nat.lt_succ_self _) (k0_off305_eq k) ?_
  refine ldU k.val 352 512 (Nat.lt_succ_self _) (k0_off306_eq k) ?_
  refine ldU k.val 360 512 (Nat.lt_succ_self _) (k0_off307_eq k) ?_
  exact h

theorem t1_63 {R : sProp 𝕄} {Q : α → sProp 𝕄} (k : Fin k0_t1_loop.trips) {arg18 : BitVec 32} {f : (Σ' (v3573 : FVec F S8x256 .f32) (v3574 : FVec F S8x256 .bf16) (v3575 : FVec F S8x256 .bf16) (v3578 : FVec F S8x256 .bf16) (v3581 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 49), (mxc (tl x0 x1 k.val 2) 49), (mnc (tl x0 x1 k.val 2) 49), (cB (tl x0 x1 k.val 2) 50), (s1c (tl x0 x1 k.val 2) (k0_pay1 on) 50), (mulf (eB (tl x0 x1 k.val 2) 50) (eB (tl x0 x1 k.val 2) 50))⟩) Q) :
    St c x0 x1 R on (k.val + 1) s1 s2 mx mn ⊢ WP c (ap k0_part63 a2 ha2 a3 ha3 a5 ha5 k arg18 (k0_pay1 on) (s2c (tl x0 x1 k.val 2) 44) (mxc (tl x0 x1 k.val 2) 44) (mnc (tl x0 x1 k.val 2) 44) (cB (tl x0 x1 k.val 2) 45) (s1c (tl x0 x1 k.val 2) (k0_pay1 on) 45) (mulf (eB (tl x0 x1 k.val 2) 45) (eB (tl x0 x1 k.val 2) 45)) >>= f) Q := by
  rw [k0_part63_eq_skeleton]
  refine ldU k.val 368 512 (Nat.lt_succ_self _) (k0_off308_eq k) ?_
  refine ldU k.val 376 512 (Nat.lt_succ_self _) (k0_off309_eq k) ?_
  refine ldU k.val 384 512 (Nat.lt_succ_self _) (k0_off310_eq k) ?_
  refine ldU k.val 392 512 (Nat.lt_succ_self _) (k0_off311_eq k) ?_
  refine ldU k.val 400 512 (Nat.lt_succ_self _) (k0_off312_eq k) ?_
  exact h

theorem t1_64 {R : sProp 𝕄} {Q : α → sProp 𝕄} (k : Fin k0_t1_loop.trips) {arg18 : BitVec 32} {f : (Σ' (v3623 : FVec F S8x256 .f32) (v3624 : FVec F S8x256 .bf16) (v3625 : FVec F S8x256 .bf16) (v3628 : FVec F S8x256 .bf16) (v3631 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 54), (mxc (tl x0 x1 k.val 2) 54), (mnc (tl x0 x1 k.val 2) 54), (cB (tl x0 x1 k.val 2) 55), (s1c (tl x0 x1 k.val 2) (k0_pay1 on) 55), (mulf (eB (tl x0 x1 k.val 2) 55) (eB (tl x0 x1 k.val 2) 55))⟩) Q) :
    St c x0 x1 R on (k.val + 1) s1 s2 mx mn ⊢ WP c (ap k0_part64 a2 ha2 a3 ha3 a5 ha5 k arg18 (k0_pay1 on) (s2c (tl x0 x1 k.val 2) 49) (mxc (tl x0 x1 k.val 2) 49) (mnc (tl x0 x1 k.val 2) 49) (cB (tl x0 x1 k.val 2) 50) (s1c (tl x0 x1 k.val 2) (k0_pay1 on) 50) (mulf (eB (tl x0 x1 k.val 2) 50) (eB (tl x0 x1 k.val 2) 50)) >>= f) Q := by
  rw [k0_part64_eq_skeleton]
  refine ldU k.val 408 512 (Nat.lt_succ_self _) (k0_off313_eq k) ?_
  refine ldU k.val 416 512 (Nat.lt_succ_self _) (k0_off314_eq k) ?_
  refine ldU k.val 424 512 (Nat.lt_succ_self _) (k0_off315_eq k) ?_
  refine ldU k.val 432 512 (Nat.lt_succ_self _) (k0_off316_eq k) ?_
  refine ldU k.val 440 512 (Nat.lt_succ_self _) (k0_off317_eq k) ?_
  exact h

theorem t1_65 {R : sProp 𝕄} {Q : α → sProp 𝕄} (k : Fin k0_t1_loop.trips) {arg18 : BitVec 32} {f : (Σ' (v3673 : FVec F S8x256 .f32) (v3674 : FVec F S8x256 .bf16) (v3675 : FVec F S8x256 .bf16) (v3678 : FVec F S8x256 .bf16) (v3681 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 59), (mxc (tl x0 x1 k.val 2) 59), (mnc (tl x0 x1 k.val 2) 59), (cB (tl x0 x1 k.val 2) 60), (s1c (tl x0 x1 k.val 2) (k0_pay1 on) 60), (mulf (eB (tl x0 x1 k.val 2) 60) (eB (tl x0 x1 k.val 2) 60))⟩) Q) :
    St c x0 x1 R on (k.val + 1) s1 s2 mx mn ⊢ WP c (ap k0_part65 a2 ha2 a3 ha3 a5 ha5 k arg18 (k0_pay1 on) (s2c (tl x0 x1 k.val 2) 54) (mxc (tl x0 x1 k.val 2) 54) (mnc (tl x0 x1 k.val 2) 54) (cB (tl x0 x1 k.val 2) 55) (s1c (tl x0 x1 k.val 2) (k0_pay1 on) 55) (mulf (eB (tl x0 x1 k.val 2) 55) (eB (tl x0 x1 k.val 2) 55)) >>= f) Q := by
  rw [k0_part65_eq_skeleton]
  refine ldU k.val 448 512 (Nat.lt_succ_self _) (k0_off318_eq k) ?_
  refine ldU k.val 456 512 (Nat.lt_succ_self _) (k0_off319_eq k) ?_
  refine ldU k.val 464 512 (Nat.lt_succ_self _) (k0_off320_eq k) ?_
  refine ldU k.val 472 512 (Nat.lt_succ_self _) (k0_off321_eq k) ?_
  refine ldU k.val 480 512 (Nat.lt_succ_self _) (k0_off322_eq k) ?_
  exact h

theorem t1_66 {R : sProp 𝕄} {Q : α → sProp 𝕄} (k : Fin k0_t1_loop.trips) {arg18 : BitVec 32} {f : (Σ' (v3723 : FVec F S8x256 .f32) (v3724 : FVec F S8x256 .bf16) (v3725 : FVec F S8x256 .bf16) (v3728 : FVec F S8x256 .bf16) (v3731 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 64), (mxc (tl x0 x1 k.val 2) 64), (mnc (tl x0 x1 k.val 2) 64), (cB (tl x0 x1 k.val 2) 65), (s1c (tl x0 x1 k.val 2) (k0_pay1 on) 65), (mulf (eB (tl x0 x1 k.val 2) 65) (eB (tl x0 x1 k.val 2) 65))⟩) Q) :
    St c x0 x1 R on (k.val + 1) s1 s2 mx mn ⊢ WP c (ap k0_part66 a2 ha2 a3 ha3 a5 ha5 k arg18 (k0_pay1 on) (s2c (tl x0 x1 k.val 2) 59) (mxc (tl x0 x1 k.val 2) 59) (mnc (tl x0 x1 k.val 2) 59) (cB (tl x0 x1 k.val 2) 60) (s1c (tl x0 x1 k.val 2) (k0_pay1 on) 60) (mulf (eB (tl x0 x1 k.val 2) 60) (eB (tl x0 x1 k.val 2) 60)) >>= f) Q := by
  rw [k0_part66_eq_skeleton]
  refine ldU k.val 488 512 (Nat.lt_succ_self _) (k0_off323_eq k) ?_
  refine ldU k.val 496 512 (Nat.lt_succ_self _) (k0_off324_eq k) ?_
  refine ldU k.val 504 512 (Nat.lt_succ_self _) (k0_off325_eq k) ?_
  refine ldU k.val 512 512 (Nat.lt_succ_self _) (k0_off326_eq k) ?_
  refine ldU k.val 520 512 (Nat.lt_succ_self _) (k0_off327_eq k) ?_
  exact h

end

end Cert.Kernel.Hand
-- ==== Proof.K.T2.lean ====
/-
  One row's statistics, part by part.
-/
module

public import proofs.«01_k».proof.Proof.K.Spec

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable {c : Dev nD} {x0 : S16x1024x768.Idx → Elt F .bf16} {x1 : S16x1024x512.Idx → Elt F .bf16}
variable {α : Type} {on : S8x256.Idx → Elt F .bf16} {s1 s2 mx mn : S16x1x1280.Idx → Elt F .f32}
variable {a2 : Memref sig .tc .vmem S1280 .f32} {ha2 : a2.IsWhole} {a3 : Memref sig .tc .vmem S1280 .f32} {ha3 : a3.IsWhole} {a5 : Memref sig .tc .smem S1x1 .f32} {ha5 : a5.IsWhole}
theorem t1_67 {R : sProp 𝕄} {Q : α → sProp 𝕄} (k : Fin k0_t1_loop.trips) {arg18 : BitVec 32} {f : (Σ' (v3773 : FVec F S8x256 .f32) (v3774 : FVec F S8x256 .bf16) (v3775 : FVec F S8x256 .bf16) (v3778 : FVec F S8x256 .bf16) (v3781 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 69), (mxc (tl x0 x1 k.val 2) 69), (mnc (tl x0 x1 k.val 2) 69), (cB (tl x0 x1 k.val 2) 70), (s1c (tl x0 x1 k.val 2) (k0_pay1 on) 70), (mulf (eB (tl x0 x1 k.val 2) 70) (eB (tl x0 x1 k.val 2) 70))⟩) Q) :
    St c x0 x1 R on (k.val + 1) s1 s2 mx mn ⊢ WP c (ap k0_part67 a2 ha2 a3 ha3 a5 ha5 k arg18 (k0_pay1 on) (s2c (tl x0 x1 k.val 2) 64) (mxc (tl x0 x1 k.val 2) 64) (mnc (tl x0 x1 k.val 2) 64) (cB (tl x0 x1 k.val 2) 65) (s1c (tl x0 x1 k.val 2) (k0_pay1 on) 65) (mulf (eB (tl x0 x1 k.val 2) 65) (eB (tl x0 x1 k.val 2) 65)) >>= f) Q := by
  rw [k0_part67_eq_skeleton]
  refine ldU k.val 528 512 (Nat.lt_succ_self _) (k0_off328_eq k) ?_
  refine ldU k.val 536 512 (Nat.lt_succ_self _) (k0_off329_eq k) ?_
  refine ldU k.val 544 512 (Nat.lt_succ_self _) (k0_off330_eq k) ?_
  refine ldU k.val 552 512 (Nat.lt_succ_self _) (k0_off331_eq k) ?_
  refine ldU k.val 560 512 (Nat.lt_succ_self _) (k0_off332_eq k) ?_
  exact h

theorem t1_68 {R : sProp 𝕄} {Q : α → sProp 𝕄} (k : Fin k0_t1_loop.trips) {arg18 : BitVec 32} {f : (Σ' (v3823 : FVec F S8x256 .f32) (v3824 : FVec F S8x256 .bf16) (v3825 : FVec F S8x256 .bf16) (v3828 : FVec F S8x256 .bf16) (v3831 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 74), (mxc (tl x0 x1 k.val 2) 74), (mnc (tl x0 x1 k.val 2) 74), (cB (tl x0 x1 k.val 2) 75), (s1c (tl x0 x1 k.val 2) (k0_pay1 on) 75), (mulf (eB (tl x0 x1 k.val 2) 75) (eB (tl x0 x1 k.val 2) 75))⟩) Q) :
    St c x0 x1 R on (k.val + 1) s1 s2 mx mn ⊢ WP c (ap k0_part68 a2 ha2 a3 ha3 a5 ha5 k arg18 (k0_pay1 on) (s2c (tl x0 x1 k.val 2) 69) (mxc (tl x0 x1 k.val 2) 69) (mnc (tl x0 x1 k.val 2) 69) (cB (tl x0 x1 k.val 2) 70) (s1c (tl x0 x1 k.val 2) (k0_pay1 on) 70) (mulf (eB (tl x0 x1 k.val 2) 70) (eB (tl x0 x1 k.val 2) 70)) >>= f) Q := by
  rw [k0_part68_eq_skeleton]
  refine ldU k.val 568 512 (Nat.lt_succ_self _) (k0_off333_eq k) ?_
  refine ldU k.val 576 512 (Nat.lt_succ_self _) (k0_off334_eq k) ?_
  refine ldU k.val 584 512 (Nat.lt_succ_self _) (k0_off335_eq k) ?_
  refine ldU k.val 592 512 (Nat.lt_succ_self _) (k0_off336_eq k) ?_
  refine ldU k.val 600 512 (Nat.lt_succ_self _) (k0_off337_eq k) ?_
  exact h

theorem t1_69 {R : sProp 𝕄} {Q : α → sProp 𝕄} (k : Fin k0_t1_loop.trips) {arg18 : BitVec 32} {f : (Σ' (v3873 : FVec F S8x256 .f32) (v3874 : FVec F S8x256 .bf16) (v3875 : FVec F S8x256 .bf16) (v3878 : FVec F S8x256 .bf16) (v3881 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 79), (mxc (tl x0 x1 k.val 2) 79), (mnc (tl x0 x1 k.val 2) 79), (cB (tl x0 x1 k.val 2) 80), (s1c (tl x0 x1 k.val 2) (k0_pay1 on) 80), (mulf (eB (tl x0 x1 k.val 2) 80) (eB (tl x0 x1 k.val 2) 80))⟩) Q) :
    St c x0 x1 R on (k.val + 1) s1 s2 mx mn ⊢ WP c (ap k0_part69 a2 ha2 a3 ha3 a5 ha5 k arg18 (k0_pay1 on) (s2c (tl x0 x1 k.val 2) 74) (mxc (tl x0 x1 k.val 2) 74) (mnc (tl x0 x1 k.val 2) 74) (cB (tl x0 x1 k.val 2) 75) (s1c (tl x0 x1 k.val 2) (k0_pay1 on) 75) (mulf (eB (tl x0 x1 k.val 2) 75) (eB (tl x0 x1 k.val 2) 75)) >>= f) Q := by
  rw [k0_part69_eq_skeleton]
  refine ldU k.val 608 512 (Nat.lt_succ_self _) (k0_off338_eq k) ?_
  refine ldU k.val 616 512 (Nat.lt_succ_self _) (k0_off339_eq k) ?_
  refine ldU k.val 624 512 (Nat.lt_succ_self _) (k0_off340_eq k) ?_
  refine ldU k.val 632 512 (Nat.lt_succ_self _) (k0_off341_eq k) ?_
  refine ldU k.val 640 512 (Nat.lt_succ_self _) (k0_off342_eq k) ?_
  exact h

theorem t1_70 {R : sProp 𝕄} {Q : α → sProp 𝕄} (k : Fin k0_t1_loop.trips) {arg18 : BitVec 32} {f : (Σ' (v3923 : FVec F S8x256 .f32) (v3924 : FVec F S8x256 .bf16) (v3925 : FVec F S8x256 .bf16) (v3928 : FVec F S8x256 .bf16) (v3931 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 84), (mxc (tl x0 x1 k.val 2) 84), (mnc (tl x0 x1 k.val 2) 84), (cB (tl x0 x1 k.val 2) 85), (s1c (tl x0 x1 k.val 2) (k0_pay1 on) 85), (mulf (eB (tl x0 x1 k.val 2) 85) (eB (tl x0 x1 k.val 2) 85))⟩) Q) :
    St c x0 x1 R on (k.val + 1) s1 s2 mx mn ⊢ WP c (ap k0_part70 a2 ha2 a3 ha3 a5 ha5 k arg18 (k0_pay1 on) (s2c (tl x0 x1 k.val 2) 79) (mxc (tl x0 x1 k.val 2) 79) (mnc (tl x0 x1 k.val 2) 79) (cB (tl x0 x1 k.val 2) 80) (s1c (tl x0 x1 k.val 2) (k0_pay1 on) 80) (mulf (eB (tl x0 x1 k.val 2) 80) (eB (tl x0 x1 k.val 2) 80)) >>= f) Q := by
  rw [k0_part70_eq_skeleton]
  refine ldU k.val 648 512 (Nat.lt_succ_self _) (k0_off343_eq k) ?_
  refine ldU k.val 656 512 (Nat.lt_succ_self _) (k0_off344_eq k) ?_
  refine ldU k.val 664 512 (Nat.lt_succ_self _) (k0_off345_eq k) ?_
  refine ldU k.val 672 512 (Nat.lt_succ_self _) (k0_off346_eq k) ?_
  refine ldU k.val 680 512 (Nat.lt_succ_self _) (k0_off347_eq k) ?_
  exact h

theorem t1_71 {R : sProp 𝕄} {Q : α → sProp 𝕄} (k : Fin k0_t1_loop.trips) {arg18 : BitVec 32} {f : (Σ' (v3973 : FVec F S8x256 .f32) (v3974 : FVec F S8x256 .bf16) (v3975 : FVec F S8x256 .bf16) (v3978 : FVec F S8x256 .bf16) (v3981 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 89), (mxc (tl x0 x1 k.val 2) 89), (mnc (tl x0 x1 k.val 2) 89), (cB (tl x0 x1 k.val 2) 90), (s1c (tl x0 x1 k.val 2) (k0_pay1 on) 90), (mulf (eB (tl x0 x1 k.val 2) 90) (eB (tl x0 x1 k.val 2) 90))⟩) Q) :
    St c x0 x1 R on (k.val + 1) s1 s2 mx mn ⊢ WP c (ap k0_part71 a2 ha2 a3 ha3 a5 ha5 k arg18 (k0_pay1 on) (s2c (tl x0 x1 k.val 2) 84) (mxc (tl x0 x1 k.val 2) 84) (mnc (tl x0 x1 k.val 2) 84) (cB (tl x0 x1 k.val 2) 85) (s1c (tl x0 x1 k.val 2) (k0_pay1 on) 85) (mulf (eB (tl x0 x1 k.val 2) 85) (eB (tl x0 x1 k.val 2) 85)) >>= f) Q := by
  rw [k0_part71_eq_skeleton]
  refine ldU k.val 688 512 (Nat.lt_succ_self _) (k0_off348_eq k) ?_
  refine ldU k.val 696 512 (Nat.lt_succ_self _) (k0_off349_eq k) ?_
  refine ldU k.val 704 512 (Nat.lt_succ_self _) (k0_off350_eq k) ?_
  refine ldU k.val 712 512 (Nat.lt_succ_self _) (k0_off351_eq k) ?_
  refine ldU k.val 720 512 (Nat.lt_succ_self _) (k0_off352_eq k) ?_
  exact h

theorem t1_72 {R : sProp 𝕄} {Q : α → sProp 𝕄} (k : Fin k0_t1_loop.trips) {arg18 : BitVec 32} {f : (Σ' (v4023 : FVec F S8x256 .f32) (v4024 : FVec F S8x256 .bf16) (v4025 : FVec F S8x256 .bf16) (v4028 : FVec F S8x256 .bf16) (v4031 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 94), (mxc (tl x0 x1 k.val 2) 94), (mnc (tl x0 x1 k.val 2) 94), (cB (tl x0 x1 k.val 2) 95), (s1c (tl x0 x1 k.val 2) (k0_pay1 on) 95), (mulf (eB (tl x0 x1 k.val 2) 95) (eB (tl x0 x1 k.val 2) 95))⟩) Q) :
    St c x0 x1 R on (k.val + 1) s1 s2 mx mn ⊢ WP c (ap k0_part72 a2 ha2 a3 ha3 a5 ha5 k arg18 (k0_pay1 on) (s2c (tl x0 x1 k.val 2) 89) (mxc (tl x0 x1 k.val 2) 89) (mnc (tl x0 x1 k.val 2) 89) (cB (tl x0 x1 k.val 2) 90) (s1c (tl x0 x1 k.val 2) (k0_pay1 on) 90) (mulf (eB (tl x0 x1 k.val 2) 90) (eB (tl x0 x1 k.val 2) 90)) >>= f) Q := by
  rw [k0_part72_eq_skeleton]
  refine ldU k.val 728 512 (Nat.lt_succ_self _) (k0_off353_eq k) ?_
  refine ldU k.val 736 512 (Nat.lt_succ_self _) (k0_off354_eq k) ?_
  refine ldU k.val 744 512 (Nat.lt_succ_self _) (k0_off355_eq k) ?_
  refine ldU k.val 752 512 (Nat.lt_succ_self _) (k0_off356_eq k) ?_
  refine ldU k.val 760 512 (Nat.lt_succ_self _) (k0_off357_eq k) ?_
  exact h

theorem t1_73 {R : sProp 𝕄} {Q : α → sProp 𝕄} (k : Fin k0_t1_loop.trips) {arg18 : BitVec 32} {f : (Σ' (v4073 : FVec F S8x256 .f32) (v4074 : FVec F S8x256 .bf16) (v4075 : FVec F S8x256 .bf16) (v4078 : FVec F S8x256 .bf16) (v4081 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 99), (mxc (tl x0 x1 k.val 2) 99), (mnc (tl x0 x1 k.val 2) 99), (cB (tl x0 x1 k.val 2) 100), (s1c (tl x0 x1 k.val 2) (k0_pay1 on) 100), (mulf (eB (tl x0 x1 k.val 2) 100) (eB (tl x0 x1 k.val 2) 100))⟩) Q) :
    St c x0 x1 R on (k.val + 1) s1 s2 mx mn ⊢ WP c (ap k0_part73 a2 ha2 a3 ha3 a5 ha5 k arg18 (k0_pay1 on) (s2c (tl x0 x1 k.val 2) 94) (mxc (tl x0 x1 k.val 2) 94) (mnc (tl x0 x1 k.val 2) 94) (cB (tl x0 x1 k.val 2) 95) (s1c (tl x0 x1 k.val 2) (k0_pay1 on) 95) (mulf (eB (tl x0 x1 k.val 2) 95) (eB (tl x0 x1 k.val 2) 95)) >>= f) Q := by
  rw [k0_part73_eq_skeleton]
  refine ldU k.val 768 512 (Nat.lt_succ_self _) (k0_off358_eq k) ?_
  refine ldU k.val 776 512 (Nat.lt_succ_self _) (k0_off359_eq k) ?_
  refine ldU k.val 784 512 (Nat.lt_succ_self _) (k0_off360_eq k) ?_
  refine ldU k.val 792 512 (Nat.lt_succ_self _) (k0_off361_eq k) ?_
  refine ldU k.val 800 512 (Nat.lt_succ_self _) (k0_off362_eq k) ?_
  exact h

theorem t1_74 {R : sProp 𝕄} {Q : α → sProp 𝕄} (k : Fin k0_t1_loop.trips) {arg18 : BitVec 32} {f : (Σ' (v4123 : FVec F S8x256 .f32) (v4124 : FVec F S8x256 .bf16) (v4125 : FVec F S8x256 .bf16) (v4128 : FVec F S8x256 .bf16) (v4131 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 104), (mxc (tl x0 x1 k.val 2) 104), (mnc (tl x0 x1 k.val 2) 104), (cB (tl x0 x1 k.val 2) 105), (s1c (tl x0 x1 k.val 2) (k0_pay1 on) 105), (mulf (eB (tl x0 x1 k.val 2) 105) (eB (tl x0 x1 k.val 2) 105))⟩) Q) :
    St c x0 x1 R on (k.val + 1) s1 s2 mx mn ⊢ WP c (ap k0_part74 a2 ha2 a3 ha3 a5 ha5 k arg18 (k0_pay1 on) (s2c (tl x0 x1 k.val 2) 99) (mxc (tl x0 x1 k.val 2) 99) (mnc (tl x0 x1 k.val 2) 99) (cB (tl x0 x1 k.val 2) 100) (s1c (tl x0 x1 k.val 2) (k0_pay1 on) 100) (mulf (eB (tl x0 x1 k.val 2) 100) (eB (tl x0 x1 k.val 2) 100)) >>= f) Q := by
  rw [k0_part74_eq_skeleton]
  refine ldU k.val 808 512 (Nat.lt_succ_self _) (k0_off363_eq k) ?_
  refine ldU k.val 816 512 (Nat.lt_succ_self _) (k0_off364_eq k) ?_
  refine ldU k.val 824 512 (Nat.lt_succ_self _) (k0_off365_eq k) ?_
  refine ldU k.val 832 512 (Nat.lt_succ_self _) (k0_off366_eq k) ?_
  refine ldU k.val 840 512 (Nat.lt_succ_self _) (k0_off367_eq k) ?_
  exact h

theorem t1_75 {R : sProp 𝕄} {Q : α → sProp 𝕄} (k : Fin k0_t1_loop.trips) {arg18 : BitVec 32} {f : (Σ' (v4173 : FVec F S8x256 .f32) (v4174 : FVec F S8x256 .bf16) (v4175 : FVec F S8x256 .bf16) (v4178 : FVec F S8x256 .bf16) (v4181 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 109), (mxc (tl x0 x1 k.val 2) 109), (mnc (tl x0 x1 k.val 2) 109), (cB (tl x0 x1 k.val 2) 110), (s1c (tl x0 x1 k.val 2) (k0_pay1 on) 110), (mulf (eB (tl x0 x1 k.val 2) 110) (eB (tl x0 x1 k.val 2) 110))⟩) Q) :
    St c x0 x1 R on (k.val + 1) s1 s2 mx mn ⊢ WP c (ap k0_part75 a2 ha2 a3 ha3 a5 ha5 k arg18 (k0_pay1 on) (s2c (tl x0 x1 k.val 2) 104) (mxc (tl x0 x1 k.val 2) 104) (mnc (tl x0 x1 k.val 2) 104) (cB (tl x0 x1 k.val 2) 105) (s1c (tl x0 x1 k.val 2) (k0_pay1 on) 105) (mulf (eB (tl x0 x1 k.val 2) 105) (eB (tl x0 x1 k.val 2) 105)) >>= f) Q := by
  rw [k0_part75_eq_skeleton]
  refine ldU k.val 848 512 (Nat.lt_succ_self _) (k0_off368_eq k) ?_
  refine ldU k.val 856 512 (Nat.lt_succ_self _) (k0_off369_eq k) ?_
  refine ldU k.val 864 512 (Nat.lt_succ_self _) (k0_off370_eq k) ?_
  refine ldU k.val 872 512 (Nat.lt_succ_self _) (k0_off371_eq k) ?_
  refine ldU k.val 880 512 (Nat.lt_succ_self _) (k0_off372_eq k) ?_
  exact h

theorem t1_76 {R : sProp 𝕄} {Q : α → sProp 𝕄} (k : Fin k0_t1_loop.trips) {arg18 : BitVec 32} {f : (Σ' (v4223 : FVec F S8x256 .f32) (v4224 : FVec F S8x256 .bf16) (v4225 : FVec F S8x256 .bf16) (v4228 : FVec F S8x256 .bf16) (v4231 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 114), (mxc (tl x0 x1 k.val 2) 114), (mnc (tl x0 x1 k.val 2) 114), (cB (tl x0 x1 k.val 2) 115), (s1c (tl x0 x1 k.val 2) (k0_pay1 on) 115), (mulf (eB (tl x0 x1 k.val 2) 115) (eB (tl x0 x1 k.val 2) 115))⟩) Q) :
    St c x0 x1 R on (k.val + 1) s1 s2 mx mn ⊢ WP c (ap k0_part76 a2 ha2 a3 ha3 a5 ha5 k arg18 (k0_pay1 on) (s2c (tl x0 x1 k.val 2) 109) (mxc (tl x0 x1 k.val 2) 109) (mnc (tl x0 x1 k.val 2) 109) (cB (tl x0 x1 k.val 2) 110) (s1c (tl x0 x1 k.val 2) (k0_pay1 on) 110) (mulf (eB (tl x0 x1 k.val 2) 110) (eB (tl x0 x1 k.val 2) 110)) >>= f) Q := by
  rw [k0_part76_eq_skeleton]
  refine ldU k.val 888 512 (Nat.lt_succ_self _) (k0_off373_eq k) ?_
  refine ldU k.val 896 512 (Nat.lt_succ_self _) (k0_off374_eq k) ?_
  refine ldU k.val 904 512 (Nat.lt_succ_self _) (k0_off375_eq k) ?_
  refine ldU k.val 912 512 (Nat.lt_succ_self _) (k0_off376_eq k) ?_
  refine ldU k.val 920 512 (Nat.lt_succ_self _) (k0_off377_eq k) ?_
  exact h

theorem t1_77 {R : sProp 𝕄} {Q : α → sProp 𝕄} (k : Fin k0_t1_loop.trips) {arg18 : BitVec 32} {f : (Σ' (v4273 : FVec F S8x256 .f32) (v4274 : FVec F S8x256 .bf16) (v4275 : FVec F S8x256 .bf16) (v4278 : FVec F S8x256 .bf16) (v4281 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 119), (mxc (tl x0 x1 k.val 2) 119), (mnc (tl x0 x1 k.val 2) 119), (cB (tl x0 x1 k.val 2) 120), (s1c (tl x0 x1 k.val 2) (k0_pay1 on) 120), (mulf (eB (tl x0 x1 k.val 2) 120) (eB (tl x0 x1 k.val 2) 120))⟩) Q) :
    St c x0 x1 R on (k.val + 1) s1 s2 mx mn ⊢ WP c (ap k0_part77 a2 ha2 a3 ha3 a5 ha5 k arg18 (k0_pay1 on) (s2c (tl x0 x1 k.val 2) 114) (mxc (tl x0 x1 k.val 2) 114) (mnc (tl x0 x1 k.val 2) 114) (cB (tl x0 x1 k.val 2) 115) (s1c (tl x0 x1 k.val 2) (k0_pay1 on) 115) (mulf (eB (tl x0 x1 k.val 2) 115) (eB (tl x0 x1 k.val 2) 115)) >>= f) Q := by
  rw [k0_part77_eq_skeleton]
  refine ldU k.val 928 512 (Nat.lt_succ_self _) (k0_off378_eq k) ?_
  refine ldU k.val 936 512 (Nat.lt_succ_self _) (k0_off379_eq k) ?_
  refine ldU k.val 944 512 (Nat.lt_succ_self _) (k0_off380_eq k) ?_
  refine ldU k.val 952 512 (Nat.lt_succ_self _) (k0_off381_eq k) ?_
  refine ldU k.val 960 512 (Nat.lt_succ_self _) (k0_off382_eq k) ?_
  exact h

theorem t1_78 {R : sProp 𝕄} {Q : α → sProp 𝕄} (k : Fin k0_t1_loop.trips) {arg18 : BitVec 32} {f : (Σ' (v4323 : FVec F S8x256 .f32) (v4324 : FVec F S8x256 .bf16) (v4325 : FVec F S8x256 .bf16) (v4328 : FVec F S8x256 .bf16) (v4331 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 124), (mxc (tl x0 x1 k.val 2) 124), (mnc (tl x0 x1 k.val 2) 124), (cB (tl x0 x1 k.val 2) 125), (s1c (tl x0 x1 k.val 2) (k0_pay1 on) 125), (mulf (eB (tl x0 x1 k.val 2) 125) (eB (tl x0 x1 k.val 2) 125))⟩) Q) :
    St c x0 x1 R on (k.val + 1) s1 s2 mx mn ⊢ WP c (ap k0_part78 a2 ha2 a3 ha3 a5 ha5 k arg18 (k0_pay1 on) (s2c (tl x0 x1 k.val 2) 119) (mxc (tl x0 x1 k.val 2) 119) (mnc (tl x0 x1 k.val 2) 119) (cB (tl x0 x1 k.val 2) 120) (s1c (tl x0 x1 k.val 2) (k0_pay1 on) 120) (mulf (eB (tl x0 x1 k.val 2) 120) (eB (tl x0 x1 k.val 2) 120)) >>= f) Q := by
  rw [k0_part78_eq_skeleton]
  refine ldU k.val 968 512 (Nat.lt_succ_self _) (k0_off383_eq k) ?_
  refine ldU k.val 976 512 (Nat.lt_succ_self _) (k0_off384_eq k) ?_
  refine ldU k.val 984 512 (Nat.lt_succ_self _) (k0_off385_eq k) ?_
  refine ldU k.val 992 512 (Nat.lt_succ_self _) (k0_off386_eq k) ?_
  refine ldU k.val 1000 512 (Nat.lt_succ_self _) (k0_off387_eq k) ?_
  exact h

theorem t1_79 {R : sProp 𝕄} {Q : α → sProp 𝕄} (k : Fin k0_t1_loop.trips) {arg18 : BitVec 32} {f : (FVec F S8x256 .f32) → Prog (TpuEff nD τ sig (Elt F) Λ₀ .tc) α}
    (h : St c x0 x1 R on (k.val + 1) (wr4 mS1 s1 (k0_off390 k) (k0_off390_inb k) (k0_pay362 (s1c (tl x0 x1 k.val 2) (k0_pay1 on) 127))) (wr4 mS2 s2 (k0_off390 k) (k0_off390_inb k) (k0_pay362 (s2c (tl x0 x1 k.val 2) 127))) (wr4 mMx mx (k0_off390 k) (k0_off390_inb k) (k0_pay364 (mxc (tl x0 x1 k.val 2) 127))) mn ⊢ WP c (f (extf .f32 (mnc (tl x0 x1 k.val 2) 127) bitsLt_bf16_f32)) Q) :
    St c x0 x1 R on (k.val + 1) s1 s2 mx mn ⊢ WP c (ap k0_part79 a2 ha2 a3 ha3 a5 ha5 k arg18 (k0_pay1 on) (s2c (tl x0 x1 k.val 2) 124) (mxc (tl x0 x1 k.val 2) 124) (mnc (tl x0 x1 k.val 2) 124) (cB (tl x0 x1 k.val 2) 125) (s1c (tl x0 x1 k.val 2) (k0_pay1 on) 125) (mulf (eB (tl x0 x1 k.val 2) 125) (eB (tl x0 x1 k.val 2) 125)) >>= f) Q := by
  rw [k0_part79_eq_skeleton]
  refine ldU k.val 1008 512 (Nat.lt_succ_self _) (k0_off388_eq k) ?_
  refine ldU k.val 1016 512 (Nat.lt_succ_self _) (k0_off389_eq k) ?_
  refine ddS1 ?_
  refine stS1 ?_
  refine ddS2 ?_
  refine stS2 ?_
  refine ddMx ?_
  refine stMx ?_
  exact h

theorem t1_80 {R : sProp 𝕄} {Q : α → sProp 𝕄} (k : Fin k0_t1_loop.trips) {arg18 : BitVec 32} {f : (Σ' (v4413 : FVec F S8x256 .f32) (v4415 : FVec F S8x256 .f32) (v4416 : FVec F S8x256 .bf16) (v4417 : FVec F S8x256 .bf16) (v4420 : FVec F S8x256 .bf16) (v4421 : FVec F S8x256 .f32), FVec F S8x256 .f32) → Prog (TpuEff nD τ sig (Elt F) Λ₀ .tc) α}
    (h : St c x0 x1 R on (k.val + 1) s1 s2 mx (wr4 mMn mn (k0_off390 k) (k0_off390_inb k) (finMn (mnc (tl x0 x1 k.val 2) 127))) ⊢ WP c (f ⟨(s1c (tl x0 x1 k.val 3) (k0_pay1 on) 3), (s2c (tl x0 x1 k.val 3) 3), (mxc (tl x0 x1 k.val 3) 3), (mnc (tl x0 x1 k.val 3) 3), (cB (tl x0 x1 k.val 3) 4), (eB (tl x0 x1 k.val 3) 4), (mulf (eB (tl x0 x1 k.val 3) 4) (k0_pay1 on))⟩) Q) :
    St c x0 x1 R on (k.val + 1) s1 s2 mx mn ⊢ WP c (ap k0_part80 a2 ha2 a3 ha3 a5 ha5 k arg18 (k0_pay1 on) (extf .f32 (mnc (tl x0 x1 k.val 2) 127) bitsLt_bf16_f32) >>= f) Q := by
  rw [k0_part80_eq_skeleton]
  refine ddMn ?_
  refine stMn ?_
  refine ldS k.val 0 0 (Nat.lt_succ_self _) (k0_off391_eq k) ?_
  refine ldS k.val 8 0 (Nat.lt_succ_self _) (k0_off392_eq k) ?_
  refine ldS k.val 16 0 (Nat.lt_succ_self _) (k0_off393_eq k) ?_
  refine ldS k.val 24 0 (Nat.lt_succ_self _) (k0_off394_eq k) ?_
  refine ldS k.val 32 0 (Nat.lt_succ_self _) (k0_off395_eq k) ?_
  exact h

theorem t1_81 {R : sProp 𝕄} {Q : α → sProp 𝕄} (k : Fin k0_t1_loop.trips) {arg18 : BitVec 32} {f : (Σ' (v4463 : FVec F S8x256 .f32) (v4465 : FVec F S8x256 .f32) (v4466 : FVec F S8x256 .bf16) (v4467 : FVec F S8x256 .bf16) (v4470 : FVec F S8x256 .bf16) (v4471 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 8), (s2c (tl x0 x1 k.val 3) 8), (mxc (tl x0 x1 k.val 3) 8), (mnc (tl x0 x1 k.val 3) 8), (cB (tl x0 x1 k.val 3) 9), (eB (tl x0 x1 k.val 3) 9), (mulf (eB (tl x0 x1 k.val 3) 9) (k0_pay1 on))⟩) Q) :
    St c x0 x1 R on (k.val + 1) s1 s2 mx mn ⊢ WP c (ap k0_part81 a2 ha2 a3 ha3 a5 ha5 k arg18 (k0_pay1 on) (s1c (tl x0 x1 k.val 3) (k0_pay1 on) 3) (s2c (tl x0 x1 k.val 3) 3) (mxc (tl x0 x1 k.val 3) 3) (mnc (tl x0 x1 k.val 3) 3) (cB (tl x0 x1 k.val 3) 4) (eB (tl x0 x1 k.val 3) 4) (mulf (eB (tl x0 x1 k.val 3) 4) (k0_pay1 on)) >>= f) Q := by
  rw [k0_part81_eq_skeleton]
  refine ldS k.val 40 0 (Nat.lt_succ_self _) (k0_off396_eq k) ?_
  refine ldS k.val 48 0 (Nat.lt_succ_self _) (k0_off397_eq k) ?_
  refine ldS k.val 56 0 (Nat.lt_succ_self _) (k0_off398_eq k) ?_
  refine ldS k.val 64 0 (Nat.lt_succ_self _) (k0_off399_eq k) ?_
  refine ldS k.val 72 0 (Nat.lt_succ_self _) (k0_off400_eq k) ?_
  exact h

theorem t1_82 {R : sProp 𝕄} {Q : α → sProp 𝕄} (k : Fin k0_t1_loop.trips) {arg18 : BitVec 32} {f : (Σ' (v4513 : FVec F S8x256 .f32) (v4515 : FVec F S8x256 .f32) (v4516 : FVec F S8x256 .bf16) (v4517 : FVec F S8x256 .bf16) (v4520 : FVec F S8x256 .bf16) (v4521 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 13), (s2c (tl x0 x1 k.val 3) 13), (mxc (tl x0 x1 k.val 3) 13), (mnc (tl x0 x1 k.val 3) 13), (cB (tl x0 x1 k.val 3) 14), (eB (tl x0 x1 k.val 3) 14), (mulf (eB (tl x0 x1 k.val 3) 14) (k0_pay1 on))⟩) Q) :
    St c x0 x1 R on (k.val + 1) s1 s2 mx mn ⊢ WP c (ap k0_part82 a2 ha2 a3 ha3 a5 ha5 k arg18 (k0_pay1 on) (s1c (tl x0 x1 k.val 3) (k0_pay1 on) 8) (s2c (tl x0 x1 k.val 3) 8) (mxc (tl x0 x1 k.val 3) 8) (mnc (tl x0 x1 k.val 3) 8) (cB (tl x0 x1 k.val 3) 9) (eB (tl x0 x1 k.val 3) 9) (mulf (eB (tl x0 x1 k.val 3) 9) (k0_pay1 on)) >>= f) Q := by
  rw [k0_part82_eq_skeleton]
  refine ldS k.val 80 0 (Nat.lt_succ_self _) (k0_off401_eq k) ?_
  refine ldS k.val 88 0 (Nat.lt_succ_self _) (k0_off402_eq k) ?_
  refine ldS k.val 96 0 (Nat.lt_succ_self _) (k0_off403_eq k) ?_
  refine ldS k.val 104 0 (Nat.lt_succ_self _) (k0_off404_eq k) ?_
  refine ldS k.val 112 0 (Nat.lt_succ_self _) (k0_off405_eq k) ?_
  exact h

theorem t1_83 {R : sProp 𝕄} {Q : α → sProp 𝕄} (k : Fin k0_t1_loop.trips) {arg18 : BitVec 32} {f : (Σ' (v4563 : FVec F S8x256 .f32) (v4565 : FVec F S8x256 .f32) (v4566 : FVec F S8x256 .bf16) (v4567 : FVec F S8x256 .bf16) (v4570 : FVec F S8x256 .bf16) (v4571 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 18), (s2c (tl x0 x1 k.val 3) 18), (mxc (tl x0 x1 k.val 3) 18), (mnc (tl x0 x1 k.val 3) 18), (cB (tl x0 x1 k.val 3) 19), (eB (tl x0 x1 k.val 3) 19), (mulf (eB (tl x0 x1 k.val 3) 19) (k0_pay1 on))⟩) Q) :
    St c x0 x1 R on (k.val + 1) s1 s2 mx mn ⊢ WP c (ap k0_part83 a2 ha2 a3 ha3 a5 ha5 k arg18 (k0_pay1 on) (s1c (tl x0 x1 k.val 3) (k0_pay1 on) 13) (s2c (tl x0 x1 k.val 3) 13) (mxc (tl x0 x1 k.val 3) 13) (mnc (tl x0 x1 k.val 3) 13) (cB (tl x0 x1 k.val 3) 14) (eB (tl x0 x1 k.val 3) 14) (mulf (eB (tl x0 x1 k.val 3) 14) (k0_pay1 on)) >>= f) Q := by
  rw [k0_part83_eq_skeleton]
  refine ldS k.val 120 0 (Nat.lt_succ_self _) (k0_off406_eq k) ?_
  refine ldS k.val 128 0 (Nat.lt_succ_self _) (k0_off407_eq k) ?_
  refine ldS k.val 136 0 (Nat.lt_succ_self _) (k0_off408_eq k) ?_
  refine ldS k.val 144 0 (Nat.lt_succ_self _) (k0_off409_eq k) ?_
  refine ldS k.val 152 0 (Nat.lt_succ_self _) (k0_off410_eq k) ?_
  exact h

theorem t1_84 {R : sProp 𝕄} {Q : α → sProp 𝕄} (k : Fin k0_t1_loop.trips) {arg18 : BitVec 32} {f : (Σ' (v4613 : FVec F S8x256 .f32) (v4615 : FVec F S8x256 .f32) (v4616 : FVec F S8x256 .bf16) (v4617 : FVec F S8x256 .bf16) (v4620 : FVec F S8x256 .bf16) (v4621 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 23), (s2c (tl x0 x1 k.val 3) 23), (mxc (tl x0 x1 k.val 3) 23), (mnc (tl x0 x1 k.val 3) 23), (cB (tl x0 x1 k.val 3) 24), (eB (tl x0 x1 k.val 3) 24), (mulf (eB (tl x0 x1 k.val 3) 24) (k0_pay1 on))⟩) Q) :
    St c x0 x1 R on (k.val + 1) s1 s2 mx mn ⊢ WP c (ap k0_part84 a2 ha2 a3 ha3 a5 ha5 k arg18 (k0_pay1 on) (s1c (tl x0 x1 k.val 3) (k0_pay1 on) 18) (s2c (tl x0 x1 k.val 3) 18) (mxc (tl x0 x1 k.val 3) 18) (mnc (tl x0 x1 k.val 3) 18) (cB (tl x0 x1 k.val 3) 19) (eB (tl x0 x1 k.val 3) 19) (mulf (eB (tl x0 x1 k.val 3) 19) (k0_pay1 on)) >>= f) Q := by
  rw [k0_part84_eq_skeleton]
  refine ldS k.val 160 0 (Nat.lt_succ_self _) (k0_off411_eq k) ?_
  refine ldS k.val 168 0 (Nat.lt_succ_self _) (k0_off412_eq k) ?_
  refine ldS k.val 176 0 (Nat.lt_succ_self _) (k0_off413_eq k) ?_
  refine ldS k.val 184 0 (Nat.lt_succ_self _) (k0_off414_eq k) ?_
  refine ldS k.val 192 0 (Nat.lt_succ_self _) (k0_off415_eq k) ?_
  exact h

theorem t1_85 {R : sProp 𝕄} {Q : α → sProp 𝕄} (k : Fin k0_t1_loop.trips) {arg18 : BitVec 32} {f : (Σ' (v4663 : FVec F S8x256 .f32) (v4665 : FVec F S8x256 .f32) (v4666 : FVec F S8x256 .bf16) (v4667 : FVec F S8x256 .bf16) (v4670 : FVec F S8x256 .bf16) (v4671 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 28), (s2c (tl x0 x1 k.val 3) 28), (mxc (tl x0 x1 k.val 3) 28), (mnc (tl x0 x1 k.val 3) 28), (cB (tl x0 x1 k.val 3) 29), (eB (tl x0 x1 k.val 3) 29), (mulf (eB (tl x0 x1 k.val 3) 29) (k0_pay1 on))⟩) Q) :
    St c x0 x1 R on (k.val + 1) s1 s2 mx mn ⊢ WP c (ap k0_part85 a2 ha2 a3 ha3 a5 ha5 k arg18 (k0_pay1 on) (s1c (tl x0 x1 k.val 3) (k0_pay1 on) 23) (s2c (tl x0 x1 k.val 3) 23) (mxc (tl x0 x1 k.val 3) 23) (mnc (tl x0 x1 k.val 3) 23) (cB (tl x0 x1 k.val 3) 24) (eB (tl x0 x1 k.val 3) 24) (mulf (eB (tl x0 x1 k.val 3) 24) (k0_pay1 on)) >>= f) Q := by
  rw [k0_part85_eq_skeleton]
  refine ldS k.val 200 0 (Nat.lt_succ_self _) (k0_off416_eq k) ?_
  refine ldS k.val 208 0 (Nat.lt_succ_self _) (k0_off417_eq k) ?_
  refine ldS k.val 216 0 (Nat.lt_succ_self _) (k0_off418_eq k) ?_
  refine ldS k.val 224 0 (Nat.lt_succ_self _) (k0_off419_eq k) ?_
  refine ldS k.val 232 0 (Nat.lt_succ_self _) (k0_off420_eq k) ?_
  exact h

theorem t1_86 {R : sProp 𝕄} {Q : α → sProp 𝕄} (k : Fin k0_t1_loop.trips) {arg18 : BitVec 32} {f : (Σ' (v4713 : FVec F S8x256 .f32) (v4715 : FVec F S8x256 .f32) (v4716 : FVec F S8x256 .bf16) (v4717 : FVec F S8x256 .bf16) (v4720 : FVec F S8x256 .bf16) (v4721 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 33), (s2c (tl x0 x1 k.val 3) 33), (mxc (tl x0 x1 k.val 3) 33), (mnc (tl x0 x1 k.val 3) 33), (cB (tl x0 x1 k.val 3) 34), (eB (tl x0 x1 k.val 3) 34), (mulf (eB (tl x0 x1 k.val 3) 34) (k0_pay1 on))⟩) Q) :
    St c x0 x1 R on (k.val + 1) s1 s2 mx mn ⊢ WP c (ap k0_part86 a2 ha2 a3 ha3 a5 ha5 k arg18 (k0_pay1 on) (s1c (tl x0 x1 k.val 3) (k0_pay1 on) 28) (s2c (tl x0 x1 k.val 3) 28) (mxc (tl x0 x1 k.val 3) 28) (mnc (tl x0 x1 k.val 3) 28) (cB (tl x0 x1 k.val 3) 29) (eB (tl x0 x1 k.val 3) 29) (mulf (eB (tl x0 x1 k.val 3) 29) (k0_pay1 on)) >>= f) Q := by
  rw [k0_part86_eq_skeleton]
  refine ldS k.val 240 0 (Nat.lt_succ_self _) (k0_off421_eq k) ?_
  refine ldS k.val 248 0 (Nat.lt_succ_self _) (k0_off422_eq k) ?_
  refine ldS k.val 256 0 (Nat.lt_succ_self _) (k0_off423_eq k) ?_
  refine ldS k.val 264 0 (Nat.lt_succ_self _) (k0_off424_eq k) ?_
  refine ldS k.val 272 0 (Nat.lt_succ_self _) (k0_off425_eq k) ?_
  exact h

theorem t1_87 {R : sProp 𝕄} {Q : α → sProp 𝕄} (k : Fin k0_t1_loop.trips) {arg18 : BitVec 32} {f : (Σ' (v4763 : FVec F S8x256 .f32) (v4765 : FVec F S8x256 .f32) (v4766 : FVec F S8x256 .bf16) (v4767 : FVec F S8x256 .bf16) (v4770 : FVec F S8x256 .bf16) (v4771 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 38), (s2c (tl x0 x1 k.val 3) 38), (mxc (tl x0 x1 k.val 3) 38), (mnc (tl x0 x1 k.val 3) 38), (cB (tl x0 x1 k.val 3) 39), (eB (tl x0 x1 k.val 3) 39), (mulf (eB (tl x0 x1 k.val 3) 39) (k0_pay1 on))⟩) Q) :
    St c x0 x1 R on (k.val + 1) s1 s2 mx mn ⊢ WP c (ap k0_part87 a2 ha2 a3 ha3 a5 ha5 k arg18 (k0_pay1 on) (s1c (tl x0 x1 k.val 3) (k0_pay1 on) 33) (s2c (tl x0 x1 k.val 3) 33) (mxc (tl x0 x1 k.val 3) 33) (mnc (tl x0 x1 k.val 3) 33) (cB (tl x0 x1 k.val 3) 34) (eB (tl x0 x1 k.val 3) 34) (mulf (eB (tl x0 x1 k.val 3) 34) (k0_pay1 on)) >>= f) Q := by
  rw [k0_part87_eq_skeleton]
  refine ldS k.val 280 0 (Nat.lt_succ_self _) (k0_off426_eq k) ?_
  refine ldS k.val 288 0 (Nat.lt_succ_self _) (k0_off427_eq k) ?_
  refine ldS k.val 296 0 (Nat.lt_succ_self _) (k0_off428_eq k) ?_
  refine ldS k.val 304 0 (Nat.lt_succ_self _) (k0_off429_eq k) ?_
  refine ldS k.val 312 0 (Nat.lt_succ_self _) (k0_off430_eq k) ?_
  exact h

theorem t1_88 {R : sProp 𝕄} {Q : α → sProp 𝕄} (k : Fin k0_t1_loop.trips) {arg18 : BitVec 32} {f : (Σ' (v4813 : FVec F S8x256 .f32) (v4815 : FVec F S8x256 .f32) (v4816 : FVec F S8x256 .bf16) (v4817 : FVec F S8x256 .bf16) (v4820 : FVec F S8x256 .bf16) (v4821 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 43), (s2c (tl x0 x1 k.val 3) 43), (mxc (tl x0 x1 k.val 3) 43), (mnc (tl x0 x1 k.val 3) 43), (cB (tl x0 x1 k.val 3) 44), (eB (tl x0 x1 k.val 3) 44), (mulf (eB (tl x0 x1 k.val 3) 44) (k0_pay1 on))⟩) Q) :
    St c x0 x1 R on (k.val + 1) s1 s2 mx mn ⊢ WP c (ap k0_part88 a2 ha2 a3 ha3 a5 ha5 k arg18 (k0_pay1 on) (s1c (tl x0 x1 k.val 3) (k0_pay1 on) 38) (s2c (tl x0 x1 k.val 3) 38) (mxc (tl x0 x1 k.val 3) 38) (mnc (tl x0 x1 k.val 3) 38) (cB (tl x0 x1 k.val 3) 39) (eB (tl x0 x1 k.val 3) 39) (mulf (eB (tl x0 x1 k.val 3) 39) (k0_pay1 on)) >>= f) Q := by
  rw [k0_part88_eq_skeleton]
  refine ldS k.val 320 0 (Nat.lt_succ_self _) (k0_off431_eq k) ?_
  refine ldS k.val 328 0 (Nat.lt_succ_self _) (k0_off432_eq k) ?_
  refine ldS k.val 336 0 (Nat.lt_succ_self _) (k0_off433_eq k) ?_
  refine ldS k.val 344 0 (Nat.lt_succ_self _) (k0_off434_eq k) ?_
  refine ldS k.val 352 0 (Nat.lt_succ_self _) (k0_off435_eq k) ?_
  exact h

theorem t1_89 {R : sProp 𝕄} {Q : α → sProp 𝕄} (k : Fin k0_t1_loop.trips) {arg18 : BitVec 32} {f : (Σ' (v4863 : FVec F S8x256 .f32) (v4865 : FVec F S8x256 .f32) (v4866 : FVec F S8x256 .bf16) (v4867 : FVec F S8x256 .bf16) (v4870 : FVec F S8x256 .bf16) (v4871 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 48), (s2c (tl x0 x1 k.val 3) 48), (mxc (tl x0 x1 k.val 3) 48), (mnc (tl x0 x1 k.val 3) 48), (cB (tl x0 x1 k.val 3) 49), (eB (tl x0 x1 k.val 3) 49), (mulf (eB (tl x0 x1 k.val 3) 49) (k0_pay1 on))⟩) Q) :
    St c x0 x1 R on (k.val + 1) s1 s2 mx mn ⊢ WP c (ap k0_part89 a2 ha2 a3 ha3 a5 ha5 k arg18 (k0_pay1 on) (s1c (tl x0 x1 k.val 3) (k0_pay1 on) 43) (s2c (tl x0 x1 k.val 3) 43) (mxc (tl x0 x1 k.val 3) 43) (mnc (tl x0 x1 k.val 3) 43) (cB (tl x0 x1 k.val 3) 44) (eB (tl x0 x1 k.val 3) 44) (mulf (eB (tl x0 x1 k.val 3) 44) (k0_pay1 on)) >>= f) Q := by
  rw [k0_part89_eq_skeleton]
  refine ldS k.val 360 0 (Nat.lt_succ_self _) (k0_off436_eq k) ?_
  refine ldS k.val 368 0 (Nat.lt_succ_self _) (k0_off437_eq k) ?_
  refine ldS k.val 376 0 (Nat.lt_succ_self _) (k0_off438_eq k) ?_
  refine ldS k.val 384 0 (Nat.lt_succ_self _) (k0_off439_eq k) ?_
  refine ldS k.val 392 0 (Nat.lt_succ_self _) (k0_off440_eq k) ?_
  exact h

theorem t1_90 {R : sProp 𝕄} {Q : α → sProp 𝕄} (k : Fin k0_t1_loop.trips) {arg18 : BitVec 32} {f : (Σ' (v4913 : FVec F S8x256 .f32) (v4915 : FVec F S8x256 .f32) (v4916 : FVec F S8x256 .bf16) (v4917 : FVec F S8x256 .bf16) (v4920 : FVec F S8x256 .bf16) (v4921 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 53), (s2c (tl x0 x1 k.val 3) 53), (mxc (tl x0 x1 k.val 3) 53), (mnc (tl x0 x1 k.val 3) 53), (cB (tl x0 x1 k.val 3) 54), (eB (tl x0 x1 k.val 3) 54), (mulf (eB (tl x0 x1 k.val 3) 54) (k0_pay1 on))⟩) Q) :
    St c x0 x1 R on (k.val + 1) s1 s2 mx mn ⊢ WP c (ap k0_part90 a2 ha2 a3 ha3 a5 ha5 k arg18 (k0_pay1 on) (s1c (tl x0 x1 k.val 3) (k0_pay1 on) 48) (s2c (tl x0 x1 k.val 3) 48) (mxc (tl x0 x1 k.val 3) 48) (mnc (tl x0 x1 k.val 3) 48) (cB (tl x0 x1 k.val 3) 49) (eB (tl x0 x1 k.val 3) 49) (mulf (eB (tl x0 x1 k.val 3) 49) (k0_pay1 on)) >>= f) Q := by
  rw [k0_part90_eq_skeleton]
  refine ldS k.val 400 0 (Nat.lt_succ_self _) (k0_off441_eq k) ?_
  refine ldS k.val 408 0 (Nat.lt_succ_self _) (k0_off442_eq k) ?_
  refine ldS k.val 416 0 (Nat.lt_succ_self _) (k0_off443_eq k) ?_
  refine ldS k.val 424 0 (Nat.lt_succ_self _) (k0_off444_eq k) ?_
  refine ldS k.val 432 0 (Nat.lt_succ_self _) (k0_off445_eq k) ?_
  exact h

theorem t1_91 {R : sProp 𝕄} {Q : α → sProp 𝕄} (k : Fin k0_t1_loop.trips) {arg18 : BitVec 32} {f : (Σ' (v4963 : FVec F S8x256 .f32) (v4965 : FVec F S8x256 .f32) (v4966 : FVec F S8x256 .bf16) (v4967 : FVec F S8x256 .bf16) (v4970 : FVec F S8x256 .bf16) (v4971 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 58), (s2c (tl x0 x1 k.val 3) 58), (mxc (tl x0 x1 k.val 3) 58), (mnc (tl x0 x1 k.val 3) 58), (cB (tl x0 x1 k.val 3) 59), (eB (tl x0 x1 k.val 3) 59), (mulf (eB (tl x0 x1 k.val 3) 59) (k0_pay1 on))⟩) Q) :
    St c x0 x1 R on (k.val + 1) s1 s2 mx mn ⊢ WP c (ap k0_part91 a2 ha2 a3 ha3 a5 ha5 k arg18 (k0_pay1 on) (s1c (tl x0 x1 k.val 3) (k0_pay1 on) 53) (s2c (tl x0 x1 k.val 3) 53) (mxc (tl x0 x1 k.val 3) 53) (mnc (tl x0 x1 k.val 3) 53) (cB (tl x0 x1 k.val 3) 54) (eB (tl x0 x1 k.val 3) 54) (mulf (eB (tl x0 x1 k.val 3) 54) (k0_pay1 on)) >>= f) Q := by
  rw [k0_part91_eq_skeleton]
  refine ldS k.val 440 0 (Nat.lt_succ_self _) (k0_off446_eq k) ?_
  refine ldS k.val 448 0 (Nat.lt_succ_self _) (k0_off447_eq k) ?_
  refine ldS k.val 456 0 (Nat.lt_succ_self _) (k0_off448_eq k) ?_
  refine ldS k.val 464 0 (Nat.lt_succ_self _) (k0_off449_eq k) ?_
  refine ldS k.val 472 0 (Nat.lt_succ_self _) (k0_off450_eq k) ?_
  exact h

theorem t1_92 {R : sProp 𝕄} {Q : α → sProp 𝕄} (k : Fin k0_t1_loop.trips) {arg18 : BitVec 32} {f : (Σ' (v5013 : FVec F S8x256 .f32) (v5015 : FVec F S8x256 .f32) (v5016 : FVec F S8x256 .bf16) (v5017 : FVec F S8x256 .bf16) (v5020 : FVec F S8x256 .bf16) (v5021 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 63), (s2c (tl x0 x1 k.val 3) 63), (mxc (tl x0 x1 k.val 3) 63), (mnc (tl x0 x1 k.val 3) 63), (cB (tl x0 x1 k.val 3) 64), (eB (tl x0 x1 k.val 3) 64), (mulf (eB (tl x0 x1 k.val 3) 64) (k0_pay1 on))⟩) Q) :
    St c x0 x1 R on (k.val + 1) s1 s2 mx mn ⊢ WP c (ap k0_part92 a2 ha2 a3 ha3 a5 ha5 k arg18 (k0_pay1 on) (s1c (tl x0 x1 k.val 3) (k0_pay1 on) 58) (s2c (tl x0 x1 k.val 3) 58) (mxc (tl x0 x1 k.val 3) 58) (mnc (tl x0 x1 k.val 3) 58) (cB (tl x0 x1 k.val 3) 59) (eB (tl x0 x1 k.val 3) 59) (mulf (eB (tl x0 x1 k.val 3) 59) (k0_pay1 on)) >>= f) Q := by
  rw [k0_part92_eq_skeleton]
  refine ldS k.val 480 0 (Nat.lt_succ_self _) (k0_off451_eq k) ?_
  refine ldS k.val 488 0 (Nat.lt_succ_self _) (k0_off452_eq k) ?_
  refine ldS k.val 496 0 (Nat.lt_succ_self _) (k0_off453_eq k) ?_
  refine ldS k.val 504 0 (Nat.lt_succ_self _) (k0_off454_eq k) ?_
  refine ldS k.val 512 0 (Nat.lt_succ_self _) (k0_off455_eq k) ?_
  exact h

theorem t1_93 {R : sProp 𝕄} {Q : α → sProp 𝕄} (k : Fin k0_t1_loop.trips) {arg18 : BitVec 32} {f : (Σ' (v5063 : FVec F S8x256 .f32) (v5065 : FVec F S8x256 .f32) (v5066 : FVec F S8x256 .bf16) (v5067 : FVec F S8x256 .bf16) (v5070 : FVec F S8x256 .bf16) (v5071 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 68), (s2c (tl x0 x1 k.val 3) 68), (mxc (tl x0 x1 k.val 3) 68), (mnc (tl x0 x1 k.val 3) 68), (cB (tl x0 x1 k.val 3) 69), (eB (tl x0 x1 k.val 3) 69), (mulf (eB (tl x0 x1 k.val 3) 69) (k0_pay1 on))⟩) Q) :
    St c x0 x1 R on (k.val + 1) s1 s2 mx mn ⊢ WP c (ap k0_part93 a2 ha2 a3 ha3 a5 ha5 k arg18 (k0_pay1 on) (s1c (tl x0 x1 k.val 3) (k0_pay1 on) 63) (s2c (tl x0 x1 k.val 3) 63) (mxc (tl x0 x1 k.val 3) 63) (mnc (tl x0 x1 k.val 3) 63) (cB (tl x0 x1 k.val 3) 64) (eB (tl x0 x1 k.val 3) 64) (mulf (eB (tl x0 x1 k.val 3) 64) (k0_pay1 on)) >>= f) Q := by
  rw [k0_part93_eq_skeleton]
  refine ldS k.val 520 0 (Nat.lt_succ_self _) (k0_off456_eq k) ?_
  refine ldS k.val 528 0 (Nat.lt_succ_self _) (k0_off457_eq k) ?_
  refine ldS k.val 536 0 (Nat.lt_succ_self _) (k0_off458_eq k) ?_
  refine ldS k.val 544 0 (Nat.lt_succ_self _) (k0_off459_eq k) ?_
  refine ldS k.val 552 0 (Nat.lt_succ_self _) (k0_off460_eq k) ?_
  exact h

theorem t1_94 {R : sProp 𝕄} {Q : α → sProp 𝕄} (k : Fin k0_t1_loop.trips) {arg18 : BitVec 32} {f : (Σ' (v5113 : FVec F S8x256 .f32) (v5115 : FVec F S8x256 .f32) (v5116 : FVec F S8x256 .bf16) (v5117 : FVec F S8x256 .bf16) (v5120 : FVec F S8x256 .bf16) (v5121 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 73), (s2c (tl x0 x1 k.val 3) 73), (mxc (tl x0 x1 k.val 3) 73), (mnc (tl x0 x1 k.val 3) 73), (cB (tl x0 x1 k.val 3) 74), (eB (tl x0 x1 k.val 3) 74), (mulf (eB (tl x0 x1 k.val 3) 74) (k0_pay1 on))⟩) Q) :
    St c x0 x1 R on (k.val + 1) s1 s2 mx mn ⊢ WP c (ap k0_part94 a2 ha2 a3 ha3 a5 ha5 k arg18 (k0_pay1 on) (s1c (tl x0 x1 k.val 3) (k0_pay1 on) 68) (s2c (tl x0 x1 k.val 3) 68) (mxc (tl x0 x1 k.val 3) 68) (mnc (tl x0 x1 k.val 3) 68) (cB (tl x0 x1 k.val 3) 69) (eB (tl x0 x1 k.val 3) 69) (mulf (eB (tl x0 x1 k.val 3) 69) (k0_pay1 on)) >>= f) Q := by
  rw [k0_part94_eq_skeleton]
  refine ldS k.val 560 0 (Nat.lt_succ_self _) (k0_off461_eq k) ?_
  refine ldS k.val 568 0 (Nat.lt_succ_self _) (k0_off462_eq k) ?_
  refine ldS k.val 576 0 (Nat.lt_succ_self _) (k0_off463_eq k) ?_
  refine ldS k.val 584 0 (Nat.lt_succ_self _) (k0_off464_eq k) ?_
  refine ldS k.val 592 0 (Nat.lt_succ_self _) (k0_off465_eq k) ?_
  exact h

theorem t1_95 {R : sProp 𝕄} {Q : α → sProp 𝕄} (k : Fin k0_t1_loop.trips) {arg18 : BitVec 32} {f : (Σ' (v5163 : FVec F S8x256 .f32) (v5165 : FVec F S8x256 .f32) (v5166 : FVec F S8x256 .bf16) (v5167 : FVec F S8x256 .bf16) (v5170 : FVec F S8x256 .bf16) (v5171 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 78), (s2c (tl x0 x1 k.val 3) 78), (mxc (tl x0 x1 k.val 3) 78), (mnc (tl x0 x1 k.val 3) 78), (cB (tl x0 x1 k.val 3) 79), (eB (tl x0 x1 k.val 3) 79), (mulf (eB (tl x0 x1 k.val 3) 79) (k0_pay1 on))⟩) Q) :
    St c x0 x1 R on (k.val + 1) s1 s2 mx mn ⊢ WP c (ap k0_part95 a2 ha2 a3 ha3 a5 ha5 k arg18 (k0_pay1 on) (s1c (tl x0 x1 k.val 3) (k0_pay1 on) 73) (s2c (tl x0 x1 k.val 3) 73) (mxc (tl x0 x1 k.val 3) 73) (mnc (tl x0 x1 k.val 3) 73) (cB (tl x0 x1 k.val 3) 74) (eB (tl x0 x1 k.val 3) 74) (mulf (eB (tl x0 x1 k.val 3) 74) (k0_pay1 on)) >>= f) Q := by
  rw [k0_part95_eq_skeleton]
  refine ldS k.val 600 0 (Nat.lt_succ_self _) (k0_off466_eq k) ?_
  refine ldS k.val 608 0 (Nat.lt_succ_self _) (k0_off467_eq k) ?_
  refine ldS k.val 616 0 (Nat.lt_succ_self _) (k0_off468_eq k) ?_
  refine ldS k.val 624 0 (Nat.lt_succ_self _) (k0_off469_eq k) ?_
  refine ldS k.val 632 0 (Nat.lt_succ_self _) (k0_off470_eq k) ?_
  exact h

theorem t1_96 {R : sProp 𝕄} {Q : α → sProp 𝕄} (k : Fin k0_t1_loop.trips) {arg18 : BitVec 32} {f : (Σ' (v5213 : FVec F S8x256 .f32) (v5215 : FVec F S8x256 .f32) (v5216 : FVec F S8x256 .bf16) (v5217 : FVec F S8x256 .bf16) (v5220 : FVec F S8x256 .bf16) (v5221 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 83), (s2c (tl x0 x1 k.val 3) 83), (mxc (tl x0 x1 k.val 3) 83), (mnc (tl x0 x1 k.val 3) 83), (cB (tl x0 x1 k.val 3) 84), (eB (tl x0 x1 k.val 3) 84), (mulf (eB (tl x0 x1 k.val 3) 84) (k0_pay1 on))⟩) Q) :
    St c x0 x1 R on (k.val + 1) s1 s2 mx mn ⊢ WP c (ap k0_part96 a2 ha2 a3 ha3 a5 ha5 k arg18 (k0_pay1 on) (s1c (tl x0 x1 k.val 3) (k0_pay1 on) 78) (s2c (tl x0 x1 k.val 3) 78) (mxc (tl x0 x1 k.val 3) 78) (mnc (tl x0 x1 k.val 3) 78) (cB (tl x0 x1 k.val 3) 79) (eB (tl x0 x1 k.val 3) 79) (mulf (eB (tl x0 x1 k.val 3) 79) (k0_pay1 on)) >>= f) Q := by
  rw [k0_part96_eq_skeleton]
  refine ldS k.val 640 0 (Nat.lt_succ_self _) (k0_off471_eq k) ?_
  refine ldS k.val 648 0 (Nat.lt_succ_self _) (k0_off472_eq k) ?_
  refine ldS k.val 656 0 (Nat.lt_succ_self _) (k0_off473_eq k) ?_
  refine ldS k.val 664 0 (Nat.lt_succ_self _) (k0_off474_eq k) ?_
  refine ldS k.val 672 0 (Nat.lt_succ_self _) (k0_off475_eq k) ?_
  exact h

theorem t1_97 {R : sProp 𝕄} {Q : α → sProp 𝕄} (k : Fin k0_t1_loop.trips) {arg18 : BitVec 32} {f : (Σ' (v5263 : FVec F S8x256 .f32) (v5265 : FVec F S8x256 .f32) (v5266 : FVec F S8x256 .bf16) (v5267 : FVec F S8x256 .bf16) (v5270 : FVec F S8x256 .bf16) (v5271 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 88), (s2c (tl x0 x1 k.val 3) 88), (mxc (tl x0 x1 k.val 3) 88), (mnc (tl x0 x1 k.val 3) 88), (cB (tl x0 x1 k.val 3) 89), (eB (tl x0 x1 k.val 3) 89), (mulf (eB (tl x0 x1 k.val 3) 89) (k0_pay1 on))⟩) Q) :
    St c x0 x1 R on (k.val + 1) s1 s2 mx mn ⊢ WP c (ap k0_part97 a2 ha2 a3 ha3 a5 ha5 k arg18 (k0_pay1 on) (s1c (tl x0 x1 k.val 3) (k0_pay1 on) 83) (s2c (tl x0 x1 k.val 3) 83) (mxc (tl x0 x1 k.val 3) 83) (mnc (tl x0 x1 k.val 3) 83) (cB (tl x0 x1 k.val 3) 84) (eB (tl x0 x1 k.val 3) 84) (mulf (eB (tl x0 x1 k.val 3) 84) (k0_pay1 on)) >>= f) Q := by
  rw [k0_part97_eq_skeleton]
  refine ldS k.val 680 0 (Nat.lt_succ_self _) (k0_off476_eq k) ?_
  refine ldS k.val 688 0 (Nat.lt_succ_self _) (k0_off477_eq k) ?_
  refine ldS k.val 696 0 (Nat.lt_succ_self _) (k0_off478_eq k) ?_
  refine ldS k.val 704 0 (Nat.lt_succ_self _) (k0_off479_eq k) ?_
  refine ldS k.val 712 0 (Nat.lt_succ_self _) (k0_off480_eq k) ?_
  exact h

theorem t1_98 {R : sProp 𝕄} {Q : α → sProp 𝕄} (k : Fin k0_t1_loop.trips) {arg18 : BitVec 32} {f : (Σ' (v5313 : FVec F S8x256 .f32) (v5315 : FVec F S8x256 .f32) (v5316 : FVec F S8x256 .bf16) (v5317 : FVec F S8x256 .bf16) (v5320 : FVec F S8x256 .bf16) (v5321 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 93), (s2c (tl x0 x1 k.val 3) 93), (mxc (tl x0 x1 k.val 3) 93), (mnc (tl x0 x1 k.val 3) 93), (cB (tl x0 x1 k.val 3) 94), (eB (tl x0 x1 k.val 3) 94), (mulf (eB (tl x0 x1 k.val 3) 94) (k0_pay1 on))⟩) Q) :
    St c x0 x1 R on (k.val + 1) s1 s2 mx mn ⊢ WP c (ap k0_part98 a2 ha2 a3 ha3 a5 ha5 k arg18 (k0_pay1 on) (s1c (tl x0 x1 k.val 3) (k0_pay1 on) 88) (s2c (tl x0 x1 k.val 3) 88) (mxc (tl x0 x1 k.val 3) 88) (mnc (tl x0 x1 k.val 3) 88) (cB (tl x0 x1 k.val 3) 89) (eB (tl x0 x1 k.val 3) 89) (mulf (eB (tl x0 x1 k.val 3) 89) (k0_pay1 on)) >>= f) Q := by
  rw [k0_part98_eq_skeleton]
  refine ldS k.val 720 0 (Nat.lt_succ_self _) (k0_off481_eq k) ?_
  refine ldS k.val 728 0 (Nat.lt_succ_self _) (k0_off482_eq k) ?_
  refine ldS k.val 736 0 (Nat.lt_succ_self _) (k0_off483_eq k) ?_
  refine ldS k.val 744 0 (Nat.lt_succ_self _) (k0_off484_eq k) ?_
  refine ldS k.val 752 0 (Nat.lt_succ_self _) (k0_off485_eq k) ?_
  exact h

theorem t1_99 {R : sProp 𝕄} {Q : α → sProp 𝕄} (k : Fin k0_t1_loop.trips) {arg18 : BitVec 32} {f : (Σ' (v5363 : FVec F S8x256 .f32) (v5365 : FVec F S8x256 .f32) (v5366 : FVec F S8x256 .bf16) (v5367 : FVec F S8x256 .bf16) (v5370 : FVec F S8x256 .bf16) (v5371 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 98), (s2c (tl x0 x1 k.val 3) 98), (mxc (tl x0 x1 k.val 3) 98), (mnc (tl x0 x1 k.val 3) 98), (cB (tl x0 x1 k.val 3) 99), (eB (tl x0 x1 k.val 3) 99), (mulf (eB (tl x0 x1 k.val 3) 99) (k0_pay1 on))⟩) Q) :
    St c x0 x1 R on (k.val + 1) s1 s2 mx mn ⊢ WP c (ap k0_part99 a2 ha2 a3 ha3 a5 ha5 k arg18 (k0_pay1 on) (s1c (tl x0 x1 k.val 3) (k0_pay1 on) 93) (s2c (tl x0 x1 k.val 3) 93) (mxc (tl x0 x1 k.val 3) 93) (mnc (tl x0 x1 k.val 3) 93) (cB (tl x0 x1 k.val 3) 94) (eB (tl x0 x1 k.val 3) 94) (mulf (eB (tl x0 x1 k.val 3) 94) (k0_pay1 on)) >>= f) Q := by
  rw [k0_part99_eq_skeleton]
  refine ldS k.val 760 0 (Nat.lt_succ_self _) (k0_off486_eq k) ?_
  refine ldS k.val 768 0 (Nat.lt_succ_self _) (k0_off487_eq k) ?_
  refine ldS k.val 776 0 (Nat.lt_succ_self _) (k0_off488_eq k) ?_
  refine ldS k.val 784 0 (Nat.lt_succ_self _) (k0_off489_eq k) ?_
  refine ldS k.val 792 0 (Nat.lt_succ_self _) (k0_off490_eq k) ?_
  exact h

theorem t1_100 {R : sProp 𝕄} {Q : α → sProp 𝕄} (k : Fin k0_t1_loop.trips) {arg18 : BitVec 32} {f : (Σ' (v5413 : FVec F S8x256 .f32) (v5415 : FVec F S8x256 .f32) (v5416 : FVec F S8x256 .bf16) (v5417 : FVec F S8x256 .bf16) (v5420 : FVec F S8x256 .bf16) (v5421 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 103), (s2c (tl x0 x1 k.val 3) 103), (mxc (tl x0 x1 k.val 3) 103), (mnc (tl x0 x1 k.val 3) 103), (cB (tl x0 x1 k.val 3) 104), (eB (tl x0 x1 k.val 3) 104), (mulf (eB (tl x0 x1 k.val 3) 104) (k0_pay1 on))⟩) Q) :
    St c x0 x1 R on (k.val + 1) s1 s2 mx mn ⊢ WP c (ap k0_part100 a2 ha2 a3 ha3 a5 ha5 k arg18 (k0_pay1 on) (s1c (tl x0 x1 k.val 3) (k0_pay1 on) 98) (s2c (tl x0 x1 k.val 3) 98) (mxc (tl x0 x1 k.val 3) 98) (mnc (tl x0 x1 k.val 3) 98) (cB (tl x0 x1 k.val 3) 99) (eB (tl x0 x1 k.val 3) 99) (mulf (eB (tl x0 x1 k.val 3) 99) (k0_pay1 on)) >>= f) Q := by
  rw [k0_part100_eq_skeleton]
  refine ldS k.val 800 0 (Nat.lt_succ_self _) (k0_off491_eq k) ?_
  refine ldS k.val 808 0 (Nat.lt_succ_self _) (k0_off492_eq k) ?_
  refine ldS k.val 816 0 (Nat.lt_succ_self _) (k0_off493_eq k) ?_
  refine ldS k.val 824 0 (Nat.lt_succ_self _) (k0_off494_eq k) ?_
  refine ldS k.val 832 0 (Nat.lt_succ_self _) (k0_off495_eq k) ?_
  exact h

theorem t1_101 {R : sProp 𝕄} {Q : α → sProp 𝕄} (k : Fin k0_t1_loop.trips) {arg18 : BitVec 32} {f : (Σ' (v5463 : FVec F S8x256 .f32) (v5465 : FVec F S8x256 .f32) (v5466 : FVec F S8x256 .bf16) (v5467 : FVec F S8x256 .bf16) (v5470 : FVec F S8x256 .bf16) (v5471 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 108), (s2c (tl x0 x1 k.val 3) 108), (mxc (tl x0 x1 k.val 3) 108), (mnc (tl x0 x1 k.val 3) 108), (cB (tl x0 x1 k.val 3) 109), (eB (tl x0 x1 k.val 3) 109), (mulf (eB (tl x0 x1 k.val 3) 109) (k0_pay1 on))⟩) Q) :
    St c x0 x1 R on (k.val + 1) s1 s2 mx mn ⊢ WP c (ap k0_part101 a2 ha2 a3 ha3 a5 ha5 k arg18 (k0_pay1 on) (s1c (tl x0 x1 k.val 3) (k0_pay1 on) 103) (s2c (tl x0 x1 k.val 3) 103) (mxc (tl x0 x1 k.val 3) 103) (mnc (tl x0 x1 k.val 3) 103) (cB (tl x0 x1 k.val 3) 104) (eB (tl x0 x1 k.val 3) 104) (mulf (eB (tl x0 x1 k.val 3) 104) (k0_pay1 on)) >>= f) Q := by
  rw [k0_part101_eq_skeleton]
  refine ldS k.val 840 0 (Nat.lt_succ_self _) (k0_off496_eq k) ?_
  refine ldS k.val 848 0 (Nat.lt_succ_self _) (k0_off497_eq k) ?_
  refine ldS k.val 856 0 (Nat.lt_succ_self _) (k0_off498_eq k) ?_
  refine ldS k.val 864 0 (Nat.lt_succ_self _) (k0_off499_eq k) ?_
  refine ldS k.val 872 0 (Nat.lt_succ_self _) (k0_off500_eq k) ?_
  exact h

theorem t1_102 {R : sProp 𝕄} {Q : α → sProp 𝕄} (k : Fin k0_t1_loop.trips) {arg18 : BitVec 32} {f : (Σ' (v5513 : FVec F S8x256 .f32) (v5515 : FVec F S8x256 .f32) (v5516 : FVec F S8x256 .bf16) (v5517 : FVec F S8x256 .bf16) (v5520 : FVec F S8x256 .bf16) (v5521 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 113), (s2c (tl x0 x1 k.val 3) 113), (mxc (tl x0 x1 k.val 3) 113), (mnc (tl x0 x1 k.val 3) 113), (cB (tl x0 x1 k.val 3) 114), (eB (tl x0 x1 k.val 3) 114), (mulf (eB (tl x0 x1 k.val 3) 114) (k0_pay1 on))⟩) Q) :
    St c x0 x1 R on (k.val + 1) s1 s2 mx mn ⊢ WP c (ap k0_part102 a2 ha2 a3 ha3 a5 ha5 k arg18 (k0_pay1 on) (s1c (tl x0 x1 k.val 3) (k0_pay1 on) 108) (s2c (tl x0 x1 k.val 3) 108) (mxc (tl x0 x1 k.val 3) 108) (mnc (tl x0 x1 k.val 3) 108) (cB (tl x0 x1 k.val 3) 109) (eB (tl x0 x1 k.val 3) 109) (mulf (eB (tl x0 x1 k.val 3) 109) (k0_pay1 on)) >>= f) Q := by
  rw [k0_part102_eq_skeleton]
  refine ldS k.val 880 0 (Nat.lt_succ_self _) (k0_off501_eq k) ?_
  refine ldS k.val 888 0 (Nat.lt_succ_self _) (k0_off502_eq k) ?_
  refine ldS k.val 896 0 (Nat.lt_succ_self _) (k0_off503_eq k) ?_
  refine ldS k.val 904 0 (Nat.lt_succ_self _) (k0_off504_eq k) ?_
  refine ldS k.val 912 0 (Nat.lt_succ_self _) (k0_off505_eq k) ?_
  exact h

theorem t1_103 {R : sProp 𝕄} {Q : α → sProp 𝕄} (k : Fin k0_t1_loop.trips) {arg18 : BitVec 32} {f : (Σ' (v5563 : FVec F S8x256 .f32) (v5565 : FVec F S8x256 .f32) (v5566 : FVec F S8x256 .bf16) (v5567 : FVec F S8x256 .bf16) (v5570 : FVec F S8x256 .bf16) (v5571 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 118), (s2c (tl x0 x1 k.val 3) 118), (mxc (tl x0 x1 k.val 3) 118), (mnc (tl x0 x1 k.val 3) 118), (cB (tl x0 x1 k.val 3) 119), (eB (tl x0 x1 k.val 3) 119), (mulf (eB (tl x0 x1 k.val 3) 119) (k0_pay1 on))⟩) Q) :
    St c x0 x1 R on (k.val + 1) s1 s2 mx mn ⊢ WP c (ap k0_part103 a2 ha2 a3 ha3 a5 ha5 k arg18 (k0_pay1 on) (s1c (tl x0 x1 k.val 3) (k0_pay1 on) 113) (s2c (tl x0 x1 k.val 3) 113) (mxc (tl x0 x1 k.val 3) 113) (mnc (tl x0 x1 k.val 3) 113) (cB (tl x0 x1 k.val 3) 114) (eB (tl x0 x1 k.val 3) 114) (mulf (eB (tl x0 x1 k.val 3) 114) (k0_pay1 on)) >>= f) Q := by
  rw [k0_part103_eq_skeleton]
  refine ldS k.val 920 0 (Nat.lt_succ_self _) (k0_off506_eq k) ?_
  refine ldS k.val 928 0 (Nat.lt_succ_self _) (k0_off507_eq k) ?_
  refine ldS k.val 936 0 (Nat.lt_succ_self _) (k0_off508_eq k) ?_
  refine ldS k.val 944 0 (Nat.lt_succ_self _) (k0_off509_eq k) ?_
  refine ldS k.val 952 0 (Nat.lt_succ_self _) (k0_off510_eq k) ?_
  exact h

theorem t1_104 {R : sProp 𝕄} {Q : α → sProp 𝕄} (k : Fin k0_t1_loop.trips) {arg18 : BitVec 32} {f : (Σ' (v5613 : FVec F S8x256 .f32) (v5615 : FVec F S8x256 .f32) (v5616 : FVec F S8x256 .bf16) (v5617 : FVec F S8x256 .bf16) (v5620 : FVec F S8x256 .bf16) (v5621 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 123), (s2c (tl x0 x1 k.val 3) 123), (mxc (tl x0 x1 k.val 3) 123), (mnc (tl x0 x1 k.val 3) 123), (cB (tl x0 x1 k.val 3) 124), (eB (tl x0 x1 k.val 3) 124), (mulf (eB (tl x0 x1 k.val 3) 124) (k0_pay1 on))⟩) Q) :
    St c x0 x1 R on (k.val + 1) s1 s2 mx mn ⊢ WP c (ap k0_part104 a2 ha2 a3 ha3 a5 ha5 k arg18 (k0_pay1 on) (s1c (tl x0 x1 k.val 3) (k0_pay1 on) 118) (s2c (tl x0 x1 k.val 3) 118) (mxc (tl x0 x1 k.val 3) 118) (mnc (tl x0 x1 k.val 3) 118) (cB (tl x0 x1 k.val 3) 119) (eB (tl x0 x1 k.val 3) 119) (mulf (eB (tl x0 x1 k.val 3) 119) (k0_pay1 on)) >>= f) Q := by
  rw [k0_part104_eq_skeleton]
  refine ldS k.val 960 0 (Nat.lt_succ_self _) (k0_off511_eq k) ?_
  refine ldS k.val 968 0 (Nat.lt_succ_self _) (k0_off512_eq k) ?_
  refine ldS k.val 976 0 (Nat.lt_succ_self _) (k0_off513_eq k) ?_
  refine ldS k.val 984 0 (Nat.lt_succ_self _) (k0_off514_eq k) ?_
  refine ldS k.val 992 0 (Nat.lt_succ_self _) (k0_off515_eq k) ?_
  exact h

theorem t1_105 {R : sProp 𝕄} {Q : α → sProp 𝕄} (k : Fin k0_t1_loop.trips) {arg18 : BitVec 32} {f : (Σ' (v5656 : FVec F S8x256 .bf16) (v5657 : FVec F S8x256 .bf16), FVec F S1x1x256 .f32) → Prog (TpuEff nD τ sig (Elt F) Λ₀ .tc) α}
    (h : St c x0 x1 R on (k.val + 1) (wr4 mS1 s1 (k0_off519 k) (k0_off519_inb k) (k0_pay362 (s1c (tl x0 x1 k.val 3) (k0_pay1 on) 127))) s2 mx mn ⊢ WP c (f ⟨(mxc (tl x0 x1 k.val 3) 127), (mnc (tl x0 x1 k.val 3) 127), (k0_pay362 (s2c (tl x0 x1 k.val 3) 127))⟩) Q) :
    St c x0 x1 R on (k.val + 1) s1 s2 mx mn ⊢ WP c (ap k0_part105 a2 ha2 a3 ha3 a5 ha5 k arg18 (k0_pay1 on) (s1c (tl x0 x1 k.val 3) (k0_pay1 on) 123) (s2c (tl x0 x1 k.val 3) 123) (mxc (tl x0 x1 k.val 3) 123) (mnc (tl x0 x1 k.val 3) 123) (cB (tl x0 x1 k.val 3) 124) (eB (tl x0 x1 k.val 3) 124) (mulf (eB (tl x0 x1 k.val 3) 124) (k0_pay1 on)) >>= f) Q := by
  rw [k0_part105_eq_skeleton]
  refine ldS k.val 1000 0 (Nat.lt_succ_self _) (k0_off516_eq k) ?_
  refine ldS k.val 1008 0 (Nat.lt_succ_self _) (k0_off517_eq k) ?_
  refine ldS k.val 1016 0 (Nat.lt_succ_self _) (k0_off518_eq k) ?_
  refine ddS1 ?_
  refine stS1 ?_
  refine ddS2 ?_
  exact h

theorem t1_106 {R : sProp 𝕄} {Q : α → sProp 𝕄} (k : Fin k0_t1_loop.trips) {arg18 : BitVec 32} {f : (Σ' (v5705 : FVec F S8x256 .f32) (v5707 : FVec F S8x256 .f32) (v5708 : FVec F S8x256 .bf16) (v5709 : FVec F S8x256 .bf16), FVec F S8x256 .bf16) → Prog (TpuEff nD τ sig (Elt F) Λ₀ .tc) α}
    (h : St c x0 x1 R on (k.val + 1) s1 (wr4 mS2 s2 (k0_off519 k) (k0_off519_inb k) (k0_pay362 (s2c (tl x0 x1 k.val 3) 127))) (wr4 mMx mx (k0_off519 k) (k0_off519_inb k) (k0_pay364 (mxc (tl x0 x1 k.val 3) 127))) (wr4 mMn mn (k0_off519 k) (k0_off519_inb k) (finMn (mnc (tl x0 x1 k.val 3) 127))) ⊢ WP c (f ⟨(s1c (tl x0 x1 k.val 4) (k0_pay1 on) 2), (s2c (tl x0 x1 k.val 4) 2), (mxc (tl x0 x1 k.val 4) 2), (mnc (tl x0 x1 k.val 4) 2), (cB (tl x0 x1 k.val 4) 3)⟩) Q) :
    St c x0 x1 R on (k.val + 1) s1 s2 mx mn ⊢ WP c (ap k0_part106 a2 ha2 a3 ha3 a5 ha5 k arg18 (k0_pay1 on) (mxc (tl x0 x1 k.val 3) 127) (mnc (tl x0 x1 k.val 3) 127) (k0_pay362 (s2c (tl x0 x1 k.val 3) 127)) >>= f) Q := by
  rw [k0_part106_eq_skeleton]
  refine stS2 ?_
  refine ddMx ?_
  refine stMx ?_
  refine ddMn ?_
  refine stMn ?_
  refine ldS k.val 0 256 (Nat.lt_succ_self _) (k0_off520_eq k) ?_
  refine ldS k.val 8 256 (Nat.lt_succ_self _) (k0_off521_eq k) ?_
  refine ldS k.val 16 256 (Nat.lt_succ_self _) (k0_off522_eq k) ?_
  refine ldS k.val 24 256 (Nat.lt_succ_self _) (k0_off523_eq k) ?_
  exact h

theorem t1_107 {R : sProp 𝕄} {Q : α → sProp 𝕄} (k : Fin k0_t1_loop.trips) {arg18 : BitVec 32} {f : (Σ' (v5755 : FVec F S8x256 .f32) (v5757 : FVec F S8x256 .f32) (v5758 : FVec F S8x256 .bf16) (v5759 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 7), (s2c (tl x0 x1 k.val 4) 7), (mxc (tl x0 x1 k.val 4) 7), (mnc (tl x0 x1 k.val 4) 7), (cB (tl x0 x1 k.val 4) 8)⟩) Q) :
    St c x0 x1 R on (k.val + 1) s1 s2 mx mn ⊢ WP c (ap k0_part107 a2 ha2 a3 ha3 a5 ha5 k arg18 (k0_pay1 on) (s1c (tl x0 x1 k.val 4) (k0_pay1 on) 2) (s2c (tl x0 x1 k.val 4) 2) (mxc (tl x0 x1 k.val 4) 2) (mnc (tl x0 x1 k.val 4) 2) (cB (tl x0 x1 k.val 4) 3) >>= f) Q := by
  rw [k0_part107_eq_skeleton]
  refine ldS k.val 32 256 (Nat.lt_succ_self _) (k0_off524_eq k) ?_
  refine ldS k.val 40 256 (Nat.lt_succ_self _) (k0_off525_eq k) ?_
  refine ldS k.val 48 256 (Nat.lt_succ_self _) (k0_off526_eq k) ?_
  refine ldS k.val 56 256 (Nat.lt_succ_self _) (k0_off527_eq k) ?_
  refine ldS k.val 64 256 (Nat.lt_succ_self _) (k0_off528_eq k) ?_
  exact h

theorem t1_108 {R : sProp 𝕄} {Q : α → sProp 𝕄} (k : Fin k0_t1_loop.trips) {arg18 : BitVec 32} {f : (Σ' (v5805 : FVec F S8x256 .f32) (v5807 : FVec F S8x256 .f32) (v5808 : FVec F S8x256 .bf16) (v5809 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 12), (s2c (tl x0 x1 k.val 4) 12), (mxc (tl x0 x1 k.val 4) 12), (mnc (tl x0 x1 k.val 4) 12), (cB (tl x0 x1 k.val 4) 13)⟩) Q) :
    St c x0 x1 R on (k.val + 1) s1 s2 mx mn ⊢ WP c (ap k0_part108 a2 ha2 a3 ha3 a5 ha5 k arg18 (k0_pay1 on) (s1c (tl x0 x1 k.val 4) (k0_pay1 on) 7) (s2c (tl x0 x1 k.val 4) 7) (mxc (tl x0 x1 k.val 4) 7) (mnc (tl x0 x1 k.val 4) 7) (cB (tl x0 x1 k.val 4) 8) >>= f) Q := by
  rw [k0_part108_eq_skeleton]
  refine ldS k.val 72 256 (Nat.lt_succ_self _) (k0_off529_eq k) ?_
  refine ldS k.val 80 256 (Nat.lt_succ_self _) (k0_off530_eq k) ?_
  refine ldS k.val 88 256 (Nat.lt_succ_self _) (k0_off531_eq k) ?_
  refine ldS k.val 96 256 (Nat.lt_succ_self _) (k0_off532_eq k) ?_
  refine ldS k.val 104 256 (Nat.lt_succ_self _) (k0_off533_eq k) ?_
  exact h

theorem t1_109 {R : sProp 𝕄} {Q : α → sProp 𝕄} (k : Fin k0_t1_loop.trips) {arg18 : BitVec 32} {f : (Σ' (v5855 : FVec F S8x256 .f32) (v5857 : FVec F S8x256 .f32) (v5858 : FVec F S8x256 .bf16) (v5859 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 17), (s2c (tl x0 x1 k.val 4) 17), (mxc (tl x0 x1 k.val 4) 17), (mnc (tl x0 x1 k.val 4) 17), (cB (tl x0 x1 k.val 4) 18)⟩) Q) :
    St c x0 x1 R on (k.val + 1) s1 s2 mx mn ⊢ WP c (ap k0_part109 a2 ha2 a3 ha3 a5 ha5 k arg18 (k0_pay1 on) (s1c (tl x0 x1 k.val 4) (k0_pay1 on) 12) (s2c (tl x0 x1 k.val 4) 12) (mxc (tl x0 x1 k.val 4) 12) (mnc (tl x0 x1 k.val 4) 12) (cB (tl x0 x1 k.val 4) 13) >>= f) Q := by
  rw [k0_part109_eq_skeleton]
  refine ldS k.val 112 256 (Nat.lt_succ_self _) (k0_off534_eq k) ?_
  refine ldS k.val 120 256 (Nat.lt_succ_self _) (k0_off535_eq k) ?_
  refine ldS k.val 128 256 (Nat.lt_succ_self _) (k0_off536_eq k) ?_
  refine ldS k.val 136 256 (Nat.lt_succ_self _) (k0_off537_eq k) ?_
  refine ldS k.val 144 256 (Nat.lt_succ_self _) (k0_off538_eq k) ?_
  exact h

theorem t1_110 {R : sProp 𝕄} {Q : α → sProp 𝕄} (k : Fin k0_t1_loop.trips) {arg18 : BitVec 32} {f : (Σ' (v5905 : FVec F S8x256 .f32) (v5907 : FVec F S8x256 .f32) (v5908 : FVec F S8x256 .bf16) (v5909 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 22), (s2c (tl x0 x1 k.val 4) 22), (mxc (tl x0 x1 k.val 4) 22), (mnc (tl x0 x1 k.val 4) 22), (cB (tl x0 x1 k.val 4) 23)⟩) Q) :
    St c x0 x1 R on (k.val + 1) s1 s2 mx mn ⊢ WP c (ap k0_part110 a2 ha2 a3 ha3 a5 ha5 k arg18 (k0_pay1 on) (s1c (tl x0 x1 k.val 4) (k0_pay1 on) 17) (s2c (tl x0 x1 k.val 4) 17) (mxc (tl x0 x1 k.val 4) 17) (mnc (tl x0 x1 k.val 4) 17) (cB (tl x0 x1 k.val 4) 18) >>= f) Q := by
  rw [k0_part110_eq_skeleton]
  refine ldS k.val 152 256 (Nat.lt_succ_self _) (k0_off539_eq k) ?_
  refine ldS k.val 160 256 (Nat.lt_succ_self _) (k0_off540_eq k) ?_
  refine ldS k.val 168 256 (Nat.lt_succ_self _) (k0_off541_eq k) ?_
  refine ldS k.val 176 256 (Nat.lt_succ_self _) (k0_off542_eq k) ?_
  refine ldS k.val 184 256 (Nat.lt_succ_self _) (k0_off543_eq k) ?_
  exact h

theorem t1_111 {R : sProp 𝕄} {Q : α → sProp 𝕄} (k : Fin k0_t1_loop.trips) {arg18 : BitVec 32} {f : (Σ' (v5955 : FVec F S8x256 .f32) (v5957 : FVec F S8x256 .f32) (v5958 : FVec F S8x256 .bf16) (v5959 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 27), (s2c (tl x0 x1 k.val 4) 27), (mxc (tl x0 x1 k.val 4) 27), (mnc (tl x0 x1 k.val 4) 27), (cB (tl x0 x1 k.val 4) 28)⟩) Q) :
    St c x0 x1 R on (k.val + 1) s1 s2 mx mn ⊢ WP c (ap k0_part111 a2 ha2 a3 ha3 a5 ha5 k arg18 (k0_pay1 on) (s1c (tl x0 x1 k.val 4) (k0_pay1 on) 22) (s2c (tl x0 x1 k.val 4) 22) (mxc (tl x0 x1 k.val 4) 22) (mnc (tl x0 x1 k.val 4) 22) (cB (tl x0 x1 k.val 4) 23) >>= f) Q := by
  rw [k0_part111_eq_skeleton]
  refine ldS k.val 192 256 (Nat.lt_succ_self _) (k0_off544_eq k) ?_
  refine ldS k.val 200 256 (Nat.lt_succ_self _) (k0_off545_eq k) ?_
  refine ldS k.val 208 256 (Nat.lt_succ_self _) (k0_off546_eq k) ?_
  refine ldS k.val 216 256 (Nat.lt_succ_self _) (k0_off547_eq k) ?_
  refine ldS k.val 224 256 (Nat.lt_succ_self _) (k0_off548_eq k) ?_
  exact h

theorem t1_112 {R : sProp 𝕄} {Q : α → sProp 𝕄} (k : Fin k0_t1_loop.trips) {arg18 : BitVec 32} {f : (Σ' (v6005 : FVec F S8x256 .f32) (v6007 : FVec F S8x256 .f32) (v6008 : FVec F S8x256 .bf16) (v6009 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 32), (s2c (tl x0 x1 k.val 4) 32), (mxc (tl x0 x1 k.val 4) 32), (mnc (tl x0 x1 k.val 4) 32), (cB (tl x0 x1 k.val 4) 33)⟩) Q) :
    St c x0 x1 R on (k.val + 1) s1 s2 mx mn ⊢ WP c (ap k0_part112 a2 ha2 a3 ha3 a5 ha5 k arg18 (k0_pay1 on) (s1c (tl x0 x1 k.val 4) (k0_pay1 on) 27) (s2c (tl x0 x1 k.val 4) 27) (mxc (tl x0 x1 k.val 4) 27) (mnc (tl x0 x1 k.val 4) 27) (cB (tl x0 x1 k.val 4) 28) >>= f) Q := by
  rw [k0_part112_eq_skeleton]
  refine ldS k.val 232 256 (Nat.lt_succ_self _) (k0_off549_eq k) ?_
  refine ldS k.val 240 256 (Nat.lt_succ_self _) (k0_off550_eq k) ?_
  refine ldS k.val 248 256 (Nat.lt_succ_self _) (k0_off551_eq k) ?_
  refine ldS k.val 256 256 (Nat.lt_succ_self _) (k0_off552_eq k) ?_
  refine ldS k.val 264 256 (Nat.lt_succ_self _) (k0_off553_eq k) ?_
  exact h

theorem t1_113 {R : sProp 𝕄} {Q : α → sProp 𝕄} (k : Fin k0_t1_loop.trips) {arg18 : BitVec 32} {f : (Σ' (v6055 : FVec F S8x256 .f32) (v6057 : FVec F S8x256 .f32) (v6058 : FVec F S8x256 .bf16) (v6059 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 37), (s2c (tl x0 x1 k.val 4) 37), (mxc (tl x0 x1 k.val 4) 37), (mnc (tl x0 x1 k.val 4) 37), (cB (tl x0 x1 k.val 4) 38)⟩) Q) :
    St c x0 x1 R on (k.val + 1) s1 s2 mx mn ⊢ WP c (ap k0_part113 a2 ha2 a3 ha3 a5 ha5 k arg18 (k0_pay1 on) (s1c (tl x0 x1 k.val 4) (k0_pay1 on) 32) (s2c (tl x0 x1 k.val 4) 32) (mxc (tl x0 x1 k.val 4) 32) (mnc (tl x0 x1 k.val 4) 32) (cB (tl x0 x1 k.val 4) 33) >>= f) Q := by
  rw [k0_part113_eq_skeleton]
  refine ldS k.val 272 256 (Nat.lt_succ_self _) (k0_off554_eq k) ?_
  refine ldS k.val 280 256 (Nat.lt_succ_self _) (k0_off555_eq k) ?_
  refine ldS k.val 288 256 (Nat.lt_succ_self _) (k0_off556_eq k) ?_
  refine ldS k.val 296 256 (Nat.lt_succ_self _) (k0_off557_eq k) ?_
  refine ldS k.val 304 256 (Nat.lt_succ_self _) (k0_off558_eq k) ?_
  exact h

theorem t1_114 {R : sProp 𝕄} {Q : α → sProp 𝕄} (k : Fin k0_t1_loop.trips) {arg18 : BitVec 32} {f : (Σ' (v6105 : FVec F S8x256 .f32) (v6107 : FVec F S8x256 .f32) (v6108 : FVec F S8x256 .bf16) (v6109 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 42), (s2c (tl x0 x1 k.val 4) 42), (mxc (tl x0 x1 k.val 4) 42), (mnc (tl x0 x1 k.val 4) 42), (cB (tl x0 x1 k.val 4) 43)⟩) Q) :
    St c x0 x1 R on (k.val + 1) s1 s2 mx mn ⊢ WP c (ap k0_part114 a2 ha2 a3 ha3 a5 ha5 k arg18 (k0_pay1 on) (s1c (tl x0 x1 k.val 4) (k0_pay1 on) 37) (s2c (tl x0 x1 k.val 4) 37) (mxc (tl x0 x1 k.val 4) 37) (mnc (tl x0 x1 k.val 4) 37) (cB (tl x0 x1 k.val 4) 38) >>= f) Q := by
  rw [k0_part114_eq_skeleton]
  refine ldS k.val 312 256 (Nat.lt_succ_self _) (k0_off559_eq k) ?_
  refine ldS k.val 320 256 (Nat.lt_succ_self _) (k0_off560_eq k) ?_
  refine ldS k.val 328 256 (Nat.lt_succ_self _) (k0_off561_eq k) ?_
  refine ldS k.val 336 256 (Nat.lt_succ_self _) (k0_off562_eq k) ?_
  refine ldS k.val 344 256 (Nat.lt_succ_self _) (k0_off563_eq k) ?_
  exact h

theorem t1_115 {R : sProp 𝕄} {Q : α → sProp 𝕄} (k : Fin k0_t1_loop.trips) {arg18 : BitVec 32} {f : (Σ' (v6155 : FVec F S8x256 .f32) (v6157 : FVec F S8x256 .f32) (v6158 : FVec F S8x256 .bf16) (v6159 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 47), (s2c (tl x0 x1 k.val 4) 47), (mxc (tl x0 x1 k.val 4) 47), (mnc (tl x0 x1 k.val 4) 47), (cB (tl x0 x1 k.val 4) 48)⟩) Q) :
    St c x0 x1 R on (k.val + 1) s1 s2 mx mn ⊢ WP c (ap k0_part115 a2 ha2 a3 ha3 a5 ha5 k arg18 (k0_pay1 on) (s1c (tl x0 x1 k.val 4) (k0_pay1 on) 42) (s2c (tl x0 x1 k.val 4) 42) (mxc (tl x0 x1 k.val 4) 42) (mnc (tl x0 x1 k.val 4) 42) (cB (tl x0 x1 k.val 4) 43) >>= f) Q := by
  rw [k0_part115_eq_skeleton]
  refine ldS k.val 352 256 (Nat.lt_succ_self _) (k0_off564_eq k) ?_
  refine ldS k.val 360 256 (Nat.lt_succ_self _) (k0_off565_eq k) ?_
  refine ldS k.val 368 256 (Nat.lt_succ_self _) (k0_off566_eq k) ?_
  refine ldS k.val 376 256 (Nat.lt_succ_self _) (k0_off567_eq k) ?_
  refine ldS k.val 384 256 (Nat.lt_succ_self _) (k0_off568_eq k) ?_
  exact h

theorem t1_116 {R : sProp 𝕄} {Q : α → sProp 𝕄} (k : Fin k0_t1_loop.trips) {arg18 : BitVec 32} {f : (Σ' (v6205 : FVec F S8x256 .f32) (v6207 : FVec F S8x256 .f32) (v6208 : FVec F S8x256 .bf16) (v6209 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 52), (s2c (tl x0 x1 k.val 4) 52), (mxc (tl x0 x1 k.val 4) 52), (mnc (tl x0 x1 k.val 4) 52), (cB (tl x0 x1 k.val 4) 53)⟩) Q) :
    St c x0 x1 R on (k.val + 1) s1 s2 mx mn ⊢ WP c (ap k0_part116 a2 ha2 a3 ha3 a5 ha5 k arg18 (k0_pay1 on) (s1c (tl x0 x1 k.val 4) (k0_pay1 on) 47) (s2c (tl x0 x1 k.val 4) 47) (mxc (tl x0 x1 k.val 4) 47) (mnc (tl x0 x1 k.val 4) 47) (cB (tl x0 x1 k.val 4) 48) >>= f) Q := by
  rw [k0_part116_eq_skeleton]
  refine ldS k.val 392 256 (Nat.lt_succ_self _) (k0_off569_eq k) ?_
  refine ldS k.val 400 256 (Nat.lt_succ_self _) (k0_off570_eq k) ?_
  refine ldS k.val 408 256 (Nat.lt_succ_self _) (k0_off571_eq k) ?_
  refine ldS k.val 416 256 (Nat.lt_succ_self _) (k0_off572_eq k) ?_
  refine ldS k.val 424 256 (Nat.lt_succ_self _) (k0_off573_eq k) ?_
  exact h

theorem t1_117 {R : sProp 𝕄} {Q : α → sProp 𝕄} (k : Fin k0_t1_loop.trips) {arg18 : BitVec 32} {f : (Σ' (v6255 : FVec F S8x256 .f32) (v6257 : FVec F S8x256 .f32) (v6258 : FVec F S8x256 .bf16) (v6259 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 57), (s2c (tl x0 x1 k.val 4) 57), (mxc (tl x0 x1 k.val 4) 57), (mnc (tl x0 x1 k.val 4) 57), (cB (tl x0 x1 k.val 4) 58)⟩) Q) :
    St c x0 x1 R on (k.val + 1) s1 s2 mx mn ⊢ WP c (ap k0_part117 a2 ha2 a3 ha3 a5 ha5 k arg18 (k0_pay1 on) (s1c (tl x0 x1 k.val 4) (k0_pay1 on) 52) (s2c (tl x0 x1 k.val 4) 52) (mxc (tl x0 x1 k.val 4) 52) (mnc (tl x0 x1 k.val 4) 52) (cB (tl x0 x1 k.val 4) 53) >>= f) Q := by
  rw [k0_part117_eq_skeleton]
  refine ldS k.val 432 256 (Nat.lt_succ_self _) (k0_off574_eq k) ?_
  refine ldS k.val 440 256 (Nat.lt_succ_self _) (k0_off575_eq k) ?_
  refine ldS k.val 448 256 (Nat.lt_succ_self _) (k0_off576_eq k) ?_
  refine ldS k.val 456 256 (Nat.lt_succ_self _) (k0_off577_eq k) ?_
  refine ldS k.val 464 256 (Nat.lt_succ_self _) (k0_off578_eq k) ?_
  exact h

theorem t1_118 {R : sProp 𝕄} {Q : α → sProp 𝕄} (k : Fin k0_t1_loop.trips) {arg18 : BitVec 32} {f : (Σ' (v6305 : FVec F S8x256 .f32) (v6307 : FVec F S8x256 .f32) (v6308 : FVec F S8x256 .bf16) (v6309 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 62), (s2c (tl x0 x1 k.val 4) 62), (mxc (tl x0 x1 k.val 4) 62), (mnc (tl x0 x1 k.val 4) 62), (cB (tl x0 x1 k.val 4) 63)⟩) Q) :
    St c x0 x1 R on (k.val + 1) s1 s2 mx mn ⊢ WP c (ap k0_part118 a2 ha2 a3 ha3 a5 ha5 k arg18 (k0_pay1 on) (s1c (tl x0 x1 k.val 4) (k0_pay1 on) 57) (s2c (tl x0 x1 k.val 4) 57) (mxc (tl x0 x1 k.val 4) 57) (mnc (tl x0 x1 k.val 4) 57) (cB (tl x0 x1 k.val 4) 58) >>= f) Q := by
  rw [k0_part118_eq_skeleton]
  refine ldS k.val 472 256 (Nat.lt_succ_self _) (k0_off579_eq k) ?_
  refine ldS k.val 480 256 (Nat.lt_succ_self _) (k0_off580_eq k) ?_
  refine ldS k.val 488 256 (Nat.lt_succ_self _) (k0_off581_eq k) ?_
  refine ldS k.val 496 256 (Nat.lt_succ_self _) (k0_off582_eq k) ?_
  refine ldS k.val 504 256 (Nat.lt_succ_self _) (k0_off583_eq k) ?_
  exact h

theorem t1_119 {R : sProp 𝕄} {Q : α → sProp 𝕄} (k : Fin k0_t1_loop.trips) {arg18 : BitVec 32} {f : (Σ' (v6355 : FVec F S8x256 .f32) (v6357 : FVec F S8x256 .f32) (v6358 : FVec F S8x256 .bf16) (v6359 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 67), (s2c (tl x0 x1 k.val 4) 67), (mxc (tl x0 x1 k.val 4) 67), (mnc (tl x0 x1 k.val 4) 67), (cB (tl x0 x1 k.val 4) 68)⟩) Q) :
    St c x0 x1 R on (k.val + 1) s1 s2 mx mn ⊢ WP c (ap k0_part119 a2 ha2 a3 ha3 a5 ha5 k arg18 (k0_pay1 on) (s1c (tl x0 x1 k.val 4) (k0_pay1 on) 62) (s2c (tl x0 x1 k.val 4) 62) (mxc (tl x0 x1 k.val 4) 62) (mnc (tl x0 x1 k.val 4) 62) (cB (tl x0 x1 k.val 4) 63) >>= f) Q := by
  rw [k0_part119_eq_skeleton]
  refine ldS k.val 512 256 (Nat.lt_succ_self _) (k0_off584_eq k) ?_
  refine ldS k.val 520 256 (Nat.lt_succ_self _) (k0_off585_eq k) ?_
  refine ldS k.val 528 256 (Nat.lt_succ_self _) (k0_off586_eq k) ?_
  refine ldS k.val 536 256 (Nat.lt_succ_self _) (k0_off587_eq k) ?_
  refine ldS k.val 544 256 (Nat.lt_succ_self _) (k0_off588_eq k) ?_
  exact h

theorem t1_120 {R : sProp 𝕄} {Q : α → sProp 𝕄} (k : Fin k0_t1_loop.trips) {arg18 : BitVec 32} {f : (Σ' (v6405 : FVec F S8x256 .f32) (v6407 : FVec F S8x256 .f32) (v6408 : FVec F S8x256 .bf16) (v6409 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 72), (s2c (tl x0 x1 k.val 4) 72), (mxc (tl x0 x1 k.val 4) 72), (mnc (tl x0 x1 k.val 4) 72), (cB (tl x0 x1 k.val 4) 73)⟩) Q) :
    St c x0 x1 R on (k.val + 1) s1 s2 mx mn ⊢ WP c (ap k0_part120 a2 ha2 a3 ha3 a5 ha5 k arg18 (k0_pay1 on) (s1c (tl x0 x1 k.val 4) (k0_pay1 on) 67) (s2c (tl x0 x1 k.val 4) 67) (mxc (tl x0 x1 k.val 4) 67) (mnc (tl x0 x1 k.val 4) 67) (cB (tl x0 x1 k.val 4) 68) >>= f) Q := by
  rw [k0_part120_eq_skeleton]
  refine ldS k.val 552 256 (Nat.lt_succ_self _) (k0_off589_eq k) ?_
  refine ldS k.val 560 256 (Nat.lt_succ_self _) (k0_off590_eq k) ?_
  refine ldS k.val 568 256 (Nat.lt_succ_self _) (k0_off591_eq k) ?_
  refine ldS k.val 576 256 (Nat.lt_succ_self _) (k0_off592_eq k) ?_
  refine ldS k.val 584 256 (Nat.lt_succ_self _) (k0_off593_eq k) ?_
  exact h

theorem t1_121 {R : sProp 𝕄} {Q : α → sProp 𝕄} (k : Fin k0_t1_loop.trips) {arg18 : BitVec 32} {f : (Σ' (v6455 : FVec F S8x256 .f32) (v6457 : FVec F S8x256 .f32) (v6458 : FVec F S8x256 .bf16) (v6459 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 77), (s2c (tl x0 x1 k.val 4) 77), (mxc (tl x0 x1 k.val 4) 77), (mnc (tl x0 x1 k.val 4) 77), (cB (tl x0 x1 k.val 4) 78)⟩) Q) :
    St c x0 x1 R on (k.val + 1) s1 s2 mx mn ⊢ WP c (ap k0_part121 a2 ha2 a3 ha3 a5 ha5 k arg18 (k0_pay1 on) (s1c (tl x0 x1 k.val 4) (k0_pay1 on) 72) (s2c (tl x0 x1 k.val 4) 72) (mxc (tl x0 x1 k.val 4) 72) (mnc (tl x0 x1 k.val 4) 72) (cB (tl x0 x1 k.val 4) 73) >>= f) Q := by
  rw [k0_part121_eq_skeleton]
  refine ldS k.val 592 256 (Nat.lt_succ_self _) (k0_off594_eq k) ?_
  refine ldS k.val 600 256 (Nat.lt_succ_self _) (k0_off595_eq k) ?_
  refine ldS k.val 608 256 (Nat.lt_succ_self _) (k0_off596_eq k) ?_
  refine ldS k.val 616 256 (Nat.lt_succ_self _) (k0_off597_eq k) ?_
  refine ldS k.val 624 256 (Nat.lt_succ_self _) (k0_off598_eq k) ?_
  exact h

theorem t1_122 {R : sProp 𝕄} {Q : α → sProp 𝕄} (k : Fin k0_t1_loop.trips) {arg18 : BitVec 32} {f : (Σ' (v6505 : FVec F S8x256 .f32) (v6507 : FVec F S8x256 .f32) (v6508 : FVec F S8x256 .bf16) (v6509 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 82), (s2c (tl x0 x1 k.val 4) 82), (mxc (tl x0 x1 k.val 4) 82), (mnc (tl x0 x1 k.val 4) 82), (cB (tl x0 x1 k.val 4) 83)⟩) Q) :
    St c x0 x1 R on (k.val + 1) s1 s2 mx mn ⊢ WP c (ap k0_part122 a2 ha2 a3 ha3 a5 ha5 k arg18 (k0_pay1 on) (s1c (tl x0 x1 k.val 4) (k0_pay1 on) 77) (s2c (tl x0 x1 k.val 4) 77) (mxc (tl x0 x1 k.val 4) 77) (mnc (tl x0 x1 k.val 4) 77) (cB (tl x0 x1 k.val 4) 78) >>= f) Q := by
  rw [k0_part122_eq_skeleton]
  refine ldS k.val 632 256 (Nat.lt_succ_self _) (k0_off599_eq k) ?_
  refine ldS k.val 640 256 (Nat.lt_succ_self _) (k0_off600_eq k) ?_
  refine ldS k.val 648 256 (Nat.lt_succ_self _) (k0_off601_eq k) ?_
  refine ldS k.val 656 256 (Nat.lt_succ_self _) (k0_off602_eq k) ?_
  refine ldS k.val 664 256 (Nat.lt_succ_self _) (k0_off603_eq k) ?_
  exact h

theorem t1_123 {R : sProp 𝕄} {Q : α → sProp 𝕄} (k : Fin k0_t1_loop.trips) {arg18 : BitVec 32} {f : (Σ' (v6555 : FVec F S8x256 .f32) (v6557 : FVec F S8x256 .f32) (v6558 : FVec F S8x256 .bf16) (v6559 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 87), (s2c (tl x0 x1 k.val 4) 87), (mxc (tl x0 x1 k.val 4) 87), (mnc (tl x0 x1 k.val 4) 87), (cB (tl x0 x1 k.val 4) 88)⟩) Q) :
    St c x0 x1 R on (k.val + 1) s1 s2 mx mn ⊢ WP c (ap k0_part123 a2 ha2 a3 ha3 a5 ha5 k arg18 (k0_pay1 on) (s1c (tl x0 x1 k.val 4) (k0_pay1 on) 82) (s2c (tl x0 x1 k.val 4) 82) (mxc (tl x0 x1 k.val 4) 82) (mnc (tl x0 x1 k.val 4) 82) (cB (tl x0 x1 k.val 4) 83) >>= f) Q := by
  rw [k0_part123_eq_skeleton]
  refine ldS k.val 672 256 (Nat.lt_succ_self _) (k0_off604_eq k) ?_
  refine ldS k.val 680 256 (Nat.lt_succ_self _) (k0_off605_eq k) ?_
  refine ldS k.val 688 256 (Nat.lt_succ_self _) (k0_off606_eq k) ?_
  refine ldS k.val 696 256 (Nat.lt_succ_self _) (k0_off607_eq k) ?_
  refine ldS k.val 704 256 (Nat.lt_succ_self _) (k0_off608_eq k) ?_
  exact h

theorem t1_124 {R : sProp 𝕄} {Q : α → sProp 𝕄} (k : Fin k0_t1_loop.trips) {arg18 : BitVec 32} {f : (Σ' (v6605 : FVec F S8x256 .f32) (v6607 : FVec F S8x256 .f32) (v6608 : FVec F S8x256 .bf16) (v6609 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 92), (s2c (tl x0 x1 k.val 4) 92), (mxc (tl x0 x1 k.val 4) 92), (mnc (tl x0 x1 k.val 4) 92), (cB (tl x0 x1 k.val 4) 93)⟩) Q) :
    St c x0 x1 R on (k.val + 1) s1 s2 mx mn ⊢ WP c (ap k0_part124 a2 ha2 a3 ha3 a5 ha5 k arg18 (k0_pay1 on) (s1c (tl x0 x1 k.val 4) (k0_pay1 on) 87) (s2c (tl x0 x1 k.val 4) 87) (mxc (tl x0 x1 k.val 4) 87) (mnc (tl x0 x1 k.val 4) 87) (cB (tl x0 x1 k.val 4) 88) >>= f) Q := by
  rw [k0_part124_eq_skeleton]
  refine ldS k.val 712 256 (Nat.lt_succ_self _) (k0_off609_eq k) ?_
  refine ldS k.val 720 256 (Nat.lt_succ_self _) (k0_off610_eq k) ?_
  refine ldS k.val 728 256 (Nat.lt_succ_self _) (k0_off611_eq k) ?_
  refine ldS k.val 736 256 (Nat.lt_succ_self _) (k0_off612_eq k) ?_
  refine ldS k.val 744 256 (Nat.lt_succ_self _) (k0_off613_eq k) ?_
  exact h

theorem t1_125 {R : sProp 𝕄} {Q : α → sProp 𝕄} (k : Fin k0_t1_loop.trips) {arg18 : BitVec 32} {f : (Σ' (v6655 : FVec F S8x256 .f32) (v6657 : FVec F S8x256 .f32) (v6658 : FVec F S8x256 .bf16) (v6659 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 97), (s2c (tl x0 x1 k.val 4) 97), (mxc (tl x0 x1 k.val 4) 97), (mnc (tl x0 x1 k.val 4) 97), (cB (tl x0 x1 k.val 4) 98)⟩) Q) :
    St c x0 x1 R on (k.val + 1) s1 s2 mx mn ⊢ WP c (ap k0_part125 a2 ha2 a3 ha3 a5 ha5 k arg18 (k0_pay1 on) (s1c (tl x0 x1 k.val 4) (k0_pay1 on) 92) (s2c (tl x0 x1 k.val 4) 92) (mxc (tl x0 x1 k.val 4) 92) (mnc (tl x0 x1 k.val 4) 92) (cB (tl x0 x1 k.val 4) 93) >>= f) Q := by
  rw [k0_part125_eq_skeleton]
  refine ldS k.val 752 256 (Nat.lt_succ_self _) (k0_off614_eq k) ?_
  refine ldS k.val 760 256 (Nat.lt_succ_self _) (k0_off615_eq k) ?_
  refine ldS k.val 768 256 (Nat.lt_succ_self _) (k0_off616_eq k) ?_
  refine ldS k.val 776 256 (Nat.lt_succ_self _) (k0_off617_eq k) ?_
  refine ldS k.val 784 256 (Nat.lt_succ_self _) (k0_off618_eq k) ?_
  exact h

theorem t1_126 {R : sProp 𝕄} {Q : α → sProp 𝕄} (k : Fin k0_t1_loop.trips) {arg18 : BitVec 32} {f : (Σ' (v6705 : FVec F S8x256 .f32) (v6707 : FVec F S8x256 .f32) (v6708 : FVec F S8x256 .bf16) (v6709 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 102), (s2c (tl x0 x1 k.val 4) 102), (mxc (tl x0 x1 k.val 4) 102), (mnc (tl x0 x1 k.val 4) 102), (cB (tl x0 x1 k.val 4) 103)⟩) Q) :
    St c x0 x1 R on (k.val + 1) s1 s2 mx mn ⊢ WP c (ap k0_part126 a2 ha2 a3 ha3 a5 ha5 k arg18 (k0_pay1 on) (s1c (tl x0 x1 k.val 4) (k0_pay1 on) 97) (s2c (tl x0 x1 k.val 4) 97) (mxc (tl x0 x1 k.val 4) 97) (mnc (tl x0 x1 k.val 4) 97) (cB (tl x0 x1 k.val 4) 98) >>= f) Q := by
  rw [k0_part126_eq_skeleton]
  refine ldS k.val 792 256 (Nat.lt_succ_self _) (k0_off619_eq k) ?_
  refine ldS k.val 800 256 (Nat.lt_succ_self _) (k0_off620_eq k) ?_
  refine ldS k.val 808 256 (Nat.lt_succ_self _) (k0_off621_eq k) ?_
  refine ldS k.val 816 256 (Nat.lt_succ_self _) (k0_off622_eq k) ?_
  refine ldS k.val 824 256 (Nat.lt_succ_self _) (k0_off623_eq k) ?_
  exact h

theorem t1_127 {R : sProp 𝕄} {Q : α → sProp 𝕄} (k : Fin k0_t1_loop.trips) {arg18 : BitVec 32} {f : (Σ' (v6755 : FVec F S8x256 .f32) (v6757 : FVec F S8x256 .f32) (v6758 : FVec F S8x256 .bf16) (v6759 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 107), (s2c (tl x0 x1 k.val 4) 107), (mxc (tl x0 x1 k.val 4) 107), (mnc (tl x0 x1 k.val 4) 107), (cB (tl x0 x1 k.val 4) 108)⟩) Q) :
    St c x0 x1 R on (k.val + 1) s1 s2 mx mn ⊢ WP c (ap k0_part127 a2 ha2 a3 ha3 a5 ha5 k arg18 (k0_pay1 on) (s1c (tl x0 x1 k.val 4) (k0_pay1 on) 102) (s2c (tl x0 x1 k.val 4) 102) (mxc (tl x0 x1 k.val 4) 102) (mnc (tl x0 x1 k.val 4) 102) (cB (tl x0 x1 k.val 4) 103) >>= f) Q := by
  rw [k0_part127_eq_skeleton]
  refine ldS k.val 832 256 (Nat.lt_succ_self _) (k0_off624_eq k) ?_
  refine ldS k.val 840 256 (Nat.lt_succ_self _) (k0_off625_eq k) ?_
  refine ldS k.val 848 256 (Nat.lt_succ_self _) (k0_off626_eq k) ?_
  refine ldS k.val 856 256 (Nat.lt_succ_self _) (k0_off627_eq k) ?_
  refine ldS k.val 864 256 (Nat.lt_succ_self _) (k0_off628_eq k) ?_
  exact h

theorem t1_128 {R : sProp 𝕄} {Q : α → sProp 𝕄} (k : Fin k0_t1_loop.trips) {arg18 : BitVec 32} {f : (Σ' (v6805 : FVec F S8x256 .f32) (v6807 : FVec F S8x256 .f32) (v6808 : FVec F S8x256 .bf16) (v6809 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 112), (s2c (tl x0 x1 k.val 4) 112), (mxc (tl x0 x1 k.val 4) 112), (mnc (tl x0 x1 k.val 4) 112), (cB (tl x0 x1 k.val 4) 113)⟩) Q) :
    St c x0 x1 R on (k.val + 1) s1 s2 mx mn ⊢ WP c (ap k0_part128 a2 ha2 a3 ha3 a5 ha5 k arg18 (k0_pay1 on) (s1c (tl x0 x1 k.val 4) (k0_pay1 on) 107) (s2c (tl x0 x1 k.val 4) 107) (mxc (tl x0 x1 k.val 4) 107) (mnc (tl x0 x1 k.val 4) 107) (cB (tl x0 x1 k.val 4) 108) >>= f) Q := by
  rw [k0_part128_eq_skeleton]
  refine ldS k.val 872 256 (Nat.lt_succ_self _) (k0_off629_eq k) ?_
  refine ldS k.val 880 256 (Nat.lt_succ_self _) (k0_off630_eq k) ?_
  refine ldS k.val 888 256 (Nat.lt_succ_self _) (k0_off631_eq k) ?_
  refine ldS k.val 896 256 (Nat.lt_succ_self _) (k0_off632_eq k) ?_
  refine ldS k.val 904 256 (Nat.lt_succ_self _) (k0_off633_eq k) ?_
  exact h

theorem t1_129 {R : sProp 𝕄} {Q : α → sProp 𝕄} (k : Fin k0_t1_loop.trips) {arg18 : BitVec 32} {f : (Σ' (v6855 : FVec F S8x256 .f32) (v6857 : FVec F S8x256 .f32) (v6858 : FVec F S8x256 .bf16) (v6859 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 117), (s2c (tl x0 x1 k.val 4) 117), (mxc (tl x0 x1 k.val 4) 117), (mnc (tl x0 x1 k.val 4) 117), (cB (tl x0 x1 k.val 4) 118)⟩) Q) :
    St c x0 x1 R on (k.val + 1) s1 s2 mx mn ⊢ WP c (ap k0_part129 a2 ha2 a3 ha3 a5 ha5 k arg18 (k0_pay1 on) (s1c (tl x0 x1 k.val 4) (k0_pay1 on) 112) (s2c (tl x0 x1 k.val 4) 112) (mxc (tl x0 x1 k.val 4) 112) (mnc (tl x0 x1 k.val 4) 112) (cB (tl x0 x1 k.val 4) 113) >>= f) Q := by
  rw [k0_part129_eq_skeleton]
  refine ldS k.val 912 256 (Nat.lt_succ_self _) (k0_off634_eq k) ?_
  refine ldS k.val 920 256 (Nat.lt_succ_self _) (k0_off635_eq k) ?_
  refine ldS k.val 928 256 (Nat.lt_succ_self _) (k0_off636_eq k) ?_
  refine ldS k.val 936 256 (Nat.lt_succ_self _) (k0_off637_eq k) ?_
  refine ldS k.val 944 256 (Nat.lt_succ_self _) (k0_off638_eq k) ?_
  exact h

theorem t1_130 {R : sProp 𝕄} {Q : α → sProp 𝕄} (k : Fin k0_t1_loop.trips) {arg18 : BitVec 32} {f : (Σ' (v6905 : FVec F S8x256 .f32) (v6907 : FVec F S8x256 .f32) (v6908 : FVec F S8x256 .bf16) (v6909 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 122), (s2c (tl x0 x1 k.val 4) 122), (mxc (tl x0 x1 k.val 4) 122), (mnc (tl x0 x1 k.val 4) 122), (cB (tl x0 x1 k.val 4) 123)⟩) Q) :
    St c x0 x1 R on (k.val + 1) s1 s2 mx mn ⊢ WP c (ap k0_part130 a2 ha2 a3 ha3 a5 ha5 k arg18 (k0_pay1 on) (s1c (tl x0 x1 k.val 4) (k0_pay1 on) 117) (s2c (tl x0 x1 k.val 4) 117) (mxc (tl x0 x1 k.val 4) 117) (mnc (tl x0 x1 k.val 4) 117) (cB (tl x0 x1 k.val 4) 118) >>= f) Q := by
  rw [k0_part130_eq_skeleton]
  refine ldS k.val 952 256 (Nat.lt_succ_self _) (k0_off639_eq k) ?_
  refine ldS k.val 960 256 (Nat.lt_succ_self _) (k0_off640_eq k) ?_
  refine ldS k.val 968 256 (Nat.lt_succ_self _) (k0_off641_eq k) ?_
  refine ldS k.val 976 256 (Nat.lt_succ_self _) (k0_off642_eq k) ?_
  refine ldS k.val 984 256 (Nat.lt_succ_self _) (k0_off643_eq k) ?_
  exact h

theorem t1_131 {R : sProp 𝕄} {Q : α → sProp 𝕄} (k : Fin k0_t1_loop.trips) {arg18 : BitVec 32} {f : (Σ' (v6957 : FVec F S8x256 .f32) (v6958 : FVec F S8x256 .bf16) (v6959 : FVec F S8x256 .bf16), FVec F S1x256 .f32) → Prog (TpuEff nD τ sig (Elt F) Λ₀ .tc) α}
    (h : St c x0 x1 R on (k.val + 1) s1 s2 mx mn ⊢ WP c (f ⟨(s2c (tl x0 x1 k.val 4) 127), (mxc (tl x0 x1 k.val 4) 127), (mnc (tl x0 x1 k.val 4) 127), (red1 (s1c (tl x0 x1 k.val 4) (k0_pay1 on) 127))⟩) Q) :
    St c x0 x1 R on (k.val + 1) s1 s2 mx mn ⊢ WP c (ap k0_part131 a2 ha2 a3 ha3 a5 ha5 k arg18 (k0_pay1 on) (s1c (tl x0 x1 k.val 4) (k0_pay1 on) 122) (s2c (tl x0 x1 k.val 4) 122) (mxc (tl x0 x1 k.val 4) 122) (mnc (tl x0 x1 k.val 4) 122) (cB (tl x0 x1 k.val 4) 123) >>= f) Q := by
  rw [k0_part131_eq_skeleton]
  refine ldS k.val 992 256 (Nat.lt_succ_self _) (k0_off644_eq k) ?_
  refine ldS k.val 1000 256 (Nat.lt_succ_self _) (k0_off645_eq k) ?_
  refine ldS k.val 1008 256 (Nat.lt_succ_self _) (k0_off646_eq k) ?_
  refine ldS k.val 1016 256 (Nat.lt_succ_self _) (k0_off647_eq k) ?_
  exact h

end

end Cert.Kernel.Hand
-- ==== Proof.K.T3.lean ====
/-
  One row's statistics: the whole trip.
-/
module

public import proofs.«01_k».proof.Proof.K.T1
public import proofs.«01_k».proof.Proof.K.T2

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable {c : Dev nD} {x0 : S16x1024x768.Idx → Elt F .bf16} {x1 : S16x1024x512.Idx → Elt F .bf16}
variable {α : Type} {on : S8x256.Idx → Elt F .bf16} {s1 s2 mx mn : S16x1x1280.Idx → Elt F .f32}
variable {a2 : Memref sig .tc .vmem S1280 .f32} {ha2 : a2.IsWhole} {a3 : Memref sig .tc .vmem S1280 .f32} {ha3 : a3.IsWhole} {a5 : Memref sig .tc .smem S1x1 .f32} {ha5 : a5.IsWhole}
theorem t1_132 {R : sProp 𝕄} {Q : α → sProp 𝕄} (k : Fin k0_t1_loop.trips) {f : (Σ' (arg18 : BitVec 32) (v475 : FVec F S8x256 .f32) (v3423 : FVec F S8x256 .f32) (v3424 : FVec F S8x256 .bf16) (v3425 : FVec F S8x256 .bf16) (v3428 : FVec F S8x256 .bf16) (v3431 : FVec F S8x256 .f32), FVec F S8x256 .f32) → Prog (TpuEff nD τ sig (Elt F) Λ₀ .tc) α}
    (h : St c x0 x1 R on (k.val + 1) (wr4 mS1 (wr4 mS1 s1 (k0_off132 k) (k0_off132_inb k) (k0_pay362 (s1c (tl x0 x1 k.val 0) (k0_pay1 on) 127))) (k0_off261 k) (k0_off261_inb k) (k0_pay362 (s1c (tl x0 x1 k.val 1) (k0_pay1 on) 127))) (wr4 mS2 (wr4 mS2 s2 (k0_off132 k) (k0_off132_inb k) (k0_pay362 (s2c (tl x0 x1 k.val 0) 127))) (k0_off261 k) (k0_off261_inb k) (k0_pay362 (s2c (tl x0 x1 k.val 1) 127))) (wr4 mMx (wr4 mMx mx (k0_off132 k) (k0_off132_inb k) (k0_pay364 (mxc (tl x0 x1 k.val 0) 127))) (k0_off261 k) (k0_off261_inb k) (k0_pay364 (mxc (tl x0 x1 k.val 1) 127))) (wr4 mMn (wr4 mMn mn (k0_off132 k) (k0_off132_inb k) (finMn (mnc (tl x0 x1 k.val 0) 127))) (k0_off261 k) (k0_off261_inb k) (finMn (mnc (tl x0 x1 k.val 1) 127))) ⊢ WP c (f ⟨(Scf.iv 0#32 1#32 k), (k0_pay1 on), (s2c (tl x0 x1 k.val 2) 34), (mxc (tl x0 x1 k.val 2) 34), (mnc (tl x0 x1 k.val 2) 34), (cB (tl x0 x1 k.val 2) 35), (s1c (tl x0 x1 k.val 2) (k0_pay1 on) 35), (mulf (eB (tl x0 x1 k.val 2) 35) (eB (tl x0 x1 k.val 2) 35))⟩) Q) :
    iprop(iprop(R ∗ ptOn c on ∗ ptS1 c s1 ∗ ptS2 c s2 ∗ ptMx c mx ∗ ptMn c mn) ∗ WaSt c x0 x1 k.val) ⊢ WP c (ap k0_part132 a2 ha2 a3 ha3 a5 ha5 (0#32 : BitVec 32) (1#32 : BitVec 32) k  >>= f) Q := by
  rw [k0_part132_eq_skeleton]
  unfold WP
  rw [wp_bind]
  refine t1_1 k ?_
  refine t1_2 k ?_
  refine t1_3 k ?_
  refine t1_4 k ?_
  refine t1_5 k ?_
  refine t1_6 k ?_
  refine t1_7 k ?_
  refine t1_8 k ?_
  refine t1_9 k ?_
  refine t1_10 k ?_
  refine t1_11 k ?_
  refine t1_12 k ?_
  refine t1_13 k ?_
  refine t1_14 k ?_
  refine t1_15 k ?_
  refine t1_16 k ?_
  refine t1_17 k ?_
  refine t1_18 k ?_
  refine t1_19 k ?_
  refine t1_20 k ?_
  refine t1_21 k ?_
  refine t1_22 k ?_
  refine t1_23 k ?_
  refine t1_24 k ?_
  refine t1_25 k ?_
  refine t1_26 k ?_
  refine t1_27 k ?_
  refine t1_28 k ?_
  refine t1_29 k ?_
  refine t1_30 k ?_
  refine t1_31 k ?_
  refine t1_32 k ?_
  refine t1_33 k ?_
  refine t1_34 k ?_
  refine t1_35 k ?_
  refine t1_36 k ?_
  refine t1_37 k ?_
  refine t1_38 k ?_
  refine t1_39 k ?_
  refine t1_40 k ?_
  refine t1_41 k ?_
  refine t1_42 k ?_
  refine t1_43 k ?_
  refine t1_44 k ?_
  refine t1_45 k ?_
  refine t1_46 k ?_
  refine t1_47 k ?_
  refine t1_48 k ?_
  refine t1_49 k ?_
  refine t1_50 k ?_
  refine t1_51 k ?_
  refine t1_52 k ?_
  refine t1_53 k ?_
  refine t1_54 k ?_
  refine t1_55 k ?_
  refine t1_56 k ?_
  refine t1_57 k ?_
  refine t1_58 k ?_
  refine t1_59 k ?_
  refine t1_60 k ?_
  exact wp_done h

theorem t1_133 {R : sProp 𝕄} {Q : α → sProp 𝕄} (k : Fin k0_t1_loop.trips) {arg18 : BitVec 32} {f : (Σ' (v6405 : FVec F S8x256 .f32) (v6407 : FVec F S8x256 .f32) (v6408 : FVec F S8x256 .bf16) (v6409 : FVec F S8x256 .bf16), FVec F S8x256 .bf16) → Prog (TpuEff nD τ sig (Elt F) Λ₀ .tc) α}
    (h : St c x0 x1 R on (k.val + 1) (wr4 mS1 (wr4 mS1 s1 (k0_off390 k) (k0_off390_inb k) (k0_pay362 (s1c (tl x0 x1 k.val 2) (k0_pay1 on) 127))) (k0_off519 k) (k0_off519_inb k) (k0_pay362 (s1c (tl x0 x1 k.val 3) (k0_pay1 on) 127))) (wr4 mS2 (wr4 mS2 s2 (k0_off390 k) (k0_off390_inb k) (k0_pay362 (s2c (tl x0 x1 k.val 2) 127))) (k0_off519 k) (k0_off519_inb k) (k0_pay362 (s2c (tl x0 x1 k.val 3) 127))) (wr4 mMx (wr4 mMx mx (k0_off390 k) (k0_off390_inb k) (k0_pay364 (mxc (tl x0 x1 k.val 2) 127))) (k0_off519 k) (k0_off519_inb k) (k0_pay364 (mxc (tl x0 x1 k.val 3) 127))) (wr4 mMn (wr4 mMn mn (k0_off390 k) (k0_off390_inb k) (finMn (mnc (tl x0 x1 k.val 2) 127))) (k0_off519 k) (k0_off519_inb k) (finMn (mnc (tl x0 x1 k.val 3) 127))) ⊢ WP c (f ⟨(s1c (tl x0 x1 k.val 4) (k0_pay1 on) 72), (s2c (tl x0 x1 k.val 4) 72), (mxc (tl x0 x1 k.val 4) 72), (mnc (tl x0 x1 k.val 4) 72), (cB (tl x0 x1 k.val 4) 73)⟩) Q) :
    St c x0 x1 R on (k.val + 1) s1 s2 mx mn ⊢ WP c (ap k0_part133 a2 ha2 a3 ha3 a5 ha5 k arg18 (k0_pay1 on) (s2c (tl x0 x1 k.val 2) 34) (mxc (tl x0 x1 k.val 2) 34) (mnc (tl x0 x1 k.val 2) 34) (cB (tl x0 x1 k.val 2) 35) (s1c (tl x0 x1 k.val 2) (k0_pay1 on) 35) (mulf (eB (tl x0 x1 k.val 2) 35) (eB (tl x0 x1 k.val 2) 35)) >>= f) Q := by
  rw [k0_part133_eq_skeleton]
  unfold WP
  rw [wp_bind]
  refine t1_61 k ?_
  refine t1_62 k ?_
  refine t1_63 k ?_
  refine t1_64 k ?_
  refine t1_65 k ?_
  refine t1_66 k ?_
  refine t1_67 k ?_
  refine t1_68 k ?_
  refine t1_69 k ?_
  refine t1_70 k ?_
  refine t1_71 k ?_
  refine t1_72 k ?_
  refine t1_73 k ?_
  refine t1_74 k ?_
  refine t1_75 k ?_
  refine t1_76 k ?_
  refine t1_77 k ?_
  refine t1_78 k ?_
  refine t1_79 k ?_
  refine t1_80 k ?_
  refine t1_81 k ?_
  refine t1_82 k ?_
  refine t1_83 k ?_
  refine t1_84 k ?_
  refine t1_85 k ?_
  refine t1_86 k ?_
  refine t1_87 k ?_
  refine t1_88 k ?_
  refine t1_89 k ?_
  refine t1_90 k ?_
  refine t1_91 k ?_
  refine t1_92 k ?_
  refine t1_93 k ?_
  refine t1_94 k ?_
  refine t1_95 k ?_
  refine t1_96 k ?_
  refine t1_97 k ?_
  refine t1_98 k ?_
  refine t1_99 k ?_
  refine t1_100 k ?_
  refine t1_101 k ?_
  refine t1_102 k ?_
  refine t1_103 k ?_
  refine t1_104 k ?_
  refine t1_105 k ?_
  refine t1_106 k ?_
  refine t1_107 k ?_
  refine t1_108 k ?_
  refine t1_109 k ?_
  refine t1_110 k ?_
  refine t1_111 k ?_
  refine t1_112 k ?_
  refine t1_113 k ?_
  refine t1_114 k ?_
  refine t1_115 k ?_
  refine t1_116 k ?_
  refine t1_117 k ?_
  refine t1_118 k ?_
  refine t1_119 k ?_
  refine t1_120 k ?_
  exact wp_done h

/-- The buffer after row `k`'s five tiles. -/
def updS1 (x0 : S16x1024x768.Idx → Elt F .bf16) (x1 : S16x1024x512.Idx → Elt F .bf16) (on : S8x256.Idx → Elt F .bf16) (k : Fin k0_t1_loop.trips) (s1 : S16x1x1280.Idx → Elt F .f32) : S16x1x1280.Idx → Elt F .f32 :=
  (wr4 mS1 (wr4 mS1 (wr4 mS1 (wr4 mS1 (wr4 mS1 s1 (k0_off132 k) (k0_off132_inb k) (k0_pay362 (s1c (tl x0 x1 k.val 0) (k0_pay1 on) 127))) (k0_off261 k) (k0_off261_inb k) (k0_pay362 (s1c (tl x0 x1 k.val 1) (k0_pay1 on) 127))) (k0_off390 k) (k0_off390_inb k) (k0_pay362 (s1c (tl x0 x1 k.val 2) (k0_pay1 on) 127))) (k0_off519 k) (k0_off519_inb k) (k0_pay362 (s1c (tl x0 x1 k.val 3) (k0_pay1 on) 127))) (k0_off648 k) (k0_off648_inb k) (k0_pay362 (s1c (tl x0 x1 k.val 4) (k0_pay1 on) 127)))
/-- The buffer after row `k`'s five tiles. -/
def updS2 (x0 : S16x1024x768.Idx → Elt F .bf16) (x1 : S16x1024x512.Idx → Elt F .bf16) (on : S8x256.Idx → Elt F .bf16) (k : Fin k0_t1_loop.trips) (s2 : S16x1x1280.Idx → Elt F .f32) : S16x1x1280.Idx → Elt F .f32 :=
  (wr4 mS2 (wr4 mS2 (wr4 mS2 (wr4 mS2 (wr4 mS2 s2 (k0_off132 k) (k0_off132_inb k) (k0_pay362 (s2c (tl x0 x1 k.val 0) 127))) (k0_off261 k) (k0_off261_inb k) (k0_pay362 (s2c (tl x0 x1 k.val 1) 127))) (k0_off390 k) (k0_off390_inb k) (k0_pay362 (s2c (tl x0 x1 k.val 2) 127))) (k0_off519 k) (k0_off519_inb k) (k0_pay362 (s2c (tl x0 x1 k.val 3) 127))) (k0_off648 k) (k0_off648_inb k) (k0_pay362 (s2c (tl x0 x1 k.val 4) 127)))
/-- The buffer after row `k`'s five tiles. -/
def updMx (x0 : S16x1024x768.Idx → Elt F .bf16) (x1 : S16x1024x512.Idx → Elt F .bf16) (on : S8x256.Idx → Elt F .bf16) (k : Fin k0_t1_loop.trips) (mx : S16x1x1280.Idx → Elt F .f32) : S16x1x1280.Idx → Elt F .f32 :=
  (wr4 mMx (wr4 mMx (wr4 mMx (wr4 mMx (wr4 mMx mx (k0_off132 k) (k0_off132_inb k) (k0_pay364 (mxc (tl x0 x1 k.val 0) 127))) (k0_off261 k) (k0_off261_inb k) (k0_pay364 (mxc (tl x0 x1 k.val 1) 127))) (k0_off390 k) (k0_off390_inb k) (k0_pay364 (mxc (tl x0 x1 k.val 2) 127))) (k0_off519 k) (k0_off519_inb k) (k0_pay364 (mxc (tl x0 x1 k.val 3) 127))) (k0_off648 k) (k0_off648_inb k) (k0_pay364 (mxc (tl x0 x1 k.val 4) 127)))
/-- The buffer after row `k`'s five tiles. -/
def updMn (x0 : S16x1024x768.Idx → Elt F .bf16) (x1 : S16x1024x512.Idx → Elt F .bf16) (on : S8x256.Idx → Elt F .bf16) (k : Fin k0_t1_loop.trips) (mn : S16x1x1280.Idx → Elt F .f32) : S16x1x1280.Idx → Elt F .f32 :=
  (wr4 mMn (wr4 mMn (wr4 mMn (wr4 mMn (wr4 mMn mn (k0_off132 k) (k0_off132_inb k) (finMn (mnc (tl x0 x1 k.val 0) 127))) (k0_off261 k) (k0_off261_inb k) (finMn (mnc (tl x0 x1 k.val 1) 127))) (k0_off390 k) (k0_off390_inb k) (finMn (mnc (tl x0 x1 k.val 2) 127))) (k0_off519 k) (k0_off519_inb k) (finMn (mnc (tl x0 x1 k.val 3) 127))) (k0_off648 k) (k0_off648_inb k) (finMn (mnc (tl x0 x1 k.val 4) 127)))
theorem t1_trip {R : sProp 𝕄} {Q : Unit → sProp 𝕄} (k : Fin k0_t1_loop.trips)
    (h : St c x0 x1 R on (k.val + 1) (updS1 x0 x1 on k s1) (updS2 x0 x1 on k s2) (updMx x0 x1 on k mx) (updMn x0 x1 on k mn) ⊢ Q ⟨⟩) :
    iprop(iprop(R ∗ ptOn c on ∗ ptS1 c s1 ∗ ptS2 c s2 ∗ ptMx c mx ∗ ptMn c mn) ∗ WaSt c x0 x1 k.val) ⊢ WP c (ap k0_t1_body a2 ha2 a3 ha3 a5 ha5 k ⟨⟩) Q := by
  unfold ap k0_t1_body
  refine t1_132 k ?_
  refine t1_133 k ?_
  refine t1_121 k ?_
  refine t1_122 k ?_
  refine t1_123 k ?_
  refine t1_124 k ?_
  refine t1_125 k ?_
  refine t1_126 k ?_
  refine t1_127 k ?_
  refine t1_128 k ?_
  refine t1_129 k ?_
  refine t1_130 k ?_
  refine t1_131 k ?_
  refine ddS1 ?_
  refine stS1 ?_
  refine ddS2 ?_
  refine stS2 ?_
  refine ddMx ?_
  refine stMx ?_
  refine ddMn ?_
  refine stMn ?_
  exact wp_done h
end

end Cert.Kernel.Hand
-- ==== Proof.K.Run.lean ====
/-
  The whole body.
-/
module

public import proofs.«01_k».proof.Proof.K.Out
public import proofs.«01_k».proof.Proof.K.Mid
public import proofs.«01_k».proof.Proof.K.T3

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The whole body -/

section
variable {c : Dev nD} {a2 : Memref sig .tc .vmem S1280 .f32} {ha2 : a2.IsWhole} {a3 : Memref sig .tc .vmem S1280 .f32} {ha3 : a3.IsWhole} {a5 : Memref sig .tc .smem S1x1 .f32} {ha5 : a5.IsWhole}
  {g2 : Buf (Elt F) (a2.view.loc (c : Thread nD τ))} {g3 : Buf (Elt F) (a3.view.loc (c : Thread nD τ))}
  {x0 : S16x1024x768.Idx → Elt F .bf16} {x1 : S16x1024x512.Idx → Elt F .bf16}
variable {α : Type}

/-- Everything the body works on, at the arguments' contents. -/
def Whl (c : Dev nD) (a2 a3 : Memref sig .tc .vmem S1280 .f32) (a5 : Memref sig .tc .smem S1x1 .f32)
    (g2 : Buf (Elt F) (a2.view.loc (c : Thread nD τ))) (g3 : Buf (Elt F) (a3.view.loc (c : Thread nD τ)))
    (x0 : S16x1024x768.Idx → Elt F .bf16) (x1 : S16x1024x512.Idx → Elt F .bf16) : sProp 𝕄 :=
  iprop(ExT c a2 a3 a5 g2 g3 ∗ (∃ f, ptOn c f) ∗ (mXuH.view.loc (c : Thread nD τ) ↦[Finset.univ]{fullShare} x0) ∗ (mXsH.view.loc (c : Thread nD τ) ↦[Finset.univ]{fullShare} x1)
    ∗ (∃ f, mOb.view.loc (c : Thread nD τ) ↦[Finset.univ]{fullShare} f) ∗ (∃ f, mCo.view.loc (c : Thread nD τ) ↦[Finset.univ]{fullShare} f)
    ∗ bigSep Finset.univ (fun b => semVal ((c : Thread nD τ), SemLoc.dma (inSem b)) 0) ∗ bigSep Finset.univ (fun b => semVal ((c : Thread nD τ), SemLoc.dma (outSem b)) 0) ∗ owE c)

/-- What waits for the second half of the body. -/
def Rst (c : Dev nD) (a2 a3 : Memref sig .tc .vmem S1280 .f32) (a5 : Memref sig .tc .smem S1x1 .f32)
    (g2 : Buf (Elt F) (a2.view.loc (c : Thread nD τ))) (g3 : Buf (Elt F) (a3.view.loc (c : Thread nD τ))) : sProp 𝕄 :=
  iprop((∃ f, mA.view.loc (c : Thread nD τ) ↦[Finset.univ]{fullShare} f) ∗ (∃ f, mB.view.loc (c : Thread nD τ) ↦[Finset.univ]{fullShare} f)
    ∗ (a2.view.loc (c : Thread nD τ) ↦[a2.view.set]{fullShare} g2) ∗ (a3.view.loc (c : Thread nD τ) ↦[a3.view.set]{fullShare} g3) ∗ (∃ f, a5.view.loc (c : Thread nD τ) ↦[a5.view.set]{fullShare} f)
    ∗ (∃ f, mOb.view.loc (c : Thread nD τ) ↦[Finset.univ]{fullShare} f) ∗ (∃ f, mCo.view.loc (c : Thread nD τ) ↦[Finset.univ]{fullShare} f)
    ∗ bigSep Finset.univ (fun b => semVal ((c : Thread nD τ), SemLoc.dma (outSem b)) 0))

theorem rows_all (d : Fin 3 → ℕ) (p : ℕ → Prop) [DecidablePred p] (h : ∀ n, n < d 0 → p n) : rowsIn d p = Finset.univ := by
  ext i; rw [mem_rowsIn]; exact ⟨fun _ => Finset.mem_univ _, fun _ => h _ (i 0).isLt⟩
theorem rows_none (d : Fin 3 → ℕ) (p : ℕ → Prop) [DecidablePred p] (h : ∀ n, n < d 0 → ¬ p n) : rowsIn d p = ∅ := by
  ext i; rw [mem_rowsIn]; exact ⟨fun hp => absurd hp (h _ (i 0).isLt), fun h => absurd h (Finset.notMem_empty _)⟩

theorem pt_none {ℓ : Loc nD τ sig} (f g : Buf (Elt F) ℓ) : (ℓ ↦[∅]{fullShare} f : sProp 𝕄) = (ℓ ↦[∅]{fullShare} g) :=
  pointsTo_congr fun i hi => absurd hi (Finset.notMem_empty i)

/-- Nothing issued. -/
theorem in_start (f6 : S16x1024x768.Idx → Elt F .bf16) (f7 : S16x1024x512.Idx → Elt F .bf16) :
    iprop((mXu.view.loc (c : Thread nD τ) ↦[Finset.univ]{fullShare} f6) ∗ (mXs.view.loc (c : Thread nD τ) ↦[Finset.univ]{fullShare} f7)
      ∗ (mXuH.view.loc (c : Thread nD τ) ↦[Finset.univ]{fullShare} x0) ∗ (mXsH.view.loc (c : Thread nD τ) ↦[Finset.univ]{fullShare} x1)
      ∗ bigSep Finset.univ (fun b => semVal ((c : Thread nD τ), SemLoc.dma (inSem b)) 0)) ⊢ InSt c x0 x1 f6 f7 0 := by
  unfold InSt ptXu ptXuH ptXs ptXsH
  rw [rows_all dXu (0 ≤ ·) (fun n _ => Nat.zero_le n), rows_all dXs (0 ≤ ·) (fun n _ => Nat.zero_le n), geS_zero, ltS_zero, bigSep_empty]
  iintro ⟨H6, H7, H0, H1, Hs⟩
  isplitl [H6]; · iexact H6
  isplitl [H0]; · iexact H0
  isplitl [H7]; · iexact H7
  isplitl [H1]; · iexact H1
  isplitl [Hs]; · iexact Hs
  iempintro

/-- Everything issued: nothing waited for yet. -/
theorem in_mid (f6 : S16x1024x768.Idx → Elt F .bf16) (f7 : S16x1024x512.Idx → Elt F .bf16) :
    iprop(InSt c x0 x1 f6 f7 16 ∗ owE c) ⊢ WaSt c x0 x1 0 := by
  unfold InSt WaSt ptXu ptXuH ptXs ptXsH owE
  rw [rows_none dXu (16 ≤ ·) (fun n h => Nat.not_le.mpr h), rows_none dXs (16 ≤ ·) (fun n h => Nat.not_le.mpr h),
    rows_none dXu (· < 0) (fun n _ => Nat.not_lt_zero n), rows_none dXs (· < 0) (fun n _ => Nat.not_lt_zero n), geS_full, ltS_full, geS_zero, ltS_zero, bigSep_empty,
    pt_none (ℓ := mXu.view.loc (c : Thread nD τ)) f6 x0, pt_none (ℓ := mXs.view.loc (c : Thread nD τ)) f7 x1]
  iintro ⟨⟨H6, H0, H7, H1, He, Hm⟩, HW⟩
  isplitl [H6]; · iexact H6
  isplitl [H0]; · iexact H0
  isplitl [H7]; · iexact H7
  isplitl [H1]; · iexact H1
  isplitl [He]; · iexact He
  isplitl [Hm]; · iexact Hm
  iexact HW

/-- Everything has landed. -/
theorem in_end : WaSt c x0 x1 16 ⊢
    iprop((mXu.view.loc (c : Thread nD τ) ↦[Finset.univ]{fullShare} x0) ∗ (mXs.view.loc (c : Thread nD τ) ↦[Finset.univ]{fullShare} x1)
      ∗ (mXuH.view.loc (c : Thread nD τ) ↦[Finset.univ]{fullShare} x0) ∗ (mXsH.view.loc (c : Thread nD τ) ↦[Finset.univ]{fullShare} x1)
      ∗ bigSep Finset.univ (fun b => semVal ((c : Thread nD τ), SemLoc.dma (inSem b)) 0) ∗ owE c) := by
  unfold WaSt ptXu ptXuH ptXs ptXsH owE
  rw [rows_all dXu (· < 16) (fun n h => h), rows_all dXs (· < 16) (fun n h => h), geS_full, ltS_full, bigSep_empty]
  iintro ⟨H6, H0, H7, H1, Hs, He, HW⟩
  isplitl [H6]; · iexact H6
  isplitl [H7]; · iexact H7
  isplitl [H0]; · iexact H0
  isplitl [H1]; · iexact H1
  isplitl [Hs]; · iexact Hs
  iexact HW

theorem loadOn {R X Y : sProp 𝕄} {Q : α → sProp 𝕄} {on : S8x256.Idx → Elt F .bf16} {r : LoadRect S8x256} {hl : mOn.view.LoadsAt r} {k : (r.shape.Idx → Elt F .bf16) → Prog (TpuEff nD τ sig (Elt F) Λ₀ .tc) α}
    (hk : ∀ v, iprop(iprop(R ∗ ptOn c on ∗ X) ∗ Y) ⊢ WP c (k v) Q) : iprop(iprop(R ∗ ptOn c on ∗ X) ∗ Y) ⊢ WP c (.op (.load mOn r hl) k) Q := by
  refine BIBase.Entails.trans ?_ (ex_load (c := c) (m := mOn) (S := Finset.univ) (f := on) (R' := iprop(R ∗ X ∗ Y)) (E := iprop(iprop(R ∗ ptOn c on ∗ X) ∗ Y)) ?_ (fun i _ => Finset.mem_univ i) hk)
  · iintro ⟨⟨HR, HO, HX⟩, HY⟩
    isplitl [HO]; · iexact HO
    isplitl [HR]; · iexact HR
    isplitl [HX] <;> iassumption
  · iintro ⟨HO, HR, HX, HY⟩
    isplitr [HY]
    · isplitl [HR]; · iexact HR
      isplitl [HO] <;> iassumption
    · iexact HY
theorem storeOn {R X Y : sProp 𝕄} {Q : α → sProp 𝕄} {on : S8x256.Idx → Elt F .bf16} {r : Rect S8x256} {w : r.shape.Idx → Elt F .bf16}
    {hx : (mOn.access r).Stores Finset.univ} {hm} {k : PUnit → Prog (TpuEff nD τ sig (Elt F) Λ₀ .tc) α}
    (hk : iprop(iprop(R ∗ (∃ on, ptOn c on) ∗ X) ∗ Y) ⊢ WP c (k ⟨⟩) Q) : iprop(iprop(R ∗ ptOn c on ∗ X) ∗ Y) ⊢ WP c (.op (.store mOn r w Finset.univ hx hm) k) Q := by
  refine BIBase.Entails.trans ?_ (ex_store (c := c) (m := mOn) (S := Finset.univ) (f := on) (R' := iprop(R ∗ X ∗ Y)) (E := iprop(iprop(R ∗ (∃ on, ptOn c on) ∗ X) ∗ Y)) (fun f => ?_) (fun i _ => Finset.mem_univ i) hk)
  · iintro ⟨⟨HR, HO, HX⟩, HY⟩
    isplitl [HO]; · iexact HO
    isplitl [HR]; · iexact HR
    isplitl [HX] <;> iassumption
  · iintro ⟨HO, HR, HX, HY⟩
    isplitr [HY]
    · isplitl [HR]; · iexact HR
      isplitl [HO]
      · iexists f; iexact HO
      · iexact HX
    · iexact HY

/-- The statistics' loop, its sums and extremes at some contents. -/
def StE (c : Dev nD) (x0 : S16x1024x768.Idx → Elt F .bf16) (x1 : S16x1024x512.Idx → Elt F .bf16) (R : sProp 𝕄) (n : ℕ) : sProp 𝕄 :=
  iprop(∃ on, ∃ s1, ∃ s2, ∃ mx, ∃ mn, St c x0 x1 R on n s1 s2 mx mn)

theorem t1_step {R : sProp 𝕄} (k : Fin k0_t1_loop.trips) (acc : Unit) :
    StE c x0 x1 R k.val ⊢ WP c (ap k0_t1_body a2 ha2 a3 ha3 a5 ha5 k acc) (fun _ => StE c x0 x1 R (k.val + 1)) := by
  unfold StE
  iintro ⟨%on, %s1, %s2, %mx, %mn, H⟩
  unfold St
  iapply (t1_trip (c := c) (x0 := x0) (x1 := x1) (R := R) (on := on) (s1 := s1) (s2 := s2) (mx := mx) (mn := mn) k (by
    iintro H
    iexists _, _, _, _, _
    unfold St
    iexact H))
  iexact H

theorem t1_all {R : sProp 𝕄} {Q : α → sProp 𝕄} {kk : Unit → Prog (TpuEff nD τ sig (Elt F) Λ₀ .tc) α}
    (hk : ∀ acc, StE c x0 x1 R 16 ⊢ WP c (kk acc) Q) :
    StE c x0 x1 R 0 ⊢ WP c (Scf.Loop.for k0_t1_loop k0_t1_ok ⟨⟩ (ap k0_t1_body a2 ha2 a3 ha3 a5 ha5) >>= kk) Q := by
  have h := Scf.wp_for_bind frame (wpE (defs₀ (F := F)) Variants.none (c : Thread nD τ) none) Set.univ k0_t1_loop.lb k0_t1_loop.ub k0_t1_loop.st k0_t1_ok ⟨⟩
    (ap k0_t1_body a2 ha2 a3 ha3 a5 ha5) (fun n _ => StE c x0 x1 R n) (fun k acc => t1_step k acc) (kk := kk) (Q := Q)
  iintro HE
  iapply h $$ [HE]
  · iexact HE
  iintro %acc HE
  iapply (hk acc)
  iapply (Entails.of_eq (congrArg (fun n => StE c x0 x1 R n) (show k0_t1_loop.trips = 16 by decide +kernel)))
  iexact HE

/-- Before the rows are issued, at given contents. -/
def Beg (c : Dev nD) (x0 : S16x1024x768.Idx → Elt F .bf16) (x1 : S16x1024x512.Idx → Elt F .bf16) (R : sProp 𝕄) (on : S8x256.Idx → Elt F .bf16) (s1 s2 mx mn : S16x1x1280.Idx → Elt F .f32)
    (f6 : S16x1024x768.Idx → Elt F .bf16) (f7 : S16x1024x512.Idx → Elt F .bf16) (n : ℕ) : sProp 𝕄 :=
  iprop(iprop(iprop(R ∗ owE c) ∗ ptOn c on ∗ ptS1 c s1 ∗ ptS2 c s2 ∗ ptMx c mx ∗ ptMn c mn) ∗ InSt c x0 x1 f6 f7 n)

theorem p_163 {R : sProp 𝕄} {on : S8x256.Idx → Elt F .bf16} {s1 s2 mx mn : S16x1x1280.Idx → Elt F .f32} {f6 : S16x1024x768.Idx → Elt F .bf16} {f7 : S16x1024x512.Idx → Elt F .bf16}
    {Q : α → sProp 𝕄} {kk : (Σ' (v209 : FVec F S1280x128 .bf16), IVec S128x1280 32) → Prog (TpuEff nD τ sig (Elt F) Λ₀ .tc) α}
    (hk : ∀ v, StE c x0 x1 R 16 ⊢ WP c (kk v) Q) :
    Beg c x0 x1 R on s1 s2 mx mn f6 f7 15 ⊢ WP c (ap k0_part163 a2 ha2 a3 ha3 a5 ha5 >>= kk) Q := by
  refine ex_step (E' := StE c x0 x1 R 16) ?_ hk
  rw [k0_part163_eq_skeleton]
  unfold Beg
  refine issue_row c x0 x1 (15 : Fin 16) ?_
  refine loadOn fun _ => ?_
  refine storeOn ?_
  refine BIBase.Entails.trans ?_ (t1_all (R := R) (x0 := x0) (x1 := x1) fun acc => wp_done .rfl)
  unfold StE St
  iintro ⟨⟨⟨HR, HW⟩, ⟨%on, HO⟩, H1, H2, H3, H4⟩, HI⟩
  iexists on, s1, s2, mx, mn
  isplitr [HI HW]
  · isplitl [HR]; · iexact HR
    isplitl [HO]; · iexact HO
    isplitl [H1]; · iexact H1
    isplitl [H2]; · iexact H2
    isplitl [H3] <;> iassumption
  · iapply (in_mid f6 f7)
    isplitl [HI]
    · iexact HI
    · iexact HW

/-- What the second half leaves alone. -/
def Held (c : Dev nD) (x0 : S16x1024x768.Idx → Elt F .bf16) (x1 : S16x1024x512.Idx → Elt F .bf16) (R : sProp 𝕄) : sProp 𝕄 :=
  iprop(R ∗ (∃ on, ptOn c on) ∗ (mXuH.view.loc (c : Thread nD τ) ↦[Finset.univ]{fullShare} x0) ∗ (mXsH.view.loc (c : Thread nD τ) ↦[Finset.univ]{fullShare} x1)
    ∗ bigSep Finset.univ (fun b => semVal ((c : Thread nD τ), SemLoc.dma (inSem b)) 0))

theorem bigSep_univ3 (Φ : Fin 3 → sProp 𝕄) : bigSep Finset.univ Φ = iprop(Φ 0 ∗ Φ 1 ∗ Φ 2) := by
  rw [BI.bigSep_eq_bigSepL_of_eq [0, 1, 2] (by decide) (by decide)]; rfl

theorem rows3_0 {d : Fin 3 → ℕ} (i : (a : Fin 3) → Fin (d a)) : i ∈ (Finset.univ : Finset ((a : Fin 3) → Fin (d a))) ↔ i ∈ rowsIn d (· = 0) ∨ i ∈ rowsIn d (0 < ·) := by
  simp only [mem_rowsIn, Finset.mem_univ, true_iff]; exact Nat.eq_zero_or_pos _
theorem rows3_0' {d : Fin 3 → ℕ} (i : (a : Fin 3) → Fin (d a)) : i ∈ rowsIn d (· = 0) → i ∉ rowsIn d (0 < ·) := by
  simp only [mem_rowsIn]; omega
theorem rows3_1 {d : Fin 3 → ℕ} (h : d 0 = 3) (i : (a : Fin 3) → Fin (d a)) : i ∈ rowsIn d (0 < ·) ↔ i ∈ rowsIn d (· = 1) ∨ i ∈ rowsIn d (· = 2) := by
  have := (i 0).isLt
  simp only [mem_rowsIn]; omega
theorem rows3_1' {d : Fin 3 → ℕ} (i : (a : Fin 3) → Fin (d a)) : i ∈ rowsIn d (· = 1) → i ∉ rowsIn d (· = 2) := by
  simp only [mem_rowsIn]; omega
theorem ob01 (f : S3x1024x1280.Idx → Elt F .fp8e4m3) : (mOb.view.loc (c : Thread nD τ) ↦[Finset.univ]{fullShare} f : sProp 𝕄) ⊣⊢
    iprop((mOb.view.loc (c : Thread nD τ) ↦[(rowsIn dOb (· = 0) : Finset _)]{fullShare} f) ∗ (mOb.view.loc (c : Thread nD τ) ↦[(rowsIn dOb (0 < ·) : Finset _)]{fullShare} f)) := by
  refine pt_split (c := (c : Thread nD τ)) (ℓ := mOb.view.loc (c : Thread nD τ)) (S := Finset.univ) (A := (rowsIn dOb (· = 0) : Finset _)) (B := (rowsIn dOb (0 < ·) : Finset _)) ?_ ?_ fullShare f
  · exact rows3_0 (d := dOb)
  · exact rows3_0' (d := dOb)
theorem ob12 (f : S3x1024x1280.Idx → Elt F .fp8e4m3) : (mOb.view.loc (c : Thread nD τ) ↦[(rowsIn dOb (0 < ·) : Finset _)]{fullShare} f : sProp 𝕄) ⊣⊢
    iprop((mOb.view.loc (c : Thread nD τ) ↦[(rowsIn dOb (· = 1) : Finset _)]{fullShare} f) ∗ (mOb.view.loc (c : Thread nD τ) ↦[(rowsIn dOb (· = 2) : Finset _)]{fullShare} f)) := by
  refine pt_split (c := (c : Thread nD τ)) (ℓ := mOb.view.loc (c : Thread nD τ)) (S := (rowsIn dOb (0 < ·) : Finset _)) (A := (rowsIn dOb (· = 1) : Finset _)) (B := (rowsIn dOb (· = 2) : Finset _)) ?_ ?_ fullShare f
  · exact rows3_1 (d := dOb) rfl
  · exact rows3_1' (d := dOb)
theorem ob_at {p : ℕ → Prop} [DecidablePred p] {f g : S3x1024x1280.Idx → Elt F .fp8e4m3} (h : ∀ i : S3x1024x1280.Idx, p (i 0).val → f i = g i) :
    (mOb.view.loc (c : Thread nD τ) ↦[(rowsIn dOb p : Finset _)]{fullShare} f : sProp 𝕄) ⊢ (mOb.view.loc (c : Thread nD τ) ↦[(rowsIn dOb p : Finset _)]{fullShare} g) :=
  Entails.of_eq (pointsTo_congr fun i hi => h i (mem_rowsIn.mp hi))

theorem ob_split (f : S3x1024x1280.Idx → Elt F .fp8e4m3) : (mOb.view.loc (c : Thread nD τ) ↦[Finset.univ]{fullShare} f : sProp 𝕄) ⊢ iprop(obS c 0 ∗ obS c 1 ∗ obS c 2) := by
  unfold obS
  iintro H
  icases (ob01 f).1 $$ H with ⟨H0, H⟩
  icases (ob12 f).1 $$ H with ⟨H1, H2⟩
  isplitl [H0]; · iexists f; iexact H0
  isplitl [H1]; · iexists f; iexact H1
  iexists f; iexact H2
/-- Three slots' contents, as one buffer's. -/
def ob3 (f g h : S3x1024x1280.Idx → Elt F .fp8e4m3) : S3x1024x1280.Idx → Elt F .fp8e4m3 := fun i => if (i 0).val = 0 then f i else if (i 0).val = 1 then g i else h i
theorem ob_join : iprop(obS (F := F) c 0 ∗ obS c 1 ∗ obS c 2) ⊢ iprop(∃ f, mOb.view.loc (c : Thread nD τ) ↦[Finset.univ]{fullShare} f) := by
  unfold obS
  iintro ⟨⟨%f, Hf⟩, ⟨%g, Hg⟩, ⟨%h, Hh⟩⟩
  iexists (ob3 f g h)
  iapply (ob01 (ob3 f g h)).2
  isplitl [Hf]
  · iapply (ob_at (fun i e => (if_pos e).symm)); iexact Hf
  iapply (ob12 (ob3 f g h)).2
  isplitl [Hg]
  · iapply (ob_at (fun i e => by unfold ob3; rw [if_neg (by omega), if_pos e])); iexact Hg
  · iapply (ob_at (fun i e => by unfold ob3; rw [if_neg (by omega), if_neg (by omega)])); iexact Hh

theorem coE_all : iprop(∃ f, mCo.view.loc (c : Thread nD τ) ↦[Finset.univ]{fullShare} f) = (coE c (0 ≤ ·) : sProp 𝕄) := by
  unfold coE
  rw [rows_all dCo (0 ≤ ·) (fun n _ => Nat.zero_le n)]

/-- From the statistics to the second half. -/
theorem to_ex {R : sProp 𝕄} : StE c x0 x1 iprop(R ∗ Rst c a2 a3 a5 g2 g3) 16 ⊢ Ex c a2 a3 a5 g2 g3 iprop(Held c x0 x1 R ∗ OutSt c 0) := by
  rw [Ex_eq]
  unfold StE St Rst Held OutSt ExT
  rw [coE_all]
  iintro ⟨%on, %s1, %s2, %mx, %mn, ⟨⟨HR, HA, HB, Ha2, Ha3, Ha5, ⟨%fo, Hob⟩, Hco, Hos⟩, HO, H1, H2, H3, H4⟩, HI⟩
  icases in_end $$ HI with ⟨H6, H7, H0, Hx, Hs, HW⟩
  icases (ob_split fo) $$ Hob with ⟨Ho0, Ho1, Ho2⟩
  icases (Entails.of_eq (bigSep_univ3 _)) $$ Hos with ⟨Hq0, Hq1, Hq2⟩
  icases (coE_split c (0 ≤ ·) (· < 0 - 3) (0 ≤ ·) (fun n => by omega) (fun n => by omega)) $$ Hco with ⟨Hc, Hd⟩
  isplitr [HA HB Ha2 Ha3 Ha5 H1 H2 H3 H4 H6 H7]
  · isplitr [Hc Hd Ho0 Ho1 Ho2 Hq0 Hq1 Hq2 HW]
    · isplitl [HR]; · iexact HR
      isplitl [HO]; · iexists on; iexact HO
      isplitl [H0]; · iexact H0
      isplitl [Hx]; · iexact Hx
      iexact Hs
    · isplitl [Hc]; · iexact Hc
      isplitl [Hd]; · iexact Hd
      isplitl [Hq0 Ho0]
      · iapply (Entails.of_eq (show iprop(semVal ((c : Thread nD τ), SemLoc.dma (outSem 0)) 0 ∗ obS (F := F) c 0) = Sl c 0 from rfl))
        isplitl [Hq0] <;> iassumption
      isplitl [Hq1 Ho1]
      · iapply (Entails.of_eq (show iprop(semVal ((c : Thread nD τ), SemLoc.dma (outSem 1)) 0 ∗ obS (F := F) c 1) = Sl c (0 + 1) from rfl))
        isplitl [Hq1] <;> iassumption
      isplitl [Hq2 Ho2]
      · iapply (Entails.of_eq (show iprop(semVal ((c : Thread nD τ), SemLoc.dma (outSem 2)) 0 ∗ obS (F := F) c 2) = Sl c (0 + 2) from rfl))
        isplitl [Hq2] <;> iassumption
      iexact HW
  · isplitl [H6]; · iexists _; iexact H6
    isplitl [H7]; · iexists _; iexact H7
    isplitl [H1]; · iexists _; iexact H1
    isplitl [H2]; · iexists _; iexact H2
    isplitl [H3]; · iexists _; iexact H3
    isplitl [H4]; · iexists _; iexact H4
    isplitl [HA]; · iexact HA
    isplitl [HB]; · iexact HB
    isplitl [Ha2]; · iexact Ha2
    isplitl [Ha3]; · iexact Ha3
    iexact Ha5

/-- Between the final waits. -/
def Fin13 (c : Dev nD) (P : sProp 𝕄) : sProp 𝕄 := iprop(P ∗ coE c (fun n => 16 ≤ n ∨ n < 14) ∗ fr c 1 ∗ fl c 14 2 ∗ fl c 15 0 ∗ owE c)

/-- The last part: the scale stored, the codes' loop, the wait for row 13. -/
theorem p_169 {R : sProp 𝕄} {v423 : IVec S1x128 32} {c127_i32 : BitVec 32} {Q : α → sProp 𝕄} {kk : PUnit → Prog (TpuEff nD τ sig (Elt F) Λ₀ .tc) α}
    (hk : ∀ v, Fin13 c iprop(R ∗ ExT c a2 a3 a5 g2 g3) ⊢ WP c (kk v) Q) :
    Ex c a2 a3 a5 g2 g3 iprop(R ∗ OutSt c 0) ⊢ WP c (ap k0_part169 a2 ha2 a3 ha3 a5 ha5 v423 c127_i32 >>= kk) Q := by
  refine ex_step (E' := Fin13 c iprop(R ∗ ExT c a2 a3 a5 g2 g3)) ?_ hk
  rw [k0_part169_eq_skeleton]
  refine exla5 fun _ => ?_
  refine exsa5 ?_
  refine t14_loop fun _ => ?_
  rw [Ex_eq]
  refine BIBase.Entails.trans ?_ (wait_out c (P := iprop(iprop(R ∗ ExT c a2 a3 a5 g2 g3) ∗ coE c (fun n => 16 ≤ n ∨ n < 13) ∗ fl c 14 2 ∗ fl c 15 0)) (13 : Fin 16) (1 : Fin 3) rfl rfl rfl (wp_done ?_))
  · unfold OutSt
    iintro ⟨⟨HR, Hc, Hd, H0, H1, H2, HW⟩, HE⟩
    icases (Entails.of_eq (show Sl (F := F) c 16 = fl c 13 1 from Sl_next c 13)) $$ H0 with H0
    icases (Entails.of_eq (show Sl (F := F) c (16 + 1) = fl c 14 2 from Sl_next c 14)) $$ H1 with H1
    icases (Entails.of_eq (show Sl (F := F) c (16 + 2) = fl c 15 0 from Sl_next c 15)) $$ H2 with H2
    isplitr [H0 HW]
    · isplitl [HR HE]
      · isplitl [HR] <;> iassumption
      isplitl [Hc Hd]
      · iapply (coE_join c (16 ≤ ·) (· < 13) (fun n => 16 ≤ n ∨ n < 13) (fun n => Iff.rfl) (fun n => by omega))
        isplitl [Hc] <;> iassumption
      isplitl [H1] <;> iassumption
    · isplitl [H0]; · iexact H0
      iexact HW
  · unfold Fin13
    iintro ⟨⟨HP, Hc, H1, H2⟩, Hn, Hf, HW⟩
    isplitl [HP]; · iexact HP
    isplitl [Hc Hn]
    · iapply (coE_join c (· = 13) (fun n => 16 ≤ n ∨ n < 13) (fun n => 16 ≤ n ∨ n < 14) (fun n => by omega) (fun n => by omega))
      isplitl [Hn]
      · iexact Hn
      · iexact Hc
    isplitl [Hf]; · iexact Hf
    isplitl [H1]; · iexact H1
    isplitl [H2] <;> iassumption

/-- The end: everything back. -/
theorem to_whl {R : sProp 𝕄} : iprop(iprop(Held c x0 x1 R ∗ ExT c a2 a3 a5 g2 g3) ∗ coE c (0 ≤ ·) ∗ fr c 1 ∗ fr c 2 ∗ fr c 0 ∗ owE c) ⊢ iprop(R ∗ Whl c a2 a3 a5 g2 g3 x0 x1) := by
  unfold Held Whl fr
  rw [bigSep_univ3 (fun b => semVal ((c : Thread nD τ), SemLoc.dma (outSem b)) 0), coE_all]
  iintro ⟨⟨⟨HR, HO, H0, H1, Hs⟩, HE⟩, Hc, ⟨Hq1, Ho1⟩, ⟨Hq2, Ho2⟩, ⟨Hq0, Ho0⟩, HW⟩
  isplitl [HR]; · iexact HR
  isplitl [HE]; · iexact HE
  isplitl [HO]; · iexact HO
  isplitl [H0]; · iexact H0
  isplitl [H1]; · iexact H1
  isplitl [Ho0 Ho1 Ho2]
  · iapply ob_join
    isplitl [Ho0]; · iexact Ho0
    isplitl [Ho1]; · iexact Ho1
    iexact Ho2
  isplitl [Hc]; · iexact Hc
  isplitl [Hs]; · iexact Hs
  isplitr [HW]
  · isplitl [Hq0]; · iexact Hq0
    isplitl [Hq1] <;> iassumption
  · iexact HW

/-- The body from given contents. -/
theorem run_at {R : sProp 𝕄} {on : S8x256.Idx → Elt F .bf16} {s1 s2 mx mn : S16x1x1280.Idx → Elt F .f32} {f6 : S16x1024x768.Idx → Elt F .bf16} {f7 : S16x1024x512.Idx → Elt F .bf16} {Q : PUnit → sProp 𝕄}
    (hQ : iprop(R ∗ Whl c a2 a3 a5 g2 g3 x0 x1) ⊢ Q ⟨⟩) :
    Beg c x0 x1 iprop(R ∗ Rst c a2 a3 a5 g2 g3) on s1 s2 mx mn f6 f7 0 ⊢ WP c (ap cc0_gn_silu_fp8 a2 ha2 a3 ha3 a5 ha5) Q := by
  rw [cc0_gn_silu_fp8_eq_skeleton]
  unfold Beg
  refine issue_row c x0 x1 (0 : Fin 16) ?_
  refine issue_row c x0 x1 (1 : Fin 16) ?_
  refine issue_row c x0 x1 (2 : Fin 16) ?_
  refine issue_row c x0 x1 (3 : Fin 16) ?_
  refine issue_row c x0 x1 (4 : Fin 16) ?_
  refine issue_row c x0 x1 (5 : Fin 16) ?_
  refine issue_row c x0 x1 (6 : Fin 16) ?_
  refine issue_row c x0 x1 (7 : Fin 16) ?_
  refine issue_row c x0 x1 (8 : Fin 16) ?_
  refine issue_row c x0 x1 (9 : Fin 16) ?_
  refine issue_row c x0 x1 (10 : Fin 16) ?_
  refine issue_row c x0 x1 (11 : Fin 16) ?_
  refine issue_row c x0 x1 (12 : Fin 16) ?_
  refine issue_row c x0 x1 (13 : Fin 16) ?_
  refine issue_row c x0 x1 (14 : Fin 16) ?_
  refine p_163 fun _ => ?_
  refine to_ex.trans ?_
  refine ex_part p_164 fun _ => ?_
  refine ex_part p_165 fun _ => ?_
  refine ex_part p_166 fun _ => ?_
  refine ex_part p_167 fun _ => ?_
  refine ex_part p_168 fun _ => ?_
  refine p_169 fun _ => ?_
  unfold Fin13
  refine BIBase.Entails.trans ?_ (wait_out c (P := iprop(iprop(Held c x0 x1 R ∗ ExT c a2 a3 a5 g2 g3) ∗ coE c (fun n => 16 ≤ n ∨ n < 14) ∗ fr c 1 ∗ fl c 15 0)) (14 : Fin 16) (2 : Fin 3) rfl rfl rfl
    (BIBase.Entails.trans ?_ (wait_out c (P := iprop(iprop(Held c x0 x1 R ∗ ExT c a2 a3 a5 g2 g3) ∗ coE c (fun n => 16 ≤ n ∨ n < 15) ∗ fr c 1 ∗ fr c 2)) (15 : Fin 16) (0 : Fin 3) rfl rfl rfl
      (wp_done (BIBase.Entails.trans (BIBase.Entails.trans ?_ to_whl) hQ)))))
  · iintro ⟨HP, Hc, Hf, H1, H2, HW⟩
    isplitr [H1 HW]
    · isplitl [HP]; · iexact HP
      isplitl [Hc]; · iexact Hc
      isplitl [Hf] <;> iassumption
    · isplitl [H1]; · iexact H1
      iexact HW
  · iintro ⟨⟨HP, Hc, Hf, H2⟩, Hn, Hg, HW⟩
    isplitr [H2 HW]
    · isplitl [HP]; · iexact HP
      isplitl [Hc Hn]
      · iapply (coE_join c (· = 14) (fun n => 16 ≤ n ∨ n < 14) (fun n => 16 ≤ n ∨ n < 15) (fun n => by omega) (fun n => by omega))
        isplitl [Hn]
        · iexact Hn
        · iexact Hc
      isplitl [Hf] <;> iassumption
    · isplitl [H2]; · iexact H2
      iexact HW
  · iintro ⟨⟨HP, Hc, Hf, Hg⟩, Hn, Hh, HW⟩
    isplitl [HP]; · iexact HP
    isplitl [Hc Hn]
    · iapply (coE_join c (· = 15) (fun n => 16 ≤ n ∨ n < 15) (0 ≤ ·) (fun n => by omega) (fun n => by omega))
      isplitl [Hn]
      · iexact Hn
      · iexact Hc
    isplitl [Hf]; · iexact Hf
    isplitl [Hg]; · iexact Hg
    isplitl [Hh]; · iexact Hh
    iexact HW

/-- The body. -/
theorem body_run {R : sProp 𝕄} {Q : PUnit → sProp 𝕄} (hQ : iprop(R ∗ Whl c a2 a3 a5 g2 g3 x0 x1) ⊢ Q ⟨⟩) :
    iprop(R ∗ Whl c a2 a3 a5 g2 g3 x0 x1) ⊢ WP c (ap cc0_gn_silu_fp8 a2 ha2 a3 ha3 a5 ha5) Q := by
  iintro HH
  icases (show iprop(R ∗ Whl c a2 a3 a5 g2 g3 x0 x1) ⊢ iprop(∃ on, ∃ s1, ∃ s2, ∃ mx, ∃ mn, ∃ f6, ∃ f7, Beg c x0 x1 iprop(R ∗ Rst c a2 a3 a5 g2 g3) on s1 s2 mx mn f6 f7 0) from by
    unfold Whl ExT Beg Rst
    iintro ⟨HR, ⟨⟨%f6, H6⟩, ⟨%f7, H7⟩, ⟨%s1, H1⟩, ⟨%s2, H2⟩, ⟨%mx, H3⟩, ⟨%mn, H4⟩, HA, HB, Ha2, Ha3, Ha5⟩, ⟨%on, HO⟩, H0, Hx, Ho, Hc, Hs, Hq, HW⟩
    iexists on, s1, s2, mx, mn, f6, f7
    isplitr [H6 H7 H0 Hx Hs]
    · isplitl [HR HA HB Ha2 Ha3 Ha5 Ho Hc Hq HW]
      · isplitr [HW]
        · isplitl [HR]; · iexact HR
          isplitl [HA]; · iexact HA
          isplitl [HB]; · iexact HB
          isplitl [Ha2]; · iexact Ha2
          isplitl [Ha3]; · iexact Ha3
          isplitl [Ha5]; · iexact Ha5
          isplitl [Ho]; · iexact Ho
          isplitl [Hc] <;> iassumption
        · iexact HW
      · isplitl [HO]; · iexact HO
        isplitl [H1]; · iexact H1
        isplitl [H2]; · iexact H2
        isplitl [H3] <;> iassumption
    · iapply (in_start f6 f7)
      isplitl [H6]; · iexact H6
      isplitl [H7]; · iexact H7
      isplitl [H0]; · iexact H0
      isplitl [Hx] <;> iassumption) $$ HH with ⟨%on, %s1, %s2, %mx, %mn, %f6, %f7, HB⟩
  iapply (run_at (R := R) (on := on) (s1 := s1) (s2 := s2) (mx := mx) (mn := mn) (f6 := f6) (f7 := f7) hQ)
  iexact HB
end

end Cert.Kernel.Hand
-- ==== Proof.K.Frame.lean ====
/-
  The frame.
-/
module

public import proofs.«01_k».proof.Proof.K.Run

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The run up to the kernel's region -/

abbrev V (c : Dev nD) (b : Ref sig .tc) : Buf (Elt F) ((c : Thread nD τ).loc b) := m ((c : Thread nD τ).loc b)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The operands the body's transfers read, and the result they write. -/
def H0 : Finset (Ref sig .tc) := {main_arg0, main_arg1}
def R0 : Finset (Ref sig .tc) := {main_v0_0}
theorem H0_sub : H0 ⊆ Pipeline.restRefs sig spec0 := by decide
theorem R0_sub : R0 ⊆ Pipeline.restRefs sig spec0 \ H0 := by decide

/-- The body's nineteen transfer cells: the sixteen of the rows coming in, then the three of the rows going out. -/
def osem0 : Fin 19 → SemLoc sig := fun j => if h : j.val < 16 then SemLoc.dma (inSem ⟨j.val, h⟩) else SemLoc.dma (outSem ⟨j.val - 16, by omega⟩)
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(bigSep Finset.univ (fun b => semVal ((c : Thread nD τ), SemLoc.dma (inSem b)) 0) ∗ bigSep Finset.univ (fun b => semVal ((c : Thread nD τ), SemLoc.dma (outSem b)) 0)) := by
  unfold Pipeline.ownSems0
  rw [bigSep_univ_eq_bigSepL (List.finRange 19) (by decide) (by decide), bigSep_univ_eq_bigSepL (List.finRange 16) (by decide) (by decide), bigSep_univ_eq_bigSepL (List.finRange 3) (by decide) (by decide)]
  change iprop(_ ∗ _ ∗ _ ∗ _ ∗ _ ∗ _ ∗ _ ∗ _ ∗ _ ∗ _ ∗ _ ∗ _ ∗ _ ∗ _ ∗ _ ∗ _ ∗ _ ∗ _ ∗ _) = iprop((_ ∗ _ ∗ _ ∗ _ ∗ _ ∗ _ ∗ _ ∗ _ ∗ _ ∗ _ ∗ _ ∗ _ ∗ _ ∗ _ ∗ _ ∗ _) ∗ _ ∗ _ ∗ _)
  have sep_assoc_eq (P Q R : sProp 𝕄) : iprop((P ∗ Q) ∗ R) = iprop(P ∗ Q ∗ R) := equiv_iff.mp ⟨BI.sep_assoc, BI.sep_assoc'⟩
  simp only [sep_assoc_eq]
  rfl

theorem hbmPts0_eq (c : Dev nD) :
    (bigSep H0 (fun b => ((c : Thread nD τ).loc b) ↦{fullShare} V m c b) : sProp 𝕄)
      = iprop((mXuH.view.loc (c : Thread nD τ) ↦[Finset.univ]{fullShare} V m c main_arg0) ∗ (mXsH.view.loc (c : Thread nD τ) ↦[Finset.univ]{fullShare} V m c main_arg1)) := by
  rw [BI.bigSep_eq_bigSepL_of_eq [main_arg0, main_arg1] (by decide) (by decide)]; rfl
theorem ownedPts0_eq (c : Dev nD) :
    (Pipeline.owned R0 c : sProp 𝕄) = iprop(∃ f, mCo.view.loc (c : Thread nD τ) ↦[Finset.univ]{fullShare} f) := by
  unfold Pipeline.owned; rw [BI.bigSep_eq_bigSepL_of_eq [main_v0_0] (by decide) (by decide)]; rfl

/-- The body's operands in their staging buffers. -/
abbrev ms0_0 (t : Fin cfg0.N) : Memref sig .tc .vmem S1280 .f32 := win0_0.stage (cfg0.slots t 0)
abbrev ms0_1 (t : Fin cfg0.N) : Memref sig .tc .vmem S1280 .f32 := win0_1.stage (cfg0.slots t 1)
abbrev ms0_2 (t : Fin cfg0.N) : Memref sig .tc .smem S1x1 .f32 := win0_2.stage (cfg0.slots t 2)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Which windows the run says nothing of: the scale's. -/
def fgt (w : Fin cfg0.W) : Bool := match w with
  | ⟨0, _⟩ => false
  | ⟨1, _⟩ => false
  | ⟨_ + 2, _⟩ => true

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨_ + 3, h⟩ => absurd h (Nat.not_lt.mpr (Nat.le_add_left _ _))
  Φ _ := Pipeline.ΦDR osem0 spec0 H0 R0 (V m) c
  q _ := fullShare
  owed _ := 0

theorem A_eq (c : Dev nD) (w : Fin cfg0.W) : (dats m 0 c).A w = V m c (Pipeline.arrRef spec0 w) := by
  dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [show (dats m 0 c).after 0 t = iblk m c 0 t from rfl]; unfold Dat.blockOf iblk; rw [A_eq]; try rfl) t d).trans (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [show (dats m 0 c).after 1 t = iblk m c 1 t from rfl]; unfold Dat.blockOf iblk; rw [A_eq]; try rfl) t d).trans (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ X, owns (c : Thread nD τ) (ms0_2 t) fullShare X))
def bodyPost (c : Dev nD) (t : Fin cfg0.N) : sProp 𝕄 :=
  iprop((dats m 0 c).Φ t.succ ∗ (dats m 0 c).owesAt () t.succ
    ∗ owns (c : Thread nD τ) (ms0_0 t) fullShare (iblk m c 0 t)
    ∗ owns (c : Thread nD τ) (ms0_1 t) fullShare (iblk m c 1 t)
    ∗ (∃ X, owns (c : Thread nD τ) (ms0_2 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.castSucc = Pipeline.ΦDR osem0 spec0 H0 R0 (V m) c from rfl, show (dats m 0 c).Φ t.succ = Pipeline.ΦDR osem0 spec0 H0 R0 (V m) c from rfl]
  rw [Pipeline.ΦDR_eq, scopedRest0_eq, ownSems00_eq, hbmPts0_eq, ownedPts0_eq]
  unfold Dat.owesAt Pipeline.owesWithin
  rw [show (dats m 0 c).owed t.castSucc = 0 from rfl, show (dats m 0 c).owed t.succ = 0 from rfl]
  simp only [before0_0, before0_1]
  unfold owns
  iintro ⟨⟨⟨H0, H1, H2, H3, H4, H5, H6, H7, H8, H9⟩, Hg, ⟨Hi, Ho⟩, ⟨Hx, Hy⟩, Hc⟩, ⟨%W, -, HW⟩, ⟨%d2, %g2, %e2, Ha2⟩, ⟨%d3, %g3, %e3, Ha3⟩, ⟨%X, %g5, -, Ha5⟩⟩
  iapply (body_run (c := c) (a2 := ms0_0 t) (a3 := ms0_1 t) (a5 := ms0_2 t) (g2 := g2) (g3 := g3) (x0 := V m c main_arg0) (x1 := V m c main_arg1) (R := iprop(∃ r, prngReg c r)) (by
    unfold Whl ExT owE
    iintro ⟨Hg, ⟨H0, H1, H3, H4, H5, H6, H7, H8, Ha2, Ha3, ⟨%f5, Ha5⟩⟩, H9, Hx, Hy, H2, Hc, Hi, Ho, ⟨%W', HW⟩⟩
    isplitr [Ha2 Ha3 Ha5 HW]
    · isplitl [H0 H1 H2 H3 H4 H5 H6 H7 H8 H9]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitl [Hg]; · iexact Hg
      isplitl [Hi Ho]
      · isplitl [Hi] <;> iassumption
      isplitl [Hx Hy]
      · isplitl [Hx] <;> iassumption
      iexact Hc
    isplitl [HW]
    · iexists W'; isplitr; · ipureintro; exact fun _ _ => Or.inl trivial
      iexact HW
    isplitl [Ha2]
    · iexists g2; isplitr; · ipureintro; exact e2
      iexact Ha2
    isplitl [Ha3]
    · iexists g3; isplitr; · ipureintro; exact e3
      iexact Ha3
    iexists _, f5; isplitr; swap; · iexact Ha5
    ipureintro; rfl))
  unfold Whl ExT owE
  isplitl [Hg]; · iexact Hg
  isplitl [H0 H1 H3 H4 H5 H6 H7 H8 Ha2 Ha3 Ha5]
  · isplitl [H0]; · iexact H0
    isplitl [H1]; · iexact H1
    isplitl [H3]; · iexact H3
    isplitl [H4]; · iexact H4
    isplitl [H5]; · iexact H5
    isplitl [H6]; · iexact H6
    isplitl [H7]; · iexact H7
    isplitl [H8]; · iexact H8
    isplitl [Ha2]; · iexact Ha2
    isplitl [Ha3]; · iexact Ha3
    iexists g5; iexact Ha5
  isplitl [H9]; · iexact H9
  isplitl [Hx]; · iexact Hx
  isplitl [Hy]; · iexact Hy
  isplitl [H2]; · iexact H2
  isplitl [Hc]; · iexact Hc
  isplitl [Hi]; · iexact Hi
  isplitl [Ho]; · iexact Ho
  iexists W; iexact HW

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationLoose (dats (F := F) m 0 c) (defs₀ (F := F)) Variants.none () Set.univ fgt := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ)
    (fun r => Pipeline.RDat.FramePostR cfg0 (fun c => (dats m 0 c).toRForget fgt) R0 (V m) r ∧ r.2.sem = fun _ => 0) :=
  Pipeline.θ_run_frame_dmaR_forget (Q' := _) cfgs (dats m) (0 : Fin 1) launch0 osem0 defs₀ Variants.none fgt ownSemFacts0 H0 R0 H0_sub R0_sub m ρ main
    (hbody := fun c => body_obligation m c) (hshare := fun c => (dats m 0 c).share_full fun _ => rfl)
    (howed := fun _ _ => rfl) (V := V m) (hmain := hmain m Variants.none) (hA := A_eq m)
    (hin := fun _ => .rfl) (hout := fun _ => .rfl)

/-- The frame: the arguments keep their contents, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).2 main_arg0 (Finset.mem_sdiff.mpr ⟨Pipeline.mem_restRefs_of main_arg0 (by decide) (by decide), by decide⟩),
      (h.1 c).2 main_arg1 (Finset.mem_sdiff.mpr ⟨Pipeline.mem_restRefs_of main_arg1 (by decide) (by decide), by decide⟩),
      Pipeline.RDat.FramePostR.arr_in h.1 c 0 rfl, Pipeline.RDat.FramePostR.arr_in h.1 c 1 rfl⟩, h.2⟩) (run_main m ρ)

end Cert.Kernel.Hand
-- ==== Proof.KI.Base.lean ====
/-
  The kernel body's operands and the windows of its row transfers: each transfer moves one row of a rank-three array, whose elements
  are those with a given first coordinate.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.MixedBatch
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## Operands -/

abbrev mXuH : Memref sig .tc .hbm S16x1024x768 .bf16 := Memref.whole main_arg0
abbrev mXsH : Memref sig .tc .hbm S16x1024x512 .bf16 := Memref.whole main_arg1
abbrev mCo : Memref sig .tc .hbm S16x1024x1280 .fp8e4m3 := Memref.whole main_v0_0
abbrev mXu : Memref sig .tc .vmem S16x1024x768 .bf16 := Memref.whole cc0_scratch0
abbrev mXs : Memref sig .tc .vmem S16x1024x512 .bf16 := Memref.whole cc0_scratch1
abbrev mOb : Memref sig .tc .vmem S3x1024x1280 .fp8e4m3 := Memref.whole cc0_scratch2
abbrev mS1 : Memref sig .tc .vmem S16x1x1280 .f32 := Memref.whole cc0_scratch3
abbrev mS2 : Memref sig .tc .vmem S16x1x1280 .f32 := Memref.whole cc0_scratch4
abbrev mMx : Memref sig .tc .vmem S16x1x1280 .f32 := Memref.whole cc0_scratch5
abbrev mMn : Memref sig .tc .vmem S16x1x1280 .f32 := Memref.whole cc0_scratch6
abbrev mA : Memref sig .tc .vmem S16x1x1280 .f32 := Memref.whole cc0_scratch7
abbrev mB : Memref sig .tc .vmem S16x1x1280 .f32 := Memref.whole cc0_scratch8
abbrev mOn : Memref sig .tc .vmem S8x256 .bf16 := Memref.whole cc0_scratch9

/-! ## Rows -/

/-- The elements whose first coordinate satisfies `p`. -/
def rowsIn (d : Fin 3 → ℕ) (p : ℕ → Prop) [DecidablePred p] : Finset ((a : Fin 3) → Fin (d a)) := Finset.univ.filter fun i => p (i 0).val

theorem mem_rowsIn {d : Fin 3 → ℕ} {p : ℕ → Prop} [DecidablePred p] {i : (a : Fin 3) → Fin (d a)} : i ∈ rowsIn d p ↔ p (i 0).val := by
  simp [rowsIn]

abbrev dXu : Fin 3 → ℕ := S16x1024x768.size
abbrev dXs : Fin 3 → ℕ := S16x1024x512.size
abbrev dCo : Fin 3 → ℕ := S16x1024x1280.size
abbrev dOb : Fin 3 → ℕ := S3x1024x1280.size

abbrev wXu {sp : Space} (M : Memref sig .tc sp S16x1024x768 .bf16) (o : Fin 3 → ℕ) (h : ∀ a, o a + S1x1024x768.size a ≤ S16x1024x768.size a) :
    Memref sig .tc sp S1024x768 .bf16 :=
  (M.slice (Rect.unit (s := S16x1024x768) o S1x1024x768.size h) (fun _ => rfl)).squeeze S1024x768 squeezes_S1x1024x768_S1024x768
abbrev wXs {sp : Space} (M : Memref sig .tc sp S16x1024x512 .bf16) (o : Fin 3 → ℕ) (h : ∀ a, o a + S1x1024x512.size a ≤ S16x1024x512.size a) :
    Memref sig .tc sp S1024x512 .bf16 :=
  (M.slice (Rect.unit (s := S16x1024x512) o S1x1024x512.size h) (fun _ => rfl)).squeeze S1024x512 squeezes_S1x1024x512_S1024x512
abbrev wCo (o : Fin 3 → ℕ) (h : ∀ a, o a + S1x1024x1280.size a ≤ S16x1024x1280.size a) : Memref sig .tc .hbm S1024x1280 .fp8e4m3 :=
  (mCo.slice (Rect.unit (s := S16x1024x1280) o S1x1024x1280.size h) (fun _ => rfl)).squeeze S1024x1280 squeezes_S1x1024x1280_S1024x1280
abbrev wOb (o : Fin 3 → ℕ) (h : ∀ a, o a + S1x1024x1280.size a ≤ S3x1024x1280.size a) : Memref sig .tc .vmem S1024x1280 .fp8e4m3 :=
  (mOb.slice (Rect.unit (s := S3x1024x1280) o S1x1024x1280.size h) (fun _ => rfl)).squeeze S1024x1280 squeezes_S1x1024x1280_S1024x1280

theorem row_mem_iff (d : Fin 3 → ℕ) (i : (a : Fin 3) → Fin (d a)) (b : ℕ) :
    (∀ a, (![b, 0, 0] : Fin 3 → ℕ) a ≤ (i a).val ∧ (i a).val < (![b, 0, 0] : Fin 3 → ℕ) a + (![1, d 1, d 2] : Fin 3 → ℕ) a) ↔ (i 0).val = b := by
  have h1 := (i 1).isLt; have h2 := (i 2).isLt
  constructor
  · intro h
    have h0 := h 0
    simp at h0
    omega
  · intro h a
    match a with
    | 0 => simp; omega
    | 1 => simp
    | 2 => simp

theorem wXu_setH (b : ℕ) (h : ∀ a, (![b, 0, 0] : Fin 3 → ℕ) a + S1x1024x768.size a ≤ S16x1024x768.size a) :
    (wXu mXuH ![b, 0, 0] h).view.set = (rowsIn dXu (· = b) : Finset _) := by
  ext i
  rw [View.set_reshape]
  erw [View.set_slice_whole, Rect.mem_set_unit, mem_rowsIn]
  exact row_mem_iff dXu i b

theorem wXu_set (b : ℕ) (h : ∀ a, (![b, 0, 0] : Fin 3 → ℕ) a + S1x1024x768.size a ≤ S16x1024x768.size a) :
    (wXu mXu ![b, 0, 0] h).view.set = (rowsIn dXu (· = b) : Finset _) := by
  ext i
  rw [View.set_reshape]
  erw [View.set_slice_whole, Rect.mem_set_unit, mem_rowsIn]
  exact row_mem_iff dXu i b

theorem wXs_setH (b : ℕ) (h : ∀ a, (![b, 0, 0] : Fin 3 → ℕ) a + S1x1024x512.size a ≤ S16x1024x512.size a) :
    (wXs mXsH ![b, 0, 0] h).view.set = (rowsIn dXs (· = b) : Finset _) := by
  ext i
  rw [View.set_reshape]
  erw [View.set_slice_whole, Rect.mem_set_unit, mem_rowsIn]
  exact row_mem_iff dXs i b

theorem wXs_set (b : ℕ) (h : ∀ a, (![b, 0, 0] : Fin 3 → ℕ) a + S1x1024x512.size a ≤ S16x1024x512.size a) :
    (wXs mXs ![b, 0, 0] h).view.set = (rowsIn dXs (· = b) : Finset _) := by
  ext i
  rw [View.set_reshape]
  erw [View.set_slice_whole, Rect.mem_set_unit, mem_rowsIn]
  exact row_mem_iff dXs i b

theorem wCo_set (b : ℕ) (h : ∀ a, (![b, 0, 0] : Fin 3 → ℕ) a + S1x1024x1280.size a ≤ S16x1024x1280.size a) :
    (wCo ![b, 0, 0] h).view.set = (rowsIn dCo (· = b) : Finset _) := by
  ext i
  rw [View.set_reshape]
  erw [View.set_slice_whole, Rect.mem_set_unit, mem_rowsIn]
  exact row_mem_iff dCo i b

theorem wOb_set (b : ℕ) (h : ∀ a, (![b, 0, 0] : Fin 3 → ℕ) a + S1x1024x1280.size a ≤ S3x1024x1280.size a) :
    (wOb ![b, 0, 0] h).view.set = (rowsIn dOb (· = b) : Finset _) := by
  ext i
  rw [View.set_reshape]
  erw [View.set_slice_whole, Rect.mem_set_unit, mem_rowsIn]
  exact row_mem_iff dOb i b

theorem inb_in (b : Fin 16) : ∀ a, (![b.val] : Fin 1 → ℕ) a + S1.size a ≤ S16.size a := by
  intro a; fin_cases a; have := b.isLt; simp [S1, S16] <;> omega
theorem inb_out (b : Fin 3) : ∀ a, (![b.val] : Fin 1 → ℕ) a + S1.size a ≤ S3.size a := by
  intro a; fin_cases a; have := b.isLt; simp [S1, S3] <;> omega
theorem inb_xu (b : Fin 16) : ∀ a, (![b.val, 0, 0] : Fin 3 → ℕ) a + S1x1024x768.size a ≤ S16x1024x768.size a := by
  intro a; have := b.isLt; fin_cases a <;> simp [S1x1024x768, S16x1024x768] <;> omega
theorem inb_xs (b : Fin 16) : ∀ a, (![b.val, 0, 0] : Fin 3 → ℕ) a + S1x1024x512.size a ≤ S16x1024x512.size a := by
  intro a; have := b.isLt; fin_cases a <;> simp [S1x1024x512, S16x1024x512] <;> omega
theorem inb_co (b : Fin 16) : ∀ a, (![b.val, 0, 0] : Fin 3 → ℕ) a + S1x1024x1280.size a ≤ S16x1024x1280.size a := by
  intro a; have := b.isLt; fin_cases a <;> simp [S1x1024x1280, S16x1024x1280] <;> omega
theorem inb_ob (b : Fin 3) : ∀ a, (![b.val, 0, 0] : Fin 3 → ℕ) a + S1x1024x1280.size a ≤ S3x1024x1280.size a := by
  intro a; have := b.isLt; fin_cases a <;> simp [S1x1024x1280, S3x1024x1280] <;> omega

/-- The semaphore cells of the rows coming in, and of the rows going out. -/
abbrev inSem (b : Fin 16) : DmaSem sig :=
  ((cc0_scratch10.slice (Rect.unit (s := S16) ![b.val] S1.size (inb_in b))).squeeze S_ squeezes_S1_S_).sem
abbrev outSem (b : Fin 3) : DmaSem sig :=
  ((cc0_scratch11.slice (Rect.unit (s := S3) ![b.val] S1.size (inb_out b))).squeeze S_ squeezes_S1_S_).sem

/-! ## Splitting -/

theorem pt_split {c : Thread nD τ} {ℓ : Loc nD τ sig} {S A B : Finset (Idx ℓ)} (h : ∀ i, i ∈ S ↔ i ∈ A ∨ i ∈ B) (hd : ∀ i, i ∈ A → i ∉ B)
    (q : PosShare TreeShare) (f : Buf (Elt F) ℓ) : (ℓ ↦[S]{q} f : sProp 𝕄) ⊣⊢ iprop((ℓ ↦[A]{q} f) ∗ (ℓ ↦[B]{q} f)) := by
  have e : S = A ∪ B := by ext i; rw [Finset.mem_union]; exact h i
  rw [e]
  exact pointsTo_union (Finset.disjoint_left.mpr hd)

def geS (n k : ℕ) : Finset (Fin n) := Finset.univ.filter fun i => k ≤ i.val
def ltS (n k : ℕ) : Finset (Fin n) := Finset.univ.filter fun i => i.val < k

theorem bigSep_ge {n : ℕ} (Φ : Fin n → sProp 𝕄) (k : Fin n) : bigSep (geS n k.val) Φ = iprop(Φ k ∗ bigSep (geS n (k.val + 1)) Φ) := by
  have e : geS n k.val = insert k (geS n (k.val + 1)) := by
    ext i; simp only [geS, Finset.mem_filter, Finset.mem_univ, true_and, Finset.mem_insert, Fin.ext_iff]; omega
  rw [e, bigSep_insert (by simp [geS])]; rfl
theorem bigSep_lt {n : ℕ} (Φ : Fin n → sProp 𝕄) (k : Fin n) : bigSep (ltS n (k.val + 1)) Φ = iprop(Φ k ∗ bigSep (ltS n k.val) Φ) := by
  have e : ltS n (k.val + 1) = insert k (ltS n k.val) := by
    ext i; simp only [ltS, Finset.mem_filter, Finset.mem_univ, true_and, Finset.mem_insert, Fin.ext_iff]; omega
  rw [e, bigSep_insert (by simp [ltS])]; rfl
theorem geS_zero (n : ℕ) : geS n 0 = Finset.univ := by ext i; simp [geS]
theorem ltS_full (n : ℕ) : ltS n n = Finset.univ := by ext i; simp [ltS]
theorem geS_full (n : ℕ) : geS n n = ∅ := by ext i; simp [geS]
theorem ltS_zero (n : ℕ) : ltS n 0 = ∅ := by ext i; simp [ltS]

/-! ## The rows coming in -/

section In
variable (c : Dev nD) (x0 : S16x1024x768.Idx → Elt F .bf16) (x1 : S16x1024x512.Idx → Elt F .bf16)

/-- One row's two amounts, in issue order. -/
def amtIn : Fin 2 → ℕ := ![(wXu mXu ![(0 : Fin 16).val, 0, 0] (inb_xu 0)).view.dmaCredit, (wXs mXs ![(0 : Fin 16).val, 0, 0] (inb_xs 0)).view.dmaCredit]

abbrev ptXuH (p : ℕ → Prop) [DecidablePred p] : sProp 𝕄 := mXuH.view.loc (c : Thread nD τ) ↦[(rowsIn dXu p : Finset _)]{fullShare} x0
abbrev ptXu (p : ℕ → Prop) [DecidablePred p] : sProp 𝕄 := mXu.view.loc (c : Thread nD τ) ↦[(rowsIn dXu p : Finset _)]{fullShare} x0
abbrev ptXsH (p : ℕ → Prop) [DecidablePred p] : sProp 𝕄 := mXsH.view.loc (c : Thread nD τ) ↦[(rowsIn dXs p : Finset _)]{fullShare} x1
abbrev ptXs (p : ℕ → Prop) [DecidablePred p] : sProp 𝕄 := mXs.view.loc (c : Thread nD τ) ↦[(rowsIn dXs p : Finset _)]{fullShare} x1

/-- What row `b`'s two transfers deliver: the row landed, and its source row back. -/
def dlvIn (b : Fin 16) : Fin 2 → sProp 𝕄
  | 0 => iprop(ptXu c x0 (· = b.val) ∗ ptXuH c x0 (· = b.val))
  | 1 => iprop(ptXs c x1 (· = b.val) ∗ ptXsH c x1 (· = b.val))

instance (b : Fin 16) (t : Fin 2) : Storable (upEmb : UEmb _ 𝕄) (dlvIn c x0 x1 b t) := by
  fin_cases t <;> simp only [dlvIn] <;> infer_instance

abbrev EC := (countersEmb (U := Pipeline.UD sig nD τ) : UEmb Counters 𝕄)

def mbIn (b : Fin 16) : sProp 𝕄 := Transfers.MixedBatch (countersEmb (U := Pipeline.UD sig nD τ)) (c : Thread nD τ) (.dma (inSem b)) () amtIn (dlvIn c x0 x1 b) 2 0

end In

end Cert.KernelIdeal.Hand
-- ==== Proof.KI.In.lean ====
/-
  The rows coming in: issuing a row's two transfers, and waiting for them.
-/
module

public import proofs.«01_k».proof.Proof.KI.Base

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

section
variable (c : Dev nD) (x0 : S16x1024x768.Idx → Elt F .bf16) (x1 : S16x1024x512.Idx → Elt F .bf16)

/-- A row's copy of an array's row: where it lands it agrees with the array. -/
theorem land_xu (b : Fin 16) (f : S16x1024x768.Idx → Elt F .bf16) :
    ∀ i ∈ (rowsIn dXu (· = b.val) : Finset _),
      (wXu mXu ![b.val, 0, 0] (inb_xu b)).view.write (Elt F) f (ReadAs.same.apply ((wXu mXuH ![b.val, 0, 0] (inb_xu b)).view.read (Elt F) x0)) Finset.univ i = x0 i := by
  intro i hi
  rw [← wXu_set b.val (inb_xu b)] at hi
  obtain ⟨j, -, rfl⟩ := Finset.mem_map.mp hi
  rw [View.write_emb_of_mem _ _ (Finset.mem_univ j)]
  rfl
theorem land_xs (b : Fin 16) (f : S16x1024x512.Idx → Elt F .bf16) :
    ∀ i ∈ (rowsIn dXs (· = b.val) : Finset _),
      (wXs mXs ![b.val, 0, 0] (inb_xs b)).view.write (Elt F) f (ReadAs.same.apply ((wXs mXsH ![b.val, 0, 0] (inb_xs b)).view.read (Elt F) x1)) Finset.univ i = x1 i := by
  intro i hi
  rw [← wXs_set b.val (inb_xs b)] at hi
  obtain ⟨j, -, rfl⟩ := Finset.mem_map.mp hi
  rw [View.write_emb_of_mem _ _ (Finset.mem_univ j)]
  rfl

/-- Before row `n` is issued: the rows from `n` on lie where they were, the rows below are in flight. -/
def InSt (f6 : S16x1024x768.Idx → Elt F .bf16) (f7 : S16x1024x512.Idx → Elt F .bf16) (n : ℕ) : sProp 𝕄 :=
  iprop(ptXu c f6 (n ≤ ·) ∗ ptXuH c x0 (n ≤ ·) ∗ ptXs c f7 (n ≤ ·) ∗ ptXsH c x1 (n ≤ ·)
    ∗ bigSep (geS 16 n) (fun b => semVal ((c : Thread nD τ), SemLoc.dma (inSem b)) 0) ∗ bigSep (ltS 16 n) (mbIn c x0 x1))

theorem ge_iff (n i : ℕ) : n ≤ i ↔ i = n ∨ n + 1 ≤ i := by omega
theorem lt_iff (n i : ℕ) : i < n + 1 ↔ i = n ∨ i < n := by omega

theorem rows_ge {d : Fin 3 → ℕ} (n : ℕ) (i : (a : Fin 3) → Fin (d a)) : i ∈ rowsIn d (n ≤ ·) ↔ i ∈ rowsIn d (· = n) ∨ i ∈ rowsIn d (n + 1 ≤ ·) := by
  simp only [mem_rowsIn]; omega
theorem rows_ge' {d : Fin 3 → ℕ} (n : ℕ) (i : (a : Fin 3) → Fin (d a)) : i ∈ rowsIn d (· = n) → i ∉ rowsIn d (n + 1 ≤ ·) := by
  simp only [mem_rowsIn]; omega
theorem rows_lt {d : Fin 3 → ℕ} (n : ℕ) (i : (a : Fin 3) → Fin (d a)) : i ∈ rowsIn d (· < n + 1) ↔ i ∈ rowsIn d (· = n) ∨ i ∈ rowsIn d (· < n) := by
  simp only [mem_rowsIn]; omega
theorem rows_lt' {d : Fin 3 → ℕ} (n : ℕ) (i : (a : Fin 3) → Fin (d a)) : i ∈ rowsIn d (· = n) → i ∉ rowsIn d (· < n) := by
  simp only [mem_rowsIn]; omega

theorem splitXuH (f : S16x1024x768.Idx → Elt F .bf16) (n : ℕ) : ptXuH c f (n ≤ ·) ⊣⊢ iprop(ptXuH c f (· = n) ∗ ptXuH c f (n + 1 ≤ ·)) := by
  refine pt_split (c := (c : Thread nD τ)) (ℓ := mXuH.view.loc (c : Thread nD τ)) (S := (rowsIn dXu (n ≤ ·) : Finset _)) (A := (rowsIn dXu (· = n) : Finset _))
    (B := (rowsIn dXu (n + 1 ≤ ·) : Finset _)) ?_ ?_ fullShare f
  · exact rows_ge (d := dXu) n
  · exact rows_ge' (d := dXu) n
theorem joinXuH (f : S16x1024x768.Idx → Elt F .bf16) (n : ℕ) : ptXuH c f (· < n + 1) ⊣⊢ iprop(ptXuH c f (· = n) ∗ ptXuH c f (· < n)) := by
  refine pt_split (c := (c : Thread nD τ)) (ℓ := mXuH.view.loc (c : Thread nD τ)) (S := (rowsIn dXu (· < n + 1) : Finset _)) (A := (rowsIn dXu (· = n) : Finset _))
    (B := (rowsIn dXu (· < n) : Finset _)) ?_ ?_ fullShare f
  · exact rows_lt (d := dXu) n
  · exact rows_lt' (d := dXu) n
theorem splitXu (f : S16x1024x768.Idx → Elt F .bf16) (n : ℕ) : ptXu c f (n ≤ ·) ⊣⊢ iprop(ptXu c f (· = n) ∗ ptXu c f (n + 1 ≤ ·)) := by
  refine pt_split (c := (c : Thread nD τ)) (ℓ := mXu.view.loc (c : Thread nD τ)) (S := (rowsIn dXu (n ≤ ·) : Finset _)) (A := (rowsIn dXu (· = n) : Finset _))
    (B := (rowsIn dXu (n + 1 ≤ ·) : Finset _)) ?_ ?_ fullShare f
  · exact rows_ge (d := dXu) n
  · exact rows_ge' (d := dXu) n
theorem joinXu (f : S16x1024x768.Idx → Elt F .bf16) (n : ℕ) : ptXu c f (· < n + 1) ⊣⊢ iprop(ptXu c f (· = n) ∗ ptXu c f (· < n)) := by
  refine pt_split (c := (c : Thread nD τ)) (ℓ := mXu.view.loc (c : Thread nD τ)) (S := (rowsIn dXu (· < n + 1) : Finset _)) (A := (rowsIn dXu (· = n) : Finset _))
    (B := (rowsIn dXu (· < n) : Finset _)) ?_ ?_ fullShare f
  · exact rows_lt (d := dXu) n
  · exact rows_lt' (d := dXu) n
theorem splitXsH (f : S16x1024x512.Idx → Elt F .bf16) (n : ℕ) : ptXsH c f (n ≤ ·) ⊣⊢ iprop(ptXsH c f (· = n) ∗ ptXsH c f (n + 1 ≤ ·)) := by
  refine pt_split (c := (c : Thread nD τ)) (ℓ := mXsH.view.loc (c : Thread nD τ)) (S := (rowsIn dXs (n ≤ ·) : Finset _)) (A := (rowsIn dXs (· = n) : Finset _))
    (B := (rowsIn dXs (n + 1 ≤ ·) : Finset _)) ?_ ?_ fullShare f
  · exact rows_ge (d := dXs) n
  · exact rows_ge' (d := dXs) n
theorem joinXsH (f : S16x1024x512.Idx → Elt F .bf16) (n : ℕ) : ptXsH c f (· < n + 1) ⊣⊢ iprop(ptXsH c f (· = n) ∗ ptXsH c f (· < n)) := by
  refine pt_split (c := (c : Thread nD τ)) (ℓ := mXsH.view.loc (c : Thread nD τ)) (S := (rowsIn dXs (· < n + 1) : Finset _)) (A := (rowsIn dXs (· = n) : Finset _))
    (B := (rowsIn dXs (· < n) : Finset _)) ?_ ?_ fullShare f
  · exact rows_lt (d := dXs) n
  · exact rows_lt' (d := dXs) n
theorem splitXs (f : S16x1024x512.Idx → Elt F .bf16) (n : ℕ) : ptXs c f (n ≤ ·) ⊣⊢ iprop(ptXs c f (· = n) ∗ ptXs c f (n + 1 ≤ ·)) := by
  refine pt_split (c := (c : Thread nD τ)) (ℓ := mXs.view.loc (c : Thread nD τ)) (S := (rowsIn dXs (n ≤ ·) : Finset _)) (A := (rowsIn dXs (· = n) : Finset _))
    (B := (rowsIn dXs (n + 1 ≤ ·) : Finset _)) ?_ ?_ fullShare f
  · exact rows_ge (d := dXs) n
  · exact rows_ge' (d := dXs) n
theorem joinXs (f : S16x1024x512.Idx → Elt F .bf16) (n : ℕ) : ptXs c f (· < n + 1) ⊣⊢ iprop(ptXs c f (· = n) ∗ ptXs c f (· < n)) := by
  refine pt_split (c := (c : Thread nD τ)) (ℓ := mXs.view.loc (c : Thread nD τ)) (S := (rowsIn dXs (· < n + 1) : Finset _)) (A := (rowsIn dXs (· = n) : Finset _))
    (B := (rowsIn dXs (· < n) : Finset _)) ?_ ?_ fullShare f
  · exact rows_lt (d := dXs) n
  · exact rows_lt' (d := dXs) n

theorem dlv0 (b : Fin 16) (f6 : S16x1024x768.Idx → Elt F .bf16) :
    iprop(((wXu mXu ![b.val, 0, 0] (inb_xu b)).view.loc (c : Thread nD τ) ↦[(rowsIn dXu (· = b.val) : Finset _)]{fullShare}
        ((wXu mXu ![b.val, 0, 0] (inb_xu b)).view.write (Elt F) f6 (ReadAs.same.apply ((wXu mXuH ![b.val, 0, 0] (inb_xu b)).view.read (Elt F) x0)) Finset.univ))
      ∗ ((wXu mXuH ![b.val, 0, 0] (inb_xu b)).view.loc (c : Thread nD τ) ↦[(wXu mXuH ![b.val, 0, 0] (inb_xu b)).view.set]{fullShare} x0))
    ⊢ dlvIn c x0 x1 b 0 := by
  rw [wXu_setH]
  unfold dlvIn
  exact sep_mono (Entails.of_eq (pointsTo_congr (land_xu x0 b f6))) .rfl
theorem dlv1 (b : Fin 16) (f7 : S16x1024x512.Idx → Elt F .bf16) :
    iprop(((wXs mXs ![b.val, 0, 0] (inb_xs b)).view.loc (c : Thread nD τ) ↦[(rowsIn dXs (· = b.val) : Finset _)]{fullShare}
        ((wXs mXs ![b.val, 0, 0] (inb_xs b)).view.write (Elt F) f7 (ReadAs.same.apply ((wXs mXsH ![b.val, 0, 0] (inb_xs b)).view.read (Elt F) x1)) Finset.univ))
      ∗ ((wXs mXsH ![b.val, 0, 0] (inb_xs b)).view.loc (c : Thread nD τ) ↦[(wXs mXsH ![b.val, 0, 0] (inb_xs b)).view.set]{fullShare} x1))
    ⊢ dlvIn c x0 x1 b 1 := by
  rw [wXs_setH]
  unfold dlvIn
  exact sep_mono (Entails.of_eq (pointsTo_congr (land_xs x1 b f7))) .rfl

theorem hA0 : ∀ t, 0 < amtIn t := by decide
theorem hu0 : 0 + amtIn 0 ≤ Transfers.sumTo amtIn 2 := by decide
theorem hu1 : 0 + amtIn 0 + amtIn 1 = Transfers.sumTo amtIn 2 := by decide
theorem bigSep_univ2 (Φ : Fin 2 → sProp 𝕄) : bigSep Finset.univ Φ = iprop(Φ 0 ∗ Φ 1) :=
  by
  rw [BI.bigSep_eq_bigSepL_of_eq [0, 1] (by decide) (by decide)]; rfl

theorem issue_row {α : Type} {R : sProp 𝕄} (b : Fin 16) {f6 : S16x1024x768.Idx → Elt F .bf16} {f7 : S16x1024x512.Idx → Elt F .bf16}
    {h1 : (wXu mXuH ![b.val, 0, 0] (inb_xu b)).view.WordExact} {h2 : (wXu mXu ![b.val, 0, 0] (inb_xu b)).view.WordExact}
    {h3 : DmaTarget.Typed (nD := nD) .hbm (SemLoc.dma (inSem b)) (.here (p := (.tc : Proc τ)) (wXu mXu ![b.val, 0, 0] (inb_xu b)))}
    {g1 : (wXs mXsH ![b.val, 0, 0] (inb_xs b)).view.WordExact} {g2 : (wXs mXs ![b.val, 0, 0] (inb_xs b)).view.WordExact}
    {g3 : DmaTarget.Typed (nD := nD) .hbm (SemLoc.dma (inSem b)) (.here (p := (.tc : Proc τ)) (wXs mXs ![b.val, 0, 0] (inb_xs b)))}
    {k : PUnit → Prog (TpuEff nD τ sig (Elt F) Λ₀ .tc) α} {Q : α → sProp 𝕄}
    (h : iprop(R ∗ InSt c x0 x1 f6 f7 (b.val + 1)) ⊢ WP c (k ⟨⟩) Q) :
    iprop(R ∗ InSt c x0 x1 f6 f7 b.val) ⊢ WP c (.op (.enqueueDma (wXu mXuH ![b.val, 0, 0] (inb_xu b)) (.here (wXu mXu ![b.val, 0, 0] (inb_xu b))) (.dma (inSem b)) h1 h2 h3)
        fun _ => .op (.enqueueDma (wXs mXsH ![b.val, 0, 0] (inb_xs b)) (.here (wXs mXs ![b.val, 0, 0] (inb_xs b))) (.dma (inSem b)) g1 g2 g3) k) Q := by
  unfold InSt at h ⊢
  iintro ⟨HR, H6, H0, H7, H1, Hs, Hm⟩
  icases (splitXu c f6 b.val).1 $$ H6 with ⟨H6b, H6⟩
  icases (splitXuH c x0 b.val).1 $$ H0 with ⟨H0b, H0⟩
  icases (splitXs c f7 b.val).1 $$ H7 with ⟨H7b, H7⟩
  icases (splitXsH c x1 b.val).1 $$ H1 with ⟨H1b, H1⟩
  icases (Entails.of_eq (bigSep_ge (fun b => (semVal ((c : Thread nD τ), SemLoc.dma (inSem b)) 0 : sProp 𝕄)) b)) $$ Hs with ⟨Hsb, Hs⟩
  imod (Transfers.mixedBatch_alloc' (Lvl := ℕ) (countersEmb (U := Pipeline.UD sig nD τ)) (c : Thread nD τ) () amtIn
      (dlvIn c x0 x1 b) (sm := SemLoc.dma (inSem b)) (E := Set.univ)) $$ Hsb with HB
  iapply (Transfers.wp_dmaMixedBatch (countersEmb (U := Pipeline.UD sig nD τ)) Variants.none (c : Thread nD τ) none
    (src := wXu mXuH ![b.val, 0, 0] (inb_xu b)) (dst := wXu mXu ![b.val, 0, 0] (inb_xu b)) (fs := x0) (fd := f6) (D := dlvIn c x0 x1 b)
    (Sd := (rowsIn dXu (· = b.val) : Finset _)) (j := 0) (u := 0) () amtIn (by rw [wXu_set]) (by decide) rfl (by decide) (dlv0 c x0 x1 b f6)) $$ [H0b H6b HB]
  · isplitl [H0b]; · rw [wXu_setH]; iexact H0b
    isplitl [H6b]; · iexact H6b
    iexact HB
  iintro HB
  iapply (Transfers.wp_dmaMixedBatch (countersEmb (U := Pipeline.UD sig nD τ)) Variants.none (c : Thread nD τ) none
    (src := wXs mXsH ![b.val, 0, 0] (inb_xs b)) (dst := wXs mXs ![b.val, 0, 0] (inb_xs b)) (fs := x1) (fd := f7) (D := dlvIn c x0 x1 b)
    (Sd := (rowsIn dXs (· = b.val) : Finset _)) (j := 1) (u := 0) () amtIn (by rw [wXs_set]) (by decide) rfl (Nat.zero_le _) (dlv1 c x0 x1 b f7)) $$ [H1b H7b HB]
  · isplitl [H1b]; · rw [wXs_setH]; iexact H1b
    isplitl [H7b]; · iexact H7b
    iexact HB
  iintro HB
  iapply h
  isplitl [HR]; · iexact HR
  isplitl [H6]; · iexact H6
  isplitl [H0]; · iexact H0
  isplitl [H7]; · iexact H7
  isplitl [H1]; · iexact H1
  isplitl [Hs]; · iexact Hs
  rw [bigSep_lt]
  isplitl [HB]; · unfold mbIn; iexact HB
  iexact Hm

/-! ## Waiting for a row -/

/-- Before trip `n`: the rows below are landed and their cells at zero, the rows from `n` on in flight. -/
def WaSt (n : ℕ) : sProp 𝕄 :=
  iprop(ptXu c x0 (· < n) ∗ ptXuH c x0 (· < n) ∗ ptXs c x1 (· < n) ∗ ptXsH c x1 (· < n)
    ∗ bigSep (ltS 16 n) (fun b => semVal ((c : Thread nD τ), SemLoc.dma (inSem b)) 0) ∗ bigSep (geS 16 n) (mbIn c x0 x1)
    ∗ ∃ W, owes (c : Thread nD τ) 0 W)

theorem wait_row {α : Type} {R : sProp 𝕄} (b : Fin 16)
    {h1 : (wXu mXuH ![b.val, 0, 0] (inb_xu b)).view.WordExact} {h2 : (wXu mXu ![b.val, 0, 0] (inb_xu b)).view.WordExact}
    {g1 : (wXs mXsH ![b.val, 0, 0] (inb_xs b)).view.WordExact} {g2 : (wXs mXs ![b.val, 0, 0] (inb_xs b)).view.WordExact}
    {k : PUnit → Prog (TpuEff nD τ sig (Elt F) Λ₀ .tc) α} {Q : α → sProp 𝕄}
    (h : iprop(R ∗ WaSt c x0 x1 (b.val + 1)) ⊢ WP c (k ⟨⟩) Q) :
    iprop(R ∗ WaSt c x0 x1 b.val) ⊢ WP c (.op (.waitDma2 (inSem b) (wXu mXuH ![b.val, 0, 0] (inb_xu b)) (wXu mXu ![b.val, 0, 0] (inb_xu b)) h1 h2)
        fun _ => .op (.waitDma2 (inSem b) (wXs mXsH ![b.val, 0, 0] (inb_xs b)) (wXs mXs ![b.val, 0, 0] (inb_xs b)) g1 g2) k) Q := by
  unfold WaSt at h ⊢
  iintro ⟨HR, H6, H0, H7, H1, Hs, Hm, ⟨%W, HW⟩⟩
  icases (Entails.of_eq (bigSep_ge (mbIn c x0 x1) b)) $$ Hm with ⟨HB, Hm⟩
  unfold mbIn
  iapply (Transfers.wp_waitMixedBatch (countersEmb (U := Pipeline.UD sig nD τ)) Variants.none (c : Thread nD τ) none
    (srcw := wXu mXuH ![b.val, 0, 0] (inb_xu b)) (dstw := wXu mXu ![b.val, 0, 0] (inb_xu b)) (A := amtIn) (D := dlvIn c x0 x1 b) (j := 2) (u := 0)
    () (J := amtIn 0) rfl hu0) $$ [HB HW]
  · isplitl [HB]; · iexact HB
    iexact HW
  iintro ⟨HB, HW⟩
  iapply (Transfers.wp_waitMixedBatchAll (countersEmb (U := Pipeline.UD sig nD τ)) Variants.none (c : Thread nD τ) none
    (srcw := wXs mXsH ![b.val, 0, 0] (inb_xs b)) (dstw := wXs mXs ![b.val, 0, 0] (inb_xs b)) (A := amtIn) (D := dlvIn c x0 x1 b) (u := 0 + amtIn 0)
    () (J := amtIn 1) rfl hA0 hu1) $$ [HB HW]
  · isplitl [HB]; · iexact HB
    iexact HW
  iintro ⟨HD, Hsb, HW⟩
  icases (Entails.of_eq (bigSep_univ2 (dlvIn c x0 x1 b))) $$ HD with ⟨HD0, HD1⟩
  unfold dlvIn
  icases HD0 with ⟨H6b, H0b⟩
  icases HD1 with ⟨H7b, H1b⟩
  iapply h
  isplitl [HR]; · iexact HR
  isplitl [H6b H6]
  · iapply (joinXu c x0 b.val).2; isplitl [H6b] <;> iassumption
  isplitl [H0b H0]
  · iapply (joinXuH c x0 b.val).2; isplitl [H0b] <;> iassumption
  isplitl [H7b H7]
  · iapply (joinXs c x1 b.val).2; isplitl [H7b] <;> iassumption
  isplitl [H1b H1]
  · iapply (joinXsH c x1 b.val).2; isplitl [H1b] <;> iassumption
  isplitl [Hsb Hs]
  · rw [bigSep_lt]; isplitl [Hsb] <;> iassumption
  isplitl [Hm]; · iexact Hm
  iexists _; iexact HW

end

theorem wp_done {c : Dev nD} {α : Type} {P : sProp 𝕄} {Q : α → sProp 𝕄} {a : α} (h : P ⊢ Q a) : P ⊢ WP c (Prog.ret a) Q :=
  h.trans (le_wp_ret _ _ _ a Q)

end Cert.KernelIdeal.Hand
-- ==== Proof.KI.Ld.lean ====
/-
  Loads within a row, over a state that stays as it is.
-/
module

public import proofs.«01_k».proof.Proof.KI.In

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

section
variable (c : Dev nD) (x0 : S16x1024x768.Idx → Elt F .bf16) (x1 : S16x1024x512.Idx → Elt F .bf16)

theorem wait_row' {α : Type} {R : sProp 𝕄} (b : Fin 16) {o1 : Fin 1 → ℕ} {o2 o3 : Fin 3 → ℕ} (e1 : o1 = ![b.val]) (e2 : o2 = ![b.val, 0, 0]) (e3 : o3 = ![b.val, 0, 0])
    {i1 i1' : ∀ a, o1 a + S1.size a ≤ S16.size a} {i2 : ∀ a, o2 a + S1x1024x768.size a ≤ S16x1024x768.size a} {i3 : ∀ a, o3 a + S1x1024x512.size a ≤ S16x1024x512.size a}
    {h1 : (wXu mXuH o2 i2).view.WordExact} {h2 : (wXu mXu o2 i2).view.WordExact}
    {g1 : (wXs mXsH o3 i3).view.WordExact} {g2 : (wXs mXs o3 i3).view.WordExact}
    {k : PUnit → Prog (TpuEff nD τ sig (Elt F) Λ₀ .tc) α} {Q : α → sProp 𝕄}
    (h : iprop(R ∗ WaSt c x0 x1 (b.val + 1)) ⊢ WP c (k ⟨⟩) Q) :
    iprop(R ∗ WaSt c x0 x1 b.val) ⊢ WP c (.op (.waitDma2 ((cc0_scratch10.slice (Rect.unit (s := S16) o1 S1.size i1)).squeeze S_ squeezes_S1_S_).sem (wXu mXuH o2 i2) (wXu mXu o2 i2) h1 h2)
        fun _ => .op (.waitDma2 ((cc0_scratch10.slice (Rect.unit (s := S16) o1 S1.size i1')).squeeze S_ squeezes_S1_S_).sem (wXs mXsH o3 i3) (wXs mXs o3 i3) g1 g2) k) Q := by
  subst e1; subst e2; subst e3
  exact wait_row c x0 x1 b h

/-- The element of a rank-three array at natural-number coordinates. -/
def at3 {α : Type} (d0 d1 d2 : ℕ) [NeZero d0] [NeZero d1] [NeZero d2] (x : (⟨3, ![d0, d1, d2]⟩ : Shape).Idx → α) (b r q : ℕ) : α :=
  x (fun | 0 => Fin.ofNat d0 b | 1 => Fin.ofNat d1 r | 2 => Fin.ofNat d2 q)
/-- The eight by 256 block at rows `r…`, lanes `q…` of row `b`. -/
def blkU (x0 : S16x1024x768.Idx → Elt F .bf16) (b r q : ℕ) : Vec F S1x8x256 .bf16 := fun i => at3 16 1024 768 x0 b (r + (i 1).val) (q + (i 2).val)
def blkS (x1 : S16x1024x512.Idx → Elt F .bf16) (b r q : ℕ) : Vec F S1x8x256 .bf16 := fun i => at3 16 1024 512 x1 b (r + (i 1).val) (q + (i 2).val)

theorem read_blkU (b r q : ℕ) (inb : ∀ a, (![b, r, q] : Fin 3 → ℕ) a + S1x8x256.size a ≤ S16x1024x768.size a) :
    mXu.view.readAt (Elt F) (Rect.unit (s := S16x1024x768) ![b, r, q] S1x8x256.size inb).toLoadRect x0 = blkU x0 b r q := by
  funext i
  have e0 : b + 1 ≤ 16 := inb 0
  have e1 : r + 8 ≤ 1024 := inb 1
  have e2 : q + 256 ≤ 768 := inb 2
  have i0 : (i 0).val < 1 := (i 0).isLt
  have i1 : (i 1).val < 8 := (i 1).isLt
  have i2 : (i 2).val < 256 := (i 2).isLt
  show x0 _ = x0 _
  congr 1
  funext a
  match a with
  | 0 => exact Fin.ext (show b + 1 * (i 0).val = b % 16 by omega)
  | 1 => exact Fin.ext (show r + 1 * (i 1).val = (r + (i 1).val) % 1024 by omega)
  | 2 => exact Fin.ext (show q + 1 * (i 2).val = (q + (i 2).val) % 768 by omega)
theorem sub_blkU {n : ℕ} (b r q : ℕ) (hb : b < n) (inb : ∀ a, (![b, r, q] : Fin 3 → ℕ) a + S1x8x256.size a ≤ S16x1024x768.size a) :
    mXu.view.setOn (Rect.unit (s := S16x1024x768) ![b, r, q] S1x8x256.size inb).toLoadRect.set ⊆ (rowsIn dXu (· < n) : Finset _) := by
  intro i hi
  obtain ⟨j, hj, rfl⟩ := Finset.mem_map.mp hi
  obtain ⟨t, ht, e⟩ := (LoadRect.mem_set _).mp hj 0
  rw [mem_rowsIn]
  have ht' : t < 1 := ht
  have e' : (j 0).val = b + 1 * t := e
  show (j 0).val < n
  omega
theorem read_blkS (b r q : ℕ) (inb : ∀ a, (![b, r, q] : Fin 3 → ℕ) a + S1x8x256.size a ≤ S16x1024x512.size a) :
    mXs.view.readAt (Elt F) (Rect.unit (s := S16x1024x512) ![b, r, q] S1x8x256.size inb).toLoadRect x1 = blkS x1 b r q := by
  funext i
  have e0 : b + 1 ≤ 16 := inb 0
  have e1 : r + 8 ≤ 1024 := inb 1
  have e2 : q + 256 ≤ 512 := inb 2
  have i0 : (i 0).val < 1 := (i 0).isLt
  have i1 : (i 1).val < 8 := (i 1).isLt
  have i2 : (i 2).val < 256 := (i 2).isLt
  show x1 _ = x1 _
  congr 1
  funext a
  match a with
  | 0 => exact Fin.ext (show b + 1 * (i 0).val = b % 16 by omega)
  | 1 => exact Fin.ext (show r + 1 * (i 1).val = (r + (i 1).val) % 1024 by omega)
  | 2 => exact Fin.ext (show q + 1 * (i 2).val = (q + (i 2).val) % 512 by omega)
theorem sub_blkS {n : ℕ} (b r q : ℕ) (hb : b < n) (inb : ∀ a, (![b, r, q] : Fin 3 → ℕ) a + S1x8x256.size a ≤ S16x1024x512.size a) :
    mXs.view.setOn (Rect.unit (s := S16x1024x512) ![b, r, q] S1x8x256.size inb).toLoadRect.set ⊆ (rowsIn dXs (· < n) : Finset _) := by
  intro i hi
  obtain ⟨j, hj, rfl⟩ := Finset.mem_map.mp hi
  obtain ⟨t, ht, e⟩ := (LoadRect.mem_set _).mp hj 0
  rw [mem_rowsIn]
  have ht' : t < 1 := ht
  have e' : (j 0).val = b + 1 * t := e
  show (j 0).val < n
  omega

abbrev ptOn (f : S8x256.Idx → Elt F .bf16) : sProp 𝕄 := mOn.view.loc (c : Thread nD τ) ↦[Finset.univ]{fullShare} f
abbrev ptS1 (f : S16x1x1280.Idx → Elt F .f32) : sProp 𝕄 := mS1.view.loc (c : Thread nD τ) ↦[Finset.univ]{fullShare} f
abbrev ptS2 (f : S16x1x1280.Idx → Elt F .f32) : sProp 𝕄 := mS2.view.loc (c : Thread nD τ) ↦[Finset.univ]{fullShare} f
abbrev ptMx (f : S16x1x1280.Idx → Elt F .f32) : sProp 𝕄 := mMx.view.loc (c : Thread nD τ) ↦[Finset.univ]{fullShare} f
abbrev ptMn (f : S16x1x1280.Idx → Elt F .f32) : sProp 𝕄 := mMn.view.loc (c : Thread nD τ) ↦[Finset.univ]{fullShare} f
abbrev ptA (f : S16x1x1280.Idx → Elt F .f32) : sProp 𝕄 := mA.view.loc (c : Thread nD τ) ↦[Finset.univ]{fullShare} f
abbrev ptB (f : S16x1x1280.Idx → Elt F .f32) : sProp 𝕄 := mB.view.loc (c : Thread nD τ) ↦[Finset.univ]{fullShare} f

/-- The state a row's statistics run in. -/
def St (R : sProp 𝕄) (on : S8x256.Idx → Elt F .bf16) (n : ℕ) (s1 s2 mx mn : S16x1x1280.Idx → Elt F .f32) : sProp 𝕄 :=
  iprop(iprop(R ∗ ptOn c on ∗ ptS1 c s1 ∗ ptS2 c s2 ∗ ptMx c mx ∗ ptMn c mn) ∗ WaSt c x0 x1 n)

/-- A statistics buffer with one 256-lane block written. -/
abbrev wr4 (M : Memref sig .tc .vmem S16x1x1280 .f32) (f : M.view.ty.Contents (Elt F)) (o : Fin 3 → ℕ) (inb : ∀ a, o a + S1x1x256.size a ≤ S16x1x1280.size a) (w : S1x1x256.Idx → Elt F .f32) :
    M.view.ty.Contents (Elt F) := (M.access (Rect.unit (s := S16x1x1280) o S1x1x256.size inb)).write (Elt F) f w Finset.univ

variable {c x0 x1}
variable {α : Type} {on : S8x256.Idx → Elt F .bf16} {n : ℕ} {s1 s2 mx mn : S16x1x1280.Idx → Elt F .f32}

theorem ldU {R : sProp 𝕄} {Q : α → sProp 𝕄} (b r q : ℕ) (hb : b < n) {o : Fin 3 → ℕ} (ho : o = ![b, r, q]) {inb : ∀ a, o a + S1x8x256.size a ≤ S16x1024x768.size a}
    {hl : mXu.view.LoadsAt (Rect.unit (s := S16x1024x768) o S1x8x256.size inb).toLoadRect} {k : Vec F S1x8x256 .bf16 → Prog (TpuEff nD τ sig (Elt F) Λ₀ .tc) α}
    (h : St c x0 x1 R on n s1 s2 mx mn ⊢ WP c (k (blkU x0 b r q)) Q) :
    St c x0 x1 R on n s1 s2 mx mn ⊢ WP c (.op (.load mXu (Rect.unit (s := S16x1024x768) o S1x8x256.size inb).toLoadRect hl) k) Q := by
  subst ho
  refine exec_load Variants.none (c : Thread nD τ) none Set.univ (q := fullShare) (R := iprop(iprop(R ∗ ptOn c on ∗ ptS1 c s1 ∗ ptS2 c s2 ∗ ptMx c mx ∗ ptMn c mn) ∗ iprop(ptXuH c x0 (· < n) ∗ ptXs c x1 (· < n) ∗ ptXsH c x1 (· < n)
    ∗ bigSep (ltS 16 n) (fun b => semVal ((c : Thread nD τ), SemLoc.dma (inSem b)) 0) ∗ bigSep (geS 16 n) (mbIn c x0 x1)
    ∗ ∃ W, owes (c : Thread nD τ) 0 W))) ?_ (sub_blkU b r q hb inb) _ (read_blkU x0 b r q inb) h
  unfold St WaSt
  constructor
  · iintro ⟨HA, H6, HB⟩
    isplitl [HA HB]
    · isplitl [HA] <;> iassumption
    · iexact H6
  · iintro ⟨⟨HA, HB⟩, H6⟩
    isplitl [HA]; · iexact HA
    isplitl [H6] <;> iassumption

theorem ldS {R : sProp 𝕄} {Q : α → sProp 𝕄} (b r q : ℕ) (hb : b < n) {o : Fin 3 → ℕ} (ho : o = ![b, r, q]) {inb : ∀ a, o a + S1x8x256.size a ≤ S16x1024x512.size a}
    {hl : mXs.view.LoadsAt (Rect.unit (s := S16x1024x512) o S1x8x256.size inb).toLoadRect} {k : Vec F S1x8x256 .bf16 → Prog (TpuEff nD τ sig (Elt F) Λ₀ .tc) α}
    (h : St c x0 x1 R on n s1 s2 mx mn ⊢ WP c (k (blkS x1 b r q)) Q) :
    St c x0 x1 R on n s1 s2 mx mn ⊢ WP c (.op (.load mXs (Rect.unit (s := S16x1024x512) o S1x8x256.size inb).toLoadRect hl) k) Q := by
  subst ho
  refine exec_load Variants.none (c : Thread nD τ) none Set.univ (q := fullShare) (R := iprop(iprop(R ∗ ptOn c on ∗ ptS1 c s1 ∗ ptS2 c s2 ∗ ptMx c mx ∗ ptMn c mn) ∗ iprop(ptXu c x0 (· < n) ∗ ptXuH c x0 (· < n) ∗ ptXsH c x1 (· < n)
    ∗ bigSep (ltS 16 n) (fun b => semVal ((c : Thread nD τ), SemLoc.dma (inSem b)) 0) ∗ bigSep (geS 16 n) (mbIn c x0 x1)
    ∗ ∃ W, owes (c : Thread nD τ) 0 W))) ?_ (sub_blkS b r q hb inb) _ (read_blkS x1 b r q inb) h
  unfold St WaSt
  constructor
  · iintro ⟨HA, H6, H0, H7, HB⟩
    isplitl [HA H6 H0 HB]
    · isplitl [HA]; · iexact HA
      isplitl [H6]; · iexact H6
      isplitl [H0] <;> iassumption
    · iexact H7
  · iintro ⟨⟨HA, H6, H0, HB⟩, H7⟩
    isplitl [HA]; · iexact HA
    isplitl [H6]; · iexact H6
    isplitl [H0]; · iexact H0
    isplitl [H7] <;> iassumption

theorem ldOn {R : sProp 𝕄} {Q : α → sProp 𝕄} {inb : ∀ a, (![0, 0] : Fin 2 → ℕ) a + S8x256.size a ≤ S8x256.size a}
    {hl : mOn.view.LoadsAt (Rect.unit (s := S8x256) ![0, 0] S8x256.size inb).toLoadRect} {k : Vec F S8x256 .bf16 → Prog (TpuEff nD τ sig (Elt F) Λ₀ .tc) α}
    (h : St c x0 x1 R on n s1 s2 mx mn ⊢ WP c (k on) Q) :
    St c x0 x1 R on n s1 s2 mx mn ⊢ WP c (.op (.load mOn (Rect.unit (s := S8x256) ![0, 0] S8x256.size inb).toLoadRect hl) k) Q := by
  refine exec_load Variants.none (c : Thread nD τ) none Set.univ (q := fullShare) (R := iprop(iprop(R ∗ ptS1 c s1 ∗ ptS2 c s2 ∗ ptMx c mx ∗ ptMn c mn) ∗ WaSt c x0 x1 n)) (f := on) ?_ (Finset.subset_univ _) _ ?_ h
  · unfold St
    constructor
    · iintro ⟨⟨HR, HO, HA⟩, HB⟩
      isplitl [HR HA HB]
      · isplitl [HR HA]
        · isplitl [HR] <;> iassumption
        · iexact HB
      · iexact HO
    · iintro ⟨⟨⟨HR, HA⟩, HB⟩, HO⟩
      isplitl [HR HO HA]
      · isplitl [HR]; · iexact HR
        isplitl [HO] <;> iassumption
      · iexact HB
  · funext i
    show on _ = on _
    congr 1
    funext a
    match a with
    | 0 => exact Fin.ext (show 0 + 1 * (i 0).val = (i 0).val by omega)
    | 1 => exact Fin.ext (show 0 + 1 * (i 1).val = (i 1).val by omega)

theorem ddS1 {R : sProp 𝕄} {Q : α → sProp 𝕄} {o : Fin 3 → ℕ} {inb' : ∀ a, o a + S1x1x256.size a ≤ S16x1x1280.size a}
    {hl : mS1.view.LoadsAt (Rect.unit (s := S16x1x1280) o S1x1x256.size inb').toLoadRect}
    {k : (S1x1x256.Idx → Elt F .f32) → Prog (TpuEff nD τ sig (Elt F) Λ₀ .tc) α}
    (h : St c x0 x1 R on n s1 s2 mx mn ⊢ WP c (k (mS1.view.readAt (Elt F) (Rect.unit (s := S16x1x1280) o S1x1x256.size inb').toLoadRect s1)) Q) :
    St c x0 x1 R on n s1 s2 mx mn ⊢ WP c (.op (.load mS1 (Rect.unit (s := S16x1x1280) o S1x1x256.size inb').toLoadRect hl) k) Q := by
  unfold St at h ⊢
  iintro ⟨⟨HR, HO, HS1, HS2, HMx, HMn⟩, HB⟩
  iapply (wp_load Variants.none (c : Thread nD τ) none Set.univ (f := s1) (S := Finset.univ) (Finset.subset_univ _)) $$ [HS1]
  · iexact HS1
  iintro HS1
  iapply h
  isplitl [HR HO HS1 HS2 HMx HMn]
  · isplitl [HR]; · iexact HR
    isplitl [HO]; · iexact HO
    isplitl [HS1]; · iexact HS1
    isplitl [HS2]; · iexact HS2
    isplitl [HMx] <;> iassumption
  · iexact HB

theorem stS1 {R : sProp 𝕄} {Q : α → sProp 𝕄} {o : Fin 3 → ℕ} {inb : ∀ a, o a + S1x1x256.size a ≤ S16x1x1280.size a} {w : S1x1x256.Idx → Elt F .f32}
    {hx : (mS1.access (Rect.unit (s := S16x1x1280) o S1x1x256.size inb)).Stores Finset.univ} {hm}
    {k : PUnit → Prog (TpuEff nD τ sig (Elt F) Λ₀ .tc) α}
    (h : St c x0 x1 R on n (wr4 mS1 s1 o inb w) s2 mx mn ⊢ WP c (k ⟨⟩) Q) :
    St c x0 x1 R on n s1 s2 mx mn ⊢ WP c (.op (.store mS1 (Rect.unit (s := S16x1x1280) o S1x1x256.size inb) w Finset.univ hx hm) k) Q := by
  unfold St at h ⊢
  iintro ⟨⟨HR, HO, HS1, HS2, HMx, HMn⟩, HB⟩
  iapply (wp_store Variants.none (c : Thread nD τ) none Set.univ (f := s1) (S := Finset.univ) (Finset.subset_univ _)) $$ [HS1]
  · iexact HS1
  iintro HS1
  iapply h
  isplitl [HR HO HS1 HS2 HMx HMn]
  · isplitl [HR]; · iexact HR
    isplitl [HO]; · iexact HO
    isplitl [HS1]; · iexact HS1
    isplitl [HS2]; · iexact HS2
    isplitl [HMx] <;> iassumption
  · iexact HB

theorem ddS2 {R : sProp 𝕄} {Q : α → sProp 𝕄} {o : Fin 3 → ℕ} {inb' : ∀ a, o a + S1x1x256.size a ≤ S16x1x1280.size a}
    {hl : mS2.view.LoadsAt (Rect.unit (s := S16x1x1280) o S1x1x256.size inb').toLoadRect}
    {k : (S1x1x256.Idx → Elt F .f32) → Prog (TpuEff nD τ sig (Elt F) Λ₀ .tc) α}
    (h : St c x0 x1 R on n s1 s2 mx mn ⊢ WP c (k (mS2.view.readAt (Elt F) (Rect.unit (s := S16x1x1280) o S1x1x256.size inb').toLoadRect s2)) Q) :
    St c x0 x1 R on n s1 s2 mx mn ⊢ WP c (.op (.load mS2 (Rect.unit (s := S16x1x1280) o S1x1x256.size inb').toLoadRect hl) k) Q := by
  unfold St at h ⊢
  iintro ⟨⟨HR, HO, HS1, HS2, HMx, HMn⟩, HB⟩
  iapply (wp_load Variants.none (c : Thread nD τ) none Set.univ (f := s2) (S := Finset.univ) (Finset.subset_univ _)) $$ [HS2]
  · iexact HS2
  iintro HS2
  iapply h
  isplitl [HR HO HS1 HS2 HMx HMn]
  · isplitl [HR]; · iexact HR
    isplitl [HO]; · iexact HO
    isplitl [HS1]; · iexact HS1
    isplitl [HS2]; · iexact HS2
    isplitl [HMx] <;> iassumption
  · iexact HB

theorem stS2 {R : sProp 𝕄} {Q : α → sProp 𝕄} {o : Fin 3 → ℕ} {inb : ∀ a, o a + S1x1x256.size a ≤ S16x1x1280.size a} {w : S1x1x256.Idx → Elt F .f32}
    {hx : (mS2.access (Rect.unit (s := S16x1x1280) o S1x1x256.size inb)).Stores Finset.univ} {hm}
    {k : PUnit → Prog (TpuEff nD τ sig (Elt F) Λ₀ .tc) α}
    (h : St c x0 x1 R on n s1 (wr4 mS2 s2 o inb w) mx mn ⊢ WP c (k ⟨⟩) Q) :
    St c x0 x1 R on n s1 s2 mx mn ⊢ WP c (.op (.store mS2 (Rect.unit (s := S16x1x1280) o S1x1x256.size inb) w Finset.univ hx hm) k) Q := by
  unfold St at h ⊢
  iintro ⟨⟨HR, HO, HS1, HS2, HMx, HMn⟩, HB⟩
  iapply (wp_store Variants.none (c : Thread nD τ) none Set.univ (f := s2) (S := Finset.univ) (Finset.subset_univ _)) $$ [HS2]
  · iexact HS2
  iintro HS2
  iapply h
  isplitl [HR HO HS1 HS2 HMx HMn]
  · isplitl [HR]; · iexact HR
    isplitl [HO]; · iexact HO
    isplitl [HS1]; · iexact HS1
    isplitl [HS2]; · iexact HS2
    isplitl [HMx] <;> iassumption
  · iexact HB

theorem ddMx {R : sProp 𝕄} {Q : α → sProp 𝕄} {o : Fin 3 → ℕ} {inb' : ∀ a, o a + S1x1x256.size a ≤ S16x1x1280.size a}
    {hl : mMx.view.LoadsAt (Rect.unit (s := S16x1x1280) o S1x1x256.size inb').toLoadRect}
    {k : (S1x1x256.Idx → Elt F .f32) → Prog (TpuEff nD τ sig (Elt F) Λ₀ .tc) α}
    (h : St c x0 x1 R on n s1 s2 mx mn ⊢ WP c (k (mMx.view.readAt (Elt F) (Rect.unit (s := S16x1x1280) o S1x1x256.size inb').toLoadRect mx)) Q) :
    St c x0 x1 R on n s1 s2 mx mn ⊢ WP c (.op (.load mMx (Rect.unit (s := S16x1x1280) o S1x1x256.size inb').toLoadRect hl) k) Q := by
  unfold St at h ⊢
  iintro ⟨⟨HR, HO, HS1, HS2, HMx, HMn⟩, HB⟩
  iapply (wp_load Variants.none (c : Thread nD τ) none Set.univ (f := mx) (S := Finset.univ) (Finset.subset_univ _)) $$ [HMx]
  · iexact HMx
  iintro HMx
  iapply h
  isplitl [HR HO HS1 HS2 HMx HMn]
  · isplitl [HR]; · iexact HR
    isplitl [HO]; · iexact HO
    isplitl [HS1]; · iexact HS1
    isplitl [HS2]; · iexact HS2
    isplitl [HMx] <;> iassumption
  · iexact HB

theorem stMx {R : sProp 𝕄} {Q : α → sProp 𝕄} {o : Fin 3 → ℕ} {inb : ∀ a, o a + S1x1x256.size a ≤ S16x1x1280.size a} {w : S1x1x256.Idx → Elt F .f32}
    {hx : (mMx.access (Rect.unit (s := S16x1x1280) o S1x1x256.size inb)).Stores Finset.univ} {hm}
    {k : PUnit → Prog (TpuEff nD τ sig (Elt F) Λ₀ .tc) α}
    (h : St c x0 x1 R on n s1 s2 (wr4 mMx mx o inb w) mn ⊢ WP c (k ⟨⟩) Q) :
    St c x0 x1 R on n s1 s2 mx mn ⊢ WP c (.op (.store mMx (Rect.unit (s := S16x1x1280) o S1x1x256.size inb) w Finset.univ hx hm) k) Q := by
  unfold St at h ⊢
  iintro ⟨⟨HR, HO, HS1, HS2, HMx, HMn⟩, HB⟩
  iapply (wp_store Variants.none (c : Thread nD τ) none Set.univ (f := mx) (S := Finset.univ) (Finset.subset_univ _)) $$ [HMx]
  · iexact HMx
  iintro HMx
  iapply h
  isplitl [HR HO HS1 HS2 HMx HMn]
  · isplitl [HR]; · iexact HR
    isplitl [HO]; · iexact HO
    isplitl [HS1]; · iexact HS1
    isplitl [HS2]; · iexact HS2
    isplitl [HMx] <;> iassumption
  · iexact HB

theorem ddMn {R : sProp 𝕄} {Q : α → sProp 𝕄} {o : Fin 3 → ℕ} {inb' : ∀ a, o a + S1x1x256.size a ≤ S16x1x1280.size a}
    {hl : mMn.view.LoadsAt (Rect.unit (s := S16x1x1280) o S1x1x256.size inb').toLoadRect}
    {k : (S1x1x256.Idx → Elt F .f32) → Prog (TpuEff nD τ sig (Elt F) Λ₀ .tc) α}
    (h : St c x0 x1 R on n s1 s2 mx mn ⊢ WP c (k (mMn.view.readAt (Elt F) (Rect.unit (s := S16x1x1280) o S1x1x256.size inb').toLoadRect mn)) Q) :
    St c x0 x1 R on n s1 s2 mx mn ⊢ WP c (.op (.load mMn (Rect.unit (s := S16x1x1280) o S1x1x256.size inb').toLoadRect hl) k) Q := by
  unfold St at h ⊢
  iintro ⟨⟨HR, HO, HS1, HS2, HMx, HMn⟩, HB⟩
  iapply (wp_load Variants.none (c : Thread nD τ) none Set.univ (f := mn) (S := Finset.univ) (Finset.subset_univ _)) $$ [HMn]
  · iexact HMn
  iintro HMn
  iapply h
  isplitl [HR HO HS1 HS2 HMx HMn]
  · isplitl [HR]; · iexact HR
    isplitl [HO]; · iexact HO
    isplitl [HS1]; · iexact HS1
    isplitl [HS2]; · iexact HS2
    isplitl [HMx] <;> iassumption
  · iexact HB

theorem stMn {R : sProp 𝕄} {Q : α → sProp 𝕄} {o : Fin 3 → ℕ} {inb : ∀ a, o a + S1x1x256.size a ≤ S16x1x1280.size a} {w : S1x1x256.Idx → Elt F .f32}
    {hx : (mMn.access (Rect.unit (s := S16x1x1280) o S1x1x256.size inb)).Stores Finset.univ} {hm}
    {k : PUnit → Prog (TpuEff nD τ sig (Elt F) Λ₀ .tc) α}
    (h : St c x0 x1 R on n s1 s2 mx (wr4 mMn mn o inb w) ⊢ WP c (k ⟨⟩) Q) :
    St c x0 x1 R on n s1 s2 mx mn ⊢ WP c (.op (.store mMn (Rect.unit (s := S16x1x1280) o S1x1x256.size inb) w Finset.univ hx hm) k) Q := by
  unfold St at h ⊢
  iintro ⟨⟨HR, HO, HS1, HS2, HMx, HMn⟩, HB⟩
  iapply (wp_store Variants.none (c : Thread nD τ) none Set.univ (f := mn) (S := Finset.univ) (Finset.subset_univ _)) $$ [HMn]
  · iexact HMn
  iintro HMn
  iapply h
  isplitl [HR HO HS1 HS2 HMx HMn]
  · isplitl [HR]; · iexact HR
    isplitl [HO]; · iexact HO
    isplitl [HS1]; · iexact HS1
    isplitl [HS2]; · iexact HS2
    isplitl [HMx] <;> iassumption
  · iexact HB

end

end Cert.KernelIdeal.Hand
-- ==== Proof.KI.Spec.lean ====
/-
  A row's statistics, tile by tile.
-/
module

public import proofs.«01_k».proof.Proof.KI.Ld

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

theorem k16 (k : Fin k0_t1_loop.trips) : k.val < 16 := lt_of_lt_of_eq k.isLt (by decide)

section Spec
/-- The block, its upcast, and the four running statistics of a 256-lane tile given by its blocks. -/
def cB (bl : ℕ → Vec F S1x8x256 .bf16) (j : ℕ) : FVec F S8x256 .bf16 := shapeCast S8x256 (bl j) shapeCasts_S1x8x256_S8x256
def eB (bl : ℕ → Vec F S1x8x256 .bf16) (j : ℕ) : FVec F S8x256 .f32 := extf .f32 (cB bl j) bitsLt_bf16_f32
def s1c (bl : ℕ → Vec F S1x8x256 .bf16) (oe : FVec F S8x256 .f32) : ℕ → FVec F S8x256 .f32
  | 0 => mulf (eB bl 0) oe
  | n + 1 => addf (s1c bl oe n) (mulf (eB bl (n + 1)) oe)
def s2c (bl : ℕ → Vec F S1x8x256 .bf16) : ℕ → FVec F S8x256 .f32
  | 0 => mulf (eB bl 0) (eB bl 0)
  | n + 1 => addf (s2c bl n) (mulf (eB bl (n + 1)) (eB bl (n + 1)))
def mxc (bl : ℕ → Vec F S1x8x256 .bf16) : ℕ → FVec F S8x256 .bf16
  | 0 => cB bl 0
  | n + 1 => maximumf (mxc bl n) (cB bl (n + 1))
def mnc (bl : ℕ → Vec F S1x8x256 .bf16) : ℕ → FVec F S8x256 .bf16
  | 0 => cB bl 0
  | n + 1 => minimumf (mnc bl n) (cB bl (n + 1))
def red1 (v : FVec F S8x256 .f32) : FVec F S1x256 .f32 :=
  shapeCast S1x256 (multiReduction .add [0] S256 v 0x00000000#32 reduces_S8x256_S256 (.inl rfl) rfl) shapeCasts_S256_S1x256
def finMn (v : FVec F S8x256 .bf16) : FVec F S1x1x256 .f32 :=
  shapeCast S1x1x256 (shapeCast S1x256 (multiReduction .minimumf [0] S256 (extf .f32 v bitsLt_bf16_f32) 0x7F800000#32 reduces_S8x256_S256 (.inl rfl) rfl)
    shapeCasts_S256_S1x256) shapeCasts_S1x256_S1x1x256

/-- Tile `t` of row `b`: the first three in the first input, the last two in the second. -/
def tl (x0 : S16x1024x768.Idx → Elt F .bf16) (x1 : S16x1024x512.Idx → Elt F .bf16) (b : ℕ) : ℕ → ℕ → Vec F S1x8x256 .bf16
  | 0, j => blkU x0 b (8 * j) 0
  | 1, j => blkU x0 b (8 * j) 256
  | 2, j => blkU x0 b (8 * j) 512
  | 3, j => blkS x1 b (8 * j) 0
  | _, j => blkS x1 b (8 * j) 256
end Spec

/-- A part at the body's operands. -/
abbrev ap {β : Type 1} (f : (arg0 : Memref sig .tc .hbm S16x1024x768 .bf16) → (harg0 : arg0.IsWhole) → (arg1 : Memref sig .tc .hbm S16x1024x512 .bf16) → (harg1 : arg1.IsWhole) → (arg2 : Memref sig .tc .vmem S1280 .f32) → (harg2 : arg2.IsWhole) → (arg3 : Memref sig .tc .vmem S1280 .f32) → (harg3 : arg3.IsWhole) → (arg4 : Memref sig .tc .hbm S16x1024x1280 .fp8e4m3) → (harg4 : arg4.IsWhole) → (arg5 : Memref sig .tc .smem S1x1 .f32) → (harg5 : arg5.IsWhole) → (arg6 : Memref sig .tc .vmem S16x1024x768 .bf16) → (harg6 : arg6.IsWhole) → (arg7 : Memref sig .tc .vmem S16x1024x512 .bf16) → (harg7 : arg7.IsWhole) → (arg8 : Memref sig .tc .vmem S3x1024x1280 .fp8e4m3) → (harg8 : arg8.IsWhole) → (arg9 : Memref sig .tc .vmem S16x1x1280 .f32) → (harg9 : arg9.IsWhole) → (arg10 : Memref sig .tc .vmem S16x1x1280 .f32) → (harg10 : arg10.IsWhole) → (arg11 : Memref sig .tc .vmem S16x1x1280 .f32) → (harg11 : arg11.IsWhole) → (arg12 : Memref sig .tc .vmem S16x1x1280 .f32) → (harg12 : arg12.IsWhole) → (arg13 : Memref sig .tc .vmem S16x1x1280 .f32) → (harg13 : arg13.IsWhole) → (arg14 : Memref sig .tc .vmem S16x1x1280 .f32) → (harg14 : arg14.IsWhole) → (arg15 : Memref sig .tc .vmem S8x256 .bf16) → (harg15 : arg15.IsWhole) → (arg16 : DmaSems sig S16) → (arg17 : DmaSems sig S3) → β) (a2 : Memref sig .tc .vmem S1280 .f32) (ha2 : a2.IsWhole) (a3 : Memref sig .tc .vmem S1280 .f32) (ha3 : a3.IsWhole) (a5 : Memref sig .tc .smem S1x1 .f32) (ha5 : a5.IsWhole) : β :=
  f mXuH (Memref.isWhole_whole _) mXsH (Memref.isWhole_whole _) a2 ha2 a3 ha3 mCo (Memref.isWhole_whole _) a5 ha5 mXu (Memref.isWhole_whole _) mXs (Memref.isWhole_whole _) mOb (Memref.isWhole_whole _) mS1 (Memref.isWhole_whole _) mS2 (Memref.isWhole_whole _) mMx (Memref.isWhole_whole _) mMn (Memref.isWhole_whole _) mA (Memref.isWhole_whole _) mB (Memref.isWhole_whole _) mOn (Memref.isWhole_whole _) cc0_scratch10 cc0_scratch11

end Cert.KernelIdeal.Hand
-- ==== Proof.KI.X.lean ====
/-
  The state after the statistics at given contents, and one step of the body in it.
-/
module

public import proofs.«01_k».proof.Proof.KI.Spec

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

section
variable (c : Dev nD) (a2 : Memref sig .tc .vmem S1280 .f32) (a3 : Memref sig .tc .vmem S1280 .f32) (a5 : Memref sig .tc .smem S1x1 .f32)
  (ga be : S1280.Idx → Elt F .f32) (x0 : S16x1024x768.Idx → Elt F .bf16) (x1 : S16x1024x512.Idx → Elt F .bf16)

/-- The contents of the body's statistics, of its two coefficient buffers, and of the scale. -/
structure Cx (F : FTy → Type) where
  s1 : S16x1x1280.Idx → Elt F .f32
  s2 : S16x1x1280.Idx → Elt F .f32
  mx : S16x1x1280.Idx → Elt F .f32
  mn : S16x1x1280.Idx → Elt F .f32
  a : S16x1x1280.Idx → Elt F .f32
  b : S16x1x1280.Idx → Elt F .f32
  y : Elt F .f32

abbrev pU : sProp 𝕄 := mXu.view.loc (c : Thread nD τ) ↦[Finset.univ]{fullShare} x0
abbrev pS : sProp 𝕄 := mXs.view.loc (c : Thread nD τ) ↦[Finset.univ]{fullShare} x1
abbrev oG : sProp 𝕄 := owns (c : Thread nD τ) a2 fullShare ga
abbrev oY (y : Elt F .f32) : sProp 𝕄 := owns (c : Thread nD τ) a5 fullShare (fun _ => y)

/-- The state after the statistics, its contents given. -/
def Sx (R : sProp 𝕄) (C : Cx F) : sProp 𝕄 :=
  iprop(R ∗ pU c x0 ∗ pS c x1 ∗ ptS1 c C.s1 ∗ ptS2 c C.s2 ∗ ptMx c C.mx ∗ ptMn c C.mn ∗ ptA c C.a ∗ ptB c C.b ∗ oG c a2 ga ∗ oG c a3 be ∗ oY c a5 C.y)

/-- A 256-lane block of a statistics buffer. -/
def ln (f : S16x1x1280.Idx → Elt F .f32) (k q : ℕ) : Vec F S1x1x256 .f32 := fun i => at3 16 1 1280 f k 0 (q + (i 2).val)
/-- The position of a lane in a 256-lane block. -/
def i3 (n : ℕ) : S1x1x256.Idx := fun | 0 => (0 : Fin 1) | 1 => (0 : Fin 1) | 2 => Fin.ofNat 256 n
/-- A statistics buffer with one 256-lane block replaced. -/
def wq (f : S16x1x1280.Idx → Elt F .f32) (k q : ℕ) (w : S1x1x256.Idx → Elt F .f32) : S16x1x1280.Idx → Elt F .f32 :=
  fun i => if (i 0).val = k ∧ q ≤ (i 2).val ∧ (i 2).val < q + 256 then w (i3 ((i 2).val - q)) else f i

variable {c a2 a3 a5 ga be x0 x1}
variable {α : Type}

theorem sep_assoc_e (P Q R : sProp 𝕄) : iprop((P ∗ Q) ∗ R) = iprop(P ∗ Q ∗ R) := equiv_iff.mp ⟨BI.sep_assoc, BI.sep_assoc'⟩

theorem z3 : (![0, 0, 0] : Fin 3 → ℕ) = fun _ => 0 := by decide
theorem sep_comm_e (P Q : sProp 𝕄) : iprop(P ∗ Q) = iprop(Q ∗ P) := equiv_iff.mp ⟨BI.sep_comm, BI.sep_comm⟩
theorem up {A P Q R : sProp 𝕄} (h : P = iprop(Q ∗ R)) : iprop(A ∗ P) = iprop(Q ∗ A ∗ R) := by
  rw [h, ← sep_assoc_e, sep_comm_e A Q, sep_assoc_e]

theorem x_load {E R' : sProp 𝕄} {Q : α → sProp 𝕄} {cs : CoreSpace} {s : Shape} {e : EltTy} {m : Memref sig .tc cs s e} {r : LoadRect s} {hl : m.view.LoadsAt r}
    {k : (r.shape.Idx → Elt F e) → Prog (TpuEff nD τ sig (Elt F) Λ₀ .tc) α} {S : Finset (Idx (m.view.loc (c : Thread nD τ)))} {f : Buf (Elt F) (m.view.loc (c : Thread nD τ))}
    (h : E = iprop((m.view.loc (c : Thread nD τ) ↦[S]{fullShare} f) ∗ R')) (hS : m.view.setOn r.set ⊆ S)
    {v : r.shape.Idx → Elt F e} (hv : m.view.readAt (Elt F) r f = v)
    (hk : E ⊢ WP c (k v) Q) : E ⊢ WP c (.op (.load m r hl) k) Q := by
  subst hv; subst h
  iintro ⟨Hf, HR⟩
  iapply (wp_load Variants.none (c : Thread nD τ) none Set.univ (f := f) (S := S) hS) $$ [Hf]
  · iexact Hf
  iintro Hf
  iapply hk
  isplitl [Hf] <;> iassumption

theorem x_store {E E' R' : sProp 𝕄} {Q : α → sProp 𝕄} {cs : CoreSpace} {s : Shape} {e : EltTy} {m : Memref sig .tc cs s e} {r : Rect s} {w : r.shape.Idx → Elt F e}
    {hx : (m.access r).Stores Finset.univ} {hm} {k : PUnit → Prog (TpuEff nD τ sig (Elt F) Λ₀ .tc) α}
    {S : Finset (Idx (m.view.loc (c : Thread nD τ)))} {f f' : Buf (Elt F) (m.view.loc (c : Thread nD τ))}
    (h : E = iprop((m.view.loc (c : Thread nD τ) ↦[S]{fullShare} f) ∗ R')) (hS : (m.access r).setOn Finset.univ ⊆ S)
    (hf : (m.access r).write (Elt F) f w Finset.univ = f')
    (h' : E' = iprop((m.view.loc (c : Thread nD τ) ↦[S]{fullShare} f') ∗ R'))
    (hk : E' ⊢ WP c (k ⟨⟩) Q) : E ⊢ WP c (.op (.store m r w Finset.univ hx hm) k) Q := by
  subst hf; subst h; subst h'
  iintro ⟨Hf, HR⟩
  iapply (wp_store Variants.none (c : Thread nD τ) none Set.univ (f := f) (S := S) hS) $$ [Hf]
  · iexact Hf
  iintro Hf
  iapply hk
  isplitl [Hf] <;> iassumption

theorem eqR {R : sProp 𝕄} {C : Cx F} : Sx c a2 a3 a5 ga be x0 x1 R C = iprop(R ∗ pU c x0 ∗ pS c x1 ∗ ptS1 c C.s1 ∗ ptS2 c C.s2 ∗ ptMx c C.mx ∗ ptMn c C.mn ∗ ptA c C.a ∗ ptB c C.b ∗ oG c a2 ga ∗ oG c a3 be ∗ oY c a5 C.y) :=
  rfl
theorem eqU {R : sProp 𝕄} {C : Cx F} : Sx c a2 a3 a5 ga be x0 x1 R C = iprop(pU c x0 ∗ R ∗ pS c x1 ∗ ptS1 c C.s1 ∗ ptS2 c C.s2 ∗ ptMx c C.mx ∗ ptMn c C.mn ∗ ptA c C.a ∗ ptB c C.b ∗ oG c a2 ga ∗ oG c a3 be ∗ oY c a5 C.y) :=
  up (rfl)
theorem eqS {R : sProp 𝕄} {C : Cx F} : Sx c a2 a3 a5 ga be x0 x1 R C = iprop(pS c x1 ∗ R ∗ pU c x0 ∗ ptS1 c C.s1 ∗ ptS2 c C.s2 ∗ ptMx c C.mx ∗ ptMn c C.mn ∗ ptA c C.a ∗ ptB c C.b ∗ oG c a2 ga ∗ oG c a3 be ∗ oY c a5 C.y) :=
  up (up (rfl))
theorem eqS1 {R : sProp 𝕄} {C : Cx F} : Sx c a2 a3 a5 ga be x0 x1 R C = iprop(ptS1 c C.s1 ∗ R ∗ pU c x0 ∗ pS c x1 ∗ ptS2 c C.s2 ∗ ptMx c C.mx ∗ ptMn c C.mn ∗ ptA c C.a ∗ ptB c C.b ∗ oG c a2 ga ∗ oG c a3 be ∗ oY c a5 C.y) :=
  up (up (up (rfl)))
theorem eqS2 {R : sProp 𝕄} {C : Cx F} : Sx c a2 a3 a5 ga be x0 x1 R C = iprop(ptS2 c C.s2 ∗ R ∗ pU c x0 ∗ pS c x1 ∗ ptS1 c C.s1 ∗ ptMx c C.mx ∗ ptMn c C.mn ∗ ptA c C.a ∗ ptB c C.b ∗ oG c a2 ga ∗ oG c a3 be ∗ oY c a5 C.y) :=
  up (up (up (up (rfl))))
theorem eqMx {R : sProp 𝕄} {C : Cx F} : Sx c a2 a3 a5 ga be x0 x1 R C = iprop(ptMx c C.mx ∗ R ∗ pU c x0 ∗ pS c x1 ∗ ptS1 c C.s1 ∗ ptS2 c C.s2 ∗ ptMn c C.mn ∗ ptA c C.a ∗ ptB c C.b ∗ oG c a2 ga ∗ oG c a3 be ∗ oY c a5 C.y) :=
  up (up (up (up (up (rfl)))))
theorem eqMn {R : sProp 𝕄} {C : Cx F} : Sx c a2 a3 a5 ga be x0 x1 R C = iprop(ptMn c C.mn ∗ R ∗ pU c x0 ∗ pS c x1 ∗ ptS1 c C.s1 ∗ ptS2 c C.s2 ∗ ptMx c C.mx ∗ ptA c C.a ∗ ptB c C.b ∗ oG c a2 ga ∗ oG c a3 be ∗ oY c a5 C.y) :=
  up (up (up (up (up (up (rfl))))))
theorem eqA {R : sProp 𝕄} {C : Cx F} : Sx c a2 a3 a5 ga be x0 x1 R C = iprop(ptA c C.a ∗ R ∗ pU c x0 ∗ pS c x1 ∗ ptS1 c C.s1 ∗ ptS2 c C.s2 ∗ ptMx c C.mx ∗ ptMn c C.mn ∗ ptB c C.b ∗ oG c a2 ga ∗ oG c a3 be ∗ oY c a5 C.y) :=
  up (up (up (up (up (up (up (rfl)))))))
theorem eqB {R : sProp 𝕄} {C : Cx F} : Sx c a2 a3 a5 ga be x0 x1 R C = iprop(ptB c C.b ∗ R ∗ pU c x0 ∗ pS c x1 ∗ ptS1 c C.s1 ∗ ptS2 c C.s2 ∗ ptMx c C.mx ∗ ptMn c C.mn ∗ ptA c C.a ∗ oG c a2 ga ∗ oG c a3 be ∗ oY c a5 C.y) :=
  up (up (up (up (up (up (up (up (rfl))))))))
theorem eqG2 {R : sProp 𝕄} {C : Cx F} : Sx c a2 a3 a5 ga be x0 x1 R C = iprop(oG c a2 ga ∗ R ∗ pU c x0 ∗ pS c x1 ∗ ptS1 c C.s1 ∗ ptS2 c C.s2 ∗ ptMx c C.mx ∗ ptMn c C.mn ∗ ptA c C.a ∗ ptB c C.b ∗ oG c a3 be ∗ oY c a5 C.y) :=
  up (up (up (up (up (up (up (up (up (rfl)))))))))
theorem eqG3 {R : sProp 𝕄} {C : Cx F} : Sx c a2 a3 a5 ga be x0 x1 R C = iprop(oG c a3 be ∗ R ∗ pU c x0 ∗ pS c x1 ∗ ptS1 c C.s1 ∗ ptS2 c C.s2 ∗ ptMx c C.mx ∗ ptMn c C.mn ∗ ptA c C.a ∗ ptB c C.b ∗ oG c a2 ga ∗ oY c a5 C.y) :=
  up (up (up (up (up (up (up (up (up (up (rfl))))))))))
theorem eqY {R : sProp 𝕄} {C : Cx F} : Sx c a2 a3 a5 ga be x0 x1 R C = iprop(oY c a5 C.y ∗ R ∗ pU c x0 ∗ pS c x1 ∗ ptS1 c C.s1 ∗ ptS2 c C.s2 ∗ ptMx c C.mx ∗ ptMn c C.mn ∗ ptA c C.a ∗ ptB c C.b ∗ oG c a2 ga ∗ oG c a3 be) :=
  up (up (up (up (up (up (up (up (up (up (sep_comm_e _ _))))))))))

theorem lnS1 (f : S16x1x1280.Idx → Elt F .f32) (k q : ℕ) (inb : ∀ a, (![k, 0, q] : Fin 3 → ℕ) a + S1x1x256.size a ≤ S16x1x1280.size a) :
    mS1.view.readAt (Elt F) (Rect.unit (s := S16x1x1280) ![k, 0, q] S1x1x256.size inb).toLoadRect f = ln f k q := by
  funext i
  have e0 : k + 1 ≤ 16 := inb 0
  have e2 : q + 256 ≤ 1280 := inb 2
  have i0 : (i 0).val < 1 := (i 0).isLt
  have i1 : (i 1).val < 1 := (i 1).isLt
  have i2 : (i 2).val < 256 := (i 2).isLt
  show f _ = f _
  congr 1
  funext a
  match a with
  | 0 => exact Fin.ext (show k + 1 * (i 0).val = k % 16 by omega)
  | 1 => exact Fin.ext (show 0 + 1 * (i 1).val = 0 % 1 by omega)
  | 2 => exact Fin.ext (show q + 1 * (i 2).val = (q + (i 2).val) % 1280 by omega)
theorem wqS1 (f : S16x1x1280.Idx → Elt F .f32) (k q : ℕ) (inb : ∀ a, (![k, 0, q] : Fin 3 → ℕ) a + S1x1x256.size a ≤ S16x1x1280.size a) (w : S1x1x256.Idx → Elt F .f32) :
    wr4 mS1 f ![k, 0, q] inb w = wq f k q w := by
  funext i
  have e0 : k + 1 ≤ 16 := inb 0
  have e2 : q + 256 ≤ 1280 := inb 2
  have i1 : (i 1).val < 1 := (i 1).isLt
  unfold wr4 wq
  by_cases h : (i 0).val = k ∧ q ≤ (i 2).val ∧ (i 2).val < q + 256
  · rw [if_pos h]
    have he : i = (mS1.access (Rect.unit (s := S16x1x1280) ![k, 0, q] S1x1x256.size inb)).emb (i3 ((i 2).val - q)) := by
      funext a
      match a with
      | 0 => exact Fin.ext (show (i 0).val = k + 1 * 0 by omega)
      | 1 => exact Fin.ext (show (i 1).val = 0 + 1 * 0 by omega)
      | 2 => exact Fin.ext (show (i 2).val = q + 1 * (((i 2).val - q) % 256) by omega)
    conv_lhs => rw [he]
    rw [View.write_emb_of_mem _ _ (Finset.mem_univ _)]
    rfl
  · rw [if_neg h, View.write_of_not_mem]
    intro hi
    obtain ⟨j, -, hj⟩ := Finset.mem_map.mp hi
    apply h
    subst hj
    have j0 : (j 0).val < 1 := (j 0).isLt
    have j2 : (j 2).val < 256 := (j 2).isLt
    refine ⟨show k + 1 * (j 0).val = k by omega, show q ≤ q + 1 * (j 2).val by omega, show q + 1 * (j 2).val < q + 256 by omega⟩
theorem xlS1 {R : sProp 𝕄} {C : Cx F} {Q : α → sProp 𝕄} (k q : ℕ) {o : Fin 3 → ℕ} (ho : o = ![k, 0, q]) {inb : ∀ a, o a + S1x1x256.size a ≤ S16x1x1280.size a}
    {hl : mS1.view.LoadsAt (Rect.unit (s := S16x1x1280) o S1x1x256.size inb).toLoadRect} {kk : Vec F S1x1x256 .f32 → Prog (TpuEff nD τ sig (Elt F) Λ₀ .tc) α}
    (hk : Sx c a2 a3 a5 ga be x0 x1 R C ⊢ WP c (kk (ln C.s1 k q)) Q) : Sx c a2 a3 a5 ga be x0 x1 R C ⊢ WP c (.op (.load mS1 (Rect.unit (s := S16x1x1280) o S1x1x256.size inb).toLoadRect hl) kk) Q := by
  subst ho
  exact x_load eqS1 (Finset.subset_univ _) (lnS1 C.s1 k q inb) hk
theorem xwS1 {R : sProp 𝕄} {C : Cx F} {Q : α → sProp 𝕄} {inb : ∀ a, (![0, 0, 0] : Fin 3 → ℕ) a + S16x1x1280.size a ≤ S16x1x1280.size a}
    {hl : mS1.view.LoadsAt (Rect.unit (s := S16x1x1280) ![0, 0, 0] S16x1x1280.size inb).toLoadRect} {kk : Vec F S16x1x1280 .f32 → Prog (TpuEff nD τ sig (Elt F) Λ₀ .tc) α}
    (hk : Sx c a2 a3 a5 ga be x0 x1 R C ⊢ WP c (kk C.s1) Q) : Sx c a2 a3 a5 ga be x0 x1 R C ⊢ WP c (.op (.load mS1 (Rect.unit (s := S16x1x1280) ![0, 0, 0] S16x1x1280.size inb).toLoadRect hl) kk) Q :=
  x_load eqS1 (Finset.subset_univ _) (Memref.readAt_unit_zero (Elt F) cc0_scratch3 z3 inb C.s1) hk

theorem lnS2 (f : S16x1x1280.Idx → Elt F .f32) (k q : ℕ) (inb : ∀ a, (![k, 0, q] : Fin 3 → ℕ) a + S1x1x256.size a ≤ S16x1x1280.size a) :
    mS2.view.readAt (Elt F) (Rect.unit (s := S16x1x1280) ![k, 0, q] S1x1x256.size inb).toLoadRect f = ln f k q := by
  funext i
  have e0 : k + 1 ≤ 16 := inb 0
  have e2 : q + 256 ≤ 1280 := inb 2
  have i0 : (i 0).val < 1 := (i 0).isLt
  have i1 : (i 1).val < 1 := (i 1).isLt
  have i2 : (i 2).val < 256 := (i 2).isLt
  show f _ = f _
  congr 1
  funext a
  match a with
  | 0 => exact Fin.ext (show k + 1 * (i 0).val = k % 16 by omega)
  | 1 => exact Fin.ext (show 0 + 1 * (i 1).val = 0 % 1 by omega)
  | 2 => exact Fin.ext (show q + 1 * (i 2).val = (q + (i 2).val) % 1280 by omega)
theorem wqS2 (f : S16x1x1280.Idx → Elt F .f32) (k q : ℕ) (inb : ∀ a, (![k, 0, q] : Fin 3 → ℕ) a + S1x1x256.size a ≤ S16x1x1280.size a) (w : S1x1x256.Idx → Elt F .f32) :
    wr4 mS2 f ![k, 0, q] inb w = wq f k q w := by
  funext i
  have e0 : k + 1 ≤ 16 := inb 0
  have e2 : q + 256 ≤ 1280 := inb 2
  have i1 : (i 1).val < 1 := (i 1).isLt
  unfold wr4 wq
  by_cases h : (i 0).val = k ∧ q ≤ (i 2).val ∧ (i 2).val < q + 256
  · rw [if_pos h]
    have he : i = (mS2.access (Rect.unit (s := S16x1x1280) ![k, 0, q] S1x1x256.size inb)).emb (i3 ((i 2).val - q)) := by
      funext a
      match a with
      | 0 => exact Fin.ext (show (i 0).val = k + 1 * 0 by omega)
      | 1 => exact Fin.ext (show (i 1).val = 0 + 1 * 0 by omega)
      | 2 => exact Fin.ext (show (i 2).val = q + 1 * (((i 2).val - q) % 256) by omega)
    conv_lhs => rw [he]
    rw [View.write_emb_of_mem _ _ (Finset.mem_univ _)]
    rfl
  · rw [if_neg h, View.write_of_not_mem]
    intro hi
    obtain ⟨j, -, hj⟩ := Finset.mem_map.mp hi
    apply h
    subst hj
    have j0 : (j 0).val < 1 := (j 0).isLt
    have j2 : (j 2).val < 256 := (j 2).isLt
    refine ⟨show k + 1 * (j 0).val = k by omega, show q ≤ q + 1 * (j 2).val by omega, show q + 1 * (j 2).val < q + 256 by omega⟩
theorem xlS2 {R : sProp 𝕄} {C : Cx F} {Q : α → sProp 𝕄} (k q : ℕ) {o : Fin 3 → ℕ} (ho : o = ![k, 0, q]) {inb : ∀ a, o a + S1x1x256.size a ≤ S16x1x1280.size a}
    {hl : mS2.view.LoadsAt (Rect.unit (s := S16x1x1280) o S1x1x256.size inb).toLoadRect} {kk : Vec F S1x1x256 .f32 → Prog (TpuEff nD τ sig (Elt F) Λ₀ .tc) α}
    (hk : Sx c a2 a3 a5 ga be x0 x1 R C ⊢ WP c (kk (ln C.s2 k q)) Q) : Sx c a2 a3 a5 ga be x0 x1 R C ⊢ WP c (.op (.load mS2 (Rect.unit (s := S16x1x1280) o S1x1x256.size inb).toLoadRect hl) kk) Q := by
  subst ho
  exact x_load eqS2 (Finset.subset_univ _) (lnS2 C.s2 k q inb) hk
theorem xwS2 {R : sProp 𝕄} {C : Cx F} {Q : α → sProp 𝕄} {inb : ∀ a, (![0, 0, 0] : Fin 3 → ℕ) a + S16x1x1280.size a ≤ S16x1x1280.size a}
    {hl : mS2.view.LoadsAt (Rect.unit (s := S16x1x1280) ![0, 0, 0] S16x1x1280.size inb).toLoadRect} {kk : Vec F S16x1x1280 .f32 → Prog (TpuEff nD τ sig (Elt F) Λ₀ .tc) α}
    (hk : Sx c a2 a3 a5 ga be x0 x1 R C ⊢ WP c (kk C.s2) Q) : Sx c a2 a3 a5 ga be x0 x1 R C ⊢ WP c (.op (.load mS2 (Rect.unit (s := S16x1x1280) ![0, 0, 0] S16x1x1280.size inb).toLoadRect hl) kk) Q :=
  x_load eqS2 (Finset.subset_univ _) (Memref.readAt_unit_zero (Elt F) cc0_scratch4 z3 inb C.s2) hk
theorem xsS2 {R : sProp 𝕄} {C : Cx F} {Q : α → sProp 𝕄} (k q : ℕ) {o : Fin 3 → ℕ} (ho : o = ![k, 0, q]) {inb : ∀ a, o a + S1x1x256.size a ≤ S16x1x1280.size a} {w : S1x1x256.Idx → Elt F .f32}
    {hx : (mS2.access (Rect.unit (s := S16x1x1280) o S1x1x256.size inb)).Stores Finset.univ} {hm} {kk : PUnit → Prog (TpuEff nD τ sig (Elt F) Λ₀ .tc) α}
    (hk : Sx c a2 a3 a5 ga be x0 x1 R { C with s2 := wq C.s2 k q w } ⊢ WP c (kk ⟨⟩) Q) : Sx c a2 a3 a5 ga be x0 x1 R C ⊢ WP c (.op (.store mS2 (Rect.unit (s := S16x1x1280) o S1x1x256.size inb) w Finset.univ hx hm) kk) Q := by
  subst ho
  exact x_store eqS2 (Finset.subset_univ _) (wqS2 C.s2 k q inb w) (eqS2 (C := { C with s2 := wq C.s2 k q w })) hk

theorem lnMx (f : S16x1x1280.Idx → Elt F .f32) (k q : ℕ) (inb : ∀ a, (![k, 0, q] : Fin 3 → ℕ) a + S1x1x256.size a ≤ S16x1x1280.size a) :
    mMx.view.readAt (Elt F) (Rect.unit (s := S16x1x1280) ![k, 0, q] S1x1x256.size inb).toLoadRect f = ln f k q := by
  funext i
  have e0 : k + 1 ≤ 16 := inb 0
  have e2 : q + 256 ≤ 1280 := inb 2
  have i0 : (i 0).val < 1 := (i 0).isLt
  have i1 : (i 1).val < 1 := (i 1).isLt
  have i2 : (i 2).val < 256 := (i 2).isLt
  show f _ = f _
  congr 1
  funext a
  match a with
  | 0 => exact Fin.ext (show k + 1 * (i 0).val = k % 16 by omega)
  | 1 => exact Fin.ext (show 0 + 1 * (i 1).val = 0 % 1 by omega)
  | 2 => exact Fin.ext (show q + 1 * (i 2).val = (q + (i 2).val) % 1280 by omega)
theorem wqMx (f : S16x1x1280.Idx → Elt F .f32) (k q : ℕ) (inb : ∀ a, (![k, 0, q] : Fin 3 → ℕ) a + S1x1x256.size a ≤ S16x1x1280.size a) (w : S1x1x256.Idx → Elt F .f32) :
    wr4 mMx f ![k, 0, q] inb w = wq f k q w := by
  funext i
  have e0 : k + 1 ≤ 16 := inb 0
  have e2 : q + 256 ≤ 1280 := inb 2
  have i1 : (i 1).val < 1 := (i 1).isLt
  unfold wr4 wq
  by_cases h : (i 0).val = k ∧ q ≤ (i 2).val ∧ (i 2).val < q + 256
  · rw [if_pos h]
    have he : i = (mMx.access (Rect.unit (s := S16x1x1280) ![k, 0, q] S1x1x256.size inb)).emb (i3 ((i 2).val - q)) := by
      funext a
      match a with
      | 0 => exact Fin.ext (show (i 0).val = k + 1 * 0 by omega)
      | 1 => exact Fin.ext (show (i 1).val = 0 + 1 * 0 by omega)
      | 2 => exact Fin.ext (show (i 2).val = q + 1 * (((i 2).val - q) % 256) by omega)
    conv_lhs => rw [he]
    rw [View.write_emb_of_mem _ _ (Finset.mem_univ _)]
    rfl
  · rw [if_neg h, View.write_of_not_mem]
    intro hi
    obtain ⟨j, -, hj⟩ := Finset.mem_map.mp hi
    apply h
    subst hj
    have j0 : (j 0).val < 1 := (j 0).isLt
    have j2 : (j 2).val < 256 := (j 2).isLt
    refine ⟨show k + 1 * (j 0).val = k by omega, show q ≤ q + 1 * (j 2).val by omega, show q + 1 * (j 2).val < q + 256 by omega⟩
theorem xlMx {R : sProp 𝕄} {C : Cx F} {Q : α → sProp 𝕄} (k q : ℕ) {o : Fin 3 → ℕ} (ho : o = ![k, 0, q]) {inb : ∀ a, o a + S1x1x256.size a ≤ S16x1x1280.size a}
    {hl : mMx.view.LoadsAt (Rect.unit (s := S16x1x1280) o S1x1x256.size inb).toLoadRect} {kk : Vec F S1x1x256 .f32 → Prog (TpuEff nD τ sig (Elt F) Λ₀ .tc) α}
    (hk : Sx c a2 a3 a5 ga be x0 x1 R C ⊢ WP c (kk (ln C.mx k q)) Q) : Sx c a2 a3 a5 ga be x0 x1 R C ⊢ WP c (.op (.load mMx (Rect.unit (s := S16x1x1280) o S1x1x256.size inb).toLoadRect hl) kk) Q := by
  subst ho
  exact x_load eqMx (Finset.subset_univ _) (lnMx C.mx k q inb) hk
theorem xwMx {R : sProp 𝕄} {C : Cx F} {Q : α → sProp 𝕄} {inb : ∀ a, (![0, 0, 0] : Fin 3 → ℕ) a + S16x1x1280.size a ≤ S16x1x1280.size a}
    {hl : mMx.view.LoadsAt (Rect.unit (s := S16x1x1280) ![0, 0, 0] S16x1x1280.size inb).toLoadRect} {kk : Vec F S16x1x1280 .f32 → Prog (TpuEff nD τ sig (Elt F) Λ₀ .tc) α}
    (hk : Sx c a2 a3 a5 ga be x0 x1 R C ⊢ WP c (kk C.mx) Q) : Sx c a2 a3 a5 ga be x0 x1 R C ⊢ WP c (.op (.load mMx (Rect.unit (s := S16x1x1280) ![0, 0, 0] S16x1x1280.size inb).toLoadRect hl) kk) Q :=
  x_load eqMx (Finset.subset_univ _) (Memref.readAt_unit_zero (Elt F) cc0_scratch5 z3 inb C.mx) hk

theorem lnMn (f : S16x1x1280.Idx → Elt F .f32) (k q : ℕ) (inb : ∀ a, (![k, 0, q] : Fin 3 → ℕ) a + S1x1x256.size a ≤ S16x1x1280.size a) :
    mMn.view.readAt (Elt F) (Rect.unit (s := S16x1x1280) ![k, 0, q] S1x1x256.size inb).toLoadRect f = ln f k q := by
  funext i
  have e0 : k + 1 ≤ 16 := inb 0
  have e2 : q + 256 ≤ 1280 := inb 2
  have i0 : (i 0).val < 1 := (i 0).isLt
  have i1 : (i 1).val < 1 := (i 1).isLt
  have i2 : (i 2).val < 256 := (i 2).isLt
  show f _ = f _
  congr 1
  funext a
  match a with
  | 0 => exact Fin.ext (show k + 1 * (i 0).val = k % 16 by omega)
  | 1 => exact Fin.ext (show 0 + 1 * (i 1).val = 0 % 1 by omega)
  | 2 => exact Fin.ext (show q + 1 * (i 2).val = (q + (i 2).val) % 1280 by omega)
theorem wqMn (f : S16x1x1280.Idx → Elt F .f32) (k q : ℕ) (inb : ∀ a, (![k, 0, q] : Fin 3 → ℕ) a + S1x1x256.size a ≤ S16x1x1280.size a) (w : S1x1x256.Idx → Elt F .f32) :
    wr4 mMn f ![k, 0, q] inb w = wq f k q w := by
  funext i
  have e0 : k + 1 ≤ 16 := inb 0
  have e2 : q + 256 ≤ 1280 := inb 2
  have i1 : (i 1).val < 1 := (i 1).isLt
  unfold wr4 wq
  by_cases h : (i 0).val = k ∧ q ≤ (i 2).val ∧ (i 2).val < q + 256
  · rw [if_pos h]
    have he : i = (mMn.access (Rect.unit (s := S16x1x1280) ![k, 0, q] S1x1x256.size inb)).emb (i3 ((i 2).val - q)) := by
      funext a
      match a with
      | 0 => exact Fin.ext (show (i 0).val = k + 1 * 0 by omega)
      | 1 => exact Fin.ext (show (i 1).val = 0 + 1 * 0 by omega)
      | 2 => exact Fin.ext (show (i 2).val = q + 1 * (((i 2).val - q) % 256) by omega)
    conv_lhs => rw [he]
    rw [View.write_emb_of_mem _ _ (Finset.mem_univ _)]
    rfl
  · rw [if_neg h, View.write_of_not_mem]
    intro hi
    obtain ⟨j, -, hj⟩ := Finset.mem_map.mp hi
    apply h
    subst hj
    have j0 : (j 0).val < 1 := (j 0).isLt
    have j2 : (j 2).val < 256 := (j 2).isLt
    refine ⟨show k + 1 * (j 0).val = k by omega, show q ≤ q + 1 * (j 2).val by omega, show q + 1 * (j 2).val < q + 256 by omega⟩
theorem xlMn {R : sProp 𝕄} {C : Cx F} {Q : α → sProp 𝕄} (k q : ℕ) {o : Fin 3 → ℕ} (ho : o = ![k, 0, q]) {inb : ∀ a, o a + S1x1x256.size a ≤ S16x1x1280.size a}
    {hl : mMn.view.LoadsAt (Rect.unit (s := S16x1x1280) o S1x1x256.size inb).toLoadRect} {kk : Vec F S1x1x256 .f32 → Prog (TpuEff nD τ sig (Elt F) Λ₀ .tc) α}
    (hk : Sx c a2 a3 a5 ga be x0 x1 R C ⊢ WP c (kk (ln C.mn k q)) Q) : Sx c a2 a3 a5 ga be x0 x1 R C ⊢ WP c (.op (.load mMn (Rect.unit (s := S16x1x1280) o S1x1x256.size inb).toLoadRect hl) kk) Q := by
  subst ho
  exact x_load eqMn (Finset.subset_univ _) (lnMn C.mn k q inb) hk
theorem xwMn {R : sProp 𝕄} {C : Cx F} {Q : α → sProp 𝕄} {inb : ∀ a, (![0, 0, 0] : Fin 3 → ℕ) a + S16x1x1280.size a ≤ S16x1x1280.size a}
    {hl : mMn.view.LoadsAt (Rect.unit (s := S16x1x1280) ![0, 0, 0] S16x1x1280.size inb).toLoadRect} {kk : Vec F S16x1x1280 .f32 → Prog (TpuEff nD τ sig (Elt F) Λ₀ .tc) α}
    (hk : Sx c a2 a3 a5 ga be x0 x1 R C ⊢ WP c (kk C.mn) Q) : Sx c a2 a3 a5 ga be x0 x1 R C ⊢ WP c (.op (.load mMn (Rect.unit (s := S16x1x1280) ![0, 0, 0] S16x1x1280.size inb).toLoadRect hl) kk) Q :=
  x_load eqMn (Finset.subset_univ _) (Memref.readAt_unit_zero (Elt F) cc0_scratch6 z3 inb C.mn) hk

theorem lnA (f : S16x1x1280.Idx → Elt F .f32) (k q : ℕ) (inb : ∀ a, (![k, 0, q] : Fin 3 → ℕ) a + S1x1x256.size a ≤ S16x1x1280.size a) :
    mA.view.readAt (Elt F) (Rect.unit (s := S16x1x1280) ![k, 0, q] S1x1x256.size inb).toLoadRect f = ln f k q := by
  funext i
  have e0 : k + 1 ≤ 16 := inb 0
  have e2 : q + 256 ≤ 1280 := inb 2
  have i0 : (i 0).val < 1 := (i 0).isLt
  have i1 : (i 1).val < 1 := (i 1).isLt
  have i2 : (i 2).val < 256 := (i 2).isLt
  show f _ = f _
  congr 1
  funext a
  match a with
  | 0 => exact Fin.ext (show k + 1 * (i 0).val = k % 16 by omega)
  | 1 => exact Fin.ext (show 0 + 1 * (i 1).val = 0 % 1 by omega)
  | 2 => exact Fin.ext (show q + 1 * (i 2).val = (q + (i 2).val) % 1280 by omega)
theorem wqA (f : S16x1x1280.Idx → Elt F .f32) (k q : ℕ) (inb : ∀ a, (![k, 0, q] : Fin 3 → ℕ) a + S1x1x256.size a ≤ S16x1x1280.size a) (w : S1x1x256.Idx → Elt F .f32) :
    wr4 mA f ![k, 0, q] inb w = wq f k q w := by
  funext i
  have e0 : k + 1 ≤ 16 := inb 0
  have e2 : q + 256 ≤ 1280 := inb 2
  have i1 : (i 1).val < 1 := (i 1).isLt
  unfold wr4 wq
  by_cases h : (i 0).val = k ∧ q ≤ (i 2).val ∧ (i 2).val < q + 256
  · rw [if_pos h]
    have he : i = (mA.access (Rect.unit (s := S16x1x1280) ![k, 0, q] S1x1x256.size inb)).emb (i3 ((i 2).val - q)) := by
      funext a
      match a with
      | 0 => exact Fin.ext (show (i 0).val = k + 1 * 0 by omega)
      | 1 => exact Fin.ext (show (i 1).val = 0 + 1 * 0 by omega)
      | 2 => exact Fin.ext (show (i 2).val = q + 1 * (((i 2).val - q) % 256) by omega)
    conv_lhs => rw [he]
    rw [View.write_emb_of_mem _ _ (Finset.mem_univ _)]
    rfl
  · rw [if_neg h, View.write_of_not_mem]
    intro hi
    obtain ⟨j, -, hj⟩ := Finset.mem_map.mp hi
    apply h
    subst hj
    have j0 : (j 0).val < 1 := (j 0).isLt
    have j2 : (j 2).val < 256 := (j 2).isLt
    refine ⟨show k + 1 * (j 0).val = k by omega, show q ≤ q + 1 * (j 2).val by omega, show q + 1 * (j 2).val < q + 256 by omega⟩
theorem xlA {R : sProp 𝕄} {C : Cx F} {Q : α → sProp 𝕄} (k q : ℕ) {o : Fin 3 → ℕ} (ho : o = ![k, 0, q]) {inb : ∀ a, o a + S1x1x256.size a ≤ S16x1x1280.size a}
    {hl : mA.view.LoadsAt (Rect.unit (s := S16x1x1280) o S1x1x256.size inb).toLoadRect} {kk : Vec F S1x1x256 .f32 → Prog (TpuEff nD τ sig (Elt F) Λ₀ .tc) α}
    (hk : Sx c a2 a3 a5 ga be x0 x1 R C ⊢ WP c (kk (ln C.a k q)) Q) : Sx c a2 a3 a5 ga be x0 x1 R C ⊢ WP c (.op (.load mA (Rect.unit (s := S16x1x1280) o S1x1x256.size inb).toLoadRect hl) kk) Q := by
  subst ho
  exact x_load eqA (Finset.subset_univ _) (lnA C.a k q inb) hk
theorem xwA {R : sProp 𝕄} {C : Cx F} {Q : α → sProp 𝕄} {inb : ∀ a, (![0, 0, 0] : Fin 3 → ℕ) a + S16x1x1280.size a ≤ S16x1x1280.size a}
    {hl : mA.view.LoadsAt (Rect.unit (s := S16x1x1280) ![0, 0, 0] S16x1x1280.size inb).toLoadRect} {kk : Vec F S16x1x1280 .f32 → Prog (TpuEff nD τ sig (Elt F) Λ₀ .tc) α}
    (hk : Sx c a2 a3 a5 ga be x0 x1 R C ⊢ WP c (kk C.a) Q) : Sx c a2 a3 a5 ga be x0 x1 R C ⊢ WP c (.op (.load mA (Rect.unit (s := S16x1x1280) ![0, 0, 0] S16x1x1280.size inb).toLoadRect hl) kk) Q :=
  x_load eqA (Finset.subset_univ _) (Memref.readAt_unit_zero (Elt F) cc0_scratch7 z3 inb C.a) hk
theorem xsA {R : sProp 𝕄} {C : Cx F} {Q : α → sProp 𝕄} {inb : ∀ a, (![0, 0, 0] : Fin 3 → ℕ) a + S16x1x1280.size a ≤ S16x1x1280.size a} {w : S16x1x1280.Idx → Elt F .f32}
    {hx : (mA.access (Rect.unit (s := S16x1x1280) ![0, 0, 0] S16x1x1280.size inb)).Stores Finset.univ} {hm} {kk : PUnit → Prog (TpuEff nD τ sig (Elt F) Λ₀ .tc) α}
    (hk : Sx c a2 a3 a5 ga be x0 x1 R { C with a := w } ⊢ WP c (kk ⟨⟩) Q) : Sx c a2 a3 a5 ga be x0 x1 R C ⊢ WP c (.op (.store mA (Rect.unit (s := S16x1x1280) ![0, 0, 0] S16x1x1280.size inb) w Finset.univ hx hm) kk) Q :=
  x_store eqA (Finset.subset_univ _) (Memref.write_access_unit_zero_univ (Elt F) cc0_scratch7 z3 inb C.a w) (eqA (C := { C with a := w })) hk

theorem lnB (f : S16x1x1280.Idx → Elt F .f32) (k q : ℕ) (inb : ∀ a, (![k, 0, q] : Fin 3 → ℕ) a + S1x1x256.size a ≤ S16x1x1280.size a) :
    mB.view.readAt (Elt F) (Rect.unit (s := S16x1x1280) ![k, 0, q] S1x1x256.size inb).toLoadRect f = ln f k q := by
  funext i
  have e0 : k + 1 ≤ 16 := inb 0
  have e2 : q + 256 ≤ 1280 := inb 2
  have i0 : (i 0).val < 1 := (i 0).isLt
  have i1 : (i 1).val < 1 := (i 1).isLt
  have i2 : (i 2).val < 256 := (i 2).isLt
  show f _ = f _
  congr 1
  funext a
  match a with
  | 0 => exact Fin.ext (show k + 1 * (i 0).val = k % 16 by omega)
  | 1 => exact Fin.ext (show 0 + 1 * (i 1).val = 0 % 1 by omega)
  | 2 => exact Fin.ext (show q + 1 * (i 2).val = (q + (i 2).val) % 1280 by omega)
theorem wqB (f : S16x1x1280.Idx → Elt F .f32) (k q : ℕ) (inb : ∀ a, (![k, 0, q] : Fin 3 → ℕ) a + S1x1x256.size a ≤ S16x1x1280.size a) (w : S1x1x256.Idx → Elt F .f32) :
    wr4 mB f ![k, 0, q] inb w = wq f k q w := by
  funext i
  have e0 : k + 1 ≤ 16 := inb 0
  have e2 : q + 256 ≤ 1280 := inb 2
  have i1 : (i 1).val < 1 := (i 1).isLt
  unfold wr4 wq
  by_cases h : (i 0).val = k ∧ q ≤ (i 2).val ∧ (i 2).val < q + 256
  · rw [if_pos h]
    have he : i = (mB.access (Rect.unit (s := S16x1x1280) ![k, 0, q] S1x1x256.size inb)).emb (i3 ((i 2).val - q)) := by
      funext a
      match a with
      | 0 => exact Fin.ext (show (i 0).val = k + 1 * 0 by omega)
      | 1 => exact Fin.ext (show (i 1).val = 0 + 1 * 0 by omega)
      | 2 => exact Fin.ext (show (i 2).val = q + 1 * (((i 2).val - q) % 256) by omega)
    conv_lhs => rw [he]
    rw [View.write_emb_of_mem _ _ (Finset.mem_univ _)]
    rfl
  · rw [if_neg h, View.write_of_not_mem]
    intro hi
    obtain ⟨j, -, hj⟩ := Finset.mem_map.mp hi
    apply h
    subst hj
    have j0 : (j 0).val < 1 := (j 0).isLt
    have j2 : (j 2).val < 256 := (j 2).isLt
    refine ⟨show k + 1 * (j 0).val = k by omega, show q ≤ q + 1 * (j 2).val by omega, show q + 1 * (j 2).val < q + 256 by omega⟩
theorem xlB {R : sProp 𝕄} {C : Cx F} {Q : α → sProp 𝕄} (k q : ℕ) {o : Fin 3 → ℕ} (ho : o = ![k, 0, q]) {inb : ∀ a, o a + S1x1x256.size a ≤ S16x1x1280.size a}
    {hl : mB.view.LoadsAt (Rect.unit (s := S16x1x1280) o S1x1x256.size inb).toLoadRect} {kk : Vec F S1x1x256 .f32 → Prog (TpuEff nD τ sig (Elt F) Λ₀ .tc) α}
    (hk : Sx c a2 a3 a5 ga be x0 x1 R C ⊢ WP c (kk (ln C.b k q)) Q) : Sx c a2 a3 a5 ga be x0 x1 R C ⊢ WP c (.op (.load mB (Rect.unit (s := S16x1x1280) o S1x1x256.size inb).toLoadRect hl) kk) Q := by
  subst ho
  exact x_load eqB (Finset.subset_univ _) (lnB C.b k q inb) hk
theorem xwB {R : sProp 𝕄} {C : Cx F} {Q : α → sProp 𝕄} {inb : ∀ a, (![0, 0, 0] : Fin 3 → ℕ) a + S16x1x1280.size a ≤ S16x1x1280.size a}
    {hl : mB.view.LoadsAt (Rect.unit (s := S16x1x1280) ![0, 0, 0] S16x1x1280.size inb).toLoadRect} {kk : Vec F S16x1x1280 .f32 → Prog (TpuEff nD τ sig (Elt F) Λ₀ .tc) α}
    (hk : Sx c a2 a3 a5 ga be x0 x1 R C ⊢ WP c (kk C.b) Q) : Sx c a2 a3 a5 ga be x0 x1 R C ⊢ WP c (.op (.load mB (Rect.unit (s := S16x1x1280) ![0, 0, 0] S16x1x1280.size inb).toLoadRect hl) kk) Q :=
  x_load eqB (Finset.subset_univ _) (Memref.readAt_unit_zero (Elt F) cc0_scratch8 z3 inb C.b) hk
theorem xsB {R : sProp 𝕄} {C : Cx F} {Q : α → sProp 𝕄} {inb : ∀ a, (![0, 0, 0] : Fin 3 → ℕ) a + S16x1x1280.size a ≤ S16x1x1280.size a} {w : S16x1x1280.Idx → Elt F .f32}
    {hx : (mB.access (Rect.unit (s := S16x1x1280) ![0, 0, 0] S16x1x1280.size inb)).Stores Finset.univ} {hm} {kk : PUnit → Prog (TpuEff nD τ sig (Elt F) Λ₀ .tc) α}
    (hk : Sx c a2 a3 a5 ga be x0 x1 R { C with b := w } ⊢ WP c (kk ⟨⟩) Q) : Sx c a2 a3 a5 ga be x0 x1 R C ⊢ WP c (.op (.store mB (Rect.unit (s := S16x1x1280) ![0, 0, 0] S16x1x1280.size inb) w Finset.univ hx hm) kk) Q :=
  x_store eqB (Finset.subset_univ _) (Memref.write_access_unit_zero_univ (Elt F) cc0_scratch8 z3 inb C.b w) (eqB (C := { C with b := w })) hk

/-- The 128 by 256 block at rows `r…`, lanes `q…` of row `b`. -/
def bkU (x0 : S16x1024x768.Idx → Elt F .bf16) (b r q : ℕ) : Vec F S1x128x256 .bf16 := fun i => at3 16 1024 768 x0 b (r + (i 1).val) (q + (i 2).val)
theorem read_bkU (b r q : ℕ) (inb : ∀ a, (![b, r, q] : Fin 3 → ℕ) a + S1x128x256.size a ≤ S16x1024x768.size a) :
    mXu.view.readAt (Elt F) (Rect.unit (s := S16x1024x768) ![b, r, q] S1x128x256.size inb).toLoadRect x0 = bkU x0 b r q := by
  funext i
  have e0 : b + 1 ≤ 16 := inb 0
  have e1 : r + 128 ≤ 1024 := inb 1
  have e2 : q + 256 ≤ 768 := inb 2
  have i0 : (i 0).val < 1 := (i 0).isLt
  have i1 : (i 1).val < 128 := (i 1).isLt
  have i2 : (i 2).val < 256 := (i 2).isLt
  show x0 _ = x0 _
  congr 1
  funext a
  match a with
  | 0 => exact Fin.ext (show b + 1 * (i 0).val = b % 16 by omega)
  | 1 => exact Fin.ext (show r + 1 * (i 1).val = (r + (i 1).val) % 1024 by omega)
  | 2 => exact Fin.ext (show q + 1 * (i 2).val = (q + (i 2).val) % 768 by omega)
theorem xlU {R : sProp 𝕄} {C : Cx F} {Q : α → sProp 𝕄} (b r q : ℕ) {o : Fin 3 → ℕ} (ho : o = ![b, r, q]) {inb : ∀ a, o a + S1x8x256.size a ≤ S16x1024x768.size a}
    {hl : mXu.view.LoadsAt (Rect.unit (s := S16x1024x768) o S1x8x256.size inb).toLoadRect} {kk : Vec F S1x8x256 .bf16 → Prog (TpuEff nD τ sig (Elt F) Λ₀ .tc) α}
    (hk : Sx c a2 a3 a5 ga be x0 x1 R C ⊢ WP c (kk (blkU x0 b r q)) Q) : Sx c a2 a3 a5 ga be x0 x1 R C ⊢ WP c (.op (.load mXu (Rect.unit (s := S16x1024x768) o S1x8x256.size inb).toLoadRect hl) kk) Q := by
  subst ho
  exact x_load eqU (Finset.subset_univ _) (read_blkU x0 b r q inb) hk
theorem xkU {R : sProp 𝕄} {C : Cx F} {Q : α → sProp 𝕄} (b r q : ℕ) {o : Fin 3 → ℕ} (ho : o = ![b, r, q]) {inb : ∀ a, o a + S1x128x256.size a ≤ S16x1024x768.size a}
    {hl : mXu.view.LoadsAt (Rect.unit (s := S16x1024x768) o S1x128x256.size inb).toLoadRect} {kk : Vec F S1x128x256 .bf16 → Prog (TpuEff nD τ sig (Elt F) Λ₀ .tc) α}
    (hk : Sx c a2 a3 a5 ga be x0 x1 R C ⊢ WP c (kk (bkU x0 b r q)) Q) : Sx c a2 a3 a5 ga be x0 x1 R C ⊢ WP c (.op (.load mXu (Rect.unit (s := S16x1024x768) o S1x128x256.size inb).toLoadRect hl) kk) Q := by
  subst ho
  exact x_load eqU (Finset.subset_univ _) (read_bkU b r q inb) hk

/-- The 128 by 256 block at rows `r…`, lanes `q…` of row `b`. -/
def bkS (x1 : S16x1024x512.Idx → Elt F .bf16) (b r q : ℕ) : Vec F S1x128x256 .bf16 := fun i => at3 16 1024 512 x1 b (r + (i 1).val) (q + (i 2).val)
theorem read_bkS (b r q : ℕ) (inb : ∀ a, (![b, r, q] : Fin 3 → ℕ) a + S1x128x256.size a ≤ S16x1024x512.size a) :
    mXs.view.readAt (Elt F) (Rect.unit (s := S16x1024x512) ![b, r, q] S1x128x256.size inb).toLoadRect x1 = bkS x1 b r q := by
  funext i
  have e0 : b + 1 ≤ 16 := inb 0
  have e1 : r + 128 ≤ 1024 := inb 1
  have e2 : q + 256 ≤ 512 := inb 2
  have i0 : (i 0).val < 1 := (i 0).isLt
  have i1 : (i 1).val < 128 := (i 1).isLt
  have i2 : (i 2).val < 256 := (i 2).isLt
  show x1 _ = x1 _
  congr 1
  funext a
  match a with
  | 0 => exact Fin.ext (show b + 1 * (i 0).val = b % 16 by omega)
  | 1 => exact Fin.ext (show r + 1 * (i 1).val = (r + (i 1).val) % 1024 by omega)
  | 2 => exact Fin.ext (show q + 1 * (i 2).val = (q + (i 2).val) % 512 by omega)
theorem xlS {R : sProp 𝕄} {C : Cx F} {Q : α → sProp 𝕄} (b r q : ℕ) {o : Fin 3 → ℕ} (ho : o = ![b, r, q]) {inb : ∀ a, o a + S1x8x256.size a ≤ S16x1024x512.size a}
    {hl : mXs.view.LoadsAt (Rect.unit (s := S16x1024x512) o S1x8x256.size inb).toLoadRect} {kk : Vec F S1x8x256 .bf16 → Prog (TpuEff nD τ sig (Elt F) Λ₀ .tc) α}
    (hk : Sx c a2 a3 a5 ga be x0 x1 R C ⊢ WP c (kk (blkS x1 b r q)) Q) : Sx c a2 a3 a5 ga be x0 x1 R C ⊢ WP c (.op (.load mXs (Rect.unit (s := S16x1024x512) o S1x8x256.size inb).toLoadRect hl) kk) Q := by
  subst ho
  exact x_load eqS (Finset.subset_univ _) (read_blkS x1 b r q inb) hk
theorem xkS {R : sProp 𝕄} {C : Cx F} {Q : α → sProp 𝕄} (b r q : ℕ) {o : Fin 3 → ℕ} (ho : o = ![b, r, q]) {inb : ∀ a, o a + S1x128x256.size a ≤ S16x1024x512.size a}
    {hl : mXs.view.LoadsAt (Rect.unit (s := S16x1024x512) o S1x128x256.size inb).toLoadRect} {kk : Vec F S1x128x256 .bf16 → Prog (TpuEff nD τ sig (Elt F) Λ₀ .tc) α}
    (hk : Sx c a2 a3 a5 ga be x0 x1 R C ⊢ WP c (kk (bkS x1 b r q)) Q) : Sx c a2 a3 a5 ga be x0 x1 R C ⊢ WP c (.op (.load mXs (Rect.unit (s := S16x1024x512) o S1x128x256.size inb).toLoadRect hl) kk) Q := by
  subst ho
  exact x_load eqS (Finset.subset_univ _) (read_bkS b r q inb) hk

theorem xlG2 {R : sProp 𝕄} {C : Cx F} {Q : α → sProp 𝕄} {inb : ∀ a, (![0] : Fin 1 → ℕ) a + S1280.size a ≤ S1280.size a}
    {hl : a2.view.LoadsAt (Rect.unit (s := S1280) ![0] S1280.size inb).toLoadRect} {kk : Vec F S1280 .f32 → Prog (TpuEff nD τ sig (Elt F) Λ₀ .tc) α}
    (hk : Sx c a2 a3 a5 ga be x0 x1 R C ⊢ WP c (kk ga) Q) : Sx c a2 a3 a5 ga be x0 x1 R C ⊢ WP c (.op (.load a2 (Rect.unit (s := S1280) ![0] S1280.size inb).toLoadRect hl) kk) Q := by
  have e := eqG2 (c := c) (a2 := a2) (a3 := a3) (a5 := a5) (ga := ga) (be := be) (x0 := x0) (x1 := x1) (R := R) (C := C)
  rw [e] at hk ⊢
  unfold oG owns at hk ⊢
  iintro ⟨⟨%f, %hf, Hf⟩, HR⟩
  iapply (wp_load Variants.none (c : Thread nD τ) none Set.univ (f := f) (S := a2.view.set) (View.setOn_subset_set _ _)) $$ [Hf]
  · iexact Hf
  iintro Hf
  have hv : a2.view.readAt (Elt F) (Rect.unit (s := S1280) ![0] S1280.size inb).toLoadRect f = ga := by
    rw [← hf]
    funext i
    rw [View.readAt_apply]
    show a2.view.read (Elt F) f _ = a2.view.read (Elt F) f i
    congr 1
    funext a
    match a with
    | 0 => exact Fin.ext (show 0 + 1 * (i 0).val = (i 0).val by omega)
  rw [hv]
  iapply hk
  isplitl [Hf]
  · iexists f; isplitr; · ipureintro; exact hf
    iexact Hf
  · iexact HR

theorem xlG3 {R : sProp 𝕄} {C : Cx F} {Q : α → sProp 𝕄} {inb : ∀ a, (![0] : Fin 1 → ℕ) a + S1280.size a ≤ S1280.size a}
    {hl : a3.view.LoadsAt (Rect.unit (s := S1280) ![0] S1280.size inb).toLoadRect} {kk : Vec F S1280 .f32 → Prog (TpuEff nD τ sig (Elt F) Λ₀ .tc) α}
    (hk : Sx c a2 a3 a5 ga be x0 x1 R C ⊢ WP c (kk be) Q) : Sx c a2 a3 a5 ga be x0 x1 R C ⊢ WP c (.op (.load a3 (Rect.unit (s := S1280) ![0] S1280.size inb).toLoadRect hl) kk) Q := by
  have e := eqG3 (c := c) (a2 := a2) (a3 := a3) (a5 := a5) (ga := ga) (be := be) (x0 := x0) (x1 := x1) (R := R) (C := C)
  rw [e] at hk ⊢
  unfold oG owns at hk ⊢
  iintro ⟨⟨%f, %hf, Hf⟩, HR⟩
  iapply (wp_load Variants.none (c : Thread nD τ) none Set.univ (f := f) (S := a3.view.set) (View.setOn_subset_set _ _)) $$ [Hf]
  · iexact Hf
  iintro Hf
  have hv : a3.view.readAt (Elt F) (Rect.unit (s := S1280) ![0] S1280.size inb).toLoadRect f = be := by
    rw [← hf]
    funext i
    rw [View.readAt_apply]
    show a3.view.read (Elt F) f _ = a3.view.read (Elt F) f i
    congr 1
    funext a
    match a with
    | 0 => exact Fin.ext (show 0 + 1 * (i 0).val = (i 0).val by omega)
  rw [hv]
  iapply hk
  isplitl [Hf]
  · iexists f; isplitr; · ipureintro; exact hf
    iexact Hf
  · iexact HR

theorem xlY {R : sProp 𝕄} {C : Cx F} {Q : α → sProp 𝕄} {r : LoadRect S1x1} {hl : a5.view.LoadsAt r} {kk : (r.shape.Idx → Elt F .f32) → Prog (TpuEff nD τ sig (Elt F) Λ₀ .tc) α}
    (hk : Sx c a2 a3 a5 ga be x0 x1 R C ⊢ WP c (kk (fun _ => C.y)) Q) : Sx c a2 a3 a5 ga be x0 x1 R C ⊢ WP c (.op (.load a5 r hl) kk) Q := by
  have e := eqY (c := c) (a2 := a2) (a3 := a3) (a5 := a5) (ga := ga) (be := be) (x0 := x0) (x1 := x1) (R := R) (C := C)
  rw [e] at hk ⊢
  unfold oY owns at hk ⊢
  iintro ⟨⟨%f, %hf, Hf⟩, HR⟩
  iapply (wp_load Variants.none (c : Thread nD τ) none Set.univ (f := f) (S := a5.view.set) (View.setOn_subset_set _ _)) $$ [Hf]
  · iexact Hf
  iintro Hf
  have hv : a5.view.readAt (Elt F) r f = fun _ => C.y := by
    funext i
    rw [View.readAt_apply]
    show a5.view.read (Elt F) f _ = _
    rw [hf]
  rw [hv]
  iapply hk
  isplitl [Hf]
  · iexists f; isplitr; · ipureintro; exact hf
    iexact Hf
  · iexact HR
theorem xsY {R : sProp 𝕄} {C : Cx F} {Q : α → sProp 𝕄} {y : Elt F .f32} {inb : ∀ a, (![0, 0] : Fin 2 → ℕ) a + S1x1.size a ≤ S1x1.size a}
    {hx : (a5.access (Rect.unit (s := S1x1) ![0, 0] S1x1.size inb)).Stores Finset.univ} {hm} {kk : PUnit → Prog (TpuEff nD τ sig (Elt F) Λ₀ .tc) α}
    (hk : Sx c a2 a3 a5 ga be x0 x1 R { C with y := y } ⊢ WP c (kk ⟨⟩) Q) : Sx c a2 a3 a5 ga be x0 x1 R C ⊢ WP c (.op (.store a5 (Rect.unit (s := S1x1) ![0, 0] S1x1.size inb) (fun _ => y) Finset.univ hx hm) kk) Q := by
  rw [eqY] at hk ⊢
  unfold oY owns at hk ⊢
  iintro ⟨⟨%f, %hf, Hf⟩, HR⟩
  iapply (wp_store Variants.none (c : Thread nD τ) none Set.univ (f := f) (S := a5.view.set) (by rw [View.setOn_univ]; exact View.set_slice_subset _ _)) $$ [Hf]
  · iexact Hf
  iintro Hf
  iapply hk
  isplitl [Hf]
  · iexists _; isplitr; swap; · iexact Hf
    ipureintro
    have hf' : ∀ i : S1x1.Idx, a5.view.read (Elt F) ((a5.access (Rect.unit (s := S1x1) ![0, 0] S1x1.size inb)).write (Elt F) f (fun _ => y) Finset.univ) i = y := by
      intro i
      have h := congrFun (View.read_write_univ (v := a5.access (Rect.unit (s := S1x1) ![0, 0] S1x1.size inb)) (Val := Elt F) f (fun _ => y)) i
      have hi : (Rect.unit (s := S1x1) ![0, 0] S1x1.size inb).emb i = i := by
        funext a
        match a with
        | 0 => exact Fin.ext (show 0 + 1 * (i 0).val = (i 0).val by omega)
        | 1 => exact Fin.ext (show 0 + 1 * (i 1).val = (i 1).val by omega)
      have h2 : a5.view.read (Elt F) ((a5.access (Rect.unit (s := S1x1) ![0, 0] S1x1.size inb)).write (Elt F) f (fun _ => y) Finset.univ) ((Rect.unit (s := S1x1) ![0, 0] S1x1.size inb).emb i) = y := h
      rw [hi] at h2; exact h2
    exact funext hf'
  · iexact HR
end

end Cert.KernelIdeal.Hand
-- ==== Proof.KI.T1.lean ====
/-
  One row's statistics, part by part.
-/
module

public import proofs.«01_k».proof.Proof.KI.Spec

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

section
variable {c : Dev nD} {x0 : S16x1024x768.Idx → Elt F .bf16} {x1 : S16x1024x512.Idx → Elt F .bf16}
variable {α : Type} {on : S8x256.Idx → Elt F .bf16} {s1 s2 mx mn : S16x1x1280.Idx → Elt F .f32}
variable {a2 : Memref sig .tc .vmem S1280 .f32} {ha2 : a2.IsWhole} {a3 : Memref sig .tc .vmem S1280 .f32} {ha3 : a3.IsWhole} {a5 : Memref sig .tc .smem S1x1 .f32} {ha5 : a5.IsWhole}
theorem t1_1 {R : sProp 𝕄} {Q : α → sProp 𝕄} (k : Fin k0_t1_loop.trips) {f : (Σ' (arg18 : BitVec 32) (v475 : FVec F S8x256 .f32) (v497 : FVec F S8x256 .f32) (v499 : FVec F S8x256 .f32) (v500 : FVec F S8x256 .bf16), FVec F S8x256 .bf16) → Prog (TpuEff nD τ sig (Elt F) Λ₀ .tc) α}
    (h : St c x0 x1 R on (k.val + 1) s1 s2 mx mn ⊢ WP c (f ⟨(Scf.iv 0#32 1#32 k), (k0_pay1 on), (s1c (tl x0 x1 k.val 0) (k0_pay1 on) 2), (s2c (tl x0 x1 k.val 0) 2), (mxc (tl x0 x1 k.val 0) 2), (mnc (tl x0 x1 k.val 0) 2)⟩) Q) :
    iprop(iprop(R ∗ ptOn c on ∗ ptS1 c s1 ∗ ptS2 c s2 ∗ ptMx c mx ∗ ptMn c mn) ∗ WaSt c x0 x1 k.val) ⊢ WP c (ap k0_part1 a2 ha2 a3 ha3 a5 ha5 (0#32 : BitVec 32) (1#32 : BitVec 32) k  >>= f) Q := by
  rw [k0_part1_eq_skeleton]
  refine wait_row' c x0 x1 ⟨k.val, k16 k⟩ (k0_off1_eq k) (k0_off2_eq k) (k0_off3_eq k) ?_
  refine ldOn ?_
  refine ldU k.val 0 0 (Nat.lt_succ_self _) (k0_off4_eq k) ?_
  refine ldU k.val 8 0 (Nat.lt_succ_self _) (k0_off5_eq k) ?_
  refine ldU k.val 16 0 (Nat.lt_succ_self _) (k0_off6_eq k) ?_
  exact h

theorem t1_2 {R : sProp 𝕄} {Q : α → sProp 𝕄} (k : Fin k0_t1_loop.trips) {arg18 : BitVec 32} {f : (Σ' (v547 : FVec F S8x256 .f32) (v549 : FVec F S8x256 .f32) (v550 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 7), (s2c (tl x0 x1 k.val 0) 7), (mxc (tl x0 x1 k.val 0) 7), (mnc (tl x0 x1 k.val 0) 7)⟩) Q) :
    St c x0 x1 R on (k.val + 1) s1 s2 mx mn ⊢ WP c (ap k0_part2 a2 ha2 a3 ha3 a5 ha5 k arg18 (k0_pay1 on) (s1c (tl x0 x1 k.val 0) (k0_pay1 on) 2) (s2c (tl x0 x1 k.val 0) 2) (mxc (tl x0 x1 k.val 0) 2) (mnc (tl x0 x1 k.val 0) 2) >>= f) Q := by
  rw [k0_part2_eq_skeleton]
  refine ldU k.val 24 0 (Nat.lt_succ_self _) (k0_off7_eq k) ?_
  refine ldU k.val 32 0 (Nat.lt_succ_self _) (k0_off8_eq k) ?_
  refine ldU k.val 40 0 (Nat.lt_succ_self _) (k0_off9_eq k) ?_
  refine ldU k.val 48 0 (Nat.lt_succ_self _) (k0_off10_eq k) ?_
  refine ldU k.val 56 0 (Nat.lt_succ_self _) (k0_off11_eq k) ?_
  exact h

theorem t1_3 {R : sProp 𝕄} {Q : α → sProp 𝕄} (k : Fin k0_t1_loop.trips) {arg18 : BitVec 32} {f : (Σ' (v597 : FVec F S8x256 .f32) (v599 : FVec F S8x256 .f32) (v600 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 12), (s2c (tl x0 x1 k.val 0) 12), (mxc (tl x0 x1 k.val 0) 12), (mnc (tl x0 x1 k.val 0) 12)⟩) Q) :
    St c x0 x1 R on (k.val + 1) s1 s2 mx mn ⊢ WP c (ap k0_part3 a2 ha2 a3 ha3 a5 ha5 k arg18 (k0_pay1 on) (s1c (tl x0 x1 k.val 0) (k0_pay1 on) 7) (s2c (tl x0 x1 k.val 0) 7) (mxc (tl x0 x1 k.val 0) 7) (mnc (tl x0 x1 k.val 0) 7) >>= f) Q := by
  rw [k0_part3_eq_skeleton]
  refine ldU k.val 64 0 (Nat.lt_succ_self _) (k0_off12_eq k) ?_
  refine ldU k.val 72 0 (Nat.lt_succ_self _) (k0_off13_eq k) ?_
  refine ldU k.val 80 0 (Nat.lt_succ_self _) (k0_off14_eq k) ?_
  refine ldU k.val 88 0 (Nat.lt_succ_self _) (k0_off15_eq k) ?_
  refine ldU k.val 96 0 (Nat.lt_succ_self _) (k0_off16_eq k) ?_
  exact h

theorem t1_4 {R : sProp 𝕄} {Q : α → sProp 𝕄} (k : Fin k0_t1_loop.trips) {arg18 : BitVec 32} {f : (Σ' (v647 : FVec F S8x256 .f32) (v649 : FVec F S8x256 .f32) (v650 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 17), (s2c (tl x0 x1 k.val 0) 17), (mxc (tl x0 x1 k.val 0) 17), (mnc (tl x0 x1 k.val 0) 17)⟩) Q) :
    St c x0 x1 R on (k.val + 1) s1 s2 mx mn ⊢ WP c (ap k0_part4 a2 ha2 a3 ha3 a5 ha5 k arg18 (k0_pay1 on) (s1c (tl x0 x1 k.val 0) (k0_pay1 on) 12) (s2c (tl x0 x1 k.val 0) 12) (mxc (tl x0 x1 k.val 0) 12) (mnc (tl x0 x1 k.val 0) 12) >>= f) Q := by
  rw [k0_part4_eq_skeleton]
  refine ldU k.val 104 0 (Nat.lt_succ_self _) (k0_off17_eq k) ?_
  refine ldU k.val 112 0 (Nat.lt_succ_self _) (k0_off18_eq k) ?_
  refine ldU k.val 120 0 (Nat.lt_succ_self _) (k0_off19_eq k) ?_
  refine ldU k.val 128 0 (Nat.lt_succ_self _) (k0_off20_eq k) ?_
  refine ldU k.val 136 0 (Nat.lt_succ_self _) (k0_off21_eq k) ?_
  exact h

theorem t1_5 {R : sProp 𝕄} {Q : α → sProp 𝕄} (k : Fin k0_t1_loop.trips) {arg18 : BitVec 32} {f : (Σ' (v697 : FVec F S8x256 .f32) (v699 : FVec F S8x256 .f32) (v700 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 22), (s2c (tl x0 x1 k.val 0) 22), (mxc (tl x0 x1 k.val 0) 22), (mnc (tl x0 x1 k.val 0) 22)⟩) Q) :
    St c x0 x1 R on (k.val + 1) s1 s2 mx mn ⊢ WP c (ap k0_part5 a2 ha2 a3 ha3 a5 ha5 k arg18 (k0_pay1 on) (s1c (tl x0 x1 k.val 0) (k0_pay1 on) 17) (s2c (tl x0 x1 k.val 0) 17) (mxc (tl x0 x1 k.val 0) 17) (mnc (tl x0 x1 k.val 0) 17) >>= f) Q := by
  rw [k0_part5_eq_skeleton]
  refine ldU k.val 144 0 (Nat.lt_succ_self _) (k0_off22_eq k) ?_
  refine ldU k.val 152 0 (Nat.lt_succ_self _) (k0_off23_eq k) ?_
  refine ldU k.val 160 0 (Nat.lt_succ_self _) (k0_off24_eq k) ?_
  refine ldU k.val 168 0 (Nat.lt_succ_self _) (k0_off25_eq k) ?_
  refine ldU k.val 176 0 (Nat.lt_succ_self _) (k0_off26_eq k) ?_
  exact h

theorem t1_6 {R : sProp 𝕄} {Q : α → sProp 𝕄} (k : Fin k0_t1_loop.trips) {arg18 : BitVec 32} {f : (Σ' (v747 : FVec F S8x256 .f32) (v749 : FVec F S8x256 .f32) (v750 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 27), (s2c (tl x0 x1 k.val 0) 27), (mxc (tl x0 x1 k.val 0) 27), (mnc (tl x0 x1 k.val 0) 27)⟩) Q) :
    St c x0 x1 R on (k.val + 1) s1 s2 mx mn ⊢ WP c (ap k0_part6 a2 ha2 a3 ha3 a5 ha5 k arg18 (k0_pay1 on) (s1c (tl x0 x1 k.val 0) (k0_pay1 on) 22) (s2c (tl x0 x1 k.val 0) 22) (mxc (tl x0 x1 k.val 0) 22) (mnc (tl x0 x1 k.val 0) 22) >>= f) Q := by
  rw [k0_part6_eq_skeleton]
  refine ldU k.val 184 0 (Nat.lt_succ_self _) (k0_off27_eq k) ?_
  refine ldU k.val 192 0 (Nat.lt_succ_self _) (k0_off28_eq k) ?_
  refine ldU k.val 200 0 (Nat.lt_succ_self _) (k0_off29_eq k) ?_
  refine ldU k.val 208 0 (Nat.lt_succ_self _) (k0_off30_eq k) ?_
  refine ldU k.val 216 0 (Nat.lt_succ_self _) (k0_off31_eq k) ?_
  exact h

theorem t1_7 {R : sProp 𝕄} {Q : α → sProp 𝕄} (k : Fin k0_t1_loop.trips) {arg18 : BitVec 32} {f : (Σ' (v797 : FVec F S8x256 .f32) (v799 : FVec F S8x256 .f32) (v800 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 32), (s2c (tl x0 x1 k.val 0) 32), (mxc (tl x0 x1 k.val 0) 32), (mnc (tl x0 x1 k.val 0) 32)⟩) Q) :
    St c x0 x1 R on (k.val + 1) s1 s2 mx mn ⊢ WP c (ap k0_part7 a2 ha2 a3 ha3 a5 ha5 k arg18 (k0_pay1 on) (s1c (tl x0 x1 k.val 0) (k0_pay1 on) 27) (s2c (tl x0 x1 k.val 0) 27) (mxc (tl x0 x1 k.val 0) 27) (mnc (tl x0 x1 k.val 0) 27) >>= f) Q := by
  rw [k0_part7_eq_skeleton]
  refine ldU k.val 224 0 (Nat.lt_succ_self _) (k0_off32_eq k) ?_
  refine ldU k.val 232 0 (Nat.lt_succ_self _) (k0_off33_eq k) ?_
  refine ldU k.val 240 0 (Nat.lt_succ_self _) (k0_off34_eq k) ?_
  refine ldU k.val 248 0 (Nat.lt_succ_self _) (k0_off35_eq k) ?_
  refine ldU k.val 256 0 (Nat.lt_succ_self _) (k0_off36_eq k) ?_
  exact h

theorem t1_8 {R : sProp 𝕄} {Q : α → sProp 𝕄} (k : Fin k0_t1_loop.trips) {arg18 : BitVec 32} {f : (Σ' (v847 : FVec F S8x256 .f32) (v849 : FVec F S8x256 .f32) (v850 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 37), (s2c (tl x0 x1 k.val 0) 37), (mxc (tl x0 x1 k.val 0) 37), (mnc (tl x0 x1 k.val 0) 37)⟩) Q) :
    St c x0 x1 R on (k.val + 1) s1 s2 mx mn ⊢ WP c (ap k0_part8 a2 ha2 a3 ha3 a5 ha5 k arg18 (k0_pay1 on) (s1c (tl x0 x1 k.val 0) (k0_pay1 on) 32) (s2c (tl x0 x1 k.val 0) 32) (mxc (tl x0 x1 k.val 0) 32) (mnc (tl x0 x1 k.val 0) 32) >>= f) Q := by
  rw [k0_part8_eq_skeleton]
  refine ldU k.val 264 0 (Nat.lt_succ_self _) (k0_off37_eq k) ?_
  refine ldU k.val 272 0 (Nat.lt_succ_self _) (k0_off38_eq k) ?_
  refine ldU k.val 280 0 (Nat.lt_succ_self _) (k0_off39_eq k) ?_
  refine ldU k.val 288 0 (Nat.lt_succ_self _) (k0_off40_eq k) ?_
  refine ldU k.val 296 0 (Nat.lt_succ_self _) (k0_off41_eq k) ?_
  exact h

theorem t1_9 {R : sProp 𝕄} {Q : α → sProp 𝕄} (k : Fin k0_t1_loop.trips) {arg18 : BitVec 32} {f : (Σ' (v897 : FVec F S8x256 .f32) (v899 : FVec F S8x256 .f32) (v900 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 42), (s2c (tl x0 x1 k.val 0) 42), (mxc (tl x0 x1 k.val 0) 42), (mnc (tl x0 x1 k.val 0) 42)⟩) Q) :
    St c x0 x1 R on (k.val + 1) s1 s2 mx mn ⊢ WP c (ap k0_part9 a2 ha2 a3 ha3 a5 ha5 k arg18 (k0_pay1 on) (s1c (tl x0 x1 k.val 0) (k0_pay1 on) 37) (s2c (tl x0 x1 k.val 0) 37) (mxc (tl x0 x1 k.val 0) 37) (mnc (tl x0 x1 k.val 0) 37) >>= f) Q := by
  rw [k0_part9_eq_skeleton]
  refine ldU k.val 304 0 (Nat.lt_succ_self _) (k0_off42_eq k) ?_
  refine ldU k.val 312 0 (Nat.lt_succ_self _) (k0_off43_eq k) ?_
  refine ldU k.val 320 0 (Nat.lt_succ_self _) (k0_off44_eq k) ?_
  refine ldU k.val 328 0 (Nat.lt_succ_self _) (k0_off45_eq k) ?_
  refine ldU k.val 336 0 (Nat.lt_succ_self _) (k0_off46_eq k) ?_
  exact h

theorem t1_10 {R : sProp 𝕄} {Q : α → sProp 𝕄} (k : Fin k0_t1_loop.trips) {arg18 : BitVec 32} {f : (Σ' (v947 : FVec F S8x256 .f32) (v949 : FVec F S8x256 .f32) (v950 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 47), (s2c (tl x0 x1 k.val 0) 47), (mxc (tl x0 x1 k.val 0) 47), (mnc (tl x0 x1 k.val 0) 47)⟩) Q) :
    St c x0 x1 R on (k.val + 1) s1 s2 mx mn ⊢ WP c (ap k0_part10 a2 ha2 a3 ha3 a5 ha5 k arg18 (k0_pay1 on) (s1c (tl x0 x1 k.val 0) (k0_pay1 on) 42) (s2c (tl x0 x1 k.val 0) 42) (mxc (tl x0 x1 k.val 0) 42) (mnc (tl x0 x1 k.val 0) 42) >>= f) Q := by
  rw [k0_part10_eq_skeleton]
  refine ldU k.val 344 0 (Nat.lt_succ_self _) (k0_off47_eq k) ?_
  refine ldU k.val 352 0 (Nat.lt_succ_self _) (k0_off48_eq k) ?_
  refine ldU k.val 360 0 (Nat.lt_succ_self _) (k0_off49_eq k) ?_
  refine ldU k.val 368 0 (Nat.lt_succ_self _) (k0_off50_eq k) ?_
  refine ldU k.val 376 0 (Nat.lt_succ_self _) (k0_off51_eq k) ?_
  exact h

theorem t1_11 {R : sProp 𝕄} {Q : α → sProp 𝕄} (k : Fin k0_t1_loop.trips) {arg18 : BitVec 32} {f : (Σ' (v997 : FVec F S8x256 .f32) (v999 : FVec F S8x256 .f32) (v1000 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 52), (s2c (tl x0 x1 k.val 0) 52), (mxc (tl x0 x1 k.val 0) 52), (mnc (tl x0 x1 k.val 0) 52)⟩) Q) :
    St c x0 x1 R on (k.val + 1) s1 s2 mx mn ⊢ WP c (ap k0_part11 a2 ha2 a3 ha3 a5 ha5 k arg18 (k0_pay1 on) (s1c (tl x0 x1 k.val 0) (k0_pay1 on) 47) (s2c (tl x0 x1 k.val 0) 47) (mxc (tl x0 x1 k.val 0) 47) (mnc (tl x0 x1 k.val 0) 47) >>= f) Q := by
  rw [k0_part11_eq_skeleton]
  refine ldU k.val 384 0 (Nat.lt_succ_self _) (k0_off52_eq k) ?_
  refine ldU k.val 392 0 (Nat.lt_succ_self _) (k0_off53_eq k) ?_
  refine ldU k.val 400 0 (Nat.lt_succ_self _) (k0_off54_eq k) ?_
  refine ldU k.val 408 0 (Nat.lt_succ_self _) (k0_off55_eq k) ?_
  refine ldU k.val 416 0 (Nat.lt_succ_self _) (k0_off56_eq k) ?_
  exact h

theorem t1_12 {R : sProp 𝕄} {Q : α → sProp 𝕄} (k : Fin k0_t1_loop.trips) {arg18 : BitVec 32} {f : (Σ' (v1047 : FVec F S8x256 .f32) (v1049 : FVec F S8x256 .f32) (v1050 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 57), (s2c (tl x0 x1 k.val 0) 57), (mxc (tl x0 x1 k.val 0) 57), (mnc (tl x0 x1 k.val 0) 57)⟩) Q) :
    St c x0 x1 R on (k.val + 1) s1 s2 mx mn ⊢ WP c (ap k0_part12 a2 ha2 a3 ha3 a5 ha5 k arg18 (k0_pay1 on) (s1c (tl x0 x1 k.val 0) (k0_pay1 on) 52) (s2c (tl x0 x1 k.val 0) 52) (mxc (tl x0 x1 k.val 0) 52) (mnc (tl x0 x1 k.val 0) 52) >>= f) Q := by
  rw [k0_part12_eq_skeleton]
  refine ldU k.val 424 0 (Nat.lt_succ_self _) (k0_off57_eq k) ?_
  refine ldU k.val 432 0 (Nat.lt_succ_self _) (k0_off58_eq k) ?_
  refine ldU k.val 440 0 (Nat.lt_succ_self _) (k0_off59_eq k) ?_
  refine ldU k.val 448 0 (Nat.lt_succ_self _) (k0_off60_eq k) ?_
  refine ldU k.val 456 0 (Nat.lt_succ_self _) (k0_off61_eq k) ?_
  exact h

theorem t1_13 {R : sProp 𝕄} {Q : α → sProp 𝕄} (k : Fin k0_t1_loop.trips) {arg18 : BitVec 32} {f : (Σ' (v1097 : FVec F S8x256 .f32) (v1099 : FVec F S8x256 .f32) (v1100 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 62), (s2c (tl x0 x1 k.val 0) 62), (mxc (tl x0 x1 k.val 0) 62), (mnc (tl x0 x1 k.val 0) 62)⟩) Q) :
    St c x0 x1 R on (k.val + 1) s1 s2 mx mn ⊢ WP c (ap k0_part13 a2 ha2 a3 ha3 a5 ha5 k arg18 (k0_pay1 on) (s1c (tl x0 x1 k.val 0) (k0_pay1 on) 57) (s2c (tl x0 x1 k.val 0) 57) (mxc (tl x0 x1 k.val 0) 57) (mnc (tl x0 x1 k.val 0) 57) >>= f) Q := by
  rw [k0_part13_eq_skeleton]
  refine ldU k.val 464 0 (Nat.lt_succ_self _) (k0_off62_eq k) ?_
  refine ldU k.val 472 0 (Nat.lt_succ_self _) (k0_off63_eq k) ?_
  refine ldU k.val 480 0 (Nat.lt_succ_self _) (k0_off64_eq k) ?_
  refine ldU k.val 488 0 (Nat.lt_succ_self _) (k0_off65_eq k) ?_
  refine ldU k.val 496 0 (Nat.lt_succ_self _) (k0_off66_eq k) ?_
  exact h

theorem t1_14 {R : sProp 𝕄} {Q : α → sProp 𝕄} (k : Fin k0_t1_loop.trips) {arg18 : BitVec 32} {f : (Σ' (v1147 : FVec F S8x256 .f32) (v1149 : FVec F S8x256 .f32) (v1150 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 67), (s2c (tl x0 x1 k.val 0) 67), (mxc (tl x0 x1 k.val 0) 67), (mnc (tl x0 x1 k.val 0) 67)⟩) Q) :
    St c x0 x1 R on (k.val + 1) s1 s2 mx mn ⊢ WP c (ap k0_part14 a2 ha2 a3 ha3 a5 ha5 k arg18 (k0_pay1 on) (s1c (tl x0 x1 k.val 0) (k0_pay1 on) 62) (s2c (tl x0 x1 k.val 0) 62) (mxc (tl x0 x1 k.val 0) 62) (mnc (tl x0 x1 k.val 0) 62) >>= f) Q := by
  rw [k0_part14_eq_skeleton]
  refine ldU k.val 504 0 (Nat.lt_succ_self _) (k0_off67_eq k) ?_
  refine ldU k.val 512 0 (Nat.lt_succ_self _) (k0_off68_eq k) ?_
  refine ldU k.val 520 0 (Nat.lt_succ_self _) (k0_off69_eq k) ?_
  refine ldU k.val 528 0 (Nat.lt_succ_self _) (k0_off70_eq k) ?_
  refine ldU k.val 536 0 (Nat.lt_succ_self _) (k0_off71_eq k) ?_
  exact h

theorem t1_15 {R : sProp 𝕄} {Q : α → sProp 𝕄} (k : Fin k0_t1_loop.trips) {arg18 : BitVec 32} {f : (Σ' (v1197 : FVec F S8x256 .f32) (v1199 : FVec F S8x256 .f32) (v1200 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 72), (s2c (tl x0 x1 k.val 0) 72), (mxc (tl x0 x1 k.val 0) 72), (mnc (tl x0 x1 k.val 0) 72)⟩) Q) :
    St c x0 x1 R on (k.val + 1) s1 s2 mx mn ⊢ WP c (ap k0_part15 a2 ha2 a3 ha3 a5 ha5 k arg18 (k0_pay1 on) (s1c (tl x0 x1 k.val 0) (k0_pay1 on) 67) (s2c (tl x0 x1 k.val 0) 67) (mxc (tl x0 x1 k.val 0) 67) (mnc (tl x0 x1 k.val 0) 67) >>= f) Q := by
  rw [k0_part15_eq_skeleton]
  refine ldU k.val 544 0 (Nat.lt_succ_self _) (k0_off72_eq k) ?_
  refine ldU k.val 552 0 (Nat.lt_succ_self _) (k0_off73_eq k) ?_
  refine ldU k.val 560 0 (Nat.lt_succ_self _) (k0_off74_eq k) ?_
  refine ldU k.val 568 0 (Nat.lt_succ_self _) (k0_off75_eq k) ?_
  refine ldU k.val 576 0 (Nat.lt_succ_self _) (k0_off76_eq k) ?_
  exact h

theorem t1_16 {R : sProp 𝕄} {Q : α → sProp 𝕄} (k : Fin k0_t1_loop.trips) {arg18 : BitVec 32} {f : (Σ' (v1247 : FVec F S8x256 .f32) (v1249 : FVec F S8x256 .f32) (v1250 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 77), (s2c (tl x0 x1 k.val 0) 77), (mxc (tl x0 x1 k.val 0) 77), (mnc (tl x0 x1 k.val 0) 77)⟩) Q) :
    St c x0 x1 R on (k.val + 1) s1 s2 mx mn ⊢ WP c (ap k0_part16 a2 ha2 a3 ha3 a5 ha5 k arg18 (k0_pay1 on) (s1c (tl x0 x1 k.val 0) (k0_pay1 on) 72) (s2c (tl x0 x1 k.val 0) 72) (mxc (tl x0 x1 k.val 0) 72) (mnc (tl x0 x1 k.val 0) 72) >>= f) Q := by
  rw [k0_part16_eq_skeleton]
  refine ldU k.val 584 0 (Nat.lt_succ_self _) (k0_off77_eq k) ?_
  refine ldU k.val 592 0 (Nat.lt_succ_self _) (k0_off78_eq k) ?_
  refine ldU k.val 600 0 (Nat.lt_succ_self _) (k0_off79_eq k) ?_
  refine ldU k.val 608 0 (Nat.lt_succ_self _) (k0_off80_eq k) ?_
  refine ldU k.val 616 0 (Nat.lt_succ_self _) (k0_off81_eq k) ?_
  exact h

theorem t1_17 {R : sProp 𝕄} {Q : α → sProp 𝕄} (k : Fin k0_t1_loop.trips) {arg18 : BitVec 32} {f : (Σ' (v1297 : FVec F S8x256 .f32) (v1299 : FVec F S8x256 .f32) (v1300 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 82), (s2c (tl x0 x1 k.val 0) 82), (mxc (tl x0 x1 k.val 0) 82), (mnc (tl x0 x1 k.val 0) 82)⟩) Q) :
    St c x0 x1 R on (k.val + 1) s1 s2 mx mn ⊢ WP c (ap k0_part17 a2 ha2 a3 ha3 a5 ha5 k arg18 (k0_pay1 on) (s1c (tl x0 x1 k.val 0) (k0_pay1 on) 77) (s2c (tl x0 x1 k.val 0) 77) (mxc (tl x0 x1 k.val 0) 77) (mnc (tl x0 x1 k.val 0) 77) >>= f) Q := by
  rw [k0_part17_eq_skeleton]
  refine ldU k.val 624 0 (Nat.lt_succ_self _) (k0_off82_eq k) ?_
  refine ldU k.val 632 0 (Nat.lt_succ_self _) (k0_off83_eq k) ?_
  refine ldU k.val 640 0 (Nat.lt_succ_self _) (k0_off84_eq k) ?_
  refine ldU k.val 648 0 (Nat.lt_succ_self _) (k0_off85_eq k) ?_
  refine ldU k.val 656 0 (Nat.lt_succ_self _) (k0_off86_eq k) ?_
  exact h

theorem t1_18 {R : sProp 𝕄} {Q : α → sProp 𝕄} (k : Fin k0_t1_loop.trips) {arg18 : BitVec 32} {f : (Σ' (v1347 : FVec F S8x256 .f32) (v1349 : FVec F S8x256 .f32) (v1350 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 87), (s2c (tl x0 x1 k.val 0) 87), (mxc (tl x0 x1 k.val 0) 87), (mnc (tl x0 x1 k.val 0) 87)⟩) Q) :
    St c x0 x1 R on (k.val + 1) s1 s2 mx mn ⊢ WP c (ap k0_part18 a2 ha2 a3 ha3 a5 ha5 k arg18 (k0_pay1 on) (s1c (tl x0 x1 k.val 0) (k0_pay1 on) 82) (s2c (tl x0 x1 k.val 0) 82) (mxc (tl x0 x1 k.val 0) 82) (mnc (tl x0 x1 k.val 0) 82) >>= f) Q := by
  rw [k0_part18_eq_skeleton]
  refine ldU k.val 664 0 (Nat.lt_succ_self _) (k0_off87_eq k) ?_
  refine ldU k.val 672 0 (Nat.lt_succ_self _) (k0_off88_eq k) ?_
  refine ldU k.val 680 0 (Nat.lt_succ_self _) (k0_off89_eq k) ?_
  refine ldU k.val 688 0 (Nat.lt_succ_self _) (k0_off90_eq k) ?_
  refine ldU k.val 696 0 (Nat.lt_succ_self _) (k0_off91_eq k) ?_
  exact h

theorem t1_19 {R : sProp 𝕄} {Q : α → sProp 𝕄} (k : Fin k0_t1_loop.trips) {arg18 : BitVec 32} {f : (Σ' (v1397 : FVec F S8x256 .f32) (v1399 : FVec F S8x256 .f32) (v1400 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 92), (s2c (tl x0 x1 k.val 0) 92), (mxc (tl x0 x1 k.val 0) 92), (mnc (tl x0 x1 k.val 0) 92)⟩) Q) :
    St c x0 x1 R on (k.val + 1) s1 s2 mx mn ⊢ WP c (ap k0_part19 a2 ha2 a3 ha3 a5 ha5 k arg18 (k0_pay1 on) (s1c (tl x0 x1 k.val 0) (k0_pay1 on) 87) (s2c (tl x0 x1 k.val 0) 87) (mxc (tl x0 x1 k.val 0) 87) (mnc (tl x0 x1 k.val 0) 87) >>= f) Q := by
  rw [k0_part19_eq_skeleton]
  refine ldU k.val 704 0 (Nat.lt_succ_self _) (k0_off92_eq k) ?_
  refine ldU k.val 712 0 (Nat.lt_succ_self _) (k0_off93_eq k) ?_
  refine ldU k.val 720 0 (Nat.lt_succ_self _) (k0_off94_eq k) ?_
  refine ldU k.val 728 0 (Nat.lt_succ_self _) (k0_off95_eq k) ?_
  refine ldU k.val 736 0 (Nat.lt_succ_self _) (k0_off96_eq k) ?_
  exact h

theorem t1_20 {R : sProp 𝕄} {Q : α → sProp 𝕄} (k : Fin k0_t1_loop.trips) {arg18 : BitVec 32} {f : (Σ' (v1447 : FVec F S8x256 .f32) (v1449 : FVec F S8x256 .f32) (v1450 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 97), (s2c (tl x0 x1 k.val 0) 97), (mxc (tl x0 x1 k.val 0) 97), (mnc (tl x0 x1 k.val 0) 97)⟩) Q) :
    St c x0 x1 R on (k.val + 1) s1 s2 mx mn ⊢ WP c (ap k0_part20 a2 ha2 a3 ha3 a5 ha5 k arg18 (k0_pay1 on) (s1c (tl x0 x1 k.val 0) (k0_pay1 on) 92) (s2c (tl x0 x1 k.val 0) 92) (mxc (tl x0 x1 k.val 0) 92) (mnc (tl x0 x1 k.val 0) 92) >>= f) Q := by
  rw [k0_part20_eq_skeleton]
  refine ldU k.val 744 0 (Nat.lt_succ_self _) (k0_off97_eq k) ?_
  refine ldU k.val 752 0 (Nat.lt_succ_self _) (k0_off98_eq k) ?_
  refine ldU k.val 760 0 (Nat.lt_succ_self _) (k0_off99_eq k) ?_
  refine ldU k.val 768 0 (Nat.lt_succ_self _) (k0_off100_eq k) ?_
  refine ldU k.val 776 0 (Nat.lt_succ_self _) (k0_off101_eq k) ?_
  exact h

theorem t1_21 {R : sProp 𝕄} {Q : α → sProp 𝕄} (k : Fin k0_t1_loop.trips) {arg18 : BitVec 32} {f : (Σ' (v1497 : FVec F S8x256 .f32) (v1499 : FVec F S8x256 .f32) (v1500 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 102), (s2c (tl x0 x1 k.val 0) 102), (mxc (tl x0 x1 k.val 0) 102), (mnc (tl x0 x1 k.val 0) 102)⟩) Q) :
    St c x0 x1 R on (k.val + 1) s1 s2 mx mn ⊢ WP c (ap k0_part21 a2 ha2 a3 ha3 a5 ha5 k arg18 (k0_pay1 on) (s1c (tl x0 x1 k.val 0) (k0_pay1 on) 97) (s2c (tl x0 x1 k.val 0) 97) (mxc (tl x0 x1 k.val 0) 97) (mnc (tl x0 x1 k.val 0) 97) >>= f) Q := by
  rw [k0_part21_eq_skeleton]
  refine ldU k.val 784 0 (Nat.lt_succ_self _) (k0_off102_eq k) ?_
  refine ldU k.val 792 0 (Nat.lt_succ_self _) (k0_off103_eq k) ?_
  refine ldU k.val 800 0 (Nat.lt_succ_self _) (k0_off104_eq k) ?_
  refine ldU k.val 808 0 (Nat.lt_succ_self _) (k0_off105_eq k) ?_
  refine ldU k.val 816 0 (Nat.lt_succ_self _) (k0_off106_eq k) ?_
  exact h

theorem t1_22 {R : sProp 𝕄} {Q : α → sProp 𝕄} (k : Fin k0_t1_loop.trips) {arg18 : BitVec 32} {f : (Σ' (v1547 : FVec F S8x256 .f32) (v1549 : FVec F S8x256 .f32) (v1550 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 107), (s2c (tl x0 x1 k.val 0) 107), (mxc (tl x0 x1 k.val 0) 107), (mnc (tl x0 x1 k.val 0) 107)⟩) Q) :
    St c x0 x1 R on (k.val + 1) s1 s2 mx mn ⊢ WP c (ap k0_part22 a2 ha2 a3 ha3 a5 ha5 k arg18 (k0_pay1 on) (s1c (tl x0 x1 k.val 0) (k0_pay1 on) 102) (s2c (tl x0 x1 k.val 0) 102) (mxc (tl x0 x1 k.val 0) 102) (mnc (tl x0 x1 k.val 0) 102) >>= f) Q := by
  rw [k0_part22_eq_skeleton]
  refine ldU k.val 824 0 (Nat.lt_succ_self _) (k0_off107_eq k) ?_
  refine ldU k.val 832 0 (Nat.lt_succ_self _) (k0_off108_eq k) ?_
  refine ldU k.val 840 0 (Nat.lt_succ_self _) (k0_off109_eq k) ?_
  refine ldU k.val 848 0 (Nat.lt_succ_self _) (k0_off110_eq k) ?_
  refine ldU k.val 856 0 (Nat.lt_succ_self _) (k0_off111_eq k) ?_
  exact h

theorem t1_23 {R : sProp 𝕄} {Q : α → sProp 𝕄} (k : Fin k0_t1_loop.trips) {arg18 : BitVec 32} {f : (Σ' (v1597 : FVec F S8x256 .f32) (v1599 : FVec F S8x256 .f32) (v1600 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 112), (s2c (tl x0 x1 k.val 0) 112), (mxc (tl x0 x1 k.val 0) 112), (mnc (tl x0 x1 k.val 0) 112)⟩) Q) :
    St c x0 x1 R on (k.val + 1) s1 s2 mx mn ⊢ WP c (ap k0_part23 a2 ha2 a3 ha3 a5 ha5 k arg18 (k0_pay1 on) (s1c (tl x0 x1 k.val 0) (k0_pay1 on) 107) (s2c (tl x0 x1 k.val 0) 107) (mxc (tl x0 x1 k.val 0) 107) (mnc (tl x0 x1 k.val 0) 107) >>= f) Q := by
  rw [k0_part23_eq_skeleton]
  refine ldU k.val 864 0 (Nat.lt_succ_self _) (k0_off112_eq k) ?_
  refine ldU k.val 872 0 (Nat.lt_succ_self _) (k0_off113_eq k) ?_
  refine ldU k.val 880 0 (Nat.lt_succ_self _) (k0_off114_eq k) ?_
  refine ldU k.val 888 0 (Nat.lt_succ_self _) (k0_off115_eq k) ?_
  refine ldU k.val 896 0 (Nat.lt_succ_self _) (k0_off116_eq k) ?_
  exact h

theorem t1_24 {R : sProp 𝕄} {Q : α → sProp 𝕄} (k : Fin k0_t1_loop.trips) {arg18 : BitVec 32} {f : (Σ' (v1647 : FVec F S8x256 .f32) (v1649 : FVec F S8x256 .f32) (v1650 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 117), (s2c (tl x0 x1 k.val 0) 117), (mxc (tl x0 x1 k.val 0) 117), (mnc (tl x0 x1 k.val 0) 117)⟩) Q) :
    St c x0 x1 R on (k.val + 1) s1 s2 mx mn ⊢ WP c (ap k0_part24 a2 ha2 a3 ha3 a5 ha5 k arg18 (k0_pay1 on) (s1c (tl x0 x1 k.val 0) (k0_pay1 on) 112) (s2c (tl x0 x1 k.val 0) 112) (mxc (tl x0 x1 k.val 0) 112) (mnc (tl x0 x1 k.val 0) 112) >>= f) Q := by
  rw [k0_part24_eq_skeleton]
  refine ldU k.val 904 0 (Nat.lt_succ_self _) (k0_off117_eq k) ?_
  refine ldU k.val 912 0 (Nat.lt_succ_self _) (k0_off118_eq k) ?_
  refine ldU k.val 920 0 (Nat.lt_succ_self _) (k0_off119_eq k) ?_
  refine ldU k.val 928 0 (Nat.lt_succ_self _) (k0_off120_eq k) ?_
  refine ldU k.val 936 0 (Nat.lt_succ_self _) (k0_off121_eq k) ?_
  exact h

theorem t1_25 {R : sProp 𝕄} {Q : α → sProp 𝕄} (k : Fin k0_t1_loop.trips) {arg18 : BitVec 32} {f : (Σ' (v1697 : FVec F S8x256 .f32) (v1699 : FVec F S8x256 .f32) (v1700 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 122), (s2c (tl x0 x1 k.val 0) 122), (mxc (tl x0 x1 k.val 0) 122), (mnc (tl x0 x1 k.val 0) 122)⟩) Q) :
    St c x0 x1 R on (k.val + 1) s1 s2 mx mn ⊢ WP c (ap k0_part25 a2 ha2 a3 ha3 a5 ha5 k arg18 (k0_pay1 on) (s1c (tl x0 x1 k.val 0) (k0_pay1 on) 117) (s2c (tl x0 x1 k.val 0) 117) (mxc (tl x0 x1 k.val 0) 117) (mnc (tl x0 x1 k.val 0) 117) >>= f) Q := by
  rw [k0_part25_eq_skeleton]
  refine ldU k.val 944 0 (Nat.lt_succ_self _) (k0_off122_eq k) ?_
  refine ldU k.val 952 0 (Nat.lt_succ_self _) (k0_off123_eq k) ?_
  refine ldU k.val 960 0 (Nat.lt_succ_self _) (k0_off124_eq k) ?_
  refine ldU k.val 968 0 (Nat.lt_succ_self _) (k0_off125_eq k) ?_
  refine ldU k.val 976 0 (Nat.lt_succ_self _) (k0_off126_eq k) ?_
  exact h

theorem t1_26 {R : sProp 𝕄} {Q : α → sProp 𝕄} (k : Fin k0_t1_loop.trips) {arg18 : BitVec 32} {f : (Σ' (v1747 : FVec F S8x256 .f32) (v1749 : FVec F S8x256 .f32) (v1750 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 0) (k0_pay1 on) 127), (s2c (tl x0 x1 k.val 0) 127), (mxc (tl x0 x1 k.val 0) 127), (mnc (tl x0 x1 k.val 0) 127)⟩) Q) :
    St c x0 x1 R on (k.val + 1) s1 s2 mx mn ⊢ WP c (ap k0_part26 a2 ha2 a3 ha3 a5 ha5 k arg18 (k0_pay1 on) (s1c (tl x0 x1 k.val 0) (k0_pay1 on) 122) (s2c (tl x0 x1 k.val 0) 122) (mxc (tl x0 x1 k.val 0) 122) (mnc (tl x0 x1 k.val 0) 122) >>= f) Q := by
  rw [k0_part26_eq_skeleton]
  refine ldU k.val 984 0 (Nat.lt_succ_self _) (k0_off127_eq k) ?_
  refine ldU k.val 992 0 (Nat.lt_succ_self _) (k0_off128_eq k) ?_
  refine ldU k.val 1000 0 (Nat.lt_succ_self _) (k0_off129_eq k) ?_
  refine ldU k.val 1008 0 (Nat.lt_succ_self _) (k0_off130_eq k) ?_
  refine ldU k.val 1016 0 (Nat.lt_succ_self _) (k0_off131_eq k) ?_
  exact h

theorem t1_27 {R : sProp 𝕄} {Q : α → sProp 𝕄} (k : Fin k0_t1_loop.trips) {arg18 : BitVec 32} {f : (Σ' (v1780 : FVec F S8x256 .bf16) (v1786 : FVec F S8x256 .bf16) (v1789 : FVec F S8x256 .f32) (v1791 : FVec F S8x256 .f32), FVec F S8x256 .bf16) → Prog (TpuEff nD τ sig (Elt F) Λ₀ .tc) α}
    (h : St c x0 x1 R on (k.val + 1) (wr4 mS1 s1 (k0_off132 k) (k0_off132_inb k) (k0_pay362 (s1c (tl x0 x1 k.val 0) (k0_pay1 on) 127))) (wr4 mS2 s2 (k0_off132 k) (k0_off132_inb k) (k0_pay362 (s2c (tl x0 x1 k.val 0) 127))) (wr4 mMx mx (k0_off132 k) (k0_off132_inb k) (k0_pay364 (mxc (tl x0 x1 k.val 0) 127))) (wr4 mMn mn (k0_off132 k) (k0_off132_inb k) (finMn (mnc (tl x0 x1 k.val 0) 127))) ⊢ WP c (f ⟨(cB (tl x0 x1 k.val 1) 0), (cB (tl x0 x1 k.val 1) 1), (s1c (tl x0 x1 k.val 1) (k0_pay1 on) 1), (s2c (tl x0 x1 k.val 1) 1), (mxc (tl x0 x1 k.val 1) 1)⟩) Q) :
    St c x0 x1 R on (k.val + 1) s1 s2 mx mn ⊢ WP c (ap k0_part27 a2 ha2 a3 ha3 a5 ha5 k arg18 (k0_pay1 on) (s1c (tl x0 x1 k.val 0) (k0_pay1 on) 127) (s2c (tl x0 x1 k.val 0) 127) (mxc (tl x0 x1 k.val 0) 127) (mnc (tl x0 x1 k.val 0) 127) >>= f) Q := by
  rw [k0_part27_eq_skeleton]
  refine ddS1 ?_
  refine stS1 ?_
  refine ddS2 ?_
  refine stS2 ?_
  refine ddMx ?_
  refine stMx ?_
  refine ddMn ?_
  refine stMn ?_
  refine ldU k.val 0 256 (Nat.lt_succ_self _) (k0_off133_eq k) ?_
  refine ldU k.val 8 256 (Nat.lt_succ_self _) (k0_off134_eq k) ?_
  exact h

theorem t1_28 {R : sProp 𝕄} {Q : α → sProp 𝕄} (k : Fin k0_t1_loop.trips) {arg18 : BitVec 32} {f : (Σ' (v1833 : FVec F S8x256 .bf16) (v1836 : FVec F S8x256 .bf16) (v1839 : FVec F S8x256 .f32) (v1841 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 5), (cB (tl x0 x1 k.val 1) 6), (s1c (tl x0 x1 k.val 1) (k0_pay1 on) 6), (s2c (tl x0 x1 k.val 1) 6), (mxc (tl x0 x1 k.val 1) 6)⟩) Q) :
    St c x0 x1 R on (k.val + 1) s1 s2 mx mn ⊢ WP c (ap k0_part28 a2 ha2 a3 ha3 a5 ha5 k arg18 (k0_pay1 on) (cB (tl x0 x1 k.val 1) 0) (cB (tl x0 x1 k.val 1) 1) (s1c (tl x0 x1 k.val 1) (k0_pay1 on) 1) (s2c (tl x0 x1 k.val 1) 1) (mxc (tl x0 x1 k.val 1) 1) >>= f) Q := by
  rw [k0_part28_eq_skeleton]
  refine ldU k.val 16 256 (Nat.lt_succ_self _) (k0_off135_eq k) ?_
  refine ldU k.val 24 256 (Nat.lt_succ_self _) (k0_off136_eq k) ?_
  refine ldU k.val 32 256 (Nat.lt_succ_self _) (k0_off137_eq k) ?_
  refine ldU k.val 40 256 (Nat.lt_succ_self _) (k0_off138_eq k) ?_
  refine ldU k.val 48 256 (Nat.lt_succ_self _) (k0_off139_eq k) ?_
  exact h

theorem t1_29 {R : sProp 𝕄} {Q : α → sProp 𝕄} (k : Fin k0_t1_loop.trips) {arg18 : BitVec 32} {f : (Σ' (v1883 : FVec F S8x256 .bf16) (v1886 : FVec F S8x256 .bf16) (v1889 : FVec F S8x256 .f32) (v1891 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 10), (cB (tl x0 x1 k.val 1) 11), (s1c (tl x0 x1 k.val 1) (k0_pay1 on) 11), (s2c (tl x0 x1 k.val 1) 11), (mxc (tl x0 x1 k.val 1) 11)⟩) Q) :
    St c x0 x1 R on (k.val + 1) s1 s2 mx mn ⊢ WP c (ap k0_part29 a2 ha2 a3 ha3 a5 ha5 k arg18 (k0_pay1 on) (mnc (tl x0 x1 k.val 1) 5) (cB (tl x0 x1 k.val 1) 6) (s1c (tl x0 x1 k.val 1) (k0_pay1 on) 6) (s2c (tl x0 x1 k.val 1) 6) (mxc (tl x0 x1 k.val 1) 6) >>= f) Q := by
  rw [k0_part29_eq_skeleton]
  refine ldU k.val 56 256 (Nat.lt_succ_self _) (k0_off140_eq k) ?_
  refine ldU k.val 64 256 (Nat.lt_succ_self _) (k0_off141_eq k) ?_
  refine ldU k.val 72 256 (Nat.lt_succ_self _) (k0_off142_eq k) ?_
  refine ldU k.val 80 256 (Nat.lt_succ_self _) (k0_off143_eq k) ?_
  refine ldU k.val 88 256 (Nat.lt_succ_self _) (k0_off144_eq k) ?_
  exact h

theorem t1_30 {R : sProp 𝕄} {Q : α → sProp 𝕄} (k : Fin k0_t1_loop.trips) {arg18 : BitVec 32} {f : (Σ' (v1933 : FVec F S8x256 .bf16) (v1936 : FVec F S8x256 .bf16) (v1939 : FVec F S8x256 .f32) (v1941 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 15), (cB (tl x0 x1 k.val 1) 16), (s1c (tl x0 x1 k.val 1) (k0_pay1 on) 16), (s2c (tl x0 x1 k.val 1) 16), (mxc (tl x0 x1 k.val 1) 16)⟩) Q) :
    St c x0 x1 R on (k.val + 1) s1 s2 mx mn ⊢ WP c (ap k0_part30 a2 ha2 a3 ha3 a5 ha5 k arg18 (k0_pay1 on) (mnc (tl x0 x1 k.val 1) 10) (cB (tl x0 x1 k.val 1) 11) (s1c (tl x0 x1 k.val 1) (k0_pay1 on) 11) (s2c (tl x0 x1 k.val 1) 11) (mxc (tl x0 x1 k.val 1) 11) >>= f) Q := by
  rw [k0_part30_eq_skeleton]
  refine ldU k.val 96 256 (Nat.lt_succ_self _) (k0_off145_eq k) ?_
  refine ldU k.val 104 256 (Nat.lt_succ_self _) (k0_off146_eq k) ?_
  refine ldU k.val 112 256 (Nat.lt_succ_self _) (k0_off147_eq k) ?_
  refine ldU k.val 120 256 (Nat.lt_succ_self _) (k0_off148_eq k) ?_
  refine ldU k.val 128 256 (Nat.lt_succ_self _) (k0_off149_eq k) ?_
  exact h

theorem t1_31 {R : sProp 𝕄} {Q : α → sProp 𝕄} (k : Fin k0_t1_loop.trips) {arg18 : BitVec 32} {f : (Σ' (v1983 : FVec F S8x256 .bf16) (v1986 : FVec F S8x256 .bf16) (v1989 : FVec F S8x256 .f32) (v1991 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 20), (cB (tl x0 x1 k.val 1) 21), (s1c (tl x0 x1 k.val 1) (k0_pay1 on) 21), (s2c (tl x0 x1 k.val 1) 21), (mxc (tl x0 x1 k.val 1) 21)⟩) Q) :
    St c x0 x1 R on (k.val + 1) s1 s2 mx mn ⊢ WP c (ap k0_part31 a2 ha2 a3 ha3 a5 ha5 k arg18 (k0_pay1 on) (mnc (tl x0 x1 k.val 1) 15) (cB (tl x0 x1 k.val 1) 16) (s1c (tl x0 x1 k.val 1) (k0_pay1 on) 16) (s2c (tl x0 x1 k.val 1) 16) (mxc (tl x0 x1 k.val 1) 16) >>= f) Q := by
  rw [k0_part31_eq_skeleton]
  refine ldU k.val 136 256 (Nat.lt_succ_self _) (k0_off150_eq k) ?_
  refine ldU k.val 144 256 (Nat.lt_succ_self _) (k0_off151_eq k) ?_
  refine ldU k.val 152 256 (Nat.lt_succ_self _) (k0_off152_eq k) ?_
  refine ldU k.val 160 256 (Nat.lt_succ_self _) (k0_off153_eq k) ?_
  refine ldU k.val 168 256 (Nat.lt_succ_self _) (k0_off154_eq k) ?_
  exact h

theorem t1_32 {R : sProp 𝕄} {Q : α → sProp 𝕄} (k : Fin k0_t1_loop.trips) {arg18 : BitVec 32} {f : (Σ' (v2033 : FVec F S8x256 .bf16) (v2036 : FVec F S8x256 .bf16) (v2039 : FVec F S8x256 .f32) (v2041 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 25), (cB (tl x0 x1 k.val 1) 26), (s1c (tl x0 x1 k.val 1) (k0_pay1 on) 26), (s2c (tl x0 x1 k.val 1) 26), (mxc (tl x0 x1 k.val 1) 26)⟩) Q) :
    St c x0 x1 R on (k.val + 1) s1 s2 mx mn ⊢ WP c (ap k0_part32 a2 ha2 a3 ha3 a5 ha5 k arg18 (k0_pay1 on) (mnc (tl x0 x1 k.val 1) 20) (cB (tl x0 x1 k.val 1) 21) (s1c (tl x0 x1 k.val 1) (k0_pay1 on) 21) (s2c (tl x0 x1 k.val 1) 21) (mxc (tl x0 x1 k.val 1) 21) >>= f) Q := by
  rw [k0_part32_eq_skeleton]
  refine ldU k.val 176 256 (Nat.lt_succ_self _) (k0_off155_eq k) ?_
  refine ldU k.val 184 256 (Nat.lt_succ_self _) (k0_off156_eq k) ?_
  refine ldU k.val 192 256 (Nat.lt_succ_self _) (k0_off157_eq k) ?_
  refine ldU k.val 200 256 (Nat.lt_succ_self _) (k0_off158_eq k) ?_
  refine ldU k.val 208 256 (Nat.lt_succ_self _) (k0_off159_eq k) ?_
  exact h

theorem t1_33 {R : sProp 𝕄} {Q : α → sProp 𝕄} (k : Fin k0_t1_loop.trips) {arg18 : BitVec 32} {f : (Σ' (v2083 : FVec F S8x256 .bf16) (v2086 : FVec F S8x256 .bf16) (v2089 : FVec F S8x256 .f32) (v2091 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 30), (cB (tl x0 x1 k.val 1) 31), (s1c (tl x0 x1 k.val 1) (k0_pay1 on) 31), (s2c (tl x0 x1 k.val 1) 31), (mxc (tl x0 x1 k.val 1) 31)⟩) Q) :
    St c x0 x1 R on (k.val + 1) s1 s2 mx mn ⊢ WP c (ap k0_part33 a2 ha2 a3 ha3 a5 ha5 k arg18 (k0_pay1 on) (mnc (tl x0 x1 k.val 1) 25) (cB (tl x0 x1 k.val 1) 26) (s1c (tl x0 x1 k.val 1) (k0_pay1 on) 26) (s2c (tl x0 x1 k.val 1) 26) (mxc (tl x0 x1 k.val 1) 26) >>= f) Q := by
  rw [k0_part33_eq_skeleton]
  refine ldU k.val 216 256 (Nat.lt_succ_self _) (k0_off160_eq k) ?_
  refine ldU k.val 224 256 (Nat.lt_succ_self _) (k0_off161_eq k) ?_
  refine ldU k.val 232 256 (Nat.lt_succ_self _) (k0_off162_eq k) ?_
  refine ldU k.val 240 256 (Nat.lt_succ_self _) (k0_off163_eq k) ?_
  refine ldU k.val 248 256 (Nat.lt_succ_self _) (k0_off164_eq k) ?_
  exact h

theorem t1_34 {R : sProp 𝕄} {Q : α → sProp 𝕄} (k : Fin k0_t1_loop.trips) {arg18 : BitVec 32} {f : (Σ' (v2133 : FVec F S8x256 .bf16) (v2136 : FVec F S8x256 .bf16) (v2139 : FVec F S8x256 .f32) (v2141 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 35), (cB (tl x0 x1 k.val 1) 36), (s1c (tl x0 x1 k.val 1) (k0_pay1 on) 36), (s2c (tl x0 x1 k.val 1) 36), (mxc (tl x0 x1 k.val 1) 36)⟩) Q) :
    St c x0 x1 R on (k.val + 1) s1 s2 mx mn ⊢ WP c (ap k0_part34 a2 ha2 a3 ha3 a5 ha5 k arg18 (k0_pay1 on) (mnc (tl x0 x1 k.val 1) 30) (cB (tl x0 x1 k.val 1) 31) (s1c (tl x0 x1 k.val 1) (k0_pay1 on) 31) (s2c (tl x0 x1 k.val 1) 31) (mxc (tl x0 x1 k.val 1) 31) >>= f) Q := by
  rw [k0_part34_eq_skeleton]
  refine ldU k.val 256 256 (Nat.lt_succ_self _) (k0_off165_eq k) ?_
  refine ldU k.val 264 256 (Nat.lt_succ_self _) (k0_off166_eq k) ?_
  refine ldU k.val 272 256 (Nat.lt_succ_self _) (k0_off167_eq k) ?_
  refine ldU k.val 280 256 (Nat.lt_succ_self _) (k0_off168_eq k) ?_
  refine ldU k.val 288 256 (Nat.lt_succ_self _) (k0_off169_eq k) ?_
  exact h

theorem t1_35 {R : sProp 𝕄} {Q : α → sProp 𝕄} (k : Fin k0_t1_loop.trips) {arg18 : BitVec 32} {f : (Σ' (v2183 : FVec F S8x256 .bf16) (v2186 : FVec F S8x256 .bf16) (v2189 : FVec F S8x256 .f32) (v2191 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 40), (cB (tl x0 x1 k.val 1) 41), (s1c (tl x0 x1 k.val 1) (k0_pay1 on) 41), (s2c (tl x0 x1 k.val 1) 41), (mxc (tl x0 x1 k.val 1) 41)⟩) Q) :
    St c x0 x1 R on (k.val + 1) s1 s2 mx mn ⊢ WP c (ap k0_part35 a2 ha2 a3 ha3 a5 ha5 k arg18 (k0_pay1 on) (mnc (tl x0 x1 k.val 1) 35) (cB (tl x0 x1 k.val 1) 36) (s1c (tl x0 x1 k.val 1) (k0_pay1 on) 36) (s2c (tl x0 x1 k.val 1) 36) (mxc (tl x0 x1 k.val 1) 36) >>= f) Q := by
  rw [k0_part35_eq_skeleton]
  refine ldU k.val 296 256 (Nat.lt_succ_self _) (k0_off170_eq k) ?_
  refine ldU k.val 304 256 (Nat.lt_succ_self _) (k0_off171_eq k) ?_
  refine ldU k.val 312 256 (Nat.lt_succ_self _) (k0_off172_eq k) ?_
  refine ldU k.val 320 256 (Nat.lt_succ_self _) (k0_off173_eq k) ?_
  refine ldU k.val 328 256 (Nat.lt_succ_self _) (k0_off174_eq k) ?_
  exact h

theorem t1_36 {R : sProp 𝕄} {Q : α → sProp 𝕄} (k : Fin k0_t1_loop.trips) {arg18 : BitVec 32} {f : (Σ' (v2233 : FVec F S8x256 .bf16) (v2236 : FVec F S8x256 .bf16) (v2239 : FVec F S8x256 .f32) (v2241 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 45), (cB (tl x0 x1 k.val 1) 46), (s1c (tl x0 x1 k.val 1) (k0_pay1 on) 46), (s2c (tl x0 x1 k.val 1) 46), (mxc (tl x0 x1 k.val 1) 46)⟩) Q) :
    St c x0 x1 R on (k.val + 1) s1 s2 mx mn ⊢ WP c (ap k0_part36 a2 ha2 a3 ha3 a5 ha5 k arg18 (k0_pay1 on) (mnc (tl x0 x1 k.val 1) 40) (cB (tl x0 x1 k.val 1) 41) (s1c (tl x0 x1 k.val 1) (k0_pay1 on) 41) (s2c (tl x0 x1 k.val 1) 41) (mxc (tl x0 x1 k.val 1) 41) >>= f) Q := by
  rw [k0_part36_eq_skeleton]
  refine ldU k.val 336 256 (Nat.lt_succ_self _) (k0_off175_eq k) ?_
  refine ldU k.val 344 256 (Nat.lt_succ_self _) (k0_off176_eq k) ?_
  refine ldU k.val 352 256 (Nat.lt_succ_self _) (k0_off177_eq k) ?_
  refine ldU k.val 360 256 (Nat.lt_succ_self _) (k0_off178_eq k) ?_
  refine ldU k.val 368 256 (Nat.lt_succ_self _) (k0_off179_eq k) ?_
  exact h

theorem t1_37 {R : sProp 𝕄} {Q : α → sProp 𝕄} (k : Fin k0_t1_loop.trips) {arg18 : BitVec 32} {f : (Σ' (v2283 : FVec F S8x256 .bf16) (v2286 : FVec F S8x256 .bf16) (v2289 : FVec F S8x256 .f32) (v2291 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 50), (cB (tl x0 x1 k.val 1) 51), (s1c (tl x0 x1 k.val 1) (k0_pay1 on) 51), (s2c (tl x0 x1 k.val 1) 51), (mxc (tl x0 x1 k.val 1) 51)⟩) Q) :
    St c x0 x1 R on (k.val + 1) s1 s2 mx mn ⊢ WP c (ap k0_part37 a2 ha2 a3 ha3 a5 ha5 k arg18 (k0_pay1 on) (mnc (tl x0 x1 k.val 1) 45) (cB (tl x0 x1 k.val 1) 46) (s1c (tl x0 x1 k.val 1) (k0_pay1 on) 46) (s2c (tl x0 x1 k.val 1) 46) (mxc (tl x0 x1 k.val 1) 46) >>= f) Q := by
  rw [k0_part37_eq_skeleton]
  refine ldU k.val 376 256 (Nat.lt_succ_self _) (k0_off180_eq k) ?_
  refine ldU k.val 384 256 (Nat.lt_succ_self _) (k0_off181_eq k) ?_
  refine ldU k.val 392 256 (Nat.lt_succ_self _) (k0_off182_eq k) ?_
  refine ldU k.val 400 256 (Nat.lt_succ_self _) (k0_off183_eq k) ?_
  refine ldU k.val 408 256 (Nat.lt_succ_self _) (k0_off184_eq k) ?_
  exact h

theorem t1_38 {R : sProp 𝕄} {Q : α → sProp 𝕄} (k : Fin k0_t1_loop.trips) {arg18 : BitVec 32} {f : (Σ' (v2333 : FVec F S8x256 .bf16) (v2336 : FVec F S8x256 .bf16) (v2339 : FVec F S8x256 .f32) (v2341 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 55), (cB (tl x0 x1 k.val 1) 56), (s1c (tl x0 x1 k.val 1) (k0_pay1 on) 56), (s2c (tl x0 x1 k.val 1) 56), (mxc (tl x0 x1 k.val 1) 56)⟩) Q) :
    St c x0 x1 R on (k.val + 1) s1 s2 mx mn ⊢ WP c (ap k0_part38 a2 ha2 a3 ha3 a5 ha5 k arg18 (k0_pay1 on) (mnc (tl x0 x1 k.val 1) 50) (cB (tl x0 x1 k.val 1) 51) (s1c (tl x0 x1 k.val 1) (k0_pay1 on) 51) (s2c (tl x0 x1 k.val 1) 51) (mxc (tl x0 x1 k.val 1) 51) >>= f) Q := by
  rw [k0_part38_eq_skeleton]
  refine ldU k.val 416 256 (Nat.lt_succ_self _) (k0_off185_eq k) ?_
  refine ldU k.val 424 256 (Nat.lt_succ_self _) (k0_off186_eq k) ?_
  refine ldU k.val 432 256 (Nat.lt_succ_self _) (k0_off187_eq k) ?_
  refine ldU k.val 440 256 (Nat.lt_succ_self _) (k0_off188_eq k) ?_
  refine ldU k.val 448 256 (Nat.lt_succ_self _) (k0_off189_eq k) ?_
  exact h

theorem t1_39 {R : sProp 𝕄} {Q : α → sProp 𝕄} (k : Fin k0_t1_loop.trips) {arg18 : BitVec 32} {f : (Σ' (v2383 : FVec F S8x256 .bf16) (v2386 : FVec F S8x256 .bf16) (v2389 : FVec F S8x256 .f32) (v2391 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 60), (cB (tl x0 x1 k.val 1) 61), (s1c (tl x0 x1 k.val 1) (k0_pay1 on) 61), (s2c (tl x0 x1 k.val 1) 61), (mxc (tl x0 x1 k.val 1) 61)⟩) Q) :
    St c x0 x1 R on (k.val + 1) s1 s2 mx mn ⊢ WP c (ap k0_part39 a2 ha2 a3 ha3 a5 ha5 k arg18 (k0_pay1 on) (mnc (tl x0 x1 k.val 1) 55) (cB (tl x0 x1 k.val 1) 56) (s1c (tl x0 x1 k.val 1) (k0_pay1 on) 56) (s2c (tl x0 x1 k.val 1) 56) (mxc (tl x0 x1 k.val 1) 56) >>= f) Q := by
  rw [k0_part39_eq_skeleton]
  refine ldU k.val 456 256 (Nat.lt_succ_self _) (k0_off190_eq k) ?_
  refine ldU k.val 464 256 (Nat.lt_succ_self _) (k0_off191_eq k) ?_
  refine ldU k.val 472 256 (Nat.lt_succ_self _) (k0_off192_eq k) ?_
  refine ldU k.val 480 256 (Nat.lt_succ_self _) (k0_off193_eq k) ?_
  refine ldU k.val 488 256 (Nat.lt_succ_self _) (k0_off194_eq k) ?_
  exact h

theorem t1_40 {R : sProp 𝕄} {Q : α → sProp 𝕄} (k : Fin k0_t1_loop.trips) {arg18 : BitVec 32} {f : (Σ' (v2433 : FVec F S8x256 .bf16) (v2436 : FVec F S8x256 .bf16) (v2439 : FVec F S8x256 .f32) (v2441 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 65), (cB (tl x0 x1 k.val 1) 66), (s1c (tl x0 x1 k.val 1) (k0_pay1 on) 66), (s2c (tl x0 x1 k.val 1) 66), (mxc (tl x0 x1 k.val 1) 66)⟩) Q) :
    St c x0 x1 R on (k.val + 1) s1 s2 mx mn ⊢ WP c (ap k0_part40 a2 ha2 a3 ha3 a5 ha5 k arg18 (k0_pay1 on) (mnc (tl x0 x1 k.val 1) 60) (cB (tl x0 x1 k.val 1) 61) (s1c (tl x0 x1 k.val 1) (k0_pay1 on) 61) (s2c (tl x0 x1 k.val 1) 61) (mxc (tl x0 x1 k.val 1) 61) >>= f) Q := by
  rw [k0_part40_eq_skeleton]
  refine ldU k.val 496 256 (Nat.lt_succ_self _) (k0_off195_eq k) ?_
  refine ldU k.val 504 256 (Nat.lt_succ_self _) (k0_off196_eq k) ?_
  refine ldU k.val 512 256 (Nat.lt_succ_self _) (k0_off197_eq k) ?_
  refine ldU k.val 520 256 (Nat.lt_succ_self _) (k0_off198_eq k) ?_
  refine ldU k.val 528 256 (Nat.lt_succ_self _) (k0_off199_eq k) ?_
  exact h

theorem t1_41 {R : sProp 𝕄} {Q : α → sProp 𝕄} (k : Fin k0_t1_loop.trips) {arg18 : BitVec 32} {f : (Σ' (v2483 : FVec F S8x256 .bf16) (v2486 : FVec F S8x256 .bf16) (v2489 : FVec F S8x256 .f32) (v2491 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 70), (cB (tl x0 x1 k.val 1) 71), (s1c (tl x0 x1 k.val 1) (k0_pay1 on) 71), (s2c (tl x0 x1 k.val 1) 71), (mxc (tl x0 x1 k.val 1) 71)⟩) Q) :
    St c x0 x1 R on (k.val + 1) s1 s2 mx mn ⊢ WP c (ap k0_part41 a2 ha2 a3 ha3 a5 ha5 k arg18 (k0_pay1 on) (mnc (tl x0 x1 k.val 1) 65) (cB (tl x0 x1 k.val 1) 66) (s1c (tl x0 x1 k.val 1) (k0_pay1 on) 66) (s2c (tl x0 x1 k.val 1) 66) (mxc (tl x0 x1 k.val 1) 66) >>= f) Q := by
  rw [k0_part41_eq_skeleton]
  refine ldU k.val 536 256 (Nat.lt_succ_self _) (k0_off200_eq k) ?_
  refine ldU k.val 544 256 (Nat.lt_succ_self _) (k0_off201_eq k) ?_
  refine ldU k.val 552 256 (Nat.lt_succ_self _) (k0_off202_eq k) ?_
  refine ldU k.val 560 256 (Nat.lt_succ_self _) (k0_off203_eq k) ?_
  refine ldU k.val 568 256 (Nat.lt_succ_self _) (k0_off204_eq k) ?_
  exact h

theorem t1_42 {R : sProp 𝕄} {Q : α → sProp 𝕄} (k : Fin k0_t1_loop.trips) {arg18 : BitVec 32} {f : (Σ' (v2533 : FVec F S8x256 .bf16) (v2536 : FVec F S8x256 .bf16) (v2539 : FVec F S8x256 .f32) (v2541 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 75), (cB (tl x0 x1 k.val 1) 76), (s1c (tl x0 x1 k.val 1) (k0_pay1 on) 76), (s2c (tl x0 x1 k.val 1) 76), (mxc (tl x0 x1 k.val 1) 76)⟩) Q) :
    St c x0 x1 R on (k.val + 1) s1 s2 mx mn ⊢ WP c (ap k0_part42 a2 ha2 a3 ha3 a5 ha5 k arg18 (k0_pay1 on) (mnc (tl x0 x1 k.val 1) 70) (cB (tl x0 x1 k.val 1) 71) (s1c (tl x0 x1 k.val 1) (k0_pay1 on) 71) (s2c (tl x0 x1 k.val 1) 71) (mxc (tl x0 x1 k.val 1) 71) >>= f) Q := by
  rw [k0_part42_eq_skeleton]
  refine ldU k.val 576 256 (Nat.lt_succ_self _) (k0_off205_eq k) ?_
  refine ldU k.val 584 256 (Nat.lt_succ_self _) (k0_off206_eq k) ?_
  refine ldU k.val 592 256 (Nat.lt_succ_self _) (k0_off207_eq k) ?_
  refine ldU k.val 600 256 (Nat.lt_succ_self _) (k0_off208_eq k) ?_
  refine ldU k.val 608 256 (Nat.lt_succ_self _) (k0_off209_eq k) ?_
  exact h

theorem t1_43 {R : sProp 𝕄} {Q : α → sProp 𝕄} (k : Fin k0_t1_loop.trips) {arg18 : BitVec 32} {f : (Σ' (v2583 : FVec F S8x256 .bf16) (v2586 : FVec F S8x256 .bf16) (v2589 : FVec F S8x256 .f32) (v2591 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 80), (cB (tl x0 x1 k.val 1) 81), (s1c (tl x0 x1 k.val 1) (k0_pay1 on) 81), (s2c (tl x0 x1 k.val 1) 81), (mxc (tl x0 x1 k.val 1) 81)⟩) Q) :
    St c x0 x1 R on (k.val + 1) s1 s2 mx mn ⊢ WP c (ap k0_part43 a2 ha2 a3 ha3 a5 ha5 k arg18 (k0_pay1 on) (mnc (tl x0 x1 k.val 1) 75) (cB (tl x0 x1 k.val 1) 76) (s1c (tl x0 x1 k.val 1) (k0_pay1 on) 76) (s2c (tl x0 x1 k.val 1) 76) (mxc (tl x0 x1 k.val 1) 76) >>= f) Q := by
  rw [k0_part43_eq_skeleton]
  refine ldU k.val 616 256 (Nat.lt_succ_self _) (k0_off210_eq k) ?_
  refine ldU k.val 624 256 (Nat.lt_succ_self _) (k0_off211_eq k) ?_
  refine ldU k.val 632 256 (Nat.lt_succ_self _) (k0_off212_eq k) ?_
  refine ldU k.val 640 256 (Nat.lt_succ_self _) (k0_off213_eq k) ?_
  refine ldU k.val 648 256 (Nat.lt_succ_self _) (k0_off214_eq k) ?_
  exact h

theorem t1_44 {R : sProp 𝕄} {Q : α → sProp 𝕄} (k : Fin k0_t1_loop.trips) {arg18 : BitVec 32} {f : (Σ' (v2633 : FVec F S8x256 .bf16) (v2636 : FVec F S8x256 .bf16) (v2639 : FVec F S8x256 .f32) (v2641 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 85), (cB (tl x0 x1 k.val 1) 86), (s1c (tl x0 x1 k.val 1) (k0_pay1 on) 86), (s2c (tl x0 x1 k.val 1) 86), (mxc (tl x0 x1 k.val 1) 86)⟩) Q) :
    St c x0 x1 R on (k.val + 1) s1 s2 mx mn ⊢ WP c (ap k0_part44 a2 ha2 a3 ha3 a5 ha5 k arg18 (k0_pay1 on) (mnc (tl x0 x1 k.val 1) 80) (cB (tl x0 x1 k.val 1) 81) (s1c (tl x0 x1 k.val 1) (k0_pay1 on) 81) (s2c (tl x0 x1 k.val 1) 81) (mxc (tl x0 x1 k.val 1) 81) >>= f) Q := by
  rw [k0_part44_eq_skeleton]
  refine ldU k.val 656 256 (Nat.lt_succ_self _) (k0_off215_eq k) ?_
  refine ldU k.val 664 256 (Nat.lt_succ_self _) (k0_off216_eq k) ?_
  refine ldU k.val 672 256 (Nat.lt_succ_self _) (k0_off217_eq k) ?_
  refine ldU k.val 680 256 (Nat.lt_succ_self _) (k0_off218_eq k) ?_
  refine ldU k.val 688 256 (Nat.lt_succ_self _) (k0_off219_eq k) ?_
  exact h

theorem t1_45 {R : sProp 𝕄} {Q : α → sProp 𝕄} (k : Fin k0_t1_loop.trips) {arg18 : BitVec 32} {f : (Σ' (v2683 : FVec F S8x256 .bf16) (v2686 : FVec F S8x256 .bf16) (v2689 : FVec F S8x256 .f32) (v2691 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 90), (cB (tl x0 x1 k.val 1) 91), (s1c (tl x0 x1 k.val 1) (k0_pay1 on) 91), (s2c (tl x0 x1 k.val 1) 91), (mxc (tl x0 x1 k.val 1) 91)⟩) Q) :
    St c x0 x1 R on (k.val + 1) s1 s2 mx mn ⊢ WP c (ap k0_part45 a2 ha2 a3 ha3 a5 ha5 k arg18 (k0_pay1 on) (mnc (tl x0 x1 k.val 1) 85) (cB (tl x0 x1 k.val 1) 86) (s1c (tl x0 x1 k.val 1) (k0_pay1 on) 86) (s2c (tl x0 x1 k.val 1) 86) (mxc (tl x0 x1 k.val 1) 86) >>= f) Q := by
  rw [k0_part45_eq_skeleton]
  refine ldU k.val 696 256 (Nat.lt_succ_self _) (k0_off220_eq k) ?_
  refine ldU k.val 704 256 (Nat.lt_succ_self _) (k0_off221_eq k) ?_
  refine ldU k.val 712 256 (Nat.lt_succ_self _) (k0_off222_eq k) ?_
  refine ldU k.val 720 256 (Nat.lt_succ_self _) (k0_off223_eq k) ?_
  refine ldU k.val 728 256 (Nat.lt_succ_self _) (k0_off224_eq k) ?_
  exact h

theorem t1_46 {R : sProp 𝕄} {Q : α → sProp 𝕄} (k : Fin k0_t1_loop.trips) {arg18 : BitVec 32} {f : (Σ' (v2733 : FVec F S8x256 .bf16) (v2736 : FVec F S8x256 .bf16) (v2739 : FVec F S8x256 .f32) (v2741 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 95), (cB (tl x0 x1 k.val 1) 96), (s1c (tl x0 x1 k.val 1) (k0_pay1 on) 96), (s2c (tl x0 x1 k.val 1) 96), (mxc (tl x0 x1 k.val 1) 96)⟩) Q) :
    St c x0 x1 R on (k.val + 1) s1 s2 mx mn ⊢ WP c (ap k0_part46 a2 ha2 a3 ha3 a5 ha5 k arg18 (k0_pay1 on) (mnc (tl x0 x1 k.val 1) 90) (cB (tl x0 x1 k.val 1) 91) (s1c (tl x0 x1 k.val 1) (k0_pay1 on) 91) (s2c (tl x0 x1 k.val 1) 91) (mxc (tl x0 x1 k.val 1) 91) >>= f) Q := by
  rw [k0_part46_eq_skeleton]
  refine ldU k.val 736 256 (Nat.lt_succ_self _) (k0_off225_eq k) ?_
  refine ldU k.val 744 256 (Nat.lt_succ_self _) (k0_off226_eq k) ?_
  refine ldU k.val 752 256 (Nat.lt_succ_self _) (k0_off227_eq k) ?_
  refine ldU k.val 760 256 (Nat.lt_succ_self _) (k0_off228_eq k) ?_
  refine ldU k.val 768 256 (Nat.lt_succ_self _) (k0_off229_eq k) ?_
  exact h

theorem t1_47 {R : sProp 𝕄} {Q : α → sProp 𝕄} (k : Fin k0_t1_loop.trips) {arg18 : BitVec 32} {f : (Σ' (v2783 : FVec F S8x256 .bf16) (v2786 : FVec F S8x256 .bf16) (v2789 : FVec F S8x256 .f32) (v2791 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 100), (cB (tl x0 x1 k.val 1) 101), (s1c (tl x0 x1 k.val 1) (k0_pay1 on) 101), (s2c (tl x0 x1 k.val 1) 101), (mxc (tl x0 x1 k.val 1) 101)⟩) Q) :
    St c x0 x1 R on (k.val + 1) s1 s2 mx mn ⊢ WP c (ap k0_part47 a2 ha2 a3 ha3 a5 ha5 k arg18 (k0_pay1 on) (mnc (tl x0 x1 k.val 1) 95) (cB (tl x0 x1 k.val 1) 96) (s1c (tl x0 x1 k.val 1) (k0_pay1 on) 96) (s2c (tl x0 x1 k.val 1) 96) (mxc (tl x0 x1 k.val 1) 96) >>= f) Q := by
  rw [k0_part47_eq_skeleton]
  refine ldU k.val 776 256 (Nat.lt_succ_self _) (k0_off230_eq k) ?_
  refine ldU k.val 784 256 (Nat.lt_succ_self _) (k0_off231_eq k) ?_
  refine ldU k.val 792 256 (Nat.lt_succ_self _) (k0_off232_eq k) ?_
  refine ldU k.val 800 256 (Nat.lt_succ_self _) (k0_off233_eq k) ?_
  refine ldU k.val 808 256 (Nat.lt_succ_self _) (k0_off234_eq k) ?_
  exact h

theorem t1_48 {R : sProp 𝕄} {Q : α → sProp 𝕄} (k : Fin k0_t1_loop.trips) {arg18 : BitVec 32} {f : (Σ' (v2833 : FVec F S8x256 .bf16) (v2836 : FVec F S8x256 .bf16) (v2839 : FVec F S8x256 .f32) (v2841 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 105), (cB (tl x0 x1 k.val 1) 106), (s1c (tl x0 x1 k.val 1) (k0_pay1 on) 106), (s2c (tl x0 x1 k.val 1) 106), (mxc (tl x0 x1 k.val 1) 106)⟩) Q) :
    St c x0 x1 R on (k.val + 1) s1 s2 mx mn ⊢ WP c (ap k0_part48 a2 ha2 a3 ha3 a5 ha5 k arg18 (k0_pay1 on) (mnc (tl x0 x1 k.val 1) 100) (cB (tl x0 x1 k.val 1) 101) (s1c (tl x0 x1 k.val 1) (k0_pay1 on) 101) (s2c (tl x0 x1 k.val 1) 101) (mxc (tl x0 x1 k.val 1) 101) >>= f) Q := by
  rw [k0_part48_eq_skeleton]
  refine ldU k.val 816 256 (Nat.lt_succ_self _) (k0_off235_eq k) ?_
  refine ldU k.val 824 256 (Nat.lt_succ_self _) (k0_off236_eq k) ?_
  refine ldU k.val 832 256 (Nat.lt_succ_self _) (k0_off237_eq k) ?_
  refine ldU k.val 840 256 (Nat.lt_succ_self _) (k0_off238_eq k) ?_
  refine ldU k.val 848 256 (Nat.lt_succ_self _) (k0_off239_eq k) ?_
  exact h

theorem t1_49 {R : sProp 𝕄} {Q : α → sProp 𝕄} (k : Fin k0_t1_loop.trips) {arg18 : BitVec 32} {f : (Σ' (v2883 : FVec F S8x256 .bf16) (v2886 : FVec F S8x256 .bf16) (v2889 : FVec F S8x256 .f32) (v2891 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 110), (cB (tl x0 x1 k.val 1) 111), (s1c (tl x0 x1 k.val 1) (k0_pay1 on) 111), (s2c (tl x0 x1 k.val 1) 111), (mxc (tl x0 x1 k.val 1) 111)⟩) Q) :
    St c x0 x1 R on (k.val + 1) s1 s2 mx mn ⊢ WP c (ap k0_part49 a2 ha2 a3 ha3 a5 ha5 k arg18 (k0_pay1 on) (mnc (tl x0 x1 k.val 1) 105) (cB (tl x0 x1 k.val 1) 106) (s1c (tl x0 x1 k.val 1) (k0_pay1 on) 106) (s2c (tl x0 x1 k.val 1) 106) (mxc (tl x0 x1 k.val 1) 106) >>= f) Q := by
  rw [k0_part49_eq_skeleton]
  refine ldU k.val 856 256 (Nat.lt_succ_self _) (k0_off240_eq k) ?_
  refine ldU k.val 864 256 (Nat.lt_succ_self _) (k0_off241_eq k) ?_
  refine ldU k.val 872 256 (Nat.lt_succ_self _) (k0_off242_eq k) ?_
  refine ldU k.val 880 256 (Nat.lt_succ_self _) (k0_off243_eq k) ?_
  refine ldU k.val 888 256 (Nat.lt_succ_self _) (k0_off244_eq k) ?_
  exact h

theorem t1_50 {R : sProp 𝕄} {Q : α → sProp 𝕄} (k : Fin k0_t1_loop.trips) {arg18 : BitVec 32} {f : (Σ' (v2933 : FVec F S8x256 .bf16) (v2936 : FVec F S8x256 .bf16) (v2939 : FVec F S8x256 .f32) (v2941 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 115), (cB (tl x0 x1 k.val 1) 116), (s1c (tl x0 x1 k.val 1) (k0_pay1 on) 116), (s2c (tl x0 x1 k.val 1) 116), (mxc (tl x0 x1 k.val 1) 116)⟩) Q) :
    St c x0 x1 R on (k.val + 1) s1 s2 mx mn ⊢ WP c (ap k0_part50 a2 ha2 a3 ha3 a5 ha5 k arg18 (k0_pay1 on) (mnc (tl x0 x1 k.val 1) 110) (cB (tl x0 x1 k.val 1) 111) (s1c (tl x0 x1 k.val 1) (k0_pay1 on) 111) (s2c (tl x0 x1 k.val 1) 111) (mxc (tl x0 x1 k.val 1) 111) >>= f) Q := by
  rw [k0_part50_eq_skeleton]
  refine ldU k.val 896 256 (Nat.lt_succ_self _) (k0_off245_eq k) ?_
  refine ldU k.val 904 256 (Nat.lt_succ_self _) (k0_off246_eq k) ?_
  refine ldU k.val 912 256 (Nat.lt_succ_self _) (k0_off247_eq k) ?_
  refine ldU k.val 920 256 (Nat.lt_succ_self _) (k0_off248_eq k) ?_
  refine ldU k.val 928 256 (Nat.lt_succ_self _) (k0_off249_eq k) ?_
  exact h

theorem t1_51 {R : sProp 𝕄} {Q : α → sProp 𝕄} (k : Fin k0_t1_loop.trips) {arg18 : BitVec 32} {f : (Σ' (v2983 : FVec F S8x256 .bf16) (v2986 : FVec F S8x256 .bf16) (v2989 : FVec F S8x256 .f32) (v2991 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 120), (cB (tl x0 x1 k.val 1) 121), (s1c (tl x0 x1 k.val 1) (k0_pay1 on) 121), (s2c (tl x0 x1 k.val 1) 121), (mxc (tl x0 x1 k.val 1) 121)⟩) Q) :
    St c x0 x1 R on (k.val + 1) s1 s2 mx mn ⊢ WP c (ap k0_part51 a2 ha2 a3 ha3 a5 ha5 k arg18 (k0_pay1 on) (mnc (tl x0 x1 k.val 1) 115) (cB (tl x0 x1 k.val 1) 116) (s1c (tl x0 x1 k.val 1) (k0_pay1 on) 116) (s2c (tl x0 x1 k.val 1) 116) (mxc (tl x0 x1 k.val 1) 116) >>= f) Q := by
  rw [k0_part51_eq_skeleton]
  refine ldU k.val 936 256 (Nat.lt_succ_self _) (k0_off250_eq k) ?_
  refine ldU k.val 944 256 (Nat.lt_succ_self _) (k0_off251_eq k) ?_
  refine ldU k.val 952 256 (Nat.lt_succ_self _) (k0_off252_eq k) ?_
  refine ldU k.val 960 256 (Nat.lt_succ_self _) (k0_off253_eq k) ?_
  refine ldU k.val 968 256 (Nat.lt_succ_self _) (k0_off254_eq k) ?_
  exact h

theorem t1_52 {R : sProp 𝕄} {Q : α → sProp 𝕄} (k : Fin k0_t1_loop.trips) {arg18 : BitVec 32} {f : (Σ' (v3033 : FVec F S8x256 .bf16) (v3036 : FVec F S8x256 .bf16) (v3039 : FVec F S8x256 .f32) (v3041 : FVec F S8x256 .f32), FVec F S8x256 .bf16) → Prog (TpuEff nD τ sig (Elt F) Λ₀ .tc) α}
    (h : St c x0 x1 R on (k.val + 1) s1 s2 mx mn ⊢ WP c (f ⟨(mnc (tl x0 x1 k.val 1) 125), (cB (tl x0 x1 k.val 1) 126), (s1c (tl x0 x1 k.val 1) (k0_pay1 on) 126), (s2c (tl x0 x1 k.val 1) 126), (mxc (tl x0 x1 k.val 1) 126)⟩) Q) :
    St c x0 x1 R on (k.val + 1) s1 s2 mx mn ⊢ WP c (ap k0_part52 a2 ha2 a3 ha3 a5 ha5 k arg18 (k0_pay1 on) (mnc (tl x0 x1 k.val 1) 120) (cB (tl x0 x1 k.val 1) 121) (s1c (tl x0 x1 k.val 1) (k0_pay1 on) 121) (s2c (tl x0 x1 k.val 1) 121) (mxc (tl x0 x1 k.val 1) 121) >>= f) Q := by
  rw [k0_part52_eq_skeleton]
  refine ldU k.val 976 256 (Nat.lt_succ_self _) (k0_off255_eq k) ?_
  refine ldU k.val 984 256 (Nat.lt_succ_self _) (k0_off256_eq k) ?_
  refine ldU k.val 992 256 (Nat.lt_succ_self _) (k0_off257_eq k) ?_
  refine ldU k.val 1000 256 (Nat.lt_succ_self _) (k0_off258_eq k) ?_
  refine ldU k.val 1008 256 (Nat.lt_succ_self _) (k0_off259_eq k) ?_
  exact h

theorem t1_53 {R : sProp 𝕄} {Q : α → sProp 𝕄} (k : Fin k0_t1_loop.trips) {arg18 : BitVec 32} {f : (FVec F S8x256 .bf16) → Prog (TpuEff nD τ sig (Elt F) Λ₀ .tc) α}
    (h : St c x0 x1 R on (k.val + 1) (wr4 mS1 s1 (k0_off261 k) (k0_off261_inb k) (k0_pay362 (s1c (tl x0 x1 k.val 1) (k0_pay1 on) 127))) (wr4 mS2 s2 (k0_off261 k) (k0_off261_inb k) (k0_pay362 (s2c (tl x0 x1 k.val 1) 127))) (wr4 mMx mx (k0_off261 k) (k0_off261_inb k) (k0_pay364 (mxc (tl x0 x1 k.val 1) 127))) (wr4 mMn mn (k0_off261 k) (k0_off261_inb k) (finMn (mnc (tl x0 x1 k.val 1) 127))) ⊢ WP c (f (cB (tl x0 x1 k.val 2) 0)) Q) :
    St c x0 x1 R on (k.val + 1) s1 s2 mx mn ⊢ WP c (ap k0_part53 a2 ha2 a3 ha3 a5 ha5 k arg18 (k0_pay1 on) (mnc (tl x0 x1 k.val 1) 125) (cB (tl x0 x1 k.val 1) 126) (s1c (tl x0 x1 k.val 1) (k0_pay1 on) 126) (s2c (tl x0 x1 k.val 1) 126) (mxc (tl x0 x1 k.val 1) 126) >>= f) Q := by
  rw [k0_part53_eq_skeleton]
  refine ldU k.val 1016 256 (Nat.lt_succ_self _) (k0_off260_eq k) ?_
  refine ddS1 ?_
  refine stS1 ?_
  refine ddS2 ?_
  refine stS2 ?_
  refine ddMx ?_
  refine stMx ?_
  refine ddMn ?_
  refine stMn ?_
  refine ldU k.val 0 512 (Nat.lt_succ_self _) (k0_off262_eq k) ?_
  exact h

theorem t1_54 {R : sProp 𝕄} {Q : α → sProp 𝕄} (k : Fin k0_t1_loop.trips) {arg18 : BitVec 32} {f : (Σ' (v3123 : FVec F S8x256 .f32) (v3124 : FVec F S8x256 .bf16) (v3125 : FVec F S8x256 .bf16) (v3128 : FVec F S8x256 .bf16) (v3131 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 4), (mxc (tl x0 x1 k.val 2) 4), (mnc (tl x0 x1 k.val 2) 4), (cB (tl x0 x1 k.val 2) 5), (s1c (tl x0 x1 k.val 2) (k0_pay1 on) 5), (mulf (eB (tl x0 x1 k.val 2) 5) (eB (tl x0 x1 k.val 2) 5))⟩) Q) :
    St c x0 x1 R on (k.val + 1) s1 s2 mx mn ⊢ WP c (ap k0_part54 a2 ha2 a3 ha3 a5 ha5 k arg18 (k0_pay1 on) (cB (tl x0 x1 k.val 2) 0) >>= f) Q := by
  rw [k0_part54_eq_skeleton]
  refine ldU k.val 8 512 (Nat.lt_succ_self _) (k0_off263_eq k) ?_
  refine ldU k.val 16 512 (Nat.lt_succ_self _) (k0_off264_eq k) ?_
  refine ldU k.val 24 512 (Nat.lt_succ_self _) (k0_off265_eq k) ?_
  refine ldU k.val 32 512 (Nat.lt_succ_self _) (k0_off266_eq k) ?_
  refine ldU k.val 40 512 (Nat.lt_succ_self _) (k0_off267_eq k) ?_
  exact h

theorem t1_55 {R : sProp 𝕄} {Q : α → sProp 𝕄} (k : Fin k0_t1_loop.trips) {arg18 : BitVec 32} {f : (Σ' (v3173 : FVec F S8x256 .f32) (v3174 : FVec F S8x256 .bf16) (v3175 : FVec F S8x256 .bf16) (v3178 : FVec F S8x256 .bf16) (v3181 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 9), (mxc (tl x0 x1 k.val 2) 9), (mnc (tl x0 x1 k.val 2) 9), (cB (tl x0 x1 k.val 2) 10), (s1c (tl x0 x1 k.val 2) (k0_pay1 on) 10), (mulf (eB (tl x0 x1 k.val 2) 10) (eB (tl x0 x1 k.val 2) 10))⟩) Q) :
    St c x0 x1 R on (k.val + 1) s1 s2 mx mn ⊢ WP c (ap k0_part55 a2 ha2 a3 ha3 a5 ha5 k arg18 (k0_pay1 on) (s2c (tl x0 x1 k.val 2) 4) (mxc (tl x0 x1 k.val 2) 4) (mnc (tl x0 x1 k.val 2) 4) (cB (tl x0 x1 k.val 2) 5) (s1c (tl x0 x1 k.val 2) (k0_pay1 on) 5) (mulf (eB (tl x0 x1 k.val 2) 5) (eB (tl x0 x1 k.val 2) 5)) >>= f) Q := by
  rw [k0_part55_eq_skeleton]
  refine ldU k.val 48 512 (Nat.lt_succ_self _) (k0_off268_eq k) ?_
  refine ldU k.val 56 512 (Nat.lt_succ_self _) (k0_off269_eq k) ?_
  refine ldU k.val 64 512 (Nat.lt_succ_self _) (k0_off270_eq k) ?_
  refine ldU k.val 72 512 (Nat.lt_succ_self _) (k0_off271_eq k) ?_
  refine ldU k.val 80 512 (Nat.lt_succ_self _) (k0_off272_eq k) ?_
  exact h

theorem t1_56 {R : sProp 𝕄} {Q : α → sProp 𝕄} (k : Fin k0_t1_loop.trips) {arg18 : BitVec 32} {f : (Σ' (v3223 : FVec F S8x256 .f32) (v3224 : FVec F S8x256 .bf16) (v3225 : FVec F S8x256 .bf16) (v3228 : FVec F S8x256 .bf16) (v3231 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 14), (mxc (tl x0 x1 k.val 2) 14), (mnc (tl x0 x1 k.val 2) 14), (cB (tl x0 x1 k.val 2) 15), (s1c (tl x0 x1 k.val 2) (k0_pay1 on) 15), (mulf (eB (tl x0 x1 k.val 2) 15) (eB (tl x0 x1 k.val 2) 15))⟩) Q) :
    St c x0 x1 R on (k.val + 1) s1 s2 mx mn ⊢ WP c (ap k0_part56 a2 ha2 a3 ha3 a5 ha5 k arg18 (k0_pay1 on) (s2c (tl x0 x1 k.val 2) 9) (mxc (tl x0 x1 k.val 2) 9) (mnc (tl x0 x1 k.val 2) 9) (cB (tl x0 x1 k.val 2) 10) (s1c (tl x0 x1 k.val 2) (k0_pay1 on) 10) (mulf (eB (tl x0 x1 k.val 2) 10) (eB (tl x0 x1 k.val 2) 10)) >>= f) Q := by
  rw [k0_part56_eq_skeleton]
  refine ldU k.val 88 512 (Nat.lt_succ_self _) (k0_off273_eq k) ?_
  refine ldU k.val 96 512 (Nat.lt_succ_self _) (k0_off274_eq k) ?_
  refine ldU k.val 104 512 (Nat.lt_succ_self _) (k0_off275_eq k) ?_
  refine ldU k.val 112 512 (Nat.lt_succ_self _) (k0_off276_eq k) ?_
  refine ldU k.val 120 512 (Nat.lt_succ_self _) (k0_off277_eq k) ?_
  exact h

theorem t1_57 {R : sProp 𝕄} {Q : α → sProp 𝕄} (k : Fin k0_t1_loop.trips) {arg18 : BitVec 32} {f : (Σ' (v3273 : FVec F S8x256 .f32) (v3274 : FVec F S8x256 .bf16) (v3275 : FVec F S8x256 .bf16) (v3278 : FVec F S8x256 .bf16) (v3281 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 19), (mxc (tl x0 x1 k.val 2) 19), (mnc (tl x0 x1 k.val 2) 19), (cB (tl x0 x1 k.val 2) 20), (s1c (tl x0 x1 k.val 2) (k0_pay1 on) 20), (mulf (eB (tl x0 x1 k.val 2) 20) (eB (tl x0 x1 k.val 2) 20))⟩) Q) :
    St c x0 x1 R on (k.val + 1) s1 s2 mx mn ⊢ WP c (ap k0_part57 a2 ha2 a3 ha3 a5 ha5 k arg18 (k0_pay1 on) (s2c (tl x0 x1 k.val 2) 14) (mxc (tl x0 x1 k.val 2) 14) (mnc (tl x0 x1 k.val 2) 14) (cB (tl x0 x1 k.val 2) 15) (s1c (tl x0 x1 k.val 2) (k0_pay1 on) 15) (mulf (eB (tl x0 x1 k.val 2) 15) (eB (tl x0 x1 k.val 2) 15)) >>= f) Q := by
  rw [k0_part57_eq_skeleton]
  refine ldU k.val 128 512 (Nat.lt_succ_self _) (k0_off278_eq k) ?_
  refine ldU k.val 136 512 (Nat.lt_succ_self _) (k0_off279_eq k) ?_
  refine ldU k.val 144 512 (Nat.lt_succ_self _) (k0_off280_eq k) ?_
  refine ldU k.val 152 512 (Nat.lt_succ_self _) (k0_off281_eq k) ?_
  refine ldU k.val 160 512 (Nat.lt_succ_self _) (k0_off282_eq k) ?_
  exact h

theorem t1_58 {R : sProp 𝕄} {Q : α → sProp 𝕄} (k : Fin k0_t1_loop.trips) {arg18 : BitVec 32} {f : (Σ' (v3323 : FVec F S8x256 .f32) (v3324 : FVec F S8x256 .bf16) (v3325 : FVec F S8x256 .bf16) (v3328 : FVec F S8x256 .bf16) (v3331 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 24), (mxc (tl x0 x1 k.val 2) 24), (mnc (tl x0 x1 k.val 2) 24), (cB (tl x0 x1 k.val 2) 25), (s1c (tl x0 x1 k.val 2) (k0_pay1 on) 25), (mulf (eB (tl x0 x1 k.val 2) 25) (eB (tl x0 x1 k.val 2) 25))⟩) Q) :
    St c x0 x1 R on (k.val + 1) s1 s2 mx mn ⊢ WP c (ap k0_part58 a2 ha2 a3 ha3 a5 ha5 k arg18 (k0_pay1 on) (s2c (tl x0 x1 k.val 2) 19) (mxc (tl x0 x1 k.val 2) 19) (mnc (tl x0 x1 k.val 2) 19) (cB (tl x0 x1 k.val 2) 20) (s1c (tl x0 x1 k.val 2) (k0_pay1 on) 20) (mulf (eB (tl x0 x1 k.val 2) 20) (eB (tl x0 x1 k.val 2) 20)) >>= f) Q := by
  rw [k0_part58_eq_skeleton]
  refine ldU k.val 168 512 (Nat.lt_succ_self _) (k0_off283_eq k) ?_
  refine ldU k.val 176 512 (Nat.lt_succ_self _) (k0_off284_eq k) ?_
  refine ldU k.val 184 512 (Nat.lt_succ_self _) (k0_off285_eq k) ?_
  refine ldU k.val 192 512 (Nat.lt_succ_self _) (k0_off286_eq k) ?_
  refine ldU k.val 200 512 (Nat.lt_succ_self _) (k0_off287_eq k) ?_
  exact h

theorem t1_59 {R : sProp 𝕄} {Q : α → sProp 𝕄} (k : Fin k0_t1_loop.trips) {arg18 : BitVec 32} {f : (Σ' (v3373 : FVec F S8x256 .f32) (v3374 : FVec F S8x256 .bf16) (v3375 : FVec F S8x256 .bf16) (v3378 : FVec F S8x256 .bf16) (v3381 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 29), (mxc (tl x0 x1 k.val 2) 29), (mnc (tl x0 x1 k.val 2) 29), (cB (tl x0 x1 k.val 2) 30), (s1c (tl x0 x1 k.val 2) (k0_pay1 on) 30), (mulf (eB (tl x0 x1 k.val 2) 30) (eB (tl x0 x1 k.val 2) 30))⟩) Q) :
    St c x0 x1 R on (k.val + 1) s1 s2 mx mn ⊢ WP c (ap k0_part59 a2 ha2 a3 ha3 a5 ha5 k arg18 (k0_pay1 on) (s2c (tl x0 x1 k.val 2) 24) (mxc (tl x0 x1 k.val 2) 24) (mnc (tl x0 x1 k.val 2) 24) (cB (tl x0 x1 k.val 2) 25) (s1c (tl x0 x1 k.val 2) (k0_pay1 on) 25) (mulf (eB (tl x0 x1 k.val 2) 25) (eB (tl x0 x1 k.val 2) 25)) >>= f) Q := by
  rw [k0_part59_eq_skeleton]
  refine ldU k.val 208 512 (Nat.lt_succ_self _) (k0_off288_eq k) ?_
  refine ldU k.val 216 512 (Nat.lt_succ_self _) (k0_off289_eq k) ?_
  refine ldU k.val 224 512 (Nat.lt_succ_self _) (k0_off290_eq k) ?_
  refine ldU k.val 232 512 (Nat.lt_succ_self _) (k0_off291_eq k) ?_
  refine ldU k.val 240 512 (Nat.lt_succ_self _) (k0_off292_eq k) ?_
  exact h

theorem t1_60 {R : sProp 𝕄} {Q : α → sProp 𝕄} (k : Fin k0_t1_loop.trips) {arg18 : BitVec 32} {f : (Σ' (v3423 : FVec F S8x256 .f32) (v3424 : FVec F S8x256 .bf16) (v3425 : FVec F S8x256 .bf16) (v3428 : FVec F S8x256 .bf16) (v3431 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 34), (mxc (tl x0 x1 k.val 2) 34), (mnc (tl x0 x1 k.val 2) 34), (cB (tl x0 x1 k.val 2) 35), (s1c (tl x0 x1 k.val 2) (k0_pay1 on) 35), (mulf (eB (tl x0 x1 k.val 2) 35) (eB (tl x0 x1 k.val 2) 35))⟩) Q) :
    St c x0 x1 R on (k.val + 1) s1 s2 mx mn ⊢ WP c (ap k0_part60 a2 ha2 a3 ha3 a5 ha5 k arg18 (k0_pay1 on) (s2c (tl x0 x1 k.val 2) 29) (mxc (tl x0 x1 k.val 2) 29) (mnc (tl x0 x1 k.val 2) 29) (cB (tl x0 x1 k.val 2) 30) (s1c (tl x0 x1 k.val 2) (k0_pay1 on) 30) (mulf (eB (tl x0 x1 k.val 2) 30) (eB (tl x0 x1 k.val 2) 30)) >>= f) Q := by
  rw [k0_part60_eq_skeleton]
  refine ldU k.val 248 512 (Nat.lt_succ_self _) (k0_off293_eq k) ?_
  refine ldU k.val 256 512 (Nat.lt_succ_self _) (k0_off294_eq k) ?_
  refine ldU k.val 264 512 (Nat.lt_succ_self _) (k0_off295_eq k) ?_
  refine ldU k.val 272 512 (Nat.lt_succ_self _) (k0_off296_eq k) ?_
  refine ldU k.val 280 512 (Nat.lt_succ_self _) (k0_off297_eq k) ?_
  exact h

theorem t1_61 {R : sProp 𝕄} {Q : α → sProp 𝕄} (k : Fin k0_t1_loop.trips) {arg18 : BitVec 32} {f : (Σ' (v3473 : FVec F S8x256 .f32) (v3474 : FVec F S8x256 .bf16) (v3475 : FVec F S8x256 .bf16) (v3478 : FVec F S8x256 .bf16) (v3481 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 39), (mxc (tl x0 x1 k.val 2) 39), (mnc (tl x0 x1 k.val 2) 39), (cB (tl x0 x1 k.val 2) 40), (s1c (tl x0 x1 k.val 2) (k0_pay1 on) 40), (mulf (eB (tl x0 x1 k.val 2) 40) (eB (tl x0 x1 k.val 2) 40))⟩) Q) :
    St c x0 x1 R on (k.val + 1) s1 s2 mx mn ⊢ WP c (ap k0_part61 a2 ha2 a3 ha3 a5 ha5 k arg18 (k0_pay1 on) (s2c (tl x0 x1 k.val 2) 34) (mxc (tl x0 x1 k.val 2) 34) (mnc (tl x0 x1 k.val 2) 34) (cB (tl x0 x1 k.val 2) 35) (s1c (tl x0 x1 k.val 2) (k0_pay1 on) 35) (mulf (eB (tl x0 x1 k.val 2) 35) (eB (tl x0 x1 k.val 2) 35)) >>= f) Q := by
  rw [k0_part61_eq_skeleton]
  refine ldU k.val 288 512 (Nat.lt_succ_self _) (k0_off298_eq k) ?_
  refine ldU k.val 296 512 (Nat.lt_succ_self _) (k0_off299_eq k) ?_
  refine ldU k.val 304 512 (Nat.lt_succ_self _) (k0_off300_eq k) ?_
  refine ldU k.val 312 512 (Nat.lt_succ_self _) (k0_off301_eq k) ?_
  refine ldU k.val 320 512 (Nat.lt_succ_self _) (k0_off302_eq k) ?_
  exact h

theorem t1_62 {R : sProp 𝕄} {Q : α → sProp 𝕄} (k : Fin k0_t1_loop.trips) {arg18 : BitVec 32} {f : (Σ' (v3523 : FVec F S8x256 .f32) (v3524 : FVec F S8x256 .bf16) (v3525 : FVec F S8x256 .bf16) (v3528 : FVec F S8x256 .bf16) (v3531 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 44), (mxc (tl x0 x1 k.val 2) 44), (mnc (tl x0 x1 k.val 2) 44), (cB (tl x0 x1 k.val 2) 45), (s1c (tl x0 x1 k.val 2) (k0_pay1 on) 45), (mulf (eB (tl x0 x1 k.val 2) 45) (eB (tl x0 x1 k.val 2) 45))⟩) Q) :
    St c x0 x1 R on (k.val + 1) s1 s2 mx mn ⊢ WP c (ap k0_part62 a2 ha2 a3 ha3 a5 ha5 k arg18 (k0_pay1 on) (s2c (tl x0 x1 k.val 2) 39) (mxc (tl x0 x1 k.val 2) 39) (mnc (tl x0 x1 k.val 2) 39) (cB (tl x0 x1 k.val 2) 40) (s1c (tl x0 x1 k.val 2) (k0_pay1 on) 40) (mulf (eB (tl x0 x1 k.val 2) 40) (eB (tl x0 x1 k.val 2) 40)) >>= f) Q := by
  rw [k0_part62_eq_skeleton]
  refine ldU k.val 328 512 (Nat.lt_succ_self _) (k0_off303_eq k) ?_
  refine ldU k.val 336 512 (Nat.lt_succ_self _) (k0_off304_eq k) ?_
  refine ldU k.val 344 512 (Nat.lt_succ_self _) (k0_off305_eq k) ?_
  refine ldU k.val 352 512 (Nat.lt_succ_self _) (k0_off306_eq k) ?_
  refine ldU k.val 360 512 (Nat.lt_succ_self _) (k0_off307_eq k) ?_
  exact h

theorem t1_63 {R : sProp 𝕄} {Q : α → sProp 𝕄} (k : Fin k0_t1_loop.trips) {arg18 : BitVec 32} {f : (Σ' (v3573 : FVec F S8x256 .f32) (v3574 : FVec F S8x256 .bf16) (v3575 : FVec F S8x256 .bf16) (v3578 : FVec F S8x256 .bf16) (v3581 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 49), (mxc (tl x0 x1 k.val 2) 49), (mnc (tl x0 x1 k.val 2) 49), (cB (tl x0 x1 k.val 2) 50), (s1c (tl x0 x1 k.val 2) (k0_pay1 on) 50), (mulf (eB (tl x0 x1 k.val 2) 50) (eB (tl x0 x1 k.val 2) 50))⟩) Q) :
    St c x0 x1 R on (k.val + 1) s1 s2 mx mn ⊢ WP c (ap k0_part63 a2 ha2 a3 ha3 a5 ha5 k arg18 (k0_pay1 on) (s2c (tl x0 x1 k.val 2) 44) (mxc (tl x0 x1 k.val 2) 44) (mnc (tl x0 x1 k.val 2) 44) (cB (tl x0 x1 k.val 2) 45) (s1c (tl x0 x1 k.val 2) (k0_pay1 on) 45) (mulf (eB (tl x0 x1 k.val 2) 45) (eB (tl x0 x1 k.val 2) 45)) >>= f) Q := by
  rw [k0_part63_eq_skeleton]
  refine ldU k.val 368 512 (Nat.lt_succ_self _) (k0_off308_eq k) ?_
  refine ldU k.val 376 512 (Nat.lt_succ_self _) (k0_off309_eq k) ?_
  refine ldU k.val 384 512 (Nat.lt_succ_self _) (k0_off310_eq k) ?_
  refine ldU k.val 392 512 (Nat.lt_succ_self _) (k0_off311_eq k) ?_
  refine ldU k.val 400 512 (Nat.lt_succ_self _) (k0_off312_eq k) ?_
  exact h

theorem t1_64 {R : sProp 𝕄} {Q : α → sProp 𝕄} (k : Fin k0_t1_loop.trips) {arg18 : BitVec 32} {f : (Σ' (v3623 : FVec F S8x256 .f32) (v3624 : FVec F S8x256 .bf16) (v3625 : FVec F S8x256 .bf16) (v3628 : FVec F S8x256 .bf16) (v3631 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 54), (mxc (tl x0 x1 k.val 2) 54), (mnc (tl x0 x1 k.val 2) 54), (cB (tl x0 x1 k.val 2) 55), (s1c (tl x0 x1 k.val 2) (k0_pay1 on) 55), (mulf (eB (tl x0 x1 k.val 2) 55) (eB (tl x0 x1 k.val 2) 55))⟩) Q) :
    St c x0 x1 R on (k.val + 1) s1 s2 mx mn ⊢ WP c (ap k0_part64 a2 ha2 a3 ha3 a5 ha5 k arg18 (k0_pay1 on) (s2c (tl x0 x1 k.val 2) 49) (mxc (tl x0 x1 k.val 2) 49) (mnc (tl x0 x1 k.val 2) 49) (cB (tl x0 x1 k.val 2) 50) (s1c (tl x0 x1 k.val 2) (k0_pay1 on) 50) (mulf (eB (tl x0 x1 k.val 2) 50) (eB (tl x0 x1 k.val 2) 50)) >>= f) Q := by
  rw [k0_part64_eq_skeleton]
  refine ldU k.val 408 512 (Nat.lt_succ_self _) (k0_off313_eq k) ?_
  refine ldU k.val 416 512 (Nat.lt_succ_self _) (k0_off314_eq k) ?_
  refine ldU k.val 424 512 (Nat.lt_succ_self _) (k0_off315_eq k) ?_
  refine ldU k.val 432 512 (Nat.lt_succ_self _) (k0_off316_eq k) ?_
  refine ldU k.val 440 512 (Nat.lt_succ_self _) (k0_off317_eq k) ?_
  exact h

theorem t1_65 {R : sProp 𝕄} {Q : α → sProp 𝕄} (k : Fin k0_t1_loop.trips) {arg18 : BitVec 32} {f : (Σ' (v3673 : FVec F S8x256 .f32) (v3674 : FVec F S8x256 .bf16) (v3675 : FVec F S8x256 .bf16) (v3678 : FVec F S8x256 .bf16) (v3681 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 59), (mxc (tl x0 x1 k.val 2) 59), (mnc (tl x0 x1 k.val 2) 59), (cB (tl x0 x1 k.val 2) 60), (s1c (tl x0 x1 k.val 2) (k0_pay1 on) 60), (mulf (eB (tl x0 x1 k.val 2) 60) (eB (tl x0 x1 k.val 2) 60))⟩) Q) :
    St c x0 x1 R on (k.val + 1) s1 s2 mx mn ⊢ WP c (ap k0_part65 a2 ha2 a3 ha3 a5 ha5 k arg18 (k0_pay1 on) (s2c (tl x0 x1 k.val 2) 54) (mxc (tl x0 x1 k.val 2) 54) (mnc (tl x0 x1 k.val 2) 54) (cB (tl x0 x1 k.val 2) 55) (s1c (tl x0 x1 k.val 2) (k0_pay1 on) 55) (mulf (eB (tl x0 x1 k.val 2) 55) (eB (tl x0 x1 k.val 2) 55)) >>= f) Q := by
  rw [k0_part65_eq_skeleton]
  refine ldU k.val 448 512 (Nat.lt_succ_self _) (k0_off318_eq k) ?_
  refine ldU k.val 456 512 (Nat.lt_succ_self _) (k0_off319_eq k) ?_
  refine ldU k.val 464 512 (Nat.lt_succ_self _) (k0_off320_eq k) ?_
  refine ldU k.val 472 512 (Nat.lt_succ_self _) (k0_off321_eq k) ?_
  refine ldU k.val 480 512 (Nat.lt_succ_self _) (k0_off322_eq k) ?_
  exact h

theorem t1_66 {R : sProp 𝕄} {Q : α → sProp 𝕄} (k : Fin k0_t1_loop.trips) {arg18 : BitVec 32} {f : (Σ' (v3723 : FVec F S8x256 .f32) (v3724 : FVec F S8x256 .bf16) (v3725 : FVec F S8x256 .bf16) (v3728 : FVec F S8x256 .bf16) (v3731 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 64), (mxc (tl x0 x1 k.val 2) 64), (mnc (tl x0 x1 k.val 2) 64), (cB (tl x0 x1 k.val 2) 65), (s1c (tl x0 x1 k.val 2) (k0_pay1 on) 65), (mulf (eB (tl x0 x1 k.val 2) 65) (eB (tl x0 x1 k.val 2) 65))⟩) Q) :
    St c x0 x1 R on (k.val + 1) s1 s2 mx mn ⊢ WP c (ap k0_part66 a2 ha2 a3 ha3 a5 ha5 k arg18 (k0_pay1 on) (s2c (tl x0 x1 k.val 2) 59) (mxc (tl x0 x1 k.val 2) 59) (mnc (tl x0 x1 k.val 2) 59) (cB (tl x0 x1 k.val 2) 60) (s1c (tl x0 x1 k.val 2) (k0_pay1 on) 60) (mulf (eB (tl x0 x1 k.val 2) 60) (eB (tl x0 x1 k.val 2) 60)) >>= f) Q := by
  rw [k0_part66_eq_skeleton]
  refine ldU k.val 488 512 (Nat.lt_succ_self _) (k0_off323_eq k) ?_
  refine ldU k.val 496 512 (Nat.lt_succ_self _) (k0_off324_eq k) ?_
  refine ldU k.val 504 512 (Nat.lt_succ_self _) (k0_off325_eq k) ?_
  refine ldU k.val 512 512 (Nat.lt_succ_self _) (k0_off326_eq k) ?_
  refine ldU k.val 520 512 (Nat.lt_succ_self _) (k0_off327_eq k) ?_
  exact h

end

end Cert.KernelIdeal.Hand
-- ==== Proof.KI.T2.lean ====
/-
  One row's statistics, part by part.
-/
module

public import proofs.«01_k».proof.Proof.KI.Spec

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

section
variable {c : Dev nD} {x0 : S16x1024x768.Idx → Elt F .bf16} {x1 : S16x1024x512.Idx → Elt F .bf16}
variable {α : Type} {on : S8x256.Idx → Elt F .bf16} {s1 s2 mx mn : S16x1x1280.Idx → Elt F .f32}
variable {a2 : Memref sig .tc .vmem S1280 .f32} {ha2 : a2.IsWhole} {a3 : Memref sig .tc .vmem S1280 .f32} {ha3 : a3.IsWhole} {a5 : Memref sig .tc .smem S1x1 .f32} {ha5 : a5.IsWhole}
theorem t1_67 {R : sProp 𝕄} {Q : α → sProp 𝕄} (k : Fin k0_t1_loop.trips) {arg18 : BitVec 32} {f : (Σ' (v3773 : FVec F S8x256 .f32) (v3774 : FVec F S8x256 .bf16) (v3775 : FVec F S8x256 .bf16) (v3778 : FVec F S8x256 .bf16) (v3781 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 69), (mxc (tl x0 x1 k.val 2) 69), (mnc (tl x0 x1 k.val 2) 69), (cB (tl x0 x1 k.val 2) 70), (s1c (tl x0 x1 k.val 2) (k0_pay1 on) 70), (mulf (eB (tl x0 x1 k.val 2) 70) (eB (tl x0 x1 k.val 2) 70))⟩) Q) :
    St c x0 x1 R on (k.val + 1) s1 s2 mx mn ⊢ WP c (ap k0_part67 a2 ha2 a3 ha3 a5 ha5 k arg18 (k0_pay1 on) (s2c (tl x0 x1 k.val 2) 64) (mxc (tl x0 x1 k.val 2) 64) (mnc (tl x0 x1 k.val 2) 64) (cB (tl x0 x1 k.val 2) 65) (s1c (tl x0 x1 k.val 2) (k0_pay1 on) 65) (mulf (eB (tl x0 x1 k.val 2) 65) (eB (tl x0 x1 k.val 2) 65)) >>= f) Q := by
  rw [k0_part67_eq_skeleton]
  refine ldU k.val 528 512 (Nat.lt_succ_self _) (k0_off328_eq k) ?_
  refine ldU k.val 536 512 (Nat.lt_succ_self _) (k0_off329_eq k) ?_
  refine ldU k.val 544 512 (Nat.lt_succ_self _) (k0_off330_eq k) ?_
  refine ldU k.val 552 512 (Nat.lt_succ_self _) (k0_off331_eq k) ?_
  refine ldU k.val 560 512 (Nat.lt_succ_self _) (k0_off332_eq k) ?_
  exact h

theorem t1_68 {R : sProp 𝕄} {Q : α → sProp 𝕄} (k : Fin k0_t1_loop.trips) {arg18 : BitVec 32} {f : (Σ' (v3823 : FVec F S8x256 .f32) (v3824 : FVec F S8x256 .bf16) (v3825 : FVec F S8x256 .bf16) (v3828 : FVec F S8x256 .bf16) (v3831 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 74), (mxc (tl x0 x1 k.val 2) 74), (mnc (tl x0 x1 k.val 2) 74), (cB (tl x0 x1 k.val 2) 75), (s1c (tl x0 x1 k.val 2) (k0_pay1 on) 75), (mulf (eB (tl x0 x1 k.val 2) 75) (eB (tl x0 x1 k.val 2) 75))⟩) Q) :
    St c x0 x1 R on (k.val + 1) s1 s2 mx mn ⊢ WP c (ap k0_part68 a2 ha2 a3 ha3 a5 ha5 k arg18 (k0_pay1 on) (s2c (tl x0 x1 k.val 2) 69) (mxc (tl x0 x1 k.val 2) 69) (mnc (tl x0 x1 k.val 2) 69) (cB (tl x0 x1 k.val 2) 70) (s1c (tl x0 x1 k.val 2) (k0_pay1 on) 70) (mulf (eB (tl x0 x1 k.val 2) 70) (eB (tl x0 x1 k.val 2) 70)) >>= f) Q := by
  rw [k0_part68_eq_skeleton]
  refine ldU k.val 568 512 (Nat.lt_succ_self _) (k0_off333_eq k) ?_
  refine ldU k.val 576 512 (Nat.lt_succ_self _) (k0_off334_eq k) ?_
  refine ldU k.val 584 512 (Nat.lt_succ_self _) (k0_off335_eq k) ?_
  refine ldU k.val 592 512 (Nat.lt_succ_self _) (k0_off336_eq k) ?_
  refine ldU k.val 600 512 (Nat.lt_succ_self _) (k0_off337_eq k) ?_
  exact h

theorem t1_69 {R : sProp 𝕄} {Q : α → sProp 𝕄} (k : Fin k0_t1_loop.trips) {arg18 : BitVec 32} {f : (Σ' (v3873 : FVec F S8x256 .f32) (v3874 : FVec F S8x256 .bf16) (v3875 : FVec F S8x256 .bf16) (v3878 : FVec F S8x256 .bf16) (v3881 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 79), (mxc (tl x0 x1 k.val 2) 79), (mnc (tl x0 x1 k.val 2) 79), (cB (tl x0 x1 k.val 2) 80), (s1c (tl x0 x1 k.val 2) (k0_pay1 on) 80), (mulf (eB (tl x0 x1 k.val 2) 80) (eB (tl x0 x1 k.val 2) 80))⟩) Q) :
    St c x0 x1 R on (k.val + 1) s1 s2 mx mn ⊢ WP c (ap k0_part69 a2 ha2 a3 ha3 a5 ha5 k arg18 (k0_pay1 on) (s2c (tl x0 x1 k.val 2) 74) (mxc (tl x0 x1 k.val 2) 74) (mnc (tl x0 x1 k.val 2) 74) (cB (tl x0 x1 k.val 2) 75) (s1c (tl x0 x1 k.val 2) (k0_pay1 on) 75) (mulf (eB (tl x0 x1 k.val 2) 75) (eB (tl x0 x1 k.val 2) 75)) >>= f) Q := by
  rw [k0_part69_eq_skeleton]
  refine ldU k.val 608 512 (Nat.lt_succ_self _) (k0_off338_eq k) ?_
  refine ldU k.val 616 512 (Nat.lt_succ_self _) (k0_off339_eq k) ?_
  refine ldU k.val 624 512 (Nat.lt_succ_self _) (k0_off340_eq k) ?_
  refine ldU k.val 632 512 (Nat.lt_succ_self _) (k0_off341_eq k) ?_
  refine ldU k.val 640 512 (Nat.lt_succ_self _) (k0_off342_eq k) ?_
  exact h

theorem t1_70 {R : sProp 𝕄} {Q : α → sProp 𝕄} (k : Fin k0_t1_loop.trips) {arg18 : BitVec 32} {f : (Σ' (v3923 : FVec F S8x256 .f32) (v3924 : FVec F S8x256 .bf16) (v3925 : FVec F S8x256 .bf16) (v3928 : FVec F S8x256 .bf16) (v3931 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 84), (mxc (tl x0 x1 k.val 2) 84), (mnc (tl x0 x1 k.val 2) 84), (cB (tl x0 x1 k.val 2) 85), (s1c (tl x0 x1 k.val 2) (k0_pay1 on) 85), (mulf (eB (tl x0 x1 k.val 2) 85) (eB (tl x0 x1 k.val 2) 85))⟩) Q) :
    St c x0 x1 R on (k.val + 1) s1 s2 mx mn ⊢ WP c (ap k0_part70 a2 ha2 a3 ha3 a5 ha5 k arg18 (k0_pay1 on) (s2c (tl x0 x1 k.val 2) 79) (mxc (tl x0 x1 k.val 2) 79) (mnc (tl x0 x1 k.val 2) 79) (cB (tl x0 x1 k.val 2) 80) (s1c (tl x0 x1 k.val 2) (k0_pay1 on) 80) (mulf (eB (tl x0 x1 k.val 2) 80) (eB (tl x0 x1 k.val 2) 80)) >>= f) Q := by
  rw [k0_part70_eq_skeleton]
  refine ldU k.val 648 512 (Nat.lt_succ_self _) (k0_off343_eq k) ?_
  refine ldU k.val 656 512 (Nat.lt_succ_self _) (k0_off344_eq k) ?_
  refine ldU k.val 664 512 (Nat.lt_succ_self _) (k0_off345_eq k) ?_
  refine ldU k.val 672 512 (Nat.lt_succ_self _) (k0_off346_eq k) ?_
  refine ldU k.val 680 512 (Nat.lt_succ_self _) (k0_off347_eq k) ?_
  exact h

theorem t1_71 {R : sProp 𝕄} {Q : α → sProp 𝕄} (k : Fin k0_t1_loop.trips) {arg18 : BitVec 32} {f : (Σ' (v3973 : FVec F S8x256 .f32) (v3974 : FVec F S8x256 .bf16) (v3975 : FVec F S8x256 .bf16) (v3978 : FVec F S8x256 .bf16) (v3981 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 89), (mxc (tl x0 x1 k.val 2) 89), (mnc (tl x0 x1 k.val 2) 89), (cB (tl x0 x1 k.val 2) 90), (s1c (tl x0 x1 k.val 2) (k0_pay1 on) 90), (mulf (eB (tl x0 x1 k.val 2) 90) (eB (tl x0 x1 k.val 2) 90))⟩) Q) :
    St c x0 x1 R on (k.val + 1) s1 s2 mx mn ⊢ WP c (ap k0_part71 a2 ha2 a3 ha3 a5 ha5 k arg18 (k0_pay1 on) (s2c (tl x0 x1 k.val 2) 84) (mxc (tl x0 x1 k.val 2) 84) (mnc (tl x0 x1 k.val 2) 84) (cB (tl x0 x1 k.val 2) 85) (s1c (tl x0 x1 k.val 2) (k0_pay1 on) 85) (mulf (eB (tl x0 x1 k.val 2) 85) (eB (tl x0 x1 k.val 2) 85)) >>= f) Q := by
  rw [k0_part71_eq_skeleton]
  refine ldU k.val 688 512 (Nat.lt_succ_self _) (k0_off348_eq k) ?_
  refine ldU k.val 696 512 (Nat.lt_succ_self _) (k0_off349_eq k) ?_
  refine ldU k.val 704 512 (Nat.lt_succ_self _) (k0_off350_eq k) ?_
  refine ldU k.val 712 512 (Nat.lt_succ_self _) (k0_off351_eq k) ?_
  refine ldU k.val 720 512 (Nat.lt_succ_self _) (k0_off352_eq k) ?_
  exact h

theorem t1_72 {R : sProp 𝕄} {Q : α → sProp 𝕄} (k : Fin k0_t1_loop.trips) {arg18 : BitVec 32} {f : (Σ' (v4023 : FVec F S8x256 .f32) (v4024 : FVec F S8x256 .bf16) (v4025 : FVec F S8x256 .bf16) (v4028 : FVec F S8x256 .bf16) (v4031 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 94), (mxc (tl x0 x1 k.val 2) 94), (mnc (tl x0 x1 k.val 2) 94), (cB (tl x0 x1 k.val 2) 95), (s1c (tl x0 x1 k.val 2) (k0_pay1 on) 95), (mulf (eB (tl x0 x1 k.val 2) 95) (eB (tl x0 x1 k.val 2) 95))⟩) Q) :
    St c x0 x1 R on (k.val + 1) s1 s2 mx mn ⊢ WP c (ap k0_part72 a2 ha2 a3 ha3 a5 ha5 k arg18 (k0_pay1 on) (s2c (tl x0 x1 k.val 2) 89) (mxc (tl x0 x1 k.val 2) 89) (mnc (tl x0 x1 k.val 2) 89) (cB (tl x0 x1 k.val 2) 90) (s1c (tl x0 x1 k.val 2) (k0_pay1 on) 90) (mulf (eB (tl x0 x1 k.val 2) 90) (eB (tl x0 x1 k.val 2) 90)) >>= f) Q := by
  rw [k0_part72_eq_skeleton]
  refine ldU k.val 728 512 (Nat.lt_succ_self _) (k0_off353_eq k) ?_
  refine ldU k.val 736 512 (Nat.lt_succ_self _) (k0_off354_eq k) ?_
  refine ldU k.val 744 512 (Nat.lt_succ_self _) (k0_off355_eq k) ?_
  refine ldU k.val 752 512 (Nat.lt_succ_self _) (k0_off356_eq k) ?_
  refine ldU k.val 760 512 (Nat.lt_succ_self _) (k0_off357_eq k) ?_
  exact h

theorem t1_73 {R : sProp 𝕄} {Q : α → sProp 𝕄} (k : Fin k0_t1_loop.trips) {arg18 : BitVec 32} {f : (Σ' (v4073 : FVec F S8x256 .f32) (v4074 : FVec F S8x256 .bf16) (v4075 : FVec F S8x256 .bf16) (v4078 : FVec F S8x256 .bf16) (v4081 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 99), (mxc (tl x0 x1 k.val 2) 99), (mnc (tl x0 x1 k.val 2) 99), (cB (tl x0 x1 k.val 2) 100), (s1c (tl x0 x1 k.val 2) (k0_pay1 on) 100), (mulf (eB (tl x0 x1 k.val 2) 100) (eB (tl x0 x1 k.val 2) 100))⟩) Q) :
    St c x0 x1 R on (k.val + 1) s1 s2 mx mn ⊢ WP c (ap k0_part73 a2 ha2 a3 ha3 a5 ha5 k arg18 (k0_pay1 on) (s2c (tl x0 x1 k.val 2) 94) (mxc (tl x0 x1 k.val 2) 94) (mnc (tl x0 x1 k.val 2) 94) (cB (tl x0 x1 k.val 2) 95) (s1c (tl x0 x1 k.val 2) (k0_pay1 on) 95) (mulf (eB (tl x0 x1 k.val 2) 95) (eB (tl x0 x1 k.val 2) 95)) >>= f) Q := by
  rw [k0_part73_eq_skeleton]
  refine ldU k.val 768 512 (Nat.lt_succ_self _) (k0_off358_eq k) ?_
  refine ldU k.val 776 512 (Nat.lt_succ_self _) (k0_off359_eq k) ?_
  refine ldU k.val 784 512 (Nat.lt_succ_self _) (k0_off360_eq k) ?_
  refine ldU k.val 792 512 (Nat.lt_succ_self _) (k0_off361_eq k) ?_
  refine ldU k.val 800 512 (Nat.lt_succ_self _) (k0_off362_eq k) ?_
  exact h

theorem t1_74 {R : sProp 𝕄} {Q : α → sProp 𝕄} (k : Fin k0_t1_loop.trips) {arg18 : BitVec 32} {f : (Σ' (v4123 : FVec F S8x256 .f32) (v4124 : FVec F S8x256 .bf16) (v4125 : FVec F S8x256 .bf16) (v4128 : FVec F S8x256 .bf16) (v4131 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 104), (mxc (tl x0 x1 k.val 2) 104), (mnc (tl x0 x1 k.val 2) 104), (cB (tl x0 x1 k.val 2) 105), (s1c (tl x0 x1 k.val 2) (k0_pay1 on) 105), (mulf (eB (tl x0 x1 k.val 2) 105) (eB (tl x0 x1 k.val 2) 105))⟩) Q) :
    St c x0 x1 R on (k.val + 1) s1 s2 mx mn ⊢ WP c (ap k0_part74 a2 ha2 a3 ha3 a5 ha5 k arg18 (k0_pay1 on) (s2c (tl x0 x1 k.val 2) 99) (mxc (tl x0 x1 k.val 2) 99) (mnc (tl x0 x1 k.val 2) 99) (cB (tl x0 x1 k.val 2) 100) (s1c (tl x0 x1 k.val 2) (k0_pay1 on) 100) (mulf (eB (tl x0 x1 k.val 2) 100) (eB (tl x0 x1 k.val 2) 100)) >>= f) Q := by
  rw [k0_part74_eq_skeleton]
  refine ldU k.val 808 512 (Nat.lt_succ_self _) (k0_off363_eq k) ?_
  refine ldU k.val 816 512 (Nat.lt_succ_self _) (k0_off364_eq k) ?_
  refine ldU k.val 824 512 (Nat.lt_succ_self _) (k0_off365_eq k) ?_
  refine ldU k.val 832 512 (Nat.lt_succ_self _) (k0_off366_eq k) ?_
  refine ldU k.val 840 512 (Nat.lt_succ_self _) (k0_off367_eq k) ?_
  exact h

theorem t1_75 {R : sProp 𝕄} {Q : α → sProp 𝕄} (k : Fin k0_t1_loop.trips) {arg18 : BitVec 32} {f : (Σ' (v4173 : FVec F S8x256 .f32) (v4174 : FVec F S8x256 .bf16) (v4175 : FVec F S8x256 .bf16) (v4178 : FVec F S8x256 .bf16) (v4181 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 109), (mxc (tl x0 x1 k.val 2) 109), (mnc (tl x0 x1 k.val 2) 109), (cB (tl x0 x1 k.val 2) 110), (s1c (tl x0 x1 k.val 2) (k0_pay1 on) 110), (mulf (eB (tl x0 x1 k.val 2) 110) (eB (tl x0 x1 k.val 2) 110))⟩) Q) :
    St c x0 x1 R on (k.val + 1) s1 s2 mx mn ⊢ WP c (ap k0_part75 a2 ha2 a3 ha3 a5 ha5 k arg18 (k0_pay1 on) (s2c (tl x0 x1 k.val 2) 104) (mxc (tl x0 x1 k.val 2) 104) (mnc (tl x0 x1 k.val 2) 104) (cB (tl x0 x1 k.val 2) 105) (s1c (tl x0 x1 k.val 2) (k0_pay1 on) 105) (mulf (eB (tl x0 x1 k.val 2) 105) (eB (tl x0 x1 k.val 2) 105)) >>= f) Q := by
  rw [k0_part75_eq_skeleton]
  refine ldU k.val 848 512 (Nat.lt_succ_self _) (k0_off368_eq k) ?_
  refine ldU k.val 856 512 (Nat.lt_succ_self _) (k0_off369_eq k) ?_
  refine ldU k.val 864 512 (Nat.lt_succ_self _) (k0_off370_eq k) ?_
  refine ldU k.val 872 512 (Nat.lt_succ_self _) (k0_off371_eq k) ?_
  refine ldU k.val 880 512 (Nat.lt_succ_self _) (k0_off372_eq k) ?_
  exact h

theorem t1_76 {R : sProp 𝕄} {Q : α → sProp 𝕄} (k : Fin k0_t1_loop.trips) {arg18 : BitVec 32} {f : (Σ' (v4223 : FVec F S8x256 .f32) (v4224 : FVec F S8x256 .bf16) (v4225 : FVec F S8x256 .bf16) (v4228 : FVec F S8x256 .bf16) (v4231 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 114), (mxc (tl x0 x1 k.val 2) 114), (mnc (tl x0 x1 k.val 2) 114), (cB (tl x0 x1 k.val 2) 115), (s1c (tl x0 x1 k.val 2) (k0_pay1 on) 115), (mulf (eB (tl x0 x1 k.val 2) 115) (eB (tl x0 x1 k.val 2) 115))⟩) Q) :
    St c x0 x1 R on (k.val + 1) s1 s2 mx mn ⊢ WP c (ap k0_part76 a2 ha2 a3 ha3 a5 ha5 k arg18 (k0_pay1 on) (s2c (tl x0 x1 k.val 2) 109) (mxc (tl x0 x1 k.val 2) 109) (mnc (tl x0 x1 k.val 2) 109) (cB (tl x0 x1 k.val 2) 110) (s1c (tl x0 x1 k.val 2) (k0_pay1 on) 110) (mulf (eB (tl x0 x1 k.val 2) 110) (eB (tl x0 x1 k.val 2) 110)) >>= f) Q := by
  rw [k0_part76_eq_skeleton]
  refine ldU k.val 888 512 (Nat.lt_succ_self _) (k0_off373_eq k) ?_
  refine ldU k.val 896 512 (Nat.lt_succ_self _) (k0_off374_eq k) ?_
  refine ldU k.val 904 512 (Nat.lt_succ_self _) (k0_off375_eq k) ?_
  refine ldU k.val 912 512 (Nat.lt_succ_self _) (k0_off376_eq k) ?_
  refine ldU k.val 920 512 (Nat.lt_succ_self _) (k0_off377_eq k) ?_
  exact h

theorem t1_77 {R : sProp 𝕄} {Q : α → sProp 𝕄} (k : Fin k0_t1_loop.trips) {arg18 : BitVec 32} {f : (Σ' (v4273 : FVec F S8x256 .f32) (v4274 : FVec F S8x256 .bf16) (v4275 : FVec F S8x256 .bf16) (v4278 : FVec F S8x256 .bf16) (v4281 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 119), (mxc (tl x0 x1 k.val 2) 119), (mnc (tl x0 x1 k.val 2) 119), (cB (tl x0 x1 k.val 2) 120), (s1c (tl x0 x1 k.val 2) (k0_pay1 on) 120), (mulf (eB (tl x0 x1 k.val 2) 120) (eB (tl x0 x1 k.val 2) 120))⟩) Q) :
    St c x0 x1 R on (k.val + 1) s1 s2 mx mn ⊢ WP c (ap k0_part77 a2 ha2 a3 ha3 a5 ha5 k arg18 (k0_pay1 on) (s2c (tl x0 x1 k.val 2) 114) (mxc (tl x0 x1 k.val 2) 114) (mnc (tl x0 x1 k.val 2) 114) (cB (tl x0 x1 k.val 2) 115) (s1c (tl x0 x1 k.val 2) (k0_pay1 on) 115) (mulf (eB (tl x0 x1 k.val 2) 115) (eB (tl x0 x1 k.val 2) 115)) >>= f) Q := by
  rw [k0_part77_eq_skeleton]
  refine ldU k.val 928 512 (Nat.lt_succ_self _) (k0_off378_eq k) ?_
  refine ldU k.val 936 512 (Nat.lt_succ_self _) (k0_off379_eq k) ?_
  refine ldU k.val 944 512 (Nat.lt_succ_self _) (k0_off380_eq k) ?_
  refine ldU k.val 952 512 (Nat.lt_succ_self _) (k0_off381_eq k) ?_
  refine ldU k.val 960 512 (Nat.lt_succ_self _) (k0_off382_eq k) ?_
  exact h

theorem t1_78 {R : sProp 𝕄} {Q : α → sProp 𝕄} (k : Fin k0_t1_loop.trips) {arg18 : BitVec 32} {f : (Σ' (v4323 : FVec F S8x256 .f32) (v4324 : FVec F S8x256 .bf16) (v4325 : FVec F S8x256 .bf16) (v4328 : FVec F S8x256 .bf16) (v4331 : FVec F S8x256 .f32), FVec F S8x256 .f32) → Prog (TpuEff nD τ sig (Elt F) Λ₀ .tc) α}
    (h : St c x0 x1 R on (k.val + 1) s1 s2 mx mn ⊢ WP c (f ⟨(s2c (tl x0 x1 k.val 2) 124), (mxc (tl x0 x1 k.val 2) 124), (mnc (tl x0 x1 k.val 2) 124), (cB (tl x0 x1 k.val 2) 125), (s1c (tl x0 x1 k.val 2) (k0_pay1 on) 125), (mulf (eB (tl x0 x1 k.val 2) 125) (eB (tl x0 x1 k.val 2) 125))⟩) Q) :
    St c x0 x1 R on (k.val + 1) s1 s2 mx mn ⊢ WP c (ap k0_part78 a2 ha2 a3 ha3 a5 ha5 k arg18 (k0_pay1 on) (s2c (tl x0 x1 k.val 2) 119) (mxc (tl x0 x1 k.val 2) 119) (mnc (tl x0 x1 k.val 2) 119) (cB (tl x0 x1 k.val 2) 120) (s1c (tl x0 x1 k.val 2) (k0_pay1 on) 120) (mulf (eB (tl x0 x1 k.val 2) 120) (eB (tl x0 x1 k.val 2) 120)) >>= f) Q := by
  rw [k0_part78_eq_skeleton]
  refine ldU k.val 968 512 (Nat.lt_succ_self _) (k0_off383_eq k) ?_
  refine ldU k.val 976 512 (Nat.lt_succ_self _) (k0_off384_eq k) ?_
  refine ldU k.val 984 512 (Nat.lt_succ_self _) (k0_off385_eq k) ?_
  refine ldU k.val 992 512 (Nat.lt_succ_self _) (k0_off386_eq k) ?_
  refine ldU k.val 1000 512 (Nat.lt_succ_self _) (k0_off387_eq k) ?_
  exact h

theorem t1_79 {R : sProp 𝕄} {Q : α → sProp 𝕄} (k : Fin k0_t1_loop.trips) {arg18 : BitVec 32} {f : (FVec F S8x256 .f32) → Prog (TpuEff nD τ sig (Elt F) Λ₀ .tc) α}
    (h : St c x0 x1 R on (k.val + 1) (wr4 mS1 s1 (k0_off390 k) (k0_off390_inb k) (k0_pay362 (s1c (tl x0 x1 k.val 2) (k0_pay1 on) 127))) (wr4 mS2 s2 (k0_off390 k) (k0_off390_inb k) (k0_pay362 (s2c (tl x0 x1 k.val 2) 127))) (wr4 mMx mx (k0_off390 k) (k0_off390_inb k) (k0_pay364 (mxc (tl x0 x1 k.val 2) 127))) mn ⊢ WP c (f (extf .f32 (mnc (tl x0 x1 k.val 2) 127) bitsLt_bf16_f32)) Q) :
    St c x0 x1 R on (k.val + 1) s1 s2 mx mn ⊢ WP c (ap k0_part79 a2 ha2 a3 ha3 a5 ha5 k arg18 (k0_pay1 on) (s2c (tl x0 x1 k.val 2) 124) (mxc (tl x0 x1 k.val 2) 124) (mnc (tl x0 x1 k.val 2) 124) (cB (tl x0 x1 k.val 2) 125) (s1c (tl x0 x1 k.val 2) (k0_pay1 on) 125) (mulf (eB (tl x0 x1 k.val 2) 125) (eB (tl x0 x1 k.val 2) 125)) >>= f) Q := by
  rw [k0_part79_eq_skeleton]
  refine ldU k.val 1008 512 (Nat.lt_succ_self _) (k0_off388_eq k) ?_
  refine ldU k.val 1016 512 (Nat.lt_succ_self _) (k0_off389_eq k) ?_
  refine ddS1 ?_
  refine stS1 ?_
  refine ddS2 ?_
  refine stS2 ?_
  refine ddMx ?_
  refine stMx ?_
  exact h

theorem t1_80 {R : sProp 𝕄} {Q : α → sProp 𝕄} (k : Fin k0_t1_loop.trips) {arg18 : BitVec 32} {f : (Σ' (v4413 : FVec F S8x256 .f32) (v4415 : FVec F S8x256 .f32) (v4416 : FVec F S8x256 .bf16) (v4417 : FVec F S8x256 .bf16) (v4420 : FVec F S8x256 .bf16) (v4421 : FVec F S8x256 .f32), FVec F S8x256 .f32) → Prog (TpuEff nD τ sig (Elt F) Λ₀ .tc) α}
    (h : St c x0 x1 R on (k.val + 1) s1 s2 mx (wr4 mMn mn (k0_off390 k) (k0_off390_inb k) (finMn (mnc (tl x0 x1 k.val 2) 127))) ⊢ WP c (f ⟨(s1c (tl x0 x1 k.val 3) (k0_pay1 on) 3), (s2c (tl x0 x1 k.val 3) 3), (mxc (tl x0 x1 k.val 3) 3), (mnc (tl x0 x1 k.val 3) 3), (cB (tl x0 x1 k.val 3) 4), (eB (tl x0 x1 k.val 3) 4), (mulf (eB (tl x0 x1 k.val 3) 4) (k0_pay1 on))⟩) Q) :
    St c x0 x1 R on (k.val + 1) s1 s2 mx mn ⊢ WP c (ap k0_part80 a2 ha2 a3 ha3 a5 ha5 k arg18 (k0_pay1 on) (extf .f32 (mnc (tl x0 x1 k.val 2) 127) bitsLt_bf16_f32) >>= f) Q := by
  rw [k0_part80_eq_skeleton]
  refine ddMn ?_
  refine stMn ?_
  refine ldS k.val 0 0 (Nat.lt_succ_self _) (k0_off391_eq k) ?_
  refine ldS k.val 8 0 (Nat.lt_succ_self _) (k0_off392_eq k) ?_
  refine ldS k.val 16 0 (Nat.lt_succ_self _) (k0_off393_eq k) ?_
  refine ldS k.val 24 0 (Nat.lt_succ_self _) (k0_off394_eq k) ?_
  refine ldS k.val 32 0 (Nat.lt_succ_self _) (k0_off395_eq k) ?_
  exact h

theorem t1_81 {R : sProp 𝕄} {Q : α → sProp 𝕄} (k : Fin k0_t1_loop.trips) {arg18 : BitVec 32} {f : (Σ' (v4463 : FVec F S8x256 .f32) (v4465 : FVec F S8x256 .f32) (v4466 : FVec F S8x256 .bf16) (v4467 : FVec F S8x256 .bf16) (v4470 : FVec F S8x256 .bf16) (v4471 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 8), (s2c (tl x0 x1 k.val 3) 8), (mxc (tl x0 x1 k.val 3) 8), (mnc (tl x0 x1 k.val 3) 8), (cB (tl x0 x1 k.val 3) 9), (eB (tl x0 x1 k.val 3) 9), (mulf (eB (tl x0 x1 k.val 3) 9) (k0_pay1 on))⟩) Q) :
    St c x0 x1 R on (k.val + 1) s1 s2 mx mn ⊢ WP c (ap k0_part81 a2 ha2 a3 ha3 a5 ha5 k arg18 (k0_pay1 on) (s1c (tl x0 x1 k.val 3) (k0_pay1 on) 3) (s2c (tl x0 x1 k.val 3) 3) (mxc (tl x0 x1 k.val 3) 3) (mnc (tl x0 x1 k.val 3) 3) (cB (tl x0 x1 k.val 3) 4) (eB (tl x0 x1 k.val 3) 4) (mulf (eB (tl x0 x1 k.val 3) 4) (k0_pay1 on)) >>= f) Q := by
  rw [k0_part81_eq_skeleton]
  refine ldS k.val 40 0 (Nat.lt_succ_self _) (k0_off396_eq k) ?_
  refine ldS k.val 48 0 (Nat.lt_succ_self _) (k0_off397_eq k) ?_
  refine ldS k.val 56 0 (Nat.lt_succ_self _) (k0_off398_eq k) ?_
  refine ldS k.val 64 0 (Nat.lt_succ_self _) (k0_off399_eq k) ?_
  refine ldS k.val 72 0 (Nat.lt_succ_self _) (k0_off400_eq k) ?_
  exact h

theorem t1_82 {R : sProp 𝕄} {Q : α → sProp 𝕄} (k : Fin k0_t1_loop.trips) {arg18 : BitVec 32} {f : (Σ' (v4513 : FVec F S8x256 .f32) (v4515 : FVec F S8x256 .f32) (v4516 : FVec F S8x256 .bf16) (v4517 : FVec F S8x256 .bf16) (v4520 : FVec F S8x256 .bf16) (v4521 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 13), (s2c (tl x0 x1 k.val 3) 13), (mxc (tl x0 x1 k.val 3) 13), (mnc (tl x0 x1 k.val 3) 13), (cB (tl x0 x1 k.val 3) 14), (eB (tl x0 x1 k.val 3) 14), (mulf (eB (tl x0 x1 k.val 3) 14) (k0_pay1 on))⟩) Q) :
    St c x0 x1 R on (k.val + 1) s1 s2 mx mn ⊢ WP c (ap k0_part82 a2 ha2 a3 ha3 a5 ha5 k arg18 (k0_pay1 on) (s1c (tl x0 x1 k.val 3) (k0_pay1 on) 8) (s2c (tl x0 x1 k.val 3) 8) (mxc (tl x0 x1 k.val 3) 8) (mnc (tl x0 x1 k.val 3) 8) (cB (tl x0 x1 k.val 3) 9) (eB (tl x0 x1 k.val 3) 9) (mulf (eB (tl x0 x1 k.val 3) 9) (k0_pay1 on)) >>= f) Q := by
  rw [k0_part82_eq_skeleton]
  refine ldS k.val 80 0 (Nat.lt_succ_self _) (k0_off401_eq k) ?_
  refine ldS k.val 88 0 (Nat.lt_succ_self _) (k0_off402_eq k) ?_
  refine ldS k.val 96 0 (Nat.lt_succ_self _) (k0_off403_eq k) ?_
  refine ldS k.val 104 0 (Nat.lt_succ_self _) (k0_off404_eq k) ?_
  refine ldS k.val 112 0 (Nat.lt_succ_self _) (k0_off405_eq k) ?_
  exact h

theorem t1_83 {R : sProp 𝕄} {Q : α → sProp 𝕄} (k : Fin k0_t1_loop.trips) {arg18 : BitVec 32} {f : (Σ' (v4563 : FVec F S8x256 .f32) (v4565 : FVec F S8x256 .f32) (v4566 : FVec F S8x256 .bf16) (v4567 : FVec F S8x256 .bf16) (v4570 : FVec F S8x256 .bf16) (v4571 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 18), (s2c (tl x0 x1 k.val 3) 18), (mxc (tl x0 x1 k.val 3) 18), (mnc (tl x0 x1 k.val 3) 18), (cB (tl x0 x1 k.val 3) 19), (eB (tl x0 x1 k.val 3) 19), (mulf (eB (tl x0 x1 k.val 3) 19) (k0_pay1 on))⟩) Q) :
    St c x0 x1 R on (k.val + 1) s1 s2 mx mn ⊢ WP c (ap k0_part83 a2 ha2 a3 ha3 a5 ha5 k arg18 (k0_pay1 on) (s1c (tl x0 x1 k.val 3) (k0_pay1 on) 13) (s2c (tl x0 x1 k.val 3) 13) (mxc (tl x0 x1 k.val 3) 13) (mnc (tl x0 x1 k.val 3) 13) (cB (tl x0 x1 k.val 3) 14) (eB (tl x0 x1 k.val 3) 14) (mulf (eB (tl x0 x1 k.val 3) 14) (k0_pay1 on)) >>= f) Q := by
  rw [k0_part83_eq_skeleton]
  refine ldS k.val 120 0 (Nat.lt_succ_self _) (k0_off406_eq k) ?_
  refine ldS k.val 128 0 (Nat.lt_succ_self _) (k0_off407_eq k) ?_
  refine ldS k.val 136 0 (Nat.lt_succ_self _) (k0_off408_eq k) ?_
  refine ldS k.val 144 0 (Nat.lt_succ_self _) (k0_off409_eq k) ?_
  refine ldS k.val 152 0 (Nat.lt_succ_self _) (k0_off410_eq k) ?_
  exact h

theorem t1_84 {R : sProp 𝕄} {Q : α → sProp 𝕄} (k : Fin k0_t1_loop.trips) {arg18 : BitVec 32} {f : (Σ' (v4613 : FVec F S8x256 .f32) (v4615 : FVec F S8x256 .f32) (v4616 : FVec F S8x256 .bf16) (v4617 : FVec F S8x256 .bf16) (v4620 : FVec F S8x256 .bf16) (v4621 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 23), (s2c (tl x0 x1 k.val 3) 23), (mxc (tl x0 x1 k.val 3) 23), (mnc (tl x0 x1 k.val 3) 23), (cB (tl x0 x1 k.val 3) 24), (eB (tl x0 x1 k.val 3) 24), (mulf (eB (tl x0 x1 k.val 3) 24) (k0_pay1 on))⟩) Q) :
    St c x0 x1 R on (k.val + 1) s1 s2 mx mn ⊢ WP c (ap k0_part84 a2 ha2 a3 ha3 a5 ha5 k arg18 (k0_pay1 on) (s1c (tl x0 x1 k.val 3) (k0_pay1 on) 18) (s2c (tl x0 x1 k.val 3) 18) (mxc (tl x0 x1 k.val 3) 18) (mnc (tl x0 x1 k.val 3) 18) (cB (tl x0 x1 k.val 3) 19) (eB (tl x0 x1 k.val 3) 19) (mulf (eB (tl x0 x1 k.val 3) 19) (k0_pay1 on)) >>= f) Q := by
  rw [k0_part84_eq_skeleton]
  refine ldS k.val 160 0 (Nat.lt_succ_self _) (k0_off411_eq k) ?_
  refine ldS k.val 168 0 (Nat.lt_succ_self _) (k0_off412_eq k) ?_
  refine ldS k.val 176 0 (Nat.lt_succ_self _) (k0_off413_eq k) ?_
  refine ldS k.val 184 0 (Nat.lt_succ_self _) (k0_off414_eq k) ?_
  refine ldS k.val 192 0 (Nat.lt_succ_self _) (k0_off415_eq k) ?_
  exact h

theorem t1_85 {R : sProp 𝕄} {Q : α → sProp 𝕄} (k : Fin k0_t1_loop.trips) {arg18 : BitVec 32} {f : (Σ' (v4663 : FVec F S8x256 .f32) (v4665 : FVec F S8x256 .f32) (v4666 : FVec F S8x256 .bf16) (v4667 : FVec F S8x256 .bf16) (v4670 : FVec F S8x256 .bf16) (v4671 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 28), (s2c (tl x0 x1 k.val 3) 28), (mxc (tl x0 x1 k.val 3) 28), (mnc (tl x0 x1 k.val 3) 28), (cB (tl x0 x1 k.val 3) 29), (eB (tl x0 x1 k.val 3) 29), (mulf (eB (tl x0 x1 k.val 3) 29) (k0_pay1 on))⟩) Q) :
    St c x0 x1 R on (k.val + 1) s1 s2 mx mn ⊢ WP c (ap k0_part85 a2 ha2 a3 ha3 a5 ha5 k arg18 (k0_pay1 on) (s1c (tl x0 x1 k.val 3) (k0_pay1 on) 23) (s2c (tl x0 x1 k.val 3) 23) (mxc (tl x0 x1 k.val 3) 23) (mnc (tl x0 x1 k.val 3) 23) (cB (tl x0 x1 k.val 3) 24) (eB (tl x0 x1 k.val 3) 24) (mulf (eB (tl x0 x1 k.val 3) 24) (k0_pay1 on)) >>= f) Q := by
  rw [k0_part85_eq_skeleton]
  refine ldS k.val 200 0 (Nat.lt_succ_self _) (k0_off416_eq k) ?_
  refine ldS k.val 208 0 (Nat.lt_succ_self _) (k0_off417_eq k) ?_
  refine ldS k.val 216 0 (Nat.lt_succ_self _) (k0_off418_eq k) ?_
  refine ldS k.val 224 0 (Nat.lt_succ_self _) (k0_off419_eq k) ?_
  refine ldS k.val 232 0 (Nat.lt_succ_self _) (k0_off420_eq k) ?_
  exact h

theorem t1_86 {R : sProp 𝕄} {Q : α → sProp 𝕄} (k : Fin k0_t1_loop.trips) {arg18 : BitVec 32} {f : (Σ' (v4713 : FVec F S8x256 .f32) (v4715 : FVec F S8x256 .f32) (v4716 : FVec F S8x256 .bf16) (v4717 : FVec F S8x256 .bf16) (v4720 : FVec F S8x256 .bf16) (v4721 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 33), (s2c (tl x0 x1 k.val 3) 33), (mxc (tl x0 x1 k.val 3) 33), (mnc (tl x0 x1 k.val 3) 33), (cB (tl x0 x1 k.val 3) 34), (eB (tl x0 x1 k.val 3) 34), (mulf (eB (tl x0 x1 k.val 3) 34) (k0_pay1 on))⟩) Q) :
    St c x0 x1 R on (k.val + 1) s1 s2 mx mn ⊢ WP c (ap k0_part86 a2 ha2 a3 ha3 a5 ha5 k arg18 (k0_pay1 on) (s1c (tl x0 x1 k.val 3) (k0_pay1 on) 28) (s2c (tl x0 x1 k.val 3) 28) (mxc (tl x0 x1 k.val 3) 28) (mnc (tl x0 x1 k.val 3) 28) (cB (tl x0 x1 k.val 3) 29) (eB (tl x0 x1 k.val 3) 29) (mulf (eB (tl x0 x1 k.val 3) 29) (k0_pay1 on)) >>= f) Q := by
  rw [k0_part86_eq_skeleton]
  refine ldS k.val 240 0 (Nat.lt_succ_self _) (k0_off421_eq k) ?_
  refine ldS k.val 248 0 (Nat.lt_succ_self _) (k0_off422_eq k) ?_
  refine ldS k.val 256 0 (Nat.lt_succ_self _) (k0_off423_eq k) ?_
  refine ldS k.val 264 0 (Nat.lt_succ_self _) (k0_off424_eq k) ?_
  refine ldS k.val 272 0 (Nat.lt_succ_self _) (k0_off425_eq k) ?_
  exact h

theorem t1_87 {R : sProp 𝕄} {Q : α → sProp 𝕄} (k : Fin k0_t1_loop.trips) {arg18 : BitVec 32} {f : (Σ' (v4763 : FVec F S8x256 .f32) (v4765 : FVec F S8x256 .f32) (v4766 : FVec F S8x256 .bf16) (v4767 : FVec F S8x256 .bf16) (v4770 : FVec F S8x256 .bf16) (v4771 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 38), (s2c (tl x0 x1 k.val 3) 38), (mxc (tl x0 x1 k.val 3) 38), (mnc (tl x0 x1 k.val 3) 38), (cB (tl x0 x1 k.val 3) 39), (eB (tl x0 x1 k.val 3) 39), (mulf (eB (tl x0 x1 k.val 3) 39) (k0_pay1 on))⟩) Q) :
    St c x0 x1 R on (k.val + 1) s1 s2 mx mn ⊢ WP c (ap k0_part87 a2 ha2 a3 ha3 a5 ha5 k arg18 (k0_pay1 on) (s1c (tl x0 x1 k.val 3) (k0_pay1 on) 33) (s2c (tl x0 x1 k.val 3) 33) (mxc (tl x0 x1 k.val 3) 33) (mnc (tl x0 x1 k.val 3) 33) (cB (tl x0 x1 k.val 3) 34) (eB (tl x0 x1 k.val 3) 34) (mulf (eB (tl x0 x1 k.val 3) 34) (k0_pay1 on)) >>= f) Q := by
  rw [k0_part87_eq_skeleton]
  refine ldS k.val 280 0 (Nat.lt_succ_self _) (k0_off426_eq k) ?_
  refine ldS k.val 288 0 (Nat.lt_succ_self _) (k0_off427_eq k) ?_
  refine ldS k.val 296 0 (Nat.lt_succ_self _) (k0_off428_eq k) ?_
  refine ldS k.val 304 0 (Nat.lt_succ_self _) (k0_off429_eq k) ?_
  refine ldS k.val 312 0 (Nat.lt_succ_self _) (k0_off430_eq k) ?_
  exact h

theorem t1_88 {R : sProp 𝕄} {Q : α → sProp 𝕄} (k : Fin k0_t1_loop.trips) {arg18 : BitVec 32} {f : (Σ' (v4813 : FVec F S8x256 .f32) (v4815 : FVec F S8x256 .f32) (v4816 : FVec F S8x256 .bf16) (v4817 : FVec F S8x256 .bf16) (v4820 : FVec F S8x256 .bf16) (v4821 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 43), (s2c (tl x0 x1 k.val 3) 43), (mxc (tl x0 x1 k.val 3) 43), (mnc (tl x0 x1 k.val 3) 43), (cB (tl x0 x1 k.val 3) 44), (eB (tl x0 x1 k.val 3) 44), (mulf (eB (tl x0 x1 k.val 3) 44) (k0_pay1 on))⟩) Q) :
    St c x0 x1 R on (k.val + 1) s1 s2 mx mn ⊢ WP c (ap k0_part88 a2 ha2 a3 ha3 a5 ha5 k arg18 (k0_pay1 on) (s1c (tl x0 x1 k.val 3) (k0_pay1 on) 38) (s2c (tl x0 x1 k.val 3) 38) (mxc (tl x0 x1 k.val 3) 38) (mnc (tl x0 x1 k.val 3) 38) (cB (tl x0 x1 k.val 3) 39) (eB (tl x0 x1 k.val 3) 39) (mulf (eB (tl x0 x1 k.val 3) 39) (k0_pay1 on)) >>= f) Q := by
  rw [k0_part88_eq_skeleton]
  refine ldS k.val 320 0 (Nat.lt_succ_self _) (k0_off431_eq k) ?_
  refine ldS k.val 328 0 (Nat.lt_succ_self _) (k0_off432_eq k) ?_
  refine ldS k.val 336 0 (Nat.lt_succ_self _) (k0_off433_eq k) ?_
  refine ldS k.val 344 0 (Nat.lt_succ_self _) (k0_off434_eq k) ?_
  refine ldS k.val 352 0 (Nat.lt_succ_self _) (k0_off435_eq k) ?_
  exact h

theorem t1_89 {R : sProp 𝕄} {Q : α → sProp 𝕄} (k : Fin k0_t1_loop.trips) {arg18 : BitVec 32} {f : (Σ' (v4863 : FVec F S8x256 .f32) (v4865 : FVec F S8x256 .f32) (v4866 : FVec F S8x256 .bf16) (v4867 : FVec F S8x256 .bf16) (v4870 : FVec F S8x256 .bf16) (v4871 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 48), (s2c (tl x0 x1 k.val 3) 48), (mxc (tl x0 x1 k.val 3) 48), (mnc (tl x0 x1 k.val 3) 48), (cB (tl x0 x1 k.val 3) 49), (eB (tl x0 x1 k.val 3) 49), (mulf (eB (tl x0 x1 k.val 3) 49) (k0_pay1 on))⟩) Q) :
    St c x0 x1 R on (k.val + 1) s1 s2 mx mn ⊢ WP c (ap k0_part89 a2 ha2 a3 ha3 a5 ha5 k arg18 (k0_pay1 on) (s1c (tl x0 x1 k.val 3) (k0_pay1 on) 43) (s2c (tl x0 x1 k.val 3) 43) (mxc (tl x0 x1 k.val 3) 43) (mnc (tl x0 x1 k.val 3) 43) (cB (tl x0 x1 k.val 3) 44) (eB (tl x0 x1 k.val 3) 44) (mulf (eB (tl x0 x1 k.val 3) 44) (k0_pay1 on)) >>= f) Q := by
  rw [k0_part89_eq_skeleton]
  refine ldS k.val 360 0 (Nat.lt_succ_self _) (k0_off436_eq k) ?_
  refine ldS k.val 368 0 (Nat.lt_succ_self _) (k0_off437_eq k) ?_
  refine ldS k.val 376 0 (Nat.lt_succ_self _) (k0_off438_eq k) ?_
  refine ldS k.val 384 0 (Nat.lt_succ_self _) (k0_off439_eq k) ?_
  refine ldS k.val 392 0 (Nat.lt_succ_self _) (k0_off440_eq k) ?_
  exact h

theorem t1_90 {R : sProp 𝕄} {Q : α → sProp 𝕄} (k : Fin k0_t1_loop.trips) {arg18 : BitVec 32} {f : (Σ' (v4913 : FVec F S8x256 .f32) (v4915 : FVec F S8x256 .f32) (v4916 : FVec F S8x256 .bf16) (v4917 : FVec F S8x256 .bf16) (v4920 : FVec F S8x256 .bf16) (v4921 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 53), (s2c (tl x0 x1 k.val 3) 53), (mxc (tl x0 x1 k.val 3) 53), (mnc (tl x0 x1 k.val 3) 53), (cB (tl x0 x1 k.val 3) 54), (eB (tl x0 x1 k.val 3) 54), (mulf (eB (tl x0 x1 k.val 3) 54) (k0_pay1 on))⟩) Q) :
    St c x0 x1 R on (k.val + 1) s1 s2 mx mn ⊢ WP c (ap k0_part90 a2 ha2 a3 ha3 a5 ha5 k arg18 (k0_pay1 on) (s1c (tl x0 x1 k.val 3) (k0_pay1 on) 48) (s2c (tl x0 x1 k.val 3) 48) (mxc (tl x0 x1 k.val 3) 48) (mnc (tl x0 x1 k.val 3) 48) (cB (tl x0 x1 k.val 3) 49) (eB (tl x0 x1 k.val 3) 49) (mulf (eB (tl x0 x1 k.val 3) 49) (k0_pay1 on)) >>= f) Q := by
  rw [k0_part90_eq_skeleton]
  refine ldS k.val 400 0 (Nat.lt_succ_self _) (k0_off441_eq k) ?_
  refine ldS k.val 408 0 (Nat.lt_succ_self _) (k0_off442_eq k) ?_
  refine ldS k.val 416 0 (Nat.lt_succ_self _) (k0_off443_eq k) ?_
  refine ldS k.val 424 0 (Nat.lt_succ_self _) (k0_off444_eq k) ?_
  refine ldS k.val 432 0 (Nat.lt_succ_self _) (k0_off445_eq k) ?_
  exact h

theorem t1_91 {R : sProp 𝕄} {Q : α → sProp 𝕄} (k : Fin k0_t1_loop.trips) {arg18 : BitVec 32} {f : (Σ' (v4963 : FVec F S8x256 .f32) (v4965 : FVec F S8x256 .f32) (v4966 : FVec F S8x256 .bf16) (v4967 : FVec F S8x256 .bf16) (v4970 : FVec F S8x256 .bf16) (v4971 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 58), (s2c (tl x0 x1 k.val 3) 58), (mxc (tl x0 x1 k.val 3) 58), (mnc (tl x0 x1 k.val 3) 58), (cB (tl x0 x1 k.val 3) 59), (eB (tl x0 x1 k.val 3) 59), (mulf (eB (tl x0 x1 k.val 3) 59) (k0_pay1 on))⟩) Q) :
    St c x0 x1 R on (k.val + 1) s1 s2 mx mn ⊢ WP c (ap k0_part91 a2 ha2 a3 ha3 a5 ha5 k arg18 (k0_pay1 on) (s1c (tl x0 x1 k.val 3) (k0_pay1 on) 53) (s2c (tl x0 x1 k.val 3) 53) (mxc (tl x0 x1 k.val 3) 53) (mnc (tl x0 x1 k.val 3) 53) (cB (tl x0 x1 k.val 3) 54) (eB (tl x0 x1 k.val 3) 54) (mulf (eB (tl x0 x1 k.val 3) 54) (k0_pay1 on)) >>= f) Q := by
  rw [k0_part91_eq_skeleton]
  refine ldS k.val 440 0 (Nat.lt_succ_self _) (k0_off446_eq k) ?_
  refine ldS k.val 448 0 (Nat.lt_succ_self _) (k0_off447_eq k) ?_
  refine ldS k.val 456 0 (Nat.lt_succ_self _) (k0_off448_eq k) ?_
  refine ldS k.val 464 0 (Nat.lt_succ_self _) (k0_off449_eq k) ?_
  refine ldS k.val 472 0 (Nat.lt_succ_self _) (k0_off450_eq k) ?_
  exact h

theorem t1_92 {R : sProp 𝕄} {Q : α → sProp 𝕄} (k : Fin k0_t1_loop.trips) {arg18 : BitVec 32} {f : (Σ' (v5013 : FVec F S8x256 .f32) (v5015 : FVec F S8x256 .f32) (v5016 : FVec F S8x256 .bf16) (v5017 : FVec F S8x256 .bf16) (v5020 : FVec F S8x256 .bf16) (v5021 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 63), (s2c (tl x0 x1 k.val 3) 63), (mxc (tl x0 x1 k.val 3) 63), (mnc (tl x0 x1 k.val 3) 63), (cB (tl x0 x1 k.val 3) 64), (eB (tl x0 x1 k.val 3) 64), (mulf (eB (tl x0 x1 k.val 3) 64) (k0_pay1 on))⟩) Q) :
    St c x0 x1 R on (k.val + 1) s1 s2 mx mn ⊢ WP c (ap k0_part92 a2 ha2 a3 ha3 a5 ha5 k arg18 (k0_pay1 on) (s1c (tl x0 x1 k.val 3) (k0_pay1 on) 58) (s2c (tl x0 x1 k.val 3) 58) (mxc (tl x0 x1 k.val 3) 58) (mnc (tl x0 x1 k.val 3) 58) (cB (tl x0 x1 k.val 3) 59) (eB (tl x0 x1 k.val 3) 59) (mulf (eB (tl x0 x1 k.val 3) 59) (k0_pay1 on)) >>= f) Q := by
  rw [k0_part92_eq_skeleton]
  refine ldS k.val 480 0 (Nat.lt_succ_self _) (k0_off451_eq k) ?_
  refine ldS k.val 488 0 (Nat.lt_succ_self _) (k0_off452_eq k) ?_
  refine ldS k.val 496 0 (Nat.lt_succ_self _) (k0_off453_eq k) ?_
  refine ldS k.val 504 0 (Nat.lt_succ_self _) (k0_off454_eq k) ?_
  refine ldS k.val 512 0 (Nat.lt_succ_self _) (k0_off455_eq k) ?_
  exact h

theorem t1_93 {R : sProp 𝕄} {Q : α → sProp 𝕄} (k : Fin k0_t1_loop.trips) {arg18 : BitVec 32} {f : (Σ' (v5063 : FVec F S8x256 .f32) (v5065 : FVec F S8x256 .f32) (v5066 : FVec F S8x256 .bf16) (v5067 : FVec F S8x256 .bf16) (v5070 : FVec F S8x256 .bf16) (v5071 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 68), (s2c (tl x0 x1 k.val 3) 68), (mxc (tl x0 x1 k.val 3) 68), (mnc (tl x0 x1 k.val 3) 68), (cB (tl x0 x1 k.val 3) 69), (eB (tl x0 x1 k.val 3) 69), (mulf (eB (tl x0 x1 k.val 3) 69) (k0_pay1 on))⟩) Q) :
    St c x0 x1 R on (k.val + 1) s1 s2 mx mn ⊢ WP c (ap k0_part93 a2 ha2 a3 ha3 a5 ha5 k arg18 (k0_pay1 on) (s1c (tl x0 x1 k.val 3) (k0_pay1 on) 63) (s2c (tl x0 x1 k.val 3) 63) (mxc (tl x0 x1 k.val 3) 63) (mnc (tl x0 x1 k.val 3) 63) (cB (tl x0 x1 k.val 3) 64) (eB (tl x0 x1 k.val 3) 64) (mulf (eB (tl x0 x1 k.val 3) 64) (k0_pay1 on)) >>= f) Q := by
  rw [k0_part93_eq_skeleton]
  refine ldS k.val 520 0 (Nat.lt_succ_self _) (k0_off456_eq k) ?_
  refine ldS k.val 528 0 (Nat.lt_succ_self _) (k0_off457_eq k) ?_
  refine ldS k.val 536 0 (Nat.lt_succ_self _) (k0_off458_eq k) ?_
  refine ldS k.val 544 0 (Nat.lt_succ_self _) (k0_off459_eq k) ?_
  refine ldS k.val 552 0 (Nat.lt_succ_self _) (k0_off460_eq k) ?_
  exact h

theorem t1_94 {R : sProp 𝕄} {Q : α → sProp 𝕄} (k : Fin k0_t1_loop.trips) {arg18 : BitVec 32} {f : (Σ' (v5113 : FVec F S8x256 .f32) (v5115 : FVec F S8x256 .f32) (v5116 : FVec F S8x256 .bf16) (v5117 : FVec F S8x256 .bf16) (v5120 : FVec F S8x256 .bf16) (v5121 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 73), (s2c (tl x0 x1 k.val 3) 73), (mxc (tl x0 x1 k.val 3) 73), (mnc (tl x0 x1 k.val 3) 73), (cB (tl x0 x1 k.val 3) 74), (eB (tl x0 x1 k.val 3) 74), (mulf (eB (tl x0 x1 k.val 3) 74) (k0_pay1 on))⟩) Q) :
    St c x0 x1 R on (k.val + 1) s1 s2 mx mn ⊢ WP c (ap k0_part94 a2 ha2 a3 ha3 a5 ha5 k arg18 (k0_pay1 on) (s1c (tl x0 x1 k.val 3) (k0_pay1 on) 68) (s2c (tl x0 x1 k.val 3) 68) (mxc (tl x0 x1 k.val 3) 68) (mnc (tl x0 x1 k.val 3) 68) (cB (tl x0 x1 k.val 3) 69) (eB (tl x0 x1 k.val 3) 69) (mulf (eB (tl x0 x1 k.val 3) 69) (k0_pay1 on)) >>= f) Q := by
  rw [k0_part94_eq_skeleton]
  refine ldS k.val 560 0 (Nat.lt_succ_self _) (k0_off461_eq k) ?_
  refine ldS k.val 568 0 (Nat.lt_succ_self _) (k0_off462_eq k) ?_
  refine ldS k.val 576 0 (Nat.lt_succ_self _) (k0_off463_eq k) ?_
  refine ldS k.val 584 0 (Nat.lt_succ_self _) (k0_off464_eq k) ?_
  refine ldS k.val 592 0 (Nat.lt_succ_self _) (k0_off465_eq k) ?_
  exact h

theorem t1_95 {R : sProp 𝕄} {Q : α → sProp 𝕄} (k : Fin k0_t1_loop.trips) {arg18 : BitVec 32} {f : (Σ' (v5163 : FVec F S8x256 .f32) (v5165 : FVec F S8x256 .f32) (v5166 : FVec F S8x256 .bf16) (v5167 : FVec F S8x256 .bf16) (v5170 : FVec F S8x256 .bf16) (v5171 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 78), (s2c (tl x0 x1 k.val 3) 78), (mxc (tl x0 x1 k.val 3) 78), (mnc (tl x0 x1 k.val 3) 78), (cB (tl x0 x1 k.val 3) 79), (eB (tl x0 x1 k.val 3) 79), (mulf (eB (tl x0 x1 k.val 3) 79) (k0_pay1 on))⟩) Q) :
    St c x0 x1 R on (k.val + 1) s1 s2 mx mn ⊢ WP c (ap k0_part95 a2 ha2 a3 ha3 a5 ha5 k arg18 (k0_pay1 on) (s1c (tl x0 x1 k.val 3) (k0_pay1 on) 73) (s2c (tl x0 x1 k.val 3) 73) (mxc (tl x0 x1 k.val 3) 73) (mnc (tl x0 x1 k.val 3) 73) (cB (tl x0 x1 k.val 3) 74) (eB (tl x0 x1 k.val 3) 74) (mulf (eB (tl x0 x1 k.val 3) 74) (k0_pay1 on)) >>= f) Q := by
  rw [k0_part95_eq_skeleton]
  refine ldS k.val 600 0 (Nat.lt_succ_self _) (k0_off466_eq k) ?_
  refine ldS k.val 608 0 (Nat.lt_succ_self _) (k0_off467_eq k) ?_
  refine ldS k.val 616 0 (Nat.lt_succ_self _) (k0_off468_eq k) ?_
  refine ldS k.val 624 0 (Nat.lt_succ_self _) (k0_off469_eq k) ?_
  refine ldS k.val 632 0 (Nat.lt_succ_self _) (k0_off470_eq k) ?_
  exact h

theorem t1_96 {R : sProp 𝕄} {Q : α → sProp 𝕄} (k : Fin k0_t1_loop.trips) {arg18 : BitVec 32} {f : (Σ' (v5213 : FVec F S8x256 .f32) (v5215 : FVec F S8x256 .f32) (v5216 : FVec F S8x256 .bf16) (v5217 : FVec F S8x256 .bf16) (v5220 : FVec F S8x256 .bf16) (v5221 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 83), (s2c (tl x0 x1 k.val 3) 83), (mxc (tl x0 x1 k.val 3) 83), (mnc (tl x0 x1 k.val 3) 83), (cB (tl x0 x1 k.val 3) 84), (eB (tl x0 x1 k.val 3) 84), (mulf (eB (tl x0 x1 k.val 3) 84) (k0_pay1 on))⟩) Q) :
    St c x0 x1 R on (k.val + 1) s1 s2 mx mn ⊢ WP c (ap k0_part96 a2 ha2 a3 ha3 a5 ha5 k arg18 (k0_pay1 on) (s1c (tl x0 x1 k.val 3) (k0_pay1 on) 78) (s2c (tl x0 x1 k.val 3) 78) (mxc (tl x0 x1 k.val 3) 78) (mnc (tl x0 x1 k.val 3) 78) (cB (tl x0 x1 k.val 3) 79) (eB (tl x0 x1 k.val 3) 79) (mulf (eB (tl x0 x1 k.val 3) 79) (k0_pay1 on)) >>= f) Q := by
  rw [k0_part96_eq_skeleton]
  refine ldS k.val 640 0 (Nat.lt_succ_self _) (k0_off471_eq k) ?_
  refine ldS k.val 648 0 (Nat.lt_succ_self _) (k0_off472_eq k) ?_
  refine ldS k.val 656 0 (Nat.lt_succ_self _) (k0_off473_eq k) ?_
  refine ldS k.val 664 0 (Nat.lt_succ_self _) (k0_off474_eq k) ?_
  refine ldS k.val 672 0 (Nat.lt_succ_self _) (k0_off475_eq k) ?_
  exact h

theorem t1_97 {R : sProp 𝕄} {Q : α → sProp 𝕄} (k : Fin k0_t1_loop.trips) {arg18 : BitVec 32} {f : (Σ' (v5263 : FVec F S8x256 .f32) (v5265 : FVec F S8x256 .f32) (v5266 : FVec F S8x256 .bf16) (v5267 : FVec F S8x256 .bf16) (v5270 : FVec F S8x256 .bf16) (v5271 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 88), (s2c (tl x0 x1 k.val 3) 88), (mxc (tl x0 x1 k.val 3) 88), (mnc (tl x0 x1 k.val 3) 88), (cB (tl x0 x1 k.val 3) 89), (eB (tl x0 x1 k.val 3) 89), (mulf (eB (tl x0 x1 k.val 3) 89) (k0_pay1 on))⟩) Q) :
    St c x0 x1 R on (k.val + 1) s1 s2 mx mn ⊢ WP c (ap k0_part97 a2 ha2 a3 ha3 a5 ha5 k arg18 (k0_pay1 on) (s1c (tl x0 x1 k.val 3) (k0_pay1 on) 83) (s2c (tl x0 x1 k.val 3) 83) (mxc (tl x0 x1 k.val 3) 83) (mnc (tl x0 x1 k.val 3) 83) (cB (tl x0 x1 k.val 3) 84) (eB (tl x0 x1 k.val 3) 84) (mulf (eB (tl x0 x1 k.val 3) 84) (k0_pay1 on)) >>= f) Q := by
  rw [k0_part97_eq_skeleton]
  refine ldS k.val 680 0 (Nat.lt_succ_self _) (k0_off476_eq k) ?_
  refine ldS k.val 688 0 (Nat.lt_succ_self _) (k0_off477_eq k) ?_
  refine ldS k.val 696 0 (Nat.lt_succ_self _) (k0_off478_eq k) ?_
  refine ldS k.val 704 0 (Nat.lt_succ_self _) (k0_off479_eq k) ?_
  refine ldS k.val 712 0 (Nat.lt_succ_self _) (k0_off480_eq k) ?_
  exact h

theorem t1_98 {R : sProp 𝕄} {Q : α → sProp 𝕄} (k : Fin k0_t1_loop.trips) {arg18 : BitVec 32} {f : (Σ' (v5313 : FVec F S8x256 .f32) (v5315 : FVec F S8x256 .f32) (v5316 : FVec F S8x256 .bf16) (v5317 : FVec F S8x256 .bf16) (v5320 : FVec F S8x256 .bf16) (v5321 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 93), (s2c (tl x0 x1 k.val 3) 93), (mxc (tl x0 x1 k.val 3) 93), (mnc (tl x0 x1 k.val 3) 93), (cB (tl x0 x1 k.val 3) 94), (eB (tl x0 x1 k.val 3) 94), (mulf (eB (tl x0 x1 k.val 3) 94) (k0_pay1 on))⟩) Q) :
    St c x0 x1 R on (k.val + 1) s1 s2 mx mn ⊢ WP c (ap k0_part98 a2 ha2 a3 ha3 a5 ha5 k arg18 (k0_pay1 on) (s1c (tl x0 x1 k.val 3) (k0_pay1 on) 88) (s2c (tl x0 x1 k.val 3) 88) (mxc (tl x0 x1 k.val 3) 88) (mnc (tl x0 x1 k.val 3) 88) (cB (tl x0 x1 k.val 3) 89) (eB (tl x0 x1 k.val 3) 89) (mulf (eB (tl x0 x1 k.val 3) 89) (k0_pay1 on)) >>= f) Q := by
  rw [k0_part98_eq_skeleton]
  refine ldS k.val 720 0 (Nat.lt_succ_self _) (k0_off481_eq k) ?_
  refine ldS k.val 728 0 (Nat.lt_succ_self _) (k0_off482_eq k) ?_
  refine ldS k.val 736 0 (Nat.lt_succ_self _) (k0_off483_eq k) ?_
  refine ldS k.val 744 0 (Nat.lt_succ_self _) (k0_off484_eq k) ?_
  refine ldS k.val 752 0 (Nat.lt_succ_self _) (k0_off485_eq k) ?_
  exact h

theorem t1_99 {R : sProp 𝕄} {Q : α → sProp 𝕄} (k : Fin k0_t1_loop.trips) {arg18 : BitVec 32} {f : (Σ' (v5363 : FVec F S8x256 .f32) (v5365 : FVec F S8x256 .f32) (v5366 : FVec F S8x256 .bf16) (v5367 : FVec F S8x256 .bf16) (v5370 : FVec F S8x256 .bf16) (v5371 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 98), (s2c (tl x0 x1 k.val 3) 98), (mxc (tl x0 x1 k.val 3) 98), (mnc (tl x0 x1 k.val 3) 98), (cB (tl x0 x1 k.val 3) 99), (eB (tl x0 x1 k.val 3) 99), (mulf (eB (tl x0 x1 k.val 3) 99) (k0_pay1 on))⟩) Q) :
    St c x0 x1 R on (k.val + 1) s1 s2 mx mn ⊢ WP c (ap k0_part99 a2 ha2 a3 ha3 a5 ha5 k arg18 (k0_pay1 on) (s1c (tl x0 x1 k.val 3) (k0_pay1 on) 93) (s2c (tl x0 x1 k.val 3) 93) (mxc (tl x0 x1 k.val 3) 93) (mnc (tl x0 x1 k.val 3) 93) (cB (tl x0 x1 k.val 3) 94) (eB (tl x0 x1 k.val 3) 94) (mulf (eB (tl x0 x1 k.val 3) 94) (k0_pay1 on)) >>= f) Q := by
  rw [k0_part99_eq_skeleton]
  refine ldS k.val 760 0 (Nat.lt_succ_self _) (k0_off486_eq k) ?_
  refine ldS k.val 768 0 (Nat.lt_succ_self _) (k0_off487_eq k) ?_
  refine ldS k.val 776 0 (Nat.lt_succ_self _) (k0_off488_eq k) ?_
  refine ldS k.val 784 0 (Nat.lt_succ_self _) (k0_off489_eq k) ?_
  refine ldS k.val 792 0 (Nat.lt_succ_self _) (k0_off490_eq k) ?_
  exact h

theorem t1_100 {R : sProp 𝕄} {Q : α → sProp 𝕄} (k : Fin k0_t1_loop.trips) {arg18 : BitVec 32} {f : (Σ' (v5413 : FVec F S8x256 .f32) (v5415 : FVec F S8x256 .f32) (v5416 : FVec F S8x256 .bf16) (v5417 : FVec F S8x256 .bf16) (v5420 : FVec F S8x256 .bf16) (v5421 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 103), (s2c (tl x0 x1 k.val 3) 103), (mxc (tl x0 x1 k.val 3) 103), (mnc (tl x0 x1 k.val 3) 103), (cB (tl x0 x1 k.val 3) 104), (eB (tl x0 x1 k.val 3) 104), (mulf (eB (tl x0 x1 k.val 3) 104) (k0_pay1 on))⟩) Q) :
    St c x0 x1 R on (k.val + 1) s1 s2 mx mn ⊢ WP c (ap k0_part100 a2 ha2 a3 ha3 a5 ha5 k arg18 (k0_pay1 on) (s1c (tl x0 x1 k.val 3) (k0_pay1 on) 98) (s2c (tl x0 x1 k.val 3) 98) (mxc (tl x0 x1 k.val 3) 98) (mnc (tl x0 x1 k.val 3) 98) (cB (tl x0 x1 k.val 3) 99) (eB (tl x0 x1 k.val 3) 99) (mulf (eB (tl x0 x1 k.val 3) 99) (k0_pay1 on)) >>= f) Q := by
  rw [k0_part100_eq_skeleton]
  refine ldS k.val 800 0 (Nat.lt_succ_self _) (k0_off491_eq k) ?_
  refine ldS k.val 808 0 (Nat.lt_succ_self _) (k0_off492_eq k) ?_
  refine ldS k.val 816 0 (Nat.lt_succ_self _) (k0_off493_eq k) ?_
  refine ldS k.val 824 0 (Nat.lt_succ_self _) (k0_off494_eq k) ?_
  refine ldS k.val 832 0 (Nat.lt_succ_self _) (k0_off495_eq k) ?_
  exact h

theorem t1_101 {R : sProp 𝕄} {Q : α → sProp 𝕄} (k : Fin k0_t1_loop.trips) {arg18 : BitVec 32} {f : (Σ' (v5463 : FVec F S8x256 .f32) (v5465 : FVec F S8x256 .f32) (v5466 : FVec F S8x256 .bf16) (v5467 : FVec F S8x256 .bf16) (v5470 : FVec F S8x256 .bf16) (v5471 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 108), (s2c (tl x0 x1 k.val 3) 108), (mxc (tl x0 x1 k.val 3) 108), (mnc (tl x0 x1 k.val 3) 108), (cB (tl x0 x1 k.val 3) 109), (eB (tl x0 x1 k.val 3) 109), (mulf (eB (tl x0 x1 k.val 3) 109) (k0_pay1 on))⟩) Q) :
    St c x0 x1 R on (k.val + 1) s1 s2 mx mn ⊢ WP c (ap k0_part101 a2 ha2 a3 ha3 a5 ha5 k arg18 (k0_pay1 on) (s1c (tl x0 x1 k.val 3) (k0_pay1 on) 103) (s2c (tl x0 x1 k.val 3) 103) (mxc (tl x0 x1 k.val 3) 103) (mnc (tl x0 x1 k.val 3) 103) (cB (tl x0 x1 k.val 3) 104) (eB (tl x0 x1 k.val 3) 104) (mulf (eB (tl x0 x1 k.val 3) 104) (k0_pay1 on)) >>= f) Q := by
  rw [k0_part101_eq_skeleton]
  refine ldS k.val 840 0 (Nat.lt_succ_self _) (k0_off496_eq k) ?_
  refine ldS k.val 848 0 (Nat.lt_succ_self _) (k0_off497_eq k) ?_
  refine ldS k.val 856 0 (Nat.lt_succ_self _) (k0_off498_eq k) ?_
  refine ldS k.val 864 0 (Nat.lt_succ_self _) (k0_off499_eq k) ?_
  refine ldS k.val 872 0 (Nat.lt_succ_self _) (k0_off500_eq k) ?_
  exact h

theorem t1_102 {R : sProp 𝕄} {Q : α → sProp 𝕄} (k : Fin k0_t1_loop.trips) {arg18 : BitVec 32} {f : (Σ' (v5513 : FVec F S8x256 .f32) (v5515 : FVec F S8x256 .f32) (v5516 : FVec F S8x256 .bf16) (v5517 : FVec F S8x256 .bf16) (v5520 : FVec F S8x256 .bf16) (v5521 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 113), (s2c (tl x0 x1 k.val 3) 113), (mxc (tl x0 x1 k.val 3) 113), (mnc (tl x0 x1 k.val 3) 113), (cB (tl x0 x1 k.val 3) 114), (eB (tl x0 x1 k.val 3) 114), (mulf (eB (tl x0 x1 k.val 3) 114) (k0_pay1 on))⟩) Q) :
    St c x0 x1 R on (k.val + 1) s1 s2 mx mn ⊢ WP c (ap k0_part102 a2 ha2 a3 ha3 a5 ha5 k arg18 (k0_pay1 on) (s1c (tl x0 x1 k.val 3) (k0_pay1 on) 108) (s2c (tl x0 x1 k.val 3) 108) (mxc (tl x0 x1 k.val 3) 108) (mnc (tl x0 x1 k.val 3) 108) (cB (tl x0 x1 k.val 3) 109) (eB (tl x0 x1 k.val 3) 109) (mulf (eB (tl x0 x1 k.val 3) 109) (k0_pay1 on)) >>= f) Q := by
  rw [k0_part102_eq_skeleton]
  refine ldS k.val 880 0 (Nat.lt_succ_self _) (k0_off501_eq k) ?_
  refine ldS k.val 888 0 (Nat.lt_succ_self _) (k0_off502_eq k) ?_
  refine ldS k.val 896 0 (Nat.lt_succ_self _) (k0_off503_eq k) ?_
  refine ldS k.val 904 0 (Nat.lt_succ_self _) (k0_off504_eq k) ?_
  refine ldS k.val 912 0 (Nat.lt_succ_self _) (k0_off505_eq k) ?_
  exact h

theorem t1_103 {R : sProp 𝕄} {Q : α → sProp 𝕄} (k : Fin k0_t1_loop.trips) {arg18 : BitVec 32} {f : (Σ' (v5563 : FVec F S8x256 .f32) (v5565 : FVec F S8x256 .f32) (v5566 : FVec F S8x256 .bf16) (v5567 : FVec F S8x256 .bf16) (v5570 : FVec F S8x256 .bf16) (v5571 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 118), (s2c (tl x0 x1 k.val 3) 118), (mxc (tl x0 x1 k.val 3) 118), (mnc (tl x0 x1 k.val 3) 118), (cB (tl x0 x1 k.val 3) 119), (eB (tl x0 x1 k.val 3) 119), (mulf (eB (tl x0 x1 k.val 3) 119) (k0_pay1 on))⟩) Q) :
    St c x0 x1 R on (k.val + 1) s1 s2 mx mn ⊢ WP c (ap k0_part103 a2 ha2 a3 ha3 a5 ha5 k arg18 (k0_pay1 on) (s1c (tl x0 x1 k.val 3) (k0_pay1 on) 113) (s2c (tl x0 x1 k.val 3) 113) (mxc (tl x0 x1 k.val 3) 113) (mnc (tl x0 x1 k.val 3) 113) (cB (tl x0 x1 k.val 3) 114) (eB (tl x0 x1 k.val 3) 114) (mulf (eB (tl x0 x1 k.val 3) 114) (k0_pay1 on)) >>= f) Q := by
  rw [k0_part103_eq_skeleton]
  refine ldS k.val 920 0 (Nat.lt_succ_self _) (k0_off506_eq k) ?_
  refine ldS k.val 928 0 (Nat.lt_succ_self _) (k0_off507_eq k) ?_
  refine ldS k.val 936 0 (Nat.lt_succ_self _) (k0_off508_eq k) ?_
  refine ldS k.val 944 0 (Nat.lt_succ_self _) (k0_off509_eq k) ?_
  refine ldS k.val 952 0 (Nat.lt_succ_self _) (k0_off510_eq k) ?_
  exact h

theorem t1_104 {R : sProp 𝕄} {Q : α → sProp 𝕄} (k : Fin k0_t1_loop.trips) {arg18 : BitVec 32} {f : (Σ' (v5613 : FVec F S8x256 .f32) (v5615 : FVec F S8x256 .f32) (v5616 : FVec F S8x256 .bf16) (v5617 : FVec F S8x256 .bf16) (v5620 : FVec F S8x256 .bf16) (v5621 : FVec F S8x256 .f32), FVec F S8x256 .f32) → Prog (TpuEff nD τ sig (Elt F) Λ₀ .tc) α}
    (h : St c x0 x1 R on (k.val + 1) s1 s2 mx mn ⊢ WP c (f ⟨(s1c (tl x0 x1 k.val 3) (k0_pay1 on) 123), (s2c (tl x0 x1 k.val 3) 123), (mxc (tl x0 x1 k.val 3) 123), (mnc (tl x0 x1 k.val 3) 123), (cB (tl x0 x1 k.val 3) 124), (eB (tl x0 x1 k.val 3) 124), (mulf (eB (tl x0 x1 k.val 3) 124) (k0_pay1 on))⟩) Q) :
    St c x0 x1 R on (k.val + 1) s1 s2 mx mn ⊢ WP c (ap k0_part104 a2 ha2 a3 ha3 a5 ha5 k arg18 (k0_pay1 on) (s1c (tl x0 x1 k.val 3) (k0_pay1 on) 118) (s2c (tl x0 x1 k.val 3) 118) (mxc (tl x0 x1 k.val 3) 118) (mnc (tl x0 x1 k.val 3) 118) (cB (tl x0 x1 k.val 3) 119) (eB (tl x0 x1 k.val 3) 119) (mulf (eB (tl x0 x1 k.val 3) 119) (k0_pay1 on)) >>= f) Q := by
  rw [k0_part104_eq_skeleton]
  refine ldS k.val 960 0 (Nat.lt_succ_self _) (k0_off511_eq k) ?_
  refine ldS k.val 968 0 (Nat.lt_succ_self _) (k0_off512_eq k) ?_
  refine ldS k.val 976 0 (Nat.lt_succ_self _) (k0_off513_eq k) ?_
  refine ldS k.val 984 0 (Nat.lt_succ_self _) (k0_off514_eq k) ?_
  refine ldS k.val 992 0 (Nat.lt_succ_self _) (k0_off515_eq k) ?_
  exact h

theorem t1_105 {R : sProp 𝕄} {Q : α → sProp 𝕄} (k : Fin k0_t1_loop.trips) {arg18 : BitVec 32} {f : (Σ' (v5656 : FVec F S8x256 .bf16) (v5657 : FVec F S8x256 .bf16), FVec F S1x1x256 .f32) → Prog (TpuEff nD τ sig (Elt F) Λ₀ .tc) α}
    (h : St c x0 x1 R on (k.val + 1) (wr4 mS1 s1 (k0_off519 k) (k0_off519_inb k) (k0_pay362 (s1c (tl x0 x1 k.val 3) (k0_pay1 on) 127))) s2 mx mn ⊢ WP c (f ⟨(mxc (tl x0 x1 k.val 3) 127), (mnc (tl x0 x1 k.val 3) 127), (k0_pay362 (s2c (tl x0 x1 k.val 3) 127))⟩) Q) :
    St c x0 x1 R on (k.val + 1) s1 s2 mx mn ⊢ WP c (ap k0_part105 a2 ha2 a3 ha3 a5 ha5 k arg18 (k0_pay1 on) (s1c (tl x0 x1 k.val 3) (k0_pay1 on) 123) (s2c (tl x0 x1 k.val 3) 123) (mxc (tl x0 x1 k.val 3) 123) (mnc (tl x0 x1 k.val 3) 123) (cB (tl x0 x1 k.val 3) 124) (eB (tl x0 x1 k.val 3) 124) (mulf (eB (tl x0 x1 k.val 3) 124) (k0_pay1 on)) >>= f) Q := by
  rw [k0_part105_eq_skeleton]
  refine ldS k.val 1000 0 (Nat.lt_succ_self _) (k0_off516_eq k) ?_
  refine ldS k.val 1008 0 (Nat.lt_succ_self _) (k0_off517_eq k) ?_
  refine ldS k.val 1016 0 (Nat.lt_succ_self _) (k0_off518_eq k) ?_
  refine ddS1 ?_
  refine stS1 ?_
  refine ddS2 ?_
  exact h

theorem t1_106 {R : sProp 𝕄} {Q : α → sProp 𝕄} (k : Fin k0_t1_loop.trips) {arg18 : BitVec 32} {f : (Σ' (v5705 : FVec F S8x256 .f32) (v5707 : FVec F S8x256 .f32) (v5708 : FVec F S8x256 .bf16) (v5709 : FVec F S8x256 .bf16), FVec F S8x256 .bf16) → Prog (TpuEff nD τ sig (Elt F) Λ₀ .tc) α}
    (h : St c x0 x1 R on (k.val + 1) s1 (wr4 mS2 s2 (k0_off519 k) (k0_off519_inb k) (k0_pay362 (s2c (tl x0 x1 k.val 3) 127))) (wr4 mMx mx (k0_off519 k) (k0_off519_inb k) (k0_pay364 (mxc (tl x0 x1 k.val 3) 127))) (wr4 mMn mn (k0_off519 k) (k0_off519_inb k) (finMn (mnc (tl x0 x1 k.val 3) 127))) ⊢ WP c (f ⟨(s1c (tl x0 x1 k.val 4) (k0_pay1 on) 2), (s2c (tl x0 x1 k.val 4) 2), (mxc (tl x0 x1 k.val 4) 2), (mnc (tl x0 x1 k.val 4) 2), (cB (tl x0 x1 k.val 4) 3)⟩) Q) :
    St c x0 x1 R on (k.val + 1) s1 s2 mx mn ⊢ WP c (ap k0_part106 a2 ha2 a3 ha3 a5 ha5 k arg18 (k0_pay1 on) (mxc (tl x0 x1 k.val 3) 127) (mnc (tl x0 x1 k.val 3) 127) (k0_pay362 (s2c (tl x0 x1 k.val 3) 127)) >>= f) Q := by
  rw [k0_part106_eq_skeleton]
  refine stS2 ?_
  refine ddMx ?_
  refine stMx ?_
  refine ddMn ?_
  refine stMn ?_
  refine ldS k.val 0 256 (Nat.lt_succ_self _) (k0_off520_eq k) ?_
  refine ldS k.val 8 256 (Nat.lt_succ_self _) (k0_off521_eq k) ?_
  refine ldS k.val 16 256 (Nat.lt_succ_self _) (k0_off522_eq k) ?_
  refine ldS k.val 24 256 (Nat.lt_succ_self _) (k0_off523_eq k) ?_
  exact h

theorem t1_107 {R : sProp 𝕄} {Q : α → sProp 𝕄} (k : Fin k0_t1_loop.trips) {arg18 : BitVec 32} {f : (Σ' (v5755 : FVec F S8x256 .f32) (v5757 : FVec F S8x256 .f32) (v5758 : FVec F S8x256 .bf16) (v5759 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 7), (s2c (tl x0 x1 k.val 4) 7), (mxc (tl x0 x1 k.val 4) 7), (mnc (tl x0 x1 k.val 4) 7), (cB (tl x0 x1 k.val 4) 8)⟩) Q) :
    St c x0 x1 R on (k.val + 1) s1 s2 mx mn ⊢ WP c (ap k0_part107 a2 ha2 a3 ha3 a5 ha5 k arg18 (k0_pay1 on) (s1c (tl x0 x1 k.val 4) (k0_pay1 on) 2) (s2c (tl x0 x1 k.val 4) 2) (mxc (tl x0 x1 k.val 4) 2) (mnc (tl x0 x1 k.val 4) 2) (cB (tl x0 x1 k.val 4) 3) >>= f) Q := by
  rw [k0_part107_eq_skeleton]
  refine ldS k.val 32 256 (Nat.lt_succ_self _) (k0_off524_eq k) ?_
  refine ldS k.val 40 256 (Nat.lt_succ_self _) (k0_off525_eq k) ?_
  refine ldS k.val 48 256 (Nat.lt_succ_self _) (k0_off526_eq k) ?_
  refine ldS k.val 56 256 (Nat.lt_succ_self _) (k0_off527_eq k) ?_
  refine ldS k.val 64 256 (Nat.lt_succ_self _) (k0_off528_eq k) ?_
  exact h

theorem t1_108 {R : sProp 𝕄} {Q : α → sProp 𝕄} (k : Fin k0_t1_loop.trips) {arg18 : BitVec 32} {f : (Σ' (v5805 : FVec F S8x256 .f32) (v5807 : FVec F S8x256 .f32) (v5808 : FVec F S8x256 .bf16) (v5809 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 12), (s2c (tl x0 x1 k.val 4) 12), (mxc (tl x0 x1 k.val 4) 12), (mnc (tl x0 x1 k.val 4) 12), (cB (tl x0 x1 k.val 4) 13)⟩) Q) :
    St c x0 x1 R on (k.val + 1) s1 s2 mx mn ⊢ WP c (ap k0_part108 a2 ha2 a3 ha3 a5 ha5 k arg18 (k0_pay1 on) (s1c (tl x0 x1 k.val 4) (k0_pay1 on) 7) (s2c (tl x0 x1 k.val 4) 7) (mxc (tl x0 x1 k.val 4) 7) (mnc (tl x0 x1 k.val 4) 7) (cB (tl x0 x1 k.val 4) 8) >>= f) Q := by
  rw [k0_part108_eq_skeleton]
  refine ldS k.val 72 256 (Nat.lt_succ_self _) (k0_off529_eq k) ?_
  refine ldS k.val 80 256 (Nat.lt_succ_self _) (k0_off530_eq k) ?_
  refine ldS k.val 88 256 (Nat.lt_succ_self _) (k0_off531_eq k) ?_
  refine ldS k.val 96 256 (Nat.lt_succ_self _) (k0_off532_eq k) ?_
  refine ldS k.val 104 256 (Nat.lt_succ_self _) (k0_off533_eq k) ?_
  exact h

theorem t1_109 {R : sProp 𝕄} {Q : α → sProp 𝕄} (k : Fin k0_t1_loop.trips) {arg18 : BitVec 32} {f : (Σ' (v5855 : FVec F S8x256 .f32) (v5857 : FVec F S8x256 .f32) (v5858 : FVec F S8x256 .bf16) (v5859 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 17), (s2c (tl x0 x1 k.val 4) 17), (mxc (tl x0 x1 k.val 4) 17), (mnc (tl x0 x1 k.val 4) 17), (cB (tl x0 x1 k.val 4) 18)⟩) Q) :
    St c x0 x1 R on (k.val + 1) s1 s2 mx mn ⊢ WP c (ap k0_part109 a2 ha2 a3 ha3 a5 ha5 k arg18 (k0_pay1 on) (s1c (tl x0 x1 k.val 4) (k0_pay1 on) 12) (s2c (tl x0 x1 k.val 4) 12) (mxc (tl x0 x1 k.val 4) 12) (mnc (tl x0 x1 k.val 4) 12) (cB (tl x0 x1 k.val 4) 13) >>= f) Q := by
  rw [k0_part109_eq_skeleton]
  refine ldS k.val 112 256 (Nat.lt_succ_self _) (k0_off534_eq k) ?_
  refine ldS k.val 120 256 (Nat.lt_succ_self _) (k0_off535_eq k) ?_
  refine ldS k.val 128 256 (Nat.lt_succ_self _) (k0_off536_eq k) ?_
  refine ldS k.val 136 256 (Nat.lt_succ_self _) (k0_off537_eq k) ?_
  refine ldS k.val 144 256 (Nat.lt_succ_self _) (k0_off538_eq k) ?_
  exact h

theorem t1_110 {R : sProp 𝕄} {Q : α → sProp 𝕄} (k : Fin k0_t1_loop.trips) {arg18 : BitVec 32} {f : (Σ' (v5905 : FVec F S8x256 .f32) (v5907 : FVec F S8x256 .f32) (v5908 : FVec F S8x256 .bf16) (v5909 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 22), (s2c (tl x0 x1 k.val 4) 22), (mxc (tl x0 x1 k.val 4) 22), (mnc (tl x0 x1 k.val 4) 22), (cB (tl x0 x1 k.val 4) 23)⟩) Q) :
    St c x0 x1 R on (k.val + 1) s1 s2 mx mn ⊢ WP c (ap k0_part110 a2 ha2 a3 ha3 a5 ha5 k arg18 (k0_pay1 on) (s1c (tl x0 x1 k.val 4) (k0_pay1 on) 17) (s2c (tl x0 x1 k.val 4) 17) (mxc (tl x0 x1 k.val 4) 17) (mnc (tl x0 x1 k.val 4) 17) (cB (tl x0 x1 k.val 4) 18) >>= f) Q := by
  rw [k0_part110_eq_skeleton]
  refine ldS k.val 152 256 (Nat.lt_succ_self _) (k0_off539_eq k) ?_
  refine ldS k.val 160 256 (Nat.lt_succ_self _) (k0_off540_eq k) ?_
  refine ldS k.val 168 256 (Nat.lt_succ_self _) (k0_off541_eq k) ?_
  refine ldS k.val 176 256 (Nat.lt_succ_self _) (k0_off542_eq k) ?_
  refine ldS k.val 184 256 (Nat.lt_succ_self _) (k0_off543_eq k) ?_
  exact h

theorem t1_111 {R : sProp 𝕄} {Q : α → sProp 𝕄} (k : Fin k0_t1_loop.trips) {arg18 : BitVec 32} {f : (Σ' (v5955 : FVec F S8x256 .f32) (v5957 : FVec F S8x256 .f32) (v5958 : FVec F S8x256 .bf16) (v5959 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 27), (s2c (tl x0 x1 k.val 4) 27), (mxc (tl x0 x1 k.val 4) 27), (mnc (tl x0 x1 k.val 4) 27), (cB (tl x0 x1 k.val 4) 28)⟩) Q) :
    St c x0 x1 R on (k.val + 1) s1 s2 mx mn ⊢ WP c (ap k0_part111 a2 ha2 a3 ha3 a5 ha5 k arg18 (k0_pay1 on) (s1c (tl x0 x1 k.val 4) (k0_pay1 on) 22) (s2c (tl x0 x1 k.val 4) 22) (mxc (tl x0 x1 k.val 4) 22) (mnc (tl x0 x1 k.val 4) 22) (cB (tl x0 x1 k.val 4) 23) >>= f) Q := by
  rw [k0_part111_eq_skeleton]
  refine ldS k.val 192 256 (Nat.lt_succ_self _) (k0_off544_eq k) ?_
  refine ldS k.val 200 256 (Nat.lt_succ_self _) (k0_off545_eq k) ?_
  refine ldS k.val 208 256 (Nat.lt_succ_self _) (k0_off546_eq k) ?_
  refine ldS k.val 216 256 (Nat.lt_succ_self _) (k0_off547_eq k) ?_
  refine ldS k.val 224 256 (Nat.lt_succ_self _) (k0_off548_eq k) ?_
  exact h

theorem t1_112 {R : sProp 𝕄} {Q : α → sProp 𝕄} (k : Fin k0_t1_loop.trips) {arg18 : BitVec 32} {f : (Σ' (v6005 : FVec F S8x256 .f32) (v6007 : FVec F S8x256 .f32) (v6008 : FVec F S8x256 .bf16) (v6009 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 32), (s2c (tl x0 x1 k.val 4) 32), (mxc (tl x0 x1 k.val 4) 32), (mnc (tl x0 x1 k.val 4) 32), (cB (tl x0 x1 k.val 4) 33)⟩) Q) :
    St c x0 x1 R on (k.val + 1) s1 s2 mx mn ⊢ WP c (ap k0_part112 a2 ha2 a3 ha3 a5 ha5 k arg18 (k0_pay1 on) (s1c (tl x0 x1 k.val 4) (k0_pay1 on) 27) (s2c (tl x0 x1 k.val 4) 27) (mxc (tl x0 x1 k.val 4) 27) (mnc (tl x0 x1 k.val 4) 27) (cB (tl x0 x1 k.val 4) 28) >>= f) Q := by
  rw [k0_part112_eq_skeleton]
  refine ldS k.val 232 256 (Nat.lt_succ_self _) (k0_off549_eq k) ?_
  refine ldS k.val 240 256 (Nat.lt_succ_self _) (k0_off550_eq k) ?_
  refine ldS k.val 248 256 (Nat.lt_succ_self _) (k0_off551_eq k) ?_
  refine ldS k.val 256 256 (Nat.lt_succ_self _) (k0_off552_eq k) ?_
  refine ldS k.val 264 256 (Nat.lt_succ_self _) (k0_off553_eq k) ?_
  exact h

theorem t1_113 {R : sProp 𝕄} {Q : α → sProp 𝕄} (k : Fin k0_t1_loop.trips) {arg18 : BitVec 32} {f : (Σ' (v6055 : FVec F S8x256 .f32) (v6057 : FVec F S8x256 .f32) (v6058 : FVec F S8x256 .bf16) (v6059 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 37), (s2c (tl x0 x1 k.val 4) 37), (mxc (tl x0 x1 k.val 4) 37), (mnc (tl x0 x1 k.val 4) 37), (cB (tl x0 x1 k.val 4) 38)⟩) Q) :
    St c x0 x1 R on (k.val + 1) s1 s2 mx mn ⊢ WP c (ap k0_part113 a2 ha2 a3 ha3 a5 ha5 k arg18 (k0_pay1 on) (s1c (tl x0 x1 k.val 4) (k0_pay1 on) 32) (s2c (tl x0 x1 k.val 4) 32) (mxc (tl x0 x1 k.val 4) 32) (mnc (tl x0 x1 k.val 4) 32) (cB (tl x0 x1 k.val 4) 33) >>= f) Q := by
  rw [k0_part113_eq_skeleton]
  refine ldS k.val 272 256 (Nat.lt_succ_self _) (k0_off554_eq k) ?_
  refine ldS k.val 280 256 (Nat.lt_succ_self _) (k0_off555_eq k) ?_
  refine ldS k.val 288 256 (Nat.lt_succ_self _) (k0_off556_eq k) ?_
  refine ldS k.val 296 256 (Nat.lt_succ_self _) (k0_off557_eq k) ?_
  refine ldS k.val 304 256 (Nat.lt_succ_self _) (k0_off558_eq k) ?_
  exact h

theorem t1_114 {R : sProp 𝕄} {Q : α → sProp 𝕄} (k : Fin k0_t1_loop.trips) {arg18 : BitVec 32} {f : (Σ' (v6105 : FVec F S8x256 .f32) (v6107 : FVec F S8x256 .f32) (v6108 : FVec F S8x256 .bf16) (v6109 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 42), (s2c (tl x0 x1 k.val 4) 42), (mxc (tl x0 x1 k.val 4) 42), (mnc (tl x0 x1 k.val 4) 42), (cB (tl x0 x1 k.val 4) 43)⟩) Q) :
    St c x0 x1 R on (k.val + 1) s1 s2 mx mn ⊢ WP c (ap k0_part114 a2 ha2 a3 ha3 a5 ha5 k arg18 (k0_pay1 on) (s1c (tl x0 x1 k.val 4) (k0_pay1 on) 37) (s2c (tl x0 x1 k.val 4) 37) (mxc (tl x0 x1 k.val 4) 37) (mnc (tl x0 x1 k.val 4) 37) (cB (tl x0 x1 k.val 4) 38) >>= f) Q := by
  rw [k0_part114_eq_skeleton]
  refine ldS k.val 312 256 (Nat.lt_succ_self _) (k0_off559_eq k) ?_
  refine ldS k.val 320 256 (Nat.lt_succ_self _) (k0_off560_eq k) ?_
  refine ldS k.val 328 256 (Nat.lt_succ_self _) (k0_off561_eq k) ?_
  refine ldS k.val 336 256 (Nat.lt_succ_self _) (k0_off562_eq k) ?_
  refine ldS k.val 344 256 (Nat.lt_succ_self _) (k0_off563_eq k) ?_
  exact h

theorem t1_115 {R : sProp 𝕄} {Q : α → sProp 𝕄} (k : Fin k0_t1_loop.trips) {arg18 : BitVec 32} {f : (Σ' (v6155 : FVec F S8x256 .f32) (v6157 : FVec F S8x256 .f32) (v6158 : FVec F S8x256 .bf16) (v6159 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 47), (s2c (tl x0 x1 k.val 4) 47), (mxc (tl x0 x1 k.val 4) 47), (mnc (tl x0 x1 k.val 4) 47), (cB (tl x0 x1 k.val 4) 48)⟩) Q) :
    St c x0 x1 R on (k.val + 1) s1 s2 mx mn ⊢ WP c (ap k0_part115 a2 ha2 a3 ha3 a5 ha5 k arg18 (k0_pay1 on) (s1c (tl x0 x1 k.val 4) (k0_pay1 on) 42) (s2c (tl x0 x1 k.val 4) 42) (mxc (tl x0 x1 k.val 4) 42) (mnc (tl x0 x1 k.val 4) 42) (cB (tl x0 x1 k.val 4) 43) >>= f) Q := by
  rw [k0_part115_eq_skeleton]
  refine ldS k.val 352 256 (Nat.lt_succ_self _) (k0_off564_eq k) ?_
  refine ldS k.val 360 256 (Nat.lt_succ_self _) (k0_off565_eq k) ?_
  refine ldS k.val 368 256 (Nat.lt_succ_self _) (k0_off566_eq k) ?_
  refine ldS k.val 376 256 (Nat.lt_succ_self _) (k0_off567_eq k) ?_
  refine ldS k.val 384 256 (Nat.lt_succ_self _) (k0_off568_eq k) ?_
  exact h

theorem t1_116 {R : sProp 𝕄} {Q : α → sProp 𝕄} (k : Fin k0_t1_loop.trips) {arg18 : BitVec 32} {f : (Σ' (v6205 : FVec F S8x256 .f32) (v6207 : FVec F S8x256 .f32) (v6208 : FVec F S8x256 .bf16) (v6209 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 52), (s2c (tl x0 x1 k.val 4) 52), (mxc (tl x0 x1 k.val 4) 52), (mnc (tl x0 x1 k.val 4) 52), (cB (tl x0 x1 k.val 4) 53)⟩) Q) :
    St c x0 x1 R on (k.val + 1) s1 s2 mx mn ⊢ WP c (ap k0_part116 a2 ha2 a3 ha3 a5 ha5 k arg18 (k0_pay1 on) (s1c (tl x0 x1 k.val 4) (k0_pay1 on) 47) (s2c (tl x0 x1 k.val 4) 47) (mxc (tl x0 x1 k.val 4) 47) (mnc (tl x0 x1 k.val 4) 47) (cB (tl x0 x1 k.val 4) 48) >>= f) Q := by
  rw [k0_part116_eq_skeleton]
  refine ldS k.val 392 256 (Nat.lt_succ_self _) (k0_off569_eq k) ?_
  refine ldS k.val 400 256 (Nat.lt_succ_self _) (k0_off570_eq k) ?_
  refine ldS k.val 408 256 (Nat.lt_succ_self _) (k0_off571_eq k) ?_
  refine ldS k.val 416 256 (Nat.lt_succ_self _) (k0_off572_eq k) ?_
  refine ldS k.val 424 256 (Nat.lt_succ_self _) (k0_off573_eq k) ?_
  exact h

theorem t1_117 {R : sProp 𝕄} {Q : α → sProp 𝕄} (k : Fin k0_t1_loop.trips) {arg18 : BitVec 32} {f : (Σ' (v6255 : FVec F S8x256 .f32) (v6257 : FVec F S8x256 .f32) (v6258 : FVec F S8x256 .bf16) (v6259 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 57), (s2c (tl x0 x1 k.val 4) 57), (mxc (tl x0 x1 k.val 4) 57), (mnc (tl x0 x1 k.val 4) 57), (cB (tl x0 x1 k.val 4) 58)⟩) Q) :
    St c x0 x1 R on (k.val + 1) s1 s2 mx mn ⊢ WP c (ap k0_part117 a2 ha2 a3 ha3 a5 ha5 k arg18 (k0_pay1 on) (s1c (tl x0 x1 k.val 4) (k0_pay1 on) 52) (s2c (tl x0 x1 k.val 4) 52) (mxc (tl x0 x1 k.val 4) 52) (mnc (tl x0 x1 k.val 4) 52) (cB (tl x0 x1 k.val 4) 53) >>= f) Q := by
  rw [k0_part117_eq_skeleton]
  refine ldS k.val 432 256 (Nat.lt_succ_self _) (k0_off574_eq k) ?_
  refine ldS k.val 440 256 (Nat.lt_succ_self _) (k0_off575_eq k) ?_
  refine ldS k.val 448 256 (Nat.lt_succ_self _) (k0_off576_eq k) ?_
  refine ldS k.val 456 256 (Nat.lt_succ_self _) (k0_off577_eq k) ?_
  refine ldS k.val 464 256 (Nat.lt_succ_self _) (k0_off578_eq k) ?_
  exact h

theorem t1_118 {R : sProp 𝕄} {Q : α → sProp 𝕄} (k : Fin k0_t1_loop.trips) {arg18 : BitVec 32} {f : (Σ' (v6305 : FVec F S8x256 .f32) (v6307 : FVec F S8x256 .f32) (v6308 : FVec F S8x256 .bf16) (v6309 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 62), (s2c (tl x0 x1 k.val 4) 62), (mxc (tl x0 x1 k.val 4) 62), (mnc (tl x0 x1 k.val 4) 62), (cB (tl x0 x1 k.val 4) 63)⟩) Q) :
    St c x0 x1 R on (k.val + 1) s1 s2 mx mn ⊢ WP c (ap k0_part118 a2 ha2 a3 ha3 a5 ha5 k arg18 (k0_pay1 on) (s1c (tl x0 x1 k.val 4) (k0_pay1 on) 57) (s2c (tl x0 x1 k.val 4) 57) (mxc (tl x0 x1 k.val 4) 57) (mnc (tl x0 x1 k.val 4) 57) (cB (tl x0 x1 k.val 4) 58) >>= f) Q := by
  rw [k0_part118_eq_skeleton]
  refine ldS k.val 472 256 (Nat.lt_succ_self _) (k0_off579_eq k) ?_
  refine ldS k.val 480 256 (Nat.lt_succ_self _) (k0_off580_eq k) ?_
  refine ldS k.val 488 256 (Nat.lt_succ_self _) (k0_off581_eq k) ?_
  refine ldS k.val 496 256 (Nat.lt_succ_self _) (k0_off582_eq k) ?_
  refine ldS k.val 504 256 (Nat.lt_succ_self _) (k0_off583_eq k) ?_
  exact h

theorem t1_119 {R : sProp 𝕄} {Q : α → sProp 𝕄} (k : Fin k0_t1_loop.trips) {arg18 : BitVec 32} {f : (Σ' (v6355 : FVec F S8x256 .f32) (v6357 : FVec F S8x256 .f32) (v6358 : FVec F S8x256 .bf16) (v6359 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 67), (s2c (tl x0 x1 k.val 4) 67), (mxc (tl x0 x1 k.val 4) 67), (mnc (tl x0 x1 k.val 4) 67), (cB (tl x0 x1 k.val 4) 68)⟩) Q) :
    St c x0 x1 R on (k.val + 1) s1 s2 mx mn ⊢ WP c (ap k0_part119 a2 ha2 a3 ha3 a5 ha5 k arg18 (k0_pay1 on) (s1c (tl x0 x1 k.val 4) (k0_pay1 on) 62) (s2c (tl x0 x1 k.val 4) 62) (mxc (tl x0 x1 k.val 4) 62) (mnc (tl x0 x1 k.val 4) 62) (cB (tl x0 x1 k.val 4) 63) >>= f) Q := by
  rw [k0_part119_eq_skeleton]
  refine ldS k.val 512 256 (Nat.lt_succ_self _) (k0_off584_eq k) ?_
  refine ldS k.val 520 256 (Nat.lt_succ_self _) (k0_off585_eq k) ?_
  refine ldS k.val 528 256 (Nat.lt_succ_self _) (k0_off586_eq k) ?_
  refine ldS k.val 536 256 (Nat.lt_succ_self _) (k0_off587_eq k) ?_
  refine ldS k.val 544 256 (Nat.lt_succ_self _) (k0_off588_eq k) ?_
  exact h

theorem t1_120 {R : sProp 𝕄} {Q : α → sProp 𝕄} (k : Fin k0_t1_loop.trips) {arg18 : BitVec 32} {f : (Σ' (v6405 : FVec F S8x256 .f32) (v6407 : FVec F S8x256 .f32) (v6408 : FVec F S8x256 .bf16) (v6409 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 72), (s2c (tl x0 x1 k.val 4) 72), (mxc (tl x0 x1 k.val 4) 72), (mnc (tl x0 x1 k.val 4) 72), (cB (tl x0 x1 k.val 4) 73)⟩) Q) :
    St c x0 x1 R on (k.val + 1) s1 s2 mx mn ⊢ WP c (ap k0_part120 a2 ha2 a3 ha3 a5 ha5 k arg18 (k0_pay1 on) (s1c (tl x0 x1 k.val 4) (k0_pay1 on) 67) (s2c (tl x0 x1 k.val 4) 67) (mxc (tl x0 x1 k.val 4) 67) (mnc (tl x0 x1 k.val 4) 67) (cB (tl x0 x1 k.val 4) 68) >>= f) Q := by
  rw [k0_part120_eq_skeleton]
  refine ldS k.val 552 256 (Nat.lt_succ_self _) (k0_off589_eq k) ?_
  refine ldS k.val 560 256 (Nat.lt_succ_self _) (k0_off590_eq k) ?_
  refine ldS k.val 568 256 (Nat.lt_succ_self _) (k0_off591_eq k) ?_
  refine ldS k.val 576 256 (Nat.lt_succ_self _) (k0_off592_eq k) ?_
  refine ldS k.val 584 256 (Nat.lt_succ_self _) (k0_off593_eq k) ?_
  exact h

theorem t1_121 {R : sProp 𝕄} {Q : α → sProp 𝕄} (k : Fin k0_t1_loop.trips) {arg18 : BitVec 32} {f : (Σ' (v6455 : FVec F S8x256 .f32) (v6457 : FVec F S8x256 .f32) (v6458 : FVec F S8x256 .bf16) (v6459 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 77), (s2c (tl x0 x1 k.val 4) 77), (mxc (tl x0 x1 k.val 4) 77), (mnc (tl x0 x1 k.val 4) 77), (cB (tl x0 x1 k.val 4) 78)⟩) Q) :
    St c x0 x1 R on (k.val + 1) s1 s2 mx mn ⊢ WP c (ap k0_part121 a2 ha2 a3 ha3 a5 ha5 k arg18 (k0_pay1 on) (s1c (tl x0 x1 k.val 4) (k0_pay1 on) 72) (s2c (tl x0 x1 k.val 4) 72) (mxc (tl x0 x1 k.val 4) 72) (mnc (tl x0 x1 k.val 4) 72) (cB (tl x0 x1 k.val 4) 73) >>= f) Q := by
  rw [k0_part121_eq_skeleton]
  refine ldS k.val 592 256 (Nat.lt_succ_self _) (k0_off594_eq k) ?_
  refine ldS k.val 600 256 (Nat.lt_succ_self _) (k0_off595_eq k) ?_
  refine ldS k.val 608 256 (Nat.lt_succ_self _) (k0_off596_eq k) ?_
  refine ldS k.val 616 256 (Nat.lt_succ_self _) (k0_off597_eq k) ?_
  refine ldS k.val 624 256 (Nat.lt_succ_self _) (k0_off598_eq k) ?_
  exact h

theorem t1_122 {R : sProp 𝕄} {Q : α → sProp 𝕄} (k : Fin k0_t1_loop.trips) {arg18 : BitVec 32} {f : (Σ' (v6505 : FVec F S8x256 .f32) (v6507 : FVec F S8x256 .f32) (v6508 : FVec F S8x256 .bf16) (v6509 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 82), (s2c (tl x0 x1 k.val 4) 82), (mxc (tl x0 x1 k.val 4) 82), (mnc (tl x0 x1 k.val 4) 82), (cB (tl x0 x1 k.val 4) 83)⟩) Q) :
    St c x0 x1 R on (k.val + 1) s1 s2 mx mn ⊢ WP c (ap k0_part122 a2 ha2 a3 ha3 a5 ha5 k arg18 (k0_pay1 on) (s1c (tl x0 x1 k.val 4) (k0_pay1 on) 77) (s2c (tl x0 x1 k.val 4) 77) (mxc (tl x0 x1 k.val 4) 77) (mnc (tl x0 x1 k.val 4) 77) (cB (tl x0 x1 k.val 4) 78) >>= f) Q := by
  rw [k0_part122_eq_skeleton]
  refine ldS k.val 632 256 (Nat.lt_succ_self _) (k0_off599_eq k) ?_
  refine ldS k.val 640 256 (Nat.lt_succ_self _) (k0_off600_eq k) ?_
  refine ldS k.val 648 256 (Nat.lt_succ_self _) (k0_off601_eq k) ?_
  refine ldS k.val 656 256 (Nat.lt_succ_self _) (k0_off602_eq k) ?_
  refine ldS k.val 664 256 (Nat.lt_succ_self _) (k0_off603_eq k) ?_
  exact h

theorem t1_123 {R : sProp 𝕄} {Q : α → sProp 𝕄} (k : Fin k0_t1_loop.trips) {arg18 : BitVec 32} {f : (Σ' (v6555 : FVec F S8x256 .f32) (v6557 : FVec F S8x256 .f32) (v6558 : FVec F S8x256 .bf16) (v6559 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 87), (s2c (tl x0 x1 k.val 4) 87), (mxc (tl x0 x1 k.val 4) 87), (mnc (tl x0 x1 k.val 4) 87), (cB (tl x0 x1 k.val 4) 88)⟩) Q) :
    St c x0 x1 R on (k.val + 1) s1 s2 mx mn ⊢ WP c (ap k0_part123 a2 ha2 a3 ha3 a5 ha5 k arg18 (k0_pay1 on) (s1c (tl x0 x1 k.val 4) (k0_pay1 on) 82) (s2c (tl x0 x1 k.val 4) 82) (mxc (tl x0 x1 k.val 4) 82) (mnc (tl x0 x1 k.val 4) 82) (cB (tl x0 x1 k.val 4) 83) >>= f) Q := by
  rw [k0_part123_eq_skeleton]
  refine ldS k.val 672 256 (Nat.lt_succ_self _) (k0_off604_eq k) ?_
  refine ldS k.val 680 256 (Nat.lt_succ_self _) (k0_off605_eq k) ?_
  refine ldS k.val 688 256 (Nat.lt_succ_self _) (k0_off606_eq k) ?_
  refine ldS k.val 696 256 (Nat.lt_succ_self _) (k0_off607_eq k) ?_
  refine ldS k.val 704 256 (Nat.lt_succ_self _) (k0_off608_eq k) ?_
  exact h

theorem t1_124 {R : sProp 𝕄} {Q : α → sProp 𝕄} (k : Fin k0_t1_loop.trips) {arg18 : BitVec 32} {f : (Σ' (v6605 : FVec F S8x256 .f32) (v6607 : FVec F S8x256 .f32) (v6608 : FVec F S8x256 .bf16) (v6609 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 92), (s2c (tl x0 x1 k.val 4) 92), (mxc (tl x0 x1 k.val 4) 92), (mnc (tl x0 x1 k.val 4) 92), (cB (tl x0 x1 k.val 4) 93)⟩) Q) :
    St c x0 x1 R on (k.val + 1) s1 s2 mx mn ⊢ WP c (ap k0_part124 a2 ha2 a3 ha3 a5 ha5 k arg18 (k0_pay1 on) (s1c (tl x0 x1 k.val 4) (k0_pay1 on) 87) (s2c (tl x0 x1 k.val 4) 87) (mxc (tl x0 x1 k.val 4) 87) (mnc (tl x0 x1 k.val 4) 87) (cB (tl x0 x1 k.val 4) 88) >>= f) Q := by
  rw [k0_part124_eq_skeleton]
  refine ldS k.val 712 256 (Nat.lt_succ_self _) (k0_off609_eq k) ?_
  refine ldS k.val 720 256 (Nat.lt_succ_self _) (k0_off610_eq k) ?_
  refine ldS k.val 728 256 (Nat.lt_succ_self _) (k0_off611_eq k) ?_
  refine ldS k.val 736 256 (Nat.lt_succ_self _) (k0_off612_eq k) ?_
  refine ldS k.val 744 256 (Nat.lt_succ_self _) (k0_off613_eq k) ?_
  exact h

theorem t1_125 {R : sProp 𝕄} {Q : α → sProp 𝕄} (k : Fin k0_t1_loop.trips) {arg18 : BitVec 32} {f : (Σ' (v6655 : FVec F S8x256 .f32) (v6657 : FVec F S8x256 .f32) (v6658 : FVec F S8x256 .bf16) (v6659 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 97), (s2c (tl x0 x1 k.val 4) 97), (mxc (tl x0 x1 k.val 4) 97), (mnc (tl x0 x1 k.val 4) 97), (cB (tl x0 x1 k.val 4) 98)⟩) Q) :
    St c x0 x1 R on (k.val + 1) s1 s2 mx mn ⊢ WP c (ap k0_part125 a2 ha2 a3 ha3 a5 ha5 k arg18 (k0_pay1 on) (s1c (tl x0 x1 k.val 4) (k0_pay1 on) 92) (s2c (tl x0 x1 k.val 4) 92) (mxc (tl x0 x1 k.val 4) 92) (mnc (tl x0 x1 k.val 4) 92) (cB (tl x0 x1 k.val 4) 93) >>= f) Q := by
  rw [k0_part125_eq_skeleton]
  refine ldS k.val 752 256 (Nat.lt_succ_self _) (k0_off614_eq k) ?_
  refine ldS k.val 760 256 (Nat.lt_succ_self _) (k0_off615_eq k) ?_
  refine ldS k.val 768 256 (Nat.lt_succ_self _) (k0_off616_eq k) ?_
  refine ldS k.val 776 256 (Nat.lt_succ_self _) (k0_off617_eq k) ?_
  refine ldS k.val 784 256 (Nat.lt_succ_self _) (k0_off618_eq k) ?_
  exact h

theorem t1_126 {R : sProp 𝕄} {Q : α → sProp 𝕄} (k : Fin k0_t1_loop.trips) {arg18 : BitVec 32} {f : (Σ' (v6705 : FVec F S8x256 .f32) (v6707 : FVec F S8x256 .f32) (v6708 : FVec F S8x256 .bf16) (v6709 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 102), (s2c (tl x0 x1 k.val 4) 102), (mxc (tl x0 x1 k.val 4) 102), (mnc (tl x0 x1 k.val 4) 102), (cB (tl x0 x1 k.val 4) 103)⟩) Q) :
    St c x0 x1 R on (k.val + 1) s1 s2 mx mn ⊢ WP c (ap k0_part126 a2 ha2 a3 ha3 a5 ha5 k arg18 (k0_pay1 on) (s1c (tl x0 x1 k.val 4) (k0_pay1 on) 97) (s2c (tl x0 x1 k.val 4) 97) (mxc (tl x0 x1 k.val 4) 97) (mnc (tl x0 x1 k.val 4) 97) (cB (tl x0 x1 k.val 4) 98) >>= f) Q := by
  rw [k0_part126_eq_skeleton]
  refine ldS k.val 792 256 (Nat.lt_succ_self _) (k0_off619_eq k) ?_
  refine ldS k.val 800 256 (Nat.lt_succ_self _) (k0_off620_eq k) ?_
  refine ldS k.val 808 256 (Nat.lt_succ_self _) (k0_off621_eq k) ?_
  refine ldS k.val 816 256 (Nat.lt_succ_self _) (k0_off622_eq k) ?_
  refine ldS k.val 824 256 (Nat.lt_succ_self _) (k0_off623_eq k) ?_
  exact h

theorem t1_127 {R : sProp 𝕄} {Q : α → sProp 𝕄} (k : Fin k0_t1_loop.trips) {arg18 : BitVec 32} {f : (Σ' (v6755 : FVec F S8x256 .f32) (v6757 : FVec F S8x256 .f32) (v6758 : FVec F S8x256 .bf16) (v6759 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 107), (s2c (tl x0 x1 k.val 4) 107), (mxc (tl x0 x1 k.val 4) 107), (mnc (tl x0 x1 k.val 4) 107), (cB (tl x0 x1 k.val 4) 108)⟩) Q) :
    St c x0 x1 R on (k.val + 1) s1 s2 mx mn ⊢ WP c (ap k0_part127 a2 ha2 a3 ha3 a5 ha5 k arg18 (k0_pay1 on) (s1c (tl x0 x1 k.val 4) (k0_pay1 on) 102) (s2c (tl x0 x1 k.val 4) 102) (mxc (tl x0 x1 k.val 4) 102) (mnc (tl x0 x1 k.val 4) 102) (cB (tl x0 x1 k.val 4) 103) >>= f) Q := by
  rw [k0_part127_eq_skeleton]
  refine ldS k.val 832 256 (Nat.lt_succ_self _) (k0_off624_eq k) ?_
  refine ldS k.val 840 256 (Nat.lt_succ_self _) (k0_off625_eq k) ?_
  refine ldS k.val 848 256 (Nat.lt_succ_self _) (k0_off626_eq k) ?_
  refine ldS k.val 856 256 (Nat.lt_succ_self _) (k0_off627_eq k) ?_
  refine ldS k.val 864 256 (Nat.lt_succ_self _) (k0_off628_eq k) ?_
  exact h

theorem t1_128 {R : sProp 𝕄} {Q : α → sProp 𝕄} (k : Fin k0_t1_loop.trips) {arg18 : BitVec 32} {f : (Σ' (v6805 : FVec F S8x256 .f32) (v6807 : FVec F S8x256 .f32) (v6808 : FVec F S8x256 .bf16) (v6809 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 112), (s2c (tl x0 x1 k.val 4) 112), (mxc (tl x0 x1 k.val 4) 112), (mnc (tl x0 x1 k.val 4) 112), (cB (tl x0 x1 k.val 4) 113)⟩) Q) :
    St c x0 x1 R on (k.val + 1) s1 s2 mx mn ⊢ WP c (ap k0_part128 a2 ha2 a3 ha3 a5 ha5 k arg18 (k0_pay1 on) (s1c (tl x0 x1 k.val 4) (k0_pay1 on) 107) (s2c (tl x0 x1 k.val 4) 107) (mxc (tl x0 x1 k.val 4) 107) (mnc (tl x0 x1 k.val 4) 107) (cB (tl x0 x1 k.val 4) 108) >>= f) Q := by
  rw [k0_part128_eq_skeleton]
  refine ldS k.val 872 256 (Nat.lt_succ_self _) (k0_off629_eq k) ?_
  refine ldS k.val 880 256 (Nat.lt_succ_self _) (k0_off630_eq k) ?_
  refine ldS k.val 888 256 (Nat.lt_succ_self _) (k0_off631_eq k) ?_
  refine ldS k.val 896 256 (Nat.lt_succ_self _) (k0_off632_eq k) ?_
  refine ldS k.val 904 256 (Nat.lt_succ_self _) (k0_off633_eq k) ?_
  exact h

theorem t1_129 {R : sProp 𝕄} {Q : α → sProp 𝕄} (k : Fin k0_t1_loop.trips) {arg18 : BitVec 32} {f : (Σ' (v6855 : FVec F S8x256 .f32) (v6857 : FVec F S8x256 .f32) (v6858 : FVec F S8x256 .bf16) (v6859 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 117), (s2c (tl x0 x1 k.val 4) 117), (mxc (tl x0 x1 k.val 4) 117), (mnc (tl x0 x1 k.val 4) 117), (cB (tl x0 x1 k.val 4) 118)⟩) Q) :
    St c x0 x1 R on (k.val + 1) s1 s2 mx mn ⊢ WP c (ap k0_part129 a2 ha2 a3 ha3 a5 ha5 k arg18 (k0_pay1 on) (s1c (tl x0 x1 k.val 4) (k0_pay1 on) 112) (s2c (tl x0 x1 k.val 4) 112) (mxc (tl x0 x1 k.val 4) 112) (mnc (tl x0 x1 k.val 4) 112) (cB (tl x0 x1 k.val 4) 113) >>= f) Q := by
  rw [k0_part129_eq_skeleton]
  refine ldS k.val 912 256 (Nat.lt_succ_self _) (k0_off634_eq k) ?_
  refine ldS k.val 920 256 (Nat.lt_succ_self _) (k0_off635_eq k) ?_
  refine ldS k.val 928 256 (Nat.lt_succ_self _) (k0_off636_eq k) ?_
  refine ldS k.val 936 256 (Nat.lt_succ_self _) (k0_off637_eq k) ?_
  refine ldS k.val 944 256 (Nat.lt_succ_self _) (k0_off638_eq k) ?_
  exact h

theorem t1_130 {R : sProp 𝕄} {Q : α → sProp 𝕄} (k : Fin k0_t1_loop.trips) {arg18 : BitVec 32} {f : (Σ' (v6905 : FVec F S8x256 .f32) (v6907 : FVec F S8x256 .f32) (v6908 : FVec F S8x256 .bf16) (v6909 : FVec F S8x256 .bf16), FVec F S8x256 .bf16) → Prog (TpuEff nD τ sig (Elt F) Λ₀ .tc) α}
    (h : St c x0 x1 R on (k.val + 1) s1 s2 mx mn ⊢ WP c (f ⟨(s1c (tl x0 x1 k.val 4) (k0_pay1 on) 122), (s2c (tl x0 x1 k.val 4) 122), (mxc (tl x0 x1 k.val 4) 122), (mnc (tl x0 x1 k.val 4) 122), (cB (tl x0 x1 k.val 4) 123)⟩) Q) :
    St c x0 x1 R on (k.val + 1) s1 s2 mx mn ⊢ WP c (ap k0_part130 a2 ha2 a3 ha3 a5 ha5 k arg18 (k0_pay1 on) (s1c (tl x0 x1 k.val 4) (k0_pay1 on) 117) (s2c (tl x0 x1 k.val 4) 117) (mxc (tl x0 x1 k.val 4) 117) (mnc (tl x0 x1 k.val 4) 117) (cB (tl x0 x1 k.val 4) 118) >>= f) Q := by
  rw [k0_part130_eq_skeleton]
  refine ldS k.val 952 256 (Nat.lt_succ_self _) (k0_off639_eq k) ?_
  refine ldS k.val 960 256 (Nat.lt_succ_self _) (k0_off640_eq k) ?_
  refine ldS k.val 968 256 (Nat.lt_succ_self _) (k0_off641_eq k) ?_
  refine ldS k.val 976 256 (Nat.lt_succ_self _) (k0_off642_eq k) ?_
  refine ldS k.val 984 256 (Nat.lt_succ_self _) (k0_off643_eq k) ?_
  exact h

theorem t1_131 {R : sProp 𝕄} {Q : α → sProp 𝕄} (k : Fin k0_t1_loop.trips) {arg18 : BitVec 32} {f : (Σ' (v6957 : FVec F S8x256 .f32) (v6958 : FVec F S8x256 .bf16) (v6959 : FVec F S8x256 .bf16), FVec F S1x256 .f32) → Prog (TpuEff nD τ sig (Elt F) Λ₀ .tc) α}
    (h : St c x0 x1 R on (k.val + 1) s1 s2 mx mn ⊢ WP c (f ⟨(s2c (tl x0 x1 k.val 4) 127), (mxc (tl x0 x1 k.val 4) 127), (mnc (tl x0 x1 k.val 4) 127), (red1 (s1c (tl x0 x1 k.val 4) (k0_pay1 on) 127))⟩) Q) :
    St c x0 x1 R on (k.val + 1) s1 s2 mx mn ⊢ WP c (ap k0_part131 a2 ha2 a3 ha3 a5 ha5 k arg18 (k0_pay1 on) (s1c (tl x0 x1 k.val 4) (k0_pay1 on) 122) (s2c (tl x0 x1 k.val 4) 122) (mxc (tl x0 x1 k.val 4) 122) (mnc (tl x0 x1 k.val 4) 122) (cB (tl x0 x1 k.val 4) 123) >>= f) Q := by
  rw [k0_part131_eq_skeleton]
  refine ldS k.val 992 256 (Nat.lt_succ_self _) (k0_off644_eq k) ?_
  refine ldS k.val 1000 256 (Nat.lt_succ_self _) (k0_off645_eq k) ?_
  refine ldS k.val 1008 256 (Nat.lt_succ_self _) (k0_off646_eq k) ?_
  refine ldS k.val 1016 256 (Nat.lt_succ_self _) (k0_off647_eq k) ?_
  exact h

end

end Cert.KernelIdeal.Hand
-- ==== Proof.KI.T3.lean ====
/-
  One row's statistics: the whole trip.
-/
module

public import proofs.«01_k».proof.Proof.KI.T1
public import proofs.«01_k».proof.Proof.KI.T2

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

section
variable {c : Dev nD} {x0 : S16x1024x768.Idx → Elt F .bf16} {x1 : S16x1024x512.Idx → Elt F .bf16}
variable {α : Type} {on : S8x256.Idx → Elt F .bf16} {s1 s2 mx mn : S16x1x1280.Idx → Elt F .f32}
variable {a2 : Memref sig .tc .vmem S1280 .f32} {ha2 : a2.IsWhole} {a3 : Memref sig .tc .vmem S1280 .f32} {ha3 : a3.IsWhole} {a5 : Memref sig .tc .smem S1x1 .f32} {ha5 : a5.IsWhole}
theorem t1_132 {R : sProp 𝕄} {Q : α → sProp 𝕄} (k : Fin k0_t1_loop.trips) {f : (Σ' (arg18 : BitVec 32) (v475 : FVec F S8x256 .f32) (v3423 : FVec F S8x256 .f32) (v3424 : FVec F S8x256 .bf16) (v3425 : FVec F S8x256 .bf16) (v3428 : FVec F S8x256 .bf16) (v3431 : FVec F S8x256 .f32), FVec F S8x256 .f32) → Prog (TpuEff nD τ sig (Elt F) Λ₀ .tc) α}
    (h : St c x0 x1 R on (k.val + 1) (wr4 mS1 (wr4 mS1 s1 (k0_off132 k) (k0_off132_inb k) (k0_pay362 (s1c (tl x0 x1 k.val 0) (k0_pay1 on) 127))) (k0_off261 k) (k0_off261_inb k) (k0_pay362 (s1c (tl x0 x1 k.val 1) (k0_pay1 on) 127))) (wr4 mS2 (wr4 mS2 s2 (k0_off132 k) (k0_off132_inb k) (k0_pay362 (s2c (tl x0 x1 k.val 0) 127))) (k0_off261 k) (k0_off261_inb k) (k0_pay362 (s2c (tl x0 x1 k.val 1) 127))) (wr4 mMx (wr4 mMx mx (k0_off132 k) (k0_off132_inb k) (k0_pay364 (mxc (tl x0 x1 k.val 0) 127))) (k0_off261 k) (k0_off261_inb k) (k0_pay364 (mxc (tl x0 x1 k.val 1) 127))) (wr4 mMn (wr4 mMn mn (k0_off132 k) (k0_off132_inb k) (finMn (mnc (tl x0 x1 k.val 0) 127))) (k0_off261 k) (k0_off261_inb k) (finMn (mnc (tl x0 x1 k.val 1) 127))) ⊢ WP c (f ⟨(Scf.iv 0#32 1#32 k), (k0_pay1 on), (s2c (tl x0 x1 k.val 2) 34), (mxc (tl x0 x1 k.val 2) 34), (mnc (tl x0 x1 k.val 2) 34), (cB (tl x0 x1 k.val 2) 35), (s1c (tl x0 x1 k.val 2) (k0_pay1 on) 35), (mulf (eB (tl x0 x1 k.val 2) 35) (eB (tl x0 x1 k.val 2) 35))⟩) Q) :
    iprop(iprop(R ∗ ptOn c on ∗ ptS1 c s1 ∗ ptS2 c s2 ∗ ptMx c mx ∗ ptMn c mn) ∗ WaSt c x0 x1 k.val) ⊢ WP c (ap k0_part132 a2 ha2 a3 ha3 a5 ha5 (0#32 : BitVec 32) (1#32 : BitVec 32) k  >>= f) Q := by
  rw [k0_part132_eq_skeleton]
  unfold WP
  rw [wp_bind]
  refine t1_1 k ?_
  refine t1_2 k ?_
  refine t1_3 k ?_
  refine t1_4 k ?_
  refine t1_5 k ?_
  refine t1_6 k ?_
  refine t1_7 k ?_
  refine t1_8 k ?_
  refine t1_9 k ?_
  refine t1_10 k ?_
  refine t1_11 k ?_
  refine t1_12 k ?_
  refine t1_13 k ?_
  refine t1_14 k ?_
  refine t1_15 k ?_
  refine t1_16 k ?_
  refine t1_17 k ?_
  refine t1_18 k ?_
  refine t1_19 k ?_
  refine t1_20 k ?_
  refine t1_21 k ?_
  refine t1_22 k ?_
  refine t1_23 k ?_
  refine t1_24 k ?_
  refine t1_25 k ?_
  refine t1_26 k ?_
  refine t1_27 k ?_
  refine t1_28 k ?_
  refine t1_29 k ?_
  refine t1_30 k ?_
  refine t1_31 k ?_
  refine t1_32 k ?_
  refine t1_33 k ?_
  refine t1_34 k ?_
  refine t1_35 k ?_
  refine t1_36 k ?_
  refine t1_37 k ?_
  refine t1_38 k ?_
  refine t1_39 k ?_
  refine t1_40 k ?_
  refine t1_41 k ?_
  refine t1_42 k ?_
  refine t1_43 k ?_
  refine t1_44 k ?_
  refine t1_45 k ?_
  refine t1_46 k ?_
  refine t1_47 k ?_
  refine t1_48 k ?_
  refine t1_49 k ?_
  refine t1_50 k ?_
  refine t1_51 k ?_
  refine t1_52 k ?_
  refine t1_53 k ?_
  refine t1_54 k ?_
  refine t1_55 k ?_
  refine t1_56 k ?_
  refine t1_57 k ?_
  refine t1_58 k ?_
  refine t1_59 k ?_
  refine t1_60 k ?_
  exact wp_done h

theorem t1_133 {R : sProp 𝕄} {Q : α → sProp 𝕄} (k : Fin k0_t1_loop.trips) {arg18 : BitVec 32} {f : (Σ' (v6405 : FVec F S8x256 .f32) (v6407 : FVec F S8x256 .f32) (v6408 : FVec F S8x256 .bf16) (v6409 : FVec F S8x256 .bf16), FVec F S8x256 .bf16) → Prog (TpuEff nD τ sig (Elt F) Λ₀ .tc) α}
    (h : St c x0 x1 R on (k.val + 1) (wr4 mS1 (wr4 mS1 s1 (k0_off390 k) (k0_off390_inb k) (k0_pay362 (s1c (tl x0 x1 k.val 2) (k0_pay1 on) 127))) (k0_off519 k) (k0_off519_inb k) (k0_pay362 (s1c (tl x0 x1 k.val 3) (k0_pay1 on) 127))) (wr4 mS2 (wr4 mS2 s2 (k0_off390 k) (k0_off390_inb k) (k0_pay362 (s2c (tl x0 x1 k.val 2) 127))) (k0_off519 k) (k0_off519_inb k) (k0_pay362 (s2c (tl x0 x1 k.val 3) 127))) (wr4 mMx (wr4 mMx mx (k0_off390 k) (k0_off390_inb k) (k0_pay364 (mxc (tl x0 x1 k.val 2) 127))) (k0_off519 k) (k0_off519_inb k) (k0_pay364 (mxc (tl x0 x1 k.val 3) 127))) (wr4 mMn (wr4 mMn mn (k0_off390 k) (k0_off390_inb k) (finMn (mnc (tl x0 x1 k.val 2) 127))) (k0_off519 k) (k0_off519_inb k) (finMn (mnc (tl x0 x1 k.val 3) 127))) ⊢ WP c (f ⟨(s1c (tl x0 x1 k.val 4) (k0_pay1 on) 72), (s2c (tl x0 x1 k.val 4) 72), (mxc (tl x0 x1 k.val 4) 72), (mnc (tl x0 x1 k.val 4) 72), (cB (tl x0 x1 k.val 4) 73)⟩) Q) :
    St c x0 x1 R on (k.val + 1) s1 s2 mx mn ⊢ WP c (ap k0_part133 a2 ha2 a3 ha3 a5 ha5 k arg18 (k0_pay1 on) (s2c (tl x0 x1 k.val 2) 34) (mxc (tl x0 x1 k.val 2) 34) (mnc (tl x0 x1 k.val 2) 34) (cB (tl x0 x1 k.val 2) 35) (s1c (tl x0 x1 k.val 2) (k0_pay1 on) 35) (mulf (eB (tl x0 x1 k.val 2) 35) (eB (tl x0 x1 k.val 2) 35)) >>= f) Q := by
  rw [k0_part133_eq_skeleton]
  unfold WP
  rw [wp_bind]
  refine t1_61 k ?_
  refine t1_62 k ?_
  refine t1_63 k ?_
  refine t1_64 k ?_
  refine t1_65 k ?_
  refine t1_66 k ?_
  refine t1_67 k ?_
  refine t1_68 k ?_
  refine t1_69 k ?_
  refine t1_70 k ?_
  refine t1_71 k ?_
  refine t1_72 k ?_
  refine t1_73 k ?_
  refine t1_74 k ?_
  refine t1_75 k ?_
  refine t1_76 k ?_
  refine t1_77 k ?_
  refine t1_78 k ?_
  refine t1_79 k ?_
  refine t1_80 k ?_
  refine t1_81 k ?_
  refine t1_82 k ?_
  refine t1_83 k ?_
  refine t1_84 k ?_
  refine t1_85 k ?_
  refine t1_86 k ?_
  refine t1_87 k ?_
  refine t1_88 k ?_
  refine t1_89 k ?_
  refine t1_90 k ?_
  refine t1_91 k ?_
  refine t1_92 k ?_
  refine t1_93 k ?_
  refine t1_94 k ?_
  refine t1_95 k ?_
  refine t1_96 k ?_
  refine t1_97 k ?_
  refine t1_98 k ?_
  refine t1_99 k ?_
  refine t1_100 k ?_
  refine t1_101 k ?_
  refine t1_102 k ?_
  refine t1_103 k ?_
  refine t1_104 k ?_
  refine t1_105 k ?_
  refine t1_106 k ?_
  refine t1_107 k ?_
  refine t1_108 k ?_
  refine t1_109 k ?_
  refine t1_110 k ?_
  refine t1_111 k ?_
  refine t1_112 k ?_
  refine t1_113 k ?_
  refine t1_114 k ?_
  refine t1_115 k ?_
  refine t1_116 k ?_
  refine t1_117 k ?_
  refine t1_118 k ?_
  refine t1_119 k ?_
  refine t1_120 k ?_
  exact wp_done h

/-- The buffer after row `k`'s five tiles. -/
def updS1 (x0 : S16x1024x768.Idx → Elt F .bf16) (x1 : S16x1024x512.Idx → Elt F .bf16) (on : S8x256.Idx → Elt F .bf16) (k : Fin k0_t1_loop.trips) (s1 : S16x1x1280.Idx → Elt F .f32) : S16x1x1280.Idx → Elt F .f32 :=
  (wr4 mS1 (wr4 mS1 (wr4 mS1 (wr4 mS1 (wr4 mS1 s1 (k0_off132 k) (k0_off132_inb k) (k0_pay362 (s1c (tl x0 x1 k.val 0) (k0_pay1 on) 127))) (k0_off261 k) (k0_off261_inb k) (k0_pay362 (s1c (tl x0 x1 k.val 1) (k0_pay1 on) 127))) (k0_off390 k) (k0_off390_inb k) (k0_pay362 (s1c (tl x0 x1 k.val 2) (k0_pay1 on) 127))) (k0_off519 k) (k0_off519_inb k) (k0_pay362 (s1c (tl x0 x1 k.val 3) (k0_pay1 on) 127))) (k0_off648 k) (k0_off648_inb k) (k0_pay362 (s1c (tl x0 x1 k.val 4) (k0_pay1 on) 127)))
/-- The buffer after row `k`'s five tiles. -/
def updS2 (x0 : S16x1024x768.Idx → Elt F .bf16) (x1 : S16x1024x512.Idx → Elt F .bf16) (on : S8x256.Idx → Elt F .bf16) (k : Fin k0_t1_loop.trips) (s2 : S16x1x1280.Idx → Elt F .f32) : S16x1x1280.Idx → Elt F .f32 :=
  (wr4 mS2 (wr4 mS2 (wr4 mS2 (wr4 mS2 (wr4 mS2 s2 (k0_off132 k) (k0_off132_inb k) (k0_pay362 (s2c (tl x0 x1 k.val 0) 127))) (k0_off261 k) (k0_off261_inb k) (k0_pay362 (s2c (tl x0 x1 k.val 1) 127))) (k0_off390 k) (k0_off390_inb k) (k0_pay362 (s2c (tl x0 x1 k.val 2) 127))) (k0_off519 k) (k0_off519_inb k) (k0_pay362 (s2c (tl x0 x1 k.val 3) 127))) (k0_off648 k) (k0_off648_inb k) (k0_pay362 (s2c (tl x0 x1 k.val 4) 127)))
/-- The buffer after row `k`'s five tiles. -/
def updMx (x0 : S16x1024x768.Idx → Elt F .bf16) (x1 : S16x1024x512.Idx → Elt F .bf16) (on : S8x256.Idx → Elt F .bf16) (k : Fin k0_t1_loop.trips) (mx : S16x1x1280.Idx → Elt F .f32) : S16x1x1280.Idx → Elt F .f32 :=
  (wr4 mMx (wr4 mMx (wr4 mMx (wr4 mMx (wr4 mMx mx (k0_off132 k) (k0_off132_inb k) (k0_pay364 (mxc (tl x0 x1 k.val 0) 127))) (k0_off261 k) (k0_off261_inb k) (k0_pay364 (mxc (tl x0 x1 k.val 1) 127))) (k0_off390 k) (k0_off390_inb k) (k0_pay364 (mxc (tl x0 x1 k.val 2) 127))) (k0_off519 k) (k0_off519_inb k) (k0_pay364 (mxc (tl x0 x1 k.val 3) 127))) (k0_off648 k) (k0_off648_inb k) (k0_pay364 (mxc (tl x0 x1 k.val 4) 127)))
/-- The buffer after row `k`'s five tiles. -/
def updMn (x0 : S16x1024x768.Idx → Elt F .bf16) (x1 : S16x1024x512.Idx → Elt F .bf16) (on : S8x256.Idx → Elt F .bf16) (k : Fin k0_t1_loop.trips) (mn : S16x1x1280.Idx → Elt F .f32) : S16x1x1280.Idx → Elt F .f32 :=
  (wr4 mMn (wr4 mMn (wr4 mMn (wr4 mMn (wr4 mMn mn (k0_off132 k) (k0_off132_inb k) (finMn (mnc (tl x0 x1 k.val 0) 127))) (k0_off261 k) (k0_off261_inb k) (finMn (mnc (tl x0 x1 k.val 1) 127))) (k0_off390 k) (k0_off390_inb k) (finMn (mnc (tl x0 x1 k.val 2) 127))) (k0_off519 k) (k0_off519_inb k) (finMn (mnc (tl x0 x1 k.val 3) 127))) (k0_off648 k) (k0_off648_inb k) (finMn (mnc (tl x0 x1 k.val 4) 127)))
theorem t1_trip {R : sProp 𝕄} {Q : Unit → sProp 𝕄} (k : Fin k0_t1_loop.trips)
    (h : St c x0 x1 R on (k.val + 1) (updS1 x0 x1 on k s1) (updS2 x0 x1 on k s2) (updMx x0 x1 on k mx) (updMn x0 x1 on k mn) ⊢ Q ⟨⟩) :
    iprop(iprop(R ∗ ptOn c on ∗ ptS1 c s1 ∗ ptS2 c s2 ∗ ptMx c mx ∗ ptMn c mn) ∗ WaSt c x0 x1 k.val) ⊢ WP c (ap k0_t1_body a2 ha2 a3 ha3 a5 ha5 k ⟨⟩) Q := by
  unfold ap k0_t1_body
  refine t1_132 k ?_
  refine t1_133 k ?_
  refine t1_121 k ?_
  refine t1_122 k ?_
  refine t1_123 k ?_
  refine t1_124 k ?_
  refine t1_125 k ?_
  refine t1_126 k ?_
  refine t1_127 k ?_
  refine t1_128 k ?_
  refine t1_129 k ?_
  refine t1_130 k ?_
  refine t1_131 k ?_
  refine ddS1 ?_
  refine stS1 ?_
  refine ddS2 ?_
  refine stS2 ?_
  refine ddMx ?_
  refine stMx ?_
  refine ddMn ?_
  refine stMn ?_
  exact wp_done h
end

end Cert.KernelIdeal.Hand
-- ==== Proof.KI.XSt.lean ====
/-
  The statistics' loop at given contents.
-/
module

public import proofs.«01_k».proof.Proof.KI.X
public import proofs.«01_k».proof.Proof.KI.T3
public import proofs.«01_k».proof.Proof.KI.In

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- What the core has waited for, whatever it is. -/
def owE (c : Dev nD) : sProp 𝕄 := iprop(∃ W, owes (c : Thread nD τ) 0 W)

section
variable {c : Dev nD} {a2 : Memref sig .tc .vmem S1280 .f32} {ha2 : a2.IsWhole} {a3 : Memref sig .tc .vmem S1280 .f32} {ha3 : a3.IsWhole} {a5 : Memref sig .tc .smem S1x1 .f32} {ha5 : a5.IsWhole}
  {x0 : S16x1024x768.Idx → Elt F .bf16} {x1 : S16x1024x512.Idx → Elt F .bf16}
variable {α : Type}

theorem rows_all (d : Fin 3 → ℕ) (p : ℕ → Prop) [DecidablePred p] (h : ∀ n, n < d 0 → p n) : rowsIn d p = Finset.univ := by
  ext i; rw [mem_rowsIn]; exact ⟨fun _ => Finset.mem_univ _, fun _ => h _ (i 0).isLt⟩
theorem rows_none (d : Fin 3 → ℕ) (p : ℕ → Prop) [DecidablePred p] (h : ∀ n, n < d 0 → ¬ p n) : rowsIn d p = ∅ := by
  ext i; rw [mem_rowsIn]; exact ⟨fun hp => absurd hp (h _ (i 0).isLt), fun h => absurd h (Finset.notMem_empty _)⟩

theorem pt_none {ℓ : Loc nD τ sig} (f g : Buf (Elt F) ℓ) : (ℓ ↦[∅]{fullShare} f : sProp 𝕄) = (ℓ ↦[∅]{fullShare} g) :=
  pointsTo_congr fun i hi => absurd hi (Finset.notMem_empty i)

/-- Nothing issued. -/
theorem in_start (f6 : S16x1024x768.Idx → Elt F .bf16) (f7 : S16x1024x512.Idx → Elt F .bf16) :
    iprop((mXu.view.loc (c : Thread nD τ) ↦[Finset.univ]{fullShare} f6) ∗ (mXs.view.loc (c : Thread nD τ) ↦[Finset.univ]{fullShare} f7)
      ∗ (mXuH.view.loc (c : Thread nD τ) ↦[Finset.univ]{fullShare} x0) ∗ (mXsH.view.loc (c : Thread nD τ) ↦[Finset.univ]{fullShare} x1)
      ∗ bigSep Finset.univ (fun b => semVal ((c : Thread nD τ), SemLoc.dma (inSem b)) 0)) ⊢ InSt c x0 x1 f6 f7 0 := by
  unfold InSt ptXu ptXuH ptXs ptXsH
  rw [rows_all dXu (0 ≤ ·) (fun n _ => Nat.zero_le n), rows_all dXs (0 ≤ ·) (fun n _ => Nat.zero_le n), geS_zero, ltS_zero, bigSep_empty]
  iintro ⟨H6, H7, H0, H1, Hs⟩
  isplitl [H6]; · iexact H6
  isplitl [H0]; · iexact H0
  isplitl [H7]; · iexact H7
  isplitl [H1]; · iexact H1
  isplitl [Hs]; · iexact Hs
  iempintro

/-- Everything issued: nothing waited for yet. -/
theorem in_mid (f6 : S16x1024x768.Idx → Elt F .bf16) (f7 : S16x1024x512.Idx → Elt F .bf16) :
    iprop(InSt c x0 x1 f6 f7 16 ∗ owE c) ⊢ WaSt c x0 x1 0 := by
  unfold InSt WaSt ptXu ptXuH ptXs ptXsH owE
  rw [rows_none dXu (16 ≤ ·) (fun n h => Nat.not_le.mpr h), rows_none dXs (16 ≤ ·) (fun n h => Nat.not_le.mpr h),
    rows_none dXu (· < 0) (fun n _ => Nat.not_lt_zero n), rows_none dXs (· < 0) (fun n _ => Nat.not_lt_zero n), geS_full, ltS_full, geS_zero, ltS_zero, bigSep_empty,
    pt_none (ℓ := mXu.view.loc (c : Thread nD τ)) f6 x0, pt_none (ℓ := mXs.view.loc (c : Thread nD τ)) f7 x1]
  iintro ⟨⟨H6, H0, H7, H1, He, Hm⟩, HW⟩
  isplitl [H6]; · iexact H6
  isplitl [H0]; · iexact H0
  isplitl [H7]; · iexact H7
  isplitl [H1]; · iexact H1
  isplitl [He]; · iexact He
  isplitl [Hm]; · iexact Hm
  iexact HW

/-- Everything has landed. -/
theorem in_end : WaSt c x0 x1 16 ⊢
    iprop((mXu.view.loc (c : Thread nD τ) ↦[Finset.univ]{fullShare} x0) ∗ (mXs.view.loc (c : Thread nD τ) ↦[Finset.univ]{fullShare} x1)
      ∗ (mXuH.view.loc (c : Thread nD τ) ↦[Finset.univ]{fullShare} x0) ∗ (mXsH.view.loc (c : Thread nD τ) ↦[Finset.univ]{fullShare} x1)
      ∗ bigSep Finset.univ (fun b => semVal ((c : Thread nD τ), SemLoc.dma (inSem b)) 0) ∗ owE c) := by
  unfold WaSt ptXu ptXuH ptXs ptXsH owE
  rw [rows_all dXu (· < 16) (fun n h => h), rows_all dXs (· < 16) (fun n h => h), geS_full, ltS_full, bigSep_empty]
  iintro ⟨H6, H0, H7, H1, Hs, He, HW⟩
  isplitl [H6]; · iexact H6
  isplitl [H7]; · iexact H7
  isplitl [H0]; · iexact H0
  isplitl [H1]; · iexact H1
  isplitl [Hs]; · iexact Hs
  iexact HW

theorem loadOn {R X Y : sProp 𝕄} {Q : α → sProp 𝕄} {on : S8x256.Idx → Elt F .bf16} {r : LoadRect S8x256} {hl : mOn.view.LoadsAt r} {k : (r.shape.Idx → Elt F .bf16) → Prog (TpuEff nD τ sig (Elt F) Λ₀ .tc) α}
    (hk : ∀ v, iprop(iprop(R ∗ ptOn c on ∗ X) ∗ Y) ⊢ WP c (k v) Q) : iprop(iprop(R ∗ ptOn c on ∗ X) ∗ Y) ⊢ WP c (.op (.load mOn r hl) k) Q :=
  x_load (f := on) (R' := iprop(R ∗ X ∗ Y)) (by rw [up (A := R) (rfl : iprop(ptOn c on ∗ X) = _)]; simp only [sep_assoc_e]) (Finset.subset_univ _) rfl (hk _)
theorem z2 : (![0, 0] : Fin 2 → ℕ) = fun _ => 0 := by decide
theorem storeOn {R X Y : sProp 𝕄} {Q : α → sProp 𝕄} {on : S8x256.Idx → Elt F .bf16} {inb : ∀ a, (![0, 0] : Fin 2 → ℕ) a + S8x256.size a ≤ S8x256.size a} {w : S8x256.Idx → Elt F .bf16}
    {hx : (mOn.access (Rect.unit (s := S8x256) ![0, 0] S8x256.size inb)).Stores Finset.univ} {hm} {k : PUnit → Prog (TpuEff nD τ sig (Elt F) Λ₀ .tc) α}
    (hk : iprop(iprop(R ∗ ptOn c w ∗ X) ∗ Y) ⊢ WP c (k ⟨⟩) Q) : iprop(iprop(R ∗ ptOn c on ∗ X) ∗ Y) ⊢ WP c (.op (.store mOn (Rect.unit (s := S8x256) ![0, 0] S8x256.size inb) w Finset.univ hx hm) k) Q :=
  x_store (R' := iprop(R ∗ X ∗ Y)) (by rw [up (A := R) (rfl : iprop(ptOn c on ∗ X) = _)]; simp only [sep_assoc_e]) (Finset.subset_univ _)
    (Memref.write_access_unit_zero_univ (Elt F) cc0_scratch9 z2 inb on w) (by rw [up (A := R) (rfl : iprop(ptOn c w ∗ X) = _)]; simp only [sep_assoc_e]) hk

/-- A part whose value is known, then the rest. -/
theorem x_step {E E' : sProp 𝕄} {σ : Type} {Q : α → sProp 𝕄} {p : Prog (TpuEff nD τ sig (Elt F) Λ₀ .tc) σ} {x : σ}
    {kk : σ → Prog (TpuEff nD τ sig (Elt F) Λ₀ .tc) α} (hb : E ⊢ WP c p (fun v => iprop(⌜v = x⌝ ∗ E'))) (hk : E' ⊢ WP c (kk x) Q) :
    E ⊢ WP c (p >>= kk) Q := by
  unfold WP at *
  rw [wp_bind]
  refine BIBase.Entails.trans hb (wp_mono _ _ _ fun v => ?_)
  iintro ⟨%hv, H⟩
  subst hv
  iapply hk
  iexact H
theorem at_eq {E : sProp 𝕄} {σ : Type} (x : σ) : E ⊢ iprop(⌜x = x⌝ ∗ E) := by
  iintro H
  isplitr
  · ipureintro; rfl
  · iexact H

/-- A statistics buffer filled from its tiles' rows. -/
def fillT (w : ℕ → ℕ → S1x1x256.Idx → Elt F .f32) : S16x1x1280.Idx → Elt F .f32 := fun i => w (i 0).val ((i 2).val / 256) (i3 ((i 2).val % 256))
/-- The first `n` rows from one, the others from the other. -/
def upto (T s : S16x1x1280.Idx → Elt F .f32) (n : ℕ) : S16x1x1280.Idx → Elt F .f32 := fun i => if (i 0).val < n then T i else s i
theorem upto_zero (T s : S16x1x1280.Idx → Elt F .f32) : upto T s 0 = s := rfl
theorem upto_all (T s : S16x1x1280.Idx → Elt F .f32) : upto T s 16 = T := by
  funext i
  exact if_pos (show (i 0).val < 16 from (i 0).isLt)
theorem wq5 (w : ℕ → ℕ → S1x1x256.Idx → Elt F .f32) (s : S16x1x1280.Idx → Elt F .f32) (k : ℕ) :
    wq (wq (wq (wq (wq (upto (fillT w) s k) k 0 (w k 0)) k 256 (w k 1)) k 512 (w k 2)) k 768 (w k 3)) k 1024 (w k 4) = upto (fillT w) s (k + 1) := by
  funext i
  have h2 : (i 2).val < 1280 := (i 2).isLt
  unfold wq upto fillT
  by_cases h0 : (i 0).val = k
  · rw [h0, if_pos (Nat.lt_succ_self k)]
    have hd : (i 2).val / 256 = 0 ∨ (i 2).val / 256 = 1 ∨ (i 2).val / 256 = 2 ∨ (i 2).val / 256 = 3 ∨ (i 2).val / 256 = 4 := by omega
    rcases hd with h | h | h | h | h
    · rw [h, if_neg (by omega), if_neg (by omega), if_neg (by omega), if_neg (by omega), if_pos (by omega), show (i 2).val % 256 = (i 2).val - 0 by omega]
    · rw [h, if_neg (by omega), if_neg (by omega), if_neg (by omega), if_pos (by omega), show (i 2).val % 256 = (i 2).val - 256 by omega]
    · rw [h, if_neg (by omega), if_neg (by omega), if_pos (by omega), show (i 2).val % 256 = (i 2).val - 512 by omega]
    · rw [h, if_neg (by omega), if_pos (by omega), show (i 2).val % 256 = (i 2).val - 768 by omega]
    · rw [h, if_pos (by omega), show (i 2).val % 256 = (i 2).val - 1024 by omega]
  · rw [if_neg (fun h => h0 h.1), if_neg (fun h => h0 h.1), if_neg (fun h => h0 h.1), if_neg (fun h => h0 h.1), if_neg (fun h => h0 h.1)]
    by_cases h1 : (i 0).val < k
    · rw [if_pos h1, if_pos (by omega)]
    · rw [if_neg h1, if_neg (by omega)]

def wS1 (x0 : S16x1024x768.Idx → Elt F .bf16) (x1 : S16x1024x512.Idx → Elt F .bf16) (k t : ℕ) : S1x1x256.Idx → Elt F .f32 := k0_pay362 (s1c (tl x0 x1 k t) (k0_pay1 (k0_pay1947 (F := F))) 127)
def wS2 (x0 : S16x1024x768.Idx → Elt F .bf16) (x1 : S16x1024x512.Idx → Elt F .bf16) (k t : ℕ) : S1x1x256.Idx → Elt F .f32 := k0_pay362 (s2c (tl x0 x1 k t) 127)
def wMx (x0 : S16x1024x768.Idx → Elt F .bf16) (x1 : S16x1024x512.Idx → Elt F .bf16) (k t : ℕ) : S1x1x256.Idx → Elt F .f32 := k0_pay364 (mxc (tl x0 x1 k t) 127)
def wMn (x0 : S16x1024x768.Idx → Elt F .bf16) (x1 : S16x1024x512.Idx → Elt F .bf16) (k t : ℕ) : S1x1x256.Idx → Elt F .f32 := finMn (mnc (tl x0 x1 k t) 127)

theorem woS1 {f : S16x1x1280.Idx → Elt F .f32} {k q : ℕ} {o : Fin 3 → ℕ} (ho : o = ![k, 0, q]) {inb : ∀ a, o a + S1x1x256.size a ≤ S16x1x1280.size a} {w : S1x1x256.Idx → Elt F .f32} :
    wr4 mS1 f o inb w = wq f k q w := by subst ho; exact wqS1 f k q inb w
theorem updS1_eq (k : Fin k0_t1_loop.trips) (s : S16x1x1280.Idx → Elt F .f32) :
    updS1 x0 x1 (k0_pay1947 (F := F)) k (upto (fillT (wS1 x0 x1)) s k.val) = upto (fillT (wS1 x0 x1)) s (k.val + 1) := by
  unfold updS1
  rw [woS1 (k0_off648_eq k), woS1 (k0_off519_eq k), woS1 (k0_off390_eq k), woS1 (k0_off261_eq k), woS1 (k0_off132_eq k)]
  exact wq5 (wS1 x0 x1) s k.val
theorem woS2 {f : S16x1x1280.Idx → Elt F .f32} {k q : ℕ} {o : Fin 3 → ℕ} (ho : o = ![k, 0, q]) {inb : ∀ a, o a + S1x1x256.size a ≤ S16x1x1280.size a} {w : S1x1x256.Idx → Elt F .f32} :
    wr4 mS2 f o inb w = wq f k q w := by subst ho; exact wqS2 f k q inb w
theorem updS2_eq (k : Fin k0_t1_loop.trips) (s : S16x1x1280.Idx → Elt F .f32) :
    updS2 x0 x1 (k0_pay1947 (F := F)) k (upto (fillT (wS2 x0 x1)) s k.val) = upto (fillT (wS2 x0 x1)) s (k.val + 1) := by
  unfold updS2
  rw [woS2 (k0_off648_eq k), woS2 (k0_off519_eq k), woS2 (k0_off390_eq k), woS2 (k0_off261_eq k), woS2 (k0_off132_eq k)]
  exact wq5 (wS2 x0 x1) s k.val
theorem woMx {f : S16x1x1280.Idx → Elt F .f32} {k q : ℕ} {o : Fin 3 → ℕ} (ho : o = ![k, 0, q]) {inb : ∀ a, o a + S1x1x256.size a ≤ S16x1x1280.size a} {w : S1x1x256.Idx → Elt F .f32} :
    wr4 mMx f o inb w = wq f k q w := by subst ho; exact wqMx f k q inb w
theorem updMx_eq (k : Fin k0_t1_loop.trips) (s : S16x1x1280.Idx → Elt F .f32) :
    updMx x0 x1 (k0_pay1947 (F := F)) k (upto (fillT (wMx x0 x1)) s k.val) = upto (fillT (wMx x0 x1)) s (k.val + 1) := by
  unfold updMx
  rw [woMx (k0_off648_eq k), woMx (k0_off519_eq k), woMx (k0_off390_eq k), woMx (k0_off261_eq k), woMx (k0_off132_eq k)]
  exact wq5 (wMx x0 x1) s k.val
theorem woMn {f : S16x1x1280.Idx → Elt F .f32} {k q : ℕ} {o : Fin 3 → ℕ} (ho : o = ![k, 0, q]) {inb : ∀ a, o a + S1x1x256.size a ≤ S16x1x1280.size a} {w : S1x1x256.Idx → Elt F .f32} :
    wr4 mMn f o inb w = wq f k q w := by subst ho; exact wqMn f k q inb w
theorem updMn_eq (k : Fin k0_t1_loop.trips) (s : S16x1x1280.Idx → Elt F .f32) :
    updMn x0 x1 (k0_pay1947 (F := F)) k (upto (fillT (wMn x0 x1)) s k.val) = upto (fillT (wMn x0 x1)) s (k.val + 1) := by
  unfold updMn
  rw [woMn (k0_off648_eq k), woMn (k0_off519_eq k), woMn (k0_off390_eq k), woMn (k0_off261_eq k), woMn (k0_off132_eq k)]
  exact wq5 (wMn x0 x1) s k.val

/-- The statistics' loop after `n` rows. -/
def StX (c : Dev nD) (x0 : S16x1024x768.Idx → Elt F .bf16) (x1 : S16x1024x512.Idx → Elt F .bf16) (R : sProp 𝕄) (s1 s2 mx mn : S16x1x1280.Idx → Elt F .f32) (n : ℕ) : sProp 𝕄 :=
  St c x0 x1 R (k0_pay1947 (F := F)) n (upto (fillT (wS1 x0 x1)) s1 n) (upto (fillT (wS2 x0 x1)) s2 n) (upto (fillT (wMx x0 x1)) mx n) (upto (fillT (wMn x0 x1)) mn n)

theorem t1_step {R : sProp 𝕄} {s1 s2 mx mn : S16x1x1280.Idx → Elt F .f32} (k : Fin k0_t1_loop.trips) (acc : Unit) :
    StX c x0 x1 R s1 s2 mx mn k.val ⊢ WP c (ap k0_t1_body a2 ha2 a3 ha3 a5 ha5 k acc) (fun _ => StX c x0 x1 R s1 s2 mx mn (k.val + 1)) := by
  refine t1_trip (c := c) (x0 := x0) (x1 := x1) (R := R) (on := k0_pay1947 (F := F)) k ?_
  rw [updS1_eq, updS2_eq, updMx_eq, updMn_eq]
  exact .rfl

theorem t1_all {R : sProp 𝕄} {s1 s2 mx mn : S16x1x1280.Idx → Elt F .f32} {α : Type _} {Q : α → sProp 𝕄} {kk : Unit → Prog (TpuEff nD τ sig (Elt F) Λ₀ .tc) α}
    (hk : ∀ acc, StX c x0 x1 R s1 s2 mx mn 16 ⊢ WP c (kk acc) Q) :
    StX c x0 x1 R s1 s2 mx mn 0 ⊢ WP c (Scf.Loop.for k0_t1_loop k0_t1_ok ⟨⟩ (ap k0_t1_body a2 ha2 a3 ha3 a5 ha5) >>= kk) Q := by
  have h := Scf.wp_for_bind frame (wpE (defs₀ (F := F)) Variants.none (c : Thread nD τ) none) Set.univ k0_t1_loop.lb k0_t1_loop.ub k0_t1_loop.st k0_t1_ok ⟨⟩
    (ap k0_t1_body a2 ha2 a3 ha3 a5 ha5) (fun n _ => StX c x0 x1 R s1 s2 mx mn n) (fun k acc => t1_step k acc) (kk := kk) (Q := Q)
  iintro HE
  iapply h $$ [HE]
  · iexact HE
  iintro %acc HE
  iapply (hk acc)
  iapply (Entails.of_eq (congrArg (fun n => StX c x0 x1 R s1 s2 mx mn n) (show k0_t1_loop.trips = 16 by decide +kernel)))
  iexact HE

/-- Before the rows are issued, at given contents. -/
def Beg (c : Dev nD) (x0 : S16x1024x768.Idx → Elt F .bf16) (x1 : S16x1024x512.Idx → Elt F .bf16) (R : sProp 𝕄) (on : S8x256.Idx → Elt F .bf16) (s1 s2 mx mn : S16x1x1280.Idx → Elt F .f32)
    (f6 : S16x1024x768.Idx → Elt F .bf16) (f7 : S16x1024x512.Idx → Elt F .bf16) (n : ℕ) : sProp 𝕄 :=
  iprop(iprop(iprop(R ∗ owE c) ∗ ptOn c on ∗ ptS1 c s1 ∗ ptS2 c s2 ∗ ptMx c mx ∗ ptMn c mn) ∗ InSt c x0 x1 f6 f7 n)

theorem p_163 {R : sProp 𝕄} {on : S8x256.Idx → Elt F .bf16} {s1 s2 mx mn : S16x1x1280.Idx → Elt F .f32} {f6 : S16x1024x768.Idx → Elt F .bf16} {f7 : S16x1024x512.Idx → Elt F .bf16}
    {Q : α → sProp 𝕄} {kk : (Σ' (v209 : FVec F S1280x128 .bf16), IVec S128x1280 32) → Prog (TpuEff nD τ sig (Elt F) Λ₀ .tc) α}
    (hk : StX c x0 x1 R s1 s2 mx mn 16 ⊢ WP c (kk ⟨k0_pay1952 (F := F), iota .tc S128x1280 32 [1] iota_S128x1280_d1_w32⟩) Q) :
    Beg c x0 x1 R on s1 s2 mx mn f6 f7 15 ⊢ WP c (ap k0_part163 a2 ha2 a3 ha3 a5 ha5 >>= kk) Q := by
  refine x_step (E' := StX c x0 x1 R s1 s2 mx mn 16) ?_ hk
  rw [k0_part163_eq_skeleton]
  unfold Beg
  refine issue_row c x0 x1 (15 : Fin 16) ?_
  refine loadOn fun _ => ?_
  refine storeOn ?_
  refine BIBase.Entails.trans ?_ (t1_all (R := R) (x0 := x0) (x1 := x1) (s1 := s1) (s2 := s2) (mx := mx) (mn := mn) fun acc => wp_done (at_eq _))
  unfold StX St
  rw [upto_zero, upto_zero, upto_zero, upto_zero]
  iintro ⟨⟨⟨HR, HW⟩, HO, H1, H2, H3, H4⟩, HI⟩
  isplitr [HI HW]
  · isplitl [HR]; · iexact HR
    isplitl [HO]; · iexact HO
    isplitl [H1]; · iexact H1
    isplitl [H2]; · iexact H2
    isplitl [H3] <;> iassumption
  · iapply (in_mid f6 f7)
    isplitl [HI]
    · iexact HI
    · iexact HW
end

end Cert.KernelIdeal.Hand
-- ==== Proof.KI.XMid.lean ====
/-
  The middle of the body: coefficients and scale, at given contents.
-/
module

public import proofs.«01_k».proof.Proof.KI.XSt

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

section
variable {c : Dev nD} {a2 : Memref sig .tc .vmem S1280 .f32} {ha2 : a2.IsWhole} {a3 : Memref sig .tc .vmem S1280 .f32} {ha3 : a3.IsWhole} {a5 : Memref sig .tc .smem S1x1 .f32} {ha5 : a5.IsWhole}
  {ga be : S1280.Idx → Elt F .f32} {x0 : S16x1024x768.Idx → Elt F .bf16} {x1 : S16x1024x512.Idx → Elt F .bf16}
variable {α : Type}

/-- A loop whose carried value after `n` trips is known. -/
theorem x_for {σ : Type} {Q : α → sProp 𝕄} {l : Scf.Loop 32} {hok : l.OK} {init : σ} {body : Fin l.trips → σ → Prog (TpuEff nD τ sig (Elt F) Λ₀ .tc) σ}
    {kk : σ → Prog (TpuEff nD τ sig (Elt F) Λ₀ .tc) α} (N : ℕ) (E : ℕ → sProp 𝕄) (f : ℕ → σ) (hN : l.trips = N) (h0 : f 0 = init)
    (hb : ∀ k : Fin l.trips, E k.val ⊢ WP c (body k (f k.val)) (fun v => iprop(⌜v = f (k.val + 1)⌝ ∗ E (k.val + 1))))
    (hk : E N ⊢ WP c (kk (f N)) Q) : E 0 ⊢ WP c (Scf.Loop.for l hok init body >>= kk) Q := by
  subst hN
  have h := Scf.wp_for_bind frame (wpE (defs₀ (F := F)) Variants.none (c : Thread nD τ) none) Set.univ l.lb l.ub l.st hok init body (fun n v => iprop(⌜v = f n⌝ ∗ E n)) (by
    intro k acc
    iintro ⟨%ha, HE⟩
    subst ha
    iapply (hb k)
    iexact HE) (kk := kk) (Q := Q)
  iintro HE
  iapply h $$ [HE]
  · isplitr
    · ipureintro; exact h0.symm
    · iexact HE
  iintro %acc ⟨%ha, HE⟩
  subst ha
  iapply hk
  iexact HE
theorem x_ite {E : sProp 𝕄} {p : Prop} {ip : Decidable p} {Q : α → sProp 𝕄} {A B : Prog (TpuEff nD τ sig (Elt F) Λ₀ .tc) α}
    (hA : p → E ⊢ WP c A Q) (hB : ¬ p → E ⊢ WP c B Q) : E ⊢ WP c (if p then A else B) Q := by
  split
  · exact hA ‹_›
  · exact hB ‹_›

/-- The centred squares of a tile's first `n` blocks, summed. -/
def cq (B : Vec F S1x1x256 .f32) (bl : ℕ → Vec F S1x8x256 .bf16) : ℕ → FVec F S8x256 .f32
  | 0 => k0_pay1862 (F := F)
  | n + 1 => k0_pay1863 B (cq B bl n) (bl n)
/-- The largest of `|y|` over a tile's first `n` blocks and what came before. -/
def mq (A B : Vec F S1x1x256 .f32) (bl : ℕ → Vec F S1x8x256 .bf16) (m : FVec F S8x256 .f32) : ℕ → FVec F S8x256 .f32
  | 0 => m
  | n + 1 => k0_pay1870 A B (mq A B bl m n) (bl n)
def wCq (x0 : S16x1024x768.Idx → Elt F .bf16) (x1 : S16x1024x512.Idx → Elt F .bf16) (b : S16x1x1280.Idx → Elt F .f32) (k t : ℕ) : S1x1x256.Idx → Elt F .f32 :=
  k0_pay1864 (cq (ln b k (256 * t)) (tl x0 x1 k t) 128)
def mt (x0 : S16x1024x768.Idx → Elt F .bf16) (x1 : S16x1024x512.Idx → Elt F .bf16) (a b : S16x1x1280.Idx → Elt F .f32) (k t : ℕ) (m : FVec F S8x256 .f32) : FVec F S8x256 .f32 :=
  mq (ln a k (256 * t)) (ln b k (256 * t)) (tl x0 x1 k t) m 128
def mall (x0 : S16x1024x768.Idx → Elt F .bf16) (x1 : S16x1024x512.Idx → Elt F .bf16) (a b : S16x1x1280.Idx → Elt F .f32) : ℕ → FVec F S8x256 .f32
  | 0 => k0_pay1975 (F := F)
  | k + 1 => mt x0 x1 a b k 4 (mt x0 x1 a b k 3 (mt x0 x1 a b k 2 (mt x0 x1 a b k 1 (mt x0 x1 a b k 0 (mall x0 x1 a b k)))))

theorem b_t3 {R : sProp 𝕄} {C : Cx F} {c0 c1 : BitVec 32} {k : Fin k0_t2_loop.trips} {v : Vec F S1x1x256 .f32} (i : Fin k0_t3_loop.trips) (acc : FVec F S8x256 .f32) :
    Sx c a2 a3 a5 ga be x0 x1 R C ⊢ WP c (ap k0_t3_body a2 ha2 a3 ha3 a5 ha5 c0 c1 k v i acc) (fun r => iprop(⌜r = k0_pay1863 v acc (blkU x0 k.val (8 * i.val) 0)⌝ ∗ Sx c a2 a3 a5 ga be x0 x1 R C)) := by
  refine xlU _ _ _ (k0_off650_eq k i) ?_
  exact wp_done (at_eq _)

theorem b_t4 {R : sProp 𝕄} {C : Cx F} {c0 c1 : BitVec 32} {k : Fin k0_t2_loop.trips} {v : Vec F S1x1x256 .f32} (i : Fin k0_t4_loop.trips) (acc : FVec F S8x256 .f32) :
    Sx c a2 a3 a5 ga be x0 x1 R C ⊢ WP c (ap k0_t4_body a2 ha2 a3 ha3 a5 ha5 c0 c1 k v i acc) (fun r => iprop(⌜r = k0_pay1863 v acc (blkU x0 k.val (8 * i.val) 256)⌝ ∗ Sx c a2 a3 a5 ga be x0 x1 R C)) := by
  refine xlU _ _ _ (k0_off652_eq k i) ?_
  exact wp_done (at_eq _)

theorem b_t5 {R : sProp 𝕄} {C : Cx F} {c0 c1 : BitVec 32} {k : Fin k0_t2_loop.trips} {v : Vec F S1x1x256 .f32} (i : Fin k0_t5_loop.trips) (acc : FVec F S8x256 .f32) :
    Sx c a2 a3 a5 ga be x0 x1 R C ⊢ WP c (ap k0_t5_body a2 ha2 a3 ha3 a5 ha5 c0 c1 k v i acc) (fun r => iprop(⌜r = k0_pay1863 v acc (blkU x0 k.val (8 * i.val) 512)⌝ ∗ Sx c a2 a3 a5 ga be x0 x1 R C)) := by
  refine xlU _ _ _ (k0_off654_eq k i) ?_
  exact wp_done (at_eq _)

theorem b_t6 {R : sProp 𝕄} {C : Cx F} {v209 : FVec F S1280x128 .bf16} {v222 : FVec F S128x1280 .bf16} {v272 : F .f32} {v286 : FVec F S16x1280 .f32} {v306 : FVec F S16x1x1280 .f32} {k : Fin k0_t2_loop.trips} {v : Vec F S1x1x256 .f32} (i : Fin k0_t6_loop.trips) (acc : FVec F S8x256 .f32) :
    Sx c a2 a3 a5 ga be x0 x1 R C ⊢ WP c (ap k0_t6_body a2 ha2 a3 ha3 a5 ha5 v209 v222 v272 v286 v306 k v i acc) (fun r => iprop(⌜r = k0_pay1863 v acc (blkS x1 k.val (8 * i.val) 0)⌝ ∗ Sx c a2 a3 a5 ga be x0 x1 R C)) := by
  refine xlS _ _ _ (k0_off656_eq k i) ?_
  exact wp_done (at_eq _)

theorem b_t7 {R : sProp 𝕄} {C : Cx F} {v209 : FVec F S1280x128 .bf16} {v222 : FVec F S128x1280 .bf16} {v272 : F .f32} {v286 : FVec F S16x1280 .f32} {v306 : FVec F S16x1x1280 .f32} {k : Fin k0_t2_loop.trips} {v : Vec F S1x1x256 .f32} (i : Fin k0_t7_loop.trips) (acc : FVec F S8x256 .f32) :
    Sx c a2 a3 a5 ga be x0 x1 R C ⊢ WP c (ap k0_t7_body a2 ha2 a3 ha3 a5 ha5 v209 v222 v272 v286 v306 k v i acc) (fun r => iprop(⌜r = k0_pay1863 v acc (blkS x1 k.val (8 * i.val) 256)⌝ ∗ Sx c a2 a3 a5 ga be x0 x1 R C)) := by
  refine xlS _ _ _ (k0_off658_eq k i) ?_
  exact wp_done (at_eq _)

theorem b_t9 {R : sProp 𝕄} {C : Cx F} {c0 c1 : BitVec 32} {k : Fin k0_t8_loop.trips} {m : FVec F S8x256 .f32} {A B : Vec F S1x1x256 .f32} (i : Fin k0_t9_loop.trips) (acc : FVec F S8x256 .f32) :
    Sx c a2 a3 a5 ga be x0 x1 R C ⊢ WP c (ap k0_t9_body a2 ha2 a3 ha3 a5 ha5 c0 c1 k m A B i acc) (fun r => iprop(⌜r = k0_pay1870 A B acc (blkU x0 k.val (8 * i.val) 0)⌝ ∗ Sx c a2 a3 a5 ga be x0 x1 R C)) := by
  refine xlU _ _ _ (k0_off660_eq k i) ?_
  exact wp_done (at_eq _)

theorem b_t10 {R : sProp 𝕄} {C : Cx F} {c0 c1 : BitVec 32} {k : Fin k0_t8_loop.trips} {m : FVec F S8x256 .f32} {A B : Vec F S1x1x256 .f32} (i : Fin k0_t10_loop.trips) (acc : FVec F S8x256 .f32) :
    Sx c a2 a3 a5 ga be x0 x1 R C ⊢ WP c (ap k0_t10_body a2 ha2 a3 ha3 a5 ha5 c0 c1 k m A B i acc) (fun r => iprop(⌜r = k0_pay1870 A B acc (blkU x0 k.val (8 * i.val) 256)⌝ ∗ Sx c a2 a3 a5 ga be x0 x1 R C)) := by
  refine xlU _ _ _ (k0_off662_eq k i) ?_
  exact wp_done (at_eq _)

theorem b_t11 {R : sProp 𝕄} {C : Cx F} {c0 c1 : BitVec 32} {k : Fin k0_t8_loop.trips} {m : FVec F S8x256 .f32} {A B : Vec F S1x1x256 .f32} (i : Fin k0_t11_loop.trips) (acc : FVec F S8x256 .f32) :
    Sx c a2 a3 a5 ga be x0 x1 R C ⊢ WP c (ap k0_t11_body a2 ha2 a3 ha3 a5 ha5 c0 c1 k m A B i acc) (fun r => iprop(⌜r = k0_pay1870 A B acc (blkU x0 k.val (8 * i.val) 512)⌝ ∗ Sx c a2 a3 a5 ga be x0 x1 R C)) := by
  refine xlU _ _ _ (k0_off664_eq k i) ?_
  exact wp_done (at_eq _)

theorem p_134 {R : sProp 𝕄} {C : Cx F} {c0 c1 : BitVec 32} {k : Fin k0_t2_loop.trips} :
    Sx c a2 a3 a5 ga be x0 x1 R C ⊢ WP c (ap k0_part134 a2 ha2 a3 ha3 a5 ha5 c0 c1 k) (fun v => iprop(⌜v = ⟨Scf.iv c0 c1 k, cq (ln C.b k.val 512) (tl x0 x1 k.val 2) 128⟩⌝ ∗ Sx c a2 a3 a5 ga be x0 x1 R { C with s2 := wq (wq C.s2 k.val 0 (wCq x0 x1 C.b k.val 0)) k.val 256 (wCq x0 x1 C.b k.val 1) })) := by
  rw [k0_part134_eq_skeleton]
  refine xlB _ _ (k0_off649_eq k) ?_
  refine x_for 128 (fun _ => Sx c a2 a3 a5 ga be x0 x1 R C) (cq (ln C.b k.val 0) (tl x0 x1 k.val 0)) (by decide +kernel) rfl (fun i => b_t3 i _) ?_
  refine xlS2 _ _ (k0_off649_eq k) ?_
  refine xsS2 _ _ (k0_off649_eq k) ?_
  refine xlB _ _ (k0_off651_eq k) ?_
  refine x_for 128 (fun _ => Sx c a2 a3 a5 ga be x0 x1 R { C with s2 := wq C.s2 k.val 0 (wCq x0 x1 C.b k.val 0) }) (cq (ln C.b k.val 256) (tl x0 x1 k.val 1)) (by decide +kernel) rfl (fun i => b_t4 i _) ?_
  refine xlS2 _ _ (k0_off651_eq k) ?_
  refine xsS2 _ _ (k0_off651_eq k) ?_
  refine xlB _ _ (k0_off653_eq k) ?_
  refine x_for 128 (fun _ => Sx c a2 a3 a5 ga be x0 x1 R { C with s2 := wq (wq C.s2 k.val 0 (wCq x0 x1 C.b k.val 0)) k.val 256 (wCq x0 x1 C.b k.val 1) }) (cq (ln C.b k.val 512) (tl x0 x1 k.val 2)) (by decide +kernel) rfl (fun i => b_t5 i _) ?_
  exact wp_done (at_eq _)

theorem b_t2 {R : sProp 𝕄} {C : Cx F} {v209 : FVec F S1280x128 .bf16} {v222 : FVec F S128x1280 .bf16} {v272 : F .f32} {v286 : FVec F S16x1280 .f32} {v306 : FVec F S16x1x1280 .f32} (k : Fin k0_t2_loop.trips) (acc : Unit) :
    Sx c a2 a3 a5 ga be x0 x1 R C ⊢ WP c (ap k0_t2_body a2 ha2 a3 ha3 a5 ha5 v209 v222 v272 v286 v306 k acc) (fun v => iprop(⌜v = ⟨⟩⌝ ∗ Sx c a2 a3 a5 ga be x0 x1 R { C with s2 := wq (wq (wq (wq (wq C.s2 k.val 0 (wCq x0 x1 C.b k.val 0)) k.val 256 (wCq x0 x1 C.b k.val 1)) k.val 512 (wCq x0 x1 C.b k.val 2)) k.val 768 (wCq x0 x1 C.b k.val 3)) k.val 1024 (wCq x0 x1 C.b k.val 4) })) := by
  refine x_step p_134 ?_
  refine xlS2 _ _ (k0_off653_eq k) ?_
  refine xsS2 _ _ (k0_off653_eq k) ?_
  refine xlB _ _ (k0_off655_eq k) ?_
  refine x_for 128 (fun _ => Sx c a2 a3 a5 ga be x0 x1 R { C with s2 := wq (wq (wq C.s2 k.val 0 (wCq x0 x1 C.b k.val 0)) k.val 256 (wCq x0 x1 C.b k.val 1)) k.val 512 (wCq x0 x1 C.b k.val 2) }) (cq (ln C.b k.val 768) (tl x0 x1 k.val 3)) (by decide +kernel) rfl (fun i => b_t6 i _) ?_
  refine xlS2 _ _ (k0_off655_eq k) ?_
  refine xsS2 _ _ (k0_off655_eq k) ?_
  refine xlB _ _ (k0_off657_eq k) ?_
  refine x_for 128 (fun _ => Sx c a2 a3 a5 ga be x0 x1 R { C with s2 := wq (wq (wq (wq C.s2 k.val 0 (wCq x0 x1 C.b k.val 0)) k.val 256 (wCq x0 x1 C.b k.val 1)) k.val 512 (wCq x0 x1 C.b k.val 2)) k.val 768 (wCq x0 x1 C.b k.val 3) }) (cq (ln C.b k.val 1024) (tl x0 x1 k.val 4)) (by decide +kernel) rfl (fun i => b_t7 i _) ?_
  refine xlS2 _ _ (k0_off657_eq k) ?_
  refine xsS2 _ _ (k0_off657_eq k) ?_
  exact wp_done (at_eq _)

theorem b_t12 {R : sProp 𝕄} {C : Cx F} {v318 v325 v335 : FVec F S16x1280 .f32} {v336 : Vec F S16x1x1280 .f32} {k : Fin k0_t8_loop.trips} {A B : Vec F S1x1x256 .f32} (i : Fin k0_t12_loop.trips) (acc : FVec F S8x256 .f32) :
    Sx c a2 a3 a5 ga be x0 x1 R C ⊢ WP c (ap k0_t12_body a2 ha2 a3 ha3 a5 ha5 v318 v325 v335 v336 k (k0_pay1873 A) (k0_pay1874 B) i acc) (fun v => iprop(⌜v = k0_pay1870 A B acc (blkS x1 k.val (8 * i.val) 0)⌝ ∗ Sx c a2 a3 a5 ga be x0 x1 R C)) := by
  refine xlS _ _ _ (k0_off666_eq k i) ?_
  exact wp_done (at_eq _)

theorem b_t13 {R : sProp 𝕄} {C : Cx F} {v318 v325 v335 : FVec F S16x1280 .f32} {v336 : Vec F S16x1x1280 .f32} {k : Fin k0_t8_loop.trips} {A B : Vec F S1x1x256 .f32} (i : Fin k0_t13_loop.trips) (acc : FVec F S8x256 .f32) :
    Sx c a2 a3 a5 ga be x0 x1 R C ⊢ WP c (ap k0_t13_body a2 ha2 a3 ha3 a5 ha5 v318 v325 v335 v336 k A B i acc) (fun v => iprop(⌜v = k0_pay1870 A B acc (blkS x1 k.val (8 * i.val) 256)⌝ ∗ Sx c a2 a3 a5 ga be x0 x1 R C)) := by
  refine xlS _ _ _ (k0_off668_eq k i) ?_
  exact wp_done (at_eq _)

theorem p_135 {R : sProp 𝕄} {C : Cx F} {c0 c1 : BitVec 32} {k : Fin k0_t8_loop.trips} {m : FVec F S8x256 .f32} :
    Sx c a2 a3 a5 ga be x0 x1 R C ⊢ WP c (ap k0_part135 a2 ha2 a3 ha3 a5 ha5 c0 c1 k m) (fun v => iprop(⌜v = ⟨Scf.iv c0 c1 k, (mt x0 x1 C.a C.b k.val 2 (mt x0 x1 C.a C.b k.val 1 (mt x0 x1 C.a C.b k.val 0 m))), k0_pay1873 (ln C.a k.val 768), k0_pay1874 (ln C.b k.val 768), 0#32⟩⌝ ∗ Sx c a2 a3 a5 ga be x0 x1 R C)) := by
  rw [k0_part135_eq_skeleton]

  refine xlA _ _ (k0_off659_eq k) ?_
  refine xlB _ _ (k0_off659_eq k) ?_
  refine x_for 128 (fun _ => Sx c a2 a3 a5 ga be x0 x1 R C) (mq (ln C.a k.val 0) (ln C.b k.val 0) (tl x0 x1 k.val 0) m) (by decide +kernel) rfl (fun i => b_t9 i _) ?_
  refine xlA _ _ (k0_off661_eq k) ?_
  refine xlB _ _ (k0_off661_eq k) ?_
  refine x_for 128 (fun _ => Sx c a2 a3 a5 ga be x0 x1 R C) (mq (ln C.a k.val 256) (ln C.b k.val 256) (tl x0 x1 k.val 1) (mt x0 x1 C.a C.b k.val 0 m)) (by decide +kernel) rfl (fun i => b_t10 i _) ?_
  refine xlA _ _ (k0_off663_eq k) ?_
  refine xlB _ _ (k0_off663_eq k) ?_
  refine x_for 128 (fun _ => Sx c a2 a3 a5 ga be x0 x1 R C) (mq (ln C.a k.val 512) (ln C.b k.val 512) (tl x0 x1 k.val 2) (mt x0 x1 C.a C.b k.val 1 (mt x0 x1 C.a C.b k.val 0 m))) (by decide +kernel) rfl (fun i => b_t11 i _) ?_
  refine xlA _ _ (k0_off665_eq k) ?_
  refine xlB _ _ (k0_off665_eq k) ?_
  exact wp_done (at_eq _)

theorem b_t8 {R : sProp 𝕄} {C : Cx F} {v318 v325 v335 : FVec F S16x1280 .f32} {v336 : Vec F S16x1x1280 .f32} (k : Fin k0_t8_loop.trips) (m : FVec F S8x256 .f32) :
    Sx c a2 a3 a5 ga be x0 x1 R C ⊢ WP c (ap k0_t8_body a2 ha2 a3 ha3 a5 ha5 v318 v325 v335 v336 k m) (fun v => iprop(⌜v = (mt x0 x1 C.a C.b k.val 4 (mt x0 x1 C.a C.b k.val 3 (mt x0 x1 C.a C.b k.val 2 (mt x0 x1 C.a C.b k.val 1 (mt x0 x1 C.a C.b k.val 0 m)))))⌝ ∗ Sx c a2 a3 a5 ga be x0 x1 R C)) := by
  refine x_step p_135 ?_
  refine x_for 128 (fun _ => Sx c a2 a3 a5 ga be x0 x1 R C) (mq (ln C.a k.val 768) (ln C.b k.val 768) (tl x0 x1 k.val 3) (mt x0 x1 C.a C.b k.val 2 (mt x0 x1 C.a C.b k.val 1 (mt x0 x1 C.a C.b k.val 0 m)))) (by decide +kernel) rfl (fun i => b_t12 i _) ?_
  refine xlA _ _ (k0_off667_eq k) ?_
  refine xlB _ _ (k0_off667_eq k) ?_
  refine x_for 128 (fun _ => Sx c a2 a3 a5 ga be x0 x1 R C) (mq (ln C.a k.val 1024) (ln C.b k.val 1024) (tl x0 x1 k.val 4) (mt x0 x1 C.a C.b k.val 3 (mt x0 x1 C.a C.b k.val 2 (mt x0 x1 C.a C.b k.val 1 (mt x0 x1 C.a C.b k.val 0 m))))) (by decide +kernel) rfl (fun i => b_t13 i _) ?_
  exact wp_done (at_eq _)

theorem p_164 {R : sProp 𝕄} {C : Cx F} {v209 : FVec F S1280x128 .bf16} {v210 : IVec S128x1280 32} :
    Sx c a2 a3 a5 ga be x0 x1 R C ⊢ WP c (ap k0_part164 a2 ha2 a3 ha3 a5 ha5 v209 v210) (fun v => iprop(⌜v = ⟨k0_pay1953 (F := F) v210, k0_pay1954 v209 C.s1, k0_pay1955 v209 C.s2, Named.named κ "inv_n" 0x37CCCCCD#32⟩⌝ ∗ Sx c a2 a3 a5 ga be x0 x1 R C)) := by
  rw [k0_part164_eq_skeleton]
  refine xwS1 ?_
  refine xwS2 ?_
  exact wp_done (at_eq _)

theorem p_165 {R : sProp 𝕄} {C : Cx F} {v222 : FVec F S128x1280 .bf16} {v240 v256 : FVec F S16x128 .f32} {cst : F .f32} :
    Sx c a2 a3 a5 ga be x0 x1 R C ⊢ WP c (ap k0_part165 a2 ha2 a3 ha3 a5 ha5 v222 v240 v256 cst) (fun v => iprop(⌜v = ⟨k0_pay1957 v240 v256 cst, k0_pay1958 v222 v240, k0_pay1959 v222 v240 v256 cst⟩⌝ ∗ Sx c a2 a3 a5 ga be x0 x1 R C)) := by
  rw [k0_part165_eq_skeleton]
  refine xwA ?_
  exact wp_done (at_eq _)

/-- Some group's one-pass variance is small beside its mean. -/
abbrev gt0 (v : F .f32) : Prop := Scalar.cmpi .ne (Scalar.extui (Scalar.cmpf .ogt v (Scalar.ofBits .f32 0x00000000#32))) 0#32 = 1#1
/-- The largest candidate does not decide the largest of `|y|`. -/
abbrev ltK (v : F .f32) : Prop := Scalar.cmpi .ne (Scalar.extui (Scalar.xori (Scalar.cmpf .oge v (Scalar.ofBits .f32 0x3E8E978D#32)) 1#1)) 0#32 = 1#1
/-- The sums of squares after the branch. -/
def s2v (x0 : S16x1024x768.Idx → Elt F .bf16) (x1 : S16x1024x512.Idx → Elt F .bf16) (v272 : F .f32) (b s2 : S16x1x1280.Idx → Elt F .f32) : S16x1x1280.Idx → Elt F .f32 :=
  if gt0 v272 then fillT (wCq x0 x1 b) else s2
/-- The reciprocal deviations after the branch. -/
def a1v (x0 : S16x1024x768.Idx → Elt F .bf16) (x1 : S16x1024x512.Idx → Elt F .bf16) (v209 : FVec F S1280x128 .bf16) (v222 : FVec F S128x1280 .bf16) (v272 : F .f32) (b v306 : S16x1x1280.Idx → Elt F .f32) : S16x1x1280.Idx → Elt F .f32 :=
  if gt0 v272 then k0_pay1968 v209 v222 (fillT (wCq x0 x1 b)) else v306
/-- The largest of `|y|`, as the kernel finds it. -/
def y1v (x0 : S16x1024x768.Idx → Elt F .bf16) (x1 : S16x1024x512.Idx → Elt F .bf16) (a b : S16x1x1280.Idx → Elt F .f32) (y0 : F .f32) : F .f32 :=
  if ltK y0 then k0_pay1978 (mall x0 x1 a b 16) else y0

theorem p_166 {R : sProp 𝕄} {C : Cx F} {v209 : FVec F S1280x128 .bf16} {v222 : FVec F S128x1280 .bf16} {v272 : F .f32} {v286 : FVec F S16x1280 .f32} {v306 : FVec F S16x1x1280 .f32} {b0 : S16x1x1280.Idx → Elt F .f32} {a1 : S16x1x1280.Idx → Elt F .f32} (hb0 : b0 = k0_pay1960 v286) (ha1 : a1 = a1v x0 x1 v209 v222 v272 b0 v306) :
    Sx c a2 a3 a5 ga be x0 x1 R C ⊢ WP c (ap k0_part166 a2 ha2 a3 ha3 a5 ha5 v209 v222 v272 v286 v306) (fun v => iprop(⌜v = ⟨k0_pay1969 a1 ga, k0_pay1970 a1 ga be b0, k0_pay1973 a1 ga be b0 C.mx, C.mn⟩⌝ ∗
      Sx c a2 a3 a5 ga be x0 x1 R { C with a := k0_pay1971 a1 ga, b := k0_pay1972 a1 ga be b0, s2 := s2v x0 x1 v272 b0 C.s2 })) := by
  subst hb0
  rw [k0_part166_eq_skeleton]
  refine xsA ?_
  refine xwB ?_
  refine xsB ?_
  refine x_ite (F := F) (fun h => ?_) (fun h => ?_)
  · have e : a1 = k0_pay1968 v209 v222 (fillT (wCq x0 x1 (k0_pay1960 v286))) := ha1.trans (if_pos h)
    rw [show s2v x0 x1 v272 (k0_pay1960 v286) C.s2 = fillT (wCq x0 x1 (k0_pay1960 v286)) from if_pos h]
    clear ha1; subst e
    refine x_for 16 (fun n => Sx c a2 a3 a5 ga be x0 x1 R { C with a := v306, b := k0_pay1960 v286, s2 := upto (fillT (wCq x0 x1 (k0_pay1960 v286))) C.s2 n }) (fun _ => ⟨⟩) (by decide +kernel) rfl (fun k => ?_) ?_
    · have h5 := wq5 (wCq x0 x1 (k0_pay1960 v286)) C.s2 k.val
      rw [← h5]
      exact b_t2 k _
    rw [upto_all]
    refine xwS2 ?_
    refine xwA ?_
    refine xsA ?_
    refine xwA ?_
    refine xlG2 ?_
    refine xlG3 ?_
    refine xwB ?_
    refine xwA ?_
    refine xsA ?_
    refine xwB ?_
    refine xsB ?_
    refine xwMx ?_
    refine xwMn ?_
    exact wp_done (at_eq _)
  · have e : a1 = v306 := ha1.trans (if_neg h)
    rw [show s2v x0 x1 v272 (k0_pay1960 v286) C.s2 = C.s2 from if_neg h]
    clear ha1; subst e
    refine xwA ?_
    refine xlG2 ?_
    refine xlG3 ?_
    refine xwB ?_
    refine xwA ?_
    refine xsA ?_
    refine xwB ?_
    refine xsB ?_
    refine xwMx ?_
    refine xwMn ?_
    exact wp_done (at_eq _)

theorem p_167 {R : sProp 𝕄} {C : Cx F} {v318 v325 v335 : FVec F S16x1280 .f32} {v336 : Vec F S16x1x1280 .f32} {y1 : F .f32} (hy : y1 = y1v x0 x1 C.a C.b (k0_pay1974 v318 v325 v335 v336)) :
    Sx c a2 a3 a5 ga be x0 x1 R C ⊢ WP c (ap k0_part167 a2 ha2 a3 ha3 a5 ha5 v318 v325 v335 v336) (fun v => iprop(⌜v = ⟨k0_pay1979 y1, k0_pay1980 y1, k0_pay1981 y1, 23#32⟩⌝ ∗ Sx c a2 a3 a5 ga be x0 x1 R { C with y := y1 })) := by
  rw [k0_part167_eq_skeleton]
  refine xlY ?_
  refine xsY ?_
  refine x_ite (F := F) (fun h => ?_) (fun h => ?_)
  · have e : y1 = k0_pay1978 (mall x0 x1 C.a C.b 16) := hy.trans (if_pos h)
    clear hy; subst e
    refine x_for 16 (fun _ => Sx c a2 a3 a5 ga be x0 x1 R { C with y := k0_pay1974 v318 v325 v335 v336 }) (mall x0 x1 C.a C.b) (by decide +kernel) rfl (fun k => b_t8 k _) ?_
    refine xlY ?_
    refine xsY ?_
    refine xlY ?_
    exact wp_done (at_eq _)
  · have e : y1 = k0_pay1974 v318 v325 v335 v336 := hy.trans (if_neg h)
    clear hy; subst e
    refine xlY ?_
    exact wp_done (at_eq _)

theorem p_168 {R : sProp 𝕄} {C : Cx F} {v360 : FVec F S1x128 .f32} {v375 v377 : IVec S1x128 32} {z : BitVec 32} :
    Sx c a2 a3 a5 ga be x0 x1 R C ⊢ WP c (ap k0_part168 a2 ha2 a3 ha3 a5 ha5 v360 v375 v377 z) (fun v => iprop(⌜v = ⟨k0_pay1982 v360 v375 v377 z, 127#32⟩⌝ ∗ Sx c a2 a3 a5 ga be x0 x1 R C)) := by
  rw [k0_part168_eq_skeleton]
  exact wp_done (at_eq _)
end

end Cert.KernelIdeal.Hand
-- ==== Proof.KI.XOut.lean ====
/-
  The codes at exact contents, written into a slot and sent out, three rows in flight at a time.
-/
module

public import proofs.«01_k».proof.Proof.KI.XMid

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- A position in a 128 by 256 block. -/
def j3 (r n : ℕ) : S1x128x256.Idx := fun | 0 => (0 : Fin 1) | 1 => Fin.ofNat 128 r | 2 => Fin.ofNat 256 n
/-- The number of the block of a row that holds a lane of a position. -/
def bn (r l : ℕ) : ℕ := l / 256 * 8 + r / 128
/-- The input block `q` of a row's tile. -/
def xB (x0 : S16x1024x768.Idx → Elt F .bf16) (x1 : S16x1024x512.Idx → Elt F .bf16) (k : ℕ) : ℕ → ℕ → Vec F S1x128x256 .bf16
  | 0, q => bkU x0 k (128 * q) 0
  | 1, q => bkU x0 k (128 * q) 256
  | 2, q => bkU x0 k (128 * q) 512
  | 3, q => bkS x1 k (128 * q) 0
  | _, q => bkS x1 k (128 * q) 256
/-- The codes of block `m` of row `k`. -/
def cdB (x0 : S16x1024x768.Idx → Elt F .bf16) (x1 : S16x1024x512.Idx → Elt F .bf16) (a b : S16x1x1280.Idx → Elt F .f32) (inv : F .f32) (k m : ℕ) : S1x128x256.Idx → Elt F .fp8e4m3 :=
  k0_pay1877 inv (ln a k (256 * (m / 8))) (ln b k (256 * (m / 8))) (xB x0 x1 k (m / 8) (m % 8))
/-- The codes, from their blocks. -/
def codeG (g : ℕ → ℕ → S1x128x256.Idx → Elt F .fp8e4m3) : S16x1024x1280.Idx → Elt F .fp8e4m3 :=
  fun i => g (i 0).val (bn (i 1).val (i 2).val) (j3 ((i 1).val % 128) ((i 2).val % 256))

section
variable (c : Dev nD)
/-- A slot of the codes' ring, at some contents. -/
def obS (s : ℕ) : sProp 𝕄 := iprop(∃ f, mOb.view.loc (c : Thread nD τ) ↦[(rowsIn dOb (· = s) : Finset _)]{fullShare} f)
/-- A slot whose first `m` blocks are given. -/
def obP (s : ℕ) (g : ℕ → S1x128x256.Idx → Elt F .fp8e4m3) (m : ℕ) : sProp 𝕄 :=
  iprop(∃ f : S3x1024x1280.Idx → Elt F .fp8e4m3, ⌜∀ i : S3x1024x1280.Idx, (i 0).val = s → bn (i 1).val (i 2).val < m → f i = g (bn (i 1).val (i 2).val) (j3 ((i 1).val % 128) ((i 2).val % 256))⌝
    ∗ (mOb.view.loc (c : Thread nD τ) ↦[(rowsIn dOb (· = s) : Finset _)]{fullShare} f))
theorem ob_zero (s : ℕ) (g : ℕ → S1x128x256.Idx → Elt F .fp8e4m3) : obS c s ⊢ obP c s g 0 := by
  unfold obS obP
  iintro ⟨%f, H⟩
  iexists f
  isplitr
  · ipureintro; intro i _ h; exact absurd h (Nat.not_lt_zero _)
  · iexact H
end

section
variable {c : Dev nD} {a2 : Memref sig .tc .vmem S1280 .f32} {ha2 : a2.IsWhole} {a3 : Memref sig .tc .vmem S1280 .f32} {ha3 : a3.IsWhole} {a5 : Memref sig .tc .smem S1x1 .f32} {ha5 : a5.IsWhole}
  {ga be : S1280.Idx → Elt F .f32} {x0 : S16x1024x768.Idx → Elt F .bf16} {x1 : S16x1024x512.Idx → Elt F .bf16}
variable {α : Type}

theorem sub_ob {s : ℕ} {o : Fin 3 → ℕ} (ho : o 0 = s) (inb : ∀ a, o a + S1x128x256.size a ≤ S3x1024x1280.size a) :
    mOb.view.setOn (Rect.unit (s := S3x1024x1280) o S1x128x256.size inb).set ⊆ (rowsIn dOb (· = s) : Finset _) := by
  intro i hi
  obtain ⟨j, hj, rfl⟩ := Finset.mem_map.mp hi
  have h := Rect.mem_set_unit.mp hj 0
  rw [mem_rowsIn]
  have h1 : (j 0).val < o 0 + 1 := h.2
  have h2 : o 0 ≤ (j 0).val := h.1
  show (j 0).val = s
  omega

theorem sx_ob {R : sProp 𝕄} {C : Cx F} {B : sProp 𝕄} : Sx c a2 a3 a5 ga be x0 x1 iprop(R ∗ B) C = iprop(B ∗ Sx c a2 a3 a5 ga be x0 x1 R C) := by
  unfold Sx; rw [sep_comm_e R B, sep_assoc_e]
theorem xlOb {R : sProp 𝕄} {C : Cx F} {Q : α → sProp 𝕄} {s m : ℕ} {g : ℕ → S1x128x256.Idx → Elt F .fp8e4m3} {r n : ℕ} {o : Fin 3 → ℕ} (ho : o = ![s, r, n]) {inb : ∀ a, o a + S1x128x256.size a ≤ S3x1024x1280.size a}
    {hl : mOb.view.LoadsAt (Rect.unit (s := S3x1024x1280) o S1x128x256.size inb).toLoadRect} {k : (S1x128x256.Idx → Elt F .fp8e4m3) → Prog (TpuEff nD τ sig (Elt F) Λ₀ .tc) α}
    (hk : ∀ v, Sx c a2 a3 a5 ga be x0 x1 iprop(R ∗ obP c s g m) C ⊢ WP c (k v) Q) :
    Sx c a2 a3 a5 ga be x0 x1 iprop(R ∗ obP c s g m) C ⊢ WP c (.op (.load mOb (Rect.unit (s := S3x1024x1280) o S1x128x256.size inb).toLoadRect hl) k) Q := by
  have ho' : o 0 = s := by rw [ho]; rfl
  rw [sx_ob] at hk ⊢
  unfold obP at hk ⊢
  iintro ⟨⟨%f, %hf, Hf⟩, HE⟩
  iapply (wp_load Variants.none (c : Thread nD τ) none Set.univ (f := f) (S := (rowsIn dOb (· = s) : Finset _)) (by
    rw [show (Rect.unit (s := S3x1024x1280) o S1x128x256.size inb).toLoadRect.set = (Rect.unit (s := S3x1024x1280) o S1x128x256.size inb).set from rfl]; exact sub_ob ho' inb)) $$ [Hf]
  · iexact Hf
  iintro Hf
  iapply (hk _)
  isplitl [Hf]
  · iexists f
    isplitr
    · ipureintro; exact hf
    · iexact Hf
  · iexact HE
theorem ob_put (s t q : ℕ) (hq : q < 8) (g : ℕ → S1x128x256.Idx → Elt F .fp8e4m3) (f : S3x1024x1280.Idx → Elt F .fp8e4m3)
    (inb : ∀ a, (![s, 128 * q, 256 * t] : Fin 3 → ℕ) a + S1x128x256.size a ≤ S3x1024x1280.size a)
    (hf : ∀ i : S3x1024x1280.Idx, (i 0).val = s → bn (i 1).val (i 2).val < 8 * t + q → f i = g (bn (i 1).val (i 2).val) (j3 ((i 1).val % 128) ((i 2).val % 256))) :
    ∀ i : S3x1024x1280.Idx, (i 0).val = s → bn (i 1).val (i 2).val < 8 * t + q + 1 →
      (mOb.access (Rect.unit (s := S3x1024x1280) ![s, 128 * q, 256 * t] S1x128x256.size inb)).write (Elt F) f (g (8 * t + q)) Finset.univ i = g (bn (i 1).val (i 2).val) (j3 ((i 1).val % 128) ((i 2).val % 256)) := by
  intro i h0 hb
  have i1 : (i 1).val < 1024 := (i 1).isLt
  by_cases h : bn (i 1).val (i 2).val = 8 * t + q
  · have h' : (i 2).val / 256 * 8 + (i 1).val / 128 = 8 * t + q := h
    have he : i = (mOb.access (Rect.unit (s := S3x1024x1280) ![s, 128 * q, 256 * t] S1x128x256.size inb)).emb (j3 ((i 1).val % 128) ((i 2).val % 256)) := by
      funext a
      match a with
      | 0 => exact Fin.ext (show (i 0).val = s + 1 * 0 by omega)
      | 1 => exact Fin.ext (show (i 1).val = 128 * q + 1 * ((i 1).val % 128 % 128) by omega)
      | 2 => exact Fin.ext (show (i 2).val = 256 * t + 1 * ((i 2).val % 256 % 256) by omega)
    rw [h]
    conv_lhs => rw [he]
    rw [View.write_emb_of_mem _ _ (Finset.mem_univ _)]
    rfl
  · rw [View.write_of_not_mem]
    · exact hf i h0 (by omega)
    intro hi
    obtain ⟨j, -, hj⟩ := Finset.mem_map.mp hi
    apply h
    subst hj
    have j1 : (j 1).val < 128 := (j 1).isLt
    have j2 : (j 2).val < 256 := (j 2).isLt
    show (256 * t + 1 * (j 2).val) / 256 * 8 + (128 * q + 1 * (j 1).val) / 128 = 8 * t + q
    omega
theorem xsOb {R : sProp 𝕄} {C : Cx F} {Q : α → sProp 𝕄} {s m : ℕ} {g : ℕ → S1x128x256.Idx → Elt F .fp8e4m3} (t q : ℕ) (hq : q < 8) (hm : m = 8 * t + q) {o : Fin 3 → ℕ} (ho : o = ![s, 128 * q, 256 * t])
    {inb : ∀ a, o a + S1x128x256.size a ≤ S3x1024x1280.size a} {w : S1x128x256.Idx → Elt F .fp8e4m3} (hw : w = g m)
    {hx : (mOb.access (Rect.unit (s := S3x1024x1280) o S1x128x256.size inb)).Stores Finset.univ} {hm'} {k : PUnit → Prog (TpuEff nD τ sig (Elt F) Λ₀ .tc) α}
    (hk : Sx c a2 a3 a5 ga be x0 x1 iprop(R ∗ obP c s g (m + 1)) C ⊢ WP c (k ⟨⟩) Q) :
    Sx c a2 a3 a5 ga be x0 x1 iprop(R ∗ obP c s g m) C ⊢ WP c (.op (.store mOb (Rect.unit (s := S3x1024x1280) o S1x128x256.size inb) w Finset.univ hx hm') k) Q := by
  subst hm; subst hw; subst ho
  rw [sx_ob] at hk ⊢
  unfold obP at hk ⊢
  iintro ⟨⟨%f, %hf, Hf⟩, HE⟩
  iapply (wp_store Variants.none (c : Thread nD τ) none Set.univ (f := f) (S := (rowsIn dOb (· = s) : Finset _)) (by
    rw [View.setOn_univ, View.set_slice]; exact sub_ob rfl inb)) $$ [Hf]
  · iexact Hf
  iintro Hf
  iapply hk
  isplitl [Hf]
  · iexists _
    isplitr; swap; · iexact Hf
    ipureintro
    exact ob_put s t q hq g f inb hf
  · iexact HE
end

section
variable (c : Dev nD)

/-- Rows of the codes, at some contents. -/
def coE (p : ℕ → Prop) [DecidablePred p] : sProp 𝕄 := iprop(∃ f, mCo.view.loc (c : Thread nD τ) ↦[(rowsIn dCo p : Finset _)]{fullShare} f)
/-- Rows of the codes, at the given contents. -/
def coG (G : S16x1024x1280.Idx → Elt F .fp8e4m3) (p : ℕ → Prop) [DecidablePred p] : sProp 𝕄 := mCo.view.loc (c : Thread nD τ) ↦[(rowsIn dCo p : Finset _)]{fullShare} G
variable (g : ℕ → ℕ → S1x128x256.Idx → Elt F .fp8e4m3)
/-- The slot of a row. -/
def sl (k : ℕ) : Fin 3 := ⟨k % 3, Nat.mod_lt _ (by decide)⟩

def amtOut : Fin 1 → ℕ := ![(wCo ![(0 : Fin 16).val, 0, 0] (inb_co 0)).view.dmaCredit]
/-- What a row's transfer delivers: the row at its contents, and its slot back. -/
def dlvOut (b : ℕ) (s : Fin 3) : Fin 1 → sProp 𝕄 := fun _ => iprop(coG c (codeG g) (· = b) ∗ obS c s.val)
instance (b : ℕ) (s : Fin 3) (t : Fin 1) : Storable (upEmb : UEmb _ 𝕄) (dlvOut c g b s t) := by
  unfold dlvOut coG obS; infer_instance
/-- Row `b` in flight from slot `s`. -/
def fl (b : ℕ) (s : Fin 3) : sProp 𝕄 :=
  Transfers.MixedBatch (countersEmb (U := Pipeline.UD sig nD τ)) (c : Thread nD τ) (.dma (outSem s)) () amtOut (dlvOut c g b s) 1 0
/-- Slot `s` at rest. -/
def fr (s : Fin 3) : sProp 𝕄 := iprop(semVal ((c : Thread nD τ), SemLoc.dma (outSem s)) 0 ∗ obS c s.val)

theorem coG_join (G : S16x1024x1280.Idx → Elt F .fp8e4m3) (p q r : ℕ → Prop) [DecidablePred p] [DecidablePred q] [DecidablePred r] (h : ∀ n, r n ↔ p n ∨ q n) (hd : ∀ n, p n → ¬ q n) :
    iprop(coG c G p ∗ coG c G q) ⊢ coG c G r := by
  unfold coG
  exact (pt_split (c := (c : Thread nD τ)) (ℓ := mCo.view.loc (c : Thread nD τ)) (S := (rowsIn dCo r : Finset _)) (A := (rowsIn dCo p : Finset _))
    (B := (rowsIn dCo q : Finset _)) (fun i => by erw [mem_rowsIn, mem_rowsIn, mem_rowsIn]; exact h _)
    (fun i => by erw [mem_rowsIn, mem_rowsIn]; exact hd _) fullShare _).2
theorem coE_split (p q r : ℕ → Prop) [DecidablePred p] [DecidablePred q] [DecidablePred r] (h : ∀ n, r n ↔ p n ∨ q n) (hd : ∀ n, p n → ¬ q n) :
    coE (F := F) c r ⊢ iprop(coE c p ∗ coE c q) := by
  unfold coE
  iintro ⟨%f, Hf⟩
  icases (pt_split (c := (c : Thread nD τ)) (ℓ := mCo.view.loc (c : Thread nD τ)) (S := (rowsIn dCo r : Finset _)) (A := (rowsIn dCo p : Finset _))
    (B := (rowsIn dCo q : Finset _)) (fun i => by erw [mem_rowsIn, mem_rowsIn, mem_rowsIn]; exact h _)
    (fun i => by erw [mem_rowsIn, mem_rowsIn]; exact hd _) fullShare f).1 $$ Hf with ⟨Hf, Hg⟩
  isplitl [Hf]
  · iexists f; iexact Hf
  · iexists f; iexact Hg

/-- The cell of an outgoing slot, at an offset. -/
abbrev cellO (o : Fin 1 → ℕ) (h : ∀ a, o a + S1.size a ≤ S3.size a) : DmaSem sig :=
  ((cc0_scratch11.slice (Rect.unit (s := S3) o S1.size h)).squeeze S_ squeezes_S1_S_).sem

/-- A slot's copy to a row: where it lands it is the row's codes. -/
theorem land_co (b : ℕ) (s : ℕ) {iB : ∀ a, (![s, 0, 0] : Fin 3 → ℕ) a + S1x1024x1280.size a ≤ S3x1024x1280.size a} {iC : ∀ a, (![b, 0, 0] : Fin 3 → ℕ) a + S1x1024x1280.size a ≤ S16x1024x1280.size a}
    (f : S3x1024x1280.Idx → Elt F .fp8e4m3) (f' : S16x1024x1280.Idx → Elt F .fp8e4m3)
    (hf : ∀ i : S3x1024x1280.Idx, (i 0).val = s → bn (i 1).val (i 2).val < 40 → f i = g b (bn (i 1).val (i 2).val) (j3 ((i 1).val % 128) ((i 2).val % 256))) :
    ∀ i ∈ (rowsIn dCo (· = b) : Finset _),
      (wCo ![b, 0, 0] iC).view.write (Elt F) f' (ReadAs.same.apply ((wOb ![s, 0, 0] iB).view.read (Elt F) f)) Finset.univ i = codeG g i := by
  intro i hi
  rw [← wCo_set b iC] at hi
  obtain ⟨j, -, rfl⟩ := Finset.mem_map.mp hi
  rw [View.write_emb_of_mem _ _ (Finset.mem_univ j)]
  have hj0 : (((wCo ![b, 0, 0] iC).view.emb j) 0).val = b := by
    have h := Finset.mem_map_of_mem (wCo ![b, 0, 0] iC).view.emb (Finset.mem_univ j)
    have h2 : (wCo ![b, 0, 0] iC).view.emb j ∈ (wCo ![b, 0, 0] iC).view.set := h
    rw [wCo_set b iC] at h2
    exact (mem_rowsIn (d := dCo)).mp h2
  have hs0 : (((wOb ![s, 0, 0] iB).view.emb j) 0).val = s := by
    have h := Finset.mem_map_of_mem (wOb ![s, 0, 0] iB).view.emb (Finset.mem_univ j)
    have h2 : (wOb ![s, 0, 0] iB).view.emb j ∈ (wOb ![s, 0, 0] iB).view.set := h
    rw [wOb_set s iB] at h2
    exact (mem_rowsIn (d := dOb)).mp h2
  have e1 : (((wOb ![s, 0, 0] iB).view.emb j) 1).val = (((wCo ![b, 0, 0] iC).view.emb j) 1).val := rfl
  have e2 : (((wOb ![s, 0, 0] iB).view.emb j) 2).val = (((wCo ![b, 0, 0] iC).view.emb j) 2).val := rfl
  have l1 : (((wCo ![b, 0, 0] iC).view.emb j) 1).val < 1024 := (((wCo ![b, 0, 0] iC).view.emb j) 1).isLt
  have l2 : (((wCo ![b, 0, 0] iC).view.emb j) 2).val < 1280 := (((wCo ![b, 0, 0] iC).view.emb j) 2).isLt
  have h := hf ((wOb ![s, 0, 0] iB).view.emb j) hs0 (by rw [e1, e2]; unfold bn; omega)
  rw [e1, e2] at h
  unfold codeG
  rw [hj0]
  exact h

theorem issue_out {α : Type} {P : sProp 𝕄} (b : Fin 16) (s : Fin 3) {oS : Fin 1 → ℕ} {oB oC : Fin 3 → ℕ} {iS : ∀ a, oS a + S1.size a ≤ S3.size a}
    {iB : ∀ a, oB a + S1x1024x1280.size a ≤ S3x1024x1280.size a} {iC : ∀ a, oC a + S1x1024x1280.size a ≤ S16x1024x1280.size a}
    (eS : oS = ![s.val]) (eB : oB = ![s.val, 0, 0]) (eC : oC = ![b.val, 0, 0])
    {h1 : (wOb oB iB).view.WordExact} {h2 : (wCo oC iC).view.WordExact}
    {h3 : DmaTarget.Typed (nD := nD) .vmem (SemLoc.dma (cellO oS iS)) (.here (p := (.tc : Proc τ)) (wCo oC iC))}
    {k : PUnit → Prog (TpuEff nD τ sig (Elt F) Λ₀ .tc) α} {Q : α → sProp 𝕄}
    (h : iprop(P ∗ fl c g b.val s) ⊢ WP c (k ⟨⟩) Q) :
    iprop(P ∗ coE c (· = b.val) ∗ semVal ((c : Thread nD τ), SemLoc.dma (outSem s)) 0 ∗ obP c s.val (g b.val) 40) ⊢ WP c (.op (.enqueueDma (wOb oB iB) (.here (wCo oC iC)) (.dma (cellO oS iS)) h1 h2 h3) k) Q := by
  subst eS; subst eB; subst eC
  unfold coE obP
  iintro ⟨HP, ⟨%f', Hg⟩, Hs, ⟨%f, %hf, Hf⟩⟩
  imod (Transfers.mixedBatch_alloc' (Lvl := ℕ) (countersEmb (U := Pipeline.UD sig nD τ)) (c : Thread nD τ) () amtOut
      (dlvOut c g b.val s) (sm := SemLoc.dma (outSem s)) (E := Set.univ)) $$ Hs with HB
  iapply (Transfers.wp_dmaMixedBatch (countersEmb (U := Pipeline.UD sig nD τ)) Variants.none (c : Thread nD τ) none
    (src := wOb ![s.val, 0, 0] iB) (dst := wCo ![b.val, 0, 0] iC) (fs := f) (fd := f') (D := dlvOut c g b.val s)
    (Sd := (rowsIn dCo (· = b.val) : Finset _)) (j := 0) (u := 0) () amtOut (by rw [wCo_set]) (by decide) rfl (Nat.zero_le _) (by
      rw [wOb_set]; unfold dlvOut coG obS
      iintro ⟨H1, H2⟩
      isplitl [H1]
      · iapply (Entails.of_eq (pointsTo_congr (land_co g b.val s.val (iB := iB) (iC := iC) f f' hf)))
        iexact H1
      · iexists _; iexact H2)) $$ [Hf Hg HB]
  · isplitl [Hf]; · rw [wOb_set]; iexact Hf
    isplitl [Hg]; · iexact Hg
    iexact HB
  iintro HB
  iapply h
  isplitl [HP]; · iexact HP
  unfold fl
  iexact HB

theorem hA1 : ∀ t, 0 < amtOut t := by decide
theorem hu2 : 0 + amtOut 0 = Transfers.sumTo amtOut 1 := by decide

theorem wait_out {α : Type} {P : sProp 𝕄} (b : Fin 16) (s : Fin 3) {oS : Fin 1 → ℕ} {oB oC : Fin 3 → ℕ} {iS : ∀ a, oS a + S1.size a ≤ S3.size a}
    {iB : ∀ a, oB a + S1x1024x1280.size a ≤ S3x1024x1280.size a} {iC : ∀ a, oC a + S1x1024x1280.size a ≤ S16x1024x1280.size a}
    (eS : oS = ![s.val]) (eB : oB = ![s.val, 0, 0]) (eC : oC = ![b.val, 0, 0])
    {h1 : (wOb oB iB).view.WordExact} {h2 : (wCo oC iC).view.WordExact}
    {k : PUnit → Prog (TpuEff nD τ sig (Elt F) Λ₀ .tc) α} {Q : α → sProp 𝕄}
    (h : iprop(P ∗ coG c (codeG g) (· = b.val) ∗ fr c s ∗ owE c) ⊢ WP c (k ⟨⟩) Q) :
    iprop(P ∗ fl c g b.val s ∗ owE c) ⊢ WP c (.op (.waitDma2 (cellO oS iS) (wOb oB iB) (wCo oC iC) h1 h2) k) Q := by
  subst eS; subst eB; subst eC
  unfold owE at h ⊢
  iintro ⟨HP, HB, ⟨%W, HW⟩⟩
  unfold fl
  iapply (Transfers.wp_waitMixedBatchAll (countersEmb (U := Pipeline.UD sig nD τ)) Variants.none (c : Thread nD τ) none
    (srcw := wOb ![s.val, 0, 0] iB) (dstw := wCo ![b.val, 0, 0] iC) (A := amtOut) (D := dlvOut c g b.val s) (u := 0)
    () (J := amtOut 0) rfl hA1 hu2) $$ [HB HW]
  · isplitl [HB]; · iexact HB
    iexact HW
  iintro ⟨HD, Hs, HW⟩
  icases (Entails.of_eq (show bigSep Finset.univ (dlvOut (F := F) c g b.val s) = dlvOut c g b.val s 0 by
    rw [BI.bigSep_eq_bigSepL_of_eq [0] (by decide) (by decide)]; rfl)) $$ HD with HD
  unfold dlvOut fr at *
  icases HD with ⟨Hc, Ho⟩
  iapply h
  isplitl [HP]; · iexact HP
  isplitl [Hc]; · iexact Hc
  isplitl [Hs Ho]
  · isplitl [Hs] <;> iassumption
  iexists _; iexact HW

/-- What position `j` of the ring holds before it is taken: the flight of three rows before, if there was one. -/
def Sl (j : ℕ) : sProp 𝕄 := if j < 3 then fr c (sl j) else fl c g (j - 3) (sl j)
/-- The transfers out before row `n`. -/
def OutSt (n : ℕ) : sProp 𝕄 := iprop(coE c (n ≤ ·) ∗ coG c (codeG g) (· < n - 3) ∗ Sl c g n ∗ Sl c g (n + 1) ∗ Sl c g (n + 2) ∗ owE c)
/-- The transfers out while row `n` is computed: its slot's cell is at rest. -/
def OutMid (n : ℕ) : sProp 𝕄 := iprop(semVal ((c : Thread nD τ), SemLoc.dma (outSem (sl n))) 0 ∗ coE c (n ≤ ·) ∗ coG c (codeG g) (· < n + 1 - 3) ∗ Sl c g (n + 1) ∗ Sl c g (n + 2) ∗ owE c)

theorem Sl_next (n : ℕ) : Sl (F := F) c g (n + 3) = fl c g n (sl n) := by
  unfold Sl
  rw [if_neg (by omega), show n + 3 - 3 = n by omega, show sl (n + 3) = sl n from Fin.ext (by simp [sl])]
end

section
variable {c : Dev nD} {a2 : Memref sig .tc .vmem S1280 .f32} {ha2 : a2.IsWhole} {a3 : Memref sig .tc .vmem S1280 .f32} {ha3 : a3.IsWhole} {a5 : Memref sig .tc .smem S1x1 .f32} {ha5 : a5.IsWhole}
  {ga be : S1280.Idx → Elt F .f32} {x0 : S16x1024x768.Idx → Elt F .bf16} {x1 : S16x1024x512.Idx → Elt F .bf16} {g : ℕ → ℕ → S1x128x256.Idx → Elt F .fp8e4m3}
variable {α : Type}

theorem ex_dite {E : sProp 𝕄} {p : Prop} {ip : Decidable p} {Q : α → sProp 𝕄} {A : p → Prog (TpuEff nD τ sig (Elt F) Λ₀ .tc) α} {B : ¬ p → Prog (TpuEff nD τ sig (Elt F) Λ₀ .tc) α}
    (hA : ∀ h, E ⊢ WP c (A h) Q) (hB : ∀ h, E ⊢ WP c (B h) Q) : E ⊢ WP c (dite p A B) Q := by
  split
  · exact hA _
  · exact hB _

theorem row3 : ∀ k : Fin k0_t14_loop.trips, k0_cond3 k = 1#1 → 3 ≤ k.val ∧ k0_off670 k = ![k.val - 3, 0, 0] := by decide +kernel
theorem row3' : ∀ k : Fin k0_t14_loop.trips, ¬ k0_cond3 k = 1#1 → k.val < 3 := by decide +kernel
theorem lt16 : ∀ k : Fin k0_t14_loop.trips, k.val < 16 := by decide +kernel

theorem x_stepE {E E' : sProp 𝕄} {σ β : Type} {Q : α → sProp 𝕄} {p : Prog (TpuEff nD τ sig (Elt F) Λ₀ .tc) σ} {x : β → σ}
    {kk : σ → Prog (TpuEff nD τ sig (Elt F) Λ₀ .tc) α} (hb : E ⊢ WP c p (fun v => iprop(⌜∃ u, v = x u⌝ ∗ E'))) (hk : ∀ u, E' ⊢ WP c (kk (x u)) Q) :
    E ⊢ WP c (p >>= kk) Q := by
  unfold WP at *
  rw [wp_bind]
  refine BIBase.Entails.trans hb (wp_mono _ _ _ fun v => ?_)
  iintro ⟨%hv, H⟩
  obtain ⟨u, hv⟩ := hv
  subst hv
  iapply (hk u)
  iexact H
theorem at_ex {E : sProp 𝕄} {σ β : Type} {x : β → σ} {v : σ} (u : β) (h : v = x u) : E ⊢ iprop(⌜∃ u, v = x u⌝ ∗ E) := by
  iintro H
  isplitr
  · ipureintro; exact ⟨u, h⟩
  · iexact H
theorem bind_step {E E' : sProp 𝕄} {σ : Type} {Q : α → sProp 𝕄} {p : Prog (TpuEff nD τ sig (Elt F) Λ₀ .tc) σ}
    {kk : σ → Prog (TpuEff nD τ sig (Elt F) Λ₀ .tc) α} (hb : E ⊢ WP c p (fun _ => E')) (hk : ∀ v, E' ⊢ WP c (kk v) Q) :
    E ⊢ WP c (p >>= kk) Q := by
  unfold WP at *
  rw [wp_bind]
  exact hb.trans (wp_mono _ _ _ hk)

/-- Waiting for the row that used the slot before. -/
theorem wait_prev {R : sProp 𝕄} {C : Cx F} {k0_t14 : Fin k0_t14_loop.trips} (hk : k0_cond3 k0_t14 = 1#1)
    {oS : Fin 1 → ℕ} {oB oC : Fin 3 → ℕ} {iS : ∀ a, oS a + S1.size a ≤ S3.size a}
    {iB : ∀ a, oB a + S1x1024x1280.size a ≤ S3x1024x1280.size a} {iC : ∀ a, oC a + S1x1024x1280.size a ≤ S16x1024x1280.size a}
    (eS : oS = ![k0_t14.val % 3]) (eB : oB = ![k0_t14.val % 3, 0, 0]) (eC : oC = ![k0_t14.val - 3, 0, 0])
    {h1 : (wOb oB iB).view.WordExact} {h2 : (wCo oC iC).view.WordExact}
    {k : PUnit → Prog (TpuEff nD τ sig (Elt F) Λ₀ .tc) α} {Q : α → sProp 𝕄}
    (h : Sx c a2 a3 a5 ga be x0 x1 iprop(iprop(R ∗ OutMid c g k0_t14.val) ∗ obP c (k0_t14.val % 3) (g k0_t14.val) 0) C ⊢ WP c (k ⟨⟩) Q) :
    Sx c a2 a3 a5 ga be x0 x1 iprop(R ∗ OutSt c g k0_t14.val) C ⊢ WP c (.op (.waitDma2 (cellO oS iS) (wOb oB iB) (wCo oC iC) h1 h2) k) Q := by
  have h3 := (row3 _ hk).1
  have h16 := lt16 k0_t14
  rw [eqR] at h ⊢
  refine BIBase.Entails.trans ?_ (wait_out c g (P := iprop((R ∗ coE c (k0_t14.val ≤ ·) ∗ coG c (codeG g) (· < k0_t14.val - 3) ∗ Sl c g (k0_t14.val + 1) ∗ Sl c g (k0_t14.val + 2)) ∗ (pU c x0 ∗ pS c x1 ∗ ptS1 c C.s1 ∗ ptS2 c C.s2 ∗ ptMx c C.mx ∗ ptMn c C.mn ∗ ptA c C.a ∗ ptB c C.b ∗ oG c a2 ga ∗ oG c a3 be ∗ oY c a5 C.y)))
    ⟨k0_t14.val - 3, by omega⟩ (sl k0_t14.val) eS eB eC (BIBase.Entails.trans ?_ h))
  · unfold OutSt
    iintro ⟨⟨HR, Hc, Hd, H0, H1, H2, HW⟩, HE⟩
    icases (Entails.of_eq (show Sl (F := F) c g k0_t14.val = fl c g (k0_t14.val - 3) (sl k0_t14.val) from if_neg (by omega))) $$ H0 with H0
    isplitl [HR Hc Hd H1 H2 HE]
    · isplitl [HR Hc Hd H1 H2]
      · isplitl [HR]; · iexact HR
        isplitl [Hc]; · iexact Hc
        isplitl [Hd]; · iexact Hd
        isplitl [H1] <;> iassumption
      · iexact HE
    isplitl [H0] <;> iassumption
  · unfold OutMid fr
    iintro ⟨⟨⟨HR, Hc, Hd, H1, H2⟩, HE⟩, Hn, ⟨Hs, Ho⟩, HW⟩
    icases (show obS c (sl k0_t14.val).val ⊢ obP c (k0_t14.val % 3) (g k0_t14.val) 0 from ob_zero c _ _) $$ Ho with Ho
    isplitr [HE]
    · isplitr [Ho]
      · isplitl [HR]; · iexact HR
        isplitl [Hs]; · iexact Hs
        isplitl [Hc]; · iexact Hc
        isplitl [Hd Hn]
        · iapply (coG_join c (codeG g) (· = k0_t14.val - 3) (· < k0_t14.val - 3) (· < k0_t14.val + 1 - 3) (fun n => by omega) (fun n => by omega))
          isplitl [Hn] <;> iassumption
        isplitl [H1]; · iexact H1
        isplitl [H2] <;> iassumption
      · iexact Ho
    · iexact HE

/-- A slot nothing has used yet. -/
theorem take_free {R : sProp 𝕄} {C : Cx F} {k0_t14 : Fin k0_t14_loop.trips} (hk : ¬ k0_cond3 k0_t14 = 1#1) :
    Sx c a2 a3 a5 ga be x0 x1 iprop(R ∗ OutSt c g k0_t14.val) C ⊢ Sx c a2 a3 a5 ga be x0 x1 iprop(iprop(R ∗ OutMid c g k0_t14.val) ∗ obP c (k0_t14.val % 3) (g k0_t14.val) 0) C := by
  have h3 := row3' _ hk
  rw [eqR, eqR]
  unfold OutSt OutMid
  iintro ⟨⟨HR, Hc, Hd, H0, H1, H2, HW⟩, HE⟩
  icases (Entails.of_eq (show Sl (F := F) c g k0_t14.val = fr c (sl k0_t14.val) from if_pos h3)) $$ H0 with H0
  unfold fr
  icases H0 with ⟨Hs, Ho⟩
  icases (show obS c (sl k0_t14.val).val ⊢ obP c (k0_t14.val % 3) (g k0_t14.val) 0 from ob_zero c _ _) $$ Ho with Ho
  rw [show k0_t14.val - 3 = k0_t14.val + 1 - 3 by omega]
  isplitr [HE]
  · isplitr [Ho]
    · isplitl [HR]; · iexact HR
      isplitl [Hs]; · iexact Hs
      isplitl [Hc]; · iexact Hc
      isplitl [Hd]; · iexact Hd
      isplitl [H1]; · iexact H1
      isplitl [H2] <;> iassumption
    · iexact Ho
  · iexact HE

theorem x_dite {E : sProp 𝕄} {p : Prop} {ip : Decidable p} {Q : α → sProp 𝕄} {A : p → Prog (TpuEff nD τ sig (Elt F) Λ₀ .tc) α} {B : ¬ p → Prog (TpuEff nD τ sig (Elt F) Λ₀ .tc) α}
    (hA : ∀ h, E ⊢ WP c (A h) Q) (hB : ∀ h, E ⊢ WP c (B h) Q) : E ⊢ WP c (dite p A B) Q := by
  split
  · exact hA _
  · exact hB _

/-- One row's codes, written into its slot. -/
theorem p_155 {R : sProp 𝕄} {C : Cx F} {v432 : F .f32} {c0 c1 : BitVec 32} {k0_t14 : Fin k0_t14_loop.trips} (hg : g = cdB x0 x1 C.a C.b v432) :
    Sx c a2 a3 a5 ga be x0 x1 iprop(R ∗ OutSt c g k0_t14.val) C ⊢ WP c (ap k0_part155 a2 ha2 a3 ha3 a5 ha5 v432 c0 c1 k0_t14)
      (fun _ => Sx c a2 a3 a5 ga be x0 x1 iprop(iprop(R ∗ OutMid c g k0_t14.val) ∗ obP c (k0_t14.val % 3) (g k0_t14.val) 40) C) := by
  subst hg
  rw [k0_part155_eq_skeleton]
  apply x_step
  case hb =>
    rw [k0_part136_eq_skeleton]
    refine x_dite (F := F) (fun hk => ?_) (fun hk => ?_)
    · refine wait_prev hk (k0_off669_eq _) (k0_off671_eq _) (row3 _ hk).2 ?_
      refine xlA _ _ (k0_off672_eq _) ?_
      refine xlB _ _ (k0_off672_eq _) ?_
      refine xkU _ _ _ (k0_off673_eq _) ?_
      refine xlOb (k0_off674_eq _) fun _ => ?_
      refine xsOb 0 0 (by decide) rfl (k0_off674_eq _) rfl ?_
      refine xkU _ _ _ (k0_off675_eq _) ?_
      exact wp_done (at_eq _)
    · refine (take_free hk).trans ?_
      refine xlA _ _ (k0_off672_eq _) ?_
      refine xlB _ _ (k0_off672_eq _) ?_
      refine xkU _ _ _ (k0_off673_eq _) ?_
      refine xlOb (k0_off674_eq _) fun _ => ?_
      refine xsOb 0 0 (by decide) rfl (k0_off674_eq _) rfl ?_
      refine xkU _ _ _ (k0_off675_eq _) ?_
      exact wp_done (at_eq _)
  apply x_step
  case hb =>
    rw [k0_part137_eq_skeleton]
    refine xlOb (k0_off676_eq _) fun _ => ?_
    refine xsOb 0 1 (by decide) rfl (k0_off676_eq _) rfl ?_
    refine xkU _ _ _ (k0_off677_eq _) ?_
    refine xlOb (k0_off678_eq _) fun _ => ?_
    refine xsOb 0 2 (by decide) rfl (k0_off678_eq _) rfl ?_
    refine xkU _ _ _ (k0_off679_eq _) ?_
    exact wp_done (at_eq _)
  apply x_step
  case hb =>
    rw [k0_part138_eq_skeleton]
    refine xlOb (k0_off680_eq _) fun _ => ?_
    refine xsOb 0 3 (by decide) rfl (k0_off680_eq _) rfl ?_
    refine xkU _ _ _ (k0_off681_eq _) ?_
    refine xlOb (k0_off682_eq _) fun _ => ?_
    refine xsOb 0 4 (by decide) rfl (k0_off682_eq _) rfl ?_
    refine xkU _ _ _ (k0_off683_eq _) ?_
    exact wp_done (at_eq _)
  apply x_stepE
  case hb =>
    rw [k0_part139_eq_skeleton]
    refine xlOb (k0_off684_eq _) fun _ => ?_
    refine xsOb 0 5 (by decide) rfl (k0_off684_eq _) rfl ?_
    refine xkU _ _ _ (k0_off685_eq _) ?_
    refine xlOb (k0_off686_eq _) fun _ => ?_
    refine xsOb 0 6 (by decide) rfl (k0_off686_eq _) rfl ?_
    refine xkU _ _ _ (k0_off687_eq _) ?_
    refine xlOb (k0_off688_eq _) fun vv => ?_
    exact wp_done (at_ex vv rfl)
  case' hk => intro vv
  apply x_step
  case hb =>
    rw [k0_part140_eq_skeleton]
    refine xsOb 0 7 (by decide) rfl (k0_off688_eq _) rfl ?_
    refine xlA _ _ (k0_off689_eq _) ?_
    refine xlB _ _ (k0_off689_eq _) ?_
    refine xkU _ _ _ (k0_off690_eq _) ?_
    refine xlOb (k0_off691_eq _) fun _ => ?_
    refine xsOb 1 0 (by decide) rfl (k0_off691_eq _) rfl ?_
    refine xkU _ _ _ (k0_off692_eq _) ?_
    exact wp_done (at_eq _)
  apply x_step
  case hb =>
    rw [k0_part141_eq_skeleton]
    refine xlOb (k0_off693_eq _) fun _ => ?_
    refine xsOb 1 1 (by decide) rfl (k0_off693_eq _) rfl ?_
    refine xkU _ _ _ (k0_off694_eq _) ?_
    refine xlOb (k0_off695_eq _) fun _ => ?_
    refine xsOb 1 2 (by decide) rfl (k0_off695_eq _) rfl ?_
    refine xkU _ _ _ (k0_off696_eq _) ?_
    exact wp_done (at_eq _)
  apply x_stepE
  case hb =>
    rw [k0_part142_eq_skeleton]
    refine xlOb (k0_off697_eq _) fun _ => ?_
    refine xsOb 1 3 (by decide) rfl (k0_off697_eq _) rfl ?_
    refine xkU _ _ _ (k0_off698_eq _) ?_
    refine xlOb (k0_off699_eq _) fun _ => ?_
    refine xsOb 1 4 (by decide) rfl (k0_off699_eq _) rfl ?_
    refine xkU _ _ _ (k0_off700_eq _) ?_
    refine xlOb (k0_off701_eq _) fun vv => ?_
    exact wp_done (at_ex vv rfl)
  case' hk => intro vv
  apply x_step
  case hb =>
    rw [k0_part143_eq_skeleton]
    refine xsOb 1 5 (by decide) rfl (k0_off701_eq _) rfl ?_
    refine xkU _ _ _ (k0_off702_eq _) ?_
    refine xlOb (k0_off703_eq _) fun _ => ?_
    refine xsOb 1 6 (by decide) rfl (k0_off703_eq _) rfl ?_
    refine xkU _ _ _ (k0_off704_eq _) ?_
    refine xlOb (k0_off705_eq _) fun _ => ?_
    refine xsOb 1 7 (by decide) rfl (k0_off705_eq _) rfl ?_
    exact wp_done (at_eq _)
  apply x_stepE
  case hb =>
    rw [k0_part144_eq_skeleton]
    refine xlA _ _ (k0_off706_eq _) ?_
    refine xlB _ _ (k0_off706_eq _) ?_
    refine xkU _ _ _ (k0_off707_eq _) ?_
    refine xlOb (k0_off708_eq _) fun _ => ?_
    refine xsOb 2 0 (by decide) rfl (k0_off708_eq _) rfl ?_
    refine xkU _ _ _ (k0_off709_eq _) ?_
    refine xlOb (k0_off710_eq _) fun vv => ?_
    exact wp_done (at_ex vv rfl)
  case' hk => intro vv
  apply x_step
  case hb =>
    rw [k0_part145_eq_skeleton]
    refine xsOb 2 1 (by decide) rfl (k0_off710_eq _) rfl ?_
    refine xkU _ _ _ (k0_off711_eq _) ?_
    refine xlOb (k0_off712_eq _) fun _ => ?_
    refine xsOb 2 2 (by decide) rfl (k0_off712_eq _) rfl ?_
    refine xkU _ _ _ (k0_off713_eq _) ?_
    refine xlOb (k0_off714_eq _) fun _ => ?_
    refine xsOb 2 3 (by decide) rfl (k0_off714_eq _) rfl ?_
    exact wp_done (at_eq _)
  apply x_step
  case hb =>
    rw [k0_part146_eq_skeleton]
    refine xkU _ _ _ (k0_off715_eq _) ?_
    refine xlOb (k0_off716_eq _) fun _ => ?_
    refine xsOb 2 4 (by decide) rfl (k0_off716_eq _) rfl ?_
    refine xkU _ _ _ (k0_off717_eq _) ?_
    refine xlOb (k0_off718_eq _) fun _ => ?_
    refine xsOb 2 5 (by decide) rfl (k0_off718_eq _) rfl ?_
    refine xkU _ _ _ (k0_off719_eq _) ?_
    exact wp_done (at_eq _)
  apply x_step
  case hb =>
    rw [k0_part147_eq_skeleton]
    refine xlOb (k0_off720_eq _) fun _ => ?_
    refine xsOb 2 6 (by decide) rfl (k0_off720_eq _) rfl ?_
    refine xkU _ _ _ (k0_off721_eq _) ?_
    refine xlOb (k0_off722_eq _) fun _ => ?_
    refine xsOb 2 7 (by decide) rfl (k0_off722_eq _) rfl ?_
    refine xlA _ _ (k0_off723_eq _) ?_
    refine xlB _ _ (k0_off723_eq _) ?_
    exact wp_done (at_eq _)
  apply x_step
  case hb =>
    rw [k0_part148_eq_skeleton]
    refine xkS _ _ _ (k0_off724_eq _) ?_
    refine xlOb (k0_off725_eq _) fun _ => ?_
    refine xsOb 3 0 (by decide) rfl (k0_off725_eq _) rfl ?_
    refine xkS _ _ _ (k0_off726_eq _) ?_
    refine xlOb (k0_off727_eq _) fun _ => ?_
    refine xsOb 3 1 (by decide) rfl (k0_off727_eq _) rfl ?_
    exact wp_done (at_eq _)
  apply x_step
  case hb =>
    rw [k0_part149_eq_skeleton]
    refine xkS _ _ _ (k0_off728_eq _) ?_
    refine xlOb (k0_off729_eq _) fun _ => ?_
    refine xsOb 3 2 (by decide) rfl (k0_off729_eq _) rfl ?_
    refine xkS _ _ _ (k0_off730_eq _) ?_
    refine xlOb (k0_off731_eq _) fun _ => ?_
    refine xsOb 3 3 (by decide) rfl (k0_off731_eq _) rfl ?_
    refine xkS _ _ _ (k0_off732_eq _) ?_
    exact wp_done (at_eq _)
  apply x_step
  case hb =>
    rw [k0_part150_eq_skeleton]
    refine xlOb (k0_off733_eq _) fun _ => ?_
    refine xsOb 3 4 (by decide) rfl (k0_off733_eq _) rfl ?_
    refine xkS _ _ _ (k0_off734_eq _) ?_
    refine xlOb (k0_off735_eq _) fun _ => ?_
    refine xsOb 3 5 (by decide) rfl (k0_off735_eq _) rfl ?_
    refine xkS _ _ _ (k0_off736_eq _) ?_
    exact wp_done (at_eq _)
  apply x_step
  case hb =>
    rw [k0_part151_eq_skeleton]
    refine xlOb (k0_off737_eq _) fun _ => ?_
    refine xsOb 3 6 (by decide) rfl (k0_off737_eq _) rfl ?_
    refine xkS _ _ _ (k0_off738_eq _) ?_
    refine xlOb (k0_off739_eq _) fun _ => ?_
    refine xsOb 3 7 (by decide) rfl (k0_off739_eq _) rfl ?_
    refine xlA _ _ (k0_off740_eq _) ?_
    refine xlB _ _ (k0_off740_eq _) ?_
    refine xkS _ _ _ (k0_off741_eq _) ?_
    exact wp_done (at_eq _)
  apply x_step
  case hb =>
    rw [k0_part152_eq_skeleton]
    refine xlOb (k0_off742_eq _) fun _ => ?_
    refine xsOb 4 0 (by decide) rfl (k0_off742_eq _) rfl ?_
    refine xkS _ _ _ (k0_off743_eq _) ?_
    refine xlOb (k0_off744_eq _) fun _ => ?_
    refine xsOb 4 1 (by decide) rfl (k0_off744_eq _) rfl ?_
    refine xkS _ _ _ (k0_off745_eq _) ?_
    exact wp_done (at_eq _)
  apply x_step
  case hb =>
    rw [k0_part153_eq_skeleton]
    refine xlOb (k0_off746_eq _) fun _ => ?_
    refine xsOb 4 2 (by decide) rfl (k0_off746_eq _) rfl ?_
    refine xkS _ _ _ (k0_off747_eq _) ?_
    refine xlOb (k0_off748_eq _) fun _ => ?_
    refine xsOb 4 3 (by decide) rfl (k0_off748_eq _) rfl ?_
    refine xkS _ _ _ (k0_off749_eq _) ?_
    exact wp_done (at_eq _)
  apply x_step
  case hb =>
    rw [k0_part154_eq_skeleton]
    refine xlOb (k0_off750_eq _) fun _ => ?_
    refine xsOb 4 4 (by decide) rfl (k0_off750_eq _) rfl ?_
    refine xkS _ _ _ (k0_off751_eq _) ?_
    refine xlOb (k0_off752_eq _) fun _ => ?_
    refine xsOb 4 5 (by decide) rfl (k0_off752_eq _) rfl ?_
    refine xkS _ _ _ (k0_off753_eq _) ?_
    exact wp_done (at_eq _)
  refine xlOb (k0_off754_eq _) fun _ => ?_
  refine xsOb 4 6 (by decide) rfl (k0_off754_eq _) rfl ?_
  refine xkS _ _ _ (k0_off755_eq _) ?_
  refine xlOb (k0_off756_eq _) fun _ => ?_
  refine xsOb 4 7 (by decide) rfl (k0_off756_eq _) rfl ?_
  exact wp_done .rfl

/-- One row: its codes computed into its slot, and sent out. -/
theorem t14_trip {R : sProp 𝕄} {C : Cx F} {v423 : IVec S1x128 32} {c127_i32 : BitVec 32} (hg : g = cdB x0 x1 C.a C.b (k0_pay1983 v423 c127_i32)) {k0_t14 : Fin k0_t14_loop.trips} {acc : Unit} :
    Sx c a2 a3 a5 ga be x0 x1 iprop(R ∗ OutSt c g k0_t14.val) C ⊢ WP c (ap k0_t14_body a2 ha2 a3 ha3 a5 ha5 v423 c127_i32 k0_t14 acc)
      (fun _ => Sx c a2 a3 a5 ga be x0 x1 iprop(R ∗ OutSt c g (k0_t14.val + 1)) C) := by
  have h16 := lt16 k0_t14
  unfold k0_t14_body
  refine bind_step (p_155 hg) fun _ => ?_
  rw [eqR, eqR]
  refine BIBase.Entails.trans ?_ (issue_out c g (P := iprop((R ∗ coE c (k0_t14.val + 1 ≤ ·) ∗ coG c (codeG g) (· < k0_t14.val + 1 - 3) ∗ Sl c g (k0_t14.val + 1) ∗ Sl c g (k0_t14.val + 2) ∗ owE c) ∗ (pU c x0 ∗ pS c x1 ∗ ptS1 c C.s1 ∗ ptS2 c C.s2 ∗ ptMx c C.mx ∗ ptMn c C.mn ∗ ptA c C.a ∗ ptB c C.b ∗ oG c a2 ga ∗ oG c a3 be ∗ oY c a5 C.y)))
    ⟨k0_t14.val, h16⟩ (sl k0_t14.val) (k0_off757_eq _) (k0_off759_eq _) (k0_off758_eq _) (wp_done ?_))
  · unfold OutMid
    iintro ⟨⟨⟨HR, Hs, Hc, Hd, H1, H2, HW⟩, Ho⟩, HE⟩
    icases (coE_split c (· = k0_t14.val) (k0_t14.val + 1 ≤ ·) (k0_t14.val ≤ ·) (fun n => by omega) (fun n => by omega)) $$ Hc with ⟨Hn, Hc⟩
    isplitr [Hn Hs Ho]
    · isplitr [HE]
      · isplitl [HR]; · iexact HR
        isplitl [Hc]; · iexact Hc
        isplitl [Hd]; · iexact Hd
        isplitl [H1]; · iexact H1
        isplitl [H2] <;> iassumption
      · iexact HE
    · isplitl [Hn]; · iexact Hn
      isplitl [Hs]; · iexact Hs
      iexact Ho
  · unfold OutSt
    iintro ⟨⟨⟨HR, Hc, Hd, H1, H2, HW⟩, HE⟩, Hf⟩
    isplitr [HE]
    · isplitl [HR]; · iexact HR
      isplitl [Hc]; · iexact Hc
      isplitl [Hd]; · iexact Hd
      isplitl [H1]; · iexact H1
      isplitl [H2]; · iexact H2
      isplitl [Hf]
      · rw [Sl_next]; iexact Hf
      · iexact HW
    · iexact HE

/-- The codes' loop. -/
theorem t14_loop {R : sProp 𝕄} {C : Cx F} {v423 : IVec S1x128 32} {c127_i32 : BitVec 32} (hg : g = cdB x0 x1 C.a C.b (k0_pay1983 v423 c127_i32)) {Q : α → sProp 𝕄} {kk : Unit → Prog (TpuEff nD τ sig (Elt F) Λ₀ .tc) α}
    (hk : ∀ acc, Sx c a2 a3 a5 ga be x0 x1 iprop(R ∗ OutSt c g 16) C ⊢ WP c (kk acc) Q) :
    Sx c a2 a3 a5 ga be x0 x1 iprop(R ∗ OutSt c g 0) C ⊢ WP c (Scf.Loop.for k0_t14_loop k0_t14_ok ⟨⟩ (ap k0_t14_body a2 ha2 a3 ha3 a5 ha5 v423 c127_i32) >>= kk) Q := by
  have h := Scf.wp_for_bind frame (wpE (defs₀ (F := F)) Variants.none (c : Thread nD τ) none) Set.univ k0_t14_loop.lb k0_t14_loop.ub k0_t14_loop.st k0_t14_ok ⟨⟩
    (ap k0_t14_body a2 ha2 a3 ha3 a5 ha5 v423 c127_i32) (fun n _ => Sx c a2 a3 a5 ga be x0 x1 iprop(R ∗ OutSt c g n) C) (fun k acc => t14_trip hg (k0_t14 := k)) (kk := kk) (Q := Q)
  iintro HE
  iapply h $$ [HE]
  · iexact HE
  iintro %acc HE
  iapply (hk acc)
  iapply (Entails.of_eq (congrArg (fun n => Sx c a2 a3 a5 ga be x0 x1 iprop(R ∗ OutSt (F := F) c g n) C) (show k0_t14_loop.trips = 16 by decide +kernel)))
  iexact HE
end

end Cert.KernelIdeal.Hand
-- ==== Proof.KI.XRun.lean ====
/-
  The whole body, at exact contents.
-/
module

public import proofs.«01_k».proof.Proof.KI.XOut

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## What the body computes -/

section
variable (x0 : S16x1024x768.Idx → Elt F .bf16) (x1 : S16x1024x512.Idx → Elt F .bf16) (ga be : S1280.Idx → Elt F .f32)
/-- The indicator of a channel's group, one column a group. -/
def r209 : FVec F S1280x128 .bf16 := k0_pay1952 (F := F)
/-- The indicator of a channel's group, one row a group. -/
def r222 : FVec F S128x1280 .bf16 := k0_pay1953 (F := F) (iota .tc S128x1280 32 [1] iota_S128x1280_d1_w32)
/-- The groups' means. -/
def r240 : FVec F S16x128 .f32 := k0_pay1954 r209 (fillT (wS1 x0 x1))
/-- The groups' mean squares. -/
def r256 : FVec F S16x128 .f32 := k0_pay1955 r209 (fillT (wS2 x0 x1))
/-- Whether some group's variance is small beside its mean square. -/
def r272 : F .f32 := k0_pay1957 (r240 x0 x1) (r256 x0 x1) (Named.named κ "inv_n" 0x37CCCCCD#32)
/-- The channels' means. -/
def r286 : FVec F S16x1280 .f32 := k0_pay1958 r222 (r240 x0 x1)
/-- The channels' reciprocal deviations, from the mean squares. -/
def r306 : FVec F S16x1x1280 .f32 := k0_pay1959 r222 (r240 x0 x1) (r256 x0 x1) (Named.named κ "inv_n" 0x37CCCCCD#32)
def rb0 : S16x1x1280.Idx → Elt F .f32 := k0_pay1960 (r286 x0 x1)
/-- The channels' reciprocal deviations. -/
def ra1 : S16x1x1280.Idx → Elt F .f32 := a1v x0 x1 r209 r222 (r272 x0 x1) (rb0 x0 x1) (r306 x0 x1)
/-- The channels' factors. -/
def rA : S16x1x1280.Idx → Elt F .f32 := k0_pay1971 (ra1 x0 x1) ga
/-- The channels' offsets. -/
def rB : S16x1x1280.Idx → Elt F .f32 := k0_pay1972 (ra1 x0 x1) ga be (rb0 x0 x1)
/-- The largest candidate for the largest of `|y|`. -/
def ry0 : F .f32 := k0_pay1974 (k0_pay1969 (ra1 x0 x1) ga) (k0_pay1970 (ra1 x0 x1) ga be (rb0 x0 x1)) (k0_pay1973 (ra1 x0 x1) ga be (rb0 x0 x1) (fillT (wMx x0 x1))) (fillT (wMn x0 x1))
/-- The largest of `|y|`. -/
def ry : F .f32 := y1v x0 x1 (rA x0 x1 ga) (rB x0 x1 ga be) (ry0 x0 x1 ga be)
/-- The bits of the scale's exponent. -/
def rE : IVec S1x128 32 := k0_pay1982 (k0_pay1979 (ry x0 x1 ga be)) (k0_pay1980 (ry x0 x1 ga be)) (k0_pay1981 (ry x0 x1 ga be)) 23#32
def rInv : F .f32 := k0_pay1983 (rE x0 x1 ga be) 127#32
def rScale : F .f32 := k0_pay1984 (rE x0 x1 ga be)
/-- The codes, block by block. -/
def rG : ℕ → ℕ → S1x128x256.Idx → Elt F .fp8e4m3 := cdB x0 x1 (rA x0 x1 ga) (rB x0 x1 ga be) (rInv x0 x1 ga be)
/-- What the buffers hold at the end. -/
def rC : Cx F := ⟨fillT (wS1 x0 x1), s2v x0 x1 (r272 x0 x1) (rb0 x0 x1) (fillT (wS2 x0 x1)), fillT (wMx x0 x1), fillT (wMn x0 x1), rA x0 x1 ga, rB x0 x1 ga be, rScale x0 x1 ga be⟩
end

section
variable {c : Dev nD} {a2 : Memref sig .tc .vmem S1280 .f32} {ha2 : a2.IsWhole} {a3 : Memref sig .tc .vmem S1280 .f32} {ha3 : a3.IsWhole} {a5 : Memref sig .tc .smem S1x1 .f32} {ha5 : a5.IsWhole}
  {ga be : S1280.Idx → Elt F .f32} {x0 : S16x1024x768.Idx → Elt F .bf16} {x1 : S16x1024x512.Idx → Elt F .bf16} {g : ℕ → ℕ → S1x128x256.Idx → Elt F .fp8e4m3}
variable {α : Type}

/-- What the body works on beside the codes, the scale and the operands that are not moved. -/
def WhlT (c : Dev nD) (a2 a3 : Memref sig .tc .vmem S1280 .f32) (ga be : S1280.Idx → Elt F .f32)
    (x0 : S16x1024x768.Idx → Elt F .bf16) (x1 : S16x1024x512.Idx → Elt F .bf16) : sProp 𝕄 :=
  iprop(((∃ f, pU c f) ∗ (∃ f, pS c f) ∗ (∃ f, ptS1 c f) ∗ (∃ f, ptS2 c f) ∗ (∃ f, ptMx c f) ∗ (∃ f, ptMn c f) ∗ (∃ f, ptA c f) ∗ (∃ f, ptB c f)) ∗ oG c a2 ga ∗ oG c a3 be ∗ (∃ f, ptOn c f)
    ∗ (mXuH.view.loc (c : Thread nD τ) ↦[Finset.univ]{fullShare} x0) ∗ (mXsH.view.loc (c : Thread nD τ) ↦[Finset.univ]{fullShare} x1)
    ∗ (∃ f, mOb.view.loc (c : Thread nD τ) ↦[Finset.univ]{fullShare} f)
    ∗ bigSep Finset.univ (fun b => semVal ((c : Thread nD τ), SemLoc.dma (inSem b)) 0) ∗ bigSep Finset.univ (fun b => semVal ((c : Thread nD τ), SemLoc.dma (outSem b)) 0) ∗ owE c)

/-- What waits for the second half of the body. -/
def Rst (c : Dev nD) (a2 a3 : Memref sig .tc .vmem S1280 .f32) (a5 : Memref sig .tc .smem S1x1 .f32) (ga be : S1280.Idx → Elt F .f32) : sProp 𝕄 :=
  iprop((∃ f, ptA c f) ∗ (∃ f, ptB c f) ∗ oG c a2 ga ∗ oG c a3 be ∗ (∃ y, oY c a5 y)
    ∗ (∃ f, mOb.view.loc (c : Thread nD τ) ↦[Finset.univ]{fullShare} f) ∗ (∃ f, mCo.view.loc (c : Thread nD τ) ↦[Finset.univ]{fullShare} f)
    ∗ bigSep Finset.univ (fun b => semVal ((c : Thread nD τ), SemLoc.dma (outSem b)) 0))

/-- What the second half leaves alone. -/
def Held (c : Dev nD) (x0 : S16x1024x768.Idx → Elt F .bf16) (x1 : S16x1024x512.Idx → Elt F .bf16) (R : sProp 𝕄) : sProp 𝕄 :=
  iprop(R ∗ (∃ on, ptOn c on) ∗ (mXuH.view.loc (c : Thread nD τ) ↦[Finset.univ]{fullShare} x0) ∗ (mXsH.view.loc (c : Thread nD τ) ↦[Finset.univ]{fullShare} x1)
    ∗ bigSep Finset.univ (fun b => semVal ((c : Thread nD τ), SemLoc.dma (inSem b)) 0))

theorem bigSep_univ3 (Φ : Fin 3 → sProp 𝕄) : bigSep Finset.univ Φ = iprop(Φ 0 ∗ Φ 1 ∗ Φ 2) := by
  rw [BI.bigSep_eq_bigSepL_of_eq [0, 1, 2] (by decide) (by decide)]; rfl

theorem rows3_0 {d : Fin 3 → ℕ} (i : (a : Fin 3) → Fin (d a)) : i ∈ (Finset.univ : Finset ((a : Fin 3) → Fin (d a))) ↔ i ∈ rowsIn d (· = 0) ∨ i ∈ rowsIn d (0 < ·) := by
  simp only [mem_rowsIn, Finset.mem_univ, true_iff]; exact Nat.eq_zero_or_pos _
theorem rows3_0' {d : Fin 3 → ℕ} (i : (a : Fin 3) → Fin (d a)) : i ∈ rowsIn d (· = 0) → i ∉ rowsIn d (0 < ·) := by
  simp only [mem_rowsIn]; omega
theorem rows3_1 {d : Fin 3 → ℕ} (h : d 0 = 3) (i : (a : Fin 3) → Fin (d a)) : i ∈ rowsIn d (0 < ·) ↔ i ∈ rowsIn d (· = 1) ∨ i ∈ rowsIn d (· = 2) := by
  have := (i 0).isLt
  simp only [mem_rowsIn]; omega
theorem rows3_1' {d : Fin 3 → ℕ} (i : (a : Fin 3) → Fin (d a)) : i ∈ rowsIn d (· = 1) → i ∉ rowsIn d (· = 2) := by
  simp only [mem_rowsIn]; omega
theorem ob01 (f : S3x1024x1280.Idx → Elt F .fp8e4m3) : (mOb.view.loc (c : Thread nD τ) ↦[Finset.univ]{fullShare} f : sProp 𝕄) ⊣⊢
    iprop((mOb.view.loc (c : Thread nD τ) ↦[(rowsIn dOb (· = 0) : Finset _)]{fullShare} f) ∗ (mOb.view.loc (c : Thread nD τ) ↦[(rowsIn dOb (0 < ·) : Finset _)]{fullShare} f)) := by
  refine pt_split (c := (c : Thread nD τ)) (ℓ := mOb.view.loc (c : Thread nD τ)) (S := Finset.univ) (A := (rowsIn dOb (· = 0) : Finset _)) (B := (rowsIn dOb (0 < ·) : Finset _)) ?_ ?_ fullShare f
  · exact rows3_0 (d := dOb)
  · exact rows3_0' (d := dOb)
theorem ob12 (f : S3x1024x1280.Idx → Elt F .fp8e4m3) : (mOb.view.loc (c : Thread nD τ) ↦[(rowsIn dOb (0 < ·) : Finset _)]{fullShare} f : sProp 𝕄) ⊣⊢
    iprop((mOb.view.loc (c : Thread nD τ) ↦[(rowsIn dOb (· = 1) : Finset _)]{fullShare} f) ∗ (mOb.view.loc (c : Thread nD τ) ↦[(rowsIn dOb (· = 2) : Finset _)]{fullShare} f)) := by
  refine pt_split (c := (c : Thread nD τ)) (ℓ := mOb.view.loc (c : Thread nD τ)) (S := (rowsIn dOb (0 < ·) : Finset _)) (A := (rowsIn dOb (· = 1) : Finset _)) (B := (rowsIn dOb (· = 2) : Finset _)) ?_ ?_ fullShare f
  · exact rows3_1 (d := dOb) rfl
  · exact rows3_1' (d := dOb)
theorem ob_at {p : ℕ → Prop} [DecidablePred p] {f g : S3x1024x1280.Idx → Elt F .fp8e4m3} (h : ∀ i : S3x1024x1280.Idx, p (i 0).val → f i = g i) :
    (mOb.view.loc (c : Thread nD τ) ↦[(rowsIn dOb p : Finset _)]{fullShare} f : sProp 𝕄) ⊢ (mOb.view.loc (c : Thread nD τ) ↦[(rowsIn dOb p : Finset _)]{fullShare} g) :=
  Entails.of_eq (pointsTo_congr fun i hi => h i (mem_rowsIn.mp hi))

theorem ob_split (f : S3x1024x1280.Idx → Elt F .fp8e4m3) : (mOb.view.loc (c : Thread nD τ) ↦[Finset.univ]{fullShare} f : sProp 𝕄) ⊢ iprop(obS c 0 ∗ obS c 1 ∗ obS c 2) := by
  unfold obS
  iintro H
  icases (ob01 f).1 $$ H with ⟨H0, H⟩
  icases (ob12 f).1 $$ H with ⟨H1, H2⟩
  isplitl [H0]; · iexists f; iexact H0
  isplitl [H1]; · iexists f; iexact H1
  iexists f; iexact H2
/-- Three slots' contents, as one buffer's. -/
def ob3 (f g h : S3x1024x1280.Idx → Elt F .fp8e4m3) : S3x1024x1280.Idx → Elt F .fp8e4m3 := fun i => if (i 0).val = 0 then f i else if (i 0).val = 1 then g i else h i
theorem ob_join : iprop(obS (F := F) c 0 ∗ obS c 1 ∗ obS c 2) ⊢ iprop(∃ f, mOb.view.loc (c : Thread nD τ) ↦[Finset.univ]{fullShare} f) := by
  unfold obS
  iintro ⟨⟨%f, Hf⟩, ⟨%g, Hg⟩, ⟨%h, Hh⟩⟩
  iexists (ob3 f g h)
  iapply (ob01 (ob3 f g h)).2
  isplitl [Hf]
  · iapply (ob_at (fun i e => (if_pos e).symm)); iexact Hf
  iapply (ob12 (ob3 f g h)).2
  isplitl [Hg]
  · iapply (ob_at (fun i e => by unfold ob3; rw [if_neg (by omega), if_pos e])); iexact Hg
  · iapply (ob_at (fun i e => by unfold ob3; rw [if_neg (by omega), if_neg (by omega)])); iexact Hh

theorem coE_all : iprop(∃ f, mCo.view.loc (c : Thread nD τ) ↦[Finset.univ]{fullShare} f) = (coE c (0 ≤ ·) : sProp 𝕄) := by
  unfold coE
  rw [rows_all dCo (0 ≤ ·) (fun n _ => Nat.zero_le n)]

/-- No row of the codes, at any contents. -/
theorem co_none (G : S16x1024x1280.Idx → Elt F .fp8e4m3) (p : ℕ → Prop) [DecidablePred p] (h : ∀ n, n < 16 → ¬ p n) : coE (F := F) c p ⊢ coG c G p := by
  unfold coE coG
  rw [rows_none dCo p h]
  iintro ⟨%f, H⟩
  iapply (Entails.of_eq (pt_none (ℓ := mCo.view.loc (c : Thread nD τ)) f G)) $$ H
theorem coG_drop (G : S16x1024x1280.Idx → Elt F .fp8e4m3) : (coG c G (0 ≤ ·) : sProp 𝕄) = (mCo.view.loc (c : Thread nD τ) ↦[Finset.univ]{fullShare} G) := by
  unfold coG
  rw [rows_all dCo (0 ≤ ·) (fun n _ => Nat.zero_le n)]

/-- From the statistics to the second half. -/
theorem to_sx {R : sProp 𝕄} {s1 s2 mx mn : S16x1x1280.Idx → Elt F .f32} : StX c x0 x1 iprop(R ∗ Rst c a2 a3 a5 ga be) s1 s2 mx mn 16 ⊢
    iprop(∃ a b y, Sx c a2 a3 a5 ga be x0 x1 iprop(Held c x0 x1 R ∗ OutSt c g 0) ⟨fillT (wS1 x0 x1), fillT (wS2 x0 x1), fillT (wMx x0 x1), fillT (wMn x0 x1), a, b, y⟩) := by
  unfold Sx StX St Rst Held OutSt
  rw [coE_all, upto_all, upto_all, upto_all, upto_all]
  iintro ⟨⟨⟨HR, ⟨%fa, HA⟩, ⟨%fb, HB⟩, Ha2, Ha3, ⟨%y, Ha5⟩, ⟨%fo, Hob⟩, Hco, Hos⟩, HO, H1, H2, H3, H4⟩, HI⟩
  icases in_end $$ HI with ⟨H6, H7, H0, Hx, Hs, HW⟩
  icases (ob_split fo) $$ Hob with ⟨Ho0, Ho1, Ho2⟩
  icases (Entails.of_eq (bigSep_univ3 _)) $$ Hos with ⟨Hq0, Hq1, Hq2⟩
  icases (coE_split c (0 ≤ ·) (· < 0 - 3) (0 ≤ ·) (fun n => by omega) (fun n => by omega)) $$ Hco with ⟨Hc, Hd⟩
  icases (co_none (codeG g) (· < 0 - 3) (fun n _ => by omega)) $$ Hd with Hd
  iexists fa, fb, y
  isplitr [HA HB Ha2 Ha3 Ha5 H1 H2 H3 H4 H6 H7]
  · isplitr [Hc Hd Ho0 Ho1 Ho2 Hq0 Hq1 Hq2 HW]
    · isplitl [HR]; · iexact HR
      isplitl [HO]; · iexists _; iexact HO
      isplitl [H0]; · iexact H0
      isplitl [Hx]; · iexact Hx
      iexact Hs
    · isplitl [Hc]; · iexact Hc
      isplitl [Hd]; · iexact Hd
      isplitl [Hq0 Ho0]
      · iapply (Entails.of_eq (show iprop(semVal ((c : Thread nD τ), SemLoc.dma (outSem 0)) 0 ∗ obS (F := F) c 0) = Sl c g 0 from rfl))
        isplitl [Hq0] <;> iassumption
      isplitl [Hq1 Ho1]
      · iapply (Entails.of_eq (show iprop(semVal ((c : Thread nD τ), SemLoc.dma (outSem 1)) 0 ∗ obS (F := F) c 1) = Sl c g (0 + 1) from rfl))
        isplitl [Hq1] <;> iassumption
      isplitl [Hq2 Ho2]
      · iapply (Entails.of_eq (show iprop(semVal ((c : Thread nD τ), SemLoc.dma (outSem 2)) 0 ∗ obS (F := F) c 2) = Sl c g (0 + 2) from rfl))
        isplitl [Hq2] <;> iassumption
      iexact HW
  · isplitl [H6]; · iexact H6
    isplitl [H7]; · iexact H7
    isplitl [H1]; · iexact H1
    isplitl [H2]; · iexact H2
    isplitl [H3]; · iexact H3
    isplitl [H4]; · iexact H4
    isplitl [HA]; · iexact HA
    isplitl [HB]; · iexact HB
    isplitl [Ha2]; · iexact Ha2
    isplitl [Ha3]; · iexact Ha3
    iexact Ha5

theorem of_sx {R P : sProp 𝕄} {s1 s2 mx mn : S16x1x1280.Idx → Elt F .f32}
    (h : ∀ a b y, Sx c a2 a3 a5 ga be x0 x1 iprop(Held c x0 x1 R ∗ OutSt c g 0) ⟨fillT (wS1 x0 x1), fillT (wS2 x0 x1), fillT (wMx x0 x1), fillT (wMn x0 x1), a, b, y⟩ ⊢ P) :
    StX c x0 x1 iprop(R ∗ Rst c a2 a3 a5 ga be) s1 s2 mx mn 16 ⊢ P := by
  refine BIBase.Entails.trans (to_sx (g := g)) ?_
  iintro ⟨%a, %b, %y, H⟩
  iapply (h a b y)
  iexact H

/-- Between the final waits. -/
def Fin13 (c : Dev nD) (g : ℕ → ℕ → S1x128x256.Idx → Elt F .fp8e4m3) (P : sProp 𝕄) : sProp 𝕄 := iprop(P ∗ coG c (codeG g) (fun n => 16 ≤ n ∨ n < 14) ∗ fr c 1 ∗ fl c g 14 2 ∗ fl c g 15 0 ∗ owE c)

/-- The last part: the scale stored, the codes' loop, the wait for row 13. -/
theorem p_169 {R : sProp 𝕄} {C : Cx F} {v423 : IVec S1x128 32} {c127_i32 : BitVec 32} {Q : α → sProp 𝕄} {kk : PUnit → Prog (TpuEff nD τ sig (Elt F) Λ₀ .tc) α}
    (hg : g = cdB x0 x1 C.a C.b (k0_pay1983 v423 c127_i32))
    (hk : ∀ v, Fin13 c g iprop(R ∗ (pU c x0 ∗ pS c x1 ∗ ptS1 c C.s1 ∗ ptS2 c C.s2 ∗ ptMx c C.mx ∗ ptMn c C.mn ∗ ptA c C.a ∗ ptB c C.b ∗ oG c a2 ga ∗ oG c a3 be ∗ oY c a5 (k0_pay1984 v423))) ⊢ WP c (kk v) Q) :
    Sx c a2 a3 a5 ga be x0 x1 iprop(R ∗ OutSt c g 0) C ⊢ WP c (ap k0_part169 a2 ha2 a3 ha3 a5 ha5 v423 c127_i32 >>= kk) Q := by
  refine bind_step (E' := Fin13 c g iprop(R ∗ (pU c x0 ∗ pS c x1 ∗ ptS1 c C.s1 ∗ ptS2 c C.s2 ∗ ptMx c C.mx ∗ ptMn c C.mn ∗ ptA c C.a ∗ ptB c C.b ∗ oG c a2 ga ∗ oG c a3 be ∗ oY c a5 (k0_pay1984 v423)))) ?_ hk
  rw [k0_part169_eq_skeleton]
  refine xlY ?_
  refine xsY ?_
  refine t14_loop (C := { C with y := k0_pay1984 v423 }) hg fun _ => ?_
  rw [eqR]
  refine BIBase.Entails.trans ?_ (wait_out c g (P := iprop(iprop(R ∗ (pU c x0 ∗ pS c x1 ∗ ptS1 c C.s1 ∗ ptS2 c C.s2 ∗ ptMx c C.mx ∗ ptMn c C.mn ∗ ptA c C.a ∗ ptB c C.b ∗ oG c a2 ga ∗ oG c a3 be ∗ oY c a5 (k0_pay1984 v423))) ∗ coG c (codeG g) (fun n => 16 ≤ n ∨ n < 13) ∗ fl c g 14 2 ∗ fl c g 15 0)) (13 : Fin 16) (1 : Fin 3) rfl rfl rfl (wp_done ?_))
  · unfold OutSt
    iintro ⟨⟨HR, Hc, Hd, H0, H1, H2, HW⟩, HE⟩
    icases (Entails.of_eq (show Sl (F := F) c g 16 = fl c g 13 1 from Sl_next c g 13)) $$ H0 with H0
    icases (Entails.of_eq (show Sl (F := F) c g (16 + 1) = fl c g 14 2 from Sl_next c g 14)) $$ H1 with H1
    icases (Entails.of_eq (show Sl (F := F) c g (16 + 2) = fl c g 15 0 from Sl_next c g 15)) $$ H2 with H2
    isplitr [H0 HW]
    · isplitl [HR HE]
      · isplitl [HR] <;> iassumption
      isplitl [Hc Hd]
      · icases (co_none (codeG g) (16 ≤ ·) (fun n _ => by omega)) $$ Hc with Hc
        iapply (coG_join c (codeG g) (16 ≤ ·) (· < 13) (fun n => 16 ≤ n ∨ n < 13) (fun n => Iff.rfl) (fun n => by omega))
        isplitl [Hc] <;> iassumption
      isplitl [H1] <;> iassumption
    · isplitl [H0]; · iexact H0
      iexact HW
  · unfold Fin13
    iintro ⟨⟨HP, Hc, H1, H2⟩, Hn, Hf, HW⟩
    isplitl [HP]; · iexact HP
    isplitl [Hc Hn]
    · iapply (coG_join c (codeG g) (· = 13) (fun n => 16 ≤ n ∨ n < 13) (fun n => 16 ≤ n ∨ n < 14) (fun n => by omega) (fun n => by omega))
      isplitl [Hn]
      · iexact Hn
      · iexact Hc
    isplitl [Hf]; · iexact Hf
    isplitl [H1]; · iexact H1
    isplitl [H2] <;> iassumption

/-- The end: everything back. -/
theorem to_whl {R : sProp 𝕄} : iprop(iprop(Held c x0 x1 R ∗ (pU c x0 ∗ pS c x1 ∗ ptS1 c (rC x0 x1 ga be).s1 ∗ ptS2 c (rC x0 x1 ga be).s2 ∗ ptMx c (rC x0 x1 ga be).mx ∗ ptMn c (rC x0 x1 ga be).mn ∗ ptA c (rC x0 x1 ga be).a ∗ ptB c (rC x0 x1 ga be).b ∗ oG c a2 ga ∗ oG c a3 be ∗ oY c a5 (rScale x0 x1 ga be))) ∗ coG c (codeG (rG x0 x1 ga be)) (0 ≤ ·) ∗ fr c 1 ∗ fr c 2 ∗ fr c 0 ∗ owE c) ⊢ iprop(R ∗ WhlT c a2 a3 ga be x0 x1 ∗ (mCo.view.loc (c : Thread nD τ) ↦[Finset.univ]{fullShare} codeG (rG x0 x1 ga be)) ∗ oY c a5 (rScale x0 x1 ga be)) := by
  unfold Held WhlT fr
  rw [bigSep_univ3 (fun b => semVal ((c : Thread nD τ), SemLoc.dma (outSem b)) 0), coG_drop]
  iintro ⟨⟨⟨HR, HO, H0, H1, Hs⟩, Hb0, Hb1, Hb2, Hb3, Hb4, Hb5, Hb6, Hb7, Ha2, Ha3, HY⟩, Hc, ⟨Hq1, Ho1⟩, ⟨Hq2, Ho2⟩, ⟨Hq0, Ho0⟩, HW⟩
  isplitl [HR]; · iexact HR
  isplitr [Hc HY]
  · isplitl [Hb0 Hb1 Hb2 Hb3 Hb4 Hb5 Hb6 Hb7]
    · isplitl [Hb0]; · iexists _; iexact Hb0
      isplitl [Hb1]; · iexists _; iexact Hb1
      isplitl [Hb2]; · iexists _; iexact Hb2
      isplitl [Hb3]; · iexists _; iexact Hb3
      isplitl [Hb4]; · iexists _; iexact Hb4
      isplitl [Hb5]; · iexists _; iexact Hb5
      isplitl [Hb6]; · iexists _; iexact Hb6
      iexists _; iexact Hb7
    isplitl [Ha2]; · iexact Ha2
    isplitl [Ha3]; · iexact Ha3
    isplitl [HO]; · iexact HO
    isplitl [H0]; · iexact H0
    isplitl [H1]; · iexact H1
    isplitl [Ho0 Ho1 Ho2]
    · iapply ob_join
      isplitl [Ho0]; · iexact Ho0
      isplitl [Ho1]; · iexact Ho1
      iexact Ho2
    isplitl [Hs]; · iexact Hs
    isplitr [HW]
    · isplitl [Hq0]; · iexact Hq0
      isplitl [Hq1] <;> iassumption
    · iexact HW
  isplitl [Hc] <;> iassumption

/-- The body from given contents. -/
theorem run_at {R : sProp 𝕄} {on : S8x256.Idx → Elt F .bf16} {s1 s2 mx mn : S16x1x1280.Idx → Elt F .f32} {f6 : S16x1024x768.Idx → Elt F .bf16} {f7 : S16x1024x512.Idx → Elt F .bf16} {Q : PUnit → sProp 𝕄}
    (hQ : iprop(R ∗ WhlT c a2 a3 ga be x0 x1 ∗ (mCo.view.loc (c : Thread nD τ) ↦[Finset.univ]{fullShare} codeG (rG x0 x1 ga be)) ∗ oY c a5 (rScale x0 x1 ga be)) ⊢ Q ⟨⟩) :
    Beg c x0 x1 iprop(R ∗ Rst c a2 a3 a5 ga be) on s1 s2 mx mn f6 f7 0 ⊢ WP c (ap cc0_gn_silu_fp8 a2 ha2 a3 ha3 a5 ha5) Q := by
  rw [cc0_gn_silu_fp8_eq_skeleton]
  unfold Beg
  refine issue_row c x0 x1 (0 : Fin 16) ?_
  refine issue_row c x0 x1 (1 : Fin 16) ?_
  refine issue_row c x0 x1 (2 : Fin 16) ?_
  refine issue_row c x0 x1 (3 : Fin 16) ?_
  refine issue_row c x0 x1 (4 : Fin 16) ?_
  refine issue_row c x0 x1 (5 : Fin 16) ?_
  refine issue_row c x0 x1 (6 : Fin 16) ?_
  refine issue_row c x0 x1 (7 : Fin 16) ?_
  refine issue_row c x0 x1 (8 : Fin 16) ?_
  refine issue_row c x0 x1 (9 : Fin 16) ?_
  refine issue_row c x0 x1 (10 : Fin 16) ?_
  refine issue_row c x0 x1 (11 : Fin 16) ?_
  refine issue_row c x0 x1 (12 : Fin 16) ?_
  refine issue_row c x0 x1 (13 : Fin 16) ?_
  refine issue_row c x0 x1 (14 : Fin 16) ?_
  refine p_163 ?_
  refine of_sx (g := rG x0 x1 ga be) fun a b y => ?_
  refine x_step p_164 ?_
  refine x_step p_165 ?_
  refine x_step (p_166 rfl rfl) ?_
  refine x_step (p_167 rfl) ?_
  refine x_step p_168 ?_
  refine p_169 rfl fun _ => ?_
  unfold Fin13
  refine BIBase.Entails.trans ?_ (wait_out c (rG x0 x1 ga be) (P := iprop(iprop(Held c x0 x1 R ∗ (pU c x0 ∗ pS c x1 ∗ ptS1 c (rC x0 x1 ga be).s1 ∗ ptS2 c (rC x0 x1 ga be).s2 ∗ ptMx c (rC x0 x1 ga be).mx ∗ ptMn c (rC x0 x1 ga be).mn ∗ ptA c (rC x0 x1 ga be).a ∗ ptB c (rC x0 x1 ga be).b ∗ oG c a2 ga ∗ oG c a3 be ∗ oY c a5 (rScale x0 x1 ga be))) ∗ coG c (codeG (rG x0 x1 ga be)) (fun n => 16 ≤ n ∨ n < 14) ∗ fr c 1 ∗ fl c (rG x0 x1 ga be) 15 0)) (14 : Fin 16) (2 : Fin 3) rfl rfl rfl
    (BIBase.Entails.trans ?_ (wait_out c (rG x0 x1 ga be) (P := iprop(iprop(Held c x0 x1 R ∗ (pU c x0 ∗ pS c x1 ∗ ptS1 c (rC x0 x1 ga be).s1 ∗ ptS2 c (rC x0 x1 ga be).s2 ∗ ptMx c (rC x0 x1 ga be).mx ∗ ptMn c (rC x0 x1 ga be).mn ∗ ptA c (rC x0 x1 ga be).a ∗ ptB c (rC x0 x1 ga be).b ∗ oG c a2 ga ∗ oG c a3 be ∗ oY c a5 (rScale x0 x1 ga be))) ∗ coG c (codeG (rG x0 x1 ga be)) (fun n => 16 ≤ n ∨ n < 15) ∗ fr c 1 ∗ fr c 2)) (15 : Fin 16) (0 : Fin 3) rfl rfl rfl
      (wp_done (BIBase.Entails.trans (BIBase.Entails.trans ?_ to_whl) hQ)))))
  · iintro ⟨HP, Hc, Hf, H1, H2, HW⟩
    isplitr [H1 HW]
    · isplitl [HP]; · iexact HP
      isplitl [Hc]; · iexact Hc
      isplitl [Hf] <;> iassumption
    · isplitl [H1]; · iexact H1
      iexact HW
  · iintro ⟨⟨HP, Hc, Hf, H2⟩, Hn, Hg, HW⟩
    isplitr [H2 HW]
    · isplitl [HP]; · iexact HP
      isplitl [Hc Hn]
      · iapply (coG_join c (codeG (rG x0 x1 ga be)) (· = 14) (fun n => 16 ≤ n ∨ n < 14) (fun n => 16 ≤ n ∨ n < 15) (fun n => by omega) (fun n => by omega))
        isplitl [Hn]
        · iexact Hn
        · iexact Hc
      isplitl [Hf] <;> iassumption
    · isplitl [H2]; · iexact H2
      iexact HW
  · iintro ⟨⟨HP, Hc, Hf, Hg⟩, Hn, Hh, HW⟩
    isplitl [HP]; · iexact HP
    isplitl [Hc Hn]
    · iapply (coG_join c (codeG (rG x0 x1 ga be)) (· = 15) (fun n => 16 ≤ n ∨ n < 15) (0 ≤ ·) (fun n => by omega) (fun n => by omega))
      isplitl [Hn]
      · iexact Hn
      · iexact Hc
    isplitl [Hf]; · iexact Hf
    isplitl [Hg]; · iexact Hg
    isplitl [Hh]; · iexact Hh
    iexact HW

/-- The body. -/
theorem body_run {R : sProp 𝕄} {Q : PUnit → sProp 𝕄} (hQ : iprop(R ∗ WhlT c a2 a3 ga be x0 x1 ∗ (mCo.view.loc (c : Thread nD τ) ↦[Finset.univ]{fullShare} codeG (rG x0 x1 ga be)) ∗ oY c a5 (rScale x0 x1 ga be)) ⊢ Q ⟨⟩) :
    iprop(R ∗ WhlT c a2 a3 ga be x0 x1 ∗ (∃ f, mCo.view.loc (c : Thread nD τ) ↦[Finset.univ]{fullShare} f) ∗ (∃ y, oY c a5 y)) ⊢ WP c (ap cc0_gn_silu_fp8 a2 ha2 a3 ha3 a5 ha5) Q := by
  iintro HH
  icases (show iprop(R ∗ WhlT c a2 a3 ga be x0 x1 ∗ (∃ f, mCo.view.loc (c : Thread nD τ) ↦[Finset.univ]{fullShare} f) ∗ (∃ y, oY c a5 y)) ⊢ iprop(∃ on, ∃ s1, ∃ s2, ∃ mx, ∃ mn, ∃ f6, ∃ f7, Beg c x0 x1 iprop(R ∗ Rst c a2 a3 a5 ga be) on s1 s2 mx mn f6 f7 0) from by
    unfold WhlT Beg Rst
    iintro ⟨HR, ⟨⟨⟨%f6, H6⟩, ⟨%f7, H7⟩, ⟨%s1, H1⟩, ⟨%s2, H2⟩, ⟨%mx, H3⟩, ⟨%mn, H4⟩, HA, HB⟩, Ha2, Ha3, ⟨%on, HO⟩, H0, Hx, Ho, Hs, Hq, HW⟩, Hc, Ha5⟩
    iexists on, s1, s2, mx, mn, f6, f7
    isplitr [H6 H7 H0 Hx Hs]
    · isplitl [HR HA HB Ha2 Ha3 Ha5 Ho Hc Hq HW]
      · isplitr [HW]
        · isplitl [HR]; · iexact HR
          isplitl [HA]; · iexact HA
          isplitl [HB]; · iexact HB
          isplitl [Ha2]; · iexact Ha2
          isplitl [Ha3]; · iexact Ha3
          isplitl [Ha5]; · iexact Ha5
          isplitl [Ho]; · iexact Ho
          isplitl [Hc] <;> iassumption
        · iexact HW
      · isplitl [HO]; · iexact HO
        isplitl [H1]; · iexact H1
        isplitl [H2]; · iexact H2
        isplitl [H3] <;> iassumption
    · iapply (in_start f6 f7)
      isplitl [H6]; · iexact H6
      isplitl [H7]; · iexact H7
      isplitl [H0]; · iexact H0
      isplitl [Hx] <;> iassumption) $$ HH with ⟨%on, %s1, %s2, %mx, %mn, %f6, %f7, HB⟩
  iapply (run_at (R := R) (on := on) (s1 := s1) (s2 := s2) (mx := mx) (mn := mn) (f6 := f6) (f7 := f7) hQ)
  iexact HB
end

end Cert.KernelIdeal.Hand
-- ==== Proof.KI.XFrame.lean ====
/-
  The run, its results and the frame.
-/
module

public import proofs.«01_k».proof.Proof.KI.XRun
public import Idealize.ShloMosaic.Lib.Pipeline.FrameValue
public import Idealize.ShloMosaic.Lib.Pipeline.Value

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The run up to the kernel's region -/

abbrev V (c : Dev nD) (b : Ref sig .tc) : Buf (Elt F) ((c : Thread nD τ).loc b) := m ((c : Thread nD τ).loc b)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The operands the body's transfers read, and the result they write. -/
def H0 : Finset (Ref sig .tc) := {main_arg0, main_arg1}
def R0 : Finset (Ref sig .tc) := {main_v0_0}
theorem H0_sub : H0 ⊆ Pipeline.restRefs sig spec0 := by decide
theorem R0_sub : R0 ⊆ Pipeline.restRefs sig spec0 \ H0 := by decide

/-- The body's nineteen transfer cells: the sixteen of the rows coming in, then the three of the rows going out. -/
def osem0 : Fin 19 → SemLoc sig := fun j => if h : j.val < 16 then SemLoc.dma (inSem ⟨j.val, h⟩) else SemLoc.dma (outSem ⟨j.val - 16, by omega⟩)
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(bigSep Finset.univ (fun b => semVal ((c : Thread nD τ), SemLoc.dma (inSem b)) 0) ∗ bigSep Finset.univ (fun b => semVal ((c : Thread nD τ), SemLoc.dma (outSem b)) 0)) := by
  unfold Pipeline.ownSems0
  rw [bigSep_univ_eq_bigSepL (List.finRange 19) (by decide) (by decide), bigSep_univ_eq_bigSepL (List.finRange 16) (by decide) (by decide), bigSep_univ_eq_bigSepL (List.finRange 3) (by decide) (by decide)]
  change iprop(_ ∗ _ ∗ _ ∗ _ ∗ _ ∗ _ ∗ _ ∗ _ ∗ _ ∗ _ ∗ _ ∗ _ ∗ _ ∗ _ ∗ _ ∗ _ ∗ _ ∗ _ ∗ _) = iprop((_ ∗ _ ∗ _ ∗ _ ∗ _ ∗ _ ∗ _ ∗ _ ∗ _ ∗ _ ∗ _ ∗ _ ∗ _ ∗ _ ∗ _ ∗ _) ∗ _ ∗ _ ∗ _)
  have sep_assoc_eq (P Q R : sProp 𝕄) : iprop((P ∗ Q) ∗ R) = iprop(P ∗ Q ∗ R) := equiv_iff.mp ⟨BI.sep_assoc, BI.sep_assoc'⟩
  simp only [sep_assoc_eq]
  rfl

theorem hbmPts0_eq (c : Dev nD) :
    (bigSep H0 (fun b => ((c : Thread nD τ).loc b) ↦{fullShare} V m c b) : sProp 𝕄)
      = iprop((mXuH.view.loc (c : Thread nD τ) ↦[Finset.univ]{fullShare} V m c main_arg0) ∗ (mXsH.view.loc (c : Thread nD τ) ↦[Finset.univ]{fullShare} V m c main_arg1)) := by
  rw [BI.bigSep_eq_bigSepL_of_eq [main_arg0, main_arg1] (by decide) (by decide)]; rfl

/-- The body's operands in their staging buffers. -/
abbrev ms0_0 (t : Fin cfg0.N) : Memref sig .tc .vmem S1280 .f32 := win0_0.stage (cfg0.slots t 0)
abbrev ms0_1 (t : Fin cfg0.N) : Memref sig .tc .vmem S1280 .f32 := win0_1.stage (cfg0.slots t 1)
abbrev ms0_2 (t : Fin cfg0.N) : Memref sig .tc .smem S1x1 .f32 := win0_2.stage (cfg0.slots t 2)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The scale and shift the body reads. -/
def gaV (c : Dev nD) : S1280.Idx → Elt F .f32 := iblk m c 0 (0 : Fin 1)
def beV (c : Dev nD) : S1280.Idx → Elt F .f32 := iblk m c 1 (0 : Fin 1)
/-- The codes the body writes. -/
def codesV (c : Dev nD) : S16x1024x1280.Idx → Elt F .fp8e4m3 := codeG (rG (V m c main_arg0) (V m c main_arg1) (gaV m c) (beV m c))
/-- The scale the body writes. -/
def scaleV (c : Dev nD) : F .f32 := rScale (V m c main_arg0) (V m c main_arg1) (gaV m c) (beV m c)

/-- What every buffer holds after the body. -/
def GV (c : Dev nD) : (b : Ref sig .tc) → Buf (Elt F) ((c : Thread nD τ).loc b) := Function.update (V m c) main_v0_0 (codesV m c)

theorem routedV_eq (c : Dev nD) :
    (Pipeline.routed R0 c (V m c) : sProp 𝕄) = (mCo.view.loc (c : Thread nD τ) ↦[Finset.univ]{fullShare} V m c main_v0_0) := by
  unfold Pipeline.routed; rw [BI.bigSep_eq_bigSepL_of_eq [main_v0_0] (by decide) (by decide)]; rfl
theorem routedG_eq (c : Dev nD) :
    (Pipeline.routed R0 c (GV m c) : sProp 𝕄) = (mCo.view.loc (c : Thread nD τ) ↦[Finset.univ]{fullShare} codesV m c) := by
  unfold Pipeline.routed GV; rw [BI.bigSep_eq_bigSepL_of_eq [main_v0_0] (by decide) (by decide)]
  show iprop(((c : Thread nD τ).loc main_v0_0) ↦{fullShare} Function.update (V m c) main_v0_0 (codesV m c) main_v0_0) = _
  rw [Function.update_self]

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => fun _ => scaleV m c
    | ⟨_ + 3, h⟩ => absurd h (Nat.not_lt.mpr (Nat.le_add_left _ _))
  Φ t := match t.val with
    | 0 => Pipeline.ΦDRG osem0 spec0 H0 R0 (V m) (V m) c
    | _ + 1 => Pipeline.ΦDRG osem0 spec0 H0 R0 (V m) (GV m) c
  q _ := fullShare
  owed _ := 0

theorem A_eq (c : Dev nD) (w : Fin cfg0.W) : (dats m 0 c).A w = V m c (Pipeline.arrRef spec0 w) := by
  dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [show (dats m 0 c).after 0 t = iblk m c 0 t from rfl]; unfold Dat.blockOf iblk; rw [A_eq]; try rfl) t d).trans (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [show (dats m 0 c).after 1 t = iblk m c 1 t from rfl]; unfold Dat.blockOf iblk; rw [A_eq]; try rfl) t d).trans (by unfold Dat.fetched Dat.blockOf iblk; rw [A_eq]; try rfl)

/-- A point's operands are the first point's: there is one point. -/
theorem pt_eq (t : Fin cfg0.N) : t = (0 : Fin 1) := Subsingleton.elim (α := Fin 1) _ _
theorem y_any {c : Dev nD} (a5 : Memref sig .tc .smem S1x1 .f32) (X : S1x1.Idx → Elt F .f32) :
    owns (c : Thread nD τ) a5 fullShare X ⊢ (iprop(∃ y, oY c a5 y) : sProp 𝕄) := by
  iintro H
  iexists (X (fun | 0 => (0 : Fin 1) | 1 => (0 : Fin 1)))
  iapply (Entails.of_eq (congrArg (fun X => owns (c : Thread nD τ) a5 fullShare X) (show X = fun _ => X (fun | 0 => (0 : Fin 1) | 1 => (0 : Fin 1)) from by
    funext i
    congr 1
    funext a
    match a with
    | 0 => exact Subsingleton.elim (α := Fin 1) _ _
    | 1 => exact Subsingleton.elim (α := Fin 1) _ _)))
  iexact H

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (ms0_0 t) fullShare (iblk m c 0 t)
    ∗ owns (c : Thread nD τ) (ms0_1 t) fullShare (iblk m c 1 t)
    ∗ owns (c : Thread nD τ) (ms0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  have ht := pt_eq t
  subst ht
  unfold bodyPre bodyPost
  rw [show (dats m 0 c).Φ (Fin.castSucc (0 : Fin 1)) = Pipeline.ΦDRG osem0 spec0 H0 R0 (V m) (V m) c from rfl, show (dats m 0 c).Φ (Fin.succ (0 : Fin 1)) = Pipeline.ΦDRG osem0 spec0 H0 R0 (V m) (GV m) c from rfl]
  rw [Pipeline.ΦDRG_eq, Pipeline.ΦDRG_eq, scopedRest0_eq, ownSems00_eq, hbmPts0_eq, routedV_eq, routedG_eq]
  unfold Dat.owesAt Pipeline.owesWithin
  rw [show (dats m 0 c).owed (Fin.castSucc (0 : Fin 1)) = 0 from rfl, show (dats m 0 c).owed (Fin.succ (0 : Fin 1)) = 0 from rfl]
  simp only [before0_0, before0_1]
  iintro ⟨⟨⟨H0, H1, H2, H3, H4, H5, H6, H7, H8, H9⟩, Hg, ⟨Hi, Ho⟩, ⟨Hx, Hy⟩, Hc⟩, ⟨%W, -, HW⟩, ⟨%d2, Ha2⟩, ⟨%d3, Ha3⟩, ⟨%d5, Ha5⟩⟩
  iapply (body_run (c := c) (a2 := ms0_0 (0 : Fin 1)) (a3 := ms0_1 (0 : Fin 1)) (a5 := ms0_2 (0 : Fin 1)) (ga := gaV m c) (be := beV m c) (x0 := V m c main_arg0) (x1 := V m c main_arg1) (R := iprop(∃ r, prngReg c r)) (by
    unfold WhlT owE
    iintro ⟨Hg, ⟨⟨H0, H1, H3, H4, H5, H6, H7, H8⟩, Ha2, Ha3, H9, Hx, Hy, H2, Hi, Ho, ⟨%W', HW⟩⟩, Hc, Ha5⟩
    isplitr [Ha2 Ha3 Ha5 HW]
    · isplitl [H0 H1 H2 H3 H4 H5 H6 H7 H8 H9]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitl [Hg]; · iexact Hg
      isplitl [Hi Ho]
      · isplitl [Hi] <;> iassumption
      isplitl [Hx Hy]
      · isplitl [Hx] <;> iassumption
      iexact Hc
    isplitl [HW]
    · iexists W'; isplitr; · ipureintro; exact fun _ _ => Or.inl trivial
      iexact HW
    isplitl [Ha2]; · iexact Ha2
    isplitl [Ha3]; · iexact Ha3
    iexact Ha5))
  unfold WhlT owE
  isplitl [Hg]; · iexact Hg
  isplitr [Hc Ha5]
  · isplitl [H0 H1 H3 H4 H5 H6 H7 H8]
    · isplitl [H0]; · iexact H0
      isplitl [H1]; · iexact H1
      isplitl [H3]; · iexact H3
      isplitl [H4]; · iexact H4
      isplitl [H5]; · iexact H5
      isplitl [H6]; · iexact H6
      isplitl [H7]; · iexact H7
      iexact H8
    isplitl [Ha2]; · iexact Ha2
    isplitl [Ha3]; · iexact Ha3
    isplitl [H9]; · iexact H9
    isplitl [Hx]; · iexact Hx
    isplitl [Hy]; · iexact Hy
    isplitl [H2]; · iexact H2
    isplitl [Hi]; · iexact Hi
    isplitl [Ho]; · iexact Ho
    iexists W; iexact HW
  isplitl [Hc]
  · iexists _; iexact Hc
  · iapply (y_any (ms0_2 (0 : Fin 1)) _)
    iexact Ha5

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationLoose (dats (F := F) m 0 c) (defs₀ (F := F)) Variants.none () Set.univ := fun t => by
  rw [bigSep_W0, bigSep_W0, defs₀_row]
  exact triple_restated (sound_body m c t) rfl .rfl fun _ => .rfl

/-! ## The run, its results and the frame -/

set_option backward.isDefEq.respectTransparency.types false in
theorem run_main : θ_run defs (onTc (τ := τ) (main (F := F))) (s₀ m ρ)
    (fun r => Pipeline.FramePostRG cfgs (dats m) (0 : Fin 1) R0 (V m) (GV m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => body_obligation m c) (hshare := fun c => (dats m 0 c).share_full fun _ => rfl)
    (howed := fun _ _ => rfl) (V := V m) (hmain := hmain m Variants.none) (hA := A_eq m) (G := GV m)
    (hin := fun _ => .rfl) (hout := fun _ => .rfl)

/-- The scale's array at the end. -/
theorem arr2 (c : Dev nD) : (dats m 0 c).arrAt 2 cfg0.N = fun _ => scaleV m c := by
  have h := (dats m 0 c).read_blk_arrAt_eq_flushed 2 (by decide +kernel) cfg0.N (0 : Fin 1) (by decide) (by decide +kernel)
  funext i
  have hi : i = ((cfg0.win 2).blk (0 : Fin 1)).view.emb i := by
    funext a
    match a with
    | 0 => exact Subsingleton.elim (α := Fin 1) _ _
    | 1 => exact Subsingleton.elim (α := Fin 1) _ _
  have h2 := congrFun h i
  rw [hi]
  exact h2

/-- The run: the results at their values, the arguments as they were, every counter at zero. -/
theorem run_values : θ_run defs (onTc (τ := τ) (main (F := F))) ⟨m, fun _ => 0, ρ⟩ (fun r => (∀ c : Dev nD,
      r.2.mem ((c.tc : Thread nD τ).loc main_v0_0) = codesV m c
      ∧ r.2.mem ((c.tc : Thread nD τ).loc main_v0_1) = (fun _ => scaleV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1.2 c main_v0_0 (by decide)).trans (Function.update_self ..), ((h.1.1 c).1 2).trans (arr2 m c),
      (h.1.1 c).2 main_arg0 (Finset.mem_sdiff.mpr ⟨Pipeline.mem_restRefs_of main_arg0 (by decide) (by decide), by decide⟩),
      (h.1.1 c).2 main_arg1 (Finset.mem_sdiff.mpr ⟨Pipeline.mem_restRefs_of main_arg1 (by decide) (by decide), by decide⟩),
      ((h.1.1 c).1 0).trans ((dats m 0 c).arrAt_in 0 rfl _), ((h.1.1 c).1 1).trans ((dats m 0 c).arrAt_in 1 rfl _)⟩, h.2⟩) (run_main m ρ)

/-- The frame: the arguments keep their contents, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2.2, h.2⟩) (run_values m ρ)

/-- The scale and shift the body reads are the arguments. -/
theorem gaV_eq (c : Dev nD) : gaV m c = m ((c.tc : Thread nD τ).loc main_arg2) := by
  funext i
  have hi : ((cfg0.win 0).blk (0 : Fin 1)).view.emb i = i := by
    funext a
    match a with
    | 0 => exact Fin.ext (by show 0 + 1 * (i 0).val = (i 0).val; omega)
  show m ((c.tc : Thread nD τ).loc main_arg2) (((cfg0.win 0).blk (0 : Fin 1)).view.emb i) = _
  rw [hi]
theorem beV_eq (c : Dev nD) : beV m c = m ((c.tc : Thread nD τ).loc main_arg3) := by
  funext i
  have hi : ((cfg0.win 1).blk (0 : Fin 1)).view.emb i = i := by
    funext a
    match a with
    | 0 => exact Fin.ext (by show 0 + 1 * (i 0).val = (i 0).val; omega)
  show m ((c.tc : Thread nD τ).loc main_arg3) (((cfg0.win 1).blk (0 : Fin 1)).view.emb i) = _
  rw [hi]

end Cert.KernelIdeal.Hand
-- ==== Proof.KI.M1.lean ====
/-
  The reductions of the kernel at real numbers.
-/
module

public import proofs.«01_k».proof.Proof.KI.XRun
public import Idealize.ShloMosaic.Lib.Pointwise

@[expose] public section

set_option maxRecDepth 65536

noncomputable section

namespace Cert.KernelIdeal.Hand

open Cert.KernelIdeal Cert.KernelIdeal.Gen
open Idealize.ShloMosaic Idealize.ShloMosaic.TcCoe
open Finset

/-- A finite sum of real numbers, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- The maximum of finitely many real numbers from the bottom, over a nonempty type. -/
theorem fold_max_coe {ι : Type} [Fintype ι] [Nonempty ι] (f : ι → ℝ) :
    Finset.fold max (⊥ : EReal) (fun i => (f i : EReal)) univ = ((univ.sup' univ_nonempty f : ℝ) : EReal) := by
  apply le_antisymm
  · rw [Finset.fold_max_le]
    exact ⟨bot_le, fun x hx => EReal.coe_le_coe_iff.2 (Finset.le_sup' f hx)⟩
  · obtain ⟨i, hi, e⟩ := Finset.exists_mem_eq_sup' univ_nonempty f
    rw [e, Finset.le_fold_max]
    exact .inr ⟨i, hi, le_rfl⟩
theorem fold_min_coe {ι : Type} [Fintype ι] [Nonempty ι] (f : ι → ℝ) :
    Finset.fold min (⊤ : EReal) (fun i => (f i : EReal)) univ = ((univ.inf' univ_nonempty f : ℝ) : EReal) := by
  apply le_antisymm
  · obtain ⟨i, hi, e⟩ := Finset.exists_mem_eq_inf' univ_nonempty f
    rw [e, Finset.fold_min_le]
    exact .inr ⟨i, hi, le_rfl⟩
  · rw [Finset.le_fold_min]
    exact ⟨le_top, fun x hx => EReal.coe_le_coe_iff.2 (Finset.inf'_le f hx)⟩

theorem ofBits_ninf : Ideal.ofBits .f32 4286578688#32 = ⊥ := by
  simp [Ideal.ofBits, Ideal.ieee]
theorem ofBits_pinf : Ideal.ofBits .f32 2139095040#32 = ⊤ := by
  simp [Ideal.ofBits, Ideal.ieee]

theorem toInt_small (n : ℕ) (h : n < 2147483648) : (BitVec.ofNat 32 n).toInt = (n : ℤ) := by
  rw [BitVec.toInt_eq_toNat_of_lt] <;> rw [BitVec.toNat_ofNat, Nat.mod_eq_of_lt] <;> omega
theorem ind_word (c : Fin 1280) (g : Fin 128) :
    IntOp.andi (IntOp.cmpi CmpIPredicate.sge (BitVec.ofNat 32 ↑c) (IntOp.muli (BitVec.ofNat 32 ↑g) 40#32))
        (IntOp.cmpi CmpIPredicate.slt (BitVec.ofNat 32 ↑c) (IntOp.addi (IntOp.muli (BitVec.ofNat 32 ↑g) 40#32) 40#32)) =
      if c.val / 40 = g.val then 1#1 else 0#1 := by
  have hc := c.isLt
  have hg := g.isLt
  have e1 : (BitVec.ofNat 32 ↑c).toInt = (c.val : ℤ) := toInt_small _ (by omega)
  have e2 : IntOp.muli (BitVec.ofNat 32 ↑g) 40#32 = BitVec.ofNat 32 (g.val * 40) := by
    show BitVec.ofNat 32 ↑g * 40#32 = _
    rw [← BitVec.ofNat_mul]
  have e3 : IntOp.addi (BitVec.ofNat 32 (g.val * 40)) 40#32 = BitVec.ofNat 32 (g.val * 40 + 40) := by
    show BitVec.ofNat 32 (g.val * 40) + 40#32 = _
    rw [← BitVec.ofNat_add]
  have e4 : (BitVec.ofNat 32 (g.val * 40)).toInt = ((g.val * 40 : ℕ) : ℤ) := toInt_small _ (by omega)
  have e5 : (BitVec.ofNat 32 (g.val * 40 + 40)).toInt = ((g.val * 40 + 40 : ℕ) : ℤ) := toInt_small _ (by omega)
  rw [e2, e3]
  simp only [IntOp.cmpi, BitVec.sle, BitVec.slt, e1, e4, e5]
  split
  · rw [decide_eq_true (by omega), decide_eq_true (by omega)]; rfl
  · by_cases h : ((g.val * 40 : ℕ) : ℤ) ≤ (c.val : ℤ)
    · rw [decide_eq_true h, decide_eq_false (by omega)]; rfl
    · rw [decide_eq_false h]; cases decide ((c.val : ℤ) < ((g.val * 40 + 40 : ℕ) : ℤ)) <;> rfl

/-- The indicator of a channel's group. -/
theorem r209_at (c : Fin 1280) (g : Fin 128) : r209 (F := Ideal) (ix2 c g) = ((if c.val / 40 = g.val then 1 else 0 : ℝ) : EReal) := by
  pointwise [r209, k0_pay1952]
  rw [ind_word]
  split <;> rfl
theorem r222_at (c : Fin 1280) (g : Fin 128) : r222 (F := Ideal) (ix2 g c) = ((if c.val / 40 = g.val then 1 else 0 : ℝ) : EReal) := by
  pointwise [r222, k0_pay1953]
  rw [ind_word]
  split <;> rfl

theorem named_at : Named.named (F := Ideal) κ "inv_n" (φ := .f32) 936168653#32 = ((1 / 40960 : ℝ) : EReal) := rfl

/-- A product of a real row with an indicator, summed. -/
theorem sum_ind {k : ℕ} (s : ℕ → ℝ) (p : ℕ → Prop) [DecidablePred p] :
    (∑ x : Fin k, (s x : EReal) * (((if p x then 1 else 0 : ℝ)) : EReal)) = ((∑ x : Fin k, if p x then s x else 0 : ℝ) : EReal) := by
  rw [coe_sum]
  refine sum_congr rfl fun x _ => ?_
  split <;> simp
theorem sum_ind0 {k : ℕ} (s : ℕ → ℝ) (w : ℕ → ℝ) :
    (∑ x : Fin k, ((s x : EReal) - (s x : EReal)) * ((w x : ℝ) : EReal)) = 0 := by
  refine sum_eq_zero fun x _ => ?_
  rw [← EReal.coe_sub, sub_self, EReal.coe_zero, zero_mul]
theorem sum_ind00 {k : ℕ} (s : ℕ → ℝ) (w : ℕ → ℝ) :
    (∑ x : Fin k, ((s x : EReal) - (s x : EReal) - ((s x : EReal) - (s x : EReal))) * ((w x : ℝ) : EReal)) = 0 := by
  refine sum_eq_zero fun x _ => ?_
  rw [← EReal.coe_sub, sub_self, EReal.coe_zero, sub_zero, zero_mul]

/-- The three-way split product with the group indicator, at finite values: the plain sum over the group. -/
theorem p1955_at (v : FVec Ideal S16x1x1280 .f32) (s : ℕ → ℕ → ℝ) (hv : ∀ (n : Fin 16) (c : Fin 1280), v (ix3 n 0 c) = ((s n c : ℝ) : EReal)) (n : Fin 16) (g : Fin 128) :
    k0_pay1955 (r209 (F := Ideal)) v (ix2 n g) = ((∑ c : Fin 1280, if c.val / 40 = g.val then s n c else 0 : ℝ) : EReal) := by
  have hn := n.isLt
  pointwise [k0_pay1955]
  simp only [hv, r209_at, dif_neg (show ¬ (32 + n.val < 16) by omega), dif_neg (show ¬ (32 + n.val - 16 < 16) by omega), show 32 + n.val - 16 - 16 = n.val by omega]
  rw [sum_ind00 (s n) (fun x => if x / 40 = g.val then 1 else 0), sum_ind0 (s n) (fun x => if x / 40 = g.val then 1 else 0), zero_add, zero_add, sum_ind (s n) (fun x => x / 40 = g.val)]
theorem p1954_at (v : FVec Ideal S16x1x1280 .f32) (s : ℕ → ℕ → ℝ) (hv : ∀ (n : Fin 16) (c : Fin 1280), v (ix3 n 0 c) = ((s n c : ℝ) : EReal)) (n : Fin 16) (g : Fin 128) :
    k0_pay1954 (r209 (F := Ideal)) v (ix2 n g) = (((∑ c : Fin 1280, if c.val / 40 = g.val then s n c else 0) * (1 / 40960) : ℝ) : EReal) := by
  have hn := n.isLt
  pointwise [k0_pay1954]
  simp only [hv, r209_at, dif_neg (show ¬ (32 + n.val < 16) by omega), dif_neg (show ¬ (32 + n.val - 16 < 16) by omega), show 32 + n.val - 16 - 16 = n.val by omega]
  rw [sum_ind00 (s n) (fun x => if x / 40 = g.val then 1 else 0), sum_ind0 (s n) (fun x => if x / 40 = g.val then 1 else 0), zero_add, zero_add, sum_ind (s n) (fun x => x / 40 = g.val), named_at, ← EReal.coe_mul]

/-- The variance from the two sums, and its reciprocal root. -/
theorem p1956_at (a b : FVec Ideal S16x128 .f32) (n : Fin 16) (g : Fin 128) (x y z : ℝ) (ha : a (ix2 n g) = (x : EReal)) (hb : b (ix2 n g) = (y : EReal))
    (hz : 0 ≤ z) (e : y * (1 / 40960) - x * x = z) :
    k0_pay1956 a b (Named.named (F := Ideal) κ "inv_n" 0x37CCCCCD#32) (ix2 n g) = (z : EReal) := by
  pointwise [k0_pay1956]
  rw [ha, hb, named_at, ← EReal.coe_mul, ← EReal.coe_mul, ← EReal.coe_sub, e]
  exact max_eq_left (EReal.coe_nonneg.2 hz)

theorem pick_sum (c : Fin 1280) (w : ℕ → ℝ) :
    (∑ g : Fin 128, if c.val / 40 = g.val then w g else 0) = w (c.val / 40) := by
  have hc := c.isLt
  rw [sum_eq_single (⟨c.val / 40, by omega⟩ : Fin 128)]
  · simp
  · intro b _ hb
    rw [if_neg]
    intro h
    exact hb (Fin.ext h.symm)
  · intro h; exact absurd (mem_univ _) h

/-- The spread from the groups to the channels. -/
theorem p1958_at (v : FVec Ideal S16x128 .f32) (s : ℕ → ℕ → ℝ) (hv : ∀ (n : Fin 16) (g : Fin 128), v (ix2 n g) = ((s n g : ℝ) : EReal)) (n : Fin 16) (c : Fin 1280) :
    k0_pay1958 (r222 (F := Ideal)) v (ix2 n c) = ((s n (c.val / 40) : ℝ) : EReal) := by
  have hn := n.isLt
  pointwise [k0_pay1958]
  simp only [hv, r222_at, dif_neg (show ¬ (32 + n.val < 16) by omega), dif_neg (show ¬ (32 + n.val - 16 < 16) by omega), show 32 + n.val - 16 - 16 = n.val by omega]
  rw [sum_ind00 (s n) (fun x => if c.val / 40 = x then 1 else 0), sum_ind0 (s n) (fun x => if c.val / 40 = x then 1 else 0), zero_add, zero_add, sum_ind (s n) (fun x => c.val / 40 = x), pick_sum c (s n)]

/-- The small constant added to a variance. -/
def epsR : ℝ := 10995116 * (2 : ℝ) ^ (-40 : ℤ)
theorem eps_pos : 0 < epsR := by unfold epsR; positivity
theorem ofBits_eps : Ideal.ofBits .f32 925353388#32 = (epsR : EReal) := by
  simp [Ideal.ofBits, Ideal.ieee, epsR]
theorem rsqrt_coe (x : ℝ) (h : 0 < x) : Ideal.rsqrt (x : EReal) = (((Real.sqrt x)⁻¹ : ℝ) : EReal) := by
  show (if x < 0 then ⊥ else if x = 0 then ⊤ else (((Real.sqrt x)⁻¹ : ℝ) : EReal)) = _
  rw [if_neg (not_lt.2 h.le), if_neg h.ne']

/-- The reciprocal root of a variance, spread to the channels. -/
theorem p1959_at (a b : FVec Ideal S16x128 .f32) (z : ℕ → ℕ → ℝ) (hz : ∀ n g, 0 ≤ z n g)
    (h : ∀ (n : Fin 16) (g : Fin 128), k0_pay1956 a b (Named.named (F := Ideal) κ "inv_n" 0x37CCCCCD#32) (ix2 n g) = ((z n g : ℝ) : EReal)) (n : Fin 16) (c : Fin 1280) :
    k0_pay1959 (r222 (F := Ideal)) a b (Named.named (F := Ideal) κ "inv_n" 0x37CCCCCD#32) (ix3 n 0 c) = (((Real.sqrt (z n (c.val / 40) + epsR))⁻¹ : ℝ) : EReal) := by
  have hn := n.isLt
  pointwise [k0_pay1959]
  simp only [h, r222_at, ofBits_eps, ← EReal.coe_add, rsqrt_coe _ (add_pos_of_nonneg_of_pos (hz _ _) eps_pos), dif_neg (show ¬ (32 + n.val < 16) by omega), dif_neg (show ¬ (32 + n.val - 16 < 16) by omega), show 32 + n.val - 16 - 16 = n.val by omega]
  rw [sum_ind00 (fun g => (Real.sqrt (z n g + epsR))⁻¹) (fun x => if c.val / 40 = x then 1 else 0), sum_ind0 (fun g => (Real.sqrt (z n g + epsR))⁻¹) (fun x => if c.val / 40 = x then 1 else 0), zero_add, zero_add, sum_ind (fun g => (Real.sqrt (z n g + epsR))⁻¹) (fun x => c.val / 40 = x), pick_sum c (fun g => (Real.sqrt (z n g + epsR))⁻¹)]

/-- The same from the centred squares. -/
theorem p1968_at (v : FVec Ideal S16x1x1280 .f32) (s z : ℕ → ℕ → ℝ) (hv : ∀ (n : Fin 16) (c : Fin 1280), v (ix3 n 0 c) = ((s n c : ℝ) : EReal)) (hz : ∀ n g, 0 ≤ z n g)
    (e : ∀ n g, (∑ c : Fin 1280, if c.val / 40 = g then s n c else 0) * (1 / 40960) = z n g) (n : Fin 16) (c : Fin 1280) :
    k0_pay1968 (r209 (F := Ideal)) (r222 (F := Ideal)) v (ix3 n 0 c) = (((Real.sqrt (z n (c.val / 40) + epsR))⁻¹ : ℝ) : EReal) := by
  have h1 : k0_pay1968 (r209 (F := Ideal)) (r222 (F := Ideal)) v = shapeCast S16x1x1280 (k0_pay1958 (r222 (F := Ideal)) (rsqrt (addf (k0_pay1954 (r209 (F := Ideal)) v) (broadcast S16x128 (Scalar.ofBits .f32 0x3727C5AC#32))))) shapeCasts_S16x1280_S16x1x1280 := rfl
  rw [h1]
  have h2 := p1958_at (rsqrt (addf (k0_pay1954 (r209 (F := Ideal)) v) (broadcast S16x128 (Scalar.ofBits .f32 0x3727C5AC#32)))) (fun n g => (Real.sqrt (z n g + epsR))⁻¹) (fun n g => by
    have h3 := p1954_at v s hv n g
    rw [e] at h3
    pointwise
    rw [h3, ofBits_eps, ← EReal.coe_add, rsqrt_coe _ (add_pos_of_nonneg_of_pos (hz _ _) eps_pos)]) n c
  rw [← h2]
  pointwise

end Cert.KernelIdeal.Hand
-- ==== Proof.KI.M2.lean ====
/-
  The statistics of the kernel at real numbers.
-/
module

public import proofs.«01_k».proof.Proof.KI.M1

@[expose] public section

set_option maxRecDepth 65536

noncomputable section

namespace Cert.KernelIdeal.Hand

open Cert.KernelIdeal Cert.KernelIdeal.Gen
open Idealize.ShloMosaic Idealize.ShloMosaic.TcCoe
open Finset

/-- The two inputs hold the real numbers `X row position channel`. -/
structure Holds (x0 : S16x1024x768.Idx → Elt Ideal .bf16) (x1 : S16x1024x512.Idx → Elt Ideal .bf16) (X : ℕ → ℕ → ℕ → ℝ) : Prop where
  up : ∀ n r c, n < 16 → r < 1024 → c < 768 → at3 16 1024 768 x0 n r c = ((X n r c : ℝ) : EReal)
  sk : ∀ n r c, n < 16 → r < 1024 → c < 512 → at3 16 1024 512 x1 n r c = ((X n r (768 + c) : ℝ) : EReal)

variable {x0 : S16x1024x768.Idx → Elt Ideal .bf16} {x1 : S16x1024x512.Idx → Elt Ideal .bf16} {X : ℕ → ℕ → ℕ → ℝ}

theorem tl_at (H : Holds x0 x1 X) (b t j : ℕ) (hb : b < 16) (ht : t < 5) (hj : j < 128) (s : Fin 8) (q : Fin 256) :
    tl x0 x1 b t j (ix3 0 s q) = ((X b (8 * j + s.val) (256 * t + q.val) : ℝ) : EReal) := by
  have hs := s.isLt
  have hq := q.isLt
  match t, ht with
  | 0, _ => exact (H.up b (8 * j + s.val) (0 + q.val) hb (by omega) (by omega)).trans (by rw [show 0 + q.val = 256 * 0 + q.val by omega])
  | 1, _ => exact (H.up b (8 * j + s.val) (256 + q.val) hb (by omega) (by omega)).trans (by rw [show 256 + q.val = 256 * 1 + q.val by omega])
  | 2, _ => exact (H.up b (8 * j + s.val) (512 + q.val) hb (by omega) (by omega)).trans (by rw [show 512 + q.val = 256 * 2 + q.val by omega])
  | 3, _ => exact (H.sk b (8 * j + s.val) (0 + q.val) hb (by omega) (by omega)).trans (by rw [show 768 + (0 + q.val) = 256 * 3 + q.val by omega])
  | 4, _ => exact (H.sk b (8 * j + s.val) (256 + q.val) hb (by omega) (by omega)).trans (by rw [show 768 + (256 + q.val) = 256 * 4 + q.val by omega])

theorem sum_blocks (f : ℕ → ℝ) (J : ℕ) : ∑ s : Fin 8, ∑ j ∈ range J, f (8 * j + s.val) = ∑ r ∈ range (8 * J), f r := by
  rw [sum_comm]
  induction J with
  | zero => simp
  | succ J ih =>
    rw [sum_range_succ, ih, show 8 * (J + 1) = 8 * J + 7 + 1 by omega]
    simp only [sum_range_succ, Fin.sum_univ_eight, Fin.isValue]
    simp
    try ring

theorem s1c_at (H : Holds x0 x1 X) (b t n : ℕ) (hb : b < 16) (ht : t < 5) (hn : n < 128) (s : Fin 8) (q : Fin 256) :
    s1c (tl x0 x1 b t) (k0_pay1 (k0_pay1947 (F := Ideal))) n (ix2 s q) = ((∑ j ∈ range (n + 1), X b (8 * j + s.val) (256 * t + q.val) : ℝ) : EReal) := by
  induction n with
  | zero =>
    pointwise [s1c, eB, cB, k0_pay1, k0_pay1947]
    rw [tl_at H b t 0 hb ht hn]
    simp
  | succ n ih =>
    have ih := ih (by omega)
    have e : s1c (tl x0 x1 b t) (k0_pay1 (k0_pay1947 (F := Ideal))) (n + 1) = addf (s1c (tl x0 x1 b t) (k0_pay1 (k0_pay1947 (F := Ideal))) n) (mulf (eB (tl x0 x1 b t) (n + 1)) (k0_pay1 (k0_pay1947 (F := Ideal)))) := rfl
    rw [e]
    generalize s1c (tl x0 x1 b t) (k0_pay1 (k0_pay1947 (F := Ideal))) n = w at ih
    pointwise [eB, cB, k0_pay1, k0_pay1947]
    rw [tl_at H b t (n + 1) hb ht hn, ih, sum_range_succ _ (n + 1), EReal.coe_add]

theorem s2c_at (H : Holds x0 x1 X) (b t n : ℕ) (hb : b < 16) (ht : t < 5) (hn : n < 128) (s : Fin 8) (q : Fin 256) :
    s2c (tl x0 x1 b t) n (ix2 s q) = ((∑ j ∈ range (n + 1), X b (8 * j + s.val) (256 * t + q.val) ^ 2 : ℝ) : EReal) := by
  induction n with
  | zero =>
    pointwise [s2c, eB, cB]
    rw [tl_at H b t 0 hb ht hn, ← EReal.coe_mul]
    simp [sq]
  | succ n ih =>
    have ih := ih (by omega)
    have e : s2c (tl x0 x1 b t) (n + 1) = addf (s2c (tl x0 x1 b t) n) (mulf (eB (tl x0 x1 b t) (n + 1)) (eB (tl x0 x1 b t) (n + 1))) := rfl
    rw [e]
    generalize s2c (tl x0 x1 b t) n = w at ih
    pointwise [eB, cB]
    rw [tl_at H b t (n + 1) hb ht hn, ih, sum_range_succ _ (n + 1), EReal.coe_add, ← EReal.coe_mul, sq]

theorem mxc_at (H : Holds x0 x1 X) (b t n : ℕ) (hb : b < 16) (ht : t < 5) (hn : n < 128) (s : Fin 8) (q : Fin 256) :
    ∃ m : ℝ, mxc (tl x0 x1 b t) n (ix2 s q) = (m : EReal) ∧ (∀ j ≤ n, X b (8 * j + s.val) (256 * t + q.val) ≤ m) ∧ ∃ j ≤ n, m = X b (8 * j + s.val) (256 * t + q.val) := by
  induction n with
  | zero =>
    refine ⟨X b (8 * 0 + s.val) (256 * t + q.val), ?_, fun j hj => by rw [Nat.le_zero.1 hj], 0, le_rfl, rfl⟩
    pointwise [mxc, cB]
    rw [tl_at H b t 0 hb ht hn, Nat.mul_zero, Nat.zero_add]
  | succ n ih =>
    obtain ⟨m, h1, h2, j, hj, h3⟩ := ih (by omega)
    have e : mxc (tl x0 x1 b t) (n + 1) = maximumf (mxc (tl x0 x1 b t) n) (cB (tl x0 x1 b t) (n + 1)) := rfl
    refine ⟨max m (X b (8 * (n + 1) + s.val) (256 * t + q.val)), ?_, fun i hi => ?_, ?_⟩
    · rw [e]
      generalize mxc (tl x0 x1 b t) n = w at h1
      pointwise [cB]
      rw [tl_at H b t (n + 1) hb ht hn, h1, EReal.coe_strictMono.monotone.map_max]
    · rcases Nat.lt_or_ge i (n + 1) with h | h
      · exact (h2 i (by omega)).trans (le_max_left _ _)
      · rw [show i = n + 1 by omega]; exact le_max_right _ _
    · rcases max_choice m (X b (8 * (n + 1) + s.val) (256 * t + q.val)) with h | h
      · exact ⟨j, by omega, h.trans h3⟩
      · exact ⟨n + 1, le_rfl, h⟩

theorem mnc_at (H : Holds x0 x1 X) (b t n : ℕ) (hb : b < 16) (ht : t < 5) (hn : n < 128) (s : Fin 8) (q : Fin 256) :
    ∃ m : ℝ, mnc (tl x0 x1 b t) n (ix2 s q) = (m : EReal) ∧ (∀ j ≤ n, m ≤ X b (8 * j + s.val) (256 * t + q.val)) ∧ ∃ j ≤ n, m = X b (8 * j + s.val) (256 * t + q.val) := by
  induction n with
  | zero =>
    refine ⟨X b (8 * 0 + s.val) (256 * t + q.val), ?_, fun j hj => by rw [Nat.le_zero.1 hj], 0, le_rfl, rfl⟩
    pointwise [mnc, cB]
    rw [tl_at H b t 0 hb ht hn, Nat.mul_zero, Nat.zero_add]
  | succ n ih =>
    obtain ⟨m, h1, h2, j, hj, h3⟩ := ih (by omega)
    have e : mnc (tl x0 x1 b t) (n + 1) = minimumf (mnc (tl x0 x1 b t) n) (cB (tl x0 x1 b t) (n + 1)) := rfl
    refine ⟨min m (X b (8 * (n + 1) + s.val) (256 * t + q.val)), ?_, fun i hi => ?_, ?_⟩
    · rw [e]
      generalize mnc (tl x0 x1 b t) n = w at h1
      pointwise [cB]
      rw [tl_at H b t (n + 1) hb ht hn, h1, EReal.coe_strictMono.monotone.map_min]
    · rcases Nat.lt_or_ge i (n + 1) with h | h
      · exact (min_le_left _ _).trans (h2 i (by omega))
      · rw [show i = n + 1 by omega]; exact min_le_right _ _
    · rcases min_choice m (X b (8 * (n + 1) + s.val) (256 * t + q.val)) with h | h
      · exact ⟨j, by omega, h.trans h3⟩
      · exact ⟨n + 1, le_rfl, h⟩

theorem i3_eq (q : ℕ) (h : q < 256) : i3 q = ix3 0 0 (⟨q, h⟩ : Fin 256) := by
  funext a
  fin_cases a
  · rfl
  · rfl
  · exact Fin.ext (Nat.mod_eq_of_lt h)
theorem fillT_at (w : ℕ → ℕ → S1x1x256.Idx → Elt Ideal .f32) (n : Fin 16) (c : Fin 1280) :
    fillT w (ix3 n 0 c) = w n.val (c.val / 256) (ix3 0 0 (⟨c.val % 256, Nat.mod_lt _ (by omega)⟩ : Fin 256)) := by
  show w n.val (c.val / 256) (i3 (c.val % 256)) = _
  rw [i3_eq]

theorem wS1_at (H : Holds x0 x1 X) (n : Fin 16) (c : Fin 1280) :
    fillT (wS1 x0 x1) (ix3 n 0 c) = ((∑ r ∈ range 1024, X n r c : ℝ) : EReal) := by
  have hc := c.isLt
  rw [fillT_at]
  have e : wS1 x0 x1 n (c.val / 256) = k0_pay362 (s1c (tl x0 x1 n (c.val / 256)) (k0_pay1 (k0_pay1947 (F := Ideal))) 127) := rfl
  rw [e]
  have h := s1c_at H n (c.val / 256) 127 n.isLt (by omega) (by omega)
  generalize s1c (tl x0 x1 n (c.val / 256)) (k0_pay1 (k0_pay1947 (F := Ideal))) 127 = w at h
  pointwise [k0_pay362]
  simp only [h]
  rw [← coe_sum, ← sum_blocks (fun r => X n r c) 128]
  simp only [show 256 * (c.val / 256) + c.val % 256 = c.val by omega]

theorem wS2_at (H : Holds x0 x1 X) (n : Fin 16) (c : Fin 1280) :
    fillT (wS2 x0 x1) (ix3 n 0 c) = ((∑ r ∈ range 1024, X n r c ^ 2 : ℝ) : EReal) := by
  have hc := c.isLt
  rw [fillT_at]
  have e : wS2 x0 x1 n (c.val / 256) = k0_pay362 (s2c (tl x0 x1 n (c.val / 256)) 127) := rfl
  rw [e]
  have h := s2c_at H n (c.val / 256) 127 n.isLt (by omega) (by omega)
  generalize s2c (tl x0 x1 n (c.val / 256)) 127 = w at h
  pointwise [k0_pay362]
  simp only [h]
  rw [← coe_sum, ← sum_blocks (fun r => X n r c ^ 2) 128]
  simp only [show 256 * (c.val / 256) + c.val % 256 = c.val by omega]

theorem row_split (r : ℕ) (h : r < 1024) : ∃ (s : Fin 8), ∃ j ≤ 127, r = 8 * j + s.val :=
  ⟨⟨r % 8, Nat.mod_lt _ (by omega)⟩, r / 8, by omega, by show r = 8 * (r / 8) + r % 8; omega⟩

/-- The largest input of a channel. -/
theorem wMx_at (H : Holds x0 x1 X) (n : Fin 16) (c : Fin 1280) :
    ∃ m : ℝ, fillT (wMx x0 x1) (ix3 n 0 c) = (m : EReal) ∧ (∀ r < 1024, X n r c ≤ m) ∧ ∃ r < 1024, m = X n r c := by
  have hc := c.isLt
  rw [fillT_at]
  have e : wMx x0 x1 n (c.val / 256) = k0_pay364 (mxc (tl x0 x1 n (c.val / 256)) 127) := rfl
  rw [e]
  have h := mxc_at H n (c.val / 256) 127 n.isLt (by omega) (by omega)
  generalize mxc (tl x0 x1 n (c.val / 256)) 127 = w at h
  have h' := fun s => h s ⟨c.val % 256, Nat.mod_lt _ (by omega)⟩
  simp only [show 256 * (c.val / 256) + c.val % 256 = c.val by omega] at h'
  choose m h1 h2 j hj h3 using h'
  refine ⟨univ.sup' univ_nonempty m, ?_, fun r hr => ?_, ?_⟩
  · pointwise [k0_pay364]
    rw [ofBits_ninf]
    simp only [h1]
    exact fold_max_coe m
  · obtain ⟨s, j, hj, rfl⟩ := row_split r hr
    exact (h2 s j hj).trans (le_sup' m (mem_univ s))
  · obtain ⟨s, _, hs⟩ := exists_mem_eq_sup' univ_nonempty m
    have h4 := hj s
    have h5 := s.isLt
    exact ⟨8 * j s + s.val, by omega, hs.trans (h3 s)⟩
theorem wMn_at (H : Holds x0 x1 X) (n : Fin 16) (c : Fin 1280) :
    ∃ m : ℝ, fillT (wMn x0 x1) (ix3 n 0 c) = (m : EReal) ∧ (∀ r < 1024, m ≤ X n r c) ∧ ∃ r < 1024, m = X n r c := by
  have hc := c.isLt
  rw [fillT_at]
  have e : wMn x0 x1 n (c.val / 256) = finMn (mnc (tl x0 x1 n (c.val / 256)) 127) := rfl
  rw [e]
  have h := mnc_at H n (c.val / 256) 127 n.isLt (by omega) (by omega)
  generalize mnc (tl x0 x1 n (c.val / 256)) 127 = w at h
  have h' := fun s => h s ⟨c.val % 256, Nat.mod_lt _ (by omega)⟩
  simp only [show 256 * (c.val / 256) + c.val % 256 = c.val by omega] at h'
  choose m h1 h2 j hj h3 using h'
  refine ⟨univ.inf' univ_nonempty m, ?_, fun r hr => ?_, ?_⟩
  · pointwise [finMn]
    rw [ofBits_pinf]
    simp only [h1]
    exact fold_min_coe m
  · obtain ⟨s, j, hj, rfl⟩ := row_split r hr
    exact (inf'_le m (mem_univ s)).trans (h2 s j hj)
  · obtain ⟨s, _, hs⟩ := exists_mem_eq_inf' univ_nonempty m
    have h4 := hj s
    have h5 := s.isLt
    exact ⟨8 * j s + s.val, by omega, hs.trans (h3 s)⟩

/-- A row of a statistics buffer, lane by lane. -/
theorem ln_at (f : S16x1x1280.Idx → Elt Ideal .f32) (w : ℕ → ℕ → ℝ) (hf : ∀ (n : Fin 16) (c : Fin 1280), f (ix3 n 0 c) = ((w n c : ℝ) : EReal)) (k t : ℕ) (hk : k < 16) (ht : t < 5) (q : Fin 256) :
    ln f k (256 * t) (ix3 0 0 q) = ((w k (256 * t + q.val) : ℝ) : EReal) := by
  have hq := q.isLt
  have h := hf ⟨k, hk⟩ ⟨256 * t + q.val, by omega⟩
  refine Eq.trans ?_ h
  show f _ = f _
  congr 1
  funext a
  fin_cases a
  · exact Fin.ext (Nat.mod_eq_of_lt hk)
  · rfl
  · exact Fin.ext (Nat.mod_eq_of_lt (show 256 * t + q.val < 1280 by omega))

theorem cq_at (H : Holds x0 x1 X) (f : S16x1x1280.Idx → Elt Ideal .f32) (w : ℕ → ℕ → ℝ) (hf : ∀ (n : Fin 16) (c : Fin 1280), f (ix3 n 0 c) = ((w n c : ℝ) : EReal))
    (b t n : ℕ) (hb : b < 16) (ht : t < 5) (hn : n ≤ 128) (s : Fin 8) (q : Fin 256) :
    cq (ln f b (256 * t)) (tl x0 x1 b t) n (ix2 s q) = ((∑ j ∈ range n, (X b (8 * j + s.val) (256 * t + q.val) - w b (256 * t + q.val)) ^ 2 : ℝ) : EReal) := by
  induction n with
  | zero =>
    pointwise [cq, k0_pay1862]
    simp
  | succ n ih =>
    have ih := ih (by omega)
    have e : cq (ln f b (256 * t)) (tl x0 x1 b t) (n + 1) = k0_pay1863 (ln f b (256 * t)) (cq (ln f b (256 * t)) (tl x0 x1 b t) n) (tl x0 x1 b t n) := rfl
    rw [e]
    generalize cq (ln f b (256 * t)) (tl x0 x1 b t) n = z at ih
    pointwise [k0_pay1863]
    rw [tl_at H b t n hb ht (by omega), ln_at f w hf b t hb ht, ih, sum_range_succ _ n, EReal.coe_add, ← EReal.coe_sub, ← EReal.coe_mul, sq]

theorem wCq_at (H : Holds x0 x1 X) (f : S16x1x1280.Idx → Elt Ideal .f32) (w : ℕ → ℕ → ℝ) (hf : ∀ (n : Fin 16) (c : Fin 1280), f (ix3 n 0 c) = ((w n c : ℝ) : EReal))
    (n : Fin 16) (c : Fin 1280) :
    fillT (wCq x0 x1 f) (ix3 n 0 c) = ((∑ r ∈ range 1024, (X n r c - w n c) ^ 2 : ℝ) : EReal) := by
  have hc := c.isLt
  rw [fillT_at]
  have e : wCq x0 x1 f n (c.val / 256) = k0_pay1864 (cq (ln f n (256 * (c.val / 256))) (tl x0 x1 n (c.val / 256)) 128) := rfl
  rw [e]
  have h := cq_at H f w hf n (c.val / 256) 128 n.isLt (by omega) (by omega)
  generalize cq (ln f n (256 * (c.val / 256))) (tl x0 x1 n (c.val / 256)) 128 = z at h
  pointwise [k0_pay1864]
  simp only [h]
  rw [← coe_sum, ← sum_blocks (fun r => (X n r c - w n c) ^ 2) 128]
  simp only [show 256 * (c.val / 256) + c.val % 256 = c.val by omega]

end Cert.KernelIdeal.Hand
-- ==== Proof.KI.M3.lean ====
/-
  The channels' factors and offsets at real numbers.
-/
module

public import proofs.«01_k».proof.Proof.KI.M2

@[expose] public section

set_option maxRecDepth 65536

noncomputable section

namespace Cert.KernelIdeal.Hand

open Cert.KernelIdeal Cert.KernelIdeal.Gen
open Idealize.ShloMosaic Idealize.ShloMosaic.TcCoe
open Finset

variable {x0 : S16x1024x768.Idx → Elt Ideal .bf16} {x1 : S16x1024x512.Idx → Elt Ideal .bf16} (X : ℕ → ℕ → ℕ → ℝ)

/-- The mean of a group. -/
def mu (n g : ℕ) : ℝ := (∑ c : Fin 1280, if c.val / 40 = g then ∑ r ∈ range 1024, X n r c else 0) * (1 / 40960)
/-- The variance of a group, as the mean of the centred squares. -/
def va (n g : ℕ) : ℝ := (∑ c : Fin 1280, if c.val / 40 = g then ∑ r ∈ range 1024, (X n r c - mu X n (c.val / 40)) ^ 2 else 0) * (1 / 40960)

theorem va_nonneg (n g : ℕ) : 0 ≤ va X n g := by
  unfold va
  refine mul_nonneg (sum_nonneg fun c _ => ?_) (by norm_num)
  split
  · exact sum_nonneg fun r _ => sq_nonneg _
  · exact le_rfl

theorem group_card : ∀ g : Fin 32, (univ.filter fun c : Fin 1280 => c.val / 40 = g.val).card = 40 := by decide +kernel

/-- The mean of the squares less the square of the mean is the variance. -/
theorem va_eq (n g : ℕ) : (∑ c : Fin 1280, if c.val / 40 = g then ∑ r ∈ range 1024, X n r c ^ 2 else 0) * (1 / 40960) - mu X n g * mu X n g = va X n g := by
  by_cases hg : g < 32
  · have hc : (∑ c : Fin 1280, if c.val / 40 = g then (1 : ℝ) else 0) = 40 := by
      rw [sum_boole, group_card ⟨g, hg⟩]; norm_num
    have hs : (∑ c : Fin 1280, if c.val / 40 = g then ∑ r ∈ range 1024, X n r c else 0) = mu X n g * 40960 := by
      unfold mu; ring
    have hv : (∑ c : Fin 1280, if c.val / 40 = g then ∑ r ∈ range 1024, (X n r c - mu X n (c.val / 40)) ^ 2 else 0)
        = (∑ c : Fin 1280, if c.val / 40 = g then ∑ r ∈ range 1024, X n r c ^ 2 else 0)
          - 2 * mu X n g * (∑ c : Fin 1280, if c.val / 40 = g then ∑ r ∈ range 1024, X n r c else 0)
          + 1024 * mu X n g ^ 2 * (∑ c : Fin 1280, if c.val / 40 = g then (1 : ℝ) else 0) := by
      rw [mul_sum, mul_sum, ← sum_sub_distrib, ← sum_add_distrib]
      refine sum_congr rfl fun c _ => ?_
      split
      · rename_i h
        rw [h]
        simp only [sub_sq, sum_add_distrib, sum_sub_distrib, sum_const, card_range, nsmul_eq_mul, ← sum_mul, ← mul_sum]
        push_cast
        ring
      · simp
    rw [hs, hc] at hv
    have : va X n g = _ := rfl
    rw [this, va, hv]
    ring
  · have h0 : ∀ f : Fin 1280 → ℝ, (∑ c : Fin 1280, if c.val / 40 = g then f c else 0) = 0 := fun f =>
      sum_eq_zero fun c _ => if_neg (by have := c.isLt; omega)
    unfold va mu
    rw [h0, h0, h0]
    norm_num

/-- The reciprocal deviation of a group. -/
def rsr (n g : ℕ) : ℝ := (Real.sqrt (va X n g + epsR))⁻¹

variable {X}
theorem r240_at (H : Holds x0 x1 X) (n : Fin 16) (g : Fin 128) : r240 x0 x1 (ix2 n g) = ((mu X n g : ℝ) : EReal) :=
  p1954_at _ (fun n c => ∑ r ∈ range 1024, X n r c) (wS1_at H) n g
theorem r256_at (H : Holds x0 x1 X) (n : Fin 16) (g : Fin 128) :
    r256 x0 x1 (ix2 n g) = ((∑ c : Fin 1280, if c.val / 40 = g.val then ∑ r ∈ range 1024, X n r c ^ 2 else 0 : ℝ) : EReal) :=
  p1955_at _ (fun n c => ∑ r ∈ range 1024, X n r c ^ 2) (wS2_at H) n g
theorem rb0_at (H : Holds x0 x1 X) (n : Fin 16) (c : Fin 1280) : rb0 x0 x1 (ix3 n 0 c) = ((mu X n (c.val / 40) : ℝ) : EReal) := by
  have h := p1958_at (r240 x0 x1) (mu X) (r240_at H) n c
  have e : rb0 x0 x1 = k0_pay1960 (k0_pay1958 (r222 (F := Ideal)) (r240 x0 x1)) := rfl
  rw [e]
  generalize k0_pay1958 (r222 (F := Ideal)) (r240 x0 x1) = z at h
  pointwise [k0_pay1960]
  rw [h]
theorem r306_at (H : Holds x0 x1 X) (n : Fin 16) (c : Fin 1280) : r306 x0 x1 (ix3 n 0 c) = ((rsr X n (c.val / 40) : ℝ) : EReal) :=
  p1959_at (r240 x0 x1) (r256 x0 x1) (va X) (va_nonneg X) (fun n g => p1956_at _ _ n g _ _ _ (r240_at H n g) (r256_at H n g) (va_nonneg X n g) (va_eq X n g)) n c
/-- Both branches find the same reciprocal deviations. -/
theorem ra1_at (H : Holds x0 x1 X) (n : Fin 16) (c : Fin 1280) : ra1 x0 x1 (ix3 n 0 c) = ((rsr X n (c.val / 40) : ℝ) : EReal) := by
  unfold ra1 a1v
  split
  · exact p1968_at _ (fun n c => ∑ r ∈ range 1024, (X n r c - mu X n (c / 40)) ^ 2) (va X) (wCq_at H _ (fun n c => mu X n (c / 40)) (rb0_at H)) (va_nonneg X) (fun n g => rfl) n c
  · exact r306_at H n c

variable {ga be : S1280.Idx → Elt Ideal .f32} {γ β : ℕ → ℝ}
/-- The factor and the offset of a channel. -/
def fA (X : ℕ → ℕ → ℕ → ℝ) (γ : ℕ → ℝ) (n c : ℕ) : ℝ := rsr X n (c / 40) * γ c
def fB (X : ℕ → ℕ → ℕ → ℝ) (γ β : ℕ → ℝ) (n c : ℕ) : ℝ := β c - mu X n (c / 40) * fA X γ n c
theorem A2_at (H : Holds x0 x1 X) (hg : ∀ c : Fin 1280, ga (ix1 c) = ((γ c : ℝ) : EReal)) (n : Fin 16) (c : Fin 1280) :
    k0_pay1969 (ra1 x0 x1) ga (ix2 n c) = ((fA X γ n c : ℝ) : EReal) := by
  have h := ra1_at H n c
  generalize ra1 x0 x1 = z at h
  pointwise [k0_pay1969]
  rw [h, hg, ← EReal.coe_mul]
  rfl
theorem B2_at (H : Holds x0 x1 X) (hg : ∀ c : Fin 1280, ga (ix1 c) = ((γ c : ℝ) : EReal)) (hb : ∀ c : Fin 1280, be (ix1 c) = ((β c : ℝ) : EReal)) (n : Fin 16) (c : Fin 1280) :
    k0_pay1970 (ra1 x0 x1) ga be (rb0 x0 x1) (ix2 n c) = ((fB X γ β n c : ℝ) : EReal) := by
  have h := A2_at H hg n c
  have h2 := rb0_at H n c
  have e : k0_pay1970 (ra1 x0 x1) ga be (rb0 x0 x1) = subf (broadcastTo S16x1280 (shapeCast S1x1280 be shapeCasts_S1280_S1x1280) broadcasts_S1x1280_S16x1280) (mulf (shapeCast S16x1280 (rb0 x0 x1) shapeCasts_S16x1x1280_S16x1280) (k0_pay1969 (ra1 x0 x1) ga)) := rfl
  rw [e]
  generalize k0_pay1969 (ra1 x0 x1) ga = z at h
  generalize rb0 x0 x1 = y at h2
  pointwise
  rw [h, h2, hb, ← EReal.coe_mul, ← EReal.coe_sub]
  rfl
theorem rA_at (H : Holds x0 x1 X) (hg : ∀ c : Fin 1280, ga (ix1 c) = ((γ c : ℝ) : EReal)) (n : Fin 16) (c : Fin 1280) :
    rA x0 x1 ga (ix3 n 0 c) = ((fA X γ n c : ℝ) : EReal) := by
  have h := A2_at H hg n c
  have e : rA x0 x1 ga = shapeCast S16x1x1280 (k0_pay1969 (ra1 x0 x1) ga) shapeCasts_S16x1280_S16x1x1280 := rfl
  rw [e]
  generalize k0_pay1969 (ra1 x0 x1) ga = z at h
  pointwise
  rw [h]
theorem rB_at (H : Holds x0 x1 X) (hg : ∀ c : Fin 1280, ga (ix1 c) = ((γ c : ℝ) : EReal)) (hb : ∀ c : Fin 1280, be (ix1 c) = ((β c : ℝ) : EReal)) (n : Fin 16) (c : Fin 1280) :
    rB x0 x1 ga be (ix3 n 0 c) = ((fB X γ β n c : ℝ) : EReal) := by
  have h := B2_at H hg hb n c
  have e : rB x0 x1 ga be = shapeCast S16x1x1280 (k0_pay1970 (ra1 x0 x1) ga be (rb0 x0 x1)) shapeCasts_S16x1280_S16x1x1280 := rfl
  rw [e]
  generalize k0_pay1970 (ra1 x0 x1) ga be (rb0 x0 x1) = z at h
  pointwise
  rw [h]

end Cert.KernelIdeal.Hand
-- ==== Proof.KI.M4.lean ====
/-
  The largest magnitude of the gated values.
-/
module

public import proofs.«01_k».proof.Proof.KI.M3

@[expose] public section

set_option maxRecDepth 65536

noncomputable section

namespace Cert.KernelIdeal.Hand

open Cert.KernelIdeal Cert.KernelIdeal.Gen
open Idealize.ShloMosaic Idealize.ShloMosaic.TcCoe
open Finset

/-- The gated value `v / (1 + e^(-v))`. -/
def sil (v : ℝ) : ℝ := v * (1 / (1 + Real.exp (-v)))

theorem logistic_coe (v : ℝ) : Ideal.logistic (v : EReal) = ((1 / (1 + Real.exp (-v)) : ℝ) : EReal) := by
  have hp : 0 < 1 + Real.exp (-v) := by positivity
  show Ideal.div 1 (1 + Ideal.exp (-(v : EReal))) = _
  rw [← EReal.coe_neg]
  show Ideal.div 1 (1 + ((Real.exp (-v) : ℝ) : EReal)) = _
  rw [← EReal.coe_one, ← EReal.coe_add, Ideal.div, if_neg (by exact_mod_cast hp.ne'), ← EReal.coe_inv, ← EReal.coe_mul, one_div, one_mul]
theorem sil_coe (v : ℝ) : (v : EReal) * Ideal.logistic (v : EReal) = ((sil v : ℝ) : EReal) := by
  rw [logistic_coe, ← EReal.coe_mul, sil]
theorem abs_coe (v : ℝ) : max (v : EReal) (-(v : EReal)) = ((|v| : ℝ) : EReal) := by
  rw [← EReal.coe_neg, ← EReal.coe_strictMono.monotone.map_max]; rfl

theorem absf_coe (v : ℝ) : FloatOps.absf (F := Ideal) (φ := .f32) (v : EReal) = ((|v| : ℝ) : EReal) := abs_coe v
/-- The gated value grows on the nonnegative numbers. -/
theorem sil_mono {u v : ℝ} (hu : 0 ≤ u) (h : u ≤ v) : sil u ≤ sil v := by
  unfold sil
  refine mul_le_mul h ?_ (by positivity) (hu.trans h)
  exact one_div_le_one_div_of_le (by positivity) (by have := Real.exp_le_exp.2 (neg_le_neg h); linarith)
theorem sil_nonneg {v : ℝ} (h : 0 ≤ v) : 0 ≤ sil v := mul_nonneg h (by positivity)
theorem sil_nonpos {v : ℝ} (h : v ≤ 0) : sil v ≤ 0 := mul_nonpos_of_nonpos_of_nonneg h (by positivity)

/-- The threshold of the kernel's second branch. -/
def kapR : ℝ := 9344909 / 33554432
theorem ofBits_kap : Ideal.ofBits .f32 1049532301#32 = (kapR : EReal) := by
  simp [Ideal.ofBits, Ideal.ieee, kapR]
  rw [← EReal.coe_mul]
  norm_num
theorem kap_exp : 1 ≤ kapR * Real.exp (1 + kapR) := by
  have h1 : (2.71827 : ℝ) ≤ Real.exp 1 := by
    have h0 := Real.sum_le_exp_of_nonneg (show (0 : ℝ) ≤ 1 by norm_num) 9
    simp only [sum_range_succ, sum_range_zero, Nat.factorial] at h0
    refine le_trans ?_ h0
    norm_num
  have h2 := Real.sum_le_exp_of_nonneg (show (0 : ℝ) ≤ kapR by unfold kapR; norm_num) 5
  simp only [sum_range_succ, sum_range_zero, Nat.factorial] at h2
  have h3 : (1.3211 : ℝ) ≤ Real.exp kapR := by
    refine le_trans ?_ h2
    unfold kapR
    norm_num
  have h4 : (2.71827 : ℝ) * 1.3211 ≤ Real.exp 1 * Real.exp kapR := mul_le_mul h1 h3 (by norm_num) (Real.exp_pos _).le
  rw [Real.exp_add]
  have h5 : (1 : ℝ) ≤ kapR * (2.71827 * 1.3211) := by unfold kapR; norm_num
  exact h5.trans (mul_le_mul_of_nonneg_left h4 (by unfold kapR; norm_num))
/-- A gated nonpositive number is at least the negative of the threshold. -/
theorem sil_neg_bound {v : ℝ} (h : v ≤ 0) : |sil v| ≤ kapR := by
  have hp : 0 < 1 + Real.exp (-v) := by positivity
  have hk : (0 : ℝ) < kapR := by unfold kapR; norm_num
  rw [abs_of_nonpos (sil_nonpos h)]
  have e : -sil v = (-v) / (1 + Real.exp (-v)) := by unfold sil; ring
  rw [e, div_le_iff₀ hp]
  generalize -v = u at *
  rcases le_or_gt u kapR with hu | hu
  · nlinarith [Real.exp_pos u]
  · have h1 := Real.add_one_le_exp (u - (1 + kapR))
    have h2 : Real.exp u = Real.exp (1 + kapR) * Real.exp (u - (1 + kapR)) := by rw [← Real.exp_add]; congr 1; ring
    have h3 : u - kapR ≤ Real.exp (u - (1 + kapR)) := by linarith
    have h4 := kap_exp
    have h5 : 1 * (u - kapR) ≤ (kapR * Real.exp (1 + kapR)) * Real.exp (u - (1 + kapR)) :=
      mul_le_mul h4 h3 (by linarith) (by positivity)
    rw [h2]
    nlinarith

/-- If the gated largest value reaches the threshold, it bounds every gated value. -/
theorem sil_abs_le {v m : ℝ} (hv : v ≤ m) (hm : kapR ≤ sil m) : |sil v| ≤ sil m := by
  rcases le_or_gt v 0 with h | h
  · exact (sil_neg_bound h).trans hm
  · rw [abs_of_nonneg (sil_nonneg h.le)]
    exact sil_mono h.le hv

theorem lin_le {x a b mn mx : ℝ} (h1 : mn ≤ x) (h2 : x ≤ mx) : x * a + b ≤ max (mx * a + b) (mn * a + b) := by
  rcases le_total 0 a with h | h
  · exact le_max_of_le_left (by nlinarith)
  · exact le_max_of_le_right (by nlinarith)

variable (X : ℕ → ℕ → ℕ → ℝ) (γ β : ℕ → ℝ)
/-- The normalised value and its gated value. -/
def vV (n r c : ℕ) : ℝ := X n r c * fA X γ n c + fB X γ β n c
def yY (n r c : ℕ) : ℝ := sil (vV X γ β n r c)
/-- The largest magnitude of the gated values. -/
structure IsMx (m : ℝ) : Prop where
  le : ∀ n r c, n < 16 → r < 1024 → c < 1280 → |yY X γ β n r c| ≤ m
  at' : ∃ n r c, n < 16 ∧ r < 1024 ∧ c < 1280 ∧ |yY X γ β n r c| = m
variable {X γ β}
theorem IsMx.unique {m m' : ℝ} (h : IsMx X γ β m) (h' : IsMx X γ β m') : m = m' := by
  obtain ⟨n, r, c, hn, hr, hc, e⟩ := h.at'
  obtain ⟨n', r', c', hn', hr', hc', e'⟩ := h'.at'
  exact le_antisymm (e ▸ h'.le n r c hn hr hc) (e' ▸ h.le n' r' c' hn' hr' hc')

variable {x0 : S16x1024x768.Idx → Elt Ideal .bf16} {x1 : S16x1024x512.Idx → Elt Ideal .bf16} {ga be : S1280.Idx → Elt Ideal .f32}

/-- The largest normalised value, gated. -/
theorem ry0_at (H : Holds x0 x1 X) (hg : ∀ c : Fin 1280, ga (ix1 c) = ((γ c : ℝ) : EReal)) (hb : ∀ c : Fin 1280, be (ix1 c) = ((β c : ℝ) : EReal)) :
    ∃ m : ℝ, ry0 x0 x1 ga be = ((sil m : ℝ) : EReal) ∧ (∀ n r c, n < 16 → r < 1024 → c < 1280 → vV X γ β n r c ≤ m) ∧ ∃ n r c, n < 16 ∧ r < 1024 ∧ c < 1280 ∧ vV X γ β n r c = m := by
  have hA := A2_at H hg
  have hB := B2_at H hg hb
  choose mx h1 h2 h3 using wMx_at H
  choose mn k1 k2 k3 using wMn_at H
  have e : ry0 x0 x1 ga be = k0_pay1974 (k0_pay1969 (ra1 x0 x1) ga) (k0_pay1970 (ra1 x0 x1) ga be (rb0 x0 x1))
    (addf (mulf (shapeCast S16x1280 (fillT (wMx x0 x1)) shapeCasts_S16x1x1280_S16x1280) (k0_pay1969 (ra1 x0 x1) ga)) (k0_pay1970 (ra1 x0 x1) ga be (rb0 x0 x1))) (fillT (wMn x0 x1)) := rfl
  generalize k0_pay1970 (ra1 x0 x1) ga be (rb0 x0 x1) = vb at e hB
  generalize k0_pay1969 (ra1 x0 x1) ga = wa at e hA
  generalize fillT (wMx x0 x1) = wx at e h1
  generalize fillT (wMn x0 x1) = wn at e k1
  let f : Fin 16 × Fin 1280 → ℝ := fun x => max (mx x.1 x.2 * fA X γ x.1 x.2 + fB X γ β x.1 x.2) (mn x.1 x.2 * fA X γ x.1 x.2 + fB X γ β x.1 x.2)
  have key : ∀ x : Fin 16 × Fin 1280, max (((mx x.1 x.2 : ℝ) : EReal) * ((fA X γ x.1 x.2 : ℝ) : EReal) + ((fB X γ β x.1 x.2 : ℝ) : EReal)) (((mn x.1 x.2 : ℝ) : EReal) * ((fA X γ x.1 x.2 : ℝ) : EReal) + ((fB X γ β x.1 x.2 : ℝ) : EReal)) = ((f x : ℝ) : EReal) := by
    intro x
    rw [← EReal.coe_mul, ← EReal.coe_add, ← EReal.coe_mul, ← EReal.coe_add, ← EReal.coe_strictMono.monotone.map_max]
  refine ⟨univ.sup' univ_nonempty f, ?_, fun n r c hn hr hc => ?_, ?_⟩
  · rw [e]
    pointwise [k0_pay1974]
    simp only [hA, hB, h1, k1, key, ofBits_ninf]
    rw [fold_max_coe f, sil_coe]
    rw [fold_max_coe (fun _ => sil (univ.sup' univ_nonempty f))]
    simp
  · refine le_trans ?_ (le_sup' f (mem_univ (⟨n, hn⟩, ⟨c, hc⟩)))
    exact lin_le (k2 ⟨n, hn⟩ ⟨c, hc⟩ r hr) (h2 ⟨n, hn⟩ ⟨c, hc⟩ r hr)
  · obtain ⟨⟨n, c⟩, _, hs⟩ := exists_mem_eq_sup' univ_nonempty f
    rw [hs]
    obtain ⟨r, hr, er⟩ := h3 n c
    obtain ⟨r', hr', er'⟩ := k3 n c
    rcases max_choice (mx n c * fA X γ n c + fB X γ β n c) (mn n c * fA X γ n c + fB X γ β n c) with h | h
    · exact ⟨n, r, c, n.isLt, hr, c.isLt, by show _ = max _ _; rw [h, er]; rfl⟩
    · exact ⟨n, r', c, n.isLt, hr', c.isLt, by show _ = max _ _; rw [h, er']; rfl⟩

section
variable {a b : S16x1x1280.Idx → Elt Ideal .f32}
/-- One step of the running maximum. -/
theorem mq_succ (H : Holds x0 x1 X) (ha : ∀ (n : Fin 16) (c : Fin 1280), a (ix3 n 0 c) = ((fA X γ n c : ℝ) : EReal)) (hb : ∀ (n : Fin 16) (c : Fin 1280), b (ix3 n 0 c) = ((fB X γ β n c : ℝ) : EReal))
    (k t n : ℕ) (hk : k < 16) (ht : t < 5) (hn : n < 128) (m : FVec Ideal S8x256 .f32) (s : Fin 8) (q : Fin 256) :
    mq (ln a k (256 * t)) (ln b k (256 * t)) (tl x0 x1 k t) m (n + 1) (ix2 s q) =
      max (mq (ln a k (256 * t)) (ln b k (256 * t)) (tl x0 x1 k t) m n (ix2 s q)) ((|yY X γ β k (8 * n + s.val) (256 * t + q.val)| : ℝ) : EReal) := by
  have e : mq (ln a k (256 * t)) (ln b k (256 * t)) (tl x0 x1 k t) m (n + 1) = k0_pay1870 (ln a k (256 * t)) (ln b k (256 * t)) (mq (ln a k (256 * t)) (ln b k (256 * t)) (tl x0 x1 k t) m n) (tl x0 x1 k t n) := rfl
  rw [e]
  generalize mq (ln a k (256 * t)) (ln b k (256 * t)) (tl x0 x1 k t) m n = z
  pointwise [k0_pay1870]
  rw [tl_at H k t n hk ht hn, ln_at a (fA X γ) ha k t hk ht, ln_at b (fB X γ β) hb k t hk ht, ← EReal.coe_mul, ← EReal.coe_add, sil_coe, absf_coe]
  rfl

/-- A running maximum is zero or one of the magnitudes. -/
def Q (X : ℕ → ℕ → ℕ → ℝ) (γ β : ℕ → ℝ) (e : EReal) : Prop := e = 0 ∨ ∃ n r c, n < 16 ∧ r < 1024 ∧ c < 1280 ∧ e = ((|yY X γ β n r c| : ℝ) : EReal)

theorem mt_inv (H : Holds x0 x1 X) (ha : ∀ (n : Fin 16) (c : Fin 1280), a (ix3 n 0 c) = ((fA X γ n c : ℝ) : EReal)) (hb : ∀ (n : Fin 16) (c : Fin 1280), b (ix3 n 0 c) = ((fB X γ β n c : ℝ) : EReal))
    (k t : ℕ) (hk : k < 16) (ht : t < 5) (m : FVec Ideal S8x256 .f32) (s : Fin 8) (q : Fin 256) (hm : Q X γ β (m (ix2 s q))) :
    Q X γ β (mt x0 x1 a b k t m (ix2 s q)) ∧ m (ix2 s q) ≤ mt x0 x1 a b k t m (ix2 s q) ∧
      ∀ j < 128, ((|yY X γ β k (8 * j + s.val) (256 * t + q.val)| : ℝ) : EReal) ≤ mt x0 x1 a b k t m (ix2 s q) := by
  have hs := s.isLt
  have hq := q.isLt
  have main : ∀ n ≤ 128, Q X γ β (mq (ln a k (256 * t)) (ln b k (256 * t)) (tl x0 x1 k t) m n (ix2 s q)) ∧
      m (ix2 s q) ≤ mq (ln a k (256 * t)) (ln b k (256 * t)) (tl x0 x1 k t) m n (ix2 s q) ∧
      ∀ j < n, ((|yY X γ β k (8 * j + s.val) (256 * t + q.val)| : ℝ) : EReal) ≤ mq (ln a k (256 * t)) (ln b k (256 * t)) (tl x0 x1 k t) m n (ix2 s q) := by
    intro n
    induction n with
    | zero => exact fun _ => ⟨hm, le_rfl, fun j hj => absurd hj (Nat.not_lt_zero j)⟩
    | succ n ih =>
      intro hn
      obtain ⟨i1, i2, i3⟩ := ih (by omega)
      rw [mq_succ H ha hb k t n hk ht (by omega)]
      refine ⟨?_, le_max_of_le_left i2, fun j hj => ?_⟩
      · rcases max_choice (mq (ln a k (256 * t)) (ln b k (256 * t)) (tl x0 x1 k t) m n (ix2 s q)) ((|yY X γ β k (8 * n + s.val) (256 * t + q.val)| : ℝ) : EReal) with h | h
        · rw [h]; exact i1
        · rw [h]; exact .inr ⟨k, _, _, hk, by omega, by omega, rfl⟩
      · rcases Nat.lt_or_ge j n with h | h
        · exact le_max_of_le_left (i3 j h)
        · rw [show j = n by omega]; exact le_max_right _ _
  exact main 128 le_rfl

theorem mall_inv (H : Holds x0 x1 X) (ha : ∀ (n : Fin 16) (c : Fin 1280), a (ix3 n 0 c) = ((fA X γ n c : ℝ) : EReal)) (hb : ∀ (n : Fin 16) (c : Fin 1280), b (ix3 n 0 c) = ((fB X γ β n c : ℝ) : EReal))
    (k : ℕ) (hk : k ≤ 16) (s : Fin 8) (q : Fin 256) :
    Q X γ β (mall x0 x1 a b k (ix2 s q)) ∧
      ∀ k' < k, ∀ t < 5, ∀ j < 128, ((|yY X γ β k' (8 * j + s.val) (256 * t + q.val)| : ℝ) : EReal) ≤ mall x0 x1 a b k (ix2 s q) := by
  induction k with
  | zero =>
    refine ⟨.inl ?_, fun k' h => absurd h (Nat.not_lt_zero k')⟩
    pointwise [mall, k0_pay1975]
  | succ k ih =>
    obtain ⟨i1, i2⟩ := ih (by omega)
    obtain ⟨a1, a2, a3⟩ := mt_inv H ha hb k 0 (by omega) (by omega) _ s q i1
    obtain ⟨b1, b2, b3⟩ := mt_inv H ha hb k 1 (by omega) (by omega) _ s q a1
    obtain ⟨c1, c2, c3⟩ := mt_inv H ha hb k 2 (by omega) (by omega) _ s q b1
    obtain ⟨d1, d2, d3⟩ := mt_inv H ha hb k 3 (by omega) (by omega) _ s q c1
    obtain ⟨e1, e2, e3⟩ := mt_inv H ha hb k 4 (by omega) (by omega) _ s q d1
    refine ⟨e1, fun k' hk' t ht j hj => ?_⟩
    rcases Nat.lt_or_ge k' k with h | h
    · exact (i2 k' h t ht j hj).trans (a2.trans (b2.trans (c2.trans (d2.trans e2))))
    · rw [show k' = k by omega]
      match t, ht with
      | 0, _ => exact (a3 j hj).trans (b2.trans (c2.trans (d2.trans e2)))
      | 1, _ => exact (b3 j hj).trans (c2.trans (d2.trans e2))
      | 2, _ => exact (c3 j hj).trans (d2.trans e2)
      | 3, _ => exact (d3 j hj).trans e2
      | 4, _ => exact e3 j hj

/-- The second branch finds the largest magnitude. -/
theorem mall_at (H : Holds x0 x1 X) (ha : ∀ (n : Fin 16) (c : Fin 1280), a (ix3 n 0 c) = ((fA X γ n c : ℝ) : EReal)) (hb : ∀ (n : Fin 16) (c : Fin 1280), b (ix3 n 0 c) = ((fB X γ β n c : ℝ) : EReal)) :
    ∃ m : ℝ, k0_pay1978 (mall x0 x1 a b 16) = (m : EReal) ∧ IsMx X γ β m := by
  have hi := mall_inv H ha hb 16 le_rfl
  generalize mall x0 x1 a b 16 = w at hi
  have hr : ∀ s q, ∃ z : ℝ, w (ix2 s q) = (z : EReal) := fun s q => by
    rcases (hi s q).1 with h | ⟨n, r, c, _, _, _, h⟩
    · exact ⟨0, h⟩
    · exact ⟨_, h⟩
  choose z hz using hr
  let f : Fin 8 × Fin 256 → ℝ := fun x => z x.1 x.2
  have up : ∀ n r c, n < 16 → r < 1024 → c < 1280 → |yY X γ β n r c| ≤ univ.sup' univ_nonempty f := by
    intro n r c hn hr hc
    have h := (hi ⟨r % 8, Nat.mod_lt _ (by omega)⟩ ⟨c % 256, Nat.mod_lt _ (by omega)⟩).2 n hn (c / 256) (by omega) (r / 8) (by omega)
    rw [hz] at h
    have h' := EReal.coe_le_coe_iff.1 h
    simp only [show 8 * (r / 8) + r % 8 = r by omega, show 256 * (c / 256) + c % 256 = c by omega] at h'
    exact h'.trans (le_sup' f (mem_univ (⟨r % 8, Nat.mod_lt _ (by omega)⟩, ⟨c % 256, Nat.mod_lt _ (by omega)⟩)))
  refine ⟨univ.sup' univ_nonempty f, ?_, up, ?_⟩
  · pointwise [k0_pay1978]
    rw [ofBits_ninf]
    simp only [hz]
    exact fold_max_coe f
  · obtain ⟨⟨s, q⟩, _, hs⟩ := exists_mem_eq_sup' univ_nonempty f
    rcases (hi s q).1 with h | ⟨n, r, c, hn, hr, hc, h⟩
    · rw [hz] at h
      have h0 : f (s, q) = 0 := by exact_mod_cast h
      refine ⟨0, 0, 0, by omega, by omega, by omega, le_antisymm (up 0 0 0 (by omega) (by omega) (by omega)) ?_⟩
      rw [hs, h0]; exact abs_nonneg _
    · rw [hz] at h
      exact ⟨n, r, c, hn, hr, hc, by rw [hs]; exact (EReal.coe_eq_coe_iff.1 h).symm⟩
end

theorem not_ltK (v : ℝ) (h : ¬ ltK (F := Ideal) ((v : ℝ) : EReal)) : kapR ≤ v := by
  by_contra hc
  apply h
  have e : Ideal.cmp .oge ((v : ℝ) : EReal) (Ideal.ofBits .f32 1049532301#32) = 0#1 := by
    rw [ofBits_kap]
    show BitVec.ofBool (decide ((kapR : EReal) ≤ (v : EReal))) = 0#1
    rw [decide_eq_false (fun h => hc (EReal.coe_le_coe_iff.1 h))]
    rfl
  show Scalar.cmpi .ne (Scalar.extui (Scalar.xori (Ideal.cmp .oge ((v : ℝ) : EReal) (Ideal.ofBits .f32 1049532301#32)) 1#1)) 0#32 = 1#1
  rw [e]
  rfl

/-- The kernel finds the largest magnitude of the gated values. -/
theorem ry_at (H : Holds x0 x1 X) (hg : ∀ c : Fin 1280, ga (ix1 c) = ((γ c : ℝ) : EReal)) (hb : ∀ c : Fin 1280, be (ix1 c) = ((β c : ℝ) : EReal)) :
    ∃ m : ℝ, ry x0 x1 ga be = (m : EReal) ∧ IsMx X γ β m := by
  unfold ry y1v
  split
  · exact mall_at H (rA_at H hg) (rB_at H hg hb)
  · rename_i h
    obtain ⟨m, e, h1, n, r, c, hn, hr, hc, h2⟩ := ry0_at H hg hb
    rw [e] at h ⊢
    have h3 := not_ltK _ h
    have hk : (0 : ℝ) < kapR := by unfold kapR; norm_num
    refine ⟨_, rfl, fun n r c hn hr hc => sil_abs_le (h1 n r c hn hr hc) h3, n, r, c, hn, hr, hc, ?_⟩
    show |sil (vV X γ β n r c)| = _
    rw [h2, abs_of_pos (hk.trans_le h3)]

end Cert.KernelIdeal.Hand
-- ==== Proof.KI.M5.lean ====
/-
  The scale's exponent, found by the search.
-/
module

public import proofs.«01_k».proof.Proof.KI.M4

@[expose] public section

set_option maxRecDepth 65536

noncomputable section

namespace Cert.KernelIdeal.Hand

open Cert.KernelIdeal Cert.KernelIdeal.Gen
open Idealize.ShloMosaic Idealize.ShloMosaic.TcCoe
open Finset

/-- The power of two whose exponent field is `e`. -/
def pw (e : ℕ) : ℝ := (2 : ℝ) ^ ((e : ℤ) - 127)
theorem pw_pos (e : ℕ) : 0 < pw e := by unfold pw; positivity
theorem pw_mono {e f : ℕ} (h : e ≤ f) : pw e ≤ pw f := zpow_le_zpow_right₀ (by norm_num) (by omega)

theorem bits_exp : ∀ e : Fin 256, ((BitVec.ofNat 32 e.val <<< 23).extractLsb' 31 1 == 1#1) = false ∧ ((BitVec.ofNat 32 e.val <<< 23).extractLsb' 23 8).toNat = e.val ∧ ((BitVec.ofNat 32 e.val <<< 23).extractLsb' 0 23).toNat = 0 := by decide +kernel
theorem ofBits_exp (e : ℕ) (h1 : 1 ≤ e) (h2 : e ≤ 254) : Ideal.ofBits .f32 (BitVec.ofNat 32 e <<< 23) = ((pw e : ℝ) : EReal) := by
  obtain ⟨a, b, c⟩ := bits_exp ⟨e, by omega⟩
  show Ideal.ieee 8 23 _ = _
  simp only at a b c
  unfold Ideal.ieee
  simp only [a, b, c]
  rw [if_neg (by omega), if_neg (by omega)]
  have h3 : ((e : ℤ) - (2 ^ (8 - 1) - 1) - ((23 : ℕ) : ℤ)) = ((e : ℤ) - 127) - 23 := by norm_num
  rw [h3, zpow_sub₀ (two_ne_zero' ℝ) _ 23]
  rw [EReal.coe_eq_coe_iff, if_neg (by decide)]
  unfold pw
  generalize (2 : ℝ) ^ ((e : ℤ) - 127) = z
  have hz : (8388608 : ℝ) * (z / 8388608) = z := by ring
  norm_num
  exact hz
theorem ofBits_exp0 : Ideal.ofBits .f32 (BitVec.ofNat 32 0 <<< 23) = 0 := by
  simp [Ideal.ofBits, Ideal.ieee]
theorem ofBits_exp255 : Ideal.ofBits .f32 (BitVec.ofNat 32 255 <<< 23) = ⊤ := by
  simp [Ideal.ofBits, Ideal.ieee]

/-- The least exponent field whose power exceeds a number. -/
structure IsT (a : ℝ) (T : ℕ) : Prop where
  one : 1 ≤ T
  le : T ≤ 253
  lt : a < pw T
  min : ∀ e, 1 ≤ e → e < T → pw e ≤ a
theorem exists_T (a : ℝ) (h : a < pw 253) : ∃ T, IsT a T := by
  classical
  have hx : ∃ e, 1 ≤ e ∧ a < pw e := ⟨253, by norm_num, h⟩
  refine ⟨Nat.find hx, (Nat.find_spec hx).1, Nat.find_min' hx ⟨by norm_num, h⟩, (Nat.find_spec hx).2, fun e h1 h2 => ?_⟩
  by_contra hc
  exact Nat.find_min hx h2 ⟨h1, not_le.1 hc⟩

theorem cmp_exp {a : ℝ} {T : ℕ} (h0 : 0 ≤ a) (hT : IsT a T) (e : ℕ) (he : e < 256) :
    Ideal.cmp .ogt (Ideal.ofBits .f32 (BitVec.ofNat 32 e <<< 23)) ((a : ℝ) : EReal) = if T ≤ e then 1#1 else 0#1 := by
  have h1 := hT.one
  have h2 := hT.le
  show BitVec.ofBool (decide (((a : ℝ) : EReal) < Ideal.ofBits .f32 (BitVec.ofNat 32 e <<< 23))) = _
  rcases Nat.eq_zero_or_pos e with rfl | hp
  · rw [ofBits_exp0, if_neg (by omega), decide_eq_false (not_lt.2 (EReal.coe_nonneg.2 h0))]; rfl
  · rcases Nat.lt_or_ge e 255 with h | h
    · rw [ofBits_exp e hp (by omega)]
      split
      · rename_i hh
        rw [decide_eq_true (EReal.coe_lt_coe_iff.2 (hT.lt.trans_le (pw_mono hh)))]; rfl
      · rename_i hh
        rw [decide_eq_false (not_lt.2 (EReal.coe_le_coe_iff.2 (hT.min e hp (by omega))))]; rfl
    · rw [show e = 255 by omega, ofBits_exp255, if_pos (by omega), decide_eq_true (EReal.coe_lt_top _)]; rfl

/-- One step of the search for the exponent. -/
def stp (a : FVec Ideal S1x128 .f32) (b : BitVec 32) (v : IVec S1x128 32) : IVec S1x128 32 :=
  select (cmpf .ogt (bitcastToFloat .f32 (shli (addi v (broadcast S1x128 b)) (broadcast S1x128 23#32))) a) v (addi v (broadcast S1x128 b))
theorem stp_at {a : ℝ} {T : ℕ} (h0 : 0 ≤ a) (hT : IsT a T) (w : FVec Ideal S1x128 .f32) (hw : ∀ l : Fin 128, w (ix2 0 l) = ((a : ℝ) : EReal)) (b : ℕ) (v : IVec S1x128 32) (l : Fin 128)
    (hv : ∃ e : ℕ, v (ix2 0 l) = BitVec.ofNat 32 e ∧ e ≤ T - 1 ∧ T - 1 < e + 2 * b ∧ e + 2 * b ≤ 256) :
    ∃ e : ℕ, stp w (BitVec.ofNat 32 b) v (ix2 0 l) = BitVec.ofNat 32 e ∧ e ≤ T - 1 ∧ T - 1 < e + b ∧ e + b ≤ 256 := by
  obtain ⟨e, h1, h2, h3, h4⟩ := hv
  have e1 : stp w (BitVec.ofNat 32 b) v (ix2 0 l) = Scalar.select (Ideal.cmp .ogt (Ideal.ofBits .f32 ((v (ix2 0 l) + BitVec.ofNat 32 b) <<< 23)) (w (ix2 0 l))) (v (ix2 0 l)) (v (ix2 0 l) + BitVec.ofNat 32 b) := rfl
  have hone := hT.one
  rw [e1, h1, hw, ← BitVec.ofNat_add, cmp_exp h0 hT (e + b) (by omega)]
  split
  · exact ⟨e, rfl, h2, by omega, by omega⟩
  · exact ⟨e + b, rfl, by omega, by omega, by omega⟩

/-- The search's result, less the bias. -/
def fin8 (v : IVec S1x128 32) : IVec S1x128 32 :=
  select (cmpi .eq v (broadcast S1x128 0#32)) (broadcast S1x128 0#32) (subi v (broadcast S1x128 126#32))

variable {x0 : S16x1024x768.Idx → Elt Ideal .bf16} {x1 : S16x1024x512.Idx → Elt Ideal .bf16} {ga be : S1280.Idx → Elt Ideal .f32}

def c448 : ℝ := 9586981 / 4294967296
theorem ofBits_448 : Ideal.ofBits .f32 991054117#32 = (c448 : EReal) := by
  simp [Ideal.ofBits, Ideal.ieee, c448]
  rw [← EReal.coe_mul]
  norm_num

theorem rE_at {m : ℝ} {T : ℕ} (hm : 0 ≤ m) (hT : IsT (m * c448) T) (hy : ry x0 x1 ga be = ((m : ℝ) : EReal)) (l : Fin 128) :
    rE x0 x1 ga be (ix2 0 l) = if T = 1 then 0#32 else BitVec.ofNat 32 (T - 1) - 126#32 := by
  have e : rE x0 x1 ga be = fin8 (stp (k0_pay1979 (ry x0 x1 ga be)) (BitVec.ofNat 32 1) (stp (k0_pay1979 (ry x0 x1 ga be)) (BitVec.ofNat 32 2) (stp (k0_pay1979 (ry x0 x1 ga be)) (BitVec.ofNat 32 4) (stp (k0_pay1979 (ry x0 x1 ga be)) (BitVec.ofNat 32 8)
    (stp (k0_pay1979 (ry x0 x1 ga be)) (BitVec.ofNat 32 16) (stp (k0_pay1979 (ry x0 x1 ga be)) (BitVec.ofNat 32 32) (stp (k0_pay1979 (ry x0 x1 ga be)) (BitVec.ofNat 32 64) (stp (k0_pay1979 (ry x0 x1 ga be)) (BitVec.ofNat 32 128) (broadcast S1x128 0#32))))))))) := rfl
  rw [e, hy]
  have hw : ∀ l : Fin 128, k0_pay1979 (F := Ideal) ((m : ℝ) : EReal) (ix2 0 l) = ((m * c448 : ℝ) : EReal) := fun l => by
    have e2 : k0_pay1979 (F := Ideal) ((m : ℝ) : EReal) (ix2 0 l) = ((m : ℝ) : EReal) * Ideal.ofBits .f32 991054117#32 := rfl
    rw [e2, ofBits_448, ← EReal.coe_mul]
  have h0 : 0 ≤ m * c448 := mul_nonneg hm (by unfold c448; norm_num)
  generalize k0_pay1979 (F := Ideal) ((m : ℝ) : EReal) = w at hw
  have hone := hT.one
  have hle := hT.le
  obtain ⟨f, h1, h2, h3, h4⟩ := stp_at h0 hT w hw 1 _ l (stp_at h0 hT w hw 2 _ l (stp_at h0 hT w hw 4 _ l (stp_at h0 hT w hw 8 _ l (stp_at h0 hT w hw 16 _ l (stp_at h0 hT w hw 32 _ l (stp_at h0 hT w hw 64 _ l (stp_at h0 hT w hw 128 (broadcast S1x128 0#32) l
    ⟨0, rfl, by omega, by omega, by omega⟩)))))))
  have h5 : f = T - 1 := by omega
  subst h5
  show Scalar.select (IntOp.cmpi .eq _ 0#32) 0#32 (_ - 126#32) = _
  rw [h1]
  split
  · rename_i hh; subst hh; rfl
  · rename_i hh
    have : IntOp.cmpi .eq (BitVec.ofNat 32 (T - 1)) 0#32 = 0#1 := by
      show BitVec.ofBool (BitVec.ofNat 32 (T - 1) == 0#32) = 0#1
      have hne : (BitVec.ofNat 32 (T - 1) == 0#32) = false := by
        rw [beq_eq_false_iff_ne]
        intro hc
        have := congrArg BitVec.toNat hc
        simp only [BitVec.toNat_ofNat] at this
        omega
      rw [hne]; rfl
    rw [this]; rfl

theorem fold_const {ι : Type} [Fintype ι] [Nonempty ι] (f : ι → EReal) (s : ℝ) (h : ∀ i, f i = (s : EReal)) :
    Finset.fold max (⊥ : EReal) f univ = (s : EReal) := by
  rw [show f = fun _ => ((s : ℝ) : EReal) from funext h, fold_max_coe (fun _ => s)]
  simp

/-- The scale for a least exponent field. -/
def scl (T : ℕ) : ℝ := if T = 1 then 1 else pw T
theorem scl_pos (T : ℕ) : 0 < scl T := by
  unfold scl; split
  · norm_num
  · exact pw_pos T
theorem word_s : ∀ T : Fin 254, 2 ≤ T.val → 127#32 + (BitVec.ofNat 32 (T.val - 1) - 126#32) = BitVec.ofNat 32 T.val := by decide +kernel
theorem word_i : ∀ T : Fin 254, 2 ≤ T.val → 127#32 - (BitVec.ofNat 32 (T.val - 1) - 126#32) = BitVec.ofNat 32 (254 - T.val) := by decide +kernel

theorem rScale_at {m : ℝ} {T : ℕ} (hm : 0 ≤ m) (hT : IsT (m * c448) T) (hy : ry x0 x1 ga be = ((m : ℝ) : EReal)) :
    rScale x0 x1 ga be = ((scl T : ℝ) : EReal) := by
  have h := rE_at hm hT hy
  have hone := hT.one
  have hle := hT.le
  unfold rScale
  generalize rE x0 x1 ga be = v at h
  pointwise [k0_pay1984]
  rw [ofBits_ninf]
  refine fold_const _ _ fun k => ?_
  simp only [h]
  show Ideal.ofBits .f32 ((127#32 + _) <<< 23) = _
  unfold scl
  split
  · have := ofBits_exp 127 (by norm_num) (by norm_num)
    refine this.trans ?_
    unfold pw; norm_num
  · rw [word_s ⟨T, by omega⟩ (by show 2 ≤ T; omega)]
    exact ofBits_exp T hone (by omega)
theorem rInv_at {m : ℝ} {T : ℕ} (hm : 0 ≤ m) (hT : IsT (m * c448) T) (hy : ry x0 x1 ga be = ((m : ℝ) : EReal)) :
    rInv x0 x1 ga be = (((scl T)⁻¹ : ℝ) : EReal) := by
  have h := rE_at hm hT hy
  have hone := hT.one
  have hle := hT.le
  unfold rInv
  generalize rE x0 x1 ga be = v at h
  pointwise [k0_pay1983]
  rw [ofBits_ninf]
  refine fold_const _ _ fun k => ?_
  simp only [h]
  show Ideal.ofBits .f32 ((127#32 - _) <<< 23) = _
  unfold scl
  split
  · have := ofBits_exp 127 (by norm_num) (by norm_num)
    refine this.trans ?_
    unfold pw; norm_num
  · rw [word_i ⟨T, by omega⟩ (by show 2 ≤ T; omega)]
    refine (ofBits_exp (254 - T) (by omega) (by omega)).trans ?_
    congr 1
    unfold pw
    rw [← zpow_neg]
    congr 1
    omega

end Cert.KernelIdeal.Hand
-- ==== Proof.KI.M6.lean ====
/-
  The bound on the normalised values.
-/
module

public import proofs.«01_k».proof.Proof.KI.M5

@[expose] public section

set_option maxRecDepth 65536

noncomputable section

namespace Cert.KernelIdeal.Hand

open Cert.KernelIdeal Cert.KernelIdeal.Gen
open Idealize.ShloMosaic Idealize.ShloMosaic.TcCoe
open Finset

variable {X : ℕ → ℕ → ℕ → ℝ} {γ β : ℕ → ℝ}

/-- The normalised value, with the centred input first. -/
theorem vV_eq (n r c : ℕ) : vV X γ β n r c = (X n r c - mu X n (c / 40)) * rsr X n (c / 40) * γ c + β c := by
  unfold vV fB fA; ring

/-- One centred square is at most the sum of the group's. -/
theorem sq_le (n r c : ℕ) (hr : r < 1024) (hc : c < 1280) : (X n r c - mu X n (c / 40)) ^ 2 ≤ 40960 * va X n (c / 40) := by
  have e : 40960 * va X n (c / 40) = ∑ d : Fin 1280, if d.val / 40 = c / 40 then ∑ r ∈ range 1024, (X n r d - mu X n (d.val / 40)) ^ 2 else 0 := by
    unfold va; ring
  rw [e]
  have h1 : (X n r c - mu X n (c / 40)) ^ 2 ≤ ∑ r ∈ range 1024, (X n r c - mu X n (c / 40)) ^ 2 :=
    single_le_sum (f := fun r => (X n r c - mu X n (c / 40)) ^ 2) (fun r _ => sq_nonneg _) (mem_range.2 hr)
  have h2 := single_le_sum (f := fun d : Fin 1280 => if d.val / 40 = c / 40 then ∑ r ∈ range 1024, (X n r d - mu X n (d.val / 40)) ^ 2 else 0)
    (fun d _ => by
      show 0 ≤ ite _ _ _
      split
      · exact sum_nonneg fun r _ => sq_nonneg _
      · exact le_rfl) (mem_univ (⟨c, hc⟩ : Fin 1280))
  simp only [if_true] at h2
  exact h1.trans h2

/-- A normalised input is at most 203 in magnitude. -/
theorem norm_le (n r c : ℕ) (hr : r < 1024) (hc : c < 1280) : |(X n r c - mu X n (c / 40)) * rsr X n (c / 40)| ≤ 203 := by
  have h := sq_le (X := X) n r c hr hc
  have hv := va_nonneg X n (c / 40)
  have he := eps_pos
  have hs : 0 < Real.sqrt (va X n (c / 40) + epsR) := Real.sqrt_pos.2 (by linarith)
  have hq : Real.sqrt (va X n (c / 40) + epsR) ^ 2 = va X n (c / 40) + epsR := Real.sq_sqrt (by linarith)
  rw [abs_mul, rsr, abs_of_pos (inv_pos.2 hs), ← div_eq_mul_inv, div_le_iff₀ hs]
  refine abs_le_of_sq_le_sq ?_ (by positivity)
  rw [mul_pow, hq]
  nlinarith

theorem sil_le_abs (v : ℝ) : |sil v| ≤ |v| := by
  unfold sil
  rw [abs_mul]
  have hp := Real.exp_pos (-v)
  have h1 : |1 / (1 + Real.exp (-v))| ≤ 1 := by
    rw [abs_of_pos (by positivity), div_le_one (by linarith)]
    linarith
  nlinarith [abs_nonneg v]

theorem yY_le (hg : ∀ c < 1280, |γ c| ≤ 2 ^ 127) (hb : ∀ c < 1280, |β c| ≤ 2 ^ 127) (n r c : ℕ) (hr : r < 1024) (hc : c < 1280) :
    |yY X γ β n r c| ≤ 204 * 2 ^ 127 := by
  refine (sil_le_abs _).trans ?_
  rw [vV_eq]
  refine (abs_add_le _ _).trans ?_
  rw [abs_mul]
  have h1 := norm_le (X := X) n r c hr hc
  have h2 := mul_le_mul h1 (hg c hc) (abs_nonneg _) (by norm_num)
  have h3 := hb c hc
  linarith

/-- With scales and shifts at most `2^127` in magnitude, the scaled largest magnitude has an exponent field. -/
theorem mx_lt (hg : ∀ c < 1280, |γ c| ≤ 2 ^ 127) (hb : ∀ c < 1280, |β c| ≤ 2 ^ 127) {m : ℝ} (hm : IsMx X γ β m) : m * c448 < pw 253 := by
  obtain ⟨n, r, c, hn, hr, hc, e⟩ := hm.at'
  have h := yY_le (X := X) hg hb n r c hr hc
  rw [e] at h
  have h2 : pw 253 = 2 ^ 126 := by
    show (2 : ℝ) ^ (((253 : ℕ) : ℤ) - 127) = 2 ^ 126
    rw [show (((253 : ℕ) : ℤ) - 127) = ((126 : ℕ) : ℤ) by norm_num, zpow_natCast]
  rw [h2]
  have hc0 : (0 : ℝ) < c448 := by unfold c448; norm_num
  refine lt_of_le_of_lt (mul_le_mul_of_nonneg_right h hc0.le) ?_
  unfold c448
  norm_num
theorem mx_nonneg {m : ℝ} (hm : IsMx X γ β m) : 0 ≤ m := by
  obtain ⟨n, r, c, hn, hr, hc, e⟩ := hm.at'
  exact e ▸ abs_nonneg _

end Cert.KernelIdeal.Hand
-- ==== Proof.KI.M7.lean ====
/-
  The codes, as real numbers.
-/
module

public import proofs.«01_k».proof.Proof.KI.M6

@[expose] public section

set_option maxRecDepth 65536

noncomputable section

namespace Cert.KernelIdeal.Hand

open Cert.KernelIdeal Cert.KernelIdeal.Gen
open Idealize.ShloMosaic Idealize.ShloMosaic.TcCoe
open Finset

variable {x0 : S16x1024x768.Idx → Elt Ideal .bf16} {x1 : S16x1024x512.Idx → Elt Ideal .bf16} {ga be : S1280.Idx → Elt Ideal .f32} {X : ℕ → ℕ → ℕ → ℝ} {γ β : ℕ → ℝ}

theorem xB_at (H : Holds x0 x1 X) (k t q : ℕ) (hk : k < 16) (ht : t < 5) (hq : q < 8) (n : Fin 128) (l : Fin 256) :
    xB x0 x1 k t q (ix3 0 n l) = ((X k (128 * q + n.val) (256 * t + l.val) : ℝ) : EReal) := by
  have hs := n.isLt
  have hl := l.isLt
  match t, ht with
  | 0, _ => exact (H.up k (128 * q + n.val) (0 + l.val) hk (by omega) (by omega)).trans (by rw [show 0 + l.val = 256 * 0 + l.val by omega])
  | 1, _ => exact (H.up k (128 * q + n.val) (256 + l.val) hk (by omega) (by omega)).trans (by rw [show 256 + l.val = 256 * 1 + l.val by omega])
  | 2, _ => exact (H.up k (128 * q + n.val) (512 + l.val) hk (by omega) (by omega)).trans (by rw [show 512 + l.val = 256 * 2 + l.val by omega])
  | 3, _ => exact (H.sk k (128 * q + n.val) (0 + l.val) hk (by omega) (by omega)).trans (by rw [show 768 + (0 + l.val) = 256 * 3 + l.val by omega])
  | 4, _ => exact (H.sk k (128 * q + n.val) (256 + l.val) hk (by omega) (by omega)).trans (by rw [show 768 + (256 + l.val) = 256 * 4 + l.val by omega])

theorem j3_eq (r n : ℕ) (hr : r < 128) (hn : n < 256) : j3 r n = ix3 0 (⟨r, hr⟩ : Fin 128) (⟨n, hn⟩ : Fin 256) := by
  funext a
  fin_cases a
  · rfl
  · exact Fin.ext (Nat.mod_eq_of_lt hr)
  · exact Fin.ext (Nat.mod_eq_of_lt hn)

/-- The code of a position. -/
theorem rG_at (H : Holds x0 x1 X) (hg : ∀ c : Fin 1280, ga (ix1 c) = ((γ c : ℝ) : EReal)) (hb : ∀ c : Fin 1280, be (ix1 c) = ((β c : ℝ) : EReal))
    {m : ℝ} {T : ℕ} (hm : 0 ≤ m) (hT : IsT (m * c448) T) (hy : ry x0 x1 ga be = ((m : ℝ) : EReal)) (n : Fin 16) (r : Fin 1024) (c : Fin 1280) :
    codeG (rG x0 x1 ga be) (ix3 n r c) = min (Ideal.ofBits .f32 1138753536#32) (max (Ideal.ofBits .f32 3286237184#32) ((yY X γ β n r c * (scl T)⁻¹ : ℝ) : EReal)) := by
  have hn := n.isLt
  have hr := r.isLt
  have hc := c.isLt
  show cdB x0 x1 (rA x0 x1 ga) (rB x0 x1 ga be) (rInv x0 x1 ga be) n.val (bn r.val c.val) (j3 (r.val % 128) (c.val % 256)) = _
  have hi := rInv_at hm hT hy
  have hA := ln_at _ _ (rA_at H hg) n.val (c.val / 256) hn (by omega) ⟨c.val % 256, by omega⟩
  have hB := ln_at _ _ (rB_at H hg hb) n.val (c.val / 256) hn (by omega) ⟨c.val % 256, by omega⟩
  have hX := xB_at H n.val (c.val / 256) (r.val / 128) hn (by omega) (by omega) ⟨r.val % 128, by omega⟩ ⟨c.val % 256, by omega⟩
  have e1 : bn r.val c.val / 8 = c.val / 256 := by unfold bn; omega
  have e2 : bn r.val c.val % 8 = r.val / 128 := by unfold bn; omega
  have e3 : 256 * (c.val / 256) + c.val % 256 = c.val := by omega
  have e4 : 128 * (r.val / 128) + r.val % 128 = r.val := by omega
  simp only [e3, e4] at hA hB hX
  unfold cdB
  rw [e1, e2, j3_eq _ _ (by omega) (by omega)]
  generalize ln (rA x0 x1 ga) n.val (256 * (c.val / 256)) = wa at hA ⊢
  generalize ln (rB x0 x1 ga be) n.val (256 * (c.val / 256)) = wb at hB ⊢
  generalize xB x0 x1 n.val (c.val / 256) (r.val / 128) = wx at hX ⊢
  generalize rInv x0 x1 ga be = wi at hi ⊢
  pointwise [k0_pay1877, k0_pay1875, k0_pay1876]
  rw [hA, hB, hX, hi, ← EReal.coe_mul, ← EReal.coe_add, sil_coe, ← EReal.coe_mul]
  rfl

end Cert.KernelIdeal.Hand
-- ==== Proof.RI.H1.lean ====
/-
  The reference's values as functions of its arguments.
-/
module

public import proofs.«01_k».proof.Proof.Gen.ReferenceIdeal.Value
public import Idealize.ShloMosaic.Lib.Claim
public import Idealize.ShloMosaic.Lib.StableHlo.RunRead

@[expose] public section

set_option maxRecDepth 65536

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

/-- The reference's values, as functions of its arguments. -/
def h2 (a0 : FVec F S16x1024x768 .bf16) (a1 : FVec F S16x1024x512 .bf16) : FVec F S16x1024x32x40 .f32 :=
  shapeCast S16x1024x32x40 (extf .f32 (concatenate S16x1024x1280 2 [⟨S16x1024x768, a0⟩, ⟨S16x1024x512, a1⟩] concatenates_S16x1024x768_S16x1024x512_S16x1024x1280_d2) bitsLt_bf16_f32) shapeCasts_S16x1024x1280_S16x1024x32x40
/-- The mean over a group. -/
def hmean (x : FVec F S16x1024x32x40 .f32) : FVec F S16x1x32x1 .f32 :=
  Host.divf (broadcastInDim S16x1x32x1 ![0, 2] bcast_S16x32_S16x1x32x1_0_2 (Host.reduceAdd x (constant S_ .f32 0x00000000#32) reducesTo_S16x1024x32x40_S16x32_d1_3 h_S_)) (broadcastInDim S16x1x32x1 ![] bcast_S_S16x1x32x1 (constant S_ .f32 0x47200000#32))
/-- The centred inputs. -/
def h8 (x : FVec F S16x1024x32x40 .f32) : FVec F S16x1024x32x40 .f32 :=
  subf x (broadcastInDim S16x1024x32x40 ![0, 1, 2, 3] bcast_S16x1x32x1_S16x1024x32x40_0_1_2_3 (hmean x))
/-- The normalised inputs, from the centred ones. -/
def h18 (x : FVec F S16x1024x32x40 .f32) : FVec F S16x1024x32x40 .f32 :=
  mulf x (broadcastInDim S16x1024x32x40 ![0, 1, 2, 3] bcast_S16x1x32x1_S16x1024x32x40_0_1_2_3 (Host.rsqrt (addf (hmean (mulf x x)) (broadcastInDim S16x1x32x1 ![] bcast_S_S16x1x32x1 (constant S_ .f32 0x3727C5AC#32)))))
/-- The scaled and shifted values. -/
def h25 (x : FVec F S16x1024x32x40 .f32) (a2 a3 : FVec F S1280 .f32) : FVec F S16x1024x1280 .f32 :=
  addf (mulf (shapeCast S16x1024x1280 x shapeCasts_S16x1024x32x40_S16x1024x1280) (broadcastInDim S16x1024x1280 ![0, 1, 2] bcast_S1x1x1280_S16x1024x1280_0_1_2 (broadcastInDim S1x1x1280 ![2] bcast_S1280_S1x1x1280_2 a2)))
    (broadcastInDim S16x1024x1280 ![0, 1, 2] bcast_S1x1x1280_S16x1024x1280_0_1_2 (broadcastInDim S1x1x1280 ![2] bcast_S1280_S1x1x1280_2 a3))
/-- The gated values. -/
def h32 (x : FVec F S16x1024x1280 .f32) : FVec F S16x1024x1280 .f32 :=
  mulf x (Host.divf (broadcastInDim S16x1024x1280 ![] bcast_S_S16x1024x1280 (constant S_ .f32 0x3F800000#32)) (addf (broadcastInDim S16x1024x1280 ![] bcast_S_S16x1024x1280 (constant S_ .f32 0x3F800000#32)) (Host.exp (Host.negf x))))
/-- The largest magnitude, over 448. -/
def h35 (y : FVec F S16x1024x1280 .f32) : FVec F S_ .f32 :=
  mulf (Host.reduce FloatOps.maximumf (Host.absf y) (constant S_ .f32 0xFF800000#32) reducesTo_S16x1024x1280_S_d0_1_2 h_S_) (constant S_ .f32 0x3B124925#32)
/-- The powers of two. -/
def hpw : FVec F S254 .f32 := fun i => FloatOps.ofBits .f32 (lit0 (S254.rowMajor i))
/-- The scale. -/
def h41 (p : FVec F S254 .f32) (a : FVec F S_ .f32) : FVec F S_ .f32 :=
  select (cmpf .olt a (constant S_ .f32 0x00800000#32)) (constant S_ .f32 0x3F800000#32)
    (Host.reduce FloatOps.minimumf (select (cmpf .olt (broadcastInDim S254 ![] bcast_S_S254 a) p) p (broadcastInDim S254 ![] bcast_S_S254 (constant S_ .f32 0x7F800000#32))) (constant S_ .f32 0x7F800000#32) reducesTo_S254_S_d0 h_S_)
/-- The gated values, from the arguments. -/
def hy (a0 : FVec F S16x1024x768 .bf16) (a1 : FVec F S16x1024x512 .bf16) (a2 a3 : FVec F S1280 .f32) : FVec F S16x1024x1280 .f32 := h32 (h25 (h18 (h8 (h2 a0 a1))) a2 a3)
/-- The values before the cast. -/
def h45 (y : FVec F S16x1024x1280 .f32) (s : FVec F S_ .f32) : FVec F S16x1024x1280 .f32 :=
  mulf y (broadcastInDim S16x1024x1280 ![] bcast_S_S16x1024x1280 (Host.divf (constant S_ .f32 0x3F800000#32) s))

section
variable (W : Valuation τ sig (Elt F))
/-- The host operations, cut where one value is left. -/
abbrev sA : List (HloOp τ sig (Elt F)) := (hostOps0 (F := F)).take 4
abbrev sB : List (HloOp τ sig (Elt F)) := ((hostOps0 (F := F)).drop 4).take 8
abbrev sC : List (HloOp τ sig (Elt F)) := ((hostOps0 (F := F)).drop 12).take 13
abbrev sD : List (HloOp τ sig (Elt F)) := ((hostOps0 (F := F)).drop 25).take 7
abbrev sE : List (HloOp τ sig (Elt F)) := ((hostOps0 (F := F)).drop 32).take 9
abbrev sF : List (HloOp τ sig (Elt F)) := ((hostOps0 (F := F)).drop 41).take 5
abbrev sG : List (HloOp τ sig (Elt F)) := (hostOps0 (F := F)).drop 46 ++ (hostOps0_1 ++ (hostOps0_2 ++ (hostOps0_3 ++ hostOps0_4)))

theorem cut_ops : List.flatten [hostOps0, hostOps0_1, hostOps0_2, hostOps0_3, hostOps0_4] = sA (F := F) ++ (sB ++ (sC ++ (sD ++ (sE ++ (sF ++ sG))))) := rfl
theorem A_v2 : StableHlo.after (sA (F := F)) W (Proc.devRef .tc main_v2) = h2 (W (Proc.devRef .tc main_arg0)) (W (Proc.devRef .tc main_arg1)) := by
  after_reads_simp
  rfl
theorem A_cst : StableHlo.after (sA (F := F)) W (Proc.devRef .tc main_cst) = hpw (F := F) := by
  after_reads_simp
  rfl
theorem A_g : StableHlo.after (sA (F := F)) W (Proc.devRef .tc main_arg2) = W (Proc.devRef .tc main_arg2) := by after_reads_simp
theorem A_b : StableHlo.after (sA (F := F)) W (Proc.devRef .tc main_arg3) = W (Proc.devRef .tc main_arg3) := by after_reads_simp
theorem B_v8 : StableHlo.after (sB (F := F)) W (Proc.devRef .tc main_v8) = h8 (W (Proc.devRef .tc main_v2)) := by
  after_reads_simp
  rfl
theorem B_cst : StableHlo.after (sB (F := F)) W (Proc.devRef .tc main_cst) = W (Proc.devRef .tc main_cst) := by after_reads_simp
theorem B_g : StableHlo.after (sB (F := F)) W (Proc.devRef .tc main_arg2) = W (Proc.devRef .tc main_arg2) := by after_reads_simp
theorem B_b : StableHlo.after (sB (F := F)) W (Proc.devRef .tc main_arg3) = W (Proc.devRef .tc main_arg3) := by after_reads_simp
theorem C_v18 : StableHlo.after (sC (F := F)) W (Proc.devRef .tc main_v18) = h18 (W (Proc.devRef .tc main_v8)) := by
  after_reads_simp
  rfl
theorem C_cst : StableHlo.after (sC (F := F)) W (Proc.devRef .tc main_cst) = W (Proc.devRef .tc main_cst) := by after_reads_simp
theorem C_g : StableHlo.after (sC (F := F)) W (Proc.devRef .tc main_arg2) = W (Proc.devRef .tc main_arg2) := by after_reads_simp
theorem C_b : StableHlo.after (sC (F := F)) W (Proc.devRef .tc main_arg3) = W (Proc.devRef .tc main_arg3) := by after_reads_simp
theorem D_v25 : StableHlo.after (sD (F := F)) W (Proc.devRef .tc main_v25) = h25 (W (Proc.devRef .tc main_v18)) (W (Proc.devRef .tc main_arg2)) (W (Proc.devRef .tc main_arg3)) := by
  after_reads_simp
  rfl
theorem D_cst : StableHlo.after (sD (F := F)) W (Proc.devRef .tc main_cst) = W (Proc.devRef .tc main_cst) := by after_reads_simp
theorem E_v32 : StableHlo.after (sE (F := F)) W (Proc.devRef .tc main_v32) = h32 (W (Proc.devRef .tc main_v25)) := by
  after_reads_simp
  rfl
theorem E_cst : StableHlo.after (sE (F := F)) W (Proc.devRef .tc main_cst) = W (Proc.devRef .tc main_cst) := by after_reads_simp
theorem F_v35 : StableHlo.after (sF (F := F)) W (Proc.devRef .tc main_v35) = h35 (W (Proc.devRef .tc main_v32)) := by
  after_reads_simp
  rfl
theorem F_v32 : StableHlo.after (sF (F := F)) W (Proc.devRef .tc main_v32) = W (Proc.devRef .tc main_v32) := by after_reads_simp
theorem F_cst : StableHlo.after (sF (F := F)) W (Proc.devRef .tc main_cst) = W (Proc.devRef .tc main_cst) := by after_reads_simp
theorem G_v42 : StableHlo.after (sG (F := F)) W (Proc.devRef .tc main_v42) = shapeCast S1x1 (h41 (W (Proc.devRef .tc main_cst)) (W (Proc.devRef .tc main_v35))) shapeCasts_S_S1x1 := by
  after_reads_simp
  rfl
theorem G_v45 : StableHlo.after (sG (F := F)) W (Proc.devRef .tc main_v45) = h45 (W (Proc.devRef .tc main_v32)) (h41 (W (Proc.devRef .tc main_cst)) (W (Proc.devRef .tc main_v35))) := by
  after_reads_simp
  rfl
end
variable (m : (ℓ : Loc nD τ sig) → Buf (Elt F) ℓ)
theorem V42 (c : Dev nD) : V m c main_v42 = shapeCast S1x1 (h41 hpw (h35 (hy (m ((c : Thread nD τ).loc main_arg0)) (m ((c : Thread nD τ).loc main_arg1)) (m ((c : Thread nD τ).loc main_arg2)) (m ((c : Thread nD τ).loc main_arg3))))) shapeCasts_S_S1x1 := by
  show StableHlo.after _ _ (Proc.devRef .tc main_v42) = _
  rw [cut_ops, StableHlo.after_append, StableHlo.after_append, StableHlo.after_append, StableHlo.after_append, StableHlo.after_append, StableHlo.after_append,
    G_v42, F_v35, F_cst, E_v32, E_cst, D_v25, D_cst, C_v18, C_cst, C_g, C_b, B_v8, B_cst, B_g, B_b, A_v2, A_cst, A_g, A_b]
  rfl
theorem V45 (c : Dev nD) : V m c main_v45 = h45 (hy (m ((c : Thread nD τ).loc main_arg0)) (m ((c : Thread nD τ).loc main_arg1)) (m ((c : Thread nD τ).loc main_arg2)) (m ((c : Thread nD τ).loc main_arg3)))
    (h41 hpw (h35 (hy (m ((c : Thread nD τ).loc main_arg0)) (m ((c : Thread nD τ).loc main_arg1)) (m ((c : Thread nD τ).loc main_arg2)) (m ((c : Thread nD τ).loc main_arg3))))) := by
  show StableHlo.after _ _ (Proc.devRef .tc main_v45) = _
  rw [cut_ops, StableHlo.after_append, StableHlo.after_append, StableHlo.after_append, StableHlo.after_append, StableHlo.after_append, StableHlo.after_append,
    G_v45, F_v32, F_v35, F_cst, E_v32, E_cst, D_v25, D_cst, C_v18, C_cst, C_g, C_b, B_v8, B_cst, B_g, B_b, A_v2, A_cst, A_g, A_b]
  rfl

end Cert.ReferenceIdeal.Hand
-- ==== Proof.RI.H2.lean ====
/-
  The reference's values, as real numbers.
-/
module

public import proofs.«01_k».proof.Proof.RI.H1
public import proofs.«01_k».proof.Proof.KI.M6

@[expose] public section

set_option maxRecDepth 65536

noncomputable section

namespace Cert.ReferenceIdeal.Hand

open Cert.ReferenceIdeal Cert.ReferenceIdeal.Gen
open Idealize.ShloMosaic Idealize.ShloMosaic.TcCoe
open Finset
open Cert.KernelIdeal.Hand (mu va va_nonneg rsr sil logistic_coe sil_coe absf_coe fold_max_coe fold_min_coe ofBits_ninf ofBits_pinf epsR eps_pos ofBits_eps rsqrt_coe c448 ofBits_448 pw pw_pos pw_mono ofBits_exp IsT scl scl_pos vV yY vV_eq coe_sum IsMx mx_lt mx_nonneg)

variable {X : ℕ → ℕ → ℕ → ℝ} {γ β : ℕ → ℝ}

theorem h2_at {a0 : FVec Ideal S16x1024x768 .bf16} {a1 : FVec Ideal S16x1024x512 .bf16}
    (h0 : ∀ (n : Fin 16) (r : Fin 1024) (c : Fin 768), a0 (ix3 n r c) = ((X n r c : ℝ) : EReal)) (h1 : ∀ (n : Fin 16) (r : Fin 1024) (c : Fin 512), a1 (ix3 n r c) = ((X n r (768 + c) : ℝ) : EReal))
    (n : Fin 16) (r : Fin 1024) (g : Fin 32) (j : Fin 40) : h2 a0 a1 (ix4 n r g j) = ((X n r (40 * g.val + j.val) : ℝ) : EReal) := by
  pointwise [h2]
  have hg := g.isLt
  have hj := j.isLt
  split
  · rename_i hc
    refine (h0 n r _).trans (congrArg (fun k : ℕ => ((X n r k : ℝ) : EReal)) ?_)
    show g.val * 40 + j.val = _
    omega
  · rename_i hc
    refine (h1 n r _).trans (congrArg (fun k : ℕ => ((X n r k : ℝ) : EReal)) ?_)
    show 768 + (g.val * 40 + j.val - 768) = _
    omega

theorem sum_group (F : ℕ → ℝ) (g : Fin 32) : (∑ c : Fin 1280, if c.val / 40 = g.val then F c else 0) = ∑ j : Fin 40, F (40 * g.val + j.val) := by
  rw [← (finProdFinEquiv (m := 32) (n := 40)).sum_comp (fun c : Fin 1280 => if c.val / 40 = g.val then F c else 0), Fintype.sum_prod_type]
  have e : ∀ (i : Fin 32) (j : Fin 40), (if (finProdFinEquiv (i, j)).val / 40 = g.val then F (finProdFinEquiv (i, j)).val else 0) = if i = g then F (40 * i.val + j.val) else 0 := by
    intro i j
    rw [finProdFinEquiv_apply_val]
    have h1 : (j.val + 40 * i.val) / 40 = i.val := by omega
    simp only [h1, Fin.ext_iff, add_comm]
  show ∑ i : Fin 32, ∑ j : Fin 40, (if (finProdFinEquiv (i, j)).val / 40 = g.val then F (finProdFinEquiv (i, j)).val else 0) = _
  simp only [e]
  rw [sum_eq_single g (fun i _ hi => by simp [hi]) (by simp)]
  simp

theorem reduce13 (x : FVec Ideal S16x1024x32x40 .f32) (n : Fin 16) (g : Fin 32) :
    Ideal.hostReduceAdd reducesTo_S16x1024x32x40_S16x32_d1_3 x 0 (ix2 n g) = 0 + ∑ k : Fin 40 × Fin 1024, x (ix4 n k.2 g k.1) := by
  unfold Ideal.hostReduceAdd
  rw [Finset.sum_filter_eq_sum_of_fiber (fun i => Shape.ReducesTo.drop reducesTo_S16x1024x32x40_S16x32_d1_3 i = ix2 n g) (fun k : Fin 40 × Fin 1024 => ix4 n k.2 g k.1)]
  · intro k k' hk
    exact Prod.ext (congrFun hk 3) (congrFun hk 1)
  · intro i
    constructor
    · intro he
      refine ⟨(i 3, i 1), ?_⟩
      funext a
      fin_cases a
      · exact (Fin.ext (congrArg Fin.val (congrFun he 0))).symm
      · rfl
      · exact (Fin.ext (congrArg Fin.val (congrFun he 1))).symm
      · rfl
    · rintro ⟨k, rfl⟩
      funext a
      fin_cases a <;> rfl

theorem h40960 : Ideal.ofBits .f32 1193279488#32 = ((40960 : ℝ) : EReal) := by
  simp [Ideal.ofBits, Ideal.ieee]
  rw [← EReal.coe_mul, EReal.coe_eq_coe_iff]
  norm_num
theorem hmean_at {x : FVec Ideal S16x1024x32x40 .f32} (f : ℕ → ℕ → ℕ → ℝ) (h : ∀ (n : Fin 16) (r : Fin 1024) (g : Fin 32) (j : Fin 40), x (ix4 n r g j) = ((f n r (40 * g.val + j.val) : ℝ) : EReal)) (n : Fin 16) (g : Fin 32) :
    hmean x (ix4 n 0 g 0) = (((∑ c : Fin 1280, if c.val / 40 = g.val then ∑ r ∈ range 1024, f n r c else 0) * (1 / 40960) : ℝ) : EReal) := by
  pointwise [hmean]
  rw [reduce13]
  simp only [h]
  rw [← coe_sum, zero_add, sum_group (fun c => ∑ r ∈ range 1024, f n r c), Fintype.sum_prod_type, h40960, Ideal.div, if_neg (by exact_mod_cast (by norm_num : (40960 : ℝ) ≠ 0)), ← EReal.coe_inv, ← EReal.coe_mul]
  simp only [← Fin.sum_univ_eq_sum_range (fun r => f n r _)]
  norm_num
theorem h8_at {x : FVec Ideal S16x1024x32x40 .f32} (h : ∀ (n : Fin 16) (r : Fin 1024) (g : Fin 32) (j : Fin 40), x (ix4 n r g j) = ((X n r (40 * g.val + j.val) : ℝ) : EReal)) (n : Fin 16) (r : Fin 1024) (g : Fin 32) (j : Fin 40) :
    h8 x (ix4 n r g j) = ((X n r (40 * g.val + j.val) - mu X n ((40 * g.val + j.val) / 40) : ℝ) : EReal) := by
  have h2 := hmean_at X h
  unfold h8
  generalize hmean x = w at h2
  pointwise []
  rw [h, h2, show (40 * g.val + j.val) / 40 = g.val by omega, EReal.coe_sub]
  rfl
theorem h18_at {x : FVec Ideal S16x1024x32x40 .f32} (h : ∀ (n : Fin 16) (r : Fin 1024) (g : Fin 32) (j : Fin 40), x (ix4 n r g j) = ((X n r (40 * g.val + j.val) - mu X n ((40 * g.val + j.val) / 40) : ℝ) : EReal)) (n : Fin 16) (r : Fin 1024) (g : Fin 32) (j : Fin 40) :
    h18 x (ix4 n r g j) = (((X n r (40 * g.val + j.val) - mu X n ((40 * g.val + j.val) / 40)) * rsr X n ((40 * g.val + j.val) / 40) : ℝ) : EReal) := by
  have h2 := hmean_at (x := mulf x x) (fun n r c => (X n r c - mu X n (c / 40)) ^ 2) (fun n r g j => by
    pointwise []
    rw [h, ← EReal.coe_mul, sq])
  have h3 : ∀ (n : Fin 16) (g : Fin 32), hmean (mulf x x) (ix4 n 0 g 0) = ((va X n g : ℝ) : EReal) := h2
  unfold h18
  generalize hmean (mulf x x) = w at h3
  pointwise []
  have hv := va_nonneg X n g
  have he := eps_pos
  rw [h, h3, ofBits_eps, ← EReal.coe_add, rsqrt_coe _ (add_pos_of_nonneg_of_pos hv he), ← EReal.coe_mul, show (40 * g.val + j.val) / 40 = g.val by omega]
  rfl
theorem h25_at {x : FVec Ideal S16x1024x32x40 .f32} {a2 a3 : FVec Ideal S1280 .f32} (f : ℕ → ℕ → ℕ → ℝ) (h : ∀ (n : Fin 16) (r : Fin 1024) (g : Fin 32) (j : Fin 40), x (ix4 n r g j) = ((f n r (40 * g.val + j.val) : ℝ) : EReal))
    (hg : ∀ c : Fin 1280, a2 (ix1 c) = ((γ c : ℝ) : EReal)) (hb : ∀ c : Fin 1280, a3 (ix1 c) = ((β c : ℝ) : EReal)) (n : Fin 16) (r : Fin 1024) (c : Fin 1280) :
    h25 x a2 a3 (ix3 n r c) = ((f n r c * γ c + β c : ℝ) : EReal) := by
  pointwise [h25]
  rw [h, hg, hb, ← EReal.coe_mul, ← EReal.coe_add]
  have e : 40 * (c.val / 40) + c.val % 40 = c.val := by omega
  simp only [e]
theorem h32_at {x : FVec Ideal S16x1024x1280 .f32} (f : ℕ → ℕ → ℕ → ℝ) (h : ∀ (n : Fin 16) (r : Fin 1024) (c : Fin 1280), x (ix3 n r c) = ((f n r c : ℝ) : EReal)) (n : Fin 16) (r : Fin 1024) (c : Fin 1280) :
    h32 x (ix3 n r c) = ((sil (f n r c) : ℝ) : EReal) := by
  pointwise [h32]
  rw [h]
  exact sil_coe _

end Cert.ReferenceIdeal.Hand
-- ==== Proof.RI.H3.lean ====
/-
  The reference's largest magnitude.
-/
module

public import proofs.«01_k».proof.Proof.RI.H1
public import proofs.«01_k».proof.Proof.KI.M6

@[expose] public section

set_option maxRecDepth 65536

noncomputable section

namespace Cert.ReferenceIdeal.Hand

open Cert.ReferenceIdeal Cert.ReferenceIdeal.Gen
open Idealize.ShloMosaic Idealize.ShloMosaic.TcCoe
open Finset
open Cert.KernelIdeal.Hand (mu va va_nonneg rsr sil logistic_coe sil_coe absf_coe fold_max_coe fold_min_coe ofBits_ninf ofBits_pinf epsR eps_pos ofBits_eps rsqrt_coe c448 ofBits_448 pw pw_pos pw_mono ofBits_exp IsT scl scl_pos vV yY vV_eq coe_sum IsMx mx_lt mx_nonneg)

theorem mul_at (a b : FVec Ideal S_ .f32) (i : S_.Idx) : mulf a b i = (a i * b i : EReal) := rfl
/-- The largest element of an array, from a reduction over every axis. -/
theorem reduce_max_all {s t : Shape} {axes : List (Fin s.rank)} (x : s.Idx → EReal) (init : S_.Idx → EReal) (h : s.ReducesTo axes t) (ht : t.rank = 0) (hu : 0 < S_.numel) (i : t.Idx) (m : EReal)
    (h0 : ∀ k, init k = ⊥) (hle : ∀ j, x j ≤ m) (hex : ∃ j, x j = m) : Host.reduce (FloatOps.maximumf (F := Ideal) (φ := .f32)) x init h hu i = m := by
  have e : (FloatOps.maximumf (F := Ideal) (φ := .f32)) = (max : EReal → EReal → EReal) := rfl
  rw [e, Host.reduce_eq_fold, h0]
  refine le_antisymm ((Finset.fold_max_le _).2 ⟨bot_le, fun j _ => hle j⟩) ?_
  obtain ⟨j, hj⟩ := hex
  refine (Finset.le_fold_max _).2 (Or.inr ⟨j, Finset.mem_filter.2 ⟨Finset.mem_univ _, funext fun a => absurd a.isLt (by omega)⟩, hj.symm.le⟩)

theorem absf_at {x : FVec Ideal S16x1024x1280 .f32} (f : ℕ → ℕ → ℕ → ℝ) (h : ∀ (n : Fin 16) (r : Fin 1024) (c : Fin 1280), x (ix3 n r c) = ((f n r c : ℝ) : EReal)) (j : S16x1024x1280.Idx) :
    Host.absf x j = ((|f (j 0).val (j 1).val (j 2).val| : ℝ) : EReal) := by
  have e : j = ix3 (j 0) (j 1) (j 2) := by
    funext a
    fin_cases a <;> rfl
  have h3 : x j = ((f (j 0).val (j 1).val (j 2).val : ℝ) : EReal) := (congrArg x e).trans (h (j 0) (j 1) (j 2))
  show FloatOps.absf (x j) = _
  rw [h3]
  exact absf_coe _

theorem h35_at {x : FVec Ideal S16x1024x1280 .f32} (f : ℕ → ℕ → ℕ → ℝ) (h : ∀ (n : Fin 16) (r : Fin 1024) (c : Fin 1280), x (ix3 n r c) = ((f n r c : ℝ) : EReal)) {m : ℝ}
    (h1 : ∀ n r c, n < 16 → r < 1024 → c < 1280 → |f n r c| ≤ m) (h2 : ∃ n r c, n < 16 ∧ r < 1024 ∧ c < 1280 ∧ |f n r c| = m) (i : S_.Idx) :
    h35 x i = ((m * c448 : ℝ) : EReal) := by
  have ha := absf_at f h
  unfold h35
  generalize Host.absf x = y at ha
  have hr := reduce_max_all y (constant (F := Ideal) S_ .f32 0xFF800000#32) reducesTo_S16x1024x1280_S_d0_1_2 rfl h_S_ i ((m : ℝ) : EReal) (fun _ => ofBits_ninf)
    (fun j => by rw [ha j]; exact EReal.coe_le_coe_iff.2 (h1 _ _ _ (j 0).isLt (j 1).isLt (j 2).isLt))
    (by
      obtain ⟨n, r, c, hn, hr, hc, e⟩ := h2
      exact ⟨ix3 ⟨n, hn⟩ ⟨r, hr⟩ ⟨c, hc⟩, by rw [ha]; exact EReal.coe_eq_coe_iff.2 e⟩)
  refine (mul_at _ _ i).trans ?_
  rw [hr]
  show ((m : ℝ) : EReal) * Ideal.ofBits .f32 991054117#32 = _
  rw [ofBits_448, ← EReal.coe_mul]

end Cert.ReferenceIdeal.Hand
-- ==== Proof.RI.H4.lean ====
/-
  The reference's scale.
-/
module

public import proofs.«01_k».proof.Proof.RI.H1
public import proofs.«01_k».proof.Proof.KI.M6

@[expose] public section

set_option maxRecDepth 65536

noncomputable section

namespace Cert.ReferenceIdeal.Hand

open Cert.ReferenceIdeal Cert.ReferenceIdeal.Gen
open Idealize.ShloMosaic Idealize.ShloMosaic.TcCoe
open Finset
open Cert.KernelIdeal.Hand (mu va va_nonneg rsr sil logistic_coe sil_coe absf_coe fold_max_coe fold_min_coe ofBits_ninf ofBits_pinf epsR eps_pos ofBits_eps rsqrt_coe c448 ofBits_448 pw pw_pos pw_mono ofBits_exp IsT scl scl_pos vV yY vV_eq coe_sum IsMx mx_lt mx_nonneg)

theorem h41_at {p : FVec Ideal S254 .f32} (hp : ∀ e : Fin 254, p (ix1 e) = ((pw (e.val + 1) : ℝ) : EReal)) {a : ℝ} {T : ℕ} (h0 : 0 ≤ a) (hT : IsT a T) {x : FVec Ideal S_ .f32} (hx : ∀ i, x i = ((a : ℝ) : EReal)) (i : S_.Idx) :
    h41 p x i = ((scl T : ℝ) : EReal) := by
  have hone := hT.one
  have hle := hT.le
  have h1 : Ideal.ofBits .f32 8388608#32 = ((pw 1 : ℝ) : EReal) := ofBits_exp 1 (by norm_num) (by norm_num)
  pointwise [h41]
  rw [hx, h1]
  by_cases hT1 : T = 1
  · have h2 := hT.lt
    rw [hT1] at h2
    rw [if_pos (EReal.coe_lt_coe_iff.2 h2), scl, if_pos hT1]
    rfl
  · have h2 := hT.min 1 le_rfl (by omega)
    rw [if_neg (not_lt.2 (EReal.coe_le_coe_iff.2 h2)), scl, if_neg hT1, ofBits_pinf]
    refine le_antisymm ?_ ?_
    · refine (Finset.fold_min_le _).2 (Or.inr ⟨⟨T - 1, by omega⟩, Finset.mem_univ _, ?_⟩)
      rw [hx, hp]
      show (if _ < ((pw (T - 1 + 1) : ℝ) : EReal) then ((pw (T - 1 + 1) : ℝ) : EReal) else _) ≤ _
      rw [show T - 1 + 1 = T by omega, if_pos (EReal.coe_lt_coe_iff.2 hT.lt)]
    · refine (Finset.le_fold_min _).2 ⟨le_top, fun k _ => ?_⟩
      rw [hx, hp]
      split
      · rename_i h3
        have h4 := EReal.coe_lt_coe_iff.1 h3
        refine EReal.coe_le_coe_iff.2 (pw_mono ?_)
        by_contra hc
        exact absurd h4 (not_lt.2 (hT.min _ (by omega) (by omega)))
      · exact le_top
theorem h45_at {x : FVec Ideal S16x1024x1280 .f32} {s : FVec Ideal S_ .f32} {y z : ℝ} {n : Fin 16} {r : Fin 1024} {c : Fin 1280} (h : x (ix3 n r c) = ((y : ℝ) : EReal)) (hs : ∀ i, s i = ((z : ℝ) : EReal)) (hz : 0 < z) :
    h45 x s (ix3 n r c) = ((y * z⁻¹ : ℝ) : EReal) := by
  pointwise [h45]
  rw [h, hs, Ideal.div, if_neg (by exact_mod_cast hz.ne'), one_mul, ← EReal.coe_inv, ← EReal.coe_mul]

end Cert.ReferenceIdeal.Hand
-- ==== Proof.RI.H5.lean ====
/-
  The table of powers of two.
-/
module

public import proofs.«01_k».proof.Proof.RI.H1
public import proofs.«01_k».proof.Proof.KI.M6

@[expose] public section

set_option maxRecDepth 65536

noncomputable section

namespace Cert.ReferenceIdeal.Hand

open Cert.ReferenceIdeal Cert.ReferenceIdeal.Gen
open Idealize.ShloMosaic Idealize.ShloMosaic.TcCoe
open Finset
open Cert.KernelIdeal.Hand (mu va va_nonneg rsr sil logistic_coe sil_coe absf_coe fold_max_coe fold_min_coe ofBits_ninf ofBits_pinf epsR eps_pos ofBits_eps rsqrt_coe c448 ofBits_448 pw pw_pos pw_mono ofBits_exp IsT scl scl_pos vV yY vV_eq coe_sum IsMx mx_lt mx_nonneg)

theorem lit_eq : ∀ e : Fin 254, lit0 e = BitVec.ofNat 32 (e.val + 1) <<< 23 := by decide +kernel
theorem hpw_at (e : Fin 254) : hpw (F := Ideal) (ix1 e) = ((pw (e.val + 1) : ℝ) : EReal) := by
  have hr : S254.rowMajor (ix1 e) = e := by
    exact Fin.ext (Shape.rowMajor_val_one _)
  show Ideal.ofBits .f32 (lit0 (S254.rowMajor (ix1 e))) = _
  rw [hr, lit_eq]
  exact ofBits_exp _ (by omega) (Nat.succ_le_of_lt e.isLt)

end Cert.ReferenceIdeal.Hand
-- ==== Proof.RI.H6.lean ====
/-
  The reference's results, as real numbers.
-/
module

public import proofs.«01_k».proof.Proof.RI.H2
public import proofs.«01_k».proof.Proof.RI.H3
public import proofs.«01_k».proof.Proof.RI.H4
public import proofs.«01_k».proof.Proof.RI.H5

@[expose] public section

set_option maxRecDepth 65536

noncomputable section

namespace Cert.ReferenceIdeal.Hand

open Cert.ReferenceIdeal Cert.ReferenceIdeal.Gen
open Idealize.ShloMosaic Idealize.ShloMosaic.TcCoe
open Finset
open Cert.KernelIdeal.Hand (mu va va_nonneg rsr sil logistic_coe sil_coe absf_coe fold_max_coe fold_min_coe ofBits_ninf ofBits_pinf epsR eps_pos ofBits_eps rsqrt_coe c448 ofBits_448 pw pw_pos pw_mono ofBits_exp IsT scl scl_pos vV yY vV_eq coe_sum IsMx mx_lt mx_nonneg)

variable {X : ℕ → ℕ → ℕ → ℝ} {γ β : ℕ → ℝ} {a0 : FVec Ideal S16x1024x768 .bf16} {a1 : FVec Ideal S16x1024x512 .bf16} {a2 a3 : FVec Ideal S1280 .f32}

/-- The gated values. -/
theorem hy_at (h0 : ∀ (n : Fin 16) (r : Fin 1024) (c : Fin 768), a0 (ix3 n r c) = ((X n r c : ℝ) : EReal)) (h1 : ∀ (n : Fin 16) (r : Fin 1024) (c : Fin 512), a1 (ix3 n r c) = ((X n r (768 + c) : ℝ) : EReal))
    (hg : ∀ c : Fin 1280, a2 (ix1 c) = ((γ c : ℝ) : EReal)) (hb : ∀ c : Fin 1280, a3 (ix1 c) = ((β c : ℝ) : EReal)) (n : Fin 16) (r : Fin 1024) (c : Fin 1280) :
    hy a0 a1 a2 a3 (ix3 n r c) = ((yY X γ β n r c : ℝ) : EReal) := by
  have h := h32_at (fun n r c => (X n r c - mu X n (c / 40)) * rsr X n (c / 40) * γ c + β c) (h25_at (fun n r c => (X n r c - mu X n (c / 40)) * rsr X n (c / 40)) (h18_at (h8_at (h2_at h0 h1))) hg hb) n r c
  unfold hy
  refine h.trans ?_
  unfold yY
  rw [vV_eq]

/-- The reference's scale. -/
theorem scale_at {m : ℝ} {T : ℕ} (hm : IsMx X γ β m) (hT : IsT (m * c448) T) {y : FVec Ideal S16x1024x1280 .f32} (h : ∀ (n : Fin 16) (r : Fin 1024) (c : Fin 1280), y (ix3 n r c) = ((yY X γ β n r c : ℝ) : EReal)) (i : S_.Idx) :
    h41 hpw (h35 y) i = ((scl T : ℝ) : EReal) :=
  h41_at hpw_at (mul_nonneg (mx_nonneg hm) (by unfold c448; norm_num)) hT (fun i => h35_at (yY X γ β) h hm.le hm.at' i) i

end Cert.ReferenceIdeal.Hand
-- ==== Proof.Br.Same.lean ====
/-
  The two programs' results are one function of the arguments.
-/
module

public import proofs.«01_k».proof.Defs
public import proofs.«01_k».proof.Proof.KI.XFrame
public import proofs.«01_k».proof.Proof.KI.M7
public import proofs.«01_k».proof.Proof.RI.H6

@[expose] public section

set_option maxRecDepth 65536

noncomputable section

namespace Cert.Bridge

open Idealize.ShloMosaic Idealize.ShloMosaic.TcCoe Idealize.SL.Sem
open Cert.KernelIdeal.Hand (Holds at3 yY IsMx IsT exists_T c448 scl scl_pos mx_lt mx_nonneg ry_at rG_at rScale_at codeG rG rScale)

/-- The side conditions of the precondition. -/
theorem preFacts : Cert.Pre_tame.Facts := ⟨by decide, by decide, by decide⟩

/-- A number whose magnitude is below infinity is a real number. -/
theorem real_of_lt {x : EReal} (h : max x (-x) < ⊤) : x = ((x.toReal : ℝ) : EReal) := by
  refine (EReal.coe_toReal ?_ ?_).symm
  · rintro rfl
    simp at h
  · rintro rfl
    simp at h
/-- A number whose magnitude is at most a real number is a real number as small. -/
theorem real_of_le {x : EReal} {b : ℝ} (h : max x (-x) ≤ (b : EReal)) : x = ((x.toReal : ℝ) : EReal) ∧ |x.toReal| ≤ b := by
  have hx := real_of_lt (lt_of_le_of_lt h (EReal.coe_lt_top b))
  refine ⟨hx, ?_⟩
  rw [hx, Cert.KernelIdeal.Hand.abs_coe] at h
  exact EReal.coe_le_coe_iff.1 h

theorem ofBits_inf16 : Ideal.ofBits .bf16 0x7F80#16 = ⊤ := by
  simp [Ideal.ofBits, Ideal.ieee]
theorem ofBits_127 : Ideal.ofBits .f32 0x7F000000#32 = ((2 ^ 127 : ℝ) : EReal) := by
  have h := Cert.KernelIdeal.Hand.ofBits_exp 254 (by norm_num) (by norm_num)
  have e : (BitVec.ofNat 32 254 <<< 23 : BitVec 32) = 0x7F000000#32 := by decide
  rw [e] at h
  rw [h]
  congr 1

theorem cmp_lt {x y : EReal} (h : Ideal.cmp .olt x y = 1#1) : x < y := by
  by_contra hc
  simp [Ideal.cmp, hc] at h
theorem cmp_le {x y : EReal} (h : Ideal.cmp .ole x y = 1#1) : x ≤ y := by
  by_contra hc
  simp [Ideal.cmp, hc] at h

section
variable (a0 : KernelIdeal.S16x1024x768.Idx → EReal) (a1 : KernelIdeal.S16x1024x512.Idx → EReal)
/-- The joined inputs as real numbers. -/
def inX (n r c : ℕ) : ℝ := if c < 768 then (at3 16 1024 768 a0 n r c).toReal else (at3 16 1024 512 a1 n r (c - 768)).toReal
end

theorem at3_ix {d0 d1 d2 : ℕ} [NeZero d0] [NeZero d1] [NeZero d2] (x : (⟨3, ![d0, d1, d2]⟩ : Shape).Idx → EReal) (n : Fin d0) (r : Fin d1) (c : Fin d2) : at3 d0 d1 d2 x n r c = x (ix3 n r c) := by
  unfold at3
  congr 1
  funext a
  match a with
  | 0 => exact Fin.ext (Nat.mod_eq_of_lt n.isLt)
  | 1 => exact Fin.ext (Nat.mod_eq_of_lt r.isLt)
  | 2 => exact Fin.ext (Nat.mod_eq_of_lt c.isLt)

section
variable {a0 : FVec Ideal KernelIdeal.S16x1024x768 .bf16} {a1 : FVec Ideal KernelIdeal.S16x1024x512 .bf16} {a2 a3 : FVec Ideal KernelIdeal.S1280 .f32}

theorem holds_in (h0 : ∀ i, a0 i = (((a0 i : EReal).toReal : ℝ) : EReal)) (h1 : ∀ i, a1 i = (((a1 i : EReal).toReal : ℝ) : EReal)) : Holds a0 a1 (inX a0 a1) where
  up n r c hn hr hc := by
    unfold inX
    rw [if_pos hc]
    exact h0 _
  sk n r c hn hr hc := by
    unfold inX
    rw [if_neg (by omega), show 768 + c - 768 = c by omega]
    exact h1 _

/-- The two programs' codes and scales agree. -/
theorem same (h0 : ∀ i, a0 i = (((a0 i : EReal).toReal : ℝ) : EReal)) (h1 : ∀ i, a1 i = (((a1 i : EReal).toReal : ℝ) : EReal))
    (h2 : ∀ i, a2 i = (((a2 i : EReal).toReal : ℝ) : EReal) ∧ |(a2 i : EReal).toReal| ≤ 2 ^ 127) (h3 : ∀ i, a3 i = (((a3 i : EReal).toReal : ℝ) : EReal) ∧ |(a3 i : EReal).toReal| ≤ 2 ^ 127) :
    ∃ s : EReal, rScale (F := Ideal) a0 a1 a2 a3 = s
      ∧ (∀ i, ReferenceIdeal.Hand.h41 ReferenceIdeal.Hand.hpw (ReferenceIdeal.Hand.h35 (ReferenceIdeal.Hand.hy a0 a1 a2 a3)) i = s)
      ∧ ∀ (n : Fin 16) (r : Fin 1024) (c : Fin 1280), min (Ideal.ofBits .f32 1138753536#32) (max (Ideal.ofBits .f32 3286237184#32)
          (ReferenceIdeal.Hand.h45 (ReferenceIdeal.Hand.hy a0 a1 a2 a3) (ReferenceIdeal.Hand.h41 ReferenceIdeal.Hand.hpw (ReferenceIdeal.Hand.h35 (ReferenceIdeal.Hand.hy a0 a1 a2 a3))) (ix3 n r c)))
        = (codeG (F := Ideal) (rG (F := Ideal) a0 a1 a2 a3) (ix3 n r c) : EReal) := by
  have H := holds_in h0 h1
  let γ : ℕ → ℝ := fun c => if h : c < 1280 then (a2 (ix1 (⟨c, h⟩ : Fin 1280)) : EReal).toReal else 0
  let β : ℕ → ℝ := fun c => if h : c < 1280 then (a3 (ix1 (⟨c, h⟩ : Fin 1280)) : EReal).toReal else 0
  have hg : ∀ c : Fin 1280, a2 (ix1 c) = ((γ c : ℝ) : EReal) := fun c => by
    show _ = ((dite _ _ _ : ℝ) : EReal)
    rw [dif_pos c.isLt]
    exact (h2 _).1
  have hb : ∀ c : Fin 1280, a3 (ix1 c) = ((β c : ℝ) : EReal) := fun c => by
    show _ = ((dite _ _ _ : ℝ) : EReal)
    rw [dif_pos c.isLt]
    exact (h3 _).1
  have hgl : ∀ c < 1280, |γ c| ≤ 2 ^ 127 := fun c hc => by
    show |(dite _ _ _ : ℝ)| ≤ _
    rw [dif_pos hc]
    exact (h2 _).2
  have hbl : ∀ c < 1280, |β c| ≤ 2 ^ 127 := fun c hc => by
    show |(dite _ _ _ : ℝ)| ≤ _
    rw [dif_pos hc]
    exact (h3 _).2
  generalize γ = γ at hg hgl
  generalize β = β at hb hbl
  have e0 : ∀ (n : Fin 16) (r : Fin 1024) (c : Fin 768), a0 (ix3 n r c) = ((inX a0 a1 n r c : ℝ) : EReal) := fun n r c =>
    (at3_ix a0 n r c).symm.trans (H.up n r c n.isLt r.isLt c.isLt)
  have e1 : ∀ (n : Fin 16) (r : Fin 1024) (c : Fin 512), a1 (ix3 n r c) = ((inX a0 a1 n r (768 + c) : ℝ) : EReal) := fun n r c =>
    (at3_ix a1 n r c).symm.trans (H.sk n r c n.isLt r.isLt c.isLt)
  generalize inX a0 a1 = X at H e0 e1
  obtain ⟨m, hy, hm⟩ := ry_at H hg hb
  obtain ⟨T, hT⟩ := exists_T _ (mx_lt hgl hbl hm)
  have hyr := ReferenceIdeal.Hand.hy_at e0 e1 hg hb
  have hs := ReferenceIdeal.Hand.scale_at hm hT hyr
  refine ⟨((scl T : ℝ) : EReal), rScale_at (mx_nonneg hm) hT hy, hs, fun n r c => ?_⟩
  rw [rG_at H hg hb (mx_nonneg hm) hT hy n r c, ReferenceIdeal.Hand.h45_at (hyr n r c) hs (scl_pos T)]
end

end Cert.Bridge
-- ==== Proof.RI.H7.lean ====
/-
  The reference's codes at the end of its run.
-/
module

public import proofs.«01_k».proof.Proof.RI.H1
public import proofs.«01_k».proof.Proof.KI.M6

@[expose] public section

set_option maxRecDepth 65536

noncomputable section

namespace Cert.ReferenceIdeal.Hand

open Cert.ReferenceIdeal Cert.ReferenceIdeal.Gen
open Idealize.ShloMosaic Idealize.ShloMosaic.TcCoe
open Finset
open Cert.KernelIdeal.Hand (mu va va_nonneg rsr sil logistic_coe sil_coe absf_coe fold_max_coe fold_min_coe ofBits_ninf ofBits_pinf epsR eps_pos ofBits_eps rsqrt_coe c448 ofBits_448 pw pw_pos pw_mono ofBits_exp IsT scl scl_pos vV yY vV_eq coe_sum IsMx mx_lt mx_nonneg)

/-- A block written back, at a position. -/
theorem out_at (P : Vec Ideal S16x1024x1280 .f32) (i : S16x1024x1280.Idx) : out0_1 P i = min (Ideal.ofBits .f32 1138753536#32) (max (Ideal.ofBits .f32 3286237184#32) (P i)) := by
  have hj : r0_0.idx (Value.ix1_0 i) = i := by
    funext a
    match a with
    | 0 => exact Fin.ext (by show 0 + 1 * (i 0).val = (i 0).val; omega)
    | 1 => exact Fin.ext (by show 0 + 1 * (i 1).val = (i 1).val; omega)
    | 2 => exact Fin.ext (by show 0 + 1 * (i 2).val = (i 2).val; omega)
  refine (Value.canon1_eq (View.ld P r0_0) i).trans ?_
  have hk : View.ld P r0_0 (Value.ix1_0 i) = P i := congrArg P hj
  generalize View.ld P r0_0 = Q at hk
  show min (Ideal.ofBits .f32 1138753536#32) (max (Ideal.ofBits .f32 3286237184#32) (Q (Value.ix1_0 i))) = _
  rw [hk]
theorem read_at (W : S16x1024x1280.Idx → Elt Ideal .f32) (i : S16x1024x1280.Idx) : ((cfg0.win 0).blk (0 : Fin 1)).view.read (Elt Ideal) W i = W i := by
  have hi0 : ((cfg0.win 0).blk (0 : Fin 1)).view.emb i = i := by
    funext a
    match a with
    | 0 => exact Fin.ext (by show 0 + 1 * (i 0).val = (i 0).val; omega)
    | 1 => exact Fin.ext (by show 0 + 1 * (i 1).val = (i 1).val; omega)
    | 2 => exact Fin.ext (by show 0 + 1 * (i 2).val = (i 2).val; omega)
  exact congrArg W hi0
variable (m : (ℓ : Loc nD τ sig) → Buf (Elt Ideal) ℓ)
theorem iblk_at (c : Dev nD) (i : S16x1024x1280.Idx) : iblk m c 0 (0 : Fin 1) i = V m c main_v45 i := by
  unfold iblk
  exact read_at (V m c main_v45) i
/-- The codes at the end of the reference's run. -/
theorem arr1 (c : Dev nD) (i : S16x1024x1280.Idx) : (dats m 0 c).arrAt 1 cfg0.N i = min (Ideal.ofBits .f32 1138753536#32) (max (Ideal.ofBits .f32 3286237184#32) (V m c main_v45 i)) := by
  have h := Value.blocks1 m c (0 : Fin 1) (by decide +kernel)
  have hi : ((cfg0.win 1).blk (0 : Fin 1)).view.emb i = i := by
    funext a
    match a with
    | 0 => exact Fin.ext (by show 0 + 1 * (i 0).val = (i 0).val; omega)
    | 1 => exact Fin.ext (by show 0 + 1 * (i 1).val = (i 1).val; omega)
    | 2 => exact Fin.ext (by show 0 + 1 * (i 2).val = (i 2).val; omega)
  have h2 := congrFun (h.trans (Value.flushed1 m c (0 : Fin 1))) i
  have h3 : (dats m 0 c).arrAt 1 cfg0.N (((cfg0.win 1).blk (0 : Fin 1)).view.emb i) = out0_1 (iblk m c 0 (0 : Fin 1)) i := h2
  rw [hi] at h3
  rw [h3, out_at, iblk_at]

end Cert.ReferenceIdeal.Hand
-- ==== Proof.Br.Alg.lean ====
/-
  The kernel and the reference, at exact arithmetic, end with the same results.
-/
module

public import proofs.«01_k».proof.Proof.Br.Same
public import proofs.«01_k».proof.Proof.RI.H7

@[expose] public section

set_option maxRecDepth 65536

noncomputable section

namespace Cert.Bridge

open Idealize.ShloMosaic Idealize.ShloMosaic.TcCoe Idealize.SL.Sem

section
variable {a0 : FVec Ideal KernelIdeal.S16x1024x768 .bf16} {a1 : FVec Ideal KernelIdeal.S16x1024x512 .bf16} {a2 a3 : FVec Ideal KernelIdeal.S1280 .f32}

/-- What the precondition says of the arguments. -/
theorem pre0 (h : (@Cert.Pre_tame.fn preFacts Ideal _ a0 a1 a2 a3).1 = fun _ => 1#1) (i : KernelIdeal.S16x1024x768.Idx) : a0 i = (((a0 i : EReal).toReal : ℝ) : EReal) := by
  have e : Ideal.cmp .olt (max (a0 i : EReal) (-(a0 i : EReal))) (Ideal.ofBits .bf16 0x7F80#16) = 1#1 := congrFun h i
  rw [ofBits_inf16] at e
  exact real_of_lt (cmp_lt e)
theorem pre1 (h : (@Cert.Pre_tame.fn preFacts Ideal _ a0 a1 a2 a3).2.1 = fun _ => 1#1) (i : KernelIdeal.S16x1024x512.Idx) : a1 i = (((a1 i : EReal).toReal : ℝ) : EReal) := by
  have e : Ideal.cmp .olt (max (a1 i : EReal) (-(a1 i : EReal))) (Ideal.ofBits .bf16 0x7F80#16) = 1#1 := congrFun h i
  rw [ofBits_inf16] at e
  exact real_of_lt (cmp_lt e)
theorem pre2 (h : (@Cert.Pre_tame.fn preFacts Ideal _ a0 a1 a2 a3).2.2.1 = fun _ => 1#1) (i : KernelIdeal.S1280.Idx) : a2 i = (((a2 i : EReal).toReal : ℝ) : EReal) ∧ |(a2 i : EReal).toReal| ≤ 2 ^ 127 := by
  have e : Ideal.cmp .ole (max (a2 i : EReal) (-(a2 i : EReal))) (Ideal.ofBits .f32 0x7F000000#32) = 1#1 := congrFun h i
  rw [ofBits_127] at e
  exact real_of_le (cmp_le e)
theorem pre3 (h : (@Cert.Pre_tame.fn preFacts Ideal _ a0 a1 a2 a3).2.2.2 = fun _ => 1#1) (i : KernelIdeal.S1280.Idx) : a3 i = (((a3 i : EReal).toReal : ℝ) : EReal) ∧ |(a3 i : EReal).toReal| ≤ 2 ^ 127 := by
  have e : Ideal.cmp .ole (max (a3 i : EReal) (-(a3 i : EReal))) (Ideal.ofBits .f32 0x7F000000#32) = 1#1 := congrFun h i
  rw [ofBits_127] at e
  exact real_of_le (cmp_le e)
end

theorem codesV_eq (m : (ℓ : Loc KernelIdeal.nD KernelIdeal.τ KernelIdeal.sig) → Buf (Elt Ideal) ℓ) (c : Dev KernelIdeal.nD) :
    KernelIdeal.Hand.codesV m c = KernelIdeal.Hand.codeG (KernelIdeal.Hand.rG (m ((c.tc : Thread KernelIdeal.nD KernelIdeal.τ).loc KernelIdeal.main_arg0)) (m ((c.tc : Thread KernelIdeal.nD KernelIdeal.τ).loc KernelIdeal.main_arg1))
      (m ((c.tc : Thread KernelIdeal.nD KernelIdeal.τ).loc KernelIdeal.main_arg2)) (m ((c.tc : Thread KernelIdeal.nD KernelIdeal.τ).loc KernelIdeal.main_arg3))) := by
  unfold KernelIdeal.Hand.codesV
  rw [KernelIdeal.Hand.gaV_eq, KernelIdeal.Hand.beV_eq]
theorem scaleV_eq (m : (ℓ : Loc KernelIdeal.nD KernelIdeal.τ KernelIdeal.sig) → Buf (Elt Ideal) ℓ) (c : Dev KernelIdeal.nD) :
    KernelIdeal.Hand.scaleV m c = KernelIdeal.Hand.rScale (m ((c.tc : Thread KernelIdeal.nD KernelIdeal.τ).loc KernelIdeal.main_arg0)) (m ((c.tc : Thread KernelIdeal.nD KernelIdeal.τ).loc KernelIdeal.main_arg1))
      (m ((c.tc : Thread KernelIdeal.nD KernelIdeal.τ).loc KernelIdeal.main_arg2)) (m ((c.tc : Thread KernelIdeal.nD KernelIdeal.τ).loc KernelIdeal.main_arg3)) := by
  unfold KernelIdeal.Hand.scaleV
  rw [KernelIdeal.Hand.gaV_eq, KernelIdeal.Hand.beV_eq]

theorem ix_eta (i : ReferenceIdeal.S16x1024x1280.Idx) : i = ix3 (i 0) (i 1) (i 2) := by
  funext a
  fin_cases a <;> rfl
theorem cast_const (w : FVec Ideal ReferenceIdeal.S_ .f32) (s : EReal) (h : ∀ i, w i = s) (i : ReferenceIdeal.S1x1.Idx) (hc) : shapeCast ReferenceIdeal.S1x1 w hc i = s := h _

theorem algebraic : algebraic_KernelIdeal_ReferenceIdeal_pre_tame (hKernelIdeal := KernelIdeal.Gen.facts) (hReferenceIdeal := ReferenceIdeal.Gen.facts) (hPre_tame := preFacts) := by
  intro m g m' g' hp ha
  refine ⟨fun c => KernelIdeal.Hand.codesV m c, fun c => fun _ => KernelIdeal.Hand.scaleV m c, ?_, ?_⟩
  · exact (θ_run _ _ _).mono (fun _ h => h.1) (KernelIdeal.Hand.run_values m g)
  · refine (θ_run _ _ _).mono (fun r h c => ?_) (ReferenceIdeal.Gen.run_main m' g')
    obtain ⟨e0, e1, e2, e3⟩ := ha c
    obtain ⟨p0, p1, p2, p3⟩ := hp c
    obtain ⟨s, s1, s2, s3⟩ := same (pre0 p0) (pre1 p1) (pre2 p2) (pre3 p3)
    have k1 := codesV_eq m c
    have k2 := scaleV_eq m c
    have k3 := ReferenceIdeal.Hand.V42 m' c
    have k4 := ReferenceIdeal.Hand.V45 m' c
    rw [e0, e1, e2, e3] at k3 k4
    refine ⟨?_, ?_, ReferenceIdeal.Value.kept_main_arg0 m' r h c, ReferenceIdeal.Value.kept_main_arg1 m' r h c, ReferenceIdeal.Value.kept_main_arg2 m' r h c, ReferenceIdeal.Value.kept_main_arg3 m' r h c⟩
    · refine (ReferenceIdeal.Value.post1 m' r h c).trans ?_
      funext i
      refine (ReferenceIdeal.Hand.arr1 m' c i).trans ?_
      rw [k4]
      refine Eq.trans ?_ (congrFun k1 i).symm
      rw [ix_eta i]
      exact s3 _ _ _
    · refine ((h c).2 ReferenceIdeal.main_v42 (Pipeline.mem_restRefs_of ReferenceIdeal.main_v42 (by decide) (by decide))).trans ?_
      refine k3.trans ?_
      funext i
      refine (cast_const _ s s2 i _).trans ?_
      exact (k2.trans s1).symm

end Cert.Bridge
-- ==== Proof.lean ====
/-
  The proof of the certificate's claim: the frames of the two kernels from the hand proofs of their bodies' runs, the
  reference's from its generated module, the named constant's statement, and the agreement of the two programs' results
  at exact arithmetic.
-/
module

public import proofs.«01_k».proof.Proof.Gen.ReferenceIdeal.Value
public import proofs.«01_k».proof.Defs
public import proofs.«01_k».proof.Proof.K.Frame
public import proofs.«01_k».proof.Proof.Br.Alg
public import proofs.«01_k».proof.Proof.Gen.ReferenceIdeal.Frame

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Bridge.preFacts,
  fun m g _ => Cert.Kernel.Hand.frame m g,
  fun m g _ => Cert.KernelIdeal.Hand.frame m g,
  fun m g _ => Cert.KernelIdeal.Hand.frame m g,
  fun m g _ => Cert.ReferenceIdeal.Gen.frame m g,
  fun m g _ => Cert.ReferenceIdeal.Gen.frame m g,
  IdealRules.named_const.statement Cert.KernelIdeal.κ "inv_n" .f32 0x37CCCCCD#32 ((1 / 40960 : ℝ) : EReal) rfl,
  Cert.Bridge.algebraic⟩

end Cert.Proof

end
